-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutKernelIdeal_finite [hPre_finite : Cert.Pre_finite.Facts] (m : (ℓ : Loc Cert.OutKernelIdeal.nD Cert.OutKernelIdeal.τ Cert.OutKernelIdeal.sig) → Buf (Elt Ideal) ℓ) : Prop :=
  ∀ c : Dev Cert.OutKernelIdeal.nD,
    (Cert.Pre_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6))).1 = (fun _ => 1#1)
    ∧ (Cert.Pre_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6))).2.1 = (fun _ => 1#1)
    ∧ (Cert.Pre_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6))).2.2.1 = (fun _ => 1#1)
    ∧ (Cert.Pre_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6))).2.2.2.1 = (fun _ => 1#1)
    ∧ (Cert.Pre_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6))).2.2.2.2.1 = (fun _ => 1#1)
    ∧ (Cert.Pre_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6))).2.2.2.2.2 = (fun _ => 1#1)

def Pre_OutReferenceIdeal (m : (ℓ : Loc Cert.OutReferenceIdeal.nD Cert.OutReferenceIdeal.τ Cert.OutReferenceIdeal.sig) → Buf (Elt Ideal) ℓ) : Prop :=
  True

def Pre_OutReferenceIdeal_finite [hPre_finite : Cert.Pre_finite.Facts] (m : (ℓ : Loc Cert.OutReferenceIdeal.nD Cert.OutReferenceIdeal.τ Cert.OutReferenceIdeal.sig) → Buf (Elt Ideal) ℓ) : Prop :=
  ∀ c : Dev Cert.OutReferenceIdeal.nD,
    (Cert.Pre_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6))).1 = (fun _ => 1#1)
    ∧ (Cert.Pre_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6))).2.1 = (fun _ => 1#1)
    ∧ (Cert.Pre_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6))).2.2.1 = (fun _ => 1#1)
    ∧ (Cert.Pre_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6))).2.2.2.1 = (fun _ => 1#1)
    ∧ (Cert.Pre_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6))).2.2.2.2.1 = (fun _ => 1#1)
    ∧ (Cert.Pre_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6))).2.2.2.2.2 = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluKernelIdeal_finite_glu [hPre_finite_glu : Cert.Pre_finite_glu.Facts] (m : (ℓ : Loc Cert.GluKernelIdeal.nD Cert.GluKernelIdeal.τ Cert.GluKernelIdeal.sig) → Buf (Elt Ideal) ℓ) : Prop :=
  ∀ c : Dev Cert.GluKernelIdeal.nD,
    (Cert.Pre_finite_glu.fn (F := Ideal) (m ((c.tc : Thread Cert.GluKernelIdeal.nD Cert.GluKernelIdeal.τ).loc Cert.GluKernelIdeal.main_arg0)) (m ((c.tc : Thread Cert.GluKernelIdeal.nD Cert.GluKernelIdeal.τ).loc Cert.GluKernelIdeal.main_arg1)) (m ((c.tc : Thread Cert.GluKernelIdeal.nD Cert.GluKernelIdeal.τ).loc Cert.GluKernelIdeal.main_arg2)) (m ((c.tc : Thread Cert.GluKernelIdeal.nD Cert.GluKernelIdeal.τ).loc Cert.GluKernelIdeal.main_arg3)) (m ((c.tc : Thread Cert.GluKernelIdeal.nD Cert.GluKernelIdeal.τ).loc Cert.GluKernelIdeal.main_arg4))).1 = (fun _ => 1#1)
    ∧ (Cert.Pre_finite_glu.fn (F := Ideal) (m ((c.tc : Thread Cert.GluKernelIdeal.nD Cert.GluKernelIdeal.τ).loc Cert.GluKernelIdeal.main_arg0)) (m ((c.tc : Thread Cert.GluKernelIdeal.nD Cert.GluKernelIdeal.τ).loc Cert.GluKernelIdeal.main_arg1)) (m ((c.tc : Thread Cert.GluKernelIdeal.nD Cert.GluKernelIdeal.τ).loc Cert.GluKernelIdeal.main_arg2)) (m ((c.tc : Thread Cert.GluKernelIdeal.nD Cert.GluKernelIdeal.τ).loc Cert.GluKernelIdeal.main_arg3)) (m ((c.tc : Thread Cert.GluKernelIdeal.nD Cert.GluKernelIdeal.τ).loc Cert.GluKernelIdeal.main_arg4))).2 = (fun _ => 1#1)

def Pre_GluReferenceIdeal (m : (ℓ : Loc Cert.GluReferenceIdeal.nD Cert.GluReferenceIdeal.τ Cert.GluReferenceIdeal.sig) → Buf (Elt Ideal) ℓ) : Prop :=
  True

def Pre_GluReferenceIdeal_finite_glu [hPre_finite_glu : Cert.Pre_finite_glu.Facts] (m : (ℓ : Loc Cert.GluReferenceIdeal.nD Cert.GluReferenceIdeal.τ Cert.GluReferenceIdeal.sig) → Buf (Elt Ideal) ℓ) : Prop :=
  ∀ c : Dev Cert.GluReferenceIdeal.nD,
    (Cert.Pre_finite_glu.fn (F := Ideal) (m ((c.tc : Thread Cert.GluReferenceIdeal.nD Cert.GluReferenceIdeal.τ).loc Cert.GluReferenceIdeal.main_arg0)) (m ((c.tc : Thread Cert.GluReferenceIdeal.nD Cert.GluReferenceIdeal.τ).loc Cert.GluReferenceIdeal.main_arg1)) (m ((c.tc : Thread Cert.GluReferenceIdeal.nD Cert.GluReferenceIdeal.τ).loc Cert.GluReferenceIdeal.main_arg2)) (m ((c.tc : Thread Cert.GluReferenceIdeal.nD Cert.GluReferenceIdeal.τ).loc Cert.GluReferenceIdeal.main_arg3)) (m ((c.tc : Thread Cert.GluReferenceIdeal.nD Cert.GluReferenceIdeal.τ).loc Cert.GluReferenceIdeal.main_arg4))).1 = (fun _ => 1#1)
    ∧ (Cert.Pre_finite_glu.fn (F := Ideal) (m ((c.tc : Thread Cert.GluReferenceIdeal.nD Cert.GluReferenceIdeal.τ).loc Cert.GluReferenceIdeal.main_arg0)) (m ((c.tc : Thread Cert.GluReferenceIdeal.nD Cert.GluReferenceIdeal.τ).loc Cert.GluReferenceIdeal.main_arg1)) (m ((c.tc : Thread Cert.GluReferenceIdeal.nD Cert.GluReferenceIdeal.τ).loc Cert.GluReferenceIdeal.main_arg2)) (m ((c.tc : Thread Cert.GluReferenceIdeal.nD Cert.GluReferenceIdeal.τ).loc Cert.GluReferenceIdeal.main_arg3)) (m ((c.tc : Thread Cert.GluReferenceIdeal.nD Cert.GluReferenceIdeal.τ).loc Cert.GluReferenceIdeal.main_arg4))).2 = (fun _ => 1#1)

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_CtxKernel (m : (ℓ : Loc Cert.CtxKernel.nD Cert.CtxKernel.τ Cert.CtxKernel.sig) → Buf (Elt Bits) ℓ) : Prop :=
  True

def Pre_CtxKernelIdeal (m : (ℓ : Loc Cert.CtxKernelIdeal.nD Cert.CtxKernelIdeal.τ Cert.CtxKernelIdeal.sig) → Buf (Elt Ideal) ℓ) : Prop :=
  True

def Pre_CtxReferenceIdeal (m : (ℓ : Loc Cert.CtxReferenceIdeal.nD Cert.CtxReferenceIdeal.τ Cert.CtxReferenceIdeal.sig) → Buf (Elt Ideal) ℓ) : Prop :=
  True

def Pre_ModKernel (m : (ℓ : Loc Cert.ModKernel.nD Cert.ModKernel.τ Cert.ModKernel.sig) → Buf (Elt Bits) ℓ) : Prop :=
  True

def Pre_ModKernelIdeal (m : (ℓ : Loc Cert.ModKernelIdeal.nD Cert.ModKernelIdeal.τ Cert.ModKernelIdeal.sig) → Buf (Elt Ideal) ℓ) : Prop :=
  True

def Pre_ModKernelIdeal_finite_mod [hPre_finite_mod : Cert.Pre_finite_mod.Facts] (m : (ℓ : Loc Cert.ModKernelIdeal.nD Cert.ModKernelIdeal.τ Cert.ModKernelIdeal.sig) → Buf (Elt Ideal) ℓ) : Prop :=
  ∀ c : Dev Cert.ModKernelIdeal.nD,
    (Cert.Pre_finite_mod.fn (F := Ideal) (m ((c.tc : Thread Cert.ModKernelIdeal.nD Cert.ModKernelIdeal.τ).loc Cert.ModKernelIdeal.main_arg0)) (m ((c.tc : Thread Cert.ModKernelIdeal.nD Cert.ModKernelIdeal.τ).loc Cert.ModKernelIdeal.main_arg1)) (m ((c.tc : Thread Cert.ModKernelIdeal.nD Cert.ModKernelIdeal.τ).loc Cert.ModKernelIdeal.main_arg2)) (m ((c.tc : Thread Cert.ModKernelIdeal.nD Cert.ModKernelIdeal.τ).loc Cert.ModKernelIdeal.main_arg3)) (m ((c.tc : Thread Cert.ModKernelIdeal.nD Cert.ModKernelIdeal.τ).loc Cert.ModKernelIdeal.main_arg4))).1 = (fun _ => 1#1)
    ∧ (Cert.Pre_finite_mod.fn (F := Ideal) (m ((c.tc : Thread Cert.ModKernelIdeal.nD Cert.ModKernelIdeal.τ).loc Cert.ModKernelIdeal.main_arg0)) (m ((c.tc : Thread Cert.ModKernelIdeal.nD Cert.ModKernelIdeal.τ).loc Cert.ModKernelIdeal.main_arg1)) (m ((c.tc : Thread Cert.ModKernelIdeal.nD Cert.ModKernelIdeal.τ).loc Cert.ModKernelIdeal.main_arg2)) (m ((c.tc : Thread Cert.ModKernelIdeal.nD Cert.ModKernelIdeal.τ).loc Cert.ModKernelIdeal.main_arg3)) (m ((c.tc : Thread Cert.ModKernelIdeal.nD Cert.ModKernelIdeal.τ).loc Cert.ModKernelIdeal.main_arg4))).2 = (fun _ => 1#1)

def Pre_ModReferenceIdeal (m : (ℓ : Loc Cert.ModReferenceIdeal.nD Cert.ModReferenceIdeal.τ Cert.ModReferenceIdeal.sig) → Buf (Elt Ideal) ℓ) : Prop :=
  True

def Pre_ModReferenceIdeal_finite_mod [hPre_finite_mod : Cert.Pre_finite_mod.Facts] (m : (ℓ : Loc Cert.ModReferenceIdeal.nD Cert.ModReferenceIdeal.τ Cert.ModReferenceIdeal.sig) → Buf (Elt Ideal) ℓ) : Prop :=
  ∀ c : Dev Cert.ModReferenceIdeal.nD,
    (Cert.Pre_finite_mod.fn (F := Ideal) (m ((c.tc : Thread Cert.ModReferenceIdeal.nD Cert.ModReferenceIdeal.τ).loc Cert.ModReferenceIdeal.main_arg0)) (m ((c.tc : Thread Cert.ModReferenceIdeal.nD Cert.ModReferenceIdeal.τ).loc Cert.ModReferenceIdeal.main_arg1)) (m ((c.tc : Thread Cert.ModReferenceIdeal.nD Cert.ModReferenceIdeal.τ).loc Cert.ModReferenceIdeal.main_arg2)) (m ((c.tc : Thread Cert.ModReferenceIdeal.nD Cert.ModReferenceIdeal.τ).loc Cert.ModReferenceIdeal.main_arg3)) (m ((c.tc : Thread Cert.ModReferenceIdeal.nD Cert.ModReferenceIdeal.τ).loc Cert.ModReferenceIdeal.main_arg4))).1 = (fun _ => 1#1)
    ∧ (Cert.Pre_finite_mod.fn (F := Ideal) (m ((c.tc : Thread Cert.ModReferenceIdeal.nD Cert.ModReferenceIdeal.τ).loc Cert.ModReferenceIdeal.main_arg0)) (m ((c.tc : Thread Cert.ModReferenceIdeal.nD Cert.ModReferenceIdeal.τ).loc Cert.ModReferenceIdeal.main_arg1)) (m ((c.tc : Thread Cert.ModReferenceIdeal.nD Cert.ModReferenceIdeal.τ).loc Cert.ModReferenceIdeal.main_arg2)) (m ((c.tc : Thread Cert.ModReferenceIdeal.nD Cert.ModReferenceIdeal.τ).loc Cert.ModReferenceIdeal.main_arg3)) (m ((c.tc : Thread Cert.ModReferenceIdeal.nD Cert.ModReferenceIdeal.τ).loc Cert.ModReferenceIdeal.main_arg4))).2 = (fun _ => 1#1)

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_TableKernel (m : (ℓ : Loc Cert.TableKernel.nD Cert.TableKernel.τ Cert.TableKernel.sig) → Buf (Elt Bits) ℓ) : Prop :=
  True

def Pre_TableKernelIdeal (m : (ℓ : Loc Cert.TableKernelIdeal.nD Cert.TableKernelIdeal.τ Cert.TableKernelIdeal.sig) → Buf (Elt Ideal) ℓ) : Prop :=
  True

def Pre_TableReferenceIdeal (m : (ℓ : Loc Cert.TableReferenceIdeal.nD Cert.TableReferenceIdeal.τ Cert.TableReferenceIdeal.sig) → Buf (Elt Ideal) ℓ) : Prop :=
  True

def Pre_AgluKernel (m : (ℓ : Loc Cert.AgluKernel.nD Cert.AgluKernel.τ Cert.AgluKernel.sig) → Buf (Elt Bits) ℓ) : Prop :=
  True

def Pre_AgluKernelIdeal (m : (ℓ : Loc Cert.AgluKernelIdeal.nD Cert.AgluKernelIdeal.τ Cert.AgluKernelIdeal.sig) → Buf (Elt Ideal) ℓ) : Prop :=
  True

def Pre_AgluReferenceIdeal (m : (ℓ : Loc Cert.AgluReferenceIdeal.nD Cert.AgluReferenceIdeal.τ Cert.AgluReferenceIdeal.sig) → Buf (Elt Ideal) ℓ) : Prop :=
  True

def Pre_AoutKernel (m : (ℓ : Loc Cert.AoutKernel.nD Cert.AoutKernel.τ Cert.AoutKernel.sig) → Buf (Elt Bits) ℓ) : Prop :=
  True

def Pre_AoutKernelIdeal (m : (ℓ : Loc Cert.AoutKernelIdeal.nD Cert.AoutKernelIdeal.τ Cert.AoutKernelIdeal.sig) → Buf (Elt Ideal) ℓ) : Prop :=
  True

def Pre_AoutReferenceIdeal (m : (ℓ : Loc Cert.AoutReferenceIdeal.nD Cert.AoutReferenceIdeal.τ Cert.AoutReferenceIdeal.sig) → Buf (Elt Ideal) ℓ) : Prop :=
  True

def Pre_ApoolKernel (m : (ℓ : Loc Cert.ApoolKernel.nD Cert.ApoolKernel.τ Cert.ApoolKernel.sig) → Buf (Elt Bits) ℓ) : Prop :=
  True

def Pre_ApoolKernelIdeal (m : (ℓ : Loc Cert.ApoolKernelIdeal.nD Cert.ApoolKernelIdeal.τ Cert.ApoolKernelIdeal.sig) → Buf (Elt Ideal) ℓ) : Prop :=
  True

def Pre_ApoolReferenceIdeal (m : (ℓ : Loc Cert.ApoolReferenceIdeal.nD Cert.ApoolReferenceIdeal.τ Cert.ApoolReferenceIdeal.sig) → Buf (Elt Ideal) ℓ) : Prop :=
  True

def Pre_AadaKernel (m : (ℓ : Loc Cert.AadaKernel.nD Cert.AadaKernel.τ Cert.AadaKernel.sig) → Buf (Elt Bits) ℓ) : Prop :=
  True

def Pre_AadaKernelIdeal (m : (ℓ : Loc Cert.AadaKernelIdeal.nD Cert.AadaKernelIdeal.τ Cert.AadaKernelIdeal.sig) → Buf (Elt Ideal) ℓ) : Prop :=
  True

def Pre_AadaReferenceIdeal (m : (ℓ : Loc Cert.AadaReferenceIdeal.nD Cert.AadaReferenceIdeal.τ Cert.AadaReferenceIdeal.sig) → Buf (Elt Ideal) ℓ) : Prop :=
  True

def Pre_AbKernel (m : (ℓ : Loc Cert.AbKernel.nD Cert.AbKernel.τ Cert.AbKernel.sig) → Buf (Elt Bits) ℓ) : Prop :=
  True

def Pre_AbKernelIdeal (m : (ℓ : Loc Cert.AbKernelIdeal.nD Cert.AbKernelIdeal.τ Cert.AbKernelIdeal.sig) → Buf (Elt Ideal) ℓ) : Prop :=
  True

def Pre_AbReferenceIdeal (m : (ℓ : Loc Cert.AbReferenceIdeal.nD Cert.AbReferenceIdeal.τ Cert.AbReferenceIdeal.sig) → Buf (Elt Ideal) ℓ) : Prop :=
  True

def Pre_AcKernel (m : (ℓ : Loc Cert.AcKernel.nD Cert.AcKernel.τ Cert.AcKernel.sig) → Buf (Elt Bits) ℓ) : Prop :=
  True

def Pre_AcKernelIdeal (m : (ℓ : Loc Cert.AcKernelIdeal.nD Cert.AcKernelIdeal.τ Cert.AcKernelIdeal.sig) → Buf (Elt Ideal) ℓ) : Prop :=
  True

def Pre_AcReferenceIdeal (m : (ℓ : Loc Cert.AcReferenceIdeal.nD Cert.AcReferenceIdeal.τ Cert.AcReferenceIdeal.sig) → Buf (Elt Ideal) ℓ) : Prop :=
  True

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ r.2.sem = fun _ => 0)

def quiescent_OutKernelIdeal_pre_finite [hOutKernelIdeal : Cert.OutKernelIdeal.Facts] [hPre_finite : Cert.Pre_finite.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal_finite m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6))
      ∧ r.2.sem = fun _ => 0)

def quiescent_OutReferenceIdeal_pre_finite [hOutReferenceIdeal : Cert.OutReferenceIdeal.Facts] [hPre_finite : Cert.Pre_finite.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal_finite m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6)
      ∧ r.2.mem ((c.tc : Thread Cert.InKernel.nD Cert.InKernel.τ).loc Cert.InKernel.main_arg7) = m ((c.tc : Thread Cert.InKernel.nD Cert.InKernel.τ).loc Cert.InKernel.main_arg7)
      ∧ r.2.mem ((c.tc : Thread Cert.InKernel.nD Cert.InKernel.τ).loc Cert.InKernel.main_arg8) = m ((c.tc : Thread Cert.InKernel.nD Cert.InKernel.τ).loc Cert.InKernel.main_arg8)
      ∧ r.2.mem ((c.tc : Thread Cert.InKernel.nD Cert.InKernel.τ).loc Cert.InKernel.main_arg9) = m ((c.tc : Thread Cert.InKernel.nD Cert.InKernel.τ).loc Cert.InKernel.main_arg9)
      ∧ r.2.mem ((c.tc : Thread Cert.InKernel.nD Cert.InKernel.τ).loc Cert.InKernel.main_arg10) = m ((c.tc : Thread Cert.InKernel.nD Cert.InKernel.τ).loc Cert.InKernel.main_arg10)
      ∧ r.2.mem ((c.tc : Thread Cert.InKernel.nD Cert.InKernel.τ).loc Cert.InKernel.main_arg11) = m ((c.tc : Thread Cert.InKernel.nD Cert.InKernel.τ).loc Cert.InKernel.main_arg11))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
      ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
      ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8)
      ∧ r.2.mem ((c.tc : Thread Cert.InKernelIdeal.nD Cert.InKernelIdeal.τ).loc Cert.InKernelIdeal.main_arg9) = m ((c.tc : Thread Cert.InKernelIdeal.nD Cert.InKernelIdeal.τ).loc Cert.InKernelIdeal.main_arg9)
      ∧ r.2.mem ((c.tc : Thread Cert.InKernelIdeal.nD Cert.InKernelIdeal.τ).loc Cert.InKernelIdeal.main_arg10) = m ((c.tc : Thread Cert.InKernelIdeal.nD Cert.InKernelIdeal.τ).loc Cert.InKernelIdeal.main_arg10)
      ∧ r.2.mem ((c.tc : Thread Cert.InKernelIdeal.nD Cert.InKernelIdeal.τ).loc Cert.InKernelIdeal.main_arg11) = m ((c.tc : Thread Cert.InKernelIdeal.nD Cert.InKernelIdeal.τ).loc Cert.InKernelIdeal.main_arg11))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7)
      ∧ r.2.mem ((c.tc : Thread Cert.InReferenceIdeal.nD Cert.InReferenceIdeal.τ).loc Cert.InReferenceIdeal.main_arg8) = m ((c.tc : Thread Cert.InReferenceIdeal.nD Cert.InReferenceIdeal.τ).loc Cert.InReferenceIdeal.main_arg8)
      ∧ r.2.mem ((c.tc : Thread Cert.InReferenceIdeal.nD Cert.InReferenceIdeal.τ).loc Cert.InReferenceIdeal.main_arg9) = m ((c.tc : Thread Cert.InReferenceIdeal.nD Cert.InReferenceIdeal.τ).loc Cert.InReferenceIdeal.main_arg9)
      ∧ r.2.mem ((c.tc : Thread Cert.InReferenceIdeal.nD Cert.InReferenceIdeal.τ).loc Cert.InReferenceIdeal.main_arg10) = m ((c.tc : Thread Cert.InReferenceIdeal.nD Cert.InReferenceIdeal.τ).loc Cert.InReferenceIdeal.main_arg10)
      ∧ r.2.mem ((c.tc : Thread Cert.InReferenceIdeal.nD Cert.InReferenceIdeal.τ).loc Cert.InReferenceIdeal.main_arg11) = m ((c.tc : Thread Cert.InReferenceIdeal.nD Cert.InReferenceIdeal.τ).loc Cert.InReferenceIdeal.main_arg11))
      ∧ r.2.sem = fun _ => 0)

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1)
      ∧ r.2.mem ((c.tc : Thread Cert.GluKernel.nD Cert.GluKernel.τ).loc Cert.GluKernel.main_arg2) = m ((c.tc : Thread Cert.GluKernel.nD Cert.GluKernel.τ).loc Cert.GluKernel.main_arg2)
      ∧ r.2.mem ((c.tc : Thread Cert.GluKernel.nD Cert.GluKernel.τ).loc Cert.GluKernel.main_arg3) = m ((c.tc : Thread Cert.GluKernel.nD Cert.GluKernel.τ).loc Cert.GluKernel.main_arg3)
      ∧ r.2.mem ((c.tc : Thread Cert.GluKernel.nD Cert.GluKernel.τ).loc Cert.GluKernel.main_arg4) = m ((c.tc : Thread Cert.GluKernel.nD Cert.GluKernel.τ).loc Cert.GluKernel.main_arg4))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
      ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3)
      ∧ r.2.mem ((c.tc : Thread Cert.GluKernelIdeal.nD Cert.GluKernelIdeal.τ).loc Cert.GluKernelIdeal.main_arg4) = m ((c.tc : Thread Cert.GluKernelIdeal.nD Cert.GluKernelIdeal.τ).loc Cert.GluKernelIdeal.main_arg4))
      ∧ r.2.sem = fun _ => 0)

def quiescent_GluKernelIdeal_pre_finite_glu [hGluKernelIdeal : Cert.GluKernelIdeal.Facts] [hPre_finite_glu : Cert.Pre_finite_glu.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal_finite_glu m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
      ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3)
      ∧ r.2.mem ((c.tc : Thread Cert.GluKernelIdeal.nD Cert.GluKernelIdeal.τ).loc Cert.GluKernelIdeal.main_arg4) = m ((c.tc : Thread Cert.GluKernelIdeal.nD Cert.GluKernelIdeal.τ).loc Cert.GluKernelIdeal.main_arg4))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3)
      ∧ r.2.mem ((c.tc : Thread Cert.GluReferenceIdeal.nD Cert.GluReferenceIdeal.τ).loc Cert.GluReferenceIdeal.main_arg4) = m ((c.tc : Thread Cert.GluReferenceIdeal.nD Cert.GluReferenceIdeal.τ).loc Cert.GluReferenceIdeal.main_arg4))
      ∧ r.2.sem = fun _ => 0)

def quiescent_GluReferenceIdeal_pre_finite_glu [hGluReferenceIdeal : Cert.GluReferenceIdeal.Facts] [hPre_finite_glu : Cert.Pre_finite_glu.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal_finite_glu m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3)
      ∧ r.2.mem ((c.tc : Thread Cert.GluReferenceIdeal.nD Cert.GluReferenceIdeal.τ).loc Cert.GluReferenceIdeal.main_arg4) = m ((c.tc : Thread Cert.GluReferenceIdeal.nD Cert.GluReferenceIdeal.τ).loc Cert.GluReferenceIdeal.main_arg4))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9)
      ∧ r.2.mem ((c.tc : Thread Cert.MergeKernel.nD Cert.MergeKernel.τ).loc Cert.MergeKernel.main_arg10) = m ((c.tc : Thread Cert.MergeKernel.nD Cert.MergeKernel.τ).loc Cert.MergeKernel.main_arg10)
      ∧ r.2.mem ((c.tc : Thread Cert.MergeKernel.nD Cert.MergeKernel.τ).loc Cert.MergeKernel.main_arg11) = m ((c.tc : Thread Cert.MergeKernel.nD Cert.MergeKernel.τ).loc Cert.MergeKernel.main_arg11))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
      ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
      ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def quiescent_CtxKernel [hCtxKernel : Cert.CtxKernel.Facts] : Prop :=
  ∀ (m : (ℓ : Loc Cert.CtxKernel.nD Cert.CtxKernel.τ Cert.CtxKernel.sig) → Buf (Elt Bits) ℓ) (g : Dev Cert.CtxKernel.nD → PrngReg), Pre_CtxKernel m →
    θ_run (Cert.CtxKernel.defs (F := Bits)) (onTc (τ := Cert.CtxKernel.τ) (Cert.CtxKernel.main (F := Bits))) ⟨m, fun _ => 0, g⟩ (fun r => (∀ c : Dev Cert.CtxKernel.nD,
      r.2.mem ((c.tc : Thread Cert.CtxKernel.nD Cert.CtxKernel.τ).loc Cert.CtxKernel.main_arg0) = m ((c.tc : Thread Cert.CtxKernel.nD Cert.CtxKernel.τ).loc Cert.CtxKernel.main_arg0)
      ∧ r.2.mem ((c.tc : Thread Cert.CtxKernel.nD Cert.CtxKernel.τ).loc Cert.CtxKernel.main_arg1) = m ((c.tc : Thread Cert.CtxKernel.nD Cert.CtxKernel.τ).loc Cert.CtxKernel.main_arg1)
      ∧ r.2.mem ((c.tc : Thread Cert.CtxKernel.nD Cert.CtxKernel.τ).loc Cert.CtxKernel.main_arg2) = m ((c.tc : Thread Cert.CtxKernel.nD Cert.CtxKernel.τ).loc Cert.CtxKernel.main_arg2)
      ∧ r.2.mem ((c.tc : Thread Cert.CtxKernel.nD Cert.CtxKernel.τ).loc Cert.CtxKernel.main_arg3) = m ((c.tc : Thread Cert.CtxKernel.nD Cert.CtxKernel.τ).loc Cert.CtxKernel.main_arg3)
      ∧ r.2.mem ((c.tc : Thread Cert.CtxKernel.nD Cert.CtxKernel.τ).loc Cert.CtxKernel.main_arg4) = m ((c.tc : Thread Cert.CtxKernel.nD Cert.CtxKernel.τ).loc Cert.CtxKernel.main_arg4)
      ∧ r.2.mem ((c.tc : Thread Cert.CtxKernel.nD Cert.CtxKernel.τ).loc Cert.CtxKernel.main_arg5) = m ((c.tc : Thread Cert.CtxKernel.nD Cert.CtxKernel.τ).loc Cert.CtxKernel.main_arg5))
      ∧ r.2.sem = fun _ => 0)

def quiescent_CtxKernelIdeal [hCtxKernelIdeal : Cert.CtxKernelIdeal.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg), Pre_CtxKernelIdeal m →
    θ_run (Cert.CtxKernelIdeal.defs (F := Ideal)) (onTc (τ := Cert.CtxKernelIdeal.τ) (Cert.CtxKernelIdeal.main (F := Ideal))) ⟨m, fun _ => 0, g⟩ (fun r => (∀ c : Dev Cert.CtxKernelIdeal.nD,
      r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
      ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
      ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2)
      ∧ r.2.mem ((c.tc : Thread Cert.CtxKernelIdeal.nD Cert.CtxKernelIdeal.τ).loc Cert.CtxKernelIdeal.main_arg3) = m ((c.tc : Thread Cert.CtxKernelIdeal.nD Cert.CtxKernelIdeal.τ).loc Cert.CtxKernelIdeal.main_arg3)
      ∧ r.2.mem ((c.tc : Thread Cert.CtxKernelIdeal.nD Cert.CtxKernelIdeal.τ).loc Cert.CtxKernelIdeal.main_arg4) = m ((c.tc : Thread Cert.CtxKernelIdeal.nD Cert.CtxKernelIdeal.τ).loc Cert.CtxKernelIdeal.main_arg4)
      ∧ r.2.mem ((c.tc : Thread Cert.CtxKernelIdeal.nD Cert.CtxKernelIdeal.τ).loc Cert.CtxKernelIdeal.main_arg5) = m ((c.tc : Thread Cert.CtxKernelIdeal.nD Cert.CtxKernelIdeal.τ).loc Cert.CtxKernelIdeal.main_arg5))
      ∧ r.2.sem = fun _ => 0)

def quiescent_CtxReferenceIdeal [hCtxReferenceIdeal : Cert.CtxReferenceIdeal.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2)
      ∧ r.2.mem ((c.tc : Thread Cert.CtxReferenceIdeal.nD Cert.CtxReferenceIdeal.τ).loc Cert.CtxReferenceIdeal.main_arg3) = m ((c.tc : Thread Cert.CtxReferenceIdeal.nD Cert.CtxReferenceIdeal.τ).loc Cert.CtxReferenceIdeal.main_arg3)
      ∧ r.2.mem ((c.tc : Thread Cert.CtxReferenceIdeal.nD Cert.CtxReferenceIdeal.τ).loc Cert.CtxReferenceIdeal.main_arg4) = m ((c.tc : Thread Cert.CtxReferenceIdeal.nD Cert.CtxReferenceIdeal.τ).loc Cert.CtxReferenceIdeal.main_arg4)
      ∧ r.2.mem ((c.tc : Thread Cert.CtxReferenceIdeal.nD Cert.CtxReferenceIdeal.τ).loc Cert.CtxReferenceIdeal.main_arg5) = m ((c.tc : Thread Cert.CtxReferenceIdeal.nD Cert.CtxReferenceIdeal.τ).loc Cert.CtxReferenceIdeal.main_arg5))
      ∧ r.2.sem = fun _ => 0)

def quiescent_ModKernel [hModKernel : Cert.ModKernel.Facts] : Prop :=
  ∀ (m : (ℓ : Loc Cert.ModKernel.nD Cert.ModKernel.τ Cert.ModKernel.sig) → Buf (Elt Bits) ℓ) (g : Dev Cert.ModKernel.nD → PrngReg), Pre_ModKernel m →
    θ_run (Cert.ModKernel.defs (F := Bits)) (onTc (τ := Cert.ModKernel.τ) (Cert.ModKernel.main (F := Bits))) ⟨m, fun _ => 0, g⟩ (fun r => (∀ c : Dev Cert.ModKernel.nD,
      r.2.mem ((c.tc : Thread Cert.ModKernel.nD Cert.ModKernel.τ).loc Cert.ModKernel.main_arg0) = m ((c.tc : Thread Cert.ModKernel.nD Cert.ModKernel.τ).loc Cert.ModKernel.main_arg0)
      ∧ r.2.mem ((c.tc : Thread Cert.ModKernel.nD Cert.ModKernel.τ).loc Cert.ModKernel.main_arg1) = m ((c.tc : Thread Cert.ModKernel.nD Cert.ModKernel.τ).loc Cert.ModKernel.main_arg1)
      ∧ r.2.mem ((c.tc : Thread Cert.ModKernel.nD Cert.ModKernel.τ).loc Cert.ModKernel.main_arg2) = m ((c.tc : Thread Cert.ModKernel.nD Cert.ModKernel.τ).loc Cert.ModKernel.main_arg2)
      ∧ r.2.mem ((c.tc : Thread Cert.ModKernel.nD Cert.ModKernel.τ).loc Cert.ModKernel.main_arg3) = m ((c.tc : Thread Cert.ModKernel.nD Cert.ModKernel.τ).loc Cert.ModKernel.main_arg3)
      ∧ r.2.mem ((c.tc : Thread Cert.ModKernel.nD Cert.ModKernel.τ).loc Cert.ModKernel.main_arg4) = m ((c.tc : Thread Cert.ModKernel.nD Cert.ModKernel.τ).loc Cert.ModKernel.main_arg4))
      ∧ r.2.sem = fun _ => 0)

def quiescent_ModKernelIdeal [hModKernelIdeal : Cert.ModKernelIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg), Pre_ModKernelIdeal m →
    θ_run (Cert.ModKernelIdeal.defs (F := Ideal)) (onTc (τ := Cert.ModKernelIdeal.τ) (Cert.ModKernelIdeal.main (F := Ideal))) ⟨m, fun _ => 0, g⟩ (fun r => (∀ c : Dev Cert.ModKernelIdeal.nD,
      r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
      ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
      ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2)
      ∧ r.2.mem ((c.tc : Thread Cert.ModKernelIdeal.nD Cert.ModKernelIdeal.τ).loc Cert.ModKernelIdeal.main_arg3) = m ((c.tc : Thread Cert.ModKernelIdeal.nD Cert.ModKernelIdeal.τ).loc Cert.ModKernelIdeal.main_arg3)
      ∧ r.2.mem ((c.tc : Thread Cert.ModKernelIdeal.nD Cert.ModKernelIdeal.τ).loc Cert.ModKernelIdeal.main_arg4) = m ((c.tc : Thread Cert.ModKernelIdeal.nD Cert.ModKernelIdeal.τ).loc Cert.ModKernelIdeal.main_arg4))
      ∧ r.2.sem = fun _ => 0)

def quiescent_ModKernelIdeal_pre_finite_mod [hModKernelIdeal : Cert.ModKernelIdeal.Facts] [hPre_finite_mod : Cert.Pre_finite_mod.Facts] : Prop :=
  ∀ (m : (ℓ : Loc Cert.ModKernelIdeal.nD Cert.ModKernelIdeal.τ Cert.ModKernelIdeal.sig) → Buf (Elt Ideal) ℓ) (g : Dev Cert.ModKernelIdeal.nD → PrngReg), Pre_ModKernelIdeal_finite_mod m →
    θ_run (Cert.ModKernelIdeal.defs (F := Ideal)) (onTc (τ := Cert.ModKernelIdeal.τ) (Cert.ModKernelIdeal.main (F := Ideal))) ⟨m, fun _ => 0, g⟩ (fun r => (∀ c : Dev Cert.ModKernelIdeal.nD,
      r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
      ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
      ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2)
      ∧ r.2.mem ((c.tc : Thread Cert.ModKernelIdeal.nD Cert.ModKernelIdeal.τ).loc Cert.ModKernelIdeal.main_arg3) = m ((c.tc : Thread Cert.ModKernelIdeal.nD Cert.ModKernelIdeal.τ).loc Cert.ModKernelIdeal.main_arg3)
      ∧ r.2.mem ((c.tc : Thread Cert.ModKernelIdeal.nD Cert.ModKernelIdeal.τ).loc Cert.ModKernelIdeal.main_arg4) = m ((c.tc : Thread Cert.ModKernelIdeal.nD Cert.ModKernelIdeal.τ).loc Cert.ModKernelIdeal.main_arg4))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2)
      ∧ r.2.mem ((c.tc : Thread Cert.ModReferenceIdeal.nD Cert.ModReferenceIdeal.τ).loc Cert.ModReferenceIdeal.main_arg3) = m ((c.tc : Thread Cert.ModReferenceIdeal.nD Cert.ModReferenceIdeal.τ).loc Cert.ModReferenceIdeal.main_arg3)
      ∧ r.2.mem ((c.tc : Thread Cert.ModReferenceIdeal.nD Cert.ModReferenceIdeal.τ).loc Cert.ModReferenceIdeal.main_arg4) = m ((c.tc : Thread Cert.ModReferenceIdeal.nD Cert.ModReferenceIdeal.τ).loc Cert.ModReferenceIdeal.main_arg4))
      ∧ r.2.sem = fun _ => 0)

def quiescent_ModReferenceIdeal_pre_finite_mod [hModReferenceIdeal : Cert.ModReferenceIdeal.Facts] [hPre_finite_mod : Cert.Pre_finite_mod.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal_finite_mod m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2)
      ∧ r.2.mem ((c.tc : Thread Cert.ModReferenceIdeal.nD Cert.ModReferenceIdeal.τ).loc Cert.ModReferenceIdeal.main_arg3) = m ((c.tc : Thread Cert.ModReferenceIdeal.nD Cert.ModReferenceIdeal.τ).loc Cert.ModReferenceIdeal.main_arg3)
      ∧ r.2.mem ((c.tc : Thread Cert.ModReferenceIdeal.nD Cert.ModReferenceIdeal.τ).loc Cert.ModReferenceIdeal.main_arg4) = m ((c.tc : Thread Cert.ModReferenceIdeal.nD Cert.ModReferenceIdeal.τ).loc Cert.ModReferenceIdeal.main_arg4))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_TableKernel [hTableKernel : Cert.TableKernel.Facts] : Prop :=
  ∀ (m : (ℓ : Loc Cert.TableKernel.nD Cert.TableKernel.τ Cert.TableKernel.sig) → Buf (Elt Bits) ℓ) (g : Dev Cert.TableKernel.nD → PrngReg), Pre_TableKernel m →
    θ_run (Cert.TableKernel.defs (F := Bits)) (onTc (τ := Cert.TableKernel.τ) (Cert.TableKernel.main (F := Bits))) ⟨m, fun _ => 0, g⟩ (fun r => (∀ c : Dev Cert.TableKernel.nD,
      r.2.mem ((c.tc : Thread Cert.TableKernel.nD Cert.TableKernel.τ).loc Cert.TableKernel.main_arg0) = m ((c.tc : Thread Cert.TableKernel.nD Cert.TableKernel.τ).loc Cert.TableKernel.main_arg0)
      ∧ r.2.mem ((c.tc : Thread Cert.TableKernel.nD Cert.TableKernel.τ).loc Cert.TableKernel.main_arg1) = m ((c.tc : Thread Cert.TableKernel.nD Cert.TableKernel.τ).loc Cert.TableKernel.main_arg1)
      ∧ r.2.mem ((c.tc : Thread Cert.TableKernel.nD Cert.TableKernel.τ).loc Cert.TableKernel.main_arg2) = m ((c.tc : Thread Cert.TableKernel.nD Cert.TableKernel.τ).loc Cert.TableKernel.main_arg2)
      ∧ r.2.mem ((c.tc : Thread Cert.TableKernel.nD Cert.TableKernel.τ).loc Cert.TableKernel.main_arg3) = m ((c.tc : Thread Cert.TableKernel.nD Cert.TableKernel.τ).loc Cert.TableKernel.main_arg3))
      ∧ r.2.sem = fun _ => 0)

def quiescent_TableKernelIdeal [hTableKernelIdeal : Cert.TableKernelIdeal.Facts] : Prop :=
  ∀ (m : (ℓ : Loc Cert.TableKernelIdeal.nD Cert.TableKernelIdeal.τ Cert.TableKernelIdeal.sig) → Buf (Elt Ideal) ℓ) (g : Dev Cert.TableKernelIdeal.nD → PrngReg), Pre_TableKernelIdeal m →
    θ_run (Cert.TableKernelIdeal.defs (F := Ideal)) (onTc (τ := Cert.TableKernelIdeal.τ) (Cert.TableKernelIdeal.main (F := Ideal))) ⟨m, fun _ => 0, g⟩ (fun r => (∀ c : Dev Cert.TableKernelIdeal.nD,
      r.2.mem ((c.tc : Thread Cert.TableKernelIdeal.nD Cert.TableKernelIdeal.τ).loc Cert.TableKernelIdeal.main_arg0) = m ((c.tc : Thread Cert.TableKernelIdeal.nD Cert.TableKernelIdeal.τ).loc Cert.TableKernelIdeal.main_arg0)
      ∧ r.2.mem ((c.tc : Thread Cert.TableKernelIdeal.nD Cert.TableKernelIdeal.τ).loc Cert.TableKernelIdeal.main_arg1) = m ((c.tc : Thread Cert.TableKernelIdeal.nD Cert.TableKernelIdeal.τ).loc Cert.TableKernelIdeal.main_arg1)
      ∧ r.2.mem ((c.tc : Thread Cert.TableKernelIdeal.nD Cert.TableKernelIdeal.τ).loc Cert.TableKernelIdeal.main_arg2) = m ((c.tc : Thread Cert.TableKernelIdeal.nD Cert.TableKernelIdeal.τ).loc Cert.TableKernelIdeal.main_arg2)
      ∧ r.2.mem ((c.tc : Thread Cert.TableKernelIdeal.nD Cert.TableKernelIdeal.τ).loc Cert.TableKernelIdeal.main_arg3) = m ((c.tc : Thread Cert.TableKernelIdeal.nD Cert.TableKernelIdeal.τ).loc Cert.TableKernelIdeal.main_arg3))
      ∧ r.2.sem = fun _ => 0)

def quiescent_TableReferenceIdeal [hTableReferenceIdeal : Cert.TableReferenceIdeal.Facts] : Prop :=
  ∀ (m : (ℓ : Loc Cert.TableReferenceIdeal.nD Cert.TableReferenceIdeal.τ Cert.TableReferenceIdeal.sig) → Buf (Elt Ideal) ℓ) (g : Dev Cert.TableReferenceIdeal.nD → PrngReg), Pre_TableReferenceIdeal m →
    θ_run (Cert.TableReferenceIdeal.defs (F := Ideal)) (onTc (τ := Cert.TableReferenceIdeal.τ) (Cert.TableReferenceIdeal.main (F := Ideal))) ⟨m, fun _ => 0, g⟩ (fun r => (∀ c : Dev Cert.TableReferenceIdeal.nD,
      r.2.mem ((c.tc : Thread Cert.TableReferenceIdeal.nD Cert.TableReferenceIdeal.τ).loc Cert.TableReferenceIdeal.main_arg0) = m ((c.tc : Thread Cert.TableReferenceIdeal.nD Cert.TableReferenceIdeal.τ).loc Cert.TableReferenceIdeal.main_arg0)
      ∧ r.2.mem ((c.tc : Thread Cert.TableReferenceIdeal.nD Cert.TableReferenceIdeal.τ).loc Cert.TableReferenceIdeal.main_arg1) = m ((c.tc : Thread Cert.TableReferenceIdeal.nD Cert.TableReferenceIdeal.τ).loc Cert.TableReferenceIdeal.main_arg1)
      ∧ r.2.mem ((c.tc : Thread Cert.TableReferenceIdeal.nD Cert.TableReferenceIdeal.τ).loc Cert.TableReferenceIdeal.main_arg2) = m ((c.tc : Thread Cert.TableReferenceIdeal.nD Cert.TableReferenceIdeal.τ).loc Cert.TableReferenceIdeal.main_arg2)
      ∧ r.2.mem ((c.tc : Thread Cert.TableReferenceIdeal.nD Cert.TableReferenceIdeal.τ).loc Cert.TableReferenceIdeal.main_arg3) = m ((c.tc : Thread Cert.TableReferenceIdeal.nD Cert.TableReferenceIdeal.τ).loc Cert.TableReferenceIdeal.main_arg3))
      ∧ r.2.sem = fun _ => 0)

def quiescent_AgluKernel [hAgluKernel : Cert.AgluKernel.Facts] : Prop :=
  ∀ (m : (ℓ : Loc Cert.AgluKernel.nD Cert.AgluKernel.τ Cert.AgluKernel.sig) → Buf (Elt Bits) ℓ) (g : Dev Cert.AgluKernel.nD → PrngReg), Pre_AgluKernel m →
    θ_run (Cert.AgluKernel.defs (F := Bits)) (onTc (τ := Cert.AgluKernel.τ) (Cert.AgluKernel.main (F := Bits))) ⟨m, fun _ => 0, g⟩ (fun r => (∀ c : Dev Cert.AgluKernel.nD,
      r.2.mem ((c.tc : Thread Cert.AgluKernel.nD Cert.AgluKernel.τ).loc Cert.AgluKernel.main_arg0) = m ((c.tc : Thread Cert.AgluKernel.nD Cert.AgluKernel.τ).loc Cert.AgluKernel.main_arg0)
      ∧ r.2.mem ((c.tc : Thread Cert.AgluKernel.nD Cert.AgluKernel.τ).loc Cert.AgluKernel.main_arg1) = m ((c.tc : Thread Cert.AgluKernel.nD Cert.AgluKernel.τ).loc Cert.AgluKernel.main_arg1)
      ∧ r.2.mem ((c.tc : Thread Cert.AgluKernel.nD Cert.AgluKernel.τ).loc Cert.AgluKernel.main_arg2) = m ((c.tc : Thread Cert.AgluKernel.nD Cert.AgluKernel.τ).loc Cert.AgluKernel.main_arg2)
      ∧ r.2.mem ((c.tc : Thread Cert.AgluKernel.nD Cert.AgluKernel.τ).loc Cert.AgluKernel.main_arg3) = m ((c.tc : Thread Cert.AgluKernel.nD Cert.AgluKernel.τ).loc Cert.AgluKernel.main_arg3))
      ∧ r.2.sem = fun _ => 0)

def quiescent_AgluKernelIdeal [hAgluKernelIdeal : Cert.AgluKernelIdeal.Facts] : Prop :=
  ∀ (m : (ℓ : Loc Cert.AgluKernelIdeal.nD Cert.AgluKernelIdeal.τ Cert.AgluKernelIdeal.sig) → Buf (Elt Ideal) ℓ) (g : Dev Cert.AgluKernelIdeal.nD → PrngReg), Pre_AgluKernelIdeal m →
    θ_run (Cert.AgluKernelIdeal.defs (F := Ideal)) (onTc (τ := Cert.AgluKernelIdeal.τ) (Cert.AgluKernelIdeal.main (F := Ideal))) ⟨m, fun _ => 0, g⟩ (fun r => (∀ c : Dev Cert.AgluKernelIdeal.nD,
      r.2.mem ((c.tc : Thread Cert.AgluKernelIdeal.nD Cert.AgluKernelIdeal.τ).loc Cert.AgluKernelIdeal.main_arg0) = m ((c.tc : Thread Cert.AgluKernelIdeal.nD Cert.AgluKernelIdeal.τ).loc Cert.AgluKernelIdeal.main_arg0)
      ∧ r.2.mem ((c.tc : Thread Cert.AgluKernelIdeal.nD Cert.AgluKernelIdeal.τ).loc Cert.AgluKernelIdeal.main_arg1) = m ((c.tc : Thread Cert.AgluKernelIdeal.nD Cert.AgluKernelIdeal.τ).loc Cert.AgluKernelIdeal.main_arg1)
      ∧ r.2.mem ((c.tc : Thread Cert.AgluKernelIdeal.nD Cert.AgluKernelIdeal.τ).loc Cert.AgluKernelIdeal.main_arg2) = m ((c.tc : Thread Cert.AgluKernelIdeal.nD Cert.AgluKernelIdeal.τ).loc Cert.AgluKernelIdeal.main_arg2)
      ∧ r.2.mem ((c.tc : Thread Cert.AgluKernelIdeal.nD Cert.AgluKernelIdeal.τ).loc Cert.AgluKernelIdeal.main_arg3) = m ((c.tc : Thread Cert.AgluKernelIdeal.nD Cert.AgluKernelIdeal.τ).loc Cert.AgluKernelIdeal.main_arg3))
      ∧ r.2.sem = fun _ => 0)

def quiescent_AgluReferenceIdeal [hAgluReferenceIdeal : Cert.AgluReferenceIdeal.Facts] : Prop :=
  ∀ (m : (ℓ : Loc Cert.AgluReferenceIdeal.nD Cert.AgluReferenceIdeal.τ Cert.AgluReferenceIdeal.sig) → Buf (Elt Ideal) ℓ) (g : Dev Cert.AgluReferenceIdeal.nD → PrngReg), Pre_AgluReferenceIdeal m →
    θ_run (Cert.AgluReferenceIdeal.defs (F := Ideal)) (onTc (τ := Cert.AgluReferenceIdeal.τ) (Cert.AgluReferenceIdeal.main (F := Ideal))) ⟨m, fun _ => 0, g⟩ (fun r => (∀ c : Dev Cert.AgluReferenceIdeal.nD,
      r.2.mem ((c.tc : Thread Cert.AgluReferenceIdeal.nD Cert.AgluReferenceIdeal.τ).loc Cert.AgluReferenceIdeal.main_arg0) = m ((c.tc : Thread Cert.AgluReferenceIdeal.nD Cert.AgluReferenceIdeal.τ).loc Cert.AgluReferenceIdeal.main_arg0)
      ∧ r.2.mem ((c.tc : Thread Cert.AgluReferenceIdeal.nD Cert.AgluReferenceIdeal.τ).loc Cert.AgluReferenceIdeal.main_arg1) = m ((c.tc : Thread Cert.AgluReferenceIdeal.nD Cert.AgluReferenceIdeal.τ).loc Cert.AgluReferenceIdeal.main_arg1)
      ∧ r.2.mem ((c.tc : Thread Cert.AgluReferenceIdeal.nD Cert.AgluReferenceIdeal.τ).loc Cert.AgluReferenceIdeal.main_arg2) = m ((c.tc : Thread Cert.AgluReferenceIdeal.nD Cert.AgluReferenceIdeal.τ).loc Cert.AgluReferenceIdeal.main_arg2)
      ∧ r.2.mem ((c.tc : Thread Cert.AgluReferenceIdeal.nD Cert.AgluReferenceIdeal.τ).loc Cert.AgluReferenceIdeal.main_arg3) = m ((c.tc : Thread Cert.AgluReferenceIdeal.nD Cert.AgluReferenceIdeal.τ).loc Cert.AgluReferenceIdeal.main_arg3))
      ∧ r.2.sem = fun _ => 0)

def quiescent_AoutKernel [hAoutKernel : Cert.AoutKernel.Facts] : Prop :=
  ∀ (m : (ℓ : Loc Cert.AoutKernel.nD Cert.AoutKernel.τ Cert.AoutKernel.sig) → Buf (Elt Bits) ℓ) (g : Dev Cert.AoutKernel.nD → PrngReg), Pre_AoutKernel m →
    θ_run (Cert.AoutKernel.defs (F := Bits)) (onTc (τ := Cert.AoutKernel.τ) (Cert.AoutKernel.main (F := Bits))) ⟨m, fun _ => 0, g⟩ (fun r => (∀ c : Dev Cert.AoutKernel.nD,
      r.2.mem ((c.tc : Thread Cert.AoutKernel.nD Cert.AoutKernel.τ).loc Cert.AoutKernel.main_arg0) = m ((c.tc : Thread Cert.AoutKernel.nD Cert.AoutKernel.τ).loc Cert.AoutKernel.main_arg0)
      ∧ r.2.mem ((c.tc : Thread Cert.AoutKernel.nD Cert.AoutKernel.τ).loc Cert.AoutKernel.main_arg1) = m ((c.tc : Thread Cert.AoutKernel.nD Cert.AoutKernel.τ).loc Cert.AoutKernel.main_arg1)
      ∧ r.2.mem ((c.tc : Thread Cert.AoutKernel.nD Cert.AoutKernel.τ).loc Cert.AoutKernel.main_arg2) = m ((c.tc : Thread Cert.AoutKernel.nD Cert.AoutKernel.τ).loc Cert.AoutKernel.main_arg2)
      ∧ r.2.mem ((c.tc : Thread Cert.AoutKernel.nD Cert.AoutKernel.τ).loc Cert.AoutKernel.main_arg3) = m ((c.tc : Thread Cert.AoutKernel.nD Cert.AoutKernel.τ).loc Cert.AoutKernel.main_arg3))
      ∧ r.2.sem = fun _ => 0)

def quiescent_AoutKernelIdeal [hAoutKernelIdeal : Cert.AoutKernelIdeal.Facts] : Prop :=
  ∀ (m : (ℓ : Loc Cert.AoutKernelIdeal.nD Cert.AoutKernelIdeal.τ Cert.AoutKernelIdeal.sig) → Buf (Elt Ideal) ℓ) (g : Dev Cert.AoutKernelIdeal.nD → PrngReg), Pre_AoutKernelIdeal m →
    θ_run (Cert.AoutKernelIdeal.defs (F := Ideal)) (onTc (τ := Cert.AoutKernelIdeal.τ) (Cert.AoutKernelIdeal.main (F := Ideal))) ⟨m, fun _ => 0, g⟩ (fun r => (∀ c : Dev Cert.AoutKernelIdeal.nD,
      r.2.mem ((c.tc : Thread Cert.AoutKernelIdeal.nD Cert.AoutKernelIdeal.τ).loc Cert.AoutKernelIdeal.main_arg0) = m ((c.tc : Thread Cert.AoutKernelIdeal.nD Cert.AoutKernelIdeal.τ).loc Cert.AoutKernelIdeal.main_arg0)
      ∧ r.2.mem ((c.tc : Thread Cert.AoutKernelIdeal.nD Cert.AoutKernelIdeal.τ).loc Cert.AoutKernelIdeal.main_arg1) = m ((c.tc : Thread Cert.AoutKernelIdeal.nD Cert.AoutKernelIdeal.τ).loc Cert.AoutKernelIdeal.main_arg1)
      ∧ r.2.mem ((c.tc : Thread Cert.AoutKernelIdeal.nD Cert.AoutKernelIdeal.τ).loc Cert.AoutKernelIdeal.main_arg2) = m ((c.tc : Thread Cert.AoutKernelIdeal.nD Cert.AoutKernelIdeal.τ).loc Cert.AoutKernelIdeal.main_arg2)
      ∧ r.2.mem ((c.tc : Thread Cert.AoutKernelIdeal.nD Cert.AoutKernelIdeal.τ).loc Cert.AoutKernelIdeal.main_arg3) = m ((c.tc : Thread Cert.AoutKernelIdeal.nD Cert.AoutKernelIdeal.τ).loc Cert.AoutKernelIdeal.main_arg3))
      ∧ r.2.sem = fun _ => 0)

def quiescent_AoutReferenceIdeal [hAoutReferenceIdeal : Cert.AoutReferenceIdeal.Facts] : Prop :=
  ∀ (m : (ℓ : Loc Cert.AoutReferenceIdeal.nD Cert.AoutReferenceIdeal.τ Cert.AoutReferenceIdeal.sig) → Buf (Elt Ideal) ℓ) (g : Dev Cert.AoutReferenceIdeal.nD → PrngReg), Pre_AoutReferenceIdeal m →
    θ_run (Cert.AoutReferenceIdeal.defs (F := Ideal)) (onTc (τ := Cert.AoutReferenceIdeal.τ) (Cert.AoutReferenceIdeal.main (F := Ideal))) ⟨m, fun _ => 0, g⟩ (fun r => (∀ c : Dev Cert.AoutReferenceIdeal.nD,
      r.2.mem ((c.tc : Thread Cert.AoutReferenceIdeal.nD Cert.AoutReferenceIdeal.τ).loc Cert.AoutReferenceIdeal.main_arg0) = m ((c.tc : Thread Cert.AoutReferenceIdeal.nD Cert.AoutReferenceIdeal.τ).loc Cert.AoutReferenceIdeal.main_arg0)
      ∧ r.2.mem ((c.tc : Thread Cert.AoutReferenceIdeal.nD Cert.AoutReferenceIdeal.τ).loc Cert.AoutReferenceIdeal.main_arg1) = m ((c.tc : Thread Cert.AoutReferenceIdeal.nD Cert.AoutReferenceIdeal.τ).loc Cert.AoutReferenceIdeal.main_arg1)
      ∧ r.2.mem ((c.tc : Thread Cert.AoutReferenceIdeal.nD Cert.AoutReferenceIdeal.τ).loc Cert.AoutReferenceIdeal.main_arg2) = m ((c.tc : Thread Cert.AoutReferenceIdeal.nD Cert.AoutReferenceIdeal.τ).loc Cert.AoutReferenceIdeal.main_arg2)
      ∧ r.2.mem ((c.tc : Thread Cert.AoutReferenceIdeal.nD Cert.AoutReferenceIdeal.τ).loc Cert.AoutReferenceIdeal.main_arg3) = m ((c.tc : Thread Cert.AoutReferenceIdeal.nD Cert.AoutReferenceIdeal.τ).loc Cert.AoutReferenceIdeal.main_arg3))
      ∧ r.2.sem = fun _ => 0)

def quiescent_ApoolKernel [hApoolKernel : Cert.ApoolKernel.Facts] : Prop :=
  ∀ (m : (ℓ : Loc Cert.ApoolKernel.nD Cert.ApoolKernel.τ Cert.ApoolKernel.sig) → Buf (Elt Bits) ℓ) (g : Dev Cert.ApoolKernel.nD → PrngReg), Pre_ApoolKernel m →
    θ_run (Cert.ApoolKernel.defs (F := Bits)) (onTc (τ := Cert.ApoolKernel.τ) (Cert.ApoolKernel.main (F := Bits))) ⟨m, fun _ => 0, g⟩ (fun r => (∀ c : Dev Cert.ApoolKernel.nD,
      r.2.mem ((c.tc : Thread Cert.ApoolKernel.nD Cert.ApoolKernel.τ).loc Cert.ApoolKernel.main_arg0) = m ((c.tc : Thread Cert.ApoolKernel.nD Cert.ApoolKernel.τ).loc Cert.ApoolKernel.main_arg0)
      ∧ r.2.mem ((c.tc : Thread Cert.ApoolKernel.nD Cert.ApoolKernel.τ).loc Cert.ApoolKernel.main_arg1) = m ((c.tc : Thread Cert.ApoolKernel.nD Cert.ApoolKernel.τ).loc Cert.ApoolKernel.main_arg1)
      ∧ r.2.mem ((c.tc : Thread Cert.ApoolKernel.nD Cert.ApoolKernel.τ).loc Cert.ApoolKernel.main_arg2) = m ((c.tc : Thread Cert.ApoolKernel.nD Cert.ApoolKernel.τ).loc Cert.ApoolKernel.main_arg2)
      ∧ r.2.mem ((c.tc : Thread Cert.ApoolKernel.nD Cert.ApoolKernel.τ).loc Cert.ApoolKernel.main_arg3) = m ((c.tc : Thread Cert.ApoolKernel.nD Cert.ApoolKernel.τ).loc Cert.ApoolKernel.main_arg3))
      ∧ r.2.sem = fun _ => 0)

def quiescent_ApoolKernelIdeal [hApoolKernelIdeal : Cert.ApoolKernelIdeal.Facts] : Prop :=
  ∀ (m : (ℓ : Loc Cert.ApoolKernelIdeal.nD Cert.ApoolKernelIdeal.τ Cert.ApoolKernelIdeal.sig) → Buf (Elt Ideal) ℓ) (g : Dev Cert.ApoolKernelIdeal.nD → PrngReg), Pre_ApoolKernelIdeal m →
    θ_run (Cert.ApoolKernelIdeal.defs (F := Ideal)) (onTc (τ := Cert.ApoolKernelIdeal.τ) (Cert.ApoolKernelIdeal.main (F := Ideal))) ⟨m, fun _ => 0, g⟩ (fun r => (∀ c : Dev Cert.ApoolKernelIdeal.nD,
      r.2.mem ((c.tc : Thread Cert.ApoolKernelIdeal.nD Cert.ApoolKernelIdeal.τ).loc Cert.ApoolKernelIdeal.main_arg0) = m ((c.tc : Thread Cert.ApoolKernelIdeal.nD Cert.ApoolKernelIdeal.τ).loc Cert.ApoolKernelIdeal.main_arg0)
      ∧ r.2.mem ((c.tc : Thread Cert.ApoolKernelIdeal.nD Cert.ApoolKernelIdeal.τ).loc Cert.ApoolKernelIdeal.main_arg1) = m ((c.tc : Thread Cert.ApoolKernelIdeal.nD Cert.ApoolKernelIdeal.τ).loc Cert.ApoolKernelIdeal.main_arg1)
      ∧ r.2.mem ((c.tc : Thread Cert.ApoolKernelIdeal.nD Cert.ApoolKernelIdeal.τ).loc Cert.ApoolKernelIdeal.main_arg2) = m ((c.tc : Thread Cert.ApoolKernelIdeal.nD Cert.ApoolKernelIdeal.τ).loc Cert.ApoolKernelIdeal.main_arg2)
      ∧ r.2.mem ((c.tc : Thread Cert.ApoolKernelIdeal.nD Cert.ApoolKernelIdeal.τ).loc Cert.ApoolKernelIdeal.main_arg3) = m ((c.tc : Thread Cert.ApoolKernelIdeal.nD Cert.ApoolKernelIdeal.τ).loc Cert.ApoolKernelIdeal.main_arg3))
      ∧ r.2.sem = fun _ => 0)

def quiescent_ApoolReferenceIdeal [hApoolReferenceIdeal : Cert.ApoolReferenceIdeal.Facts] : Prop :=
  ∀ (m : (ℓ : Loc Cert.ApoolReferenceIdeal.nD Cert.ApoolReferenceIdeal.τ Cert.ApoolReferenceIdeal.sig) → Buf (Elt Ideal) ℓ) (g : Dev Cert.ApoolReferenceIdeal.nD → PrngReg), Pre_ApoolReferenceIdeal m →
    θ_run (Cert.ApoolReferenceIdeal.defs (F := Ideal)) (onTc (τ := Cert.ApoolReferenceIdeal.τ) (Cert.ApoolReferenceIdeal.main (F := Ideal))) ⟨m, fun _ => 0, g⟩ (fun r => (∀ c : Dev Cert.ApoolReferenceIdeal.nD,
      r.2.mem ((c.tc : Thread Cert.ApoolReferenceIdeal.nD Cert.ApoolReferenceIdeal.τ).loc Cert.ApoolReferenceIdeal.main_arg0) = m ((c.tc : Thread Cert.ApoolReferenceIdeal.nD Cert.ApoolReferenceIdeal.τ).loc Cert.ApoolReferenceIdeal.main_arg0)
      ∧ r.2.mem ((c.tc : Thread Cert.ApoolReferenceIdeal.nD Cert.ApoolReferenceIdeal.τ).loc Cert.ApoolReferenceIdeal.main_arg1) = m ((c.tc : Thread Cert.ApoolReferenceIdeal.nD Cert.ApoolReferenceIdeal.τ).loc Cert.ApoolReferenceIdeal.main_arg1)
      ∧ r.2.mem ((c.tc : Thread Cert.ApoolReferenceIdeal.nD Cert.ApoolReferenceIdeal.τ).loc Cert.ApoolReferenceIdeal.main_arg2) = m ((c.tc : Thread Cert.ApoolReferenceIdeal.nD Cert.ApoolReferenceIdeal.τ).loc Cert.ApoolReferenceIdeal.main_arg2)
      ∧ r.2.mem ((c.tc : Thread Cert.ApoolReferenceIdeal.nD Cert.ApoolReferenceIdeal.τ).loc Cert.ApoolReferenceIdeal.main_arg3) = m ((c.tc : Thread Cert.ApoolReferenceIdeal.nD Cert.ApoolReferenceIdeal.τ).loc Cert.ApoolReferenceIdeal.main_arg3))
      ∧ r.2.sem = fun _ => 0)

def quiescent_AadaKernel [hAadaKernel : Cert.AadaKernel.Facts] : Prop :=
  ∀ (m : (ℓ : Loc Cert.AadaKernel.nD Cert.AadaKernel.τ Cert.AadaKernel.sig) → Buf (Elt Bits) ℓ) (g : Dev Cert.AadaKernel.nD → PrngReg), Pre_AadaKernel m →
    θ_run (Cert.AadaKernel.defs (F := Bits)) (onTc (τ := Cert.AadaKernel.τ) (Cert.AadaKernel.main (F := Bits))) ⟨m, fun _ => 0, g⟩ (fun r => (∀ c : Dev Cert.AadaKernel.nD,
      r.2.mem ((c.tc : Thread Cert.AadaKernel.nD Cert.AadaKernel.τ).loc Cert.AadaKernel.main_arg0) = m ((c.tc : Thread Cert.AadaKernel.nD Cert.AadaKernel.τ).loc Cert.AadaKernel.main_arg0)
      ∧ r.2.mem ((c.tc : Thread Cert.AadaKernel.nD Cert.AadaKernel.τ).loc Cert.AadaKernel.main_arg1) = m ((c.tc : Thread Cert.AadaKernel.nD Cert.AadaKernel.τ).loc Cert.AadaKernel.main_arg1)
      ∧ r.2.mem ((c.tc : Thread Cert.AadaKernel.nD Cert.AadaKernel.τ).loc Cert.AadaKernel.main_arg2) = m ((c.tc : Thread Cert.AadaKernel.nD Cert.AadaKernel.τ).loc Cert.AadaKernel.main_arg2)
      ∧ r.2.mem ((c.tc : Thread Cert.AadaKernel.nD Cert.AadaKernel.τ).loc Cert.AadaKernel.main_arg3) = m ((c.tc : Thread Cert.AadaKernel.nD Cert.AadaKernel.τ).loc Cert.AadaKernel.main_arg3))
      ∧ r.2.sem = fun _ => 0)

def quiescent_AadaKernelIdeal [hAadaKernelIdeal : Cert.AadaKernelIdeal.Facts] : Prop :=
  ∀ (m : (ℓ : Loc Cert.AadaKernelIdeal.nD Cert.AadaKernelIdeal.τ Cert.AadaKernelIdeal.sig) → Buf (Elt Ideal) ℓ) (g : Dev Cert.AadaKernelIdeal.nD → PrngReg), Pre_AadaKernelIdeal m →
    θ_run (Cert.AadaKernelIdeal.defs (F := Ideal)) (onTc (τ := Cert.AadaKernelIdeal.τ) (Cert.AadaKernelIdeal.main (F := Ideal))) ⟨m, fun _ => 0, g⟩ (fun r => (∀ c : Dev Cert.AadaKernelIdeal.nD,
      r.2.mem ((c.tc : Thread Cert.AadaKernelIdeal.nD Cert.AadaKernelIdeal.τ).loc Cert.AadaKernelIdeal.main_arg0) = m ((c.tc : Thread Cert.AadaKernelIdeal.nD Cert.AadaKernelIdeal.τ).loc Cert.AadaKernelIdeal.main_arg0)
      ∧ r.2.mem ((c.tc : Thread Cert.AadaKernelIdeal.nD Cert.AadaKernelIdeal.τ).loc Cert.AadaKernelIdeal.main_arg1) = m ((c.tc : Thread Cert.AadaKernelIdeal.nD Cert.AadaKernelIdeal.τ).loc Cert.AadaKernelIdeal.main_arg1)
      ∧ r.2.mem ((c.tc : Thread Cert.AadaKernelIdeal.nD Cert.AadaKernelIdeal.τ).loc Cert.AadaKernelIdeal.main_arg2) = m ((c.tc : Thread Cert.AadaKernelIdeal.nD Cert.AadaKernelIdeal.τ).loc Cert.AadaKernelIdeal.main_arg2)
      ∧ r.2.mem ((c.tc : Thread Cert.AadaKernelIdeal.nD Cert.AadaKernelIdeal.τ).loc Cert.AadaKernelIdeal.main_arg3) = m ((c.tc : Thread Cert.AadaKernelIdeal.nD Cert.AadaKernelIdeal.τ).loc Cert.AadaKernelIdeal.main_arg3))
      ∧ r.2.sem = fun _ => 0)

def quiescent_AadaReferenceIdeal [hAadaReferenceIdeal : Cert.AadaReferenceIdeal.Facts] : Prop :=
  ∀ (m : (ℓ : Loc Cert.AadaReferenceIdeal.nD Cert.AadaReferenceIdeal.τ Cert.AadaReferenceIdeal.sig) → Buf (Elt Ideal) ℓ) (g : Dev Cert.AadaReferenceIdeal.nD → PrngReg), Pre_AadaReferenceIdeal m →
    θ_run (Cert.AadaReferenceIdeal.defs (F := Ideal)) (onTc (τ := Cert.AadaReferenceIdeal.τ) (Cert.AadaReferenceIdeal.main (F := Ideal))) ⟨m, fun _ => 0, g⟩ (fun r => (∀ c : Dev Cert.AadaReferenceIdeal.nD,
      r.2.mem ((c.tc : Thread Cert.AadaReferenceIdeal.nD Cert.AadaReferenceIdeal.τ).loc Cert.AadaReferenceIdeal.main_arg0) = m ((c.tc : Thread Cert.AadaReferenceIdeal.nD Cert.AadaReferenceIdeal.τ).loc Cert.AadaReferenceIdeal.main_arg0)
      ∧ r.2.mem ((c.tc : Thread Cert.AadaReferenceIdeal.nD Cert.AadaReferenceIdeal.τ).loc Cert.AadaReferenceIdeal.main_arg1) = m ((c.tc : Thread Cert.AadaReferenceIdeal.nD Cert.AadaReferenceIdeal.τ).loc Cert.AadaReferenceIdeal.main_arg1)
      ∧ r.2.mem ((c.tc : Thread Cert.AadaReferenceIdeal.nD Cert.AadaReferenceIdeal.τ).loc Cert.AadaReferenceIdeal.main_arg2) = m ((c.tc : Thread Cert.AadaReferenceIdeal.nD Cert.AadaReferenceIdeal.τ).loc Cert.AadaReferenceIdeal.main_arg2)
      ∧ r.2.mem ((c.tc : Thread Cert.AadaReferenceIdeal.nD Cert.AadaReferenceIdeal.τ).loc Cert.AadaReferenceIdeal.main_arg3) = m ((c.tc : Thread Cert.AadaReferenceIdeal.nD Cert.AadaReferenceIdeal.τ).loc Cert.AadaReferenceIdeal.main_arg3))
      ∧ r.2.sem = fun _ => 0)

def quiescent_AbKernel [hAbKernel : Cert.AbKernel.Facts] : Prop :=
  ∀ (m : (ℓ : Loc Cert.AbKernel.nD Cert.AbKernel.τ Cert.AbKernel.sig) → Buf (Elt Bits) ℓ) (g : Dev Cert.AbKernel.nD → PrngReg), Pre_AbKernel m →
    θ_run (Cert.AbKernel.defs (F := Bits)) (onTc (τ := Cert.AbKernel.τ) (Cert.AbKernel.main (F := Bits))) ⟨m, fun _ => 0, g⟩ (fun r => (∀ c : Dev Cert.AbKernel.nD,
      r.2.mem ((c.tc : Thread Cert.AbKernel.nD Cert.AbKernel.τ).loc Cert.AbKernel.main_arg0) = m ((c.tc : Thread Cert.AbKernel.nD Cert.AbKernel.τ).loc Cert.AbKernel.main_arg0)
      ∧ r.2.mem ((c.tc : Thread Cert.AbKernel.nD Cert.AbKernel.τ).loc Cert.AbKernel.main_arg1) = m ((c.tc : Thread Cert.AbKernel.nD Cert.AbKernel.τ).loc Cert.AbKernel.main_arg1)
      ∧ r.2.mem ((c.tc : Thread Cert.AbKernel.nD Cert.AbKernel.τ).loc Cert.AbKernel.main_arg2) = m ((c.tc : Thread Cert.AbKernel.nD Cert.AbKernel.τ).loc Cert.AbKernel.main_arg2)
      ∧ r.2.mem ((c.tc : Thread Cert.AbKernel.nD Cert.AbKernel.τ).loc Cert.AbKernel.main_arg3) = m ((c.tc : Thread Cert.AbKernel.nD Cert.AbKernel.τ).loc Cert.AbKernel.main_arg3))
      ∧ r.2.sem = fun _ => 0)

def quiescent_AbKernelIdeal [hAbKernelIdeal : Cert.AbKernelIdeal.Facts] : Prop :=
  ∀ (m : (ℓ : Loc Cert.AbKernelIdeal.nD Cert.AbKernelIdeal.τ Cert.AbKernelIdeal.sig) → Buf (Elt Ideal) ℓ) (g : Dev Cert.AbKernelIdeal.nD → PrngReg), Pre_AbKernelIdeal m →
    θ_run (Cert.AbKernelIdeal.defs (F := Ideal)) (onTc (τ := Cert.AbKernelIdeal.τ) (Cert.AbKernelIdeal.main (F := Ideal))) ⟨m, fun _ => 0, g⟩ (fun r => (∀ c : Dev Cert.AbKernelIdeal.nD,
      r.2.mem ((c.tc : Thread Cert.AbKernelIdeal.nD Cert.AbKernelIdeal.τ).loc Cert.AbKernelIdeal.main_arg0) = m ((c.tc : Thread Cert.AbKernelIdeal.nD Cert.AbKernelIdeal.τ).loc Cert.AbKernelIdeal.main_arg0)
      ∧ r.2.mem ((c.tc : Thread Cert.AbKernelIdeal.nD Cert.AbKernelIdeal.τ).loc Cert.AbKernelIdeal.main_arg1) = m ((c.tc : Thread Cert.AbKernelIdeal.nD Cert.AbKernelIdeal.τ).loc Cert.AbKernelIdeal.main_arg1)
      ∧ r.2.mem ((c.tc : Thread Cert.AbKernelIdeal.nD Cert.AbKernelIdeal.τ).loc Cert.AbKernelIdeal.main_arg2) = m ((c.tc : Thread Cert.AbKernelIdeal.nD Cert.AbKernelIdeal.τ).loc Cert.AbKernelIdeal.main_arg2)
      ∧ r.2.mem ((c.tc : Thread Cert.AbKernelIdeal.nD Cert.AbKernelIdeal.τ).loc Cert.AbKernelIdeal.main_arg3) = m ((c.tc : Thread Cert.AbKernelIdeal.nD Cert.AbKernelIdeal.τ).loc Cert.AbKernelIdeal.main_arg3))
      ∧ r.2.sem = fun _ => 0)

def quiescent_AbReferenceIdeal [hAbReferenceIdeal : Cert.AbReferenceIdeal.Facts] : Prop :=
  ∀ (m : (ℓ : Loc Cert.AbReferenceIdeal.nD Cert.AbReferenceIdeal.τ Cert.AbReferenceIdeal.sig) → Buf (Elt Ideal) ℓ) (g : Dev Cert.AbReferenceIdeal.nD → PrngReg), Pre_AbReferenceIdeal m →
    θ_run (Cert.AbReferenceIdeal.defs (F := Ideal)) (onTc (τ := Cert.AbReferenceIdeal.τ) (Cert.AbReferenceIdeal.main (F := Ideal))) ⟨m, fun _ => 0, g⟩ (fun r => (∀ c : Dev Cert.AbReferenceIdeal.nD,
      r.2.mem ((c.tc : Thread Cert.AbReferenceIdeal.nD Cert.AbReferenceIdeal.τ).loc Cert.AbReferenceIdeal.main_arg0) = m ((c.tc : Thread Cert.AbReferenceIdeal.nD Cert.AbReferenceIdeal.τ).loc Cert.AbReferenceIdeal.main_arg0)
      ∧ r.2.mem ((c.tc : Thread Cert.AbReferenceIdeal.nD Cert.AbReferenceIdeal.τ).loc Cert.AbReferenceIdeal.main_arg1) = m ((c.tc : Thread Cert.AbReferenceIdeal.nD Cert.AbReferenceIdeal.τ).loc Cert.AbReferenceIdeal.main_arg1)
      ∧ r.2.mem ((c.tc : Thread Cert.AbReferenceIdeal.nD Cert.AbReferenceIdeal.τ).loc Cert.AbReferenceIdeal.main_arg2) = m ((c.tc : Thread Cert.AbReferenceIdeal.nD Cert.AbReferenceIdeal.τ).loc Cert.AbReferenceIdeal.main_arg2)
      ∧ r.2.mem ((c.tc : Thread Cert.AbReferenceIdeal.nD Cert.AbReferenceIdeal.τ).loc Cert.AbReferenceIdeal.main_arg3) = m ((c.tc : Thread Cert.AbReferenceIdeal.nD Cert.AbReferenceIdeal.τ).loc Cert.AbReferenceIdeal.main_arg3))
      ∧ r.2.sem = fun _ => 0)

def quiescent_AcKernel [hAcKernel : Cert.AcKernel.Facts] : Prop :=
  ∀ (m : (ℓ : Loc Cert.AcKernel.nD Cert.AcKernel.τ Cert.AcKernel.sig) → Buf (Elt Bits) ℓ) (g : Dev Cert.AcKernel.nD → PrngReg), Pre_AcKernel m →
    θ_run (Cert.AcKernel.defs (F := Bits)) (onTc (τ := Cert.AcKernel.τ) (Cert.AcKernel.main (F := Bits))) ⟨m, fun _ => 0, g⟩ (fun r => (∀ c : Dev Cert.AcKernel.nD,
      r.2.mem ((c.tc : Thread Cert.AcKernel.nD Cert.AcKernel.τ).loc Cert.AcKernel.main_arg0) = m ((c.tc : Thread Cert.AcKernel.nD Cert.AcKernel.τ).loc Cert.AcKernel.main_arg0)
      ∧ r.2.mem ((c.tc : Thread Cert.AcKernel.nD Cert.AcKernel.τ).loc Cert.AcKernel.main_arg1) = m ((c.tc : Thread Cert.AcKernel.nD Cert.AcKernel.τ).loc Cert.AcKernel.main_arg1)
      ∧ r.2.mem ((c.tc : Thread Cert.AcKernel.nD Cert.AcKernel.τ).loc Cert.AcKernel.main_arg2) = m ((c.tc : Thread Cert.AcKernel.nD Cert.AcKernel.τ).loc Cert.AcKernel.main_arg2)
      ∧ r.2.mem ((c.tc : Thread Cert.AcKernel.nD Cert.AcKernel.τ).loc Cert.AcKernel.main_arg3) = m ((c.tc : Thread Cert.AcKernel.nD Cert.AcKernel.τ).loc Cert.AcKernel.main_arg3))
      ∧ r.2.sem = fun _ => 0)

def quiescent_AcKernelIdeal [hAcKernelIdeal : Cert.AcKernelIdeal.Facts] : Prop :=
  ∀ (m : (ℓ : Loc Cert.AcKernelIdeal.nD Cert.AcKernelIdeal.τ Cert.AcKernelIdeal.sig) → Buf (Elt Ideal) ℓ) (g : Dev Cert.AcKernelIdeal.nD → PrngReg), Pre_AcKernelIdeal m →
    θ_run (Cert.AcKernelIdeal.defs (F := Ideal)) (onTc (τ := Cert.AcKernelIdeal.τ) (Cert.AcKernelIdeal.main (F := Ideal))) ⟨m, fun _ => 0, g⟩ (fun r => (∀ c : Dev Cert.AcKernelIdeal.nD,
      r.2.mem ((c.tc : Thread Cert.AcKernelIdeal.nD Cert.AcKernelIdeal.τ).loc Cert.AcKernelIdeal.main_arg0) = m ((c.tc : Thread Cert.AcKernelIdeal.nD Cert.AcKernelIdeal.τ).loc Cert.AcKernelIdeal.main_arg0)
      ∧ r.2.mem ((c.tc : Thread Cert.AcKernelIdeal.nD Cert.AcKernelIdeal.τ).loc Cert.AcKernelIdeal.main_arg1) = m ((c.tc : Thread Cert.AcKernelIdeal.nD Cert.AcKernelIdeal.τ).loc Cert.AcKernelIdeal.main_arg1)
      ∧ r.2.mem ((c.tc : Thread Cert.AcKernelIdeal.nD Cert.AcKernelIdeal.τ).loc Cert.AcKernelIdeal.main_arg2) = m ((c.tc : Thread Cert.AcKernelIdeal.nD Cert.AcKernelIdeal.τ).loc Cert.AcKernelIdeal.main_arg2)
      ∧ r.2.mem ((c.tc : Thread Cert.AcKernelIdeal.nD Cert.AcKernelIdeal.τ).loc Cert.AcKernelIdeal.main_arg3) = m ((c.tc : Thread Cert.AcKernelIdeal.nD Cert.AcKernelIdeal.τ).loc Cert.AcKernelIdeal.main_arg3))
      ∧ r.2.sem = fun _ => 0)

def quiescent_AcReferenceIdeal [hAcReferenceIdeal : Cert.AcReferenceIdeal.Facts] : Prop :=
  ∀ (m : (ℓ : Loc Cert.AcReferenceIdeal.nD Cert.AcReferenceIdeal.τ Cert.AcReferenceIdeal.sig) → Buf (Elt Ideal) ℓ) (g : Dev Cert.AcReferenceIdeal.nD → PrngReg), Pre_AcReferenceIdeal m →
    θ_run (Cert.AcReferenceIdeal.defs (F := Ideal)) (onTc (τ := Cert.AcReferenceIdeal.τ) (Cert.AcReferenceIdeal.main (F := Ideal))) ⟨m, fun _ => 0, g⟩ (fun r => (∀ c : Dev Cert.AcReferenceIdeal.nD,
      r.2.mem ((c.tc : Thread Cert.AcReferenceIdeal.nD Cert.AcReferenceIdeal.τ).loc Cert.AcReferenceIdeal.main_arg0) = m ((c.tc : Thread Cert.AcReferenceIdeal.nD Cert.AcReferenceIdeal.τ).loc Cert.AcReferenceIdeal.main_arg0)
      ∧ r.2.mem ((c.tc : Thread Cert.AcReferenceIdeal.nD Cert.AcReferenceIdeal.τ).loc Cert.AcReferenceIdeal.main_arg1) = m ((c.tc : Thread Cert.AcReferenceIdeal.nD Cert.AcReferenceIdeal.τ).loc Cert.AcReferenceIdeal.main_arg1)
      ∧ r.2.mem ((c.tc : Thread Cert.AcReferenceIdeal.nD Cert.AcReferenceIdeal.τ).loc Cert.AcReferenceIdeal.main_arg2) = m ((c.tc : Thread Cert.AcReferenceIdeal.nD Cert.AcReferenceIdeal.τ).loc Cert.AcReferenceIdeal.main_arg2)
      ∧ r.2.mem ((c.tc : Thread Cert.AcReferenceIdeal.nD Cert.AcReferenceIdeal.τ).loc Cert.AcReferenceIdeal.main_arg3) = m ((c.tc : Thread Cert.AcReferenceIdeal.nD Cert.AcReferenceIdeal.τ).loc Cert.AcReferenceIdeal.main_arg3))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_OutKernel_OutKernelIdeal : Prop :=
  True

def algebraic_OutKernelIdeal_OutReferenceIdeal_pre_finite [hOutKernelIdeal : Cert.OutKernelIdeal.Facts] [hOutReferenceIdeal : Cert.OutReferenceIdeal.Facts] [hPre_finite : Cert.Pre_finite.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal_finite m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)) →
    ∃ (v0 : (c : Dev Cert.OutKernelIdeal.nD) → Buf (Elt Ideal) ((c.tc : Thread Cert.OutKernelIdeal.nD Cert.OutKernelIdeal.τ).loc Cert.OutKernelIdeal.main_v16_0)) (v1 : (c : Dev Cert.OutKernelIdeal.nD) → Buf (Elt Ideal) ((c.tc : Thread Cert.OutKernelIdeal.nD Cert.OutKernelIdeal.τ).loc Cert.OutKernelIdeal.main_v16_1)) (v2 : (c : Dev Cert.OutKernelIdeal.nD) → Buf (Elt Ideal) ((c.tc : Thread Cert.OutKernelIdeal.nD Cert.OutKernelIdeal.τ).loc Cert.OutKernelIdeal.main_v16_2)) (v3 : (c : Dev Cert.OutKernelIdeal.nD) → Buf (Elt Ideal) ((c.tc : Thread Cert.OutKernelIdeal.nD Cert.OutKernelIdeal.τ).loc Cert.OutKernelIdeal.main_v16_3)) (v4 : (c : Dev Cert.OutKernelIdeal.nD) → Buf (Elt Ideal) ((c.tc : Thread Cert.OutKernelIdeal.nD Cert.OutKernelIdeal.τ).loc Cert.OutKernelIdeal.main_v16_4)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v16_0) = v0 c
          ∧ r.2.mem ((c.tc : Thread Cert.OutKernelIdeal.nD Cert.OutKernelIdeal.τ).loc Cert.OutKernelIdeal.main_v16_1) = v1 c
          ∧ r.2.mem ((c.tc : Thread Cert.OutKernelIdeal.nD Cert.OutKernelIdeal.τ).loc Cert.OutKernelIdeal.main_v16_2) = v2 c
          ∧ r.2.mem ((c.tc : Thread Cert.OutKernelIdeal.nD Cert.OutKernelIdeal.τ).loc Cert.OutKernelIdeal.main_v16_3) = v3 c
          ∧ r.2.mem ((c.tc : Thread Cert.OutKernelIdeal.nD Cert.OutKernelIdeal.τ).loc Cert.OutKernelIdeal.main_v16_4) = v4 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v29) = v0 c
          ∧ r.2.mem ((c.tc : Thread Cert.OutReferenceIdeal.nD Cert.OutReferenceIdeal.τ).loc Cert.OutReferenceIdeal.main_v36) = v1 c
          ∧ r.2.mem ((c.tc : Thread Cert.OutReferenceIdeal.nD Cert.OutReferenceIdeal.τ).loc Cert.OutReferenceIdeal.main_v41) = v2 c
          ∧ r.2.mem ((c.tc : Thread Cert.OutReferenceIdeal.nD Cert.OutReferenceIdeal.τ).loc Cert.OutReferenceIdeal.main_v34) = v3 c
          ∧ r.2.mem ((c.tc : Thread Cert.OutReferenceIdeal.nD Cert.OutReferenceIdeal.τ).loc Cert.OutReferenceIdeal.main_v25) = v4 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)
      ∧ m' ((c.tc : Thread Cert.InReferenceIdeal.nD Cert.InReferenceIdeal.τ).loc Cert.InReferenceIdeal.main_arg7) = m ((c.tc : Thread Cert.InKernelIdeal.nD Cert.InKernelIdeal.τ).loc Cert.InKernelIdeal.main_arg7)
      ∧ m' ((c.tc : Thread Cert.InReferenceIdeal.nD Cert.InReferenceIdeal.τ).loc Cert.InReferenceIdeal.main_arg8) = m ((c.tc : Thread Cert.InKernelIdeal.nD Cert.InKernelIdeal.τ).loc Cert.InKernelIdeal.main_arg8)
      ∧ m' ((c.tc : Thread Cert.InReferenceIdeal.nD Cert.InReferenceIdeal.τ).loc Cert.InReferenceIdeal.main_arg9) = m ((c.tc : Thread Cert.InKernelIdeal.nD Cert.InKernelIdeal.τ).loc Cert.InKernelIdeal.main_arg9)
      ∧ m' ((c.tc : Thread Cert.InReferenceIdeal.nD Cert.InReferenceIdeal.τ).loc Cert.InReferenceIdeal.main_arg10) = m ((c.tc : Thread Cert.InKernelIdeal.nD Cert.InKernelIdeal.τ).loc Cert.InKernelIdeal.main_arg10)
      ∧ m' ((c.tc : Thread Cert.InReferenceIdeal.nD Cert.InReferenceIdeal.τ).loc Cert.InReferenceIdeal.main_arg11) = m ((c.tc : Thread Cert.InKernelIdeal.nD Cert.InKernelIdeal.τ).loc Cert.InKernelIdeal.main_arg11)) →
    ∃ (v0 : (c : Dev Cert.InKernelIdeal.nD) → Buf (Elt Ideal) ((c.tc : Thread Cert.InKernelIdeal.nD Cert.InKernelIdeal.τ).loc Cert.InKernelIdeal.main_v0_0)) (v1 : (c : Dev Cert.InKernelIdeal.nD) → Buf (Elt Ideal) ((c.tc : Thread Cert.InKernelIdeal.nD Cert.InKernelIdeal.τ).loc Cert.InKernelIdeal.main_v0_1)) (v2 : (c : Dev Cert.InKernelIdeal.nD) → Buf (Elt Ideal) ((c.tc : Thread Cert.InKernelIdeal.nD Cert.InKernelIdeal.τ).loc Cert.InKernelIdeal.main_v0_2)) (v3 : (c : Dev Cert.InKernelIdeal.nD) → Buf (Elt Ideal) ((c.tc : Thread Cert.InKernelIdeal.nD Cert.InKernelIdeal.τ).loc Cert.InKernelIdeal.main_v0_3)) (v4 : (c : Dev Cert.InKernelIdeal.nD) → Buf (Elt Ideal) ((c.tc : Thread Cert.InKernelIdeal.nD Cert.InKernelIdeal.τ).loc Cert.InKernelIdeal.main_v0_4)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v0_0) = v0 c
          ∧ r.2.mem ((c.tc : Thread Cert.InKernelIdeal.nD Cert.InKernelIdeal.τ).loc Cert.InKernelIdeal.main_v0_1) = v1 c
          ∧ r.2.mem ((c.tc : Thread Cert.InKernelIdeal.nD Cert.InKernelIdeal.τ).loc Cert.InKernelIdeal.main_v0_2) = v2 c
          ∧ r.2.mem ((c.tc : Thread Cert.InKernelIdeal.nD Cert.InKernelIdeal.τ).loc Cert.InKernelIdeal.main_v0_3) = v3 c
          ∧ r.2.mem ((c.tc : Thread Cert.InKernelIdeal.nD Cert.InKernelIdeal.τ).loc Cert.InKernelIdeal.main_v0_4) = v4 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
          ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
          ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8)
          ∧ r.2.mem ((c.tc : Thread Cert.InKernelIdeal.nD Cert.InKernelIdeal.τ).loc Cert.InKernelIdeal.main_arg9) = m ((c.tc : Thread Cert.InKernelIdeal.nD Cert.InKernelIdeal.τ).loc Cert.InKernelIdeal.main_arg9)
          ∧ r.2.mem ((c.tc : Thread Cert.InKernelIdeal.nD Cert.InKernelIdeal.τ).loc Cert.InKernelIdeal.main_arg10) = m ((c.tc : Thread Cert.InKernelIdeal.nD Cert.InKernelIdeal.τ).loc Cert.InKernelIdeal.main_arg10)
          ∧ r.2.mem ((c.tc : Thread Cert.InKernelIdeal.nD Cert.InKernelIdeal.τ).loc Cert.InKernelIdeal.main_arg11) = m ((c.tc : Thread Cert.InKernelIdeal.nD Cert.InKernelIdeal.τ).loc Cert.InKernelIdeal.main_arg11))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v65) = v0 c
          ∧ r.2.mem ((c.tc : Thread Cert.InReferenceIdeal.nD Cert.InReferenceIdeal.τ).loc Cert.InReferenceIdeal.main_v66) = v1 c
          ∧ r.2.mem ((c.tc : Thread Cert.InReferenceIdeal.nD Cert.InReferenceIdeal.τ).loc Cert.InReferenceIdeal.main_v43) = v2 c
          ∧ r.2.mem ((c.tc : Thread Cert.InReferenceIdeal.nD Cert.InReferenceIdeal.τ).loc Cert.InReferenceIdeal.main_v40) = v3 c
          ∧ r.2.mem ((c.tc : Thread Cert.InReferenceIdeal.nD Cert.InReferenceIdeal.τ).loc Cert.InReferenceIdeal.main_v67) = v4 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6)
          ∧ r.2.mem ((c.tc : Thread Cert.InReferenceIdeal.nD Cert.InReferenceIdeal.τ).loc Cert.InReferenceIdeal.main_arg7) = m' ((c.tc : Thread Cert.InReferenceIdeal.nD Cert.InReferenceIdeal.τ).loc Cert.InReferenceIdeal.main_arg7)
          ∧ r.2.mem ((c.tc : Thread Cert.InReferenceIdeal.nD Cert.InReferenceIdeal.τ).loc Cert.InReferenceIdeal.main_arg8) = m' ((c.tc : Thread Cert.InReferenceIdeal.nD Cert.InReferenceIdeal.τ).loc Cert.InReferenceIdeal.main_arg8)
          ∧ r.2.mem ((c.tc : Thread Cert.InReferenceIdeal.nD Cert.InReferenceIdeal.τ).loc Cert.InReferenceIdeal.main_arg9) = m' ((c.tc : Thread Cert.InReferenceIdeal.nD Cert.InReferenceIdeal.τ).loc Cert.InReferenceIdeal.main_arg9)
          ∧ r.2.mem ((c.tc : Thread Cert.InReferenceIdeal.nD Cert.InReferenceIdeal.τ).loc Cert.InReferenceIdeal.main_arg10) = m' ((c.tc : Thread Cert.InReferenceIdeal.nD Cert.InReferenceIdeal.τ).loc Cert.InReferenceIdeal.main_arg10)
          ∧ r.2.mem ((c.tc : Thread Cert.InReferenceIdeal.nD Cert.InReferenceIdeal.τ).loc Cert.InReferenceIdeal.main_arg11) = m' ((c.tc : Thread Cert.InReferenceIdeal.nD Cert.InReferenceIdeal.τ).loc Cert.InReferenceIdeal.main_arg11))

def preserves_GluKernel_GluKernelIdeal : Prop :=
  IdealRules.named_const.Statement Cert.GluKernelIdeal.κ "c" .f32 0x3D372713#32 ((8943 / 200000 : ℝ) : EReal)
  ∧ IdealRules.named_const.Statement Cert.GluKernelIdeal.κ "c3" .f32 0x3E095D4F#32 ((26829 / 200000 : ℝ) : EReal)

def algebraic_GluKernelIdeal_GluReferenceIdeal_pre_finite_glu [hGluKernelIdeal : Cert.GluKernelIdeal.Facts] [hGluReferenceIdeal : Cert.GluReferenceIdeal.Facts] [hPre_finite_glu : Cert.Pre_finite_glu.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluKernelIdeal_finite_glu m →
    (∀ c : Dev Cert.GluKernelIdeal.nD,
      m' ((c.tc : Thread Cert.GluReferenceIdeal.nD Cert.GluReferenceIdeal.τ).loc Cert.GluReferenceIdeal.main_arg0) = m ((c.tc : Thread Cert.GluKernelIdeal.nD Cert.GluKernelIdeal.τ).loc Cert.GluKernelIdeal.main_arg0)
      ∧ m' ((c.tc : Thread Cert.GluReferenceIdeal.nD Cert.GluReferenceIdeal.τ).loc Cert.GluReferenceIdeal.main_arg1) = m ((c.tc : Thread Cert.GluKernelIdeal.nD Cert.GluKernelIdeal.τ).loc Cert.GluKernelIdeal.main_arg1)
      ∧ m' ((c.tc : Thread Cert.GluReferenceIdeal.nD Cert.GluReferenceIdeal.τ).loc Cert.GluReferenceIdeal.main_arg2) = m ((c.tc : Thread Cert.GluKernelIdeal.nD Cert.GluKernelIdeal.τ).loc Cert.GluKernelIdeal.main_arg2)
      ∧ m' ((c.tc : Thread Cert.GluReferenceIdeal.nD Cert.GluReferenceIdeal.τ).loc Cert.GluReferenceIdeal.main_arg3) = m ((c.tc : Thread Cert.GluKernelIdeal.nD Cert.GluKernelIdeal.τ).loc Cert.GluKernelIdeal.main_arg3)
      ∧ m' ((c.tc : Thread Cert.GluReferenceIdeal.nD Cert.GluReferenceIdeal.τ).loc Cert.GluReferenceIdeal.main_arg4) = m ((c.tc : Thread Cert.GluKernelIdeal.nD Cert.GluKernelIdeal.τ).loc Cert.GluKernelIdeal.main_arg4)) →
    ∃ (v0 : (c : Dev Cert.GluKernelIdeal.nD) → Buf (Elt Ideal) ((c.tc : Thread Cert.GluKernelIdeal.nD Cert.GluKernelIdeal.τ).loc Cert.GluKernelIdeal.main_v4_0)) (v1 : (c : Dev Cert.GluKernelIdeal.nD) → Buf (Elt Ideal) ((c.tc : Thread Cert.GluKernelIdeal.nD Cert.GluKernelIdeal.τ).loc Cert.GluKernelIdeal.main_v4_1)) (v2 : (c : Dev Cert.GluKernelIdeal.nD) → Buf (Elt Ideal) ((c.tc : Thread Cert.GluKernelIdeal.nD Cert.GluKernelIdeal.τ).loc Cert.GluKernelIdeal.main_v4_2)) (v3 : (c : Dev Cert.GluKernelIdeal.nD) → Buf (Elt Ideal) ((c.tc : Thread Cert.GluKernelIdeal.nD Cert.GluKernelIdeal.τ).loc Cert.GluKernelIdeal.main_v4_3)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v4_0) = v0 c
          ∧ r.2.mem ((c.tc : Thread Cert.GluKernelIdeal.nD Cert.GluKernelIdeal.τ).loc Cert.GluKernelIdeal.main_v4_1) = v1 c
          ∧ r.2.mem ((c.tc : Thread Cert.GluKernelIdeal.nD Cert.GluKernelIdeal.τ).loc Cert.GluKernelIdeal.main_v4_2) = v2 c
          ∧ r.2.mem ((c.tc : Thread Cert.GluKernelIdeal.nD Cert.GluKernelIdeal.τ).loc Cert.GluKernelIdeal.main_v4_3) = v3 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
          ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
          ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3)
          ∧ r.2.mem ((c.tc : Thread Cert.GluKernelIdeal.nD Cert.GluKernelIdeal.τ).loc Cert.GluKernelIdeal.main_arg4) = m ((c.tc : Thread Cert.GluKernelIdeal.nD Cert.GluKernelIdeal.τ).loc Cert.GluKernelIdeal.main_arg4))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v53) = v0 c
          ∧ r.2.mem ((c.tc : Thread Cert.GluReferenceIdeal.nD Cert.GluReferenceIdeal.τ).loc Cert.GluReferenceIdeal.main_v36) = v1 c
          ∧ r.2.mem ((c.tc : Thread Cert.GluReferenceIdeal.nD Cert.GluReferenceIdeal.τ).loc Cert.GluReferenceIdeal.main_v56) = v2 c
          ∧ r.2.mem ((c.tc : Thread Cert.GluReferenceIdeal.nD Cert.GluReferenceIdeal.τ).loc Cert.GluReferenceIdeal.main_v58) = v3 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3)
          ∧ r.2.mem ((c.tc : Thread Cert.GluReferenceIdeal.nD Cert.GluReferenceIdeal.τ).loc Cert.GluReferenceIdeal.main_arg4) = m' ((c.tc : Thread Cert.GluReferenceIdeal.nD Cert.GluReferenceIdeal.τ).loc Cert.GluReferenceIdeal.main_arg4))

def preserves_MergeKernel_MergeKernelIdeal : Prop :=
  IdealRules.named_const.Statement Cert.MergeKernelIdeal.κ "c" .f32 0x3D372713#32 ((8943 / 200000 : ℝ) : EReal)

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)
      ∧ m' ((c.tc : Thread Cert.MergeReferenceIdeal.nD Cert.MergeReferenceIdeal.τ).loc Cert.MergeReferenceIdeal.main_arg10) = m ((c.tc : Thread Cert.MergeKernelIdeal.nD Cert.MergeKernelIdeal.τ).loc Cert.MergeKernelIdeal.main_arg10)
      ∧ m' ((c.tc : Thread Cert.MergeReferenceIdeal.nD Cert.MergeReferenceIdeal.τ).loc Cert.MergeReferenceIdeal.main_arg11) = m ((c.tc : Thread Cert.MergeKernelIdeal.nD Cert.MergeKernelIdeal.τ).loc Cert.MergeKernelIdeal.main_arg11)) →
    ∃ (v0 : (c : Dev Cert.MergeKernelIdeal.nD) → Buf (Elt Ideal) ((c.tc : Thread Cert.MergeKernelIdeal.nD Cert.MergeKernelIdeal.τ).loc Cert.MergeKernelIdeal.main_v0_0)) (v1 : (c : Dev Cert.MergeKernelIdeal.nD) → Buf (Elt Ideal) ((c.tc : Thread Cert.MergeKernelIdeal.nD Cert.MergeKernelIdeal.τ).loc Cert.MergeKernelIdeal.main_v0_1)) (v2 : (c : Dev Cert.MergeKernelIdeal.nD) → Buf (Elt Ideal) ((c.tc : Thread Cert.MergeKernelIdeal.nD Cert.MergeKernelIdeal.τ).loc Cert.MergeKernelIdeal.main_v0_2)) (v3 : (c : Dev Cert.MergeKernelIdeal.nD) → Buf (Elt Ideal) ((c.tc : Thread Cert.MergeKernelIdeal.nD Cert.MergeKernelIdeal.τ).loc Cert.MergeKernelIdeal.main_v0_3)) (v4 : (c : Dev Cert.MergeKernelIdeal.nD) → Buf (Elt Ideal) ((c.tc : Thread Cert.MergeKernelIdeal.nD Cert.MergeKernelIdeal.τ).loc Cert.MergeKernelIdeal.main_v0_4)) (v5 : (c : Dev Cert.MergeKernelIdeal.nD) → Buf (Elt Ideal) ((c.tc : Thread Cert.MergeKernelIdeal.nD Cert.MergeKernelIdeal.τ).loc Cert.MergeKernelIdeal.main_v0_5)) (v6 : (c : Dev Cert.MergeKernelIdeal.nD) → Buf (Elt Ideal) ((c.tc : Thread Cert.MergeKernelIdeal.nD Cert.MergeKernelIdeal.τ).loc Cert.MergeKernelIdeal.main_v0_6)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v0_0) = v0 c
          ∧ r.2.mem ((c.tc : Thread Cert.MergeKernelIdeal.nD Cert.MergeKernelIdeal.τ).loc Cert.MergeKernelIdeal.main_v0_1) = v1 c
          ∧ r.2.mem ((c.tc : Thread Cert.MergeKernelIdeal.nD Cert.MergeKernelIdeal.τ).loc Cert.MergeKernelIdeal.main_v0_2) = v2 c
          ∧ r.2.mem ((c.tc : Thread Cert.MergeKernelIdeal.nD Cert.MergeKernelIdeal.τ).loc Cert.MergeKernelIdeal.main_v0_3) = v3 c
          ∧ r.2.mem ((c.tc : Thread Cert.MergeKernelIdeal.nD Cert.MergeKernelIdeal.τ).loc Cert.MergeKernelIdeal.main_v0_4) = v4 c
          ∧ r.2.mem ((c.tc : Thread Cert.MergeKernelIdeal.nD Cert.MergeKernelIdeal.τ).loc Cert.MergeKernelIdeal.main_v0_5) = v5 c
          ∧ r.2.mem ((c.tc : Thread Cert.MergeKernelIdeal.nD Cert.MergeKernelIdeal.τ).loc Cert.MergeKernelIdeal.main_v0_6) = v6 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
          ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
          ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v7) = v0 c
          ∧ r.2.mem ((c.tc : Thread Cert.MergeReferenceIdeal.nD Cert.MergeReferenceIdeal.τ).loc Cert.MergeReferenceIdeal.main_v25) = v1 c
          ∧ r.2.mem ((c.tc : Thread Cert.MergeReferenceIdeal.nD Cert.MergeReferenceIdeal.τ).loc Cert.MergeReferenceIdeal.main_v97) = v2 c
          ∧ r.2.mem ((c.tc : Thread Cert.MergeReferenceIdeal.nD Cert.MergeReferenceIdeal.τ).loc Cert.MergeReferenceIdeal.main_v93) = v3 c
          ∧ r.2.mem ((c.tc : Thread Cert.MergeReferenceIdeal.nD Cert.MergeReferenceIdeal.τ).loc Cert.MergeReferenceIdeal.main_v98) = v4 c
          ∧ r.2.mem ((c.tc : Thread Cert.MergeReferenceIdeal.nD Cert.MergeReferenceIdeal.τ).loc Cert.MergeReferenceIdeal.main_v77) = v5 c
          ∧ r.2.mem ((c.tc : Thread Cert.MergeReferenceIdeal.nD Cert.MergeReferenceIdeal.τ).loc Cert.MergeReferenceIdeal.main_v96) = v6 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11))

def preserves_CtxKernel_CtxKernelIdeal : Prop :=
  True

def algebraic_CtxKernelIdeal_CtxReferenceIdeal [hCtxKernelIdeal : Cert.CtxKernelIdeal.Facts] [hCtxReferenceIdeal : Cert.CtxReferenceIdeal.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg)
    (m' : (ℓ : Loc Cert.CtxReferenceIdeal.nD Cert.CtxReferenceIdeal.τ Cert.CtxReferenceIdeal.sig) → Buf (Elt Ideal) ℓ) (g' : Dev Cert.CtxReferenceIdeal.nD → PrngReg), Pre_CtxKernelIdeal m →
    (∀ c : Dev Cert.CtxKernelIdeal.nD,
      m' ((c.tc : Thread Cert.CtxReferenceIdeal.nD Cert.CtxReferenceIdeal.τ).loc Cert.CtxReferenceIdeal.main_arg0) = m ((c.tc : Thread Cert.CtxKernelIdeal.nD Cert.CtxKernelIdeal.τ).loc Cert.CtxKernelIdeal.main_arg0)
      ∧ m' ((c.tc : Thread Cert.CtxReferenceIdeal.nD Cert.CtxReferenceIdeal.τ).loc Cert.CtxReferenceIdeal.main_arg1) = m ((c.tc : Thread Cert.CtxKernelIdeal.nD Cert.CtxKernelIdeal.τ).loc Cert.CtxKernelIdeal.main_arg1)
      ∧ m' ((c.tc : Thread Cert.CtxReferenceIdeal.nD Cert.CtxReferenceIdeal.τ).loc Cert.CtxReferenceIdeal.main_arg2) = m ((c.tc : Thread Cert.CtxKernelIdeal.nD Cert.CtxKernelIdeal.τ).loc Cert.CtxKernelIdeal.main_arg2)
      ∧ m' ((c.tc : Thread Cert.CtxReferenceIdeal.nD Cert.CtxReferenceIdeal.τ).loc Cert.CtxReferenceIdeal.main_arg3) = m ((c.tc : Thread Cert.CtxKernelIdeal.nD Cert.CtxKernelIdeal.τ).loc Cert.CtxKernelIdeal.main_arg3)
      ∧ m' ((c.tc : Thread Cert.CtxReferenceIdeal.nD Cert.CtxReferenceIdeal.τ).loc Cert.CtxReferenceIdeal.main_arg4) = m ((c.tc : Thread Cert.CtxKernelIdeal.nD Cert.CtxKernelIdeal.τ).loc Cert.CtxKernelIdeal.main_arg4)
      ∧ m' ((c.tc : Thread Cert.CtxReferenceIdeal.nD Cert.CtxReferenceIdeal.τ).loc Cert.CtxReferenceIdeal.main_arg5) = m ((c.tc : Thread Cert.CtxKernelIdeal.nD Cert.CtxKernelIdeal.τ).loc Cert.CtxKernelIdeal.main_arg5)) →
    ∃ (v0 : (c : Dev Cert.CtxKernelIdeal.nD) → Buf (Elt Ideal) ((c.tc : Thread Cert.CtxKernelIdeal.nD Cert.CtxKernelIdeal.τ).loc Cert.CtxKernelIdeal.main_v0_0)) (v1 : (c : Dev Cert.CtxKernelIdeal.nD) → Buf (Elt Ideal) ((c.tc : Thread Cert.CtxKernelIdeal.nD Cert.CtxKernelIdeal.τ).loc Cert.CtxKernelIdeal.main_v0_1)) (v2 : (c : Dev Cert.CtxKernelIdeal.nD) → Buf (Elt Ideal) ((c.tc : Thread Cert.CtxKernelIdeal.nD Cert.CtxKernelIdeal.τ).loc Cert.CtxKernelIdeal.main_v0_2)) (v3 : (c : Dev Cert.CtxKernelIdeal.nD) → Buf (Elt Ideal) ((c.tc : Thread Cert.CtxKernelIdeal.nD Cert.CtxKernelIdeal.τ).loc Cert.CtxKernelIdeal.main_v0_3)),
      θ_run (Cert.CtxKernelIdeal.defs (F := Ideal)) (onTc (τ := Cert.CtxKernelIdeal.τ) (Cert.CtxKernelIdeal.main (F := Ideal))) ⟨m, fun _ => 0, g⟩ (fun r => ∀ c : Dev Cert.CtxKernelIdeal.nD,
          r.2.mem ((c.tc : Thread Cert.CtxKernelIdeal.nD Cert.CtxKernelIdeal.τ).loc Cert.CtxKernelIdeal.main_v0_0) = v0 c
          ∧ r.2.mem ((c.tc : Thread Cert.CtxKernelIdeal.nD Cert.CtxKernelIdeal.τ).loc Cert.CtxKernelIdeal.main_v0_1) = v1 c
          ∧ r.2.mem ((c.tc : Thread Cert.CtxKernelIdeal.nD Cert.CtxKernelIdeal.τ).loc Cert.CtxKernelIdeal.main_v0_2) = v2 c
          ∧ r.2.mem ((c.tc : Thread Cert.CtxKernelIdeal.nD Cert.CtxKernelIdeal.τ).loc Cert.CtxKernelIdeal.main_v0_3) = v3 c
          ∧ r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
          ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
          ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2)
          ∧ r.2.mem ((c.tc : Thread Cert.CtxKernelIdeal.nD Cert.CtxKernelIdeal.τ).loc Cert.CtxKernelIdeal.main_arg3) = m ((c.tc : Thread Cert.CtxKernelIdeal.nD Cert.CtxKernelIdeal.τ).loc Cert.CtxKernelIdeal.main_arg3)
          ∧ r.2.mem ((c.tc : Thread Cert.CtxKernelIdeal.nD Cert.CtxKernelIdeal.τ).loc Cert.CtxKernelIdeal.main_arg4) = m ((c.tc : Thread Cert.CtxKernelIdeal.nD Cert.CtxKernelIdeal.τ).loc Cert.CtxKernelIdeal.main_arg4)
          ∧ r.2.mem ((c.tc : Thread Cert.CtxKernelIdeal.nD Cert.CtxKernelIdeal.τ).loc Cert.CtxKernelIdeal.main_arg5) = m ((c.tc : Thread Cert.CtxKernelIdeal.nD Cert.CtxKernelIdeal.τ).loc Cert.CtxKernelIdeal.main_arg5))
      ∧ θ_run (Cert.CtxReferenceIdeal.defs (F := Ideal)) (onTc (τ := Cert.CtxReferenceIdeal.τ) (Cert.CtxReferenceIdeal.main (F := Ideal))) ⟨m', fun _ => 0, g'⟩ (fun r => ∀ c : Dev Cert.CtxReferenceIdeal.nD,
          r.2.mem ((c.tc : Thread Cert.CtxReferenceIdeal.nD Cert.CtxReferenceIdeal.τ).loc Cert.CtxReferenceIdeal.main_v34) = v0 c
          ∧ r.2.mem ((c.tc : Thread Cert.CtxReferenceIdeal.nD Cert.CtxReferenceIdeal.τ).loc Cert.CtxReferenceIdeal.main_v28) = v1 c
          ∧ r.2.mem ((c.tc : Thread Cert.CtxReferenceIdeal.nD Cert.CtxReferenceIdeal.τ).loc Cert.CtxReferenceIdeal.main_v25) = v2 c
          ∧ r.2.mem ((c.tc : Thread Cert.CtxReferenceIdeal.nD Cert.CtxReferenceIdeal.τ).loc Cert.CtxReferenceIdeal.main_v33) = v3 c
          ∧ r.2.mem ((c.tc : Thread Cert.CtxReferenceIdeal.nD Cert.CtxReferenceIdeal.τ).loc Cert.CtxReferenceIdeal.main_arg0) = m' ((c.tc : Thread Cert.CtxReferenceIdeal.nD Cert.CtxReferenceIdeal.τ).loc Cert.CtxReferenceIdeal.main_arg0)
          ∧ r.2.mem ((c.tc : Thread Cert.CtxReferenceIdeal.nD Cert.CtxReferenceIdeal.τ).loc Cert.CtxReferenceIdeal.main_arg1) = m' ((c.tc : Thread Cert.CtxReferenceIdeal.nD Cert.CtxReferenceIdeal.τ).loc Cert.CtxReferenceIdeal.main_arg1)
          ∧ r.2.mem ((c.tc : Thread Cert.CtxReferenceIdeal.nD Cert.CtxReferenceIdeal.τ).loc Cert.CtxReferenceIdeal.main_arg2) = m' ((c.tc : Thread Cert.CtxReferenceIdeal.nD Cert.CtxReferenceIdeal.τ).loc Cert.CtxReferenceIdeal.main_arg2)
          ∧ r.2.mem ((c.tc : Thread Cert.CtxReferenceIdeal.nD Cert.CtxReferenceIdeal.τ).loc Cert.CtxReferenceIdeal.main_arg3) = m' ((c.tc : Thread Cert.CtxReferenceIdeal.nD Cert.CtxReferenceIdeal.τ).loc Cert.CtxReferenceIdeal.main_arg3)
          ∧ r.2.mem ((c.tc : Thread Cert.CtxReferenceIdeal.nD Cert.CtxReferenceIdeal.τ).loc Cert.CtxReferenceIdeal.main_arg4) = m' ((c.tc : Thread Cert.CtxReferenceIdeal.nD Cert.CtxReferenceIdeal.τ).loc Cert.CtxReferenceIdeal.main_arg4)
          ∧ r.2.mem ((c.tc : Thread Cert.CtxReferenceIdeal.nD Cert.CtxReferenceIdeal.τ).loc Cert.CtxReferenceIdeal.main_arg5) = m' ((c.tc : Thread Cert.CtxReferenceIdeal.nD Cert.CtxReferenceIdeal.τ).loc Cert.CtxReferenceIdeal.main_arg5))

def preserves_ModKernel_ModKernelIdeal : Prop :=
  True

def algebraic_ModKernelIdeal_ModReferenceIdeal_pre_finite_mod [hModKernelIdeal : Cert.ModKernelIdeal.Facts] [hModReferenceIdeal : Cert.ModReferenceIdeal.Facts] [hPre_finite_mod : Cert.Pre_finite_mod.Facts] : Prop :=
  ∀ (m : (ℓ : Loc Cert.ModKernelIdeal.nD Cert.ModKernelIdeal.τ Cert.ModKernelIdeal.sig) → Buf (Elt Ideal) ℓ) (g : Dev Cert.ModKernelIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModKernelIdeal_finite_mod m →
    (∀ c : Dev Cert.ModKernelIdeal.nD,
      m' ((c.tc : Thread Cert.ModReferenceIdeal.nD Cert.ModReferenceIdeal.τ).loc Cert.ModReferenceIdeal.main_arg0) = m ((c.tc : Thread Cert.ModKernelIdeal.nD Cert.ModKernelIdeal.τ).loc Cert.ModKernelIdeal.main_arg0)
      ∧ m' ((c.tc : Thread Cert.ModReferenceIdeal.nD Cert.ModReferenceIdeal.τ).loc Cert.ModReferenceIdeal.main_arg1) = m ((c.tc : Thread Cert.ModKernelIdeal.nD Cert.ModKernelIdeal.τ).loc Cert.ModKernelIdeal.main_arg1)
      ∧ m' ((c.tc : Thread Cert.ModReferenceIdeal.nD Cert.ModReferenceIdeal.τ).loc Cert.ModReferenceIdeal.main_arg2) = m ((c.tc : Thread Cert.ModKernelIdeal.nD Cert.ModKernelIdeal.τ).loc Cert.ModKernelIdeal.main_arg2)
      ∧ m' ((c.tc : Thread Cert.ModReferenceIdeal.nD Cert.ModReferenceIdeal.τ).loc Cert.ModReferenceIdeal.main_arg3) = m ((c.tc : Thread Cert.ModKernelIdeal.nD Cert.ModKernelIdeal.τ).loc Cert.ModKernelIdeal.main_arg3)
      ∧ m' ((c.tc : Thread Cert.ModReferenceIdeal.nD Cert.ModReferenceIdeal.τ).loc Cert.ModReferenceIdeal.main_arg4) = m ((c.tc : Thread Cert.ModKernelIdeal.nD Cert.ModKernelIdeal.τ).loc Cert.ModKernelIdeal.main_arg4)) →
    ∃ (v0 : (c : Dev Cert.ModKernelIdeal.nD) → Buf (Elt Ideal) ((c.tc : Thread Cert.ModKernelIdeal.nD Cert.ModKernelIdeal.τ).loc Cert.ModKernelIdeal.main_v2_0)) (v1 : (c : Dev Cert.ModKernelIdeal.nD) → Buf (Elt Ideal) ((c.tc : Thread Cert.ModKernelIdeal.nD Cert.ModKernelIdeal.τ).loc Cert.ModKernelIdeal.main_v2_1)) (v2 : (c : Dev Cert.ModKernelIdeal.nD) → Buf (Elt Ideal) ((c.tc : Thread Cert.ModKernelIdeal.nD Cert.ModKernelIdeal.τ).loc Cert.ModKernelIdeal.main_v2_2)),
      θ_run (Cert.ModKernelIdeal.defs (F := Ideal)) (onTc (τ := Cert.ModKernelIdeal.τ) (Cert.ModKernelIdeal.main (F := Ideal))) ⟨m, fun _ => 0, g⟩ (fun r => ∀ c : Dev Cert.ModKernelIdeal.nD,
          r.2.mem ((c.tc : Thread Cert.ModKernelIdeal.nD Cert.ModKernelIdeal.τ).loc Cert.ModKernelIdeal.main_v2_0) = v0 c
          ∧ r.2.mem ((c.tc : Thread Cert.ModKernelIdeal.nD Cert.ModKernelIdeal.τ).loc Cert.ModKernelIdeal.main_v2_1) = v1 c
          ∧ r.2.mem ((c.tc : Thread Cert.ModKernelIdeal.nD Cert.ModKernelIdeal.τ).loc Cert.ModKernelIdeal.main_v2_2) = v2 c
          ∧ r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
          ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
          ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2)
          ∧ r.2.mem ((c.tc : Thread Cert.ModKernelIdeal.nD Cert.ModKernelIdeal.τ).loc Cert.ModKernelIdeal.main_arg3) = m ((c.tc : Thread Cert.ModKernelIdeal.nD Cert.ModKernelIdeal.τ).loc Cert.ModKernelIdeal.main_arg3)
          ∧ r.2.mem ((c.tc : Thread Cert.ModKernelIdeal.nD Cert.ModKernelIdeal.τ).loc Cert.ModKernelIdeal.main_arg4) = m ((c.tc : Thread Cert.ModKernelIdeal.nD Cert.ModKernelIdeal.τ).loc Cert.ModKernelIdeal.main_arg4))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v20) = v0 c
          ∧ r.2.mem ((c.tc : Thread Cert.ModReferenceIdeal.nD Cert.ModReferenceIdeal.τ).loc Cert.ModReferenceIdeal.main_v17) = v1 c
          ∧ r.2.mem ((c.tc : Thread Cert.ModReferenceIdeal.nD Cert.ModReferenceIdeal.τ).loc Cert.ModReferenceIdeal.main_v13) = v2 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2)
          ∧ r.2.mem ((c.tc : Thread Cert.ModReferenceIdeal.nD Cert.ModReferenceIdeal.τ).loc Cert.ModReferenceIdeal.main_arg3) = m' ((c.tc : Thread Cert.ModReferenceIdeal.nD Cert.ModReferenceIdeal.τ).loc Cert.ModReferenceIdeal.main_arg3)
          ∧ r.2.mem ((c.tc : Thread Cert.ModReferenceIdeal.nD Cert.ModReferenceIdeal.τ).loc Cert.ModReferenceIdeal.main_arg4) = m' ((c.tc : Thread Cert.ModReferenceIdeal.nD Cert.ModReferenceIdeal.τ).loc Cert.ModReferenceIdeal.main_arg4))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v0_0)) (v1 : (c : Dev Cert.AdamKernelIdeal.nD) → Buf (Elt Ideal) ((c.tc : Thread Cert.AdamKernelIdeal.nD Cert.AdamKernelIdeal.τ).loc Cert.AdamKernelIdeal.main_v0_1)) (v2 : (c : Dev Cert.AdamKernelIdeal.nD) → Buf (Elt Ideal) ((c.tc : Thread Cert.AdamKernelIdeal.nD Cert.AdamKernelIdeal.τ).loc Cert.AdamKernelIdeal.main_v0_2)) (v3 : (c : Dev Cert.AdamKernelIdeal.nD) → Buf (Elt Ideal) ((c.tc : Thread Cert.AdamKernelIdeal.nD Cert.AdamKernelIdeal.τ).loc Cert.AdamKernelIdeal.main_v0_3)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v0_0) = v0 c
          ∧ r.2.mem ((c.tc : Thread Cert.AdamKernelIdeal.nD Cert.AdamKernelIdeal.τ).loc Cert.AdamKernelIdeal.main_v0_1) = v1 c
          ∧ r.2.mem ((c.tc : Thread Cert.AdamKernelIdeal.nD Cert.AdamKernelIdeal.τ).loc Cert.AdamKernelIdeal.main_v0_2) = v2 c
          ∧ r.2.mem ((c.tc : Thread Cert.AdamKernelIdeal.nD Cert.AdamKernelIdeal.τ).loc Cert.AdamKernelIdeal.main_v0_3) = v3 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v1) = v0 c
          ∧ r.2.mem ((c.tc : Thread Cert.AdamReferenceIdeal.nD Cert.AdamReferenceIdeal.τ).loc Cert.AdamReferenceIdeal.main_v25) = v1 c
          ∧ r.2.mem ((c.tc : Thread Cert.AdamReferenceIdeal.nD Cert.AdamReferenceIdeal.τ).loc Cert.AdamReferenceIdeal.main_v6) = v2 c
          ∧ r.2.mem ((c.tc : Thread Cert.AdamReferenceIdeal.nD Cert.AdamReferenceIdeal.τ).loc Cert.AdamReferenceIdeal.main_v12) = v3 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)) →
    ∃ (v0 : (c : Dev Cert.ProjKernelIdeal.nD) → Buf (Elt Ideal) ((c.tc : Thread Cert.ProjKernelIdeal.nD Cert.ProjKernelIdeal.τ).loc Cert.ProjKernelIdeal.main_v0_0)) (v1 : (c : Dev Cert.ProjKernelIdeal.nD) → Buf (Elt Ideal) ((c.tc : Thread Cert.ProjKernelIdeal.nD Cert.ProjKernelIdeal.τ).loc Cert.ProjKernelIdeal.main_v0_1)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v0_0) = v0 c
          ∧ r.2.mem ((c.tc : Thread Cert.ProjKernelIdeal.nD Cert.ProjKernelIdeal.τ).loc Cert.ProjKernelIdeal.main_v0_1) = v1 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v22) = v0 c
          ∧ r.2.mem ((c.tc : Thread Cert.ProjReferenceIdeal.nD Cert.ProjReferenceIdeal.τ).loc Cert.ProjReferenceIdeal.main_v23) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_TableKernel_TableKernelIdeal : Prop :=
  True

def algebraic_TableKernelIdeal_TableReferenceIdeal [hTableKernelIdeal : Cert.TableKernelIdeal.Facts] [hTableReferenceIdeal : Cert.TableReferenceIdeal.Facts] : Prop :=
  ∀ (m : (ℓ : Loc Cert.TableKernelIdeal.nD Cert.TableKernelIdeal.τ Cert.TableKernelIdeal.sig) → Buf (Elt Ideal) ℓ) (g : Dev Cert.TableKernelIdeal.nD → PrngReg)
    (m' : (ℓ : Loc Cert.TableReferenceIdeal.nD Cert.TableReferenceIdeal.τ Cert.TableReferenceIdeal.sig) → Buf (Elt Ideal) ℓ) (g' : Dev Cert.TableReferenceIdeal.nD → PrngReg), Pre_TableKernelIdeal m →
    (∀ c : Dev Cert.TableKernelIdeal.nD,
      m' ((c.tc : Thread Cert.TableReferenceIdeal.nD Cert.TableReferenceIdeal.τ).loc Cert.TableReferenceIdeal.main_arg0) = m ((c.tc : Thread Cert.TableKernelIdeal.nD Cert.TableKernelIdeal.τ).loc Cert.TableKernelIdeal.main_arg0)
      ∧ m' ((c.tc : Thread Cert.TableReferenceIdeal.nD Cert.TableReferenceIdeal.τ).loc Cert.TableReferenceIdeal.main_arg1) = m ((c.tc : Thread Cert.TableKernelIdeal.nD Cert.TableKernelIdeal.τ).loc Cert.TableKernelIdeal.main_arg1)
      ∧ m' ((c.tc : Thread Cert.TableReferenceIdeal.nD Cert.TableReferenceIdeal.τ).loc Cert.TableReferenceIdeal.main_arg2) = m ((c.tc : Thread Cert.TableKernelIdeal.nD Cert.TableKernelIdeal.τ).loc Cert.TableKernelIdeal.main_arg2)
      ∧ m' ((c.tc : Thread Cert.TableReferenceIdeal.nD Cert.TableReferenceIdeal.τ).loc Cert.TableReferenceIdeal.main_arg3) = m ((c.tc : Thread Cert.TableKernelIdeal.nD Cert.TableKernelIdeal.τ).loc Cert.TableKernelIdeal.main_arg3)) →
    ∃ (v0 : (c : Dev Cert.TableKernelIdeal.nD) → Buf (Elt Ideal) ((c.tc : Thread Cert.TableKernelIdeal.nD Cert.TableKernelIdeal.τ).loc Cert.TableKernelIdeal.main_v2)),
      θ_run (Cert.TableKernelIdeal.defs (F := Ideal)) (onTc (τ := Cert.TableKernelIdeal.τ) (Cert.TableKernelIdeal.main (F := Ideal))) ⟨m, fun _ => 0, g⟩ (fun r => ∀ c : Dev Cert.TableKernelIdeal.nD,
          r.2.mem ((c.tc : Thread Cert.TableKernelIdeal.nD Cert.TableKernelIdeal.τ).loc Cert.TableKernelIdeal.main_v2) = v0 c
          ∧ r.2.mem ((c.tc : Thread Cert.TableKernelIdeal.nD Cert.TableKernelIdeal.τ).loc Cert.TableKernelIdeal.main_arg0) = m ((c.tc : Thread Cert.TableKernelIdeal.nD Cert.TableKernelIdeal.τ).loc Cert.TableKernelIdeal.main_arg0)
          ∧ r.2.mem ((c.tc : Thread Cert.TableKernelIdeal.nD Cert.TableKernelIdeal.τ).loc Cert.TableKernelIdeal.main_arg1) = m ((c.tc : Thread Cert.TableKernelIdeal.nD Cert.TableKernelIdeal.τ).loc Cert.TableKernelIdeal.main_arg1)
          ∧ r.2.mem ((c.tc : Thread Cert.TableKernelIdeal.nD Cert.TableKernelIdeal.τ).loc Cert.TableKernelIdeal.main_arg2) = m ((c.tc : Thread Cert.TableKernelIdeal.nD Cert.TableKernelIdeal.τ).loc Cert.TableKernelIdeal.main_arg2)
          ∧ r.2.mem ((c.tc : Thread Cert.TableKernelIdeal.nD Cert.TableKernelIdeal.τ).loc Cert.TableKernelIdeal.main_arg3) = m ((c.tc : Thread Cert.TableKernelIdeal.nD Cert.TableKernelIdeal.τ).loc Cert.TableKernelIdeal.main_arg3))
      ∧ θ_run (Cert.TableReferenceIdeal.defs (F := Ideal)) (onTc (τ := Cert.TableReferenceIdeal.τ) (Cert.TableReferenceIdeal.main (F := Ideal))) ⟨m', fun _ => 0, g'⟩ (fun r => ∀ c : Dev Cert.TableReferenceIdeal.nD,
          r.2.mem ((c.tc : Thread Cert.TableReferenceIdeal.nD Cert.TableReferenceIdeal.τ).loc Cert.TableReferenceIdeal.main_v8) = v0 c
          ∧ r.2.mem ((c.tc : Thread Cert.TableReferenceIdeal.nD Cert.TableReferenceIdeal.τ).loc Cert.TableReferenceIdeal.main_arg0) = m' ((c.tc : Thread Cert.TableReferenceIdeal.nD Cert.TableReferenceIdeal.τ).loc Cert.TableReferenceIdeal.main_arg0)
          ∧ r.2.mem ((c.tc : Thread Cert.TableReferenceIdeal.nD Cert.TableReferenceIdeal.τ).loc Cert.TableReferenceIdeal.main_arg1) = m' ((c.tc : Thread Cert.TableReferenceIdeal.nD Cert.TableReferenceIdeal.τ).loc Cert.TableReferenceIdeal.main_arg1)
          ∧ r.2.mem ((c.tc : Thread Cert.TableReferenceIdeal.nD Cert.TableReferenceIdeal.τ).loc Cert.TableReferenceIdeal.main_arg2) = m' ((c.tc : Thread Cert.TableReferenceIdeal.nD Cert.TableReferenceIdeal.τ).loc Cert.TableReferenceIdeal.main_arg2)
          ∧ r.2.mem ((c.tc : Thread Cert.TableReferenceIdeal.nD Cert.TableReferenceIdeal.τ).loc Cert.TableReferenceIdeal.main_arg3) = m' ((c.tc : Thread Cert.TableReferenceIdeal.nD Cert.TableReferenceIdeal.τ).loc Cert.TableReferenceIdeal.main_arg3))

def preserves_AgluKernel_AgluKernelIdeal : Prop :=
  True

def algebraic_AgluKernelIdeal_AgluReferenceIdeal [hAgluKernelIdeal : Cert.AgluKernelIdeal.Facts] [hAgluReferenceIdeal : Cert.AgluReferenceIdeal.Facts] : Prop :=
  ∀ (m : (ℓ : Loc Cert.AgluKernelIdeal.nD Cert.AgluKernelIdeal.τ Cert.AgluKernelIdeal.sig) → Buf (Elt Ideal) ℓ) (g : Dev Cert.AgluKernelIdeal.nD → PrngReg)
    (m' : (ℓ : Loc Cert.AgluReferenceIdeal.nD Cert.AgluReferenceIdeal.τ Cert.AgluReferenceIdeal.sig) → Buf (Elt Ideal) ℓ) (g' : Dev Cert.AgluReferenceIdeal.nD → PrngReg), Pre_AgluKernelIdeal m →
    (∀ c : Dev Cert.AgluKernelIdeal.nD,
      m' ((c.tc : Thread Cert.AgluReferenceIdeal.nD Cert.AgluReferenceIdeal.τ).loc Cert.AgluReferenceIdeal.main_arg0) = m ((c.tc : Thread Cert.AgluKernelIdeal.nD Cert.AgluKernelIdeal.τ).loc Cert.AgluKernelIdeal.main_arg0)
      ∧ m' ((c.tc : Thread Cert.AgluReferenceIdeal.nD Cert.AgluReferenceIdeal.τ).loc Cert.AgluReferenceIdeal.main_arg1) = m ((c.tc : Thread Cert.AgluKernelIdeal.nD Cert.AgluKernelIdeal.τ).loc Cert.AgluKernelIdeal.main_arg1)
      ∧ m' ((c.tc : Thread Cert.AgluReferenceIdeal.nD Cert.AgluReferenceIdeal.τ).loc Cert.AgluReferenceIdeal.main_arg2) = m ((c.tc : Thread Cert.AgluKernelIdeal.nD Cert.AgluKernelIdeal.τ).loc Cert.AgluKernelIdeal.main_arg2)
      ∧ m' ((c.tc : Thread Cert.AgluReferenceIdeal.nD Cert.AgluReferenceIdeal.τ).loc Cert.AgluReferenceIdeal.main_arg3) = m ((c.tc : Thread Cert.AgluKernelIdeal.nD Cert.AgluKernelIdeal.τ).loc Cert.AgluKernelIdeal.main_arg3)) →
    ∃ (v0 : (c : Dev Cert.AgluKernelIdeal.nD) → Buf (Elt Ideal) ((c.tc : Thread Cert.AgluKernelIdeal.nD Cert.AgluKernelIdeal.τ).loc Cert.AgluKernelIdeal.main_v0_0)) (v1 : (c : Dev Cert.AgluKernelIdeal.nD) → Buf (Elt Ideal) ((c.tc : Thread Cert.AgluKernelIdeal.nD Cert.AgluKernelIdeal.τ).loc Cert.AgluKernelIdeal.main_v0_1)) (v2 : (c : Dev Cert.AgluKernelIdeal.nD) → Buf (Elt Ideal) ((c.tc : Thread Cert.AgluKernelIdeal.nD Cert.AgluKernelIdeal.τ).loc Cert.AgluKernelIdeal.main_v0_2)) (v3 : (c : Dev Cert.AgluKernelIdeal.nD) → Buf (Elt Ideal) ((c.tc : Thread Cert.AgluKernelIdeal.nD Cert.AgluKernelIdeal.τ).loc Cert.AgluKernelIdeal.main_v0_3)),
      θ_run (Cert.AgluKernelIdeal.defs (F := Ideal)) (onTc (τ := Cert.AgluKernelIdeal.τ) (Cert.AgluKernelIdeal.main (F := Ideal))) ⟨m, fun _ => 0, g⟩ (fun r => ∀ c : Dev Cert.AgluKernelIdeal.nD,
          r.2.mem ((c.tc : Thread Cert.AgluKernelIdeal.nD Cert.AgluKernelIdeal.τ).loc Cert.AgluKernelIdeal.main_v0_0) = v0 c
          ∧ r.2.mem ((c.tc : Thread Cert.AgluKernelIdeal.nD Cert.AgluKernelIdeal.τ).loc Cert.AgluKernelIdeal.main_v0_1) = v1 c
          ∧ r.2.mem ((c.tc : Thread Cert.AgluKernelIdeal.nD Cert.AgluKernelIdeal.τ).loc Cert.AgluKernelIdeal.main_v0_2) = v2 c
          ∧ r.2.mem ((c.tc : Thread Cert.AgluKernelIdeal.nD Cert.AgluKernelIdeal.τ).loc Cert.AgluKernelIdeal.main_v0_3) = v3 c
          ∧ r.2.mem ((c.tc : Thread Cert.AgluKernelIdeal.nD Cert.AgluKernelIdeal.τ).loc Cert.AgluKernelIdeal.main_arg0) = m ((c.tc : Thread Cert.AgluKernelIdeal.nD Cert.AgluKernelIdeal.τ).loc Cert.AgluKernelIdeal.main_arg0)
          ∧ r.2.mem ((c.tc : Thread Cert.AgluKernelIdeal.nD Cert.AgluKernelIdeal.τ).loc Cert.AgluKernelIdeal.main_arg1) = m ((c.tc : Thread Cert.AgluKernelIdeal.nD Cert.AgluKernelIdeal.τ).loc Cert.AgluKernelIdeal.main_arg1)
          ∧ r.2.mem ((c.tc : Thread Cert.AgluKernelIdeal.nD Cert.AgluKernelIdeal.τ).loc Cert.AgluKernelIdeal.main_arg2) = m ((c.tc : Thread Cert.AgluKernelIdeal.nD Cert.AgluKernelIdeal.τ).loc Cert.AgluKernelIdeal.main_arg2)
          ∧ r.2.mem ((c.tc : Thread Cert.AgluKernelIdeal.nD Cert.AgluKernelIdeal.τ).loc Cert.AgluKernelIdeal.main_arg3) = m ((c.tc : Thread Cert.AgluKernelIdeal.nD Cert.AgluKernelIdeal.τ).loc Cert.AgluKernelIdeal.main_arg3))
      ∧ θ_run (Cert.AgluReferenceIdeal.defs (F := Ideal)) (onTc (τ := Cert.AgluReferenceIdeal.τ) (Cert.AgluReferenceIdeal.main (F := Ideal))) ⟨m', fun _ => 0, g'⟩ (fun r => ∀ c : Dev Cert.AgluReferenceIdeal.nD,
          r.2.mem ((c.tc : Thread Cert.AgluReferenceIdeal.nD Cert.AgluReferenceIdeal.τ).loc Cert.AgluReferenceIdeal.main_v1) = v0 c
          ∧ r.2.mem ((c.tc : Thread Cert.AgluReferenceIdeal.nD Cert.AgluReferenceIdeal.τ).loc Cert.AgluReferenceIdeal.main_v25) = v1 c
          ∧ r.2.mem ((c.tc : Thread Cert.AgluReferenceIdeal.nD Cert.AgluReferenceIdeal.τ).loc Cert.AgluReferenceIdeal.main_v6) = v2 c
          ∧ r.2.mem ((c.tc : Thread Cert.AgluReferenceIdeal.nD Cert.AgluReferenceIdeal.τ).loc Cert.AgluReferenceIdeal.main_v12) = v3 c
          ∧ r.2.mem ((c.tc : Thread Cert.AgluReferenceIdeal.nD Cert.AgluReferenceIdeal.τ).loc Cert.AgluReferenceIdeal.main_arg0) = m' ((c.tc : Thread Cert.AgluReferenceIdeal.nD Cert.AgluReferenceIdeal.τ).loc Cert.AgluReferenceIdeal.main_arg0)
          ∧ r.2.mem ((c.tc : Thread Cert.AgluReferenceIdeal.nD Cert.AgluReferenceIdeal.τ).loc Cert.AgluReferenceIdeal.main_arg1) = m' ((c.tc : Thread Cert.AgluReferenceIdeal.nD Cert.AgluReferenceIdeal.τ).loc Cert.AgluReferenceIdeal.main_arg1)
          ∧ r.2.mem ((c.tc : Thread Cert.AgluReferenceIdeal.nD Cert.AgluReferenceIdeal.τ).loc Cert.AgluReferenceIdeal.main_arg2) = m' ((c.tc : Thread Cert.AgluReferenceIdeal.nD Cert.AgluReferenceIdeal.τ).loc Cert.AgluReferenceIdeal.main_arg2)
          ∧ r.2.mem ((c.tc : Thread Cert.AgluReferenceIdeal.nD Cert.AgluReferenceIdeal.τ).loc Cert.AgluReferenceIdeal.main_arg3) = m' ((c.tc : Thread Cert.AgluReferenceIdeal.nD Cert.AgluReferenceIdeal.τ).loc Cert.AgluReferenceIdeal.main_arg3))

def preserves_AoutKernel_AoutKernelIdeal : Prop :=
  True

def algebraic_AoutKernelIdeal_AoutReferenceIdeal [hAoutKernelIdeal : Cert.AoutKernelIdeal.Facts] [hAoutReferenceIdeal : Cert.AoutReferenceIdeal.Facts] : Prop :=
  ∀ (m : (ℓ : Loc Cert.AoutKernelIdeal.nD Cert.AoutKernelIdeal.τ Cert.AoutKernelIdeal.sig) → Buf (Elt Ideal) ℓ) (g : Dev Cert.AoutKernelIdeal.nD → PrngReg)
    (m' : (ℓ : Loc Cert.AoutReferenceIdeal.nD Cert.AoutReferenceIdeal.τ Cert.AoutReferenceIdeal.sig) → Buf (Elt Ideal) ℓ) (g' : Dev Cert.AoutReferenceIdeal.nD → PrngReg), Pre_AoutKernelIdeal m →
    (∀ c : Dev Cert.AoutKernelIdeal.nD,
      m' ((c.tc : Thread Cert.AoutReferenceIdeal.nD Cert.AoutReferenceIdeal.τ).loc Cert.AoutReferenceIdeal.main_arg0) = m ((c.tc : Thread Cert.AoutKernelIdeal.nD Cert.AoutKernelIdeal.τ).loc Cert.AoutKernelIdeal.main_arg0)
      ∧ m' ((c.tc : Thread Cert.AoutReferenceIdeal.nD Cert.AoutReferenceIdeal.τ).loc Cert.AoutReferenceIdeal.main_arg1) = m ((c.tc : Thread Cert.AoutKernelIdeal.nD Cert.AoutKernelIdeal.τ).loc Cert.AoutKernelIdeal.main_arg1)
      ∧ m' ((c.tc : Thread Cert.AoutReferenceIdeal.nD Cert.AoutReferenceIdeal.τ).loc Cert.AoutReferenceIdeal.main_arg2) = m ((c.tc : Thread Cert.AoutKernelIdeal.nD Cert.AoutKernelIdeal.τ).loc Cert.AoutKernelIdeal.main_arg2)
      ∧ m' ((c.tc : Thread Cert.AoutReferenceIdeal.nD Cert.AoutReferenceIdeal.τ).loc Cert.AoutReferenceIdeal.main_arg3) = m ((c.tc : Thread Cert.AoutKernelIdeal.nD Cert.AoutKernelIdeal.τ).loc Cert.AoutKernelIdeal.main_arg3)) →
    ∃ (v0 : (c : Dev Cert.AoutKernelIdeal.nD) → Buf (Elt Ideal) ((c.tc : Thread Cert.AoutKernelIdeal.nD Cert.AoutKernelIdeal.τ).loc Cert.AoutKernelIdeal.main_v0_0)) (v1 : (c : Dev Cert.AoutKernelIdeal.nD) → Buf (Elt Ideal) ((c.tc : Thread Cert.AoutKernelIdeal.nD Cert.AoutKernelIdeal.τ).loc Cert.AoutKernelIdeal.main_v0_1)) (v2 : (c : Dev Cert.AoutKernelIdeal.nD) → Buf (Elt Ideal) ((c.tc : Thread Cert.AoutKernelIdeal.nD Cert.AoutKernelIdeal.τ).loc Cert.AoutKernelIdeal.main_v0_2)) (v3 : (c : Dev Cert.AoutKernelIdeal.nD) → Buf (Elt Ideal) ((c.tc : Thread Cert.AoutKernelIdeal.nD Cert.AoutKernelIdeal.τ).loc Cert.AoutKernelIdeal.main_v0_3)),
      θ_run (Cert.AoutKernelIdeal.defs (F := Ideal)) (onTc (τ := Cert.AoutKernelIdeal.τ) (Cert.AoutKernelIdeal.main (F := Ideal))) ⟨m, fun _ => 0, g⟩ (fun r => ∀ c : Dev Cert.AoutKernelIdeal.nD,
          r.2.mem ((c.tc : Thread Cert.AoutKernelIdeal.nD Cert.AoutKernelIdeal.τ).loc Cert.AoutKernelIdeal.main_v0_0) = v0 c
          ∧ r.2.mem ((c.tc : Thread Cert.AoutKernelIdeal.nD Cert.AoutKernelIdeal.τ).loc Cert.AoutKernelIdeal.main_v0_1) = v1 c
          ∧ r.2.mem ((c.tc : Thread Cert.AoutKernelIdeal.nD Cert.AoutKernelIdeal.τ).loc Cert.AoutKernelIdeal.main_v0_2) = v2 c
          ∧ r.2.mem ((c.tc : Thread Cert.AoutKernelIdeal.nD Cert.AoutKernelIdeal.τ).loc Cert.AoutKernelIdeal.main_v0_3) = v3 c
          ∧ r.2.mem ((c.tc : Thread Cert.AoutKernelIdeal.nD Cert.AoutKernelIdeal.τ).loc Cert.AoutKernelIdeal.main_arg0) = m ((c.tc : Thread Cert.AoutKernelIdeal.nD Cert.AoutKernelIdeal.τ).loc Cert.AoutKernelIdeal.main_arg0)
          ∧ r.2.mem ((c.tc : Thread Cert.AoutKernelIdeal.nD Cert.AoutKernelIdeal.τ).loc Cert.AoutKernelIdeal.main_arg1) = m ((c.tc : Thread Cert.AoutKernelIdeal.nD Cert.AoutKernelIdeal.τ).loc Cert.AoutKernelIdeal.main_arg1)
          ∧ r.2.mem ((c.tc : Thread Cert.AoutKernelIdeal.nD Cert.AoutKernelIdeal.τ).loc Cert.AoutKernelIdeal.main_arg2) = m ((c.tc : Thread Cert.AoutKernelIdeal.nD Cert.AoutKernelIdeal.τ).loc Cert.AoutKernelIdeal.main_arg2)
          ∧ r.2.mem ((c.tc : Thread Cert.AoutKernelIdeal.nD Cert.AoutKernelIdeal.τ).loc Cert.AoutKernelIdeal.main_arg3) = m ((c.tc : Thread Cert.AoutKernelIdeal.nD Cert.AoutKernelIdeal.τ).loc Cert.AoutKernelIdeal.main_arg3))
      ∧ θ_run (Cert.AoutReferenceIdeal.defs (F := Ideal)) (onTc (τ := Cert.AoutReferenceIdeal.τ) (Cert.AoutReferenceIdeal.main (F := Ideal))) ⟨m', fun _ => 0, g'⟩ (fun r => ∀ c : Dev Cert.AoutReferenceIdeal.nD,
          r.2.mem ((c.tc : Thread Cert.AoutReferenceIdeal.nD Cert.AoutReferenceIdeal.τ).loc Cert.AoutReferenceIdeal.main_v1) = v0 c
          ∧ r.2.mem ((c.tc : Thread Cert.AoutReferenceIdeal.nD Cert.AoutReferenceIdeal.τ).loc Cert.AoutReferenceIdeal.main_v25) = v1 c
          ∧ r.2.mem ((c.tc : Thread Cert.AoutReferenceIdeal.nD Cert.AoutReferenceIdeal.τ).loc Cert.AoutReferenceIdeal.main_v6) = v2 c
          ∧ r.2.mem ((c.tc : Thread Cert.AoutReferenceIdeal.nD Cert.AoutReferenceIdeal.τ).loc Cert.AoutReferenceIdeal.main_v12) = v3 c
          ∧ r.2.mem ((c.tc : Thread Cert.AoutReferenceIdeal.nD Cert.AoutReferenceIdeal.τ).loc Cert.AoutReferenceIdeal.main_arg0) = m' ((c.tc : Thread Cert.AoutReferenceIdeal.nD Cert.AoutReferenceIdeal.τ).loc Cert.AoutReferenceIdeal.main_arg0)
          ∧ r.2.mem ((c.tc : Thread Cert.AoutReferenceIdeal.nD Cert.AoutReferenceIdeal.τ).loc Cert.AoutReferenceIdeal.main_arg1) = m' ((c.tc : Thread Cert.AoutReferenceIdeal.nD Cert.AoutReferenceIdeal.τ).loc Cert.AoutReferenceIdeal.main_arg1)
          ∧ r.2.mem ((c.tc : Thread Cert.AoutReferenceIdeal.nD Cert.AoutReferenceIdeal.τ).loc Cert.AoutReferenceIdeal.main_arg2) = m' ((c.tc : Thread Cert.AoutReferenceIdeal.nD Cert.AoutReferenceIdeal.τ).loc Cert.AoutReferenceIdeal.main_arg2)
          ∧ r.2.mem ((c.tc : Thread Cert.AoutReferenceIdeal.nD Cert.AoutReferenceIdeal.τ).loc Cert.AoutReferenceIdeal.main_arg3) = m' ((c.tc : Thread Cert.AoutReferenceIdeal.nD Cert.AoutReferenceIdeal.τ).loc Cert.AoutReferenceIdeal.main_arg3))

def preserves_ApoolKernel_ApoolKernelIdeal : Prop :=
  True

def algebraic_ApoolKernelIdeal_ApoolReferenceIdeal [hApoolKernelIdeal : Cert.ApoolKernelIdeal.Facts] [hApoolReferenceIdeal : Cert.ApoolReferenceIdeal.Facts] : Prop :=
  ∀ (m : (ℓ : Loc Cert.ApoolKernelIdeal.nD Cert.ApoolKernelIdeal.τ Cert.ApoolKernelIdeal.sig) → Buf (Elt Ideal) ℓ) (g : Dev Cert.ApoolKernelIdeal.nD → PrngReg)
    (m' : (ℓ : Loc Cert.ApoolReferenceIdeal.nD Cert.ApoolReferenceIdeal.τ Cert.ApoolReferenceIdeal.sig) → Buf (Elt Ideal) ℓ) (g' : Dev Cert.ApoolReferenceIdeal.nD → PrngReg), Pre_ApoolKernelIdeal m →
    (∀ c : Dev Cert.ApoolKernelIdeal.nD,
      m' ((c.tc : Thread Cert.ApoolReferenceIdeal.nD Cert.ApoolReferenceIdeal.τ).loc Cert.ApoolReferenceIdeal.main_arg0) = m ((c.tc : Thread Cert.ApoolKernelIdeal.nD Cert.ApoolKernelIdeal.τ).loc Cert.ApoolKernelIdeal.main_arg0)
      ∧ m' ((c.tc : Thread Cert.ApoolReferenceIdeal.nD Cert.ApoolReferenceIdeal.τ).loc Cert.ApoolReferenceIdeal.main_arg1) = m ((c.tc : Thread Cert.ApoolKernelIdeal.nD Cert.ApoolKernelIdeal.τ).loc Cert.ApoolKernelIdeal.main_arg1)
      ∧ m' ((c.tc : Thread Cert.ApoolReferenceIdeal.nD Cert.ApoolReferenceIdeal.τ).loc Cert.ApoolReferenceIdeal.main_arg2) = m ((c.tc : Thread Cert.ApoolKernelIdeal.nD Cert.ApoolKernelIdeal.τ).loc Cert.ApoolKernelIdeal.main_arg2)
      ∧ m' ((c.tc : Thread Cert.ApoolReferenceIdeal.nD Cert.ApoolReferenceIdeal.τ).loc Cert.ApoolReferenceIdeal.main_arg3) = m ((c.tc : Thread Cert.ApoolKernelIdeal.nD Cert.ApoolKernelIdeal.τ).loc Cert.ApoolKernelIdeal.main_arg3)) →
    ∃ (v0 : (c : Dev Cert.ApoolKernelIdeal.nD) → Buf (Elt Ideal) ((c.tc : Thread Cert.ApoolKernelIdeal.nD Cert.ApoolKernelIdeal.τ).loc Cert.ApoolKernelIdeal.main_v0_0)) (v1 : (c : Dev Cert.ApoolKernelIdeal.nD) → Buf (Elt Ideal) ((c.tc : Thread Cert.ApoolKernelIdeal.nD Cert.ApoolKernelIdeal.τ).loc Cert.ApoolKernelIdeal.main_v0_1)) (v2 : (c : Dev Cert.ApoolKernelIdeal.nD) → Buf (Elt Ideal) ((c.tc : Thread Cert.ApoolKernelIdeal.nD Cert.ApoolKernelIdeal.τ).loc Cert.ApoolKernelIdeal.main_v0_2)) (v3 : (c : Dev Cert.ApoolKernelIdeal.nD) → Buf (Elt Ideal) ((c.tc : Thread Cert.ApoolKernelIdeal.nD Cert.ApoolKernelIdeal.τ).loc Cert.ApoolKernelIdeal.main_v0_3)),
      θ_run (Cert.ApoolKernelIdeal.defs (F := Ideal)) (onTc (τ := Cert.ApoolKernelIdeal.τ) (Cert.ApoolKernelIdeal.main (F := Ideal))) ⟨m, fun _ => 0, g⟩ (fun r => ∀ c : Dev Cert.ApoolKernelIdeal.nD,
          r.2.mem ((c.tc : Thread Cert.ApoolKernelIdeal.nD Cert.ApoolKernelIdeal.τ).loc Cert.ApoolKernelIdeal.main_v0_0) = v0 c
          ∧ r.2.mem ((c.tc : Thread Cert.ApoolKernelIdeal.nD Cert.ApoolKernelIdeal.τ).loc Cert.ApoolKernelIdeal.main_v0_1) = v1 c
          ∧ r.2.mem ((c.tc : Thread Cert.ApoolKernelIdeal.nD Cert.ApoolKernelIdeal.τ).loc Cert.ApoolKernelIdeal.main_v0_2) = v2 c
          ∧ r.2.mem ((c.tc : Thread Cert.ApoolKernelIdeal.nD Cert.ApoolKernelIdeal.τ).loc Cert.ApoolKernelIdeal.main_v0_3) = v3 c
          ∧ r.2.mem ((c.tc : Thread Cert.ApoolKernelIdeal.nD Cert.ApoolKernelIdeal.τ).loc Cert.ApoolKernelIdeal.main_arg0) = m ((c.tc : Thread Cert.ApoolKernelIdeal.nD Cert.ApoolKernelIdeal.τ).loc Cert.ApoolKernelIdeal.main_arg0)
          ∧ r.2.mem ((c.tc : Thread Cert.ApoolKernelIdeal.nD Cert.ApoolKernelIdeal.τ).loc Cert.ApoolKernelIdeal.main_arg1) = m ((c.tc : Thread Cert.ApoolKernelIdeal.nD Cert.ApoolKernelIdeal.τ).loc Cert.ApoolKernelIdeal.main_arg1)
          ∧ r.2.mem ((c.tc : Thread Cert.ApoolKernelIdeal.nD Cert.ApoolKernelIdeal.τ).loc Cert.ApoolKernelIdeal.main_arg2) = m ((c.tc : Thread Cert.ApoolKernelIdeal.nD Cert.ApoolKernelIdeal.τ).loc Cert.ApoolKernelIdeal.main_arg2)
          ∧ r.2.mem ((c.tc : Thread Cert.ApoolKernelIdeal.nD Cert.ApoolKernelIdeal.τ).loc Cert.ApoolKernelIdeal.main_arg3) = m ((c.tc : Thread Cert.ApoolKernelIdeal.nD Cert.ApoolKernelIdeal.τ).loc Cert.ApoolKernelIdeal.main_arg3))
      ∧ θ_run (Cert.ApoolReferenceIdeal.defs (F := Ideal)) (onTc (τ := Cert.ApoolReferenceIdeal.τ) (Cert.ApoolReferenceIdeal.main (F := Ideal))) ⟨m', fun _ => 0, g'⟩ (fun r => ∀ c : Dev Cert.ApoolReferenceIdeal.nD,
          r.2.mem ((c.tc : Thread Cert.ApoolReferenceIdeal.nD Cert.ApoolReferenceIdeal.τ).loc Cert.ApoolReferenceIdeal.main_v1) = v0 c
          ∧ r.2.mem ((c.tc : Thread Cert.ApoolReferenceIdeal.nD Cert.ApoolReferenceIdeal.τ).loc Cert.ApoolReferenceIdeal.main_v25) = v1 c
          ∧ r.2.mem ((c.tc : Thread Cert.ApoolReferenceIdeal.nD Cert.ApoolReferenceIdeal.τ).loc Cert.ApoolReferenceIdeal.main_v6) = v2 c
          ∧ r.2.mem ((c.tc : Thread Cert.ApoolReferenceIdeal.nD Cert.ApoolReferenceIdeal.τ).loc Cert.ApoolReferenceIdeal.main_v12) = v3 c
          ∧ r.2.mem ((c.tc : Thread Cert.ApoolReferenceIdeal.nD Cert.ApoolReferenceIdeal.τ).loc Cert.ApoolReferenceIdeal.main_arg0) = m' ((c.tc : Thread Cert.ApoolReferenceIdeal.nD Cert.ApoolReferenceIdeal.τ).loc Cert.ApoolReferenceIdeal.main_arg0)
          ∧ r.2.mem ((c.tc : Thread Cert.ApoolReferenceIdeal.nD Cert.ApoolReferenceIdeal.τ).loc Cert.ApoolReferenceIdeal.main_arg1) = m' ((c.tc : Thread Cert.ApoolReferenceIdeal.nD Cert.ApoolReferenceIdeal.τ).loc Cert.ApoolReferenceIdeal.main_arg1)
          ∧ r.2.mem ((c.tc : Thread Cert.ApoolReferenceIdeal.nD Cert.ApoolReferenceIdeal.τ).loc Cert.ApoolReferenceIdeal.main_arg2) = m' ((c.tc : Thread Cert.ApoolReferenceIdeal.nD Cert.ApoolReferenceIdeal.τ).loc Cert.ApoolReferenceIdeal.main_arg2)
          ∧ r.2.mem ((c.tc : Thread Cert.ApoolReferenceIdeal.nD Cert.ApoolReferenceIdeal.τ).loc Cert.ApoolReferenceIdeal.main_arg3) = m' ((c.tc : Thread Cert.ApoolReferenceIdeal.nD Cert.ApoolReferenceIdeal.τ).loc Cert.ApoolReferenceIdeal.main_arg3))

def preserves_AadaKernel_AadaKernelIdeal : Prop :=
  True

def algebraic_AadaKernelIdeal_AadaReferenceIdeal [hAadaKernelIdeal : Cert.AadaKernelIdeal.Facts] [hAadaReferenceIdeal : Cert.AadaReferenceIdeal.Facts] : Prop :=
  ∀ (m : (ℓ : Loc Cert.AadaKernelIdeal.nD Cert.AadaKernelIdeal.τ Cert.AadaKernelIdeal.sig) → Buf (Elt Ideal) ℓ) (g : Dev Cert.AadaKernelIdeal.nD → PrngReg)
    (m' : (ℓ : Loc Cert.AadaReferenceIdeal.nD Cert.AadaReferenceIdeal.τ Cert.AadaReferenceIdeal.sig) → Buf (Elt Ideal) ℓ) (g' : Dev Cert.AadaReferenceIdeal.nD → PrngReg), Pre_AadaKernelIdeal m →
    (∀ c : Dev Cert.AadaKernelIdeal.nD,
      m' ((c.tc : Thread Cert.AadaReferenceIdeal.nD Cert.AadaReferenceIdeal.τ).loc Cert.AadaReferenceIdeal.main_arg0) = m ((c.tc : Thread Cert.AadaKernelIdeal.nD Cert.AadaKernelIdeal.τ).loc Cert.AadaKernelIdeal.main_arg0)
      ∧ m' ((c.tc : Thread Cert.AadaReferenceIdeal.nD Cert.AadaReferenceIdeal.τ).loc Cert.AadaReferenceIdeal.main_arg1) = m ((c.tc : Thread Cert.AadaKernelIdeal.nD Cert.AadaKernelIdeal.τ).loc Cert.AadaKernelIdeal.main_arg1)
      ∧ m' ((c.tc : Thread Cert.AadaReferenceIdeal.nD Cert.AadaReferenceIdeal.τ).loc Cert.AadaReferenceIdeal.main_arg2) = m ((c.tc : Thread Cert.AadaKernelIdeal.nD Cert.AadaKernelIdeal.τ).loc Cert.AadaKernelIdeal.main_arg2)
      ∧ m' ((c.tc : Thread Cert.AadaReferenceIdeal.nD Cert.AadaReferenceIdeal.τ).loc Cert.AadaReferenceIdeal.main_arg3) = m ((c.tc : Thread Cert.AadaKernelIdeal.nD Cert.AadaKernelIdeal.τ).loc Cert.AadaKernelIdeal.main_arg3)) →
    ∃ (v0 : (c : Dev Cert.AadaKernelIdeal.nD) → Buf (Elt Ideal) ((c.tc : Thread Cert.AadaKernelIdeal.nD Cert.AadaKernelIdeal.τ).loc Cert.AadaKernelIdeal.main_v0_0)) (v1 : (c : Dev Cert.AadaKernelIdeal.nD) → Buf (Elt Ideal) ((c.tc : Thread Cert.AadaKernelIdeal.nD Cert.AadaKernelIdeal.τ).loc Cert.AadaKernelIdeal.main_v0_1)) (v2 : (c : Dev Cert.AadaKernelIdeal.nD) → Buf (Elt Ideal) ((c.tc : Thread Cert.AadaKernelIdeal.nD Cert.AadaKernelIdeal.τ).loc Cert.AadaKernelIdeal.main_v0_2)),
      θ_run (Cert.AadaKernelIdeal.defs (F := Ideal)) (onTc (τ := Cert.AadaKernelIdeal.τ) (Cert.AadaKernelIdeal.main (F := Ideal))) ⟨m, fun _ => 0, g⟩ (fun r => ∀ c : Dev Cert.AadaKernelIdeal.nD,
          r.2.mem ((c.tc : Thread Cert.AadaKernelIdeal.nD Cert.AadaKernelIdeal.τ).loc Cert.AadaKernelIdeal.main_v0_0) = v0 c
          ∧ r.2.mem ((c.tc : Thread Cert.AadaKernelIdeal.nD Cert.AadaKernelIdeal.τ).loc Cert.AadaKernelIdeal.main_v0_1) = v1 c
          ∧ r.2.mem ((c.tc : Thread Cert.AadaKernelIdeal.nD Cert.AadaKernelIdeal.τ).loc Cert.AadaKernelIdeal.main_v0_2) = v2 c
          ∧ r.2.mem ((c.tc : Thread Cert.AadaKernelIdeal.nD Cert.AadaKernelIdeal.τ).loc Cert.AadaKernelIdeal.main_arg0) = m ((c.tc : Thread Cert.AadaKernelIdeal.nD Cert.AadaKernelIdeal.τ).loc Cert.AadaKernelIdeal.main_arg0)
          ∧ r.2.mem ((c.tc : Thread Cert.AadaKernelIdeal.nD Cert.AadaKernelIdeal.τ).loc Cert.AadaKernelIdeal.main_arg1) = m ((c.tc : Thread Cert.AadaKernelIdeal.nD Cert.AadaKernelIdeal.τ).loc Cert.AadaKernelIdeal.main_arg1)
          ∧ r.2.mem ((c.tc : Thread Cert.AadaKernelIdeal.nD Cert.AadaKernelIdeal.τ).loc Cert.AadaKernelIdeal.main_arg2) = m ((c.tc : Thread Cert.AadaKernelIdeal.nD Cert.AadaKernelIdeal.τ).loc Cert.AadaKernelIdeal.main_arg2)
          ∧ r.2.mem ((c.tc : Thread Cert.AadaKernelIdeal.nD Cert.AadaKernelIdeal.τ).loc Cert.AadaKernelIdeal.main_arg3) = m ((c.tc : Thread Cert.AadaKernelIdeal.nD Cert.AadaKernelIdeal.τ).loc Cert.AadaKernelIdeal.main_arg3))
      ∧ θ_run (Cert.AadaReferenceIdeal.defs (F := Ideal)) (onTc (τ := Cert.AadaReferenceIdeal.τ) (Cert.AadaReferenceIdeal.main (F := Ideal))) ⟨m', fun _ => 0, g'⟩ (fun r => ∀ c : Dev Cert.AadaReferenceIdeal.nD,
          r.2.mem ((c.tc : Thread Cert.AadaReferenceIdeal.nD Cert.AadaReferenceIdeal.τ).loc Cert.AadaReferenceIdeal.main_v23) = v0 c
          ∧ r.2.mem ((c.tc : Thread Cert.AadaReferenceIdeal.nD Cert.AadaReferenceIdeal.τ).loc Cert.AadaReferenceIdeal.main_v4) = v1 c
          ∧ r.2.mem ((c.tc : Thread Cert.AadaReferenceIdeal.nD Cert.AadaReferenceIdeal.τ).loc Cert.AadaReferenceIdeal.main_v10) = v2 c
          ∧ r.2.mem ((c.tc : Thread Cert.AadaReferenceIdeal.nD Cert.AadaReferenceIdeal.τ).loc Cert.AadaReferenceIdeal.main_arg0) = m' ((c.tc : Thread Cert.AadaReferenceIdeal.nD Cert.AadaReferenceIdeal.τ).loc Cert.AadaReferenceIdeal.main_arg0)
          ∧ r.2.mem ((c.tc : Thread Cert.AadaReferenceIdeal.nD Cert.AadaReferenceIdeal.τ).loc Cert.AadaReferenceIdeal.main_arg1) = m' ((c.tc : Thread Cert.AadaReferenceIdeal.nD Cert.AadaReferenceIdeal.τ).loc Cert.AadaReferenceIdeal.main_arg1)
          ∧ r.2.mem ((c.tc : Thread Cert.AadaReferenceIdeal.nD Cert.AadaReferenceIdeal.τ).loc Cert.AadaReferenceIdeal.main_arg2) = m' ((c.tc : Thread Cert.AadaReferenceIdeal.nD Cert.AadaReferenceIdeal.τ).loc Cert.AadaReferenceIdeal.main_arg2)
          ∧ r.2.mem ((c.tc : Thread Cert.AadaReferenceIdeal.nD Cert.AadaReferenceIdeal.τ).loc Cert.AadaReferenceIdeal.main_arg3) = m' ((c.tc : Thread Cert.AadaReferenceIdeal.nD Cert.AadaReferenceIdeal.τ).loc Cert.AadaReferenceIdeal.main_arg3))

def preserves_AbKernel_AbKernelIdeal : Prop :=
  True

def algebraic_AbKernelIdeal_AbReferenceIdeal [hAbKernelIdeal : Cert.AbKernelIdeal.Facts] [hAbReferenceIdeal : Cert.AbReferenceIdeal.Facts] : Prop :=
  ∀ (m : (ℓ : Loc Cert.AbKernelIdeal.nD Cert.AbKernelIdeal.τ Cert.AbKernelIdeal.sig) → Buf (Elt Ideal) ℓ) (g : Dev Cert.AbKernelIdeal.nD → PrngReg)
    (m' : (ℓ : Loc Cert.AbReferenceIdeal.nD Cert.AbReferenceIdeal.τ Cert.AbReferenceIdeal.sig) → Buf (Elt Ideal) ℓ) (g' : Dev Cert.AbReferenceIdeal.nD → PrngReg), Pre_AbKernelIdeal m →
    (∀ c : Dev Cert.AbKernelIdeal.nD,
      m' ((c.tc : Thread Cert.AbReferenceIdeal.nD Cert.AbReferenceIdeal.τ).loc Cert.AbReferenceIdeal.main_arg0) = m ((c.tc : Thread Cert.AbKernelIdeal.nD Cert.AbKernelIdeal.τ).loc Cert.AbKernelIdeal.main_arg0)
      ∧ m' ((c.tc : Thread Cert.AbReferenceIdeal.nD Cert.AbReferenceIdeal.τ).loc Cert.AbReferenceIdeal.main_arg1) = m ((c.tc : Thread Cert.AbKernelIdeal.nD Cert.AbKernelIdeal.τ).loc Cert.AbKernelIdeal.main_arg1)
      ∧ m' ((c.tc : Thread Cert.AbReferenceIdeal.nD Cert.AbReferenceIdeal.τ).loc Cert.AbReferenceIdeal.main_arg2) = m ((c.tc : Thread Cert.AbKernelIdeal.nD Cert.AbKernelIdeal.τ).loc Cert.AbKernelIdeal.main_arg2)
      ∧ m' ((c.tc : Thread Cert.AbReferenceIdeal.nD Cert.AbReferenceIdeal.τ).loc Cert.AbReferenceIdeal.main_arg3) = m ((c.tc : Thread Cert.AbKernelIdeal.nD Cert.AbKernelIdeal.τ).loc Cert.AbKernelIdeal.main_arg3)) →
    ∃ (v0 : (c : Dev Cert.AbKernelIdeal.nD) → Buf (Elt Ideal) ((c.tc : Thread Cert.AbKernelIdeal.nD Cert.AbKernelIdeal.τ).loc Cert.AbKernelIdeal.main_v0_0)) (v1 : (c : Dev Cert.AbKernelIdeal.nD) → Buf (Elt Ideal) ((c.tc : Thread Cert.AbKernelIdeal.nD Cert.AbKernelIdeal.τ).loc Cert.AbKernelIdeal.main_v0_1)) (v2 : (c : Dev Cert.AbKernelIdeal.nD) → Buf (Elt Ideal) ((c.tc : Thread Cert.AbKernelIdeal.nD Cert.AbKernelIdeal.τ).loc Cert.AbKernelIdeal.main_v0_2)),
      θ_run (Cert.AbKernelIdeal.defs (F := Ideal)) (onTc (τ := Cert.AbKernelIdeal.τ) (Cert.AbKernelIdeal.main (F := Ideal))) ⟨m, fun _ => 0, g⟩ (fun r => ∀ c : Dev Cert.AbKernelIdeal.nD,
          r.2.mem ((c.tc : Thread Cert.AbKernelIdeal.nD Cert.AbKernelIdeal.τ).loc Cert.AbKernelIdeal.main_v0_0) = v0 c
          ∧ r.2.mem ((c.tc : Thread Cert.AbKernelIdeal.nD Cert.AbKernelIdeal.τ).loc Cert.AbKernelIdeal.main_v0_1) = v1 c
          ∧ r.2.mem ((c.tc : Thread Cert.AbKernelIdeal.nD Cert.AbKernelIdeal.τ).loc Cert.AbKernelIdeal.main_v0_2) = v2 c
          ∧ r.2.mem ((c.tc : Thread Cert.AbKernelIdeal.nD Cert.AbKernelIdeal.τ).loc Cert.AbKernelIdeal.main_arg0) = m ((c.tc : Thread Cert.AbKernelIdeal.nD Cert.AbKernelIdeal.τ).loc Cert.AbKernelIdeal.main_arg0)
          ∧ r.2.mem ((c.tc : Thread Cert.AbKernelIdeal.nD Cert.AbKernelIdeal.τ).loc Cert.AbKernelIdeal.main_arg1) = m ((c.tc : Thread Cert.AbKernelIdeal.nD Cert.AbKernelIdeal.τ).loc Cert.AbKernelIdeal.main_arg1)
          ∧ r.2.mem ((c.tc : Thread Cert.AbKernelIdeal.nD Cert.AbKernelIdeal.τ).loc Cert.AbKernelIdeal.main_arg2) = m ((c.tc : Thread Cert.AbKernelIdeal.nD Cert.AbKernelIdeal.τ).loc Cert.AbKernelIdeal.main_arg2)
          ∧ r.2.mem ((c.tc : Thread Cert.AbKernelIdeal.nD Cert.AbKernelIdeal.τ).loc Cert.AbKernelIdeal.main_arg3) = m ((c.tc : Thread Cert.AbKernelIdeal.nD Cert.AbKernelIdeal.τ).loc Cert.AbKernelIdeal.main_arg3))
      ∧ θ_run (Cert.AbReferenceIdeal.defs (F := Ideal)) (onTc (τ := Cert.AbReferenceIdeal.τ) (Cert.AbReferenceIdeal.main (F := Ideal))) ⟨m', fun _ => 0, g'⟩ (fun r => ∀ c : Dev Cert.AbReferenceIdeal.nD,
          r.2.mem ((c.tc : Thread Cert.AbReferenceIdeal.nD Cert.AbReferenceIdeal.τ).loc Cert.AbReferenceIdeal.main_v23) = v0 c
          ∧ r.2.mem ((c.tc : Thread Cert.AbReferenceIdeal.nD Cert.AbReferenceIdeal.τ).loc Cert.AbReferenceIdeal.main_v4) = v1 c
          ∧ r.2.mem ((c.tc : Thread Cert.AbReferenceIdeal.nD Cert.AbReferenceIdeal.τ).loc Cert.AbReferenceIdeal.main_v10) = v2 c
          ∧ r.2.mem ((c.tc : Thread Cert.AbReferenceIdeal.nD Cert.AbReferenceIdeal.τ).loc Cert.AbReferenceIdeal.main_arg0) = m' ((c.tc : Thread Cert.AbReferenceIdeal.nD Cert.AbReferenceIdeal.τ).loc Cert.AbReferenceIdeal.main_arg0)
          ∧ r.2.mem ((c.tc : Thread Cert.AbReferenceIdeal.nD Cert.AbReferenceIdeal.τ).loc Cert.AbReferenceIdeal.main_arg1) = m' ((c.tc : Thread Cert.AbReferenceIdeal.nD Cert.AbReferenceIdeal.τ).loc Cert.AbReferenceIdeal.main_arg1)
          ∧ r.2.mem ((c.tc : Thread Cert.AbReferenceIdeal.nD Cert.AbReferenceIdeal.τ).loc Cert.AbReferenceIdeal.main_arg2) = m' ((c.tc : Thread Cert.AbReferenceIdeal.nD Cert.AbReferenceIdeal.τ).loc Cert.AbReferenceIdeal.main_arg2)
          ∧ r.2.mem ((c.tc : Thread Cert.AbReferenceIdeal.nD Cert.AbReferenceIdeal.τ).loc Cert.AbReferenceIdeal.main_arg3) = m' ((c.tc : Thread Cert.AbReferenceIdeal.nD Cert.AbReferenceIdeal.τ).loc Cert.AbReferenceIdeal.main_arg3))

def preserves_AcKernel_AcKernelIdeal : Prop :=
  True

def algebraic_AcKernelIdeal_AcReferenceIdeal [hAcKernelIdeal : Cert.AcKernelIdeal.Facts] [hAcReferenceIdeal : Cert.AcReferenceIdeal.Facts] : Prop :=
  ∀ (m : (ℓ : Loc Cert.AcKernelIdeal.nD Cert.AcKernelIdeal.τ Cert.AcKernelIdeal.sig) → Buf (Elt Ideal) ℓ) (g : Dev Cert.AcKernelIdeal.nD → PrngReg)
    (m' : (ℓ : Loc Cert.AcReferenceIdeal.nD Cert.AcReferenceIdeal.τ Cert.AcReferenceIdeal.sig) → Buf (Elt Ideal) ℓ) (g' : Dev Cert.AcReferenceIdeal.nD → PrngReg), Pre_AcKernelIdeal m →
    (∀ c : Dev Cert.AcKernelIdeal.nD,
      m' ((c.tc : Thread Cert.AcReferenceIdeal.nD Cert.AcReferenceIdeal.τ).loc Cert.AcReferenceIdeal.main_arg0) = m ((c.tc : Thread Cert.AcKernelIdeal.nD Cert.AcKernelIdeal.τ).loc Cert.AcKernelIdeal.main_arg0)
      ∧ m' ((c.tc : Thread Cert.AcReferenceIdeal.nD Cert.AcReferenceIdeal.τ).loc Cert.AcReferenceIdeal.main_arg1) = m ((c.tc : Thread Cert.AcKernelIdeal.nD Cert.AcKernelIdeal.τ).loc Cert.AcKernelIdeal.main_arg1)
      ∧ m' ((c.tc : Thread Cert.AcReferenceIdeal.nD Cert.AcReferenceIdeal.τ).loc Cert.AcReferenceIdeal.main_arg2) = m ((c.tc : Thread Cert.AcKernelIdeal.nD Cert.AcKernelIdeal.τ).loc Cert.AcKernelIdeal.main_arg2)
      ∧ m' ((c.tc : Thread Cert.AcReferenceIdeal.nD Cert.AcReferenceIdeal.τ).loc Cert.AcReferenceIdeal.main_arg3) = m ((c.tc : Thread Cert.AcKernelIdeal.nD Cert.AcKernelIdeal.τ).loc Cert.AcKernelIdeal.main_arg3)) →
    ∃ (v0 : (c : Dev Cert.AcKernelIdeal.nD) → Buf (Elt Ideal) ((c.tc : Thread Cert.AcKernelIdeal.nD Cert.AcKernelIdeal.τ).loc Cert.AcKernelIdeal.main_v0_0)) (v1 : (c : Dev Cert.AcKernelIdeal.nD) → Buf (Elt Ideal) ((c.tc : Thread Cert.AcKernelIdeal.nD Cert.AcKernelIdeal.τ).loc Cert.AcKernelIdeal.main_v0_1)) (v2 : (c : Dev Cert.AcKernelIdeal.nD) → Buf (Elt Ideal) ((c.tc : Thread Cert.AcKernelIdeal.nD Cert.AcKernelIdeal.τ).loc Cert.AcKernelIdeal.main_v0_2)),
      θ_run (Cert.AcKernelIdeal.defs (F := Ideal)) (onTc (τ := Cert.AcKernelIdeal.τ) (Cert.AcKernelIdeal.main (F := Ideal))) ⟨m, fun _ => 0, g⟩ (fun r => ∀ c : Dev Cert.AcKernelIdeal.nD,
          r.2.mem ((c.tc : Thread Cert.AcKernelIdeal.nD Cert.AcKernelIdeal.τ).loc Cert.AcKernelIdeal.main_v0_0) = v0 c
          ∧ r.2.mem ((c.tc : Thread Cert.AcKernelIdeal.nD Cert.AcKernelIdeal.τ).loc Cert.AcKernelIdeal.main_v0_1) = v1 c
          ∧ r.2.mem ((c.tc : Thread Cert.AcKernelIdeal.nD Cert.AcKernelIdeal.τ).loc Cert.AcKernelIdeal.main_v0_2) = v2 c
          ∧ r.2.mem ((c.tc : Thread Cert.AcKernelIdeal.nD Cert.AcKernelIdeal.τ).loc Cert.AcKernelIdeal.main_arg0) = m ((c.tc : Thread Cert.AcKernelIdeal.nD Cert.AcKernelIdeal.τ).loc Cert.AcKernelIdeal.main_arg0)
          ∧ r.2.mem ((c.tc : Thread Cert.AcKernelIdeal.nD Cert.AcKernelIdeal.τ).loc Cert.AcKernelIdeal.main_arg1) = m ((c.tc : Thread Cert.AcKernelIdeal.nD Cert.AcKernelIdeal.τ).loc Cert.AcKernelIdeal.main_arg1)
          ∧ r.2.mem ((c.tc : Thread Cert.AcKernelIdeal.nD Cert.AcKernelIdeal.τ).loc Cert.AcKernelIdeal.main_arg2) = m ((c.tc : Thread Cert.AcKernelIdeal.nD Cert.AcKernelIdeal.τ).loc Cert.AcKernelIdeal.main_arg2)
          ∧ r.2.mem ((c.tc : Thread Cert.AcKernelIdeal.nD Cert.AcKernelIdeal.τ).loc Cert.AcKernelIdeal.main_arg3) = m ((c.tc : Thread Cert.AcKernelIdeal.nD Cert.AcKernelIdeal.τ).loc Cert.AcKernelIdeal.main_arg3))
      ∧ θ_run (Cert.AcReferenceIdeal.defs (F := Ideal)) (onTc (τ := Cert.AcReferenceIdeal.τ) (Cert.AcReferenceIdeal.main (F := Ideal))) ⟨m', fun _ => 0, g'⟩ (fun r => ∀ c : Dev Cert.AcReferenceIdeal.nD,
          r.2.mem ((c.tc : Thread Cert.AcReferenceIdeal.nD Cert.AcReferenceIdeal.τ).loc Cert.AcReferenceIdeal.main_v23) = v0 c
          ∧ r.2.mem ((c.tc : Thread Cert.AcReferenceIdeal.nD Cert.AcReferenceIdeal.τ).loc Cert.AcReferenceIdeal.main_v4) = v1 c
          ∧ r.2.mem ((c.tc : Thread Cert.AcReferenceIdeal.nD Cert.AcReferenceIdeal.τ).loc Cert.AcReferenceIdeal.main_v10) = v2 c
          ∧ r.2.mem ((c.tc : Thread Cert.AcReferenceIdeal.nD Cert.AcReferenceIdeal.τ).loc Cert.AcReferenceIdeal.main_arg0) = m' ((c.tc : Thread Cert.AcReferenceIdeal.nD Cert.AcReferenceIdeal.τ).loc Cert.AcReferenceIdeal.main_arg0)
          ∧ r.2.mem ((c.tc : Thread Cert.AcReferenceIdeal.nD Cert.AcReferenceIdeal.τ).loc Cert.AcReferenceIdeal.main_arg1) = m' ((c.tc : Thread Cert.AcReferenceIdeal.nD Cert.AcReferenceIdeal.τ).loc Cert.AcReferenceIdeal.main_arg1)
          ∧ r.2.mem ((c.tc : Thread Cert.AcReferenceIdeal.nD Cert.AcReferenceIdeal.τ).loc Cert.AcReferenceIdeal.main_arg2) = m' ((c.tc : Thread Cert.AcReferenceIdeal.nD Cert.AcReferenceIdeal.τ).loc Cert.AcReferenceIdeal.main_arg2)
          ∧ r.2.mem ((c.tc : Thread Cert.AcReferenceIdeal.nD Cert.AcReferenceIdeal.τ).loc Cert.AcReferenceIdeal.main_arg3) = m' ((c.tc : Thread Cert.AcReferenceIdeal.nD Cert.AcReferenceIdeal.τ).loc Cert.AcReferenceIdeal.main_arg3))

def preserves_FwdKernel_FwdKernelIdeal : Prop :=
  True

def algebraic_FwdKernelIdeal_FwdReferenceIdeal [hFwdKernelIdeal : Cert.FwdKernelIdeal.Facts] [hFwdReferenceIdeal : Cert.FwdReferenceIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)) →
    ∃ (v0 : (c : Dev Cert.FwdKernelIdeal.nD) → Buf (Elt Ideal) ((c.tc : Thread Cert.FwdKernelIdeal.nD Cert.FwdKernelIdeal.τ).loc Cert.FwdKernelIdeal.main_v0_0)) (v1 : (c : Dev Cert.FwdKernelIdeal.nD) → Buf (Elt Ideal) ((c.tc : Thread Cert.FwdKernelIdeal.nD Cert.FwdKernelIdeal.τ).loc Cert.FwdKernelIdeal.main_v0_1)) (v2 : (c : Dev Cert.FwdKernelIdeal.nD) → Buf (Elt Ideal) ((c.tc : Thread Cert.FwdKernelIdeal.nD Cert.FwdKernelIdeal.τ).loc Cert.FwdKernelIdeal.main_v0_2)) (v3 : (c : Dev Cert.FwdKernelIdeal.nD) → Buf (Elt Ideal) ((c.tc : Thread Cert.FwdKernelIdeal.nD Cert.FwdKernelIdeal.τ).loc Cert.FwdKernelIdeal.main_v0_3)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v0_0) = v0 c
          ∧ r.2.mem ((c.tc : Thread Cert.FwdKernelIdeal.nD Cert.FwdKernelIdeal.τ).loc Cert.FwdKernelIdeal.main_v0_1) = v1 c
          ∧ r.2.mem ((c.tc : Thread Cert.FwdKernelIdeal.nD Cert.FwdKernelIdeal.τ).loc Cert.FwdKernelIdeal.main_v0_2) = v2 c
          ∧ r.2.mem ((c.tc : Thread Cert.FwdKernelIdeal.nD Cert.FwdKernelIdeal.τ).loc Cert.FwdKernelIdeal.main_v0_3) = v3 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v36) = v0 c
          ∧ r.2.mem ((c.tc : Thread Cert.FwdReferenceIdeal.nD Cert.FwdReferenceIdeal.τ).loc Cert.FwdReferenceIdeal.main_v39) = v1 c
          ∧ r.2.mem ((c.tc : Thread Cert.FwdReferenceIdeal.nD Cert.FwdReferenceIdeal.τ).loc Cert.FwdReferenceIdeal.main_v47) = v2 c
          ∧ r.2.mem ((c.tc : Thread Cert.FwdReferenceIdeal.nD Cert.FwdReferenceIdeal.τ).loc Cert.FwdReferenceIdeal.main_v55) = v3 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2))

def Claim : Prop :=
  ∃ (hKernel : Cert.Kernel.Facts) (hKernelIdeal : Cert.KernelIdeal.Facts) (hReferenceIdeal : Cert.ReferenceIdeal.Facts) (hOutKernel : Cert.OutKernel.Facts) (hOutKernelIdeal : Cert.OutKernelIdeal.Facts) (hOutReferenceIdeal : Cert.OutReferenceIdeal.Facts) (hInKernel : Cert.InKernel.Facts) (hInKernelIdeal : Cert.InKernelIdeal.Facts) (hInReferenceIdeal : Cert.InReferenceIdeal.Facts) (hGluKernel : Cert.GluKernel.Facts) (hGluKernelIdeal : Cert.GluKernelIdeal.Facts) (hGluReferenceIdeal : Cert.GluReferenceIdeal.Facts) (hMergeKernel : Cert.MergeKernel.Facts) (hMergeKernelIdeal : Cert.MergeKernelIdeal.Facts) (hMergeReferenceIdeal : Cert.MergeReferenceIdeal.Facts) (hCtxKernel : Cert.CtxKernel.Facts) (hCtxKernelIdeal : Cert.CtxKernelIdeal.Facts) (hCtxReferenceIdeal : Cert.CtxReferenceIdeal.Facts) (hModKernel : Cert.ModKernel.Facts) (hModKernelIdeal : Cert.ModKernelIdeal.Facts) (hModReferenceIdeal : Cert.ModReferenceIdeal.Facts) (hAdamKernel : Cert.AdamKernel.Facts) (hAdamKernelIdeal : Cert.AdamKernelIdeal.Facts) (hAdamReferenceIdeal : Cert.AdamReferenceIdeal.Facts) (hProjKernel : Cert.ProjKernel.Facts) (hProjKernelIdeal : Cert.ProjKernelIdeal.Facts) (hProjReferenceIdeal : Cert.ProjReferenceIdeal.Facts) (hTableKernel : Cert.TableKernel.Facts) (hTableKernelIdeal : Cert.TableKernelIdeal.Facts) (hTableReferenceIdeal : Cert.TableReferenceIdeal.Facts) (hAgluKernel : Cert.AgluKernel.Facts) (hAgluKernelIdeal : Cert.AgluKernelIdeal.Facts) (hAgluReferenceIdeal : Cert.AgluReferenceIdeal.Facts) (hAoutKernel : Cert.AoutKernel.Facts) (hAoutKernelIdeal : Cert.AoutKernelIdeal.Facts) (hAoutReferenceIdeal : Cert.AoutReferenceIdeal.Facts) (hApoolKernel : Cert.ApoolKernel.Facts) (hApoolKernelIdeal : Cert.ApoolKernelIdeal.Facts) (hApoolReferenceIdeal : Cert.ApoolReferenceIdeal.Facts) (hAadaKernel : Cert.AadaKernel.Facts) (hAadaKernelIdeal : Cert.AadaKernelIdeal.Facts) (hAadaReferenceIdeal : Cert.AadaReferenceIdeal.Facts) (hAbKernel : Cert.AbKernel.Facts) (hAbKernelIdeal : Cert.AbKernelIdeal.Facts) (hAbReferenceIdeal : Cert.AbReferenceIdeal.Facts) (hAcKernel : Cert.AcKernel.Facts) (hAcKernelIdeal : Cert.AcKernelIdeal.Facts) (hAcReferenceIdeal : Cert.AcReferenceIdeal.Facts) (hFwdKernel : Cert.FwdKernel.Facts) (hFwdKernelIdeal : Cert.FwdKernelIdeal.Facts) (hFwdReferenceIdeal : Cert.FwdReferenceIdeal.Facts) (hPre_finite : Cert.Pre_finite.Facts) (hPre_finite_glu : Cert.Pre_finite_glu.Facts) (hPre_finite_mod : Cert.Pre_finite_mod.Facts),
    quiescent_Kernel (hKernel := hKernel)
    ∧ quiescent_KernelIdeal (hKernelIdeal := hKernelIdeal)
    ∧ quiescent_ReferenceIdeal (hReferenceIdeal := hReferenceIdeal)
    ∧ quiescent_OutKernel (hOutKernel := hOutKernel)
    ∧ quiescent_OutKernelIdeal (hOutKernelIdeal := hOutKernelIdeal)
    ∧ quiescent_OutKernelIdeal_pre_finite (hOutKernelIdeal := hOutKernelIdeal) (hPre_finite := hPre_finite)
    ∧ quiescent_OutReferenceIdeal (hOutReferenceIdeal := hOutReferenceIdeal)
    ∧ quiescent_OutReferenceIdeal_pre_finite (hOutReferenceIdeal := hOutReferenceIdeal) (hPre_finite := hPre_finite)
    ∧ quiescent_InKernel (hInKernel := hInKernel)
    ∧ quiescent_InKernelIdeal (hInKernelIdeal := hInKernelIdeal)
    ∧ quiescent_InReferenceIdeal (hInReferenceIdeal := hInReferenceIdeal)
    ∧ quiescent_GluKernel (hGluKernel := hGluKernel)
    ∧ quiescent_GluKernelIdeal (hGluKernelIdeal := hGluKernelIdeal)
    ∧ quiescent_GluKernelIdeal_pre_finite_glu (hGluKernelIdeal := hGluKernelIdeal) (hPre_finite_glu := hPre_finite_glu)
    ∧ quiescent_GluReferenceIdeal (hGluReferenceIdeal := hGluReferenceIdeal)
    ∧ quiescent_GluReferenceIdeal_pre_finite_glu (hGluReferenceIdeal := hGluReferenceIdeal) (hPre_finite_glu := hPre_finite_glu)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_CtxKernel (hCtxKernel := hCtxKernel)
    ∧ quiescent_CtxKernelIdeal (hCtxKernelIdeal := hCtxKernelIdeal)
    ∧ quiescent_CtxReferenceIdeal (hCtxReferenceIdeal := hCtxReferenceIdeal)
    ∧ quiescent_ModKernel (hModKernel := hModKernel)
    ∧ quiescent_ModKernelIdeal (hModKernelIdeal := hModKernelIdeal)
    ∧ quiescent_ModKernelIdeal_pre_finite_mod (hModKernelIdeal := hModKernelIdeal) (hPre_finite_mod := hPre_finite_mod)
    ∧ quiescent_ModReferenceIdeal (hModReferenceIdeal := hModReferenceIdeal)
    ∧ quiescent_ModReferenceIdeal_pre_finite_mod (hModReferenceIdeal := hModReferenceIdeal) (hPre_finite_mod := hPre_finite_mod)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_TableKernel (hTableKernel := hTableKernel)
    ∧ quiescent_TableKernelIdeal (hTableKernelIdeal := hTableKernelIdeal)
    ∧ quiescent_TableReferenceIdeal (hTableReferenceIdeal := hTableReferenceIdeal)
    ∧ quiescent_AgluKernel (hAgluKernel := hAgluKernel)
    ∧ quiescent_AgluKernelIdeal (hAgluKernelIdeal := hAgluKernelIdeal)
    ∧ quiescent_AgluReferenceIdeal (hAgluReferenceIdeal := hAgluReferenceIdeal)
    ∧ quiescent_AoutKernel (hAoutKernel := hAoutKernel)
    ∧ quiescent_AoutKernelIdeal (hAoutKernelIdeal := hAoutKernelIdeal)
    ∧ quiescent_AoutReferenceIdeal (hAoutReferenceIdeal := hAoutReferenceIdeal)
    ∧ quiescent_ApoolKernel (hApoolKernel := hApoolKernel)
    ∧ quiescent_ApoolKernelIdeal (hApoolKernelIdeal := hApoolKernelIdeal)
    ∧ quiescent_ApoolReferenceIdeal (hApoolReferenceIdeal := hApoolReferenceIdeal)
    ∧ quiescent_AadaKernel (hAadaKernel := hAadaKernel)
    ∧ quiescent_AadaKernelIdeal (hAadaKernelIdeal := hAadaKernelIdeal)
    ∧ quiescent_AadaReferenceIdeal (hAadaReferenceIdeal := hAadaReferenceIdeal)
    ∧ quiescent_AbKernel (hAbKernel := hAbKernel)
    ∧ quiescent_AbKernelIdeal (hAbKernelIdeal := hAbKernelIdeal)
    ∧ quiescent_AbReferenceIdeal (hAbReferenceIdeal := hAbReferenceIdeal)
    ∧ quiescent_AcKernel (hAcKernel := hAcKernel)
    ∧ quiescent_AcKernelIdeal (hAcKernelIdeal := hAcKernelIdeal)
    ∧ quiescent_AcReferenceIdeal (hAcReferenceIdeal := hAcReferenceIdeal)
    ∧ quiescent_FwdKernel (hFwdKernel := hFwdKernel)
    ∧ quiescent_FwdKernelIdeal (hFwdKernelIdeal := hFwdKernelIdeal)
    ∧ quiescent_FwdReferenceIdeal (hFwdReferenceIdeal := hFwdReferenceIdeal)
    ∧ preserves_Kernel_KernelIdeal
    ∧ algebraic_KernelIdeal_ReferenceIdeal (hKernelIdeal := hKernelIdeal) (hReferenceIdeal := hReferenceIdeal)
    ∧ preserves_OutKernel_OutKernelIdeal
    ∧ algebraic_OutKernelIdeal_OutReferenceIdeal_pre_finite (hOutKernelIdeal := hOutKernelIdeal) (hOutReferenceIdeal := hOutReferenceIdeal) (hPre_finite := hPre_finite)
    ∧ preserves_InKernel_InKernelIdeal
    ∧ algebraic_InKernelIdeal_InReferenceIdeal (hInKernelIdeal := hInKernelIdeal) (hInReferenceIdeal := hInReferenceIdeal)
    ∧ preserves_GluKernel_GluKernelIdeal
    ∧ algebraic_GluKernelIdeal_GluReferenceIdeal_pre_finite_glu (hGluKernelIdeal := hGluKernelIdeal) (hGluReferenceIdeal := hGluReferenceIdeal) (hPre_finite_glu := hPre_finite_glu)
    ∧ preserves_MergeKernel_MergeKernelIdeal
    ∧ algebraic_MergeKernelIdeal_MergeReferenceIdeal (hMergeKernelIdeal := hMergeKernelIdeal) (hMergeReferenceIdeal := hMergeReferenceIdeal)
    ∧ preserves_CtxKernel_CtxKernelIdeal
    ∧ algebraic_CtxKernelIdeal_CtxReferenceIdeal (hCtxKernelIdeal := hCtxKernelIdeal) (hCtxReferenceIdeal := hCtxReferenceIdeal)
    ∧ preserves_ModKernel_ModKernelIdeal
    ∧ algebraic_ModKernelIdeal_ModReferenceIdeal_pre_finite_mod (hModKernelIdeal := hModKernelIdeal) (hModReferenceIdeal := hModReferenceIdeal) (hPre_finite_mod := hPre_finite_mod)
    ∧ preserves_AdamKernel_AdamKernelIdeal
    ∧ algebraic_AdamKernelIdeal_AdamReferenceIdeal (hAdamKernelIdeal := hAdamKernelIdeal) (hAdamReferenceIdeal := hAdamReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_TableKernel_TableKernelIdeal
    ∧ algebraic_TableKernelIdeal_TableReferenceIdeal (hTableKernelIdeal := hTableKernelIdeal) (hTableReferenceIdeal := hTableReferenceIdeal)
    ∧ preserves_AgluKernel_AgluKernelIdeal
    ∧ algebraic_AgluKernelIdeal_AgluReferenceIdeal (hAgluKernelIdeal := hAgluKernelIdeal) (hAgluReferenceIdeal := hAgluReferenceIdeal)
    ∧ preserves_AoutKernel_AoutKernelIdeal
    ∧ algebraic_AoutKernelIdeal_AoutReferenceIdeal (hAoutKernelIdeal := hAoutKernelIdeal) (hAoutReferenceIdeal := hAoutReferenceIdeal)
    ∧ preserves_ApoolKernel_ApoolKernelIdeal
    ∧ algebraic_ApoolKernelIdeal_ApoolReferenceIdeal (hApoolKernelIdeal := hApoolKernelIdeal) (hApoolReferenceIdeal := hApoolReferenceIdeal)
    ∧ preserves_AadaKernel_AadaKernelIdeal
    ∧ algebraic_AadaKernelIdeal_AadaReferenceIdeal (hAadaKernelIdeal := hAadaKernelIdeal) (hAadaReferenceIdeal := hAadaReferenceIdeal)
    ∧ preserves_AbKernel_AbKernelIdeal
    ∧ algebraic_AbKernelIdeal_AbReferenceIdeal (hAbKernelIdeal := hAbKernelIdeal) (hAbReferenceIdeal := hAbReferenceIdeal)
    ∧ preserves_AcKernel_AcKernelIdeal
    ∧ algebraic_AcKernelIdeal_AcReferenceIdeal (hAcKernelIdeal := hAcKernelIdeal) (hAcReferenceIdeal := hAcReferenceIdeal)
    ∧ preserves_FwdKernel_FwdKernelIdeal
    ∧ algebraic_FwdKernelIdeal_FwdReferenceIdeal (hFwdKernelIdeal := hFwdKernelIdeal) (hFwdReferenceIdeal := hFwdReferenceIdeal)
-- ==== Pre_finite.lean ====
abbrev S8192x2048 : Shape := ⟨2, ![8192, 2048]⟩
abbrev S1x2048 : Shape := ⟨2, ![1, 2048]⟩
abbrev S2048x2048 : Shape := ⟨2, ![2048, 2048]⟩
abbrev S8192x1024 : Shape := ⟨2, ![8192, 1024]⟩
abbrev S8192x4096 : Shape := ⟨2, ![8192, 4096]⟩
abbrev S1x1024 : Shape := ⟨2, ![1, 1024]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)
  bitsLt_bf16_f32 : FTy.bits .bf16 < FTy.bits .f32
  bcast_S_S2048x2048 : S_.BroadcastsInDim S2048x2048 (![] : Fin 0 → Fin S2048x2048.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn_part1 {F : FTy → Type} [FloatOps F] (main_v2 : IVec S8192x2048 1) (main_v5 : IVec S1x2048 1) (main_v9 : IVec S2048x2048 1) (main_v12 : IVec S8192x1024 1) (main_v15 : IVec S8192x2048 1) (main_v16 : FVec F S1x1024 .f32) (main_v17 : FVec F S1x1024 .f32) : IVec S8192x2048 1 × IVec S1x2048 1 × IVec S2048x2048 1 × IVec S8192x1024 1 × IVec S8192x2048 1 × IVec S1x1024 1 :=
  let main_v18 : IVec S1x1024 1 := cmpf .olt main_v16 main_v17
  (main_v2, main_v5, main_v9, main_v12, main_v15, main_v18)

def fn {F : FTy → Type} [FloatOps F] (main_arg0 : FVec F S8192x2048 .f32) (main_arg1 : FVec F S1x2048 .f32) (main_arg2 : FVec F S2048x2048 .bf16) (main_arg3 : FVec F S8192x1024 .f32) (main_arg4 : FVec F S8192x2048 .f32) (main_arg5 : FVec F S8192x4096 .f32) (main_arg6 : FVec F S1x1024 .f32) : IVec S8192x2048 1 × IVec S1x2048 1 × IVec S2048x2048 1 × IVec S8192x1024 1 × IVec S8192x2048 1 × IVec S1x1024 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S2048x2048 .f32 := (extf .f32 · bitsLt_bf16_f32) main_arg2
  let main_v7 : FVec F S2048x2048 .f32 := Host.absf main_v6
  let main_cst_1 : FVec F S_ .f32 := constant S_ .f32 0x7F800000#32
  let main_v8 : FVec F S2048x2048 .f32 := broadcastInDim S2048x2048 ![] bcast_S_S2048x2048 main_cst_1
  let main_v9 : IVec S2048x2048 1 := cmpf .olt main_v7 main_v8
  let main_v10 : FVec F S8192x1024 .f32 := Host.absf main_arg3
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_v13 : FVec F S8192x2048 .f32 := Host.absf main_arg4
  let main_cst_3 : FVec F S_ .f32 := constant S_ .f32 0x7F800000#32
  let main_v14 : FVec F S8192x2048 .f32 := broadcastInDim S8192x2048 ![] bcast_S_S8192x2048 main_cst_3
  let main_v15 : IVec S8192x2048 1 := cmpf .olt main_v13 main_v14
  let main_v16 : FVec F S1x1024 .f32 := Host.absf main_arg6
  let main_cst_4 : FVec F S_ .f32 := constant S_ .f32 0x7F800000#32
  let main_v17 : FVec F S1x1024 .f32 := broadcastInDim S1x1024 ![] bcast_S_S1x1024 main_cst_4
  fn_part1 (F := F) main_v2 main_v5 main_v9 main_v12 main_v15 main_v16 main_v17
-- ==== Pre_finite_glu.lean ====
abbrev S8192x2048 : Shape := ⟨2, ![8192, 2048]⟩
abbrev S8192x1024 : Shape := ⟨2, ![8192, 1024]⟩
abbrev S8192x4096 : Shape := ⟨2, ![8192, 4096]⟩
abbrev S8x1024x256 : Shape := ⟨3, ![8, 1024, 256]⟩
abbrev S1x1024 : Shape := ⟨2, ![1, 1024]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S8x1024x256 : S_.BroadcastsInDim S8x1024x256 (![] : Fin 0 → Fin S8x1024x256.rank)

variable [Facts]

def fn {F : FTy → Type} [FloatOps F] (main_arg0 : FVec F S8192x2048 .bf16) (main_arg1 : FVec F S8192x1024 .f32) (main_arg2 : FVec F S8192x4096 .f32) (main_arg3 : FVec F S8x1024x256 .bf16) (main_arg4 : FVec F S1x1024 .f32) : IVec S8192x2048 1 × IVec S8x1024x256 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S8x1024x256 .f32 := (extf .f32 · bitsLt_bf16_f32) main_arg3
  let main_v5 : FVec F S8x1024x256 .f32 := Host.absf main_v4
  let main_cst_0 : FVec F S_ .f32 := constant S_ .f32 0x7F800000#32
  let main_v6 : FVec F S8x1024x256 .f32 := broadcastInDim S8x1024x256 ![] bcast_S_S8x1024x256 main_cst_0
  let main_v7 : IVec S8x1024x256 1 := cmpf .olt main_v5 main_v6
  (main_v3, main_v7)
-- ==== Pre_finite_mod.lean ====
abbrev S8x2048 : Shape := ⟨2, ![8, 2048]⟩
abbrev S1x2048 : Shape := ⟨2, ![1, 2048]⟩
abbrev S8x768 : Shape := ⟨2, ![8, 768]⟩
abbrev S2048x768 : Shape := ⟨2, ![2048, 768]⟩
abbrev S_ : Shape := ⟨0, ![]⟩

class Facts : Prop where
  bcast_S_S8x768 : S_.BroadcastsInDim S8x768 (![] : Fin 0 → Fin S8x768.rank)
  bcast_S_S2048x768 : S_.BroadcastsInDim S2048x768 (![] : Fin 0 → Fin S2048x768.rank)

variable [Facts]

def fn {F : FTy → Type} [FloatOps F] (main_arg0 : FVec F S8x2048 .f32) (main_arg1 : FVec F S1x2048 .f32) (main_arg2 : FVec F S8x768 .f32) (main_arg3 : FVec F S8x768 .f32) (main_arg4 : FVec F S2048x768 .f32) : IVec S8x768 1 × IVec S2048x768 1 :=
  let main_v0 : FVec F S8x768 .f32 := Host.absf main_arg3
  let main_cst : FVec F S_ .f32 := constant S_ .f32 0x7F800000#32
  let main_v1 : FVec F S8x768 .f32 := broadcastInDim S8x768 ![] bcast_S_S8x768 main_cst
  let main_v2 : IVec S8x768 1 := cmpf .olt main_v0 main_v1
  let main_v3 : FVec F S2048x768 .f32 := Host.absf main_arg4
  let main_cst_0 : FVec F S_ .f32 := constant S_ .f32 0x7F800000#32
  let main_v4 : FVec F S2048x768 .f32 := broadcastInDim S2048x768 ![] bcast_S_S2048x768 main_cst_0
  let main_v5 : IVec S2048x768 1 := cmpf .olt main_v3 main_v4
  (main_v2, main_v5)
-- ==== Kernel.lean ====
abbrev S33792x128 : Shape := ⟨2, ![33792, 128]⟩
abbrev S64x256 : Shape := ⟨2, ![64, 256]⟩
abbrev S16896x128 : Shape := ⟨2, ![16896, 128]⟩
abbrev S8448x128 : Shape := ⟨2, ![8448, 128]⟩
abbrev S16x256 : Shape := ⟨2, ![16, 256]⟩
abbrev S4224x128 : Shape := ⟨2, ![4224, 128]⟩
abbrev S8x128 : Shape := ⟨2, ![8, 128]⟩

abbrev nBuf : Space → Nat
  | .hbm => 7
  | .vmem => 14
  | .smem => 0
  | _ => 0

abbrev bufTy : (tb : Table) → Fin (tcTables nBuf tb) → BufTy
  | .hbm, ⟨0, _⟩ => ⟨S33792x128, .f32⟩
  | .hbm, ⟨1, _⟩ => ⟨S33792x128, .f32⟩
  | .hbm, ⟨2, _⟩ => ⟨S64x256, .f32⟩
  | .hbm, ⟨3, _⟩ => ⟨S16896x128, .f32⟩
  | .hbm, ⟨4, _⟩ => ⟨S16896x128, .f32⟩
  | .hbm, ⟨5, _⟩ => ⟨S16896x128, .f32⟩
  | .hbm, ⟨6, _⟩ => ⟨S16896x128, .f32⟩
  | .local _ .vmem, ⟨0, _⟩ => ⟨S8448x128, .f32⟩
  | .local _ .vmem, ⟨1, _⟩ => ⟨S8448x128, .f32⟩
  | .local _ .vmem, ⟨2, _⟩ => ⟨S8448x128, .f32⟩
  | .local _ .vmem, ⟨3, _⟩ => ⟨S8448x128, .f32⟩
  | .local _ .vmem, ⟨4, _⟩ => ⟨S16x256, .f32⟩
  | .local _ .vmem, ⟨5, _⟩ => ⟨S16x256, .f32⟩
  | .local _ .vmem, ⟨6, _⟩ => ⟨S4224x128, .f32⟩
  | .local _ .vmem, ⟨7, _⟩ => ⟨S4224x128, .f32⟩
  | .local _ .vmem, ⟨8, _⟩ => ⟨S4224x128, .f32⟩
  | .local _ .vmem, ⟨9, _⟩ => ⟨S4224x128, .f32⟩
  | .local _ .vmem, ⟨10, _⟩ => ⟨S4224x128, .f32⟩
  | .local _ .vmem, ⟨11, _⟩ => ⟨S4224x128, .f32⟩
  | .local _ .vmem, ⟨12, _⟩ => ⟨S4224x128, .f32⟩
  | .local _ .vmem, ⟨13, _⟩ => ⟨S4224x128, .f32⟩
  | _, _ => ⟨S33792x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c132_i32 : BitVec 32 := 132#32
  let v16 : BitVec 32 := Scalar.addi c0_i32 c132_i32
  let c1_i32 : BitVec 32 := 1#32
  ⟨c0_i32, v16, c1_i32⟩
def k0_off1 (k0_t1 : Fin k0_t1_loop.trips) (c0_i32_10 : BitVec 32) : Fin 2 → Nat :=
  let c527_i32 : BitVec 32 := 527#32
  let c0_i32 : BitVec 32 := 0#32
  let c1_i32 : BitVec 32 := 1#32
  let arg8 : BitVec 32 := Scf.iv c0_i32 c1_i32 k0_t1
  let c4_i32 : BitVec 32 := 4#32
  let v18 : BitVec 32 := Scalar.muli arg8 c4_i32
  let v19 : BitVec 32 := Scalar.addi v18 c0_i32_10
  let v20 : BitVec 32 := Scalar.subi c527_i32 v19
  let v25 : Index := Scalar.indexCast v20
  let c0_12 : Index := 0#32
  ![v25.toNat, 0]
def k0_off2 (k0_t1 : Fin k0_t1_loop.trips) (c0_i32_10 : BitVec 32) : Fin 2 → Nat :=
  let c0_i32 : BitVec 32 := 0#32
  let c1_i32 : BitVec 32 := 1#32
  let arg8 : BitVec 32 := Scf.iv c0_i32 c1_i32 k0_t1
  let c4_i32 : BitVec 32 := 4#32
  let v18 : BitVec 32 := Scalar.muli arg8 c4_i32
  let v19 : BitVec 32 := Scalar.addi v18 c0_i32_10
  let c512_i32 : BitVec 32 := 512#32
  let v21 : BitVec 1 := Scalar.cmpi .slt v19 c512_i32
  let c16_i32 : BitVec 32 := 16#32
  let v22 : BitVec 32 := Scalar.addi c16_i32 v19
  let c512_i32_11 : BitVec 32 := 512#32
  let v23 : BitVec 32 := Scalar.subi v19 c512_i32_11
  let v24 : BitVec 32 := Scalar.select v21 v22 v23
  let v29 : Index := Scalar.indexCast v24
  let c0_14 : Index := 0#32
  ![v29.toNat, 0]
def k0_off3 (k0_t1 : Fin k0_t1_loop.trips) (c0_i32_10 : BitVec 32) : Fin 2 → Nat :=
  let c527_i32 : BitVec 32 := 527#32
  let c0_i32 : BitVec 32 := 0#32
  let c1_i32 : BitVec 32 := 1#32
  let arg8 : BitVec 32 := Scf.iv c0_i32 c1_i32 k0_t1
  let c4_i32 : BitVec 32 := 4#32
  let v18 : BitVec 32 := Scalar.muli arg8 c4_i32
  let v19 : BitVec 32 := Scalar.addi v18 c0_i32_10
  let v20 : BitVec 32 := Scalar.subi c527_i32 v19
  let v33 : Index := Scalar.indexCast v20
  let c0_16 : Index := 0#32
  ![v33.toNat, 0]
def k0_off4 (k0_t1 : Fin k0_t1_loop.trips) (c0_i32_10 : BitVec 32) : Fin 2 → Nat :=
  let c4224_i32 : BitVec 32 := 4224#32
  let c527_i32 : BitVec 32 := 527#32
  let c0_i32 : BitVec 32 := 0#32
  let c1_i32 : BitVec 32 := 1#32
  let arg8 : BitVec 32 := Scf.iv c0_i32 c1_i32 k0_t1
  let c4_i32 : BitVec 32 := 4#32
  let v18 : BitVec 32 := Scalar.muli arg8 c4_i32
  let v19 : BitVec 32 := Scalar.addi v18 c0_i32_10
  let v20 : BitVec 32 := Scalar.subi c527_i32 v19
  let v35 : BitVec 32 := Scalar.addi c4224_i32 v20
  let v36 : Index := Scalar.indexCast v35
  let c0_17 : Index := 0#32
  ![v36.toNat, 0]
def k0_off5 (k0_t1 : Fin k0_t1_loop.trips) (c0_i32_10 : BitVec 32) : Fin 2 → Nat :=
  let c0_i32 : BitVec 32 := 0#32
  let c1_i32 : BitVec 32 := 1#32
  let arg8 : BitVec 32 := Scf.iv c0_i32 c1_i32 k0_t1
  let c4_i32 : BitVec 32 := 4#32
  let v18 : BitVec 32 := Scalar.muli arg8 c4_i32
  let v19 : BitVec 32 := Scalar.addi v18 c0_i32_10
  let c512_i32 : BitVec 32 := 512#32
  let v21 : BitVec 1 := Scalar.cmpi .slt v19 c512_i32
  let c16_i32 : BitVec 32 := 16#32
  let v22 : BitVec 32 := Scalar.addi c16_i32 v19
  let c512_i32_11 : BitVec 32 := 512#32
  let v23 : BitVec 32 := Scalar.subi v19 c512_i32_11
  let v24 : BitVec 32 := Scalar.select v21 v22 v23
  let v47 : Index := Scalar.indexCast v24
  let c0_23 : Index := 0#32
  ![v47.toNat, 0]
def k0_off6 (k0_t1 : Fin k0_t1_loop.trips) (c0_i32_10 : BitVec 32) : Fin 2 → Nat :=
  let c4224_i32_24 : BitVec 32 := 4224#32
  let c0_i32 : BitVec 32 := 0#32
  let c1_i32 : BitVec 32 := 1#32
  let arg8 : BitVec 32 := Scf.iv c0_i32 c1_i32 k0_t1
  let c4_i32 : BitVec 32 := 4#32
  let v18 : BitVec 32 := Scalar.muli arg8 c4_i32
  let v19 : BitVec 32 := Scalar.addi v18 c0_i32_10
  let c512_i32 : BitVec 32 := 512#32
  let v21 : BitVec 1 := Scalar.cmpi .slt v19 c512_i32
  let c16_i32 : BitVec 32 := 16#32
  let v22 : BitVec 32 := Scalar.addi c16_i32 v19
  let c512_i32_11 : BitVec 32 := 512#32
  let v23 : BitVec 32 := Scalar.subi v19 c512_i32_11
  let v24 : BitVec 32 := Scalar.select v21 v22 v23
  let v49 : BitVec 32 := Scalar.addi c4224_i32_24 v24
  let v50 : Index := Scalar.indexCast v49
  let c0_25 : Index := 0#32
  ![v50.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8448x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8448x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4224x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4224x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4224x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4224x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S33792x128 : Shape := ⟨2, ![33792, 128]⟩
abbrev S64x256 : Shape := ⟨2, ![64, 256]⟩
abbrev S64x128 : Shape := ⟨2, ![64, 128]⟩
abbrev S64x64 : Shape := ⟨2, ![64, 64]⟩
abbrev S_ : Shape := ⟨0, ![]⟩
abbrev S64x528x2x64 : Shape := ⟨4, ![64, 528, 2, 64]⟩
abbrev S2x528x64x64 : Shape := ⟨4, ![2, 528, 64, 64]⟩
abbrev S1x528x64x64 : Shape := ⟨4, ![1, 528, 64, 64]⟩
abbrev S528x64x64 : Shape := ⟨3, ![528, 64, 64]⟩
abbrev S16x64x64 : Shape := ⟨3, ![16, 64, 64]⟩
abbrev S512x64x64 : Shape := ⟨3, ![512, 64, 64]⟩
abbrev S1x64x64 : Shape := ⟨3, ![1, 64, 64]⟩
abbrev S528x4x2x8x64 : Shape := ⟨5, ![528, 4, 2, 8, 64]⟩
abbrev S4x8x528x2x64 : Shape := ⟨5, ![4, 8, 528, 2, 64]⟩
abbrev S16896x128 : Shape := ⟨2, ![16896, 128]⟩

abbrev nBuf : Space → Nat
  | .hbm => 163
  | .vmem => 0
  | .smem => 0
  | _ => 0

abbrev hbmTy0_0 (i : Nat) : BufTy := match i % 128 with
  | 0 => ⟨S33792x128, .f32⟩
  | 1 => ⟨S33792x128, .f32⟩
  | 2 => ⟨S64x256, .f32⟩
  | 3 => ⟨S64x128, .f32⟩
  | 4 => ⟨S64x128, .f32⟩
  | 5 => ⟨S64x64, .f32⟩
  | 6 => ⟨S64x64, .f32⟩
  | 7 => ⟨S64x64, .f32⟩
  | 8 => ⟨S64x64, .f32⟩
  | 9 => ⟨S_, .f32⟩
  | 10 => ⟨S64x64, .f32⟩
  | 11 => ⟨S64x528x2x64, .f32⟩
  | 12 => ⟨S2x528x64x64, .f32⟩
  | 13 => ⟨S1x528x64x64, .f32⟩
  | 14 => ⟨S528x64x64, .f32⟩
  | 15 => ⟨S1x528x64x64, .f32⟩
  | 16 => ⟨S528x64x64, .f32⟩
  | 17 => ⟨S64x528x2x64, .f32⟩
  | 18 => ⟨S2x528x64x64, .f32⟩
  | 19 => ⟨S1x528x64x64, .f32⟩
  | 20 => ⟨S528x64x64, .f32⟩
  | 21 => ⟨S1x528x64x64, .f32⟩
  | 22 => ⟨S528x64x64, .f32⟩
  | 23 => ⟨S16x64x64, .f32⟩
  | 24 => ⟨S512x64x64, .f32⟩
  | 25 => ⟨S512x64x64, .f32⟩
  | 26 => ⟨S_, .f32⟩
  | 27 => ⟨S528x64x64, .f32⟩
  | 28 => ⟨S16x64x64, .f32⟩
  | 29 => ⟨S_, .f32⟩
  | 30 => ⟨S528x64x64, .f32⟩
  | 31 => ⟨S528x64x64, .f32⟩
  | 32 => ⟨S16x64x64, .f32⟩
  | 33 => ⟨S512x64x64, .f32⟩
  | 34 => ⟨S512x64x64, .f32⟩
  | 35 => ⟨S_, .f32⟩
  | 36 => ⟨S528x64x64, .f32⟩
  | 37 => ⟨S16x64x64, .f32⟩
  | 38 => ⟨S_, .f32⟩
  | 39 => ⟨S528x64x64, .f32⟩
  | 40 => ⟨S528x64x64, .f32⟩
  | 41 => ⟨S_, .f32⟩
  | 42 => ⟨S64x64, .f32⟩
  | 43 => ⟨S_, .f32⟩
  | 44 => ⟨S64x64, .f32⟩
  | 45 => ⟨S_, .f32⟩
  | 46 => ⟨S64x64, .f32⟩
  | 47 => ⟨S_, .f32⟩
  | 48 => ⟨S64x64, .f32⟩
  | 49 => ⟨S_, .f32⟩
  | 50 => ⟨S528x64x64, .f32⟩
  | 51 => ⟨S_, .f32⟩
  | 52 => ⟨S528x64x64, .f32⟩
  | 53 => ⟨S_, .f32⟩
  | 54 => ⟨S528x64x64, .f32⟩
  | 55 => ⟨S_, .f32⟩
  | 56 => ⟨S528x64x64, .f32⟩
  | 57 => ⟨S_, .i32⟩
  | 58 => ⟨S528x64x64, .f32⟩
  | 59 => ⟨S528x64x64, .f32⟩
  | 60 => ⟨S528x64x64, .f32⟩
  | 61 => ⟨S528x64x64, .f32⟩
  | 62 => ⟨S64x64, .f32⟩
  | 63 => ⟨S64x64, .f32⟩
  | 64 => ⟨S64x64, .f32⟩
  | 65 => ⟨S64x64, .f32⟩
  | 66 => ⟨S_, .i32⟩
  | 67 => ⟨S64x64, .f32⟩
  | 68 => ⟨S64x64, .f32⟩
  | 69 => ⟨S64x64, .f32⟩
  | 70 => ⟨S64x64, .f32⟩
  | 71 => ⟨S528x64x64, .f32⟩
  | 72 => ⟨S528x64x64, .f32⟩
  | 73 => ⟨S528x64x64, .f32⟩
  | 74 => ⟨S528x64x64, .f32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S1x64x64, .f32⟩
  | 84 => ⟨S64x64, .f32⟩
  | 85 => ⟨S_, .i32⟩
  | 86 => ⟨S_, .i32⟩
  | 87 => ⟨S1x64x64, .f32⟩
  | 88 => ⟨S64x64, .f32⟩
  | 89 => ⟨S_, .i32⟩
  | 90 => ⟨S_, .i32⟩
  | 91 => ⟨S1x64x64, .f32⟩
  | 92 => ⟨S64x64, .f32⟩
  | 93 => ⟨S_, .i32⟩
  | 94 => ⟨S_, .i32⟩
  | 95 => ⟨S1x64x64, .f32⟩
  | 96 => ⟨S64x64, .f32⟩
  | 97 => ⟨S64x64, .f32⟩
  | 98 => ⟨S64x64, .f32⟩
  | 99 => ⟨S64x64, .f32⟩
  | 100 => ⟨S64x64, .f32⟩
  | 101 => ⟨S64x64, .f32⟩
  | 102 => ⟨S64x64, .f32⟩
  | 103 => ⟨S64x64, .f32⟩
  | 104 => ⟨S64x64, .f32⟩
  | 105 => ⟨S64x64, .f32⟩
  | 106 => ⟨S64x64, .f32⟩
  | 107 => ⟨S64x64, .f32⟩
  | 108 => ⟨S64x64, .f32⟩
  | 109 => ⟨S64x64, .f32⟩
  | 110 => ⟨S64x64, .f32⟩
  | 111 => ⟨S64x64, .f32⟩
  | 112 => ⟨S64x64, .f32⟩
  | 113 => ⟨S64x64, .f32⟩
  | 114 => ⟨S64x64, .f32⟩
  | 115 => ⟨S1x64x64, .f32⟩
  | 116 => ⟨S_, .i32⟩
  | 117 => ⟨S_, .i32⟩
  | 118 => ⟨S528x64x64, .f32⟩
  | 119 => ⟨S1x64x64, .f32⟩
  | 120 => ⟨S_, .i32⟩
  | 121 => ⟨S_, .i32⟩
  | 122 => ⟨S528x64x64, .f32⟩
  | 123 => ⟨S1x64x64, .f32⟩
  | 124 => ⟨S_, .i32⟩
  | 125 => ⟨S_, .i32⟩
  | 126 => ⟨S528x64x64, .f32⟩
  | 127 => ⟨S1x64x64, .f32⟩
  | _ => ⟨S33792x128, .f32⟩

abbrev hbmTy0_1 (i : Nat) : BufTy := match i % 128 with
  | 0 => ⟨S_, .i32⟩
  | 1 => ⟨S_, .i32⟩
  | 2 => ⟨S528x64x64, .f32⟩
  | 3 => ⟨S_, .i32⟩
  | 4 => ⟨S_, .i32⟩
  | 5 => ⟨S16x64x64, .f32⟩
  | 6 => ⟨S512x64x64, .f32⟩
  | 7 => ⟨S512x64x64, .f32⟩
  | 8 => ⟨S_, .f32⟩
  | 9 => ⟨S528x64x64, .f32⟩
  | 10 => ⟨S16x64x64, .f32⟩
  | 11 => ⟨S_, .f32⟩
  | 12 => ⟨S528x64x64, .f32⟩
  | 13 => ⟨S528x64x64, .f32⟩
  | 14 => ⟨S16x64x64, .f32⟩
  | 15 => ⟨S512x64x64, .f32⟩
  | 16 => ⟨S512x64x64, .f32⟩
  | 17 => ⟨S_, .f32⟩
  | 18 => ⟨S528x64x64, .f32⟩
  | 19 => ⟨S16x64x64, .f32⟩
  | 20 => ⟨S_, .f32⟩
  | 21 => ⟨S528x64x64, .f32⟩
  | 22 => ⟨S528x64x64, .f32⟩
  | 23 => ⟨S528x4x2x8x64, .f32⟩
  | 24 => ⟨S4x8x528x2x64, .f32⟩
  | 25 => ⟨S16896x128, .f32⟩
  | 26 => ⟨S528x4x2x8x64, .f32⟩
  | 27 => ⟨S4x8x528x2x64, .f32⟩
  | 28 => ⟨S16896x128, .f32⟩
  | 29 => ⟨S528x4x2x8x64, .f32⟩
  | 30 => ⟨S4x8x528x2x64, .f32⟩
  | 31 => ⟨S16896x128, .f32⟩
  | 32 => ⟨S528x4x2x8x64, .f32⟩
  | 33 => ⟨S4x8x528x2x64, .f32⟩
  | 34 => ⟨S16896x128, .f32⟩
  | _ => ⟨S33792x128, .f32⟩

abbrev hbmTy (i : Nat) : BufTy := match i / 128 with
  | 0 => hbmTy0_0 i
  | 1 => hbmTy0_1 i
  | _ => ⟨S33792x128, .f32⟩

abbrev bufTy : (tb : Table) → Fin (tcTables nBuf tb) → BufTy
  | .hbm, ⟨i, _⟩ => hbmTy i
  | _, _ => ⟨S33792x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_cst_10 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_c : Ref sig .tc := ⟨.hbm, 57, rfl⟩
abbrev main_v41_0 : Ref sig .tc := ⟨.hbm, 58, rfl⟩
abbrev main_v41_1 : Ref sig .tc := ⟨.hbm, 59, rfl⟩
abbrev main_v41_2 : Ref sig .tc := ⟨.hbm, 60, rfl⟩
abbrev main_v41_3 : Ref sig .tc := ⟨.hbm, 61, rfl⟩
abbrev main_v41_4 : Ref sig .tc := ⟨.hbm, 62, rfl⟩
abbrev main_v41_5 : Ref sig .tc := ⟨.hbm, 63, rfl⟩
abbrev main_v41_6 : Ref sig .tc := ⟨.hbm, 64, rfl⟩
abbrev main_v41_7 : Ref sig .tc := ⟨.hbm, 65, rfl⟩
abbrev main_v41_8 : Ref sig .tc := ⟨.hbm, 66, rfl⟩
abbrev main_v41_9 : Ref sig .tc := ⟨.hbm, 67, rfl⟩
abbrev main_v41_10 : Ref sig .tc := ⟨.hbm, 68, rfl⟩
abbrev main_v41_11 : Ref sig .tc := ⟨.hbm, 69, rfl⟩
abbrev main_v41_12 : Ref sig .tc := ⟨.hbm, 70, rfl⟩
abbrev main_v41_13 : Ref sig .tc := ⟨.hbm, 71, rfl⟩
abbrev main_v41_14 : Ref sig .tc := ⟨.hbm, 72, rfl⟩
abbrev main_v41_15 : Ref sig .tc := ⟨.hbm, 73, rfl⟩
abbrev main_v41_16 : Ref sig .tc := ⟨.hbm, 74, rfl⟩
abbrev main_while0c_c_32 : Ref sig .tc := ⟨.hbm, 75, rfl⟩
abbrev main_while0c_v68 : Ref sig .tc := ⟨.hbm, 76, rfl⟩
abbrev main_while0b_c_32 : Ref sig .tc := ⟨.hbm, 77, rfl⟩
abbrev main_while0b_v68 : Ref sig .tc := ⟨.hbm, 78, rfl⟩
abbrev main_while0b_c_33 : Ref sig .tc := ⟨.hbm, 79, rfl⟩
abbrev main_while0b_v69 : Ref sig .tc := ⟨.hbm, 80, rfl⟩
abbrev main_while0b_call0_c : Ref sig .tc := ⟨.hbm, 81, rfl⟩
abbrev main_while0b_call0_c_0 : Ref sig .tc := ⟨.hbm, 82, rfl⟩
abbrev main_while0b_call0_v0 : Ref sig .tc := ⟨.hbm, 83, rfl⟩
abbrev main_while0b_v70 : Ref sig .tc := ⟨.hbm, 84, rfl⟩
abbrev main_while0b_call1_c : Ref sig .tc := ⟨.hbm, 85, rfl⟩
abbrev main_while0b_call1_c_0 : Ref sig .tc := ⟨.hbm, 86, rfl⟩
abbrev main_while0b_call1_v0 : Ref sig .tc := ⟨.hbm, 87, rfl⟩
abbrev main_while0b_v71 : Ref sig .tc := ⟨.hbm, 88, rfl⟩
abbrev main_while0b_call2_c : Ref sig .tc := ⟨.hbm, 89, rfl⟩
abbrev main_while0b_call2_c_0 : Ref sig .tc := ⟨.hbm, 90, rfl⟩
abbrev main_while0b_call2_v0 : Ref sig .tc := ⟨.hbm, 91, rfl⟩
abbrev main_while0b_v72 : Ref sig .tc := ⟨.hbm, 92, rfl⟩
abbrev main_while0b_call3_c : Ref sig .tc := ⟨.hbm, 93, rfl⟩
abbrev main_while0b_call3_c_0 : Ref sig .tc := ⟨.hbm, 94, rfl⟩
abbrev main_while0b_call3_v0 : Ref sig .tc := ⟨.hbm, 95, rfl⟩
abbrev main_while0b_v73 : Ref sig .tc := ⟨.hbm, 96, rfl⟩
abbrev main_while0b_v74 : Ref sig .tc := ⟨.hbm, 97, rfl⟩
abbrev main_while0b_v75 : Ref sig .tc := ⟨.hbm, 98, rfl⟩
abbrev main_while0b_v76 : Ref sig .tc := ⟨.hbm, 99, rfl⟩
abbrev main_while0b_v77 : Ref sig .tc := ⟨.hbm, 100, rfl⟩
abbrev main_while0b_v78 : Ref sig .tc := ⟨.hbm, 101, rfl⟩
abbrev main_while0b_v79 : Ref sig .tc := ⟨.hbm, 102, rfl⟩
abbrev main_while0b_v80 : Ref sig .tc := ⟨.hbm, 103, rfl⟩
abbrev main_while0b_v81 : Ref sig .tc := ⟨.hbm, 104, rfl⟩
abbrev main_while0b_v82 : Ref sig .tc := ⟨.hbm, 105, rfl⟩
abbrev main_while0b_v83 : Ref sig .tc := ⟨.hbm, 106, rfl⟩
abbrev main_while0b_v84 : Ref sig .tc := ⟨.hbm, 107, rfl⟩
abbrev main_while0b_v85 : Ref sig .tc := ⟨.hbm, 108, rfl⟩
abbrev main_while0b_v86 : Ref sig .tc := ⟨.hbm, 109, rfl⟩
abbrev main_while0b_v87 : Ref sig .tc := ⟨.hbm, 110, rfl⟩
abbrev main_while0b_v88 : Ref sig .tc := ⟨.hbm, 111, rfl⟩
abbrev main_while0b_v89 : Ref sig .tc := ⟨.hbm, 112, rfl⟩
abbrev main_while0b_v90 : Ref sig .tc := ⟨.hbm, 113, rfl⟩
abbrev main_while0b_v91 : Ref sig .tc := ⟨.hbm, 114, rfl⟩
abbrev main_while0b_call4_v0 : Ref sig .tc := ⟨.hbm, 115, rfl⟩
abbrev main_while0b_call4_c : Ref sig .tc := ⟨.hbm, 116, rfl⟩
abbrev main_while0b_call4_c_0 : Ref sig .tc := ⟨.hbm, 117, rfl⟩
abbrev main_while0b_v92 : Ref sig .tc := ⟨.hbm, 118, rfl⟩
abbrev main_while0b_call5_v0 : Ref sig .tc := ⟨.hbm, 119, rfl⟩
abbrev main_while0b_call5_c : Ref sig .tc := ⟨.hbm, 120, rfl⟩
abbrev main_while0b_call5_c_0 : Ref sig .tc := ⟨.hbm, 121, rfl⟩
abbrev main_while0b_v93 : Ref sig .tc := ⟨.hbm, 122, rfl⟩
abbrev main_while0b_call6_v0 : Ref sig .tc := ⟨.hbm, 123, rfl⟩
abbrev main_while0b_call6_c : Ref sig .tc := ⟨.hbm, 124, rfl⟩
abbrev main_while0b_call6_c_0 : Ref sig .tc := ⟨.hbm, 125, rfl⟩
abbrev main_while0b_v94 : Ref sig .tc := ⟨.hbm, 126, rfl⟩
abbrev main_while0b_call7_v0 : Ref sig .tc := ⟨.hbm, 127, rfl⟩
abbrev main_while0b_call7_c : Ref sig .tc := ⟨.hbm, 128, rfl⟩
abbrev main_while0b_call7_c_0 : Ref sig .tc := ⟨.hbm, 129, rfl⟩
abbrev main_while0b_v95 : Ref sig .tc := ⟨.hbm, 130, rfl⟩
abbrev main_while0b_c_34 : Ref sig .tc := ⟨.hbm, 131, rfl⟩
abbrev main_while0b_v96 : Ref sig .tc := ⟨.hbm, 132, rfl⟩
abbrev main_v42 : Ref sig .tc := ⟨.hbm, 133, rfl⟩
abbrev main_v43 : Ref sig .tc := ⟨.hbm, 134, rfl⟩
abbrev main_v44 : Ref sig .tc := ⟨.hbm, 135, rfl⟩
abbrev main_cst_12 : Ref sig .tc := ⟨.hbm, 136, rfl⟩
abbrev main_v45 : Ref sig .tc := ⟨.hbm, 137, rfl⟩
abbrev main_v46 : Ref sig .tc := ⟨.hbm, 138, rfl⟩
abbrev main_cst_13 : Ref sig .tc := ⟨.hbm, 139, rfl⟩
abbrev main_v47 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_cst_14 : Ref sig .tc := ⟨.hbm, 145, rfl⟩
abbrev main_v52 : Ref sig .tc := ⟨.hbm, 146, rfl⟩
abbrev main_v53 : Ref sig .tc := ⟨.hbm, 147, rfl⟩
abbrev main_cst_15 : Ref sig .tc := ⟨.hbm, 148, rfl⟩
abbrev main_v54 : Ref sig .tc := ⟨.hbm, 149, rfl⟩
abbrev main_v55 : Ref sig .tc := ⟨.hbm, 150, rfl⟩
abbrev main_v56 : Ref sig .tc := ⟨.hbm, 151, rfl⟩
abbrev main_v57 : Ref sig .tc := ⟨.hbm, 152, rfl⟩
abbrev main_v58 : Ref sig .tc := ⟨.hbm, 153, rfl⟩
abbrev main_v59 : Ref sig .tc := ⟨.hbm, 154, rfl⟩
abbrev main_v60 : Ref sig .tc := ⟨.hbm, 155, rfl⟩
abbrev main_v61 : Ref sig .tc := ⟨.hbm, 156, rfl⟩
abbrev main_v62 : Ref sig .tc := ⟨.hbm, 157, rfl⟩
abbrev main_v63 : Ref sig .tc := ⟨.hbm, 158, rfl⟩
abbrev main_v64 : Ref sig .tc := ⟨.hbm, 159, rfl⟩
abbrev main_v65 : Ref sig .tc := ⟨.hbm, 160, rfl⟩
abbrev main_v66 : Ref sig .tc := ⟨.hbm, 161, rfl⟩
abbrev main_v67 : Ref sig .tc := ⟨.hbm, 162, rfl⟩

abbrev nD : Nat := 1
abbrev τ : Topo := Topo.v7x

variable {F : FTy → Type} [FloatOps F]

abbrev main_while0_count : Scf.Loop 32 := ⟨0#32, 528#32, 1#32⟩
-- ==== OutKernel.lean ====
abbrev S8192x2048 : Shape := ⟨2, ![8192, 2048]⟩
abbrev S1x2048 : Shape := ⟨2, ![1, 2048]⟩
abbrev S2048x2048 : Shape := ⟨2, ![2048, 2048]⟩
abbrev S8192x1024 : Shape := ⟨2, ![8192, 1024]⟩
abbrev S8192x4096 : Shape := ⟨2, ![8192, 4096]⟩
abbrev S1x1024 : Shape := ⟨2, ![1, 1024]⟩
abbrev S_ : Shape := ⟨0, ![]⟩
abbrev S256x2048 : Shape := ⟨2, ![256, 2048]⟩
abbrev S256x1024 : Shape := ⟨2, ![256, 1024]⟩
abbrev S1024 : Shape := ⟨1, ![1024]⟩

abbrev nBuf : Space → Nat
  | .hbm => 38
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x2048, .bf16⟩
  | .hbm, ⟨3, _⟩ => ⟨S8192x1024, .f32⟩
  | .hbm, ⟨4, _⟩ => ⟨S8192x2048, .f32⟩
  | .hbm, ⟨5, _⟩ => ⟨S8192x4096, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x2048, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | .hbm, ⟨33, _⟩ => ⟨S8192x2048, .f32⟩
  | .hbm, ⟨34, _⟩ => ⟨S8192x1024, .f32⟩
  | .hbm, ⟨35, _⟩ => ⟨S8192x2048, .bf16⟩
  | .hbm, ⟨36, _⟩ => ⟨S1x1024, .f32⟩
  | .hbm, ⟨37, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S2048x2048, .bf16⟩
  | .local _ .vmem, ⟨6, _⟩ => ⟨S256x1024, .f32⟩
  | .local _ .vmem, ⟨7, _⟩ => ⟨S256x1024, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S1x1024, .f32⟩
  | .local _ .vmem, ⟨13, _⟩ => ⟨S256x2048, .f32⟩
  | .local _ .vmem, ⟨14, _⟩ => ⟨S256x2048, .f32⟩
  | .local _ .vmem, ⟨15, _⟩ => ⟨S256x1024, .f32⟩
  | .local _ .vmem, ⟨16, _⟩ => ⟨S256x1024, .f32⟩
  | .local _ .vmem, ⟨17, _⟩ => ⟨S256x2048, .bf16⟩
  | .local _ .vmem, ⟨18, _⟩ => ⟨S256x2048, .bf16⟩
  | .local _ .vmem, ⟨19, _⟩ => ⟨S1x1024, .f32⟩
  | .local _ .vmem, ⟨20, _⟩ => ⟨S2048x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev main_v16_2 : Ref sig .tc := ⟨.hbm, 35, rfl⟩
abbrev main_v16_3 : Ref sig .tc := ⟨.hbm, 36, rfl⟩
abbrev main_v16_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== OutReferenceIdeal.lean ====
abbrev S8192x2048 : Shape := ⟨2, ![8192, 2048]⟩
abbrev S1x2048 : Shape := ⟨2, ![1, 2048]⟩
abbrev S2048x2048 : Shape := ⟨2, ![2048, 2048]⟩
abbrev S8192x1024 : Shape := ⟨2, ![8192, 1024]⟩
abbrev S8192x4096 : Shape := ⟨2, ![8192, 4096]⟩
abbrev S1x1024 : Shape := ⟨2, ![1, 1024]⟩
abbrev S_ : Shape := ⟨0, ![]⟩
abbrev S1024 : Shape := ⟨1, ![1024]⟩

abbrev nBuf : Space → Nat
  | .hbm => 68
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x2048, .bf16⟩
  | .hbm, ⟨3, _⟩ => ⟨S8192x1024, .f32⟩
  | .hbm, ⟨4, _⟩ => ⟨S8192x2048, .f32⟩
  | .hbm, ⟨5, _⟩ => ⟨S8192x4096, .f32⟩
  | .hbm, ⟨6, _⟩ => ⟨S1x1024, .f32⟩
  | .hbm, ⟨7, _⟩ => ⟨S8192x2048, .f32⟩
  | .hbm, ⟨8, _⟩ => ⟨S2048x2048, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S2048x2048, .f32⟩
  | .hbm, ⟨47, _⟩ => ⟨S2048x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x2048, .f32⟩
  | .hbm, ⟨67, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_2 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩

abbrev nD : Nat := 1
abbrev τ : Topo := Topo.v7x

variable {F : FTy → Type} [FloatOps F]
-- ==== InKernel.lean ====
abbrev S8192x2048 : Shape := ⟨2, ![8192, 2048]⟩
abbrev S8192x1024 : Shape := ⟨2, ![8192, 1024]⟩
abbrev S8x2048x512 : Shape := ⟨3, ![8, 2048, 512]⟩
abbrev S1x2048 : Shape := ⟨2, ![1, 2048]⟩
abbrev S1x1024 : Shape := ⟨2, ![1, 1024]⟩
abbrev S8192x4096 : Shape := ⟨2, ![8192, 4096]⟩
abbrev S256x2048 : Shape := ⟨2, ![256, 2048]⟩
abbrev S256x1024 : Shape := ⟨2, ![256, 1024]⟩
abbrev S256x4096 : Shape := ⟨2, ![256, 4096]⟩
abbrev S256x512 : Shape := ⟨2, ![256, 512]⟩
abbrev S1x2048x512 : Shape := ⟨3, ![1, 2048, 512]⟩
abbrev S2048x512 : Shape := ⟨2, ![2048, 512]⟩
abbrev S256 : Shape := ⟨1, ![256]⟩
abbrev S256x1 : Shape := ⟨2, ![256, 1]⟩
abbrev S2048 : Shape := ⟨1, ![2048]⟩

abbrev nBuf : Space → Nat
  | .hbm => 17
  | .vmem => 25
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x2048, .f32⟩
  | .hbm, ⟨6, _⟩ => ⟨S8x2048x512, .bf16⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x1024, .f32⟩
  | .hbm, ⟨11, _⟩ => ⟨S1x2048, .f32⟩
  | .hbm, ⟨12, _⟩ => ⟨S8192x2048, .f32⟩
  | .hbm, ⟨13, _⟩ => ⟨S8192x4096, .bf16⟩
  | .hbm, ⟨14, _⟩ => ⟨S1x2048, .f32⟩
  | .hbm, ⟨15, _⟩ => ⟨S1x2048, .f32⟩
  | .hbm, ⟨16, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x2048, .f32⟩
  | .local _ .vmem, ⟨11, _⟩ => ⟨S256x2048, .f32⟩
  | .local _ .vmem, ⟨12, _⟩ => ⟨S8x2048x512, .bf16⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S1x1024, .f32⟩
  | .local _ .vmem, ⟨17, _⟩ => ⟨S1x2048, .f32⟩
  | .local _ .vmem, ⟨18, _⟩ => ⟨S256x2048, .f32⟩
  | .local _ .vmem, ⟨19, _⟩ => ⟨S256x2048, .f32⟩
  | .local _ .vmem, ⟨20, _⟩ => ⟨S256x4096, .bf16⟩
  | .local _ .vmem, ⟨21, _⟩ => ⟨S256x4096, .bf16⟩
  | .local _ .vmem, ⟨22, _⟩ => ⟨S1x2048, .f32⟩
  | .local _ .vmem, ⟨23, _⟩ => ⟨S1x2048, .f32⟩
  | .local _ .vmem, ⟨24, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== InReferenceIdeal.lean ====
abbrev S8192x2048 : Shape := ⟨2, ![8192, 2048]⟩
abbrev S8192x1024 : Shape := ⟨2, ![8192, 1024]⟩
abbrev S8x2048x512 : Shape := ⟨3, ![8, 2048, 512]⟩
abbrev S1x2048 : Shape := ⟨2, ![1, 2048]⟩
abbrev S1x1024 : Shape := ⟨2, ![1, 1024]⟩
abbrev S2048x8x512 : Shape := ⟨3, ![2048, 8, 512]⟩
abbrev S2048x4096 : Shape := ⟨2, ![2048, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S2048 : Shape := ⟨1, ![2048]⟩

abbrev nBuf : Space → Nat
  | .hbm => 94
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x2048, .f32⟩
  | .hbm, ⟨6, _⟩ => ⟨S8x2048x512, .bf16⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x1024, .f32⟩
  | .hbm, ⟨11, _⟩ => ⟨S1x2048, .f32⟩
  | .hbm, ⟨12, _⟩ => ⟨S8x2048x512, .f32⟩
  | .hbm, ⟨13, _⟩ => ⟨S2048x8x512, .f32⟩
  | .hbm, ⟨14, _⟩ => ⟨S2048x4096, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S1x2048, .f32⟩
  | .hbm, ⟨36, _⟩ => ⟨S1x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x4096, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x2048, .f32⟩
  | .hbm, ⟨47, _⟩ => ⟨S_, .f32⟩
  | .hbm, ⟨48, _⟩ => ⟨S8192x4096, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x4096, .f32⟩
  | .hbm, ⟨54, _⟩ => ⟨S8192x4096, .f32⟩
  | .hbm, ⟨55, _⟩ => ⟨S_, .f32⟩
  | .hbm, ⟨56, _⟩ => ⟨S8192x4096, .f32⟩
  | .hbm, ⟨57, _⟩ => ⟨S8192x4096, .f32⟩
  | .hbm, ⟨58, _⟩ => ⟨S8192x2048, .f32⟩
  | .hbm, ⟨59, _⟩ => ⟨S_, .f32⟩
  | .hbm, ⟨60, _⟩ => ⟨S2048, .f32⟩
  | .hbm, ⟨61, _⟩ => ⟨S1x2048, .f32⟩
  | .hbm, ⟨62, _⟩ => ⟨S8192x2048, .f32⟩
  | .hbm, ⟨63, _⟩ => ⟨S_, .f32⟩
  | .hbm, ⟨64, _⟩ => ⟨S2048, .f32⟩
  | .hbm, ⟨65, _⟩ => ⟨S1x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S_, .f32⟩
  | .hbm, ⟨70, _⟩ => ⟨S2048, .f32⟩
  | .hbm, ⟨71, _⟩ => ⟨S1x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S8192x2048, .f32⟩
  | .hbm, ⟨91, _⟩ => ⟨S8192x2048, .f32⟩
  | .hbm, ⟨92, _⟩ => ⟨S8192x4096, .bf16⟩
  | .hbm, ⟨93, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]
-- ==== GluKernel.lean ====
abbrev S8192x2048 : Shape := ⟨2, ![8192, 2048]⟩
abbrev S8192x1024 : Shape := ⟨2, ![8192, 1024]⟩
abbrev S8192x4096 : Shape := ⟨2, ![8192, 4096]⟩
abbrev S8x1024x256 : Shape := ⟨3, ![8, 1024, 256]⟩
abbrev S1x1024 : Shape := ⟨2, ![1, 1024]⟩
abbrev S1x2048 : Shape := ⟨2, ![1, 2048]⟩
abbrev S512x2048 : Shape := ⟨2, ![512, 2048]⟩
abbrev S512x1024 : Shape := ⟨2, ![512, 1024]⟩
abbrev S_ : Shape := ⟨0, ![]⟩
abbrev S512x256 : Shape := ⟨2, ![512, 256]⟩
abbrev S1x1024x256 : Shape := ⟨3, ![1, 1024, 256]⟩
abbrev S1024x256 : Shape := ⟨2, ![1024, 256]⟩
abbrev S2048 : Shape := ⟨1, ![2048]⟩
abbrev S1024 : Shape := ⟨1, ![1024]⟩

abbrev nBuf : Space → Nat
  | .hbm => 13
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S8192x4096, .f32⟩
  | .hbm, ⟨3, _⟩ => ⟨S8x1024x256, .bf16⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S1x2048, .f32⟩
  | .hbm, ⟨11, _⟩ => ⟨S1x1024, .f32⟩
  | .hbm, ⟨12, _⟩ => ⟨S8x1024x256, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024x256, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x2048, .f32⟩
  | .local _ .vmem, ⟨11, _⟩ => ⟨S1x1024, .f32⟩
  | .local _ .vmem, ⟨12, _⟩ => ⟨S8x1024x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GluKernelIdeal.lean ====
variable {F : FTy → Type} [FloatOps F] [Named F]
def κ : String → Option EReal := fun
  | "c" => some ((8943 / 200000 : ℝ) : EReal)
  | "c3" => some ((26829 / 200000 : ℝ) : EReal)
  | _ => none
-- ==== GluReferenceIdeal.lean ====
abbrev S8192x2048 : Shape := ⟨2, ![8192, 2048]⟩
abbrev S8192x1024 : Shape := ⟨2, ![8192, 1024]⟩
abbrev S8192x4096 : Shape := ⟨2, ![8192, 4096]⟩
abbrev S8x1024x256 : Shape := ⟨3, ![8, 1024, 256]⟩
abbrev S1x1024 : Shape := ⟨2, ![1, 1024]⟩
abbrev S_ : Shape := ⟨0, ![]⟩
abbrev S1x2048 : Shape := ⟨2, ![1, 2048]⟩
abbrev S1024x8x256 : Shape := ⟨3, ![1024, 8, 256]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S8192x4096, .f32⟩
  | .hbm, ⟨3, _⟩ => ⟨S8x1024x256, .bf16⟩
  | .hbm, ⟨4, _⟩ => ⟨S1x1024, .f32⟩
  | .hbm, ⟨5, _⟩ => ⟨S8192x1024, .f32⟩
  | .hbm, ⟨6, _⟩ => ⟨S8x1024x256, .f32⟩
  | .hbm, ⟨7, _⟩ => ⟨S_, .f32⟩
  | .hbm, ⟨8, _⟩ => ⟨S1x2048, .f32⟩
  | .hbm, ⟨9, _⟩ => ⟨S1024x8x256, .f32⟩
  | .hbm, ⟨10, _⟩ => ⟨S1024x2048, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S2048x1024, .f32⟩
  | .hbm, ⟨53, _⟩ => ⟨S1024x2048, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S1024x8x256, .f32⟩
  | .hbm, ⟨78, _⟩ => ⟨S8x1024x256, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_13 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== MergeKernel.lean ====
abbrev S8192x1024 : Shape := ⟨2, ![8192, 1024]⟩
abbrev S8192x4096 : Shape := ⟨2, ![8192, 4096]⟩
abbrev S8192x2048 : Shape := ⟨2, ![8192, 2048]⟩
abbrev S8x1024x256 : Shape := ⟨3, ![8, 1024, 256]⟩
abbrev S2048x2048 : Shape := ⟨2, ![2048, 2048]⟩
abbrev S1x1024 : Shape := ⟨2, ![1, 1024]⟩
abbrev S1x2048 : Shape := ⟨2, ![1, 2048]⟩
abbrev S1x1 : Shape := ⟨2, ![1, 1]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S2048 : Shape := ⟨1, ![2048]⟩
abbrev S1x1024x256 : Shape := ⟨3, ![1, 1024, 256]⟩
abbrev S1024x256 : Shape := ⟨2, ![1024, 256]⟩
abbrev S256x256 : Shape := ⟨2, ![256, 256]⟩
abbrev S1x256 : Shape := ⟨2, ![1, 256]⟩

abbrev nBuf : Space → Nat
  | .hbm => 19
  | .vmem => 31
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .f32⟩
  | .hbm, ⟨3, _⟩ => ⟨S8192x2048, .f32⟩
  | .hbm, ⟨4, _⟩ => ⟨S8192x2048, .f32⟩
  | .hbm, ⟨5, _⟩ => ⟨S8x1024x256, .bf16⟩
  | .hbm, ⟨6, _⟩ => ⟨S2048x2048, .bf16⟩
  | .hbm, ⟨7, _⟩ => ⟨S1x1024, .f32⟩
  | .hbm, ⟨8, _⟩ => ⟨S1x2048, .f32⟩
  | .hbm, ⟨9, _⟩ => ⟨S1x1024, .f32⟩
  | .hbm, ⟨10, _⟩ => ⟨S1x2048, .f32⟩
  | .hbm, ⟨11, _⟩ => ⟨S1x2048, .f32⟩
  | .hbm, ⟨12, _⟩ => ⟨S8192x1024, .f32⟩
  | .hbm, ⟨13, _⟩ => ⟨S8192x2048, .f32⟩
  | .hbm, ⟨14, _⟩ => ⟨S8192x2048, .bf16⟩
  | .hbm, ⟨15, _⟩ => ⟨S8192x2048, .f32⟩
  | .hbm, ⟨16, _⟩ => ⟨S1x1, .f32⟩
  | .hbm, ⟨17, _⟩ => ⟨S1x2048, .f32⟩
  | .hbm, ⟨18, _⟩ => ⟨S1x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S8x1024x256, .bf16⟩
  | .local _ .vmem, ⟨13, _⟩ => ⟨S2048x2048, .bf16⟩
  | .local _ .vmem, ⟨14, _⟩ => ⟨S1x1024, .f32⟩
  | .local _ .vmem, ⟨15, _⟩ => ⟨S1x2048, .f32⟩
  | .local _ .vmem, ⟨16, _⟩ => ⟨S1x1024, .f32⟩
  | .local _ .vmem, ⟨17, _⟩ => ⟨S1x2048, .f32⟩
  | .local _ .vmem, ⟨18, _⟩ => ⟨S1x2048, .f32⟩
  | .local _ .vmem, ⟨19, _⟩ => ⟨S256x1024, .f32⟩
  | .local _ .vmem, ⟨20, _⟩ => ⟨S256x1024, .f32⟩
  | .local _ .vmem, ⟨21, _⟩ => ⟨S256x2048, .f32⟩
  | .local _ .vmem, ⟨22, _⟩ => ⟨S256x2048, .f32⟩
  | .local _ .vmem, ⟨23, _⟩ => ⟨S256x2048, .bf16⟩
  | .local _ .vmem, ⟨24, _⟩ => ⟨S256x2048, .bf16⟩
  | .local _ .vmem, ⟨25, _⟩ => ⟨S256x2048, .f32⟩
  | .local _ .vmem, ⟨26, _⟩ => ⟨S256x2048, .f32⟩
  | .local _ .vmem, ⟨27, _⟩ => ⟨S1x1, .f32⟩
  | .local _ .vmem, ⟨28, _⟩ => ⟨S1x2048, .f32⟩
  | .local _ .vmem, ⟨29, _⟩ => ⟨S1x2048, .f32⟩
  | .local _ .vmem, ⟨30, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem18_0 : DmaSem sig := 28
abbrev cc0_sem19_0 : DmaSem sig := 29

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== MergeKernelIdeal.lean ====
variable {F : FTy → Type} [FloatOps F] [Named F]
def κ : String → Option EReal := fun
  | "c" => some ((8943 / 200000 : ℝ) : EReal)
  | _ => none
-- ==== MergeReferenceIdeal.lean ====
abbrev S8192x1024 : Shape := ⟨2, ![8192, 1024]⟩
abbrev S8192x4096 : Shape := ⟨2, ![8192, 4096]⟩
abbrev S8192x2048 : Shape := ⟨2, ![8192, 2048]⟩
abbrev S8x1024x256 : Shape := ⟨3, ![8, 1024, 256]⟩
abbrev S2048x2048 : Shape := ⟨2, ![2048, 2048]⟩
abbrev S1x1024 : Shape := ⟨2, ![1, 1024]⟩
abbrev S1x2048 : Shape := ⟨2, ![1, 2048]⟩
abbrev S1024x8x256 : Shape := ⟨3, ![1024, 8, 256]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x1 : Shape := ⟨2, ![1, 1]⟩

abbrev nBuf : Space → Nat
  | .hbm => 143
  | .vmem => 0
  | .smem => 0
  | _ => 0

abbrev hbmTy0_0 (i : Nat) : BufTy := match i % 128 with
  | 0 => ⟨S8192x1024, .f32⟩
  | 1 => ⟨S8192x4096, .f32⟩
  | 2 => ⟨S8192x1024, .f32⟩
  | 3 => ⟨S8192x2048, .f32⟩
  | 4 => ⟨S8192x2048, .f32⟩
  | 5 => ⟨S8x1024x256, .bf16⟩
  | 6 => ⟨S2048x2048, .bf16⟩
  | 7 => ⟨S1x1024, .f32⟩
  | 8 => ⟨S1x2048, .f32⟩
  | 9 => ⟨S1x1024, .f32⟩
  | 10 => ⟨S1x2048, .f32⟩
  | 11 => ⟨S1x2048, .f32⟩
  | 12 => ⟨S8192x1024, .f32⟩
  | 13 => ⟨S8192x2048, .f32⟩
  | 14 => ⟨S8x1024x256, .f32⟩
  | 15 => ⟨S1024x8x256, .f32⟩
  | 16 => ⟨S1024x2048, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S_, .f32⟩
  | 23 => ⟨S8192x1024, .f32⟩
  | 24 => ⟨S8192x1024, .f32⟩
  | 25 => ⟨S_, .f32⟩
  | 26 => ⟨S8192x1024, .f32⟩
  | 27 => ⟨S8192x1024, .f32⟩
  | 28 => ⟨S8192x1024, .f32⟩
  | 29 => ⟨S_, .f32⟩
  | 30 => ⟨S8192x1024, .f32⟩
  | 31 => ⟨S8192x1024, .f32⟩
  | 32 => ⟨S8192x1024, .f32⟩
  | 33 => ⟨S_, .f32⟩
  | 34 => ⟨S8192x1024, .f32⟩
  | 35 => ⟨S8192x1024, .f32⟩
  | 36 => ⟨S_, .f32⟩
  | 37 => ⟨S8192x1024, .f32⟩
  | 38 => ⟨S8192x1024, .f32⟩
  | 39 => ⟨S8192x1024, .f32⟩
  | 40 => ⟨S8192x2048, .f32⟩
  | 41 => ⟨S8192x2048, .f32⟩
  | 42 => ⟨S8192x2048, .f32⟩
  | 43 => ⟨S8192x1024, .f32⟩
  | 44 => ⟨S8192x1024, .f32⟩
  | 45 => ⟨S8192x1024, .f32⟩
  | 46 => ⟨S8192x1024, .f32⟩
  | 47 => ⟨S_, .f32⟩
  | 48 => ⟨S8192x1024, .f32⟩
  | 49 => ⟨S8192x1024, .f32⟩
  | 50 => ⟨S_, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S8192x2048, .f32⟩
  | 57 => ⟨S8192x2048, .f32⟩
  | 58 => ⟨S8192x2048, .f32⟩
  | 59 => ⟨S_, .f32⟩
  | 60 => ⟨S8192x2048, .f32⟩
  | 61 => ⟨S8192x2048, .f32⟩
  | 62 => ⟨S_, .f32⟩
  | 63 => ⟨S8192x2048, .f32⟩
  | 64 => ⟨S8192x2048, .f32⟩
  | 65 => ⟨S8192x2048, .f32⟩
  | 66 => ⟨S8192x2048, .f32⟩
  | 67 => ⟨S2048x2048, .f32⟩
  | 68 => ⟨S8192x2048, .f32⟩
  | 69 => ⟨S8192x2048, .f32⟩
  | 70 => ⟨S8192x2048, .f32⟩
  | 71 => ⟨S8192x2048, .f32⟩
  | 72 => ⟨S8192x2048, .f32⟩
  | 73 => ⟨S_, .f32⟩
  | 74 => ⟨S8192, .f32⟩
  | 75 => ⟨S8192x1, .f32⟩
  | 76 => ⟨S_, .f32⟩
  | 77 => ⟨S8192x1, .f32⟩
  | 78 => ⟨S8192x1, .f32⟩
  | 79 => ⟨S_, .f32⟩
  | 80 => ⟨S8192x1, .f32⟩
  | 81 => ⟨S8192x1, .f32⟩
  | 82 => ⟨S8192x1, .f32⟩
  | 83 => ⟨S8192x1, .f32⟩
  | 84 => ⟨S_, .f32⟩
  | 85 => ⟨S8192x1, .f32⟩
  | 86 => ⟨S8192x1, .f32⟩
  | 87 => ⟨S8192x2048, .f32⟩
  | 88 => ⟨S8192x2048, .f32⟩
  | 89 => ⟨S8192x2048, .f32⟩
  | 90 => ⟨S8192x2048, .f32⟩
  | 91 => ⟨S8192x2048, .f32⟩
  | 92 => ⟨S8192x2048, .f32⟩
  | 93 => ⟨S_, .f32⟩
  | 94 => ⟨S8192x2048, .f32⟩
  | 95 => ⟨S8192x2048, .f32⟩
  | 96 => ⟨S_, .f32⟩
  | 97 => ⟨S8192, .f32⟩
  | 98 => ⟨S_, .f32⟩
  | 99 => ⟨S8192, .f32⟩
  | 100 => ⟨S8192, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S8192, .f32⟩
  | 109 => ⟨S_, .f32⟩
  | 110 => ⟨S8192, .f32⟩
  | 111 => ⟨S8192, .f32⟩
  | 112 => ⟨S8192x2048, .f32⟩
  | 113 => ⟨S8192x2048, .f32⟩
  | 114 => ⟨S8192x2048, .f32⟩
  | 115 => ⟨S_, .f32⟩
  | 116 => ⟨S2048, .f32⟩
  | 117 => ⟨S1x2048, .f32⟩
  | 118 => ⟨S8192x2048, .f32⟩
  | 119 => ⟨S8192x2048, .f32⟩
  | 120 => ⟨S8192x2048, .f32⟩
  | 121 => ⟨S_, .f32⟩
  | 122 => ⟨S8192, .f32⟩
  | 123 => ⟨S8192x1, .f32⟩
  | 124 => ⟨S8192x2048, .f32⟩
  | 125 => ⟨S8192x2048, .f32⟩
  | 126 => ⟨S8192x1, .f32⟩
  | 127 => ⟨S_, .f32⟩
  | _ => ⟨S8192x1024, .f32⟩

abbrev hbmTy0_1 (i : Nat) : BufTy := match i % 128 with
  | 0 => ⟨S8192x1, .f32⟩
  | 1 => ⟨S8192x1, .f32⟩
  | 2 => ⟨S_, .f32⟩
  | 3 => ⟨S8192, .f32⟩
  | 4 => ⟨S8192x2048, .f32⟩
  | 5 => ⟨S8192x2048, .f32⟩
  | 6 => ⟨S8192x2048, .f32⟩
  | 7 => ⟨S8192x2048, .f32⟩
  | 8 => ⟨S8192x2048, .f32⟩
  | 9 => ⟨S8192x2048, .f32⟩
  | 10 => ⟨S_, .f32⟩
  | 11 => ⟨S2048, .f32⟩
  | 12 => ⟨S1x2048, .f32⟩
  | 13 => ⟨S8192x2048, .bf16⟩
  | 14 => ⟨S1x1, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_6 : Ref sig .tc := ⟨.hbm, 73, rfl⟩
abbrev main_v46 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_v49 : Ref sig .tc := ⟨.hbm, 78, rfl⟩
abbrev main_cst_8 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_10 : Ref sig .tc := ⟨.hbm, 93, rfl⟩
abbrev main_v62 : Ref sig .tc := ⟨.hbm, 94, rfl⟩
abbrev main_v63 : Ref sig .tc := ⟨.hbm, 95, rfl⟩
abbrev main_cst_11 : Ref sig .tc := ⟨.hbm, 96, rfl⟩
abbrev main_v64 : Ref sig .tc := ⟨.hbm, 97, rfl⟩
abbrev main_cst_12 : Ref sig .tc := ⟨.hbm, 98, rfl⟩
abbrev main_v65 : Ref sig .tc := ⟨.hbm, 99, rfl⟩
abbrev main_v66 : Ref sig .tc := ⟨.hbm, 100, rfl⟩
abbrev main_cst_13 : Ref sig .tc := ⟨.hbm, 101, rfl⟩
abbrev main_v67 : Ref sig .tc := ⟨.hbm, 102, rfl⟩
abbrev main_cst_14 : Ref sig .tc := ⟨.hbm, 103, rfl⟩
abbrev main_v68 : Ref sig .tc := ⟨.hbm, 104, rfl⟩
abbrev main_cst_15 : Ref sig .tc := ⟨.hbm, 105, rfl⟩
abbrev main_cst_16 : Ref sig .tc := ⟨.hbm, 106, rfl⟩
abbrev main_v69 : Ref sig .tc := ⟨.hbm, 107, rfl⟩
abbrev main_v70 : Ref sig .tc := ⟨.hbm, 108, rfl⟩
abbrev main_cst_17 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_18 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_19 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_20 : Ref sig .tc := ⟨.hbm, 127, rfl⟩
abbrev main_v86 : Ref sig .tc := ⟨.hbm, 128, rfl⟩
abbrev main_v87 : Ref sig .tc := ⟨.hbm, 129, rfl⟩
abbrev main_cst_21 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_22 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩

abbrev nD : Nat := 1
abbrev τ : Topo := Topo.v7x

variable {F : FTy → Type} [FloatOps F]
-- ==== CtxKernel.lean ====
abbrev S256x2048 : Shape := ⟨2, ![256, 2048]⟩
abbrev S256x1024 : Shape := ⟨2, ![256, 1024]⟩
abbrev S8x2048x512 : Shape := ⟨3, ![8, 2048, 512]⟩
abbrev S1x2048 : Shape := ⟨2, ![1, 2048]⟩
abbrev S256x512 : Shape := ⟨2, ![256, 512]⟩
abbrev S1x2048x512 : Shape := ⟨3, ![1, 2048, 512]⟩
abbrev S2048x512 : Shape := ⟨2, ![2048, 512]⟩
abbrev S256 : Shape := ⟨1, ![256]⟩
abbrev S256x1 : Shape := ⟨2, ![256, 1]⟩
abbrev S2048 : Shape := ⟨1, ![2048]⟩

abbrev nBuf : Space → Nat
  | .hbm => 10
  | .vmem => 10
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S8x2048x512, .bf16⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S256x1024, .bf16⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x1024, .f32⟩
  | .local _ .vmem, ⟨2, _⟩ => ⟨S8x2048x512, .bf16⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S256x1024, .bf16⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== CtxReferenceIdeal.lean ====
abbrev S256x2048 : Shape := ⟨2, ![256, 2048]⟩
abbrev S256x1024 : Shape := ⟨2, ![256, 1024]⟩
abbrev S8x2048x512 : Shape := ⟨3, ![8, 2048, 512]⟩
abbrev S1x2048 : Shape := ⟨2, ![1, 2048]⟩
abbrev S2048x8x512 : Shape := ⟨3, ![2048, 8, 512]⟩
abbrev S2048x4096 : Shape := ⟨2, ![2048, 4096]⟩
abbrev S_ : Shape := ⟨0, ![]⟩
abbrev S256 : Shape := ⟨1, ![256]⟩
abbrev S256x1 : Shape := ⟨2, ![256, 1]⟩
abbrev S2048x1024 : Shape := ⟨2, ![2048, 1024]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S8x2048x512, .bf16⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8x2048x512, .f32⟩
  | .hbm, ⟨7, _⟩ => ⟨S2048x8x512, .f32⟩
  | .hbm, ⟨8, _⟩ => ⟨S2048x4096, .f32⟩
  | .hbm, ⟨9, _⟩ => ⟨S256x2048, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S2048x1024, .f32⟩
  | .hbm, ⟨32, _⟩ => ⟨S256x1024, .f32⟩
  | .hbm, ⟨33, _⟩ => ⟨S256x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S256x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S256x2048, .f32⟩
  | .hbm, ⟨42, _⟩ => ⟨S256x2048, .f32⟩
  | .hbm, ⟨43, _⟩ => ⟨S256x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S256x1024, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== ModKernel.lean ====
abbrev S8x2048 : Shape := ⟨2, ![8, 2048]⟩
abbrev S1x2048 : Shape := ⟨2, ![1, 2048]⟩
abbrev S8x768 : Shape := ⟨2, ![8, 768]⟩
abbrev S2048x768 : Shape := ⟨2, ![2048, 768]⟩
abbrev S_ : Shape := ⟨0, ![]⟩
abbrev S7x2048 : Shape := ⟨2, ![7, 2048]⟩
abbrev S16x2048 : Shape := ⟨2, ![16, 2048]⟩
abbrev S1x768 : Shape := ⟨2, ![1, 768]⟩
abbrev S768 : Shape := ⟨1, ![768]⟩
abbrev S7x768 : Shape := ⟨2, ![7, 768]⟩
abbrev S16x768 : Shape := ⟨2, ![16, 768]⟩

abbrev nBuf : Space → Nat
  | .hbm => 11
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S1x2048, .f32⟩
  | .hbm, ⟨2, _⟩ => ⟨S8x768, .f32⟩
  | .hbm, ⟨3, _⟩ => ⟨S8x768, .f32⟩
  | .hbm, ⟨4, _⟩ => ⟨S2048x768, .f32⟩
  | .hbm, ⟨5, _⟩ => ⟨S_, .f32⟩
  | .hbm, ⟨6, _⟩ => ⟨S7x2048, .f32⟩
  | .hbm, ⟨7, _⟩ => ⟨S16x2048, .f32⟩
  | .hbm, ⟨8, _⟩ => ⟨S2048x768, .f32⟩
  | .hbm, ⟨9, _⟩ => ⟨S1x768, .f32⟩
  | .hbm, ⟨10, _⟩ => ⟨S1x2048, .f32⟩
  | .local _ .vmem, ⟨0, _⟩ => ⟨S16x2048, .f32⟩
  | .local _ .vmem, ⟨1, _⟩ => ⟨S8x768, .f32⟩
  | .local _ .vmem, ⟨2, _⟩ => ⟨S8x768, .f32⟩
  | .local _ .vmem, ⟨3, _⟩ => ⟨S2048x768, .f32⟩
  | .local _ .vmem, ⟨4, _⟩ => ⟨S2048x768, .f32⟩
  | .local _ .vmem, ⟨5, _⟩ => ⟨S1x768, .f32⟩
  | .local _ .vmem, ⟨6, _⟩ => ⟨S1x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ModReferenceIdeal.lean ====
abbrev S8x2048 : Shape := ⟨2, ![8, 2048]⟩
abbrev S1x2048 : Shape := ⟨2, ![1, 2048]⟩
abbrev S8x768 : Shape := ⟨2, ![8, 768]⟩
abbrev S2048x768 : Shape := ⟨2, ![2048, 768]⟩
abbrev S_ : Shape := ⟨0, ![]⟩
abbrev S1x768 : Shape := ⟨2, ![1, 768]⟩
abbrev S768 : Shape := ⟨1, ![768]⟩
abbrev S768x2048 : Shape := ⟨2, ![768, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S1x2048, .f32⟩
  | .hbm, ⟨2, _⟩ => ⟨S8x768, .f32⟩
  | .hbm, ⟨3, _⟩ => ⟨S8x768, .f32⟩
  | .hbm, ⟨4, _⟩ => ⟨S2048x768, .f32⟩
  | .hbm, ⟨5, _⟩ => ⟨S_, .f32⟩
  | .hbm, ⟨6, _⟩ => ⟨S1x768, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S_, .f32⟩
  | .hbm, ⟨13, _⟩ => ⟨S8x2048, .f32⟩
  | .hbm, ⟨14, _⟩ => ⟨S8x2048, .f32⟩
  | .hbm, ⟨15, _⟩ => ⟨S8x2048, .f32⟩
  | .hbm, ⟨16, _⟩ => ⟨S8x768, .f32⟩
  | .hbm, ⟨17, _⟩ => ⟨S8x768, .f32⟩
  | .hbm, ⟨18, _⟩ => ⟨S8x768, .f32⟩
  | .hbm, ⟨19, _⟩ => ⟨S1x2048, .f32⟩
  | .hbm, ⟨20, _⟩ => ⟨S1x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S1x768, .f32⟩
  | .hbm, ⟨33, _⟩ => ⟨S1x768, .f32⟩
  | .hbm, ⟨34, _⟩ => ⟨S_, .f32⟩
  | .hbm, ⟨35, _⟩ => ⟨S768, .f32⟩
  | .hbm, ⟨36, _⟩ => ⟨S1x768, .f32⟩
  | .hbm, ⟨37, _⟩ => ⟨S768x2048, .f32⟩
  | .hbm, ⟨38, _⟩ => ⟨S2048x768, .f32⟩
  | .hbm, ⟨39, _⟩ => ⟨S1x2048, .f32⟩
  | .hbm, ⟨40, _⟩ => ⟨S1x2048, .f32⟩
  | .hbm, ⟨41, _⟩ => ⟨S1x2048, .f32⟩
  | .hbm, ⟨42, _⟩ => ⟨S1x2048, .f32⟩
  | .hbm, ⟨43, _⟩ => ⟨S1x2048, .f32⟩
  | .hbm, ⟨44, _⟩ => ⟨S8x768, .f32⟩
  | .hbm, ⟨45, _⟩ => ⟨S_, .f32⟩
  | .hbm, ⟨46, _⟩ => ⟨S768, .f32⟩
  | .hbm, ⟨47, _⟩ => ⟨S1x768, .f32⟩
  | .hbm, ⟨48, _⟩ => ⟨S1x768, .f32⟩
  | .hbm, ⟨49, _⟩ => ⟨S768x2048, .f32⟩
  | .hbm, ⟨50, _⟩ => ⟨S2048x768, .f32⟩
  | .hbm, ⟨51, _⟩ => ⟨S2048x768, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_v5_2 : Ref sig .tc := ⟨.hbm, 26, rfl⟩
abbrev main_call1_cst_1 : Ref sig .tc := ⟨.hbm, 27, rfl⟩
abbrev main_call1_v6 : Ref sig .tc := ⟨.hbm, 28, rfl⟩
abbrev main_call1_v7 : Ref sig .tc := ⟨.hbm, 29, rfl⟩
abbrev main_v5_1 : Ref sig .tc := ⟨.hbm, 30, rfl⟩
abbrev main_v5_0 : Ref sig .tc := ⟨.hbm, 31, rfl⟩
abbrev main_v6 : Ref sig .tc := ⟨.hbm, 32, rfl⟩
abbrev main_v7 : Ref sig .tc := ⟨.hbm, 33, rfl⟩
abbrev main_cst_0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v13 : Ref sig .tc := ⟨.hbm, 43, rfl⟩
abbrev main_v14 : Ref sig .tc := ⟨.hbm, 44, rfl⟩
abbrev main_cst_1 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩

abbrev nD : Nat := 1
abbrev τ : Topo := Topo.v7x

variable {F : FTy → Type} [FloatOps F]
-- ==== AdamKernel.lean ====
abbrev S4x2048x512 : Shape := ⟨3, ![4, 2048, 512]⟩
abbrev S2048x512 : Shape := ⟨2, ![2048, 512]⟩
abbrev S4x512x512 : Shape := ⟨3, ![4, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x512, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S4x512x512, .bf16⟩
  | .local _ .vmem, ⟨1, _⟩ => ⟨S4x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S4x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamReferenceIdeal.lean ====
abbrev S4x2048x512 : Shape := ⟨3, ![4, 2048, 512]⟩
abbrev S2048x512 : Shape := ⟨2, ![2048, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x512, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S4x2048x512, .f32⟩
  | .hbm, ⟨5, _⟩ => ⟨S_, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | _, _ => ⟨S4x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== ProjKernel.lean ====
abbrev S256x2048 : Shape := ⟨2, ![256, 2048]⟩
abbrev S1x2048 : Shape := ⟨2, ![1, 2048]⟩
abbrev S8x2048x512 : Shape := ⟨3, ![8, 2048, 512]⟩
abbrev S256x1024 : Shape := ⟨2, ![256, 1024]⟩
abbrev S256 : Shape := ⟨1, ![256]⟩
abbrev S256x1 : Shape := ⟨2, ![256, 1]⟩
abbrev S1x2048x512 : Shape := ⟨3, ![1, 2048, 512]⟩
abbrev S2048x512 : Shape := ⟨2, ![2048, 512]⟩
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8x2048x512, .bf16⟩
  | .hbm, ⟨5, _⟩ => ⟨S256x1024, .f32⟩
  | .hbm, ⟨6, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S8x2048x512, .bf16⟩
  | .local _ .vmem, ⟨5, _⟩ => ⟨S256x1024, .f32⟩
  | .local _ .vmem, ⟨6, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ProjReferenceIdeal.lean ====
abbrev S256x2048 : Shape := ⟨2, ![256, 2048]⟩
abbrev S1x2048 : Shape := ⟨2, ![1, 2048]⟩
abbrev S8x2048x512 : Shape := ⟨3, ![8, 2048, 512]⟩
abbrev S2048x8x512 : Shape := ⟨3, ![2048, 8, 512]⟩
abbrev S2048x4096 : Shape := ⟨2, ![2048, 4096]⟩
abbrev S_ : Shape := ⟨0, ![]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩

abbrev nBuf : Space → Nat
  | .hbm => 33
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8x2048x512, .bf16⟩
  | .hbm, ⟨5, _⟩ => ⟨S8x2048x512, .f32⟩
  | .hbm, ⟨6, _⟩ => ⟨S2048x8x512, .f32⟩
  | .hbm, ⟨7, _⟩ => ⟨S2048x4096, .f32⟩
  | .hbm, ⟨8, _⟩ => ⟨S256x2048, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S1x2048, .f32⟩
  | .hbm, ⟨25, _⟩ => ⟨S1x2048, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S2048x1024, .f32⟩
  | .hbm, ⟨31, _⟩ => ⟨S256x1024, .f32⟩
  | .hbm, ⟨32, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== TableKernel.lean ====
abbrev S8x2048 : Shape := ⟨2, ![8, 2048]⟩
abbrev S1x2048 : Shape := ⟨2, ![1, 2048]⟩
abbrev S2048x768 : Shape := ⟨2, ![2048, 768]⟩
abbrev S1x768 : Shape := ⟨2, ![1, 768]⟩
abbrev S_ : Shape := ⟨0, ![]⟩
abbrev S7x2048 : Shape := ⟨2, ![7, 2048]⟩
abbrev S16x2048 : Shape := ⟨2, ![16, 2048]⟩
abbrev S16x768 : Shape := ⟨2, ![16, 768]⟩

abbrev nBuf : Space → Nat
  | .hbm => 8
  | .vmem => 4
  | .smem => 0
  | _ => 0

abbrev bufTy : (tb : Table) → Fin (tcTables nBuf tb) → BufTy
  | .hbm, ⟨0, _⟩ => ⟨S8x2048, .f32⟩
  | .hbm, ⟨1, _⟩ => ⟨S1x2048, .f32⟩
  | .hbm, ⟨2, _⟩ => ⟨S2048x768, .f32⟩
  | .hbm, ⟨3, _⟩ => ⟨S1x768, .f32⟩
  | .hbm, ⟨4, _⟩ => ⟨S_, .f32⟩
  | .hbm, ⟨5, _⟩ => ⟨S7x2048, .f32⟩
  | .hbm, ⟨6, _⟩ => ⟨S16x2048, .f32⟩
  | .hbm, ⟨7, _⟩ => ⟨S16x768, .f32⟩
  | .local _ .vmem, ⟨0, _⟩ => ⟨S16x2048, .f32⟩
  | .local _ .vmem, ⟨1, _⟩ => ⟨S2048x768, .f32⟩
  | .local _ .vmem, ⟨2, _⟩ => ⟨S1x768, .f32⟩
  | .local _ .vmem, ⟨3, _⟩ => ⟨S16x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== TableReferenceIdeal.lean ====
abbrev S8x2048 : Shape := ⟨2, ![8, 2048]⟩
abbrev S1x2048 : Shape := ⟨2, ![1, 2048]⟩
abbrev S2048x768 : Shape := ⟨2, ![2048, 768]⟩
abbrev S1x768 : Shape := ⟨2, ![1, 768]⟩
abbrev S_ : Shape := ⟨0, ![]⟩
abbrev S8x768 : Shape := ⟨2, ![8, 768]⟩
abbrev S7x768 : Shape := ⟨2, ![7, 768]⟩
abbrev S16x768 : Shape := ⟨2, ![16, 768]⟩

abbrev nBuf : Space → Nat
  | .hbm => 29
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S1x2048, .f32⟩
  | .hbm, ⟨2, _⟩ => ⟨S2048x768, .f32⟩
  | .hbm, ⟨3, _⟩ => ⟨S1x768, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x768, .f32⟩
  | .hbm, ⟨14, _⟩ => ⟨S8x768, .f32⟩
  | .hbm, ⟨15, _⟩ => ⟨S8x768, .f32⟩
  | .hbm, ⟨16, _⟩ => ⟨S1x2048, .f32⟩
  | .hbm, ⟨17, _⟩ => ⟨S1x2048, .f32⟩
  | .hbm, ⟨18, _⟩ => ⟨S_, .f32⟩
  | .hbm, ⟨19, _⟩ => ⟨S1x2048, .f32⟩
  | .hbm, ⟨20, _⟩ => ⟨S1x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S1x768, .f32⟩
  | .hbm, ⟨26, _⟩ => ⟨S1x768, .f32⟩
  | .hbm, ⟨27, _⟩ => ⟨S7x768, .f32⟩
  | .hbm, ⟨28, _⟩ => ⟨S16x768, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_call1_v5 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩

abbrev nD : Nat := 1
abbrev τ : Topo := Topo.v7x

variable {F : FTy → Type} [FloatOps F]
-- ==== AgluKernel.lean ====
abbrev S4x1024x256 : Shape := ⟨3, ![4, 1024, 256]⟩
abbrev S1024x256 : Shape := ⟨2, ![1024, 256]⟩
abbrev S1x1024x256 : Shape := ⟨3, ![1, 1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S4x1024x256, .bf16⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AgluReferenceIdeal.lean ====
abbrev S4x1024x256 : Shape := ⟨3, ![4, 1024, 256]⟩
abbrev S1024x256 : Shape := ⟨2, ![1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S4x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S4x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AoutKernel.lean ====
abbrev S4x256x2048 : Shape := ⟨3, ![4, 256, 2048]⟩
abbrev S256x2048 : Shape := ⟨2, ![256, 2048]⟩
abbrev S4x128x2048 : Shape := ⟨3, ![4, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AoutReferenceIdeal.lean ====
abbrev S4x256x2048 : Shape := ⟨3, ![4, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S4x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== ApoolKernel.lean ====
abbrev S4x128x256 : Shape := ⟨3, ![4, 128, 256]⟩
abbrev S128x256 : Shape := ⟨2, ![128, 256]⟩
abbrev S1x128x256 : Shape := ⟨3, ![1, 128, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x128x256, .bf16⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .local _ .vmem, ⟨0, _⟩ => ⟨S4x128x256, .bf16⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | _, _ => ⟨S4x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ApoolReferenceIdeal.lean ====
abbrev S4x128x256 : Shape := ⟨3, ![4, 128, 256]⟩
abbrev S128x256 : Shape := ⟨2, ![128, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x128x256, .bf16⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S4x128x256, .f32⟩
  | .hbm, ⟨5, _⟩ => ⟨S_, .f32⟩
  | .hbm, ⟨6, _⟩ => ⟨S128x256, .f32⟩
  | .hbm, ⟨7, _⟩ => ⟨S_, .f32⟩
  | .hbm, ⟨8, _⟩ => ⟨S128x256, .f32⟩
  | .hbm, ⟨9, _⟩ => ⟨S128x256, .f32⟩
  | .hbm, ⟨10, _⟩ => ⟨S_, .f32⟩
  | .hbm, ⟨11, _⟩ => ⟨S128x256, .f32⟩
  | .hbm, ⟨12, _⟩ => ⟨S128x256, .f32⟩
  | .hbm, ⟨13, _⟩ => ⟨S128x256, .f32⟩
  | .hbm, ⟨14, _⟩ => ⟨S_, .f32⟩
  | .hbm, ⟨15, _⟩ => ⟨S128x256, .f32⟩
  | .hbm, ⟨16, _⟩ => ⟨S128x256, .f32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S128x256, .f32⟩
  | .hbm, ⟨37, _⟩ => ⟨S_, .f32⟩
  | .hbm, ⟨38, _⟩ => ⟨S128x256, .f32⟩
  | .hbm, ⟨39, _⟩ => ⟨S128x256, .f32⟩
  | _, _ => ⟨S4x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AadaKernel.lean ====
abbrev S2048x768 : Shape := ⟨2, ![2048, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AadaReferenceIdeal.lean ====
abbrev S2048x768 : Shape := ⟨2, ![2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AbKernel.lean ====
abbrev S8192x16 : Shape := ⟨2, ![8192, 16]⟩
abbrev S2048x16 : Shape := ⟨2, ![2048, 16]⟩

abbrev nBuf : Space → Nat
  | .hbm => 7
  | .vmem => 14
  | .smem => 0
  | _ => 0

abbrev bufTy : (tb : Table) → Fin (tcTables nBuf tb) → BufTy
  | .hbm, ⟨0, _⟩ => ⟨S8192x16, .f32⟩
  | .hbm, ⟨1, _⟩ => ⟨S8192x16, .f32⟩
  | .hbm, ⟨2, _⟩ => ⟨S8192x16, .f32⟩
  | .hbm, ⟨3, _⟩ => ⟨S8192x16, .f32⟩
  | .hbm, ⟨4, _⟩ => ⟨S8192x16, .f32⟩
  | .hbm, ⟨5, _⟩ => ⟨S8192x16, .f32⟩
  | .hbm, ⟨6, _⟩ => ⟨S8192x16, .f32⟩
  | .local _ .vmem, ⟨0, _⟩ => ⟨S2048x16, .f32⟩
  | .local _ .vmem, ⟨1, _⟩ => ⟨S2048x16, .f32⟩
  | .local _ .vmem, ⟨2, _⟩ => ⟨S2048x16, .f32⟩
  | .local _ .vmem, ⟨3, _⟩ => ⟨S2048x16, .f32⟩
  | .local _ .vmem, ⟨4, _⟩ => ⟨S2048x16, .f32⟩
  | .local _ .vmem, ⟨5, _⟩ => ⟨S2048x16, .f32⟩
  | .local _ .vmem, ⟨6, _⟩ => ⟨S2048x16, .f32⟩
  | .local _ .vmem, ⟨7, _⟩ => ⟨S2048x16, .f32⟩
  | .local _ .vmem, ⟨8, _⟩ => ⟨S2048x16, .f32⟩
  | .local _ .vmem, ⟨9, _⟩ => ⟨S2048x16, .f32⟩
  | .local _ .vmem, ⟨10, _⟩ => ⟨S2048x16, .f32⟩
  | .local _ .vmem, ⟨11, _⟩ => ⟨S2048x16, .f32⟩
  | .local _ .vmem, ⟨12, _⟩ => ⟨S2048x16, .f32⟩
  | .local _ .vmem, ⟨13, _⟩ => ⟨S2048x16, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AbReferenceIdeal.lean ====
abbrev S8192x16 : Shape := ⟨2, ![8192, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x16, .f32⟩
  | .hbm, ⟨1, _⟩ => ⟨S8192x16, .f32⟩
  | .hbm, ⟨2, _⟩ => ⟨S8192x16, .f32⟩
  | .hbm, ⟨3, _⟩ => ⟨S8192x16, .f32⟩
  | .hbm, ⟨4, _⟩ => ⟨S_, .f32⟩
  | .hbm, ⟨5, _⟩ => ⟨S8192x16, .f32⟩
  | .hbm, ⟨6, _⟩ => ⟨S8192x16, .f32⟩
  | .hbm, ⟨7, _⟩ => ⟨S_, .f32⟩
  | .hbm, ⟨8, _⟩ => ⟨S8192x16, .f32⟩
  | .hbm, ⟨9, _⟩ => ⟨S8192x16, .f32⟩
  | .hbm, ⟨10, _⟩ => ⟨S8192x16, .f32⟩
  | .hbm, ⟨11, _⟩ => ⟨S_, .f32⟩
  | .hbm, ⟨12, _⟩ => ⟨S8192x16, .f32⟩
  | .hbm, ⟨13, _⟩ => ⟨S8192x16, .f32⟩
  | .hbm, ⟨14, _⟩ => ⟨S8192x16, .f32⟩
  | .hbm, ⟨15, _⟩ => ⟨S_, .f32⟩
  | .hbm, ⟨16, _⟩ => ⟨S8192x16, .f32⟩
  | .hbm, ⟨17, _⟩ => ⟨S8192x16, .f32⟩
  | .hbm, ⟨18, _⟩ => ⟨S8192x16, .f32⟩
  | .hbm, ⟨19, _⟩ => ⟨S_, .f32⟩
  | .hbm, ⟨20, _⟩ => ⟨S8192x16, .f32⟩
  | .hbm, ⟨21, _⟩ => ⟨S8192x16, .f32⟩
  | .hbm, ⟨22, _⟩ => ⟨S_, .f32⟩
  | .hbm, ⟨23, _⟩ => ⟨S8192x16, .f32⟩
  | .hbm, ⟨24, _⟩ => ⟨S8192x16, .f32⟩
  | .hbm, ⟨25, _⟩ => ⟨S8192x16, .f32⟩
  | .hbm, ⟨26, _⟩ => ⟨S_, .f32⟩
  | .hbm, ⟨27, _⟩ => ⟨S8192x16, .f32⟩
  | .hbm, ⟨28, _⟩ => ⟨S8192x16, .f32⟩
  | .hbm, ⟨29, _⟩ => ⟨S8192x16, .f32⟩
  | .hbm, ⟨30, _⟩ => ⟨S_, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S_, .f32⟩
  | .hbm, ⟨35, _⟩ => ⟨S8192x16, .f32⟩
  | .hbm, ⟨36, _⟩ => ⟨S8192x16, .f32⟩
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AcKernel.lean ====
abbrev S2048x64 : Shape := ⟨2, ![2048, 64]⟩

abbrev nBuf : Space → Nat
  | .hbm => 7
  | .vmem => 7
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x64, .f32⟩
  | .hbm, ⟨3, _⟩ => ⟨S2048x64, .f32⟩
  | .hbm, ⟨4, _⟩ => ⟨S2048x64, .f32⟩
  | .hbm, ⟨5, _⟩ => ⟨S2048x64, .f32⟩
  | .hbm, ⟨6, _⟩ => ⟨S2048x64, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AcReferenceIdeal.lean ====
abbrev S2048x64 : Shape := ⟨2, ![2048, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x64, .f32⟩
  | .hbm, ⟨3, _⟩ => ⟨S2048x64, .f32⟩
  | .hbm, ⟨4, _⟩ => ⟨S_, .f32⟩
  | .hbm, ⟨5, _⟩ => ⟨S2048x64, .f32⟩
  | .hbm, ⟨6, _⟩ => ⟨S2048x64, .f32⟩
  | .hbm, ⟨7, _⟩ => ⟨S_, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S_, .f32⟩
  | .hbm, ⟨12, _⟩ => ⟨S2048x64, .f32⟩
  | .hbm, ⟨13, _⟩ => ⟨S2048x64, .f32⟩
  | .hbm, ⟨14, _⟩ => ⟨S2048x64, .f32⟩
  | .hbm, ⟨15, _⟩ => ⟨S_, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S_, .f32⟩
  | .hbm, ⟨20, _⟩ => ⟨S2048x64, .f32⟩
  | .hbm, ⟨21, _⟩ => ⟨S2048x64, .f32⟩
  | .hbm, ⟨22, _⟩ => ⟨S_, .f32⟩
  | .hbm, ⟨23, _⟩ => ⟨S2048x64, .f32⟩
  | .hbm, ⟨24, _⟩ => ⟨S2048x64, .f32⟩
  | .hbm, ⟨25, _⟩ => ⟨S2048x64, .f32⟩
  | .hbm, ⟨26, _⟩ => ⟨S_, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S_, .f32⟩
  | .hbm, ⟨31, _⟩ => ⟨S2048x64, .f32⟩
  | .hbm, ⟨32, _⟩ => ⟨S2048x64, .f32⟩
  | .hbm, ⟨33, _⟩ => ⟨S2048x64, .f32⟩
  | .hbm, ⟨34, _⟩ => ⟨S_, .f32⟩
  | .hbm, ⟨35, _⟩ => ⟨S2048x64, .f32⟩
  | .hbm, ⟨36, _⟩ => ⟨S2048x64, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== FwdKernel.lean ====
abbrev S33792x128 : Shape := ⟨2, ![33792, 128]⟩
abbrev S64x256 : Shape := ⟨2, ![64, 256]⟩
abbrev S16896x128 : Shape := ⟨2, ![16896, 128]⟩
abbrev S8448x128 : Shape := ⟨2, ![8448, 128]⟩
abbrev S16x256 : Shape := ⟨2, ![16, 256]⟩
abbrev S4224x128 : Shape := ⟨2, ![4224, 128]⟩
abbrev S8x128 : Shape := ⟨2, ![8, 128]⟩

abbrev nBuf : Space → Nat
  | .hbm => 7
  | .vmem => 14
  | .smem => 0
  | _ => 0

abbrev bufTy : (tb : Table) → Fin (tcTables nBuf tb) → BufTy
  | .hbm, ⟨0, _⟩ => ⟨S33792x128, .f32⟩
  | .hbm, ⟨1, _⟩ => ⟨S33792x128, .f32⟩
  | .hbm, ⟨2, _⟩ => ⟨S64x256, .f32⟩
  | .hbm, ⟨3, _⟩ => ⟨S16896x128, .f32⟩
  | .hbm, ⟨4, _⟩ => ⟨S16896x128, .f32⟩
  | .hbm, ⟨5, _⟩ => ⟨S16896x128, .f32⟩
  | .hbm, ⟨6, _⟩ => ⟨S16896x128, .f32⟩
  | .local _ .vmem, ⟨0, _⟩ => ⟨S8448x128, .f32⟩
  | .local _ .vmem, ⟨1, _⟩ => ⟨S8448x128, .f32⟩
  | .local _ .vmem, ⟨2, _⟩ => ⟨S8448x128, .f32⟩
  | .local _ .vmem, ⟨3, _⟩ => ⟨S8448x128, .f32⟩
  | .local _ .vmem, ⟨4, _⟩ => ⟨S16x256, .f32⟩
  | .local _ .vmem, ⟨5, _⟩ => ⟨S16x256, .f32⟩
  | .local _ .vmem, ⟨6, _⟩ => ⟨S4224x128, .f32⟩
  | .local _ .vmem, ⟨7, _⟩ => ⟨S4224x128, .f32⟩
  | .local _ .vmem, ⟨8, _⟩ => ⟨S4224x128, .f32⟩
  | .local _ .vmem, ⟨9, _⟩ => ⟨S4224x128, .f32⟩
  | .local _ .vmem, ⟨10, _⟩ => ⟨S4224x128, .f32⟩
  | .local _ .vmem, ⟨11, _⟩ => ⟨S4224x128, .f32⟩
  | .local _ .vmem, ⟨12, _⟩ => ⟨S4224x128, .f32⟩
  | .local _ .vmem, ⟨13, _⟩ => ⟨S4224x128, .f32⟩
  | _, _ => ⟨S33792x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c132_i32 : BitVec 32 := 132#32
  let v16 : BitVec 32 := Scalar.addi c0_i32 c132_i32
  let c1_i32 : BitVec 32 := 1#32
  ⟨c0_i32, v16, c1_i32⟩
def k0_off1 (k0_t1 : Fin k0_t1_loop.trips) (c0_i32_10 : BitVec 32) : Fin 2 → Nat :=
  let c0_i32 : BitVec 32 := 0#32
  let c1_i32 : BitVec 32 := 1#32
  let arg8 : BitVec 32 := Scf.iv c0_i32 c1_i32 k0_t1
  let c4_i32 : BitVec 32 := 4#32
  let v18 : BitVec 32 := Scalar.muli arg8 c4_i32
  let v19 : BitVec 32 := Scalar.addi v18 c0_i32_10
  let v25 : Index := Scalar.indexCast v19
  let c0_12 : Index := 0#32
  ![v25.toNat, 0]
def k0_off2 (k0_t1 : Fin k0_t1_loop.trips) (c0_i32_10 : BitVec 32) : Fin 2 → Nat :=
  let c0_i32 : BitVec 32 := 0#32
  let c1_i32 : BitVec 32 := 1#32
  let arg8 : BitVec 32 := Scf.iv c0_i32 c1_i32 k0_t1
  let c4_i32 : BitVec 32 := 4#32
  let v18 : BitVec 32 := Scalar.muli arg8 c4_i32
  let v19 : BitVec 32 := Scalar.addi v18 c0_i32_10
  let c16_i32 : BitVec 32 := 16#32
  let v20 : BitVec 1 := Scalar.cmpi .slt v19 c16_i32
  let c15_i32 : BitVec 32 := 15#32
  let v21 : BitVec 32 := Scalar.subi c15_i32 v19
  let c527_i32 : BitVec 32 := 527#32
  let c16_i32_11 : BitVec 32 := 16#32
  let v22 : BitVec 32 := Scalar.subi v19 c16_i32_11
  let v23 : BitVec 32 := Scalar.subi c527_i32 v22
  let v24 : BitVec 32 := Scalar.select v20 v21 v23
  let v29 : Index := Scalar.indexCast v24
  let c0_14 : Index := 0#32
  ![v29.toNat, 0]
def k0_off3 (k0_t1 : Fin k0_t1_loop.trips) (c0_i32_10 : BitVec 32) : Fin 2 → Nat :=
  let c0_i32 : BitVec 32 := 0#32
  let c1_i32 : BitVec 32 := 1#32
  let arg8 : BitVec 32 := Scf.iv c0_i32 c1_i32 k0_t1
  let c4_i32 : BitVec 32 := 4#32
  let v18 : BitVec 32 := Scalar.muli arg8 c4_i32
  let v19 : BitVec 32 := Scalar.addi v18 c0_i32_10
  let v33 : Index := Scalar.indexCast v19
  let c0_16 : Index := 0#32
  ![v33.toNat, 0]
def k0_off4 (k0_t1 : Fin k0_t1_loop.trips) (c0_i32_10 : BitVec 32) : Fin 2 → Nat :=
  let c4224_i32 : BitVec 32 := 4224#32
  let c0_i32 : BitVec 32 := 0#32
  let c1_i32 : BitVec 32 := 1#32
  let arg8 : BitVec 32 := Scf.iv c0_i32 c1_i32 k0_t1
  let c4_i32 : BitVec 32 := 4#32
  let v18 : BitVec 32 := Scalar.muli arg8 c4_i32
  let v19 : BitVec 32 := Scalar.addi v18 c0_i32_10
  let v35 : BitVec 32 := Scalar.addi c4224_i32 v19
  let v36 : Index := Scalar.indexCast v35
  let c0_17 : Index := 0#32
  ![v36.toNat, 0]
def k0_off5 (k0_t1 : Fin k0_t1_loop.trips) (c0_i32_10 : BitVec 32) : Fin 2 → Nat :=
  let c0_i32 : BitVec 32 := 0#32
  let c1_i32 : BitVec 32 := 1#32
  let arg8 : BitVec 32 := Scf.iv c0_i32 c1_i32 k0_t1
  let c4_i32 : BitVec 32 := 4#32
  let v18 : BitVec 32 := Scalar.muli arg8 c4_i32
  let v19 : BitVec 32 := Scalar.addi v18 c0_i32_10
  let c16_i32 : BitVec 32 := 16#32
  let v20 : BitVec 1 := Scalar.cmpi .slt v19 c16_i32
  let c15_i32 : BitVec 32 := 15#32
  let v21 : BitVec 32 := Scalar.subi c15_i32 v19
  let c527_i32 : BitVec 32 := 527#32
  let c16_i32_11 : BitVec 32 := 16#32
  let v22 : BitVec 32 := Scalar.subi v19 c16_i32_11
  let v23 : BitVec 32 := Scalar.subi c527_i32 v22
  let v24 : BitVec 32 := Scalar.select v20 v21 v23
  let v47 : Index := Scalar.indexCast v24
  let c0_23 : Index := 0#32
  ![v47.toNat, 0]
def k0_off6 (k0_t1 : Fin k0_t1_loop.trips) (c0_i32_10 : BitVec 32) : Fin 2 → Nat :=
  let c4224_i32_24 : BitVec 32 := 4224#32
  let c0_i32 : BitVec 32 := 0#32
  let c1_i32 : BitVec 32 := 1#32
  let arg8 : BitVec 32 := Scf.iv c0_i32 c1_i32 k0_t1
  let c4_i32 : BitVec 32 := 4#32
  let v18 : BitVec 32 := Scalar.muli arg8 c4_i32
  let v19 : BitVec 32 := Scalar.addi v18 c0_i32_10
  let c16_i32 : BitVec 32 := 16#32
  let v20 : BitVec 1 := Scalar.cmpi .slt v19 c16_i32
  let c15_i32 : BitVec 32 := 15#32
  let v21 : BitVec 32 := Scalar.subi c15_i32 v19
  let c527_i32 : BitVec 32 := 527#32
  let c16_i32_11 : BitVec 32 := 16#32
  let v22 : BitVec 32 := Scalar.subi v19 c16_i32_11
  let v23 : BitVec 32 := Scalar.subi c527_i32 v22
  let v24 : BitVec 32 := Scalar.select v20 v21 v23
  let v49 : BitVec 32 := Scalar.addi c4224_i32_24 v24
  let v50 : Index := Scalar.indexCast v49
  let c0_25 : Index := 0#32
  ![v50.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8448x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8448x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4224x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4224x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4224x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4224x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FwdReferenceIdeal.lean ====
abbrev S33792x128 : Shape := ⟨2, ![33792, 128]⟩
abbrev S64x256 : Shape := ⟨2, ![64, 256]⟩
abbrev S64x128 : Shape := ⟨2, ![64, 128]⟩
abbrev S64x64 : Shape := ⟨2, ![64, 64]⟩
abbrev S_ : Shape := ⟨0, ![]⟩
abbrev S64x528x2x64 : Shape := ⟨4, ![64, 528, 2, 64]⟩
abbrev S2x528x64x64 : Shape := ⟨4, ![2, 528, 64, 64]⟩
abbrev S1x528x64x64 : Shape := ⟨4, ![1, 528, 64, 64]⟩
abbrev S528x64x64 : Shape := ⟨3, ![528, 64, 64]⟩
abbrev S16x64x64 : Shape := ⟨3, ![16, 64, 64]⟩
abbrev S512x64x64 : Shape := ⟨3, ![512, 64, 64]⟩
abbrev S1x64x64 : Shape := ⟨3, ![1, 64, 64]⟩
abbrev S528x4x2x8x64 : Shape := ⟨5, ![528, 4, 2, 8, 64]⟩
abbrev S4x8x528x2x64 : Shape := ⟨5, ![4, 8, 528, 2, 64]⟩
abbrev S16896x128 : Shape := ⟨2, ![16896, 128]⟩

abbrev nBuf : Space → Nat
  | .hbm => 133
  | .vmem => 0
  | .smem => 0
  | _ => 0

abbrev hbmTy0_0 (i : Nat) : BufTy := match i % 128 with
  | 0 => ⟨S33792x128, .f32⟩
  | 1 => ⟨S33792x128, .f32⟩
  | 2 => ⟨S64x256, .f32⟩
  | 3 => ⟨S64x128, .f32⟩
  | 4 => ⟨S64x128, .f32⟩
  | 5 => ⟨S64x64, .f32⟩
  | 6 => ⟨S64x64, .f32⟩
  | 7 => ⟨S64x64, .f32⟩
  | 8 => ⟨S64x64, .f32⟩
  | 9 => ⟨S_, .f32⟩
  | 10 => ⟨S64x64, .f32⟩
  | 11 => ⟨S64x528x2x64, .f32⟩
  | 12 => ⟨S2x528x64x64, .f32⟩
  | 13 => ⟨S1x528x64x64, .f32⟩
  | 14 => ⟨S528x64x64, .f32⟩
  | 15 => ⟨S1x528x64x64, .f32⟩
  | 16 => ⟨S528x64x64, .f32⟩
  | 17 => ⟨S64x528x2x64, .f32⟩
  | 18 => ⟨S2x528x64x64, .f32⟩
  | 19 => ⟨S1x528x64x64, .f32⟩
  | 20 => ⟨S528x64x64, .f32⟩
  | 21 => ⟨S1x528x64x64, .f32⟩
  | 22 => ⟨S528x64x64, .f32⟩
  | 23 => ⟨S16x64x64, .f32⟩
  | 24 => ⟨S16x64x64, .f32⟩
  | 25 => ⟨S512x64x64, .f32⟩
  | 26 => ⟨S512x64x64, .f32⟩
  | 27 => ⟨S528x64x64, .f32⟩
  | 28 => ⟨S16x64x64, .f32⟩
  | 29 => ⟨S16x64x64, .f32⟩
  | 30 => ⟨S512x64x64, .f32⟩
  | 31 => ⟨S512x64x64, .f32⟩
  | 32 => ⟨S528x64x64, .f32⟩
  | 33 => ⟨S_, .f32⟩
  | 34 => ⟨S528x64x64, .f32⟩
  | 35 => ⟨S_, .f32⟩
  | 36 => ⟨S528x64x64, .f32⟩
  | 37 => ⟨S_, .f32⟩
  | 38 => ⟨S528x64x64, .f32⟩
  | 39 => ⟨S_, .f32⟩
  | 40 => ⟨S528x64x64, .f32⟩
  | 41 => ⟨S_, .i32⟩
  | 42 => ⟨S528x64x64, .f32⟩
  | 43 => ⟨S528x64x64, .f32⟩
  | 44 => ⟨S528x64x64, .f32⟩
  | 45 => ⟨S528x64x64, .f32⟩
  | 46 => ⟨S64x64, .f32⟩
  | 47 => ⟨S64x64, .f32⟩
  | 48 => ⟨S64x64, .f32⟩
  | 49 => ⟨S64x64, .f32⟩
  | 50 => ⟨S_, .i32⟩
  | 51 => ⟨S64x64, .f32⟩
  | 52 => ⟨S64x64, .f32⟩
  | 53 => ⟨S64x64, .f32⟩
  | 54 => ⟨S64x64, .f32⟩
  | 55 => ⟨S528x64x64, .f32⟩
  | 56 => ⟨S528x64x64, .f32⟩
  | 57 => ⟨S528x64x64, .f32⟩
  | 58 => ⟨S528x64x64, .f32⟩
  | 59 => ⟨S_, .i32⟩
  | 60 => ⟨S_, .i1⟩
  | 61 => ⟨S_, .i32⟩
  | 62 => ⟨S_, .i32⟩
  | 63 => ⟨S1x64x64, .f32⟩
  | 64 => ⟨S64x64, .f32⟩
  | 65 => ⟨S_, .i32⟩
  | 66 => ⟨S_, .i32⟩
  | 67 => ⟨S1x64x64, .f32⟩
  | 68 => ⟨S64x64, .f32⟩
  | 69 => ⟨S_, .i32⟩
  | 70 => ⟨S_, .i32⟩
  | 71 => ⟨S1x64x64, .f32⟩
  | 72 => ⟨S64x64, .f32⟩
  | 73 => ⟨S_, .i32⟩
  | 74 => ⟨S_, .i32⟩
  | 75 => ⟨S1x64x64, .f32⟩
  | 76 => ⟨S64x64, .f32⟩
  | 77 => ⟨S64x64, .f32⟩
  | 78 => ⟨S64x64, .f32⟩
  | 79 => ⟨S64x64, .f32⟩
  | 80 => ⟨S64x64, .f32⟩
  | 81 => ⟨S64x64, .f32⟩
  | 82 => ⟨S64x64, .f32⟩
  | 83 => ⟨S64x64, .f32⟩
  | 84 => ⟨S64x64, .f32⟩
  | 85 => ⟨S64x64, .f32⟩
  | 86 => ⟨S64x64, .f32⟩
  | 87 => ⟨S64x64, .f32⟩
  | 88 => ⟨S64x64, .f32⟩
  | 89 => ⟨S64x64, .f32⟩
  | 90 => ⟨S64x64, .f32⟩
  | 91 => ⟨S64x64, .f32⟩
  | 92 => ⟨S64x64, .f32⟩
  | 93 => ⟨S1x64x64, .f32⟩
  | 94 => ⟨S_, .i32⟩
  | 95 => ⟨S_, .i32⟩
  | 96 => ⟨S528x64x64, .f32⟩
  | 97 => ⟨S1x64x64, .f32⟩
  | 98 => ⟨S_, .i32⟩
  | 99 => ⟨S_, .i32⟩
  | 100 => ⟨S528x64x64, .f32⟩
  | 101 => ⟨S1x64x64, .f32⟩
  | 102 => ⟨S_, .i32⟩
  | 103 => ⟨S_, .i32⟩
  | 104 => ⟨S528x64x64, .f32⟩
  | 105 => ⟨S1x64x64, .f32⟩
  | 106 => ⟨S_, .i32⟩
  | 107 => ⟨S_, .i32⟩
  | 108 => ⟨S528x64x64, .f32⟩
  | 109 => ⟨S_, .i32⟩
  | 110 => ⟨S_, .i32⟩
  | 111 => ⟨S528x4x2x8x64, .f32⟩
  | 112 => ⟨S4x8x528x2x64, .f32⟩
  | 113 => ⟨S16896x128, .f32⟩
  | 114 => ⟨S528x4x2x8x64, .f32⟩
  | 115 => ⟨S4x8x528x2x64, .f32⟩
  | 116 => ⟨S16896x128, .f32⟩
  | 117 => ⟨S16x64x64, .f32⟩
  | 118 => ⟨S16x64x64, .f32⟩
  | 119 => ⟨S512x64x64, .f32⟩
  | 120 => ⟨S512x64x64, .f32⟩
  | 121 => ⟨S528x64x64, .f32⟩
  | 122 => ⟨S528x4x2x8x64, .f32⟩
  | 123 => ⟨S4x8x528x2x64, .f32⟩
  | 124 => ⟨S16896x128, .f32⟩
  | 125 => ⟨S16x64x64, .f32⟩
  | 126 => ⟨S16x64x64, .f32⟩
  | 127 => ⟨S512x64x64, .f32⟩
  | _ => ⟨S33792x128, .f32⟩

abbrev hbmTy0_1 (i : Nat) : BufTy := match i % 128 with
  | 0 => ⟨S512x64x64, .f32⟩
  | 1 => ⟨S528x64x64, .f32⟩
  | 2 => ⟨S528x4x2x8x64, .f32⟩
  | 3 => ⟨S4x8x528x2x64, .f32⟩
  | 4 => ⟨S16896x128, .f32⟩
  | _ => ⟨S33792x128, .f32⟩

abbrev hbmTy (i : Nat) : BufTy := match i / 128 with
  | 0 => hbmTy0_0 i
  | 1 => hbmTy0_1 i
  | _ => ⟨S33792x128, .f32⟩

abbrev bufTy : (tb : Table) → Fin (tcTables nBuf tb) → BufTy
  | .hbm, ⟨i, _⟩ => hbmTy i
  | _, _ => ⟨S33792x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_v29 : Ref sig .tc := ⟨.hbm, 34, rfl⟩
abbrev main_cst_1 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_c : Ref sig .tc := ⟨.hbm, 41, rfl⟩
abbrev main_v33_0 : Ref sig .tc := ⟨.hbm, 42, rfl⟩
abbrev main_v33_1 : Ref sig .tc := ⟨.hbm, 43, rfl⟩
abbrev main_v33_2 : Ref sig .tc := ⟨.hbm, 44, rfl⟩
abbrev main_v33_3 : Ref sig .tc := ⟨.hbm, 45, rfl⟩
abbrev main_v33_4 : Ref sig .tc := ⟨.hbm, 46, rfl⟩
abbrev main_v33_5 : Ref sig .tc := ⟨.hbm, 47, rfl⟩
abbrev main_v33_6 : Ref sig .tc := ⟨.hbm, 48, rfl⟩
abbrev main_v33_7 : Ref sig .tc := ⟨.hbm, 49, rfl⟩
abbrev main_v33_8 : Ref sig .tc := ⟨.hbm, 50, rfl⟩
abbrev main_v33_9 : Ref sig .tc := ⟨.hbm, 51, rfl⟩
abbrev main_v33_10 : Ref sig .tc := ⟨.hbm, 52, rfl⟩
abbrev main_v33_11 : Ref sig .tc := ⟨.hbm, 53, rfl⟩
abbrev main_v33_12 : Ref sig .tc := ⟨.hbm, 54, rfl⟩
abbrev main_v33_13 : Ref sig .tc := ⟨.hbm, 55, rfl⟩
abbrev main_v33_14 : Ref sig .tc := ⟨.hbm, 56, rfl⟩
abbrev main_v33_15 : Ref sig .tc := ⟨.hbm, 57, rfl⟩
abbrev main_v33_16 : Ref sig .tc := ⟨.hbm, 58, rfl⟩
abbrev main_while0c_c_20 : Ref sig .tc := ⟨.hbm, 59, rfl⟩
abbrev main_while0c_v56 : Ref sig .tc := ⟨.hbm, 60, rfl⟩
abbrev main_while0b_call0_c : Ref sig .tc := ⟨.hbm, 61, rfl⟩
abbrev main_while0b_call0_c_0 : Ref sig .tc := ⟨.hbm, 62, rfl⟩
abbrev main_while0b_call0_v0 : Ref sig .tc := ⟨.hbm, 63, rfl⟩
abbrev main_while0b_v56 : Ref sig .tc := ⟨.hbm, 64, rfl⟩
abbrev main_while0b_call1_c : Ref sig .tc := ⟨.hbm, 65, rfl⟩
abbrev main_while0b_call1_c_0 : Ref sig .tc := ⟨.hbm, 66, rfl⟩
abbrev main_while0b_call1_v0 : Ref sig .tc := ⟨.hbm, 67, rfl⟩
abbrev main_while0b_v57 : Ref sig .tc := ⟨.hbm, 68, rfl⟩
abbrev main_while0b_call2_c : Ref sig .tc := ⟨.hbm, 69, rfl⟩
abbrev main_while0b_call2_c_0 : Ref sig .tc := ⟨.hbm, 70, rfl⟩
abbrev main_while0b_call2_v0 : Ref sig .tc := ⟨.hbm, 71, rfl⟩
abbrev main_while0b_v58 : Ref sig .tc := ⟨.hbm, 72, rfl⟩
abbrev main_while0b_call3_c : Ref sig .tc := ⟨.hbm, 73, rfl⟩
abbrev main_while0b_call3_c_0 : Ref sig .tc := ⟨.hbm, 74, rfl⟩
abbrev main_while0b_call3_v0 : Ref sig .tc := ⟨.hbm, 75, rfl⟩
abbrev main_while0b_v59 : Ref sig .tc := ⟨.hbm, 76, rfl⟩
abbrev main_while0b_v60 : Ref sig .tc := ⟨.hbm, 77, rfl⟩
abbrev main_while0b_v61 : Ref sig .tc := ⟨.hbm, 78, rfl⟩
abbrev main_while0b_v62 : Ref sig .tc := ⟨.hbm, 79, rfl⟩
abbrev main_while0b_v63 : Ref sig .tc := ⟨.hbm, 80, rfl⟩
abbrev main_while0b_v64 : Ref sig .tc := ⟨.hbm, 81, rfl⟩
abbrev main_while0b_v65 : Ref sig .tc := ⟨.hbm, 82, rfl⟩
abbrev main_while0b_v66 : Ref sig .tc := ⟨.hbm, 83, rfl⟩
abbrev main_while0b_v67 : Ref sig .tc := ⟨.hbm, 84, rfl⟩
abbrev main_while0b_v68 : Ref sig .tc := ⟨.hbm, 85, rfl⟩
abbrev main_while0b_v69 : Ref sig .tc := ⟨.hbm, 86, rfl⟩
abbrev main_while0b_v70 : Ref sig .tc := ⟨.hbm, 87, rfl⟩
abbrev main_while0b_v71 : Ref sig .tc := ⟨.hbm, 88, rfl⟩
abbrev main_while0b_v72 : Ref sig .tc := ⟨.hbm, 89, rfl⟩
abbrev main_while0b_v73 : Ref sig .tc := ⟨.hbm, 90, rfl⟩
abbrev main_while0b_v74 : Ref sig .tc := ⟨.hbm, 91, rfl⟩
abbrev main_while0b_v75 : Ref sig .tc := ⟨.hbm, 92, rfl⟩
abbrev main_while0b_call4_v0 : Ref sig .tc := ⟨.hbm, 93, rfl⟩
abbrev main_while0b_call4_c : Ref sig .tc := ⟨.hbm, 94, rfl⟩
abbrev main_while0b_call4_c_0 : Ref sig .tc := ⟨.hbm, 95, rfl⟩
abbrev main_while0b_v76 : Ref sig .tc := ⟨.hbm, 96, rfl⟩
abbrev main_while0b_call5_v0 : Ref sig .tc := ⟨.hbm, 97, rfl⟩
abbrev main_while0b_call5_c : Ref sig .tc := ⟨.hbm, 98, rfl⟩
abbrev main_while0b_call5_c_0 : Ref sig .tc := ⟨.hbm, 99, rfl⟩
abbrev main_while0b_v77 : Ref sig .tc := ⟨.hbm, 100, rfl⟩
abbrev main_while0b_call6_v0 : Ref sig .tc := ⟨.hbm, 101, rfl⟩
abbrev main_while0b_call6_c : Ref sig .tc := ⟨.hbm, 102, rfl⟩
abbrev main_while0b_call6_c_0 : Ref sig .tc := ⟨.hbm, 103, rfl⟩
abbrev main_while0b_v78 : Ref sig .tc := ⟨.hbm, 104, rfl⟩
abbrev main_while0b_call7_v0 : Ref sig .tc := ⟨.hbm, 105, rfl⟩
abbrev main_while0b_call7_c : Ref sig .tc := ⟨.hbm, 106, rfl⟩
abbrev main_while0b_call7_c_0 : Ref sig .tc := ⟨.hbm, 107, rfl⟩
abbrev main_while0b_v79 : Ref sig .tc := ⟨.hbm, 108, rfl⟩
abbrev main_while0b_c_20 : Ref sig .tc := ⟨.hbm, 109, rfl⟩
abbrev main_while0b_v80 : Ref sig .tc := ⟨.hbm, 110, rfl⟩
abbrev main_v34 : Ref sig .tc := ⟨.hbm, 111, rfl⟩
abbrev main_v35 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_v39 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩

abbrev nD : Nat := 1
abbrev τ : Topo := Topo.v7x

variable {F : FTy → Type} [FloatOps F]

abbrev main_while0_count : Scf.Loop 32 := ⟨0#32, 528#32, 1#32⟩
-- ==== Proof.Scan.State.lean ====
/- The backward scan's state: what the loop carries before step `t`, as a recursion over the step, and what the rows of
   the four results hold. Everything here is over any float model. -/
module

public import proofs.«01_k».proof.Proof.Gen.KernelIdeal
public import proofs.«01_k».proof.Proof.Gen.KernelIdeal.Skeleton
public import Idealize.ShloMosaic.Lib.Pipeline.FrameBody
public import Idealize.ShloMosaic.Lib.ValueIdxCore

@[expose] public section

set_option maxRecDepth 16384

noncomputable section

namespace Cert.Proof.Scan

open Cert.KernelIdeal Cert.KernelIdeal.Gen
open Idealize.ShloMosaic Idealize.ShloMosaic.TcCoe Idealize.ShloMosaic.ValueIdx

variable {F : FTy → Type} [FloatOps F]

/-- The chunk the forward direction's step `t` reads. -/
def pf (t : ℕ) : ℕ := 527 - t
/-- The chunk the backward direction's step `t` reads: the latent chunks in order, then the context chunks. -/
def pb (t : ℕ) : ℕ := if t < 512 then 16 + t else t - 512
/-- The step that reads chunk `p` in the backward direction. -/
def tb (p : ℕ) : ℕ := if p < 16 then p + 512 else p - 16

/-- Row `p` of each of eight groups, groups 528 rows apart. -/
def row (x : Vec F S8448x128 .f32) (p : ℕ) : Vec F S8x128 .f32 := fun j =>
  x (ix2 (Fin.ofNat 8448 (p + 528 * (j (0 : Fin 2)).val)) (j (1 : Fin 2)))

/-- The carried state: real and imaginary part, forward then backward direction. -/
abbrev St (F : FTy → Type) : Type := Vec F S8x128 .f32 × Vec F S8x128 .f32 × Vec F S8x128 .f32 × Vec F S8x128 .f32

/-- One step of the recurrence. -/
def next (x1 x2 : Vec F S8448x128 .f32) (v3 v4 v9 v10 : Vec F S8x128 .f32) (t : ℕ) (s : St F) : St F :=
  (k0_pay10 (k0_pay2 v3 v4) (k0_pay4 v9 v10) s.1 s.2.1 (k0_pay8 k0_pay1 (row x1 (pf t)) (row x1 (4224 + pf t))),
   k0_pay11 (k0_pay2 v3 v4) (k0_pay4 v9 v10) s.1 s.2.1 (k0_pay9 k0_pay1 (row x2 (pf t)) (row x2 (4224 + pf t))),
   k0_pay12 k0_pay1 (k0_pay3 v3 v4) (k0_pay5 v9 v10) s.2.2.1 s.2.2.2 (row x1 (pb t)) (row x1 (4224 + pb t)),
   k0_pay13 k0_pay1 (k0_pay3 v3 v4) (k0_pay5 v9 v10) s.2.2.1 s.2.2.2 (row x2 (pb t)) (row x2 (4224 + pb t)))

/-- The state before step `t`. -/
def st (x1 x2 : Vec F S8448x128 .f32) (v3 v4 v9 v10 : Vec F S8x128 .f32) : ℕ → St F
  | 0 => (k0_pay6, k0_pay6, k0_pay6, k0_pay6)
  | t + 1 => next x1 x2 v3 v4 v9 v10 t (st x1 x2 v3 v4 v9 v10 t)

/-- A result block: row `p` of each group is the state before the step that reads chunk `p`. -/
def out (h : ℕ → Vec F S8x128 .f32) (T : ℕ → ℕ) : Vec F S4224x128 .f32 := fun y =>
  h (T ((y (0 : Fin 2)).val % 528)) (ix2 (Fin.ofNat 8 ((y (0 : Fin 2)).val / 528)) (y (1 : Fin 2)))

theorem off2_eq : ∀ (k : Fin k0_t1_loop.trips) (r : Fin 4), k0_off2 k (BitVec.ofNat 32 r.val) = ![pb (4 * k.val + r.val), 0] := by
  decide +kernel
theorem off5_eq : ∀ (k : Fin k0_t1_loop.trips) (r : Fin 4), k0_off5 k (BitVec.ofNat 32 r.val) = ![pb (4 * k.val + r.val), 0] := by
  decide +kernel
theorem off6_eq : ∀ (k : Fin k0_t1_loop.trips) (r : Fin 4), k0_off6 k (BitVec.ofNat 32 r.val) = ![4224 + pb (4 * k.val + r.val), 0] := by
  decide +kernel
theorem off4_eq : ∀ (k : Fin k0_t1_loop.trips) (r : Fin 4), k0_off4 k (BitVec.ofNat 32 r.val) = ![4224 + pf (4 * k.val + r.val), 0] := by
  decide +kernel
theorem off3_eq : ∀ (k : Fin k0_t1_loop.trips) (r : Fin 4), k0_off3 k (BitVec.ofNat 32 r.val) = ![pf (4 * k.val + r.val), 0] :=
  fun k r => k0_off3_eq k r
theorem off1_eq : ∀ (k : Fin k0_t1_loop.trips) (r : Fin 4), k0_off1 k (BitVec.ofNat 32 r.val) = ![pf (4 * k.val + r.val), 0] :=
  fun k r => k0_off1_eq k r

theorem trips_eq : k0_t1_loop.trips = 132 := by decide +kernel

theorem tb_pb (t : ℕ) (h : t < 528) : tb (pb t) = t := by unfold tb pb; split <;> split <;> omega
theorem pb_tb (p : ℕ) (h : p < 528) : pb (tb p) = p := by unfold tb pb; split <;> split <;> omega
theorem pfpf (t : ℕ) (h : t < 528) : pf (pf t) = t := by unfold pf; omega
theorem pf_lt (t : ℕ) (h : t < 528) : pf t < 528 := by unfold pf; omega
theorem pb_lt (t : ℕ) (h : t < 528) : pb t < 528 := by unfold pb; split <;> omega
theorem tb_lt (p : ℕ) (h : p < 528) : tb p < 528 := by unfold tb; split <;> omega

/-- A load of row `p` of every group. -/
theorem readAt_row (M : Memref sig .tc .vmem S8448x128 .f32) (hM : M.IsWhole) (x : Vec F S8448x128 .f32)
    (off : Fin 2 → ℕ) (p : ℕ) (h : off = ![p, 0])
    (inb : ∀ a, S8x128.size a = 0 ∨ off a + (![528, 1] : Fin 2 → Nat) a * (S8x128.size a - 1) < S8448x128.size a) :
    View.readAt (Elt F) M.view (⟨off, S8x128.size, ![528, 1], inb⟩ : LoadRect S8448x128) (hM.unread x) = row x p := by
  subst h
  funext j
  rw [View.readAt_apply, hM.read_unread]
  unfold row
  congr 1
  have hj : (j (0 : Fin 2)).val < 8 := (j (0 : Fin 2)).isLt
  have hp : p + 528 * (8 - 1) < 8448 := by
    have := inb (0 : Fin 2)
    rcases this with h | h
    · exact absurd h (by decide)
    · exact h
  funext a
  refine Fin.ext ?_
  fin_cases a
  · show p + 528 * (j (0 : Fin 2)).val = (p + 528 * (j (0 : Fin 2)).val) % 8448
    rw [Nat.mod_eq_of_lt (by omega)]
  · show 0 + 1 * (j (1 : Fin 2)).val = (j (1 : Fin 2)).val
    omega

section Writes
variable {κ : Kind} {sp : Space} {s : Shape} {e : EltTy} {Val : EltTy → Type} {sg : RefSig}

/-- Stores whose payloads agree with one function of the index leave that function wherever they cover or the prior
    contents already agreed. -/
theorem read_writes_of_agree (v : View sg κ sp s e) (f : v.ty.Contents Val) (G : s.Idx → Val e) (P : s.Idx → Prop)
    (hf : ∀ y, P y → v.read Val f y = G y) :
    ∀ (L : List (View.Piece Val s e)) (_ : ∀ p ∈ L, ∀ x : p.1.shape.Idx, p.2 x = G (p.1.emb x)) (y : s.Idx)
      (_ : P y ∨ ∃ p ∈ L, y ∈ p.1.set), v.read Val (v.writes Val f L) y = G y
  | [], _, y, h => by
    rcases h with h | ⟨p, hp, _⟩
    · exact hf y h
    · simp at hp
  | p :: L, hL, y, h => by
    by_cases hy : y ∈ p.1.set
    · have hp := hL p (by simp)
      obtain ⟨r, w⟩ := p
      obtain ⟨x, rfl⟩ : ∃ x, r.emb x = y := r.exists_idx_of_mem hy
      rw [View.read_writes_cons_emb]; exact hp x
    · have hy' : y ∉ Finset.univ.map p.1.emb := by rwa [Rect.map_emb_univ]
      rw [View.writes_cons, View.read_slice_write_of_not_mem p.1 _ _ _ hy']
      refine read_writes_of_agree v f G P hf L (fun q hq => hL q (by simp [hq])) y ?_
      rcases h with h | ⟨q, hq, hyq⟩
      · exact .inl h
      · rcases List.mem_cons.mp hq with rfl | hq
        · exact absurd hyq hy
        · exact .inr ⟨q, hq, hyq⟩
end Writes

/-- The rectangle of row `p` of every group of a result block. -/
theorem emb_row (off : Fin 2 → ℕ) (p : ℕ) (h : off = ![p, 0]) (hp : p < 528)
    (inb : ∀ a, S8x128.size a = 0 ∨ off a + (![528, 1] : Fin 2 → Nat) a * (S8x128.size a - 1) < S4224x128.size a) (sp)
    (w : ℕ → Vec F S8x128 .f32) (T : ℕ → ℕ) (x : S8x128.Idx) :
    out w T ((⟨⟨off, S8x128.size, ![528, 1], inb⟩, sp⟩ : Rect S4224x128).emb x) = w (T p) x := by
  subst h
  have hj : (x (0 : Fin 2)).val < 8 := (x (0 : Fin 2)).isLt
  have e0 : (((⟨⟨![p, 0], S8x128.size, ![528, 1], inb⟩, sp⟩ : Rect S4224x128).emb x) (0 : Fin 2)).val = p + 528 * (x (0 : Fin 2)).val := rfl
  have e1 : (((⟨⟨![p, 0], S8x128.size, ![528, 1], inb⟩, sp⟩ : Rect S4224x128).emb x) (1 : Fin 2)).val = 0 + 1 * (x (1 : Fin 2)).val := rfl
  unfold out
  rw [e0, show (p + 528 * (x (0 : Fin 2)).val) % 528 = p by omega, show (p + 528 * (x (0 : Fin 2)).val) / 528 = (x (0 : Fin 2)).val by omega]
  congr 1
  funext a
  refine Fin.ext ?_
  fin_cases a
  · show (x (0 : Fin 2)).val % 8 = (x (0 : Fin 2)).val
    omega
  · show (((⟨⟨![p, 0], S8x128.size, ![528, 1], inb⟩, sp⟩ : Rect S4224x128).emb x) (1 : Fin 2)).val = (x (1 : Fin 2)).val
    rw [e1]; omega

theorem mem_row (off : Fin 2 → ℕ) (p : ℕ) (h : off = ![p, 0])
    (inb : ∀ a, S8x128.size a = 0 ∨ off a + (![528, 1] : Fin 2 → Nat) a * (S8x128.size a - 1) < S4224x128.size a) (sp)
    (y : S4224x128.Idx) (hy : (y (0 : Fin 2)).val % 528 = p) :
    y ∈ (⟨⟨off, S8x128.size, ![528, 1], inb⟩, sp⟩ : Rect S4224x128).set := by
  subst h
  have h0 : (y (0 : Fin 2)).val < 4224 := (y (0 : Fin 2)).isLt
  have e : (⟨⟨![p, 0], S8x128.size, ![528, 1], inb⟩, sp⟩ : Rect S4224x128).emb
      (ix2 (⟨(y (0 : Fin 2)).val / 528, by omega⟩ : Fin 8) (y (1 : Fin 2))) = y := by
    funext a
    refine Fin.ext ?_
    fin_cases a
    · show p + 528 * ((y (0 : Fin 2)).val / 528) = (y (0 : Fin 2)).val
      omega
    · show 0 + 1 * (y (1 : Fin 2)).val = (y (1 : Fin 2)).val
      omega
  rw [← e]
  exact LoadRect.idx_mem _ _

end Cert.Proof.Scan
end
-- ==== Proof.Scan.Loop.lean ====
/- The backward scan's loop: its invariant and one trip, over any float model. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Scan.State
public import Idealize.ShloMosaic.Lib.Tactic

@[expose] public section

set_option maxRecDepth 16384

noncomputable section

namespace Cert.Proof.Scan

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none
local notation "𝕄" => MT nD τ sig Unit (Elt F) ℕ (UU nD τ) ℕ

abbrev Bf (c : Dev nD) {S : Shape} {e : EltTy} (M : Memref sig .tc .vmem S e) : Type := Buf (Elt F) (M.view.loc (c : Thread nD τ))
abbrev pt (c : Dev nD) {S : Shape} {e : EltTy} (M : Memref sig .tc .vmem S e) (f : Bf (F := F) c M) : sProp 𝕄 :=
  M.view.loc (c : Thread nD τ) ↦[M.view.set]{fullShare} f

/-- A result block whose rows of the steps before `n` are written. -/
def Done (c : Dev nD) (M : Memref sig .tc .vmem S4224x128 .f32) (h : ℕ → Vec F S8x128 .f32) (T : ℕ → ℕ) (n : ℕ) (f : Bf (F := F) c M) : Prop :=
  ∀ y : S4224x128.Idx, T ((y (0 : Fin 2)).val % 528) < n → M.view.read (Elt F) f y = out h T y

set_option maxHeartbeats 2000000 in
/-- Four more steps' rows written. -/
theorem done_step (c : Dev nD) (M : Memref sig .tc .vmem S4224x128 .f32) (h : ℕ → Vec F S8x128 .f32) (T P : ℕ → ℕ)
    (hPT : ∀ p < 528, P (T p) = p) (hTP : ∀ t < 528, T (P t) = t) (hP : ∀ t < 528, P t < 528)
    (n : ℕ) (hn : n + 3 < 528) (f : Bf (F := F) c M) (hf : Done c M h T n f)
    (o0 o1 o2 o3 : Fin 2 → ℕ) (e0 : o0 = ![P n, 0]) (e1 : o1 = ![P (n + 1), 0]) (e2 : o2 = ![P (n + 2), 0]) (e3 : o3 = ![P (n + 3), 0])
    (i0 i1 i2 i3 s0 s1 s2 s3) (w0 w1 w2 w3 : Vec F S8x128 .f32)
    (h0 : w0 = h n) (h1 : w1 = h (n + 1)) (h2 : w2 = h (n + 2)) (h3 : w3 = h (n + 3)) :
    Done c M h T (n + 4) (M.view.writes (Elt F) f
      [(⟨⟨⟨o3, S8x128.size, ![528, 1], i3⟩, s3⟩, w3⟩ : View.Piece (Elt F) S4224x128 .f32),
       ⟨⟨⟨o2, S8x128.size, ![528, 1], i2⟩, s2⟩, w2⟩, ⟨⟨⟨o1, S8x128.size, ![528, 1], i1⟩, s1⟩, w1⟩,
       ⟨⟨⟨o0, S8x128.size, ![528, 1], i0⟩, s0⟩, w0⟩]) := by
  intro y hy
  refine read_writes_of_agree M.view f (out h T) _ hf _ ?_ y ?_
  · intro p hp x
    simp only [List.mem_cons, List.not_mem_nil, or_false] at hp
    rcases hp with rfl | rfl | rfl | rfl
    · exact ((congrFun h3 x).trans (by rw [emb_row o3 _ e3 (hP _ (by omega)), hTP _ (by omega)]))
    · exact ((congrFun h2 x).trans (by rw [emb_row o2 _ e2 (hP _ (by omega)), hTP _ (by omega)]))
    · exact ((congrFun h1 x).trans (by rw [emb_row o1 _ e1 (hP _ (by omega)), hTP _ (by omega)]))
    · exact ((congrFun h0 x).trans (by rw [emb_row o0 _ e0 (hP _ (by omega)), hTP _ (by omega)]))
  · have hr : (y (0 : Fin 2)).val % 528 < 528 := Nat.mod_lt _ (by decide)
    have hk := hPT _ hr
    rcases Nat.lt_or_ge (T ((y (0 : Fin 2)).val % 528)) n with hlt | hge
    · exact .inl hlt
    · refine .inr ?_
      have hc : T ((y (0 : Fin 2)).val % 528) = n ∨ T ((y (0 : Fin 2)).val % 528) = n + 1 ∨ T ((y (0 : Fin 2)).val % 528) = n + 2
          ∨ T ((y (0 : Fin 2)).val % 528) = n + 3 := by omega
      rcases hc with hc | hc | hc | hc <;> rw [hc] at hk
      · exact ⟨_, List.mem_cons_of_mem _ (List.mem_cons_of_mem _ (List.mem_cons_of_mem _ (List.mem_cons_self ..))), mem_row o0 _ e0 i0 s0 y hk.symm⟩
      · exact ⟨_, List.mem_cons_of_mem _ (List.mem_cons_of_mem _ (List.mem_cons_self ..)), mem_row o1 _ e1 i1 s1 y hk.symm⟩
      · exact ⟨_, List.mem_cons_of_mem _ (List.mem_cons_self ..), mem_row o2 _ e2 i2 s2 y hk.symm⟩
      · exact ⟨_, List.mem_cons_self .., mem_row o3 _ e3 i3 s3 y hk.symm⟩

/-- The loop's resources before step `n` at the state before it. -/
def inv (c : Dev nD) (arg1 : Memref sig .tc .vmem S8448x128 .f32) (harg1 : arg1.IsWhole) (arg2 : Memref sig .tc .vmem S8448x128 .f32) (harg2 : arg2.IsWhole) (arg3 : Memref sig .tc .vmem S16x256 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S4224x128 .f32) (harg6 : arg6.IsWhole) (arg7 : Memref sig .tc .vmem S4224x128 .f32) (harg7 : arg7.IsWhole)
    (x1 x2 : Vec F S8448x128 .f32) (v3 v4 v9 v10 : Vec F S8x128 .f32) (n : ℕ) (acc : St F) : sProp 𝕄 :=
  iprop(⌜acc = st x1 x2 v3 v4 v9 v10 n⌝ ∗ pt c arg1 (harg1.unread x1) ∗ pt c arg2 (harg2.unread x2)
    ∗ (∃ f, pt c arg4 f ∗ ⌜Done c arg4 (fun t => (st x1 x2 v3 v4 v9 v10 t).1) pf n f⌝)
    ∗ (∃ f, pt c arg5 f ∗ ⌜Done c arg5 (fun t => (st x1 x2 v3 v4 v9 v10 t).2.1) pf n f⌝)
    ∗ (∃ f, pt c arg6 f ∗ ⌜Done c arg6 (fun t => (st x1 x2 v3 v4 v9 v10 t).2.2.1) tb n f⌝)
    ∗ (∃ f, pt c arg7 f ∗ ⌜Done c arg7 (fun t => (st x1 x2 v3 v4 v9 v10 t).2.2.2) tb n f⌝))

set_option pp.maxSteps 60 in
set_option maxHeartbeats 4000000 in
/-- One trip: four steps. -/
theorem step (c : Dev nD) (i : grid0.Coords) (arg1 : Memref sig .tc .vmem S8448x128 .f32) (harg1 : arg1.IsWhole) (arg2 : Memref sig .tc .vmem S8448x128 .f32) (harg2 : arg2.IsWhole) (arg3 : Memref sig .tc .vmem S16x256 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S4224x128 .f32) (harg6 : arg6.IsWhole) (arg7 : Memref sig .tc .vmem S4224x128 .f32) (harg7 : arg7.IsWhole)
    (x1 x2 : Vec F S8448x128 .f32) (v3 v4 v9 v10 : Vec F S8x128 .f32) (k : Fin k0_t1_loop.trips) (acc : St F) :
   inv c arg1 harg1 arg2 harg2 arg3 harg3 arg4 harg4 arg5 harg5 arg6 harg6 arg7 harg7 x1 x2 v3 v4 v9 v10 (4 * k.val) acc
   ⊢ wp frame (wpE (defs₀ (F := F)) 𝒱₀ (c : Thread nD τ) none) Set.univ
       (k0_t1_body (F := F) i arg1 harg1 arg2 harg2 arg3 harg3 arg4 harg4 arg5 harg5 arg6 harg6 arg7 harg7 v3 v4 v9 v10 k acc)
       (inv c arg1 harg1 arg2 harg2 arg3 harg3 arg4 harg4 arg5 harg5 arg6 harg6 arg7 harg7 x1 x2 v3 v4 v9 v10 (4 * (k.val + 1))) := by
  unfold inv
  iintro ⟨%hacc, H1, H2, ⟨%f4, H4, %h4⟩, ⟨%f5, H5, %h5⟩, ⟨%f6, H6, %h6⟩, ⟨%f7, H7, %h7⟩⟩
  subst hacc
  have hk : k.val < 132 := trips_eq ▸ k.isLt
  have r310 := fun inb => readAt_row arg1 harg1 x1 (k0_off3 k 0#32) _ (off3_eq k 0) inb
  have r311 := fun inb => readAt_row arg1 harg1 x1 (k0_off3 k 1#32) _ (off3_eq k 1) inb
  have r312 := fun inb => readAt_row arg1 harg1 x1 (k0_off3 k 2#32) _ (off3_eq k 2) inb
  have r313 := fun inb => readAt_row arg1 harg1 x1 (k0_off3 k 3#32) _ (off3_eq k 3) inb
  have r410 := fun inb => readAt_row arg1 harg1 x1 (k0_off4 k 0#32) _ (off4_eq k 0) inb
  have r411 := fun inb => readAt_row arg1 harg1 x1 (k0_off4 k 1#32) _ (off4_eq k 1) inb
  have r412 := fun inb => readAt_row arg1 harg1 x1 (k0_off4 k 2#32) _ (off4_eq k 2) inb
  have r413 := fun inb => readAt_row arg1 harg1 x1 (k0_off4 k 3#32) _ (off4_eq k 3) inb
  have r320 := fun inb => readAt_row arg2 harg2 x2 (k0_off3 k 0#32) _ (off3_eq k 0) inb
  have r321 := fun inb => readAt_row arg2 harg2 x2 (k0_off3 k 1#32) _ (off3_eq k 1) inb
  have r322 := fun inb => readAt_row arg2 harg2 x2 (k0_off3 k 2#32) _ (off3_eq k 2) inb
  have r323 := fun inb => readAt_row arg2 harg2 x2 (k0_off3 k 3#32) _ (off3_eq k 3) inb
  have r420 := fun inb => readAt_row arg2 harg2 x2 (k0_off4 k 0#32) _ (off4_eq k 0) inb
  have r421 := fun inb => readAt_row arg2 harg2 x2 (k0_off4 k 1#32) _ (off4_eq k 1) inb
  have r422 := fun inb => readAt_row arg2 harg2 x2 (k0_off4 k 2#32) _ (off4_eq k 2) inb
  have r423 := fun inb => readAt_row arg2 harg2 x2 (k0_off4 k 3#32) _ (off4_eq k 3) inb
  have r510 := fun inb => readAt_row arg1 harg1 x1 (k0_off5 k 0#32) _ (off5_eq k 0) inb
  have r511 := fun inb => readAt_row arg1 harg1 x1 (k0_off5 k 1#32) _ (off5_eq k 1) inb
  have r512 := fun inb => readAt_row arg1 harg1 x1 (k0_off5 k 2#32) _ (off5_eq k 2) inb
  have r513 := fun inb => readAt_row arg1 harg1 x1 (k0_off5 k 3#32) _ (off5_eq k 3) inb
  have r610 := fun inb => readAt_row arg1 harg1 x1 (k0_off6 k 0#32) _ (off6_eq k 0) inb
  have r611 := fun inb => readAt_row arg1 harg1 x1 (k0_off6 k 1#32) _ (off6_eq k 1) inb
  have r612 := fun inb => readAt_row arg1 harg1 x1 (k0_off6 k 2#32) _ (off6_eq k 2) inb
  have r613 := fun inb => readAt_row arg1 harg1 x1 (k0_off6 k 3#32) _ (off6_eq k 3) inb
  have r520 := fun inb => readAt_row arg2 harg2 x2 (k0_off5 k 0#32) _ (off5_eq k 0) inb
  have r521 := fun inb => readAt_row arg2 harg2 x2 (k0_off5 k 1#32) _ (off5_eq k 1) inb
  have r522 := fun inb => readAt_row arg2 harg2 x2 (k0_off5 k 2#32) _ (off5_eq k 2) inb
  have r523 := fun inb => readAt_row arg2 harg2 x2 (k0_off5 k 3#32) _ (off5_eq k 3) inb
  have r620 := fun inb => readAt_row arg2 harg2 x2 (k0_off6 k 0#32) _ (off6_eq k 0) inb
  have r621 := fun inb => readAt_row arg2 harg2 x2 (k0_off6 k 1#32) _ (off6_eq k 1) inb
  have r622 := fun inb => readAt_row arg2 harg2 x2 (k0_off6 k 2#32) _ (off6_eq k 2) inb
  have r623 := fun inb => readAt_row arg2 harg2 x2 (k0_off6 k 3#32) _ (off6_eq k 3) inb
  have hs1 : st x1 x2 v3 v4 v9 v10 (4 * k.val + 1) = next x1 x2 v3 v4 v9 v10 (4 * k.val) (st x1 x2 v3 v4 v9 v10 (4 * k.val)) := rfl
  have hs2 : st x1 x2 v3 v4 v9 v10 (4 * k.val + 2) = next x1 x2 v3 v4 v9 v10 (4 * k.val + 1) (st x1 x2 v3 v4 v9 v10 (4 * k.val + 1)) := rfl
  have hs3 : st x1 x2 v3 v4 v9 v10 (4 * k.val + 3) = next x1 x2 v3 v4 v9 v10 (4 * k.val + 2) (st x1 x2 v3 v4 v9 v10 (4 * k.val + 2)) := rfl
  have hs4 : st x1 x2 v3 v4 v9 v10 (4 * k.val + 4) = next x1 x2 v3 v4 v9 v10 (4 * k.val + 3) (st x1 x2 v3 v4 v9 v10 (4 * k.val + 3)) := rfl
  generalize hS : st x1 x2 v3 v4 v9 v10 (4 * k.val) = S at *
  obtain ⟨a, b, d, e⟩ := S
  unfold k0_t1_body
  sl_exec
  sl_step
  clear r310 r311 r312 r313 r410 r411 r412 r413 r320 r321 r322 r323 r420 r421 r422 r423 r510 r511 r512 r513 r610 r611 r612 r613 r520 r521 r522 r523 r620 r621 r622 r623
  have q1 : step.sl.r_6 x1 x2 v3 v4 v9 v10 k a b = (st x1 x2 v3 v4 v9 v10 (4 * k.val + 2)).1 := by
    rw [hs2, hs1]; sl_unfold_words; rfl
  have q2 : step.sl.r_7 x1 x2 v3 v4 v9 v10 k a b = (st x1 x2 v3 v4 v9 v10 (4 * k.val + 2)).2.1 := by
    rw [hs2, hs1]; sl_unfold_words; rfl
  have q3 : step.sl.r_8 x1 x2 v3 v4 v9 v10 k d e = (st x1 x2 v3 v4 v9 v10 (4 * k.val + 2)).2.2.1 := by
    rw [hs2, hs1]; sl_unfold_words; rfl
  have q4 : step.sl.r_9 x1 x2 v3 v4 v9 v10 k d e = (st x1 x2 v3 v4 v9 v10 (4 * k.val + 2)).2.2.2 := by
    rw [hs2, hs1]; sl_unfold_words; rfl
  rw [show 4 * (k.val + 1) = 4 * k.val + 4 by omega]
  isplitl []
  · ipureintro
    rw [hs4, hs3]
    simp only [next]
    rw [← q1, ← q2, ← q3, ← q4]
    sl_unfold_words
    rfl
  isplitl [H1]; · iexact H1
  isplitl [H2]; · iexact H2
  isplitl [H4]
  · iexists _
    isplitl [H4]; · iexact H4
    ipureintro
    refine done_step c arg4 (fun t => (st x1 x2 v3 v4 v9 v10 t).1) pf pf pfpf pfpf pf_lt _ (by omega) f4 h4 _ _ _ _
      (off1_eq k 0) (off1_eq k 1) (off1_eq k 2) (off1_eq k 3) _ _ _ _ _ _ _ _ _ _ _ _ ?_ ?_ ?_ ?_
    · exact (congrArg (fun s : St F => s.1) hS).symm
    · show _ = (st x1 x2 v3 v4 v9 v10 (4 * k.val + 1)).1
      rw [hs1]; sl_unfold_words; rfl
    · exact q1
    · show _ = (st x1 x2 v3 v4 v9 v10 (4 * k.val + 3)).1
      rw [hs3]; simp only [next]; rw [← q1, ← q2]; sl_unfold_words; rfl
  isplitl [H5]
  · iexists _
    isplitl [H5]; · iexact H5
    ipureintro
    refine done_step c arg5 (fun t => (st x1 x2 v3 v4 v9 v10 t).2.1) pf pf pfpf pfpf pf_lt _ (by omega) f5 h5 _ _ _ _
      (off1_eq k 0) (off1_eq k 1) (off1_eq k 2) (off1_eq k 3) _ _ _ _ _ _ _ _ _ _ _ _ ?_ ?_ ?_ ?_
    · exact (congrArg (fun s : St F => s.2.1) hS).symm
    · show _ = (st x1 x2 v3 v4 v9 v10 (4 * k.val + 1)).2.1
      rw [hs1]; sl_unfold_words; rfl
    · exact q2
    · show _ = (st x1 x2 v3 v4 v9 v10 (4 * k.val + 3)).2.1
      rw [hs3]; simp only [next]; rw [← q1, ← q2]; sl_unfold_words; rfl
  isplitl [H6]
  · iexists _
    isplitl [H6]; · iexact H6
    ipureintro
    refine done_step c arg6 (fun t => (st x1 x2 v3 v4 v9 v10 t).2.2.1) tb pb pb_tb tb_pb pb_lt _ (by omega) f6 h6 _ _ _ _
      (off2_eq k 0) (off2_eq k 1) (off2_eq k 2) (off2_eq k 3) _ _ _ _ _ _ _ _ _ _ _ _ ?_ ?_ ?_ ?_
    · exact (congrArg (fun s : St F => s.2.2.1) hS).symm
    · show _ = (st x1 x2 v3 v4 v9 v10 (4 * k.val + 1)).2.2.1
      rw [hs1]; sl_unfold_words; rfl
    · exact q3
    · show _ = (st x1 x2 v3 v4 v9 v10 (4 * k.val + 3)).2.2.1
      rw [hs3]; simp only [next]; rw [← q3, ← q4]; sl_unfold_words; rfl
  · iexists _
    isplitl [H7]; · iexact H7
    ipureintro
    refine done_step c arg7 (fun t => (st x1 x2 v3 v4 v9 v10 t).2.2.2) tb pb pb_tb tb_pb pb_lt _ (by omega) f7 h7 _ _ _ _
      (off2_eq k 0) (off2_eq k 1) (off2_eq k 2) (off2_eq k 3) _ _ _ _ _ _ _ _ _ _ _ _ ?_ ?_ ?_ ?_
    · exact (congrArg (fun s : St F => s.2.2.2) hS).symm
    · show _ = (st x1 x2 v3 v4 v9 v10 (4 * k.val + 1)).2.2.2
      rw [hs1]; sl_unfold_words; rfl
    · exact q4
    · show _ = (st x1 x2 v3 v4 v9 v10 (4 * k.val + 3)).2.2.2
      rw [hs3]; simp only [next]; rw [← q3, ← q4]; sl_unfold_words; rfl

end Cert.Proof.Scan
end
-- ==== Proof.Scan.Body.lean ====
/- One point of the backward scan's grid: what the kernel's body leaves, from the loop's invariant. -/
module

public import proofs.«01_k».proof.Proof.Scan.Loop
public import proofs.«01_k».proof.Proof.Gen.KernelIdeal.Launch
public import proofs.«01_k».proof.Proof.Gen.KernelIdeal.Loops
public import proofs.«01_k».proof.Proof.Gen.KernelIdeal.Points
public import proofs.«01_k».proof.Proof.Gen.KernelIdeal.Frame
public import Idealize.ShloMosaic.Adequacy
public import Idealize.ShloMosaic.Lib.Claim
public import Idealize.ShloMosaic.Init

@[expose] public section

set_option maxRecDepth 16384

noncomputable section

namespace Cert.Proof.Scan

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- Rows `r` to `r + 7`, lanes `q` to `q + 127` of the transition block. -/
def par (x : Vec F S16x256 .f32) (r q : ℕ) : Vec F S8x128 .f32 := fun j =>
  x (ix2 (Fin.ofNat 16 (r + (j (0 : Fin 2)).val)) (Fin.ofNat 256 (q + (j (1 : Fin 2)).val)))

theorem readAt_par (M : Memref sig .tc .vmem S16x256 .f32) (hM : M.IsWhole) (x : Vec F S16x256 .f32) (r q : ℕ)
    (inb : ∀ a, (![r, q] : Fin 2 → Nat) a + S8x128.size a ≤ S16x256.size a) :
    View.readAt (Elt F) M.view (Rect.unit (s := S16x256) ![r, q] S8x128.size inb).toLoadRect (hM.unread x) = par x r q := by
  funext j
  rw [View.readAt_apply, hM.read_unread]
  unfold par
  congr 1
  have h0 : (j (0 : Fin 2)).val < 8 := (j (0 : Fin 2)).isLt
  have h1 : (j (1 : Fin 2)).val < 128 := (j (1 : Fin 2)).isLt
  have b0 : r + 8 ≤ 16 := inb (0 : Fin 2)
  have b1 : q + 128 ≤ 256 := inb (1 : Fin 2)
  funext a
  refine Fin.ext ?_
  fin_cases a
  · show r + 1 * (j (0 : Fin 2)).val = (r + (j (0 : Fin 2)).val) % 16
    rw [Nat.mod_eq_of_lt (by omega)]; omega
  · show q + 1 * (j (1 : Fin 2)).val = (q + (j (1 : Fin 2)).val) % 256
    rw [Nat.mod_eq_of_lt (by omega)]; omega

set_option warn.classDefReducibility false in
/-- The loop by its invariant, four steps to a trip. -/
def loopInv (c : Dev nD) (i : grid0.Coords) (arg1 : Memref sig .tc .vmem S8448x128 .f32) (harg1 : arg1.IsWhole) (arg2 : Memref sig .tc .vmem S8448x128 .f32) (harg2 : arg2.IsWhole) (arg3 : Memref sig .tc .vmem S16x256 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S4224x128 .f32) (harg6 : arg6.IsWhole) (arg7 : Memref sig .tc .vmem S4224x128 .f32) (harg7 : arg7.IsWhole)
    (x1 x2 : Vec F S8448x128 .f32) (v3 v4 v9 v10 : Vec F S8x128 .f32) (init : St F) :
    LoopInvTy_k0_t1 (F := F) Unit ℕ (UU nD τ) ℕ 𝒱₀ c none Set.univ i arg1 harg1 arg2 harg2 arg3 harg3 arg4 harg4 arg5 harg5 arg6 harg6 arg7 harg7 v3 v4 v9 v10 init where
  inv := fun n acc => inv c arg1 harg1 arg2 harg2 arg3 harg3 arg4 harg4 arg5 harg5 arg6 harg6 arg7 harg7 x1 x2 v3 v4 v9 v10 (4 * n) acc
  step := fun k acc => step c i arg1 harg1 arg2 harg2 arg3 harg3 arg4 harg4 arg5 harg5 arg6 harg6 arg7 harg7 x1 x2 v3 v4 v9 v10 k acc

theorem done_zero (c : Dev nD) (M : Memref sig .tc .vmem S4224x128 .f32) (h : ℕ → Vec F S8x128 .f32) (T : ℕ → ℕ)
    (f : Bf (F := F) c M) : Done c M h T (4 * 0) f := fun y hy => absurd hy (by omega)

theorem done_all (c : Dev nD) (M : Memref sig .tc .vmem S4224x128 .f32) (h : ℕ → Vec F S8x128 .f32) (T : ℕ → ℕ)
    (hT : ∀ p < 528, T p < 528) (f : Bf (F := F) c M) (hf : Done c M h T (4 * k0_t1_loop.trips) f) :
    M.view.read (Elt F) f = out h T := funext fun y => hf y (by rw [trips_eq]; exact hT _ (Nat.mod_lt _ (by decide)))

set_option pp.maxSteps 200 in
set_option maxHeartbeats 4000000 in
/-- The body from whole staging buffers: the inputs as they were, each result the rows of the states. -/
theorem body_run (c : Dev nD) (i : grid0.Coords) (arg1 : Memref sig .tc .vmem S8448x128 .f32) (harg1 : arg1.IsWhole) (arg2 : Memref sig .tc .vmem S8448x128 .f32) (harg2 : arg2.IsWhole) (arg3 : Memref sig .tc .vmem S16x256 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S4224x128 .f32) (harg6 : arg6.IsWhole) (arg7 : Memref sig .tc .vmem S4224x128 .f32) (harg7 : arg7.IsWhole)
    (x1 x2 : Vec F S8448x128 .f32) (x3 : Vec F S16x256 .f32) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2 ∗ owns (c : Thread nD τ) arg3 fullShare x3
            ∗ owns (c : Thread nD τ) arg4 fullShare (out (fun t => (st x1 x2 (par x3 0 0) (par x3 8 0) (par x3 0 128) (par x3 8 128) t).1) pf)
            ∗ owns (c : Thread nD τ) arg5 fullShare (out (fun t => (st x1 x2 (par x3 0 0) (par x3 8 0) (par x3 0 128) (par x3 8 128) t).2.1) pf)
            ∗ owns (c : Thread nD τ) arg6 fullShare (out (fun t => (st x1 x2 (par x3 0 0) (par x3 8 0) (par x3 0 128) (par x3 8 128) t).2.2.1) tb)
            ∗ owns (c : Thread nD τ) arg7 fullShare (out (fun t => (st x1 x2 (par x3 0 0) (par x3 8 0) (par x3 0 128) (par x3 8 128) t).2.2.2) tb)) -∗ K ⟨⟩))
      ⊢ wp frame (wpE (defs₀ (F := F)) 𝒱₀ (c : Thread nD τ) none) Set.univ (cc0_s5_scan_bwd i arg1 harg1 arg2 harg2 arg3 harg3 arg4 harg4 arg5 harg5 arg6 harg6 arg7 harg7) K := by
  simp only [cc0_s5_scan_bwd_eq_skeleton]; unfold cc0_s5_scan_bwd_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg1.eq_unread hf1; obtain rfl := harg2.eq_unread hf2; obtain rfl := harg3.eq_unread hf3
  have p0 := readAt_par arg3 harg3 x3 0 0 inb_S16x256_S8x128_0_0
  have p1 := readAt_par arg3 harg3 x3 8 0 inb_S16x256_S8x128_8_0
  have p2 := readAt_par arg3 harg3 x3 0 128 inb_S16x256_S8x128_0_128
  have p3 := readAt_par arg3 harg3 x3 8 128 inb_S16x256_S8x128_8_128
  have z4 := done_zero c arg4 (fun t => (st x1 x2 (par x3 0 0) (par x3 8 0) (par x3 0 128) (par x3 8 128) t).1) pf f4
  have z5 := done_zero c arg5 (fun t => (st x1 x2 (par x3 0 0) (par x3 8 0) (par x3 0 128) (par x3 8 128) t).2.1) pf f5
  have z6 := done_zero c arg6 (fun t => (st x1 x2 (par x3 0 0) (par x3 8 0) (par x3 0 128) (par x3 8 128) t).2.2.1) tb f6
  have z7 := done_zero c arg7 (fun t => (st x1 x2 (par x3 0 0) (par x3 8 0) (par x3 0 128) (par x3 8 128) t).2.2.2) tb f7
  let L := loopInv c i arg1 harg1 arg2 harg2 arg3 harg3 arg4 harg4 arg5 harg5 arg6 harg6 arg7 harg7 x1 x2 (par x3 0 0) (par x3 8 0) (par x3 0 128) (par x3 8 128) (k0_pay6, k0_pay6, k0_pay6, k0_pay6)
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact done_all c arg4 _ pf pf_lt _ (by assumption)
    iexact H4
  isplitl [H5]
  · iexists _; isplitr; · ipureintro; exact done_all c arg5 _ pf pf_lt _ (by assumption)
    iexact H5
  isplitl [H6]
  · iexists _; isplitr; · ipureintro; exact done_all c arg6 _ tb tb_lt _ (by assumption)
    iexact H6
  iexists _; isplitr; · ipureintro; exact done_all c arg7 _ tb tb_lt _ (by assumption)
  iexact H7

end Cert.Proof.Scan
end
-- ==== Proof.Scan.Frame.lean ====
/- The backward scan on the whole grid: the pipeline's proof data, the body's obligation at every point, the run, and the
   frame over any float model. -/
module

public import proofs.«01_k».proof.Proof.Scan.Body
public import proofs.«01_k».proof.Proof.Gen.KernelIdeal.Launch
public import proofs.«01_k».proof.Proof.Gen.KernelIdeal.Loops
public import proofs.«01_k».proof.Proof.Gen.KernelIdeal.Points
public import proofs.«01_k».proof.Proof.Gen.KernelIdeal.Frame
public import Idealize.ShloMosaic.Adequacy
public import Idealize.ShloMosaic.Lib.Claim
public import Idealize.ShloMosaic.Init

@[expose] public section

set_option maxRecDepth 16384

noncomputable section

namespace Cert.Proof.Scan

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

abbrev ms0 (t : Fin cfg0.N) : Memref sig .tc .vmem S8448x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8448x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4224x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4224x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4224x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S4224x128 .f32 := win0_6.stage (cfg0.slots t 6)
abbrev hs6 (t : Fin cfg0.N) : (ms6 t).IsWhole := hstage0_6 ((cfg0.slots t 6).cast nbuf0_6)

/-- The states of point `t`'s sixteen groups, before each step. -/
def sts (c : Dev nD) (t : Fin cfg0.N) (n : ℕ) : St F := (st (iblk m c 0 t) (iblk m c 1 t) (par (iblk m c 2 t) 0 0) (par (iblk m c 2 t) 8 0) (par (iblk m c 2 t) 0 128) (par (iblk m c 2 t) 8 128) n)

/-- The region's proof data: inputs left in place, each result's block the rows of the states. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out (fun n => (sts m c t n).1) pf
    | ⟨4, _⟩ => out (fun n => (sts m c t n).2.1) pf
    | ⟨5, _⟩ => out (fun n => (sts m c t n).2.2.1) tb
    | ⟨6, _⟩ => out (fun n => (sts m c t n).2.2.2) tb
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = out (fun n => (sts m c t n).1) pf := by dsimp only [dats]
theorem after_4 (c : Dev nD) (t : Fin cfg0.N) : (dats m 0 c).after 4 t = out (fun n => (sts m c t n).2.1) pf := by dsimp only [dats]
theorem after_5 (c : Dev nD) (t : Fin cfg0.N) : (dats m 0 c).after 5 t = out (fun n => (sts m c t n).2.2.1) tb := by dsimp only [dats]
theorem after_6 (c : Dev nD) (t : Fin cfg0.N) : (dats m 0 c).after 6 t = out (fun n => (sts m c t n).2.2.2) tb := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body meets at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it leaves. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, H3, H4, H5, H6⟩
  iapply (body_run c (grid0.coords t) _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · icases H3 with ⟨%d, H3⟩; iexists _; iexact H3
  isplitl [H4]; · icases H4 with ⟨%d, H4⟩; iexists _; iexact H4
  isplitl [H5]; · icases H5 with ⟨%d, H5⟩; iexists _; iexact H5
  isplitl [H6]; · icases H6 with ⟨%d, H6⟩; iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row_eq (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- The run: every array of the region at its blocks, the counters at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_main m ρ)

/-- The arguments end unchanged and every counter at zero, over any float model. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_post m ρ)) ((θ_run defs _ _).mono (fun _ h => h.2) (run_main m ρ))

end Cert.Proof.Scan
end
-- ==== Proof.Scan.Same.lean ====
/- The kernel as printed and its idealization have one text, so the frame of the one is the frame of the other. -/
module

public import proofs.«01_k».proof.Defs
public import proofs.«01_k».proof.Proof.Gen.Kernel
public import proofs.«01_k».proof.Proof.Gen.KernelIdeal
public import proofs.«01_k».proof.Proof.Scan.Frame
public import Idealize.ShloMosaic.Init

@[expose] public section

noncomputable section

namespace Cert.Proof.Scan

open Idealize.ShloMosaic Idealize.SL.Sem

variable {F : FTy → Type} [FloatOps F]

theorem body_same : @Kernel.cc0_s5_scan_bwd F _ _ = @KernelIdeal.cc0_s5_scan_bwd F _ _ := rfl

theorem defs_same : Kernel.defs₀ (F := F) = KernelIdeal.defs₀ (F := F) := by
  refine congrArg Defs.onTc (funext fun l => funext fun a => ?_)
  match l, a with
  | ⟨0, h⟩, (t, s) =>
    show Kernel.cc0_s5_scan_bwd _ _ _ _ _ _ _ _ _ _ _ _ _ _ _ = KernelIdeal.cc0_s5_scan_bwd _ _ _ _ _ _ _ _ _ _ _ _ _ _ _
    rw [body_same]
    rfl
  | ⟨n + 1, h⟩, _ => exact absurd h (by omega)

theorem frame_kernel : Cert.quiescent_Kernel := fun m ρ _ => by
  show θ_run (Pipeline.defs (Kernel.pcfgs (F := Bits)) (Kernel.defs₀ (F := Bits))) _ _ _
  rw [defs_same]
  exact Cert.Proof.Scan.frame_any (F := Bits) m ρ

end Cert.Proof.Scan

end
-- ==== Proof.Scan.Cell.lean ====
module

public import Idealize.ShloMosaic.Lib.Pointwise
public import Idealize.ShloMosaic.Lib.ValueIdx
public import Idealize.ShloMosaic.Lib.ValueLayout
public import Idealize.ShloMosaic.Lib.DynamicIndex
public import Idealize.ShloMosaic.Lib.WordCmp

@[expose] public section

set_option maxRecDepth 16384

noncomputable section

namespace Cert.Proof.Scan

open Idealize.ShloMosaic hiding ix1 ix2 ix3 ix4 ix5
open Idealize.ShloMosaic.ValueIdx

/-- One complex state of the backward recurrence `l ← d + conj(a) l`, before each step, from zero. -/
def cell (dr di : ℕ → EReal) (ar ai : EReal) : ℕ → EReal × EReal
  | 0 => (0, 0)
  | n + 1 => let l := cell dr di ar ai n
    (dr n + ar * l.1 + ai * l.2, di n + ar * l.2 - ai * l.1)

theorem cell_congr {dr di dr' di' : ℕ → EReal} {ar ai : EReal} (N : ℕ) (hr : ∀ n < N, dr n = dr' n) (hi : ∀ n < N, di n = di' n) :
    ∀ n ≤ N, cell dr di ar ai n = cell dr' di' ar ai n
  | 0, _ => rfl
  | n + 1, h => by
    have ih := cell_congr (ar := ar) (ai := ai) N hr hi n (by omega)
    simp only [cell, ih, hr n (by omega), hi n (by omega)]

section Index
variable {α : Type}

/-- A row of a stack of tables, read at a dynamic start inside it. -/
theorem row_at {N A B : ℕ} (x : (⟨3, ![N, A, B]⟩ : Shape).Idx → α) (start : Fin 3 → Int)
    (h : (⟨3, ![N, A, B]⟩ : Shape).Slices (fun _ => 0) ⟨3, ![1, A, B]⟩)
    (hc : (⟨3, ![1, A, B]⟩ : Shape).ShapeCasts ⟨2, ![A, B]⟩)
    (q : Fin N) (h0 : start 0 = (q.val : Int)) (h1 : start 1 = 0) (h2 : start 2 = 0) (a : Fin A) (b : Fin B) :
    shapeCast ⟨2, ![A, B]⟩ (Host.dynamicSlice ⟨3, ![1, A, B]⟩ x start h) hc (ix2 a b) = x (ix3 q a b) := by
  have hs : (⟨3, ![N, A, B]⟩ : Shape).Slices ![q.val, 0, 0] ⟨3, ![1, A, B]⟩ :=
    ⟨rfl, fun d => by match d with
      | ⟨0, _⟩ => exact q.isLt
      | ⟨1, _⟩ => exact (Nat.zero_add A).le
      | ⟨2, _⟩ => exact (Nat.zero_add B).le⟩
  rw [Host.dynamicSlice_eq_extractStridedSlice _ x start ![q.val, 0, 0] h hs (fun d => by
    match d with
    | ⟨0, _⟩ => exact h0
    | ⟨1, _⟩ => exact h1
    | ⟨2, _⟩ => exact h2), shapeCast_1ab_ab_apply]
  refine congrArg x (funext fun d => ?_)
  match d with
  | ⟨0, _⟩ => exact Fin.ext (by simp [ix3])
  | ⟨1, _⟩ => exact Fin.ext (by simp [ix3])
  | ⟨2, _⟩ => exact Fin.ext (by simp [ix3])

/-- A stack of tables after one row of it has been written at a dynamic start inside it. -/
theorem set_row_at {N A B : ℕ} (x : (⟨3, ![N, A, B]⟩ : Shape).Idx → α) (y : (⟨2, ![A, B]⟩ : Shape).Idx → α) (start : Fin 3 → Int)
    (h : (⟨3, ![N, A, B]⟩ : Shape).Slices (fun _ => 0) ⟨3, ![1, A, B]⟩)
    (hb : (⟨2, ![A, B]⟩ : Shape).BroadcastsInDim ⟨3, ![1, A, B]⟩ ![1, 2])
    (hA : A ≠ 1) (hB : B ≠ 1)
    (q : Fin N) (h0 : start 0 = (q.val : Int)) (h1 : start 1 = 0) (h2 : start 2 = 0) (p : Fin N) (a : Fin A) (b : Fin B) :
    Host.dynamicUpdateSlice x (broadcastInDim ⟨3, ![1, A, B]⟩ ![1, 2] hb y) start h (ix3 p a b) = if p = q then y (ix2 a b) else x (ix3 p a b) := by
  have hs : (⟨3, ![N, A, B]⟩ : Shape).Slices ![q.val, 0, 0] ⟨3, ![1, A, B]⟩ :=
    ⟨rfl, fun d => by match d with
      | ⟨0, _⟩ => exact q.isLt
      | ⟨1, _⟩ => exact (Nat.zero_add A).le
      | ⟨2, _⟩ => exact (Nat.zero_add B).le⟩
  rw [WordCmp.dynamicUpdateSlice_eq_update x _ start h ![q.val, 0, 0] hs (fun d => by
    match d with
    | ⟨0, _⟩ => exact h0
    | ⟨1, _⟩ => exact h1
    | ⟨2, _⟩ => exact h2), updateSlice_apply]
  by_cases hp : p = q
  · subst hp
    rw [dif_pos (fun d => by
      match d with
      | ⟨0, _⟩ => exact ⟨Nat.le_refl _, Nat.lt_succ_self _⟩
      | ⟨1, _⟩ => exact ⟨Nat.zero_le _, by have := a.isLt; exact (Nat.zero_add A).symm ▸ this⟩
      | ⟨2, _⟩ => exact ⟨Nat.zero_le _, by have := b.isLt; exact (Nat.zero_add B).symm ▸ this⟩), if_pos rfl, Pointwise.broadcastInDim_apply]
    refine congrArg y (funext fun d => ?_)
    match d with
    | ⟨0, _⟩ => exact Fin.ext ((congrArg Fin.val (dif_neg hA)).trans (Nat.sub_zero _))
    | ⟨1, _⟩ => exact Fin.ext ((congrArg Fin.val (dif_neg hB)).trans (Nat.sub_zero _))
  · rw [if_neg hp, dif_neg (fun hall => hp (Fin.ext (by
      have := hall (0 : Fin 3)
      have h3 : q.val ≤ p.val ∧ p.val < q.val + 1 := this
      omega)))]

end Index

end Cert.Proof.Scan
end
-- ==== Proof.Scan.Lane.lean ====
/- The kernel's carried state read at one lane: each of the 128 lanes of a row carries one complex state of the
   recurrence, the lower 64 lanes of a group of the lower half of the block, the upper 64 of one of the upper half. -/
module

public import proofs.«01_k».proof.Proof.Scan.State
public import proofs.«01_k».proof.Proof.Scan.Body
public import proofs.«01_k».proof.Proof.Scan.Cell
public import Idealize.ShloMosaic.Lib.KernelVsHost

@[expose] public section

set_option maxRecDepth 16384

noncomputable section

namespace Cert.Proof.Scan

open Cert.KernelIdeal Cert.KernelIdeal.Gen
open Idealize.ShloMosaic hiding ix1 ix2 ix3 ix4 ix5
open Idealize.ShloMosaic.ValueIdx

/-- The group of a block that row `h`, lane `l` of the packed state belongs to. -/
def grp (h l : ℕ) : ℕ := if l < 64 then h else 8 + h

theorem mask_eq : ∀ l : Fin 128, IntOp.cmpi .slt (BitVec.ofNat 32 l.val) 64#32 = if l.val < 64 then 1#1 else 0#1 := by
  decide +kernel

theorem mask_at (h : Fin 8) (l : Fin 128) : k0_pay1 (ix2 h l) = if l.val < 64 then 1#1 else 0#1 := by
  rw [← mask_eq l]
  unfold k0_pay1
  show IntOp.cmpi .slt _ _ = _
  congr 1
  exact iota_single_apply _ _ _ _ _ _

theorem turn_at {α : Type} (x : S8x128.Idx → α) (h : Fin 8) (l : Fin 128) :
    dynamicRotate 1 64#32 none x rotates_S8x128_d1 (ix2 h l) = x (ix2 h (Fin.ofNat 128 (l.val + 64))) := by
  refine dynamicRotate_apply (s := S8x128) 1 64#32 x rotates_S8x128_d1 (ix2 h l) (ix2 h (Fin.ofNat 128 (l.val + 64))) (fun b => ?_)
  match b with
  | ⟨0, _⟩ => rfl
  | ⟨1, hb⟩ =>
    rw [if_pos (show (⟨1, hb⟩ : Fin S8x128.rank) = 1 from rfl)]
    show (l.val + 64) % 128 = (l.val + 128 - 64 % 128) % 128
    omega

theorem pack_fw {x y : S8x128.Idx → EReal} (h : Fin 8) (l : Fin 128) :
    select k0_pay1 x (dynamicRotate 1 64#32 none y rotates_S8x128_d1) (ix2 h l)
      = if l.val < 64 then x (ix2 h (Fin.ofNat 128 (l.val % 64))) else y (ix2 h (Fin.ofNat 128 (l.val % 64))) := by
  rw [select_apply, mask_at, turn_at]
  have hl := l.isLt
  by_cases c : l.val < 64
  · rw [if_pos c, if_pos c, select_one]
    congr 2
    exact Fin.ext (show l.val = l.val % 64 % 128 by omega)
  · rw [if_neg c, if_neg c, select_zero]
    congr 2
    exact Fin.ext (show (l.val + 64) % 128 = l.val % 64 % 128 by omega)

theorem pack_bw {x y : S8x128.Idx → EReal} (h : Fin 8) (l : Fin 128) :
    select k0_pay1 (dynamicRotate 1 64#32 none x rotates_S8x128_d1) y (ix2 h l)
      = if l.val < 64 then x (ix2 h (Fin.ofNat 128 (64 + l.val % 64))) else y (ix2 h (Fin.ofNat 128 (64 + l.val % 64))) := by
  rw [select_apply, mask_at, turn_at]
  have hl := l.isLt
  by_cases c : l.val < 64
  · rw [if_pos c, if_pos c, select_one]
    congr 2
    exact Fin.ext (show (l.val + 64) % 128 = (64 + l.val % 64) % 128 by omega)
  · rw [if_neg c, if_neg c, select_zero]
    congr 2
    exact Fin.ext (show l.val = (64 + l.val % 64) % 128 by omega)

variable (x1 x2 : Vec Ideal S8448x128 .f32) (a : Vec Ideal S16x256 .f32)

/-- A block of rows read at natural coordinates. -/
abbrev at2 (x : Vec Ideal S8448x128 .f32) (p q : ℕ) : EReal := x (ix2 (Fin.ofNat 8448 p) (Fin.ofNat 128 q))
/-- A block of parameters read at natural coordinates. -/
abbrev pr2 (x : Vec Ideal S16x256 .f32) (p q : ℕ) : EReal := x (ix2 (Fin.ofNat 16 p) (Fin.ofNat 256 q))

theorem rows_if (x : Vec Ideal S8448x128 .f32) (p q : ℕ) (h : Fin 8) (l : Fin 128) :
    (if l.val < 64 then row x p (ix2 h (Fin.ofNat 128 q)) else row x (4224 + p) (ix2 h (Fin.ofNat 128 q)))
      = at2 x (grp h.val l.val * 528 + p) q := by
  unfold row grp
  by_cases c : l.val < 64
  · simp only [if_pos c]
    show x (ix2 (Fin.ofNat 8448 (p + 528 * h.val)) _) = _
    rw [show p + 528 * h.val = h.val * 528 + p by omega]
  · simp only [if_neg c]
    show x (ix2 (Fin.ofNat 8448 (4224 + p + 528 * h.val)) _) = _
    rw [show 4224 + p + 528 * h.val = (8 + h.val) * 528 + p by omega]

theorem pars_if (q k : ℕ) (hk : k < 128) (h : Fin 8) (l : Fin 128) :
    (if l.val < 64 then par a 0 q (ix2 h (Fin.ofNat 128 k)) else par a 8 q (ix2 h (Fin.ofNat 128 k)))
      = pr2 a (grp h.val l.val) (q + k) := by
  have e : (Fin.ofNat 128 k).val = k := Nat.mod_eq_of_lt hk
  unfold par grp
  by_cases c : l.val < 64
  · simp only [if_pos c]
    show a (ix2 (Fin.ofNat 16 (0 + h.val)) (Fin.ofNat 256 (q + (Fin.ofNat 128 k).val))) = _
    rw [e, Nat.zero_add]
  · simp only [if_neg c]
    show a (ix2 (Fin.ofNat 16 (8 + h.val)) (Fin.ofNat 256 (q + (Fin.ofNat 128 k).val))) = _
    rw [e]

/-- The forward direction's state at a lane. -/
theorem st_fw (h : Fin 8) (l : Fin 128) : ∀ n : ℕ,
    ((st x1 x2 (par a 0 0) (par a 8 0) (par a 0 128) (par a 8 128) n).1 (ix2 h l),
      (st x1 x2 (par a 0 0) (par a 8 0) (par a 0 128) (par a 8 128) n).2.1 (ix2 h l))
      = cell (fun t => at2 x1 (grp h.val l.val * 528 + pf t) (l.val % 64)) (fun t => at2 x2 (grp h.val l.val * 528 + pf t) (l.val % 64))
          (pr2 a (grp h.val l.val) (0 + l.val % 64)) (pr2 a (grp h.val l.val) (128 + l.val % 64)) n
  | 0 => by
    have z : Ideal.ofBits .f32 0x00000000#32 = 0 := by rw [Ideal.ofBits]; simp [Ideal.ieee]
    exact Prod.ext z z
  | n + 1 => by
    have ih := st_fw h l n
    have hl : l.val % 64 < 128 := by omega
    have e1 := congrArg Prod.fst ih
    have e2 := congrArg Prod.snd ih
    simp only [cell, ← e1, ← e2]
    have p8 : ∀ x : Vec Ideal S8448x128 .f32, k0_pay8 k0_pay1 (row x (pf n)) (row x (4224 + pf n)) (ix2 h l)
        = at2 x (grp h.val l.val * 528 + pf n) (l.val % 64) := fun x => (pack_fw h l).trans (rows_if x _ _ h l)
    have p2 : k0_pay2 (par a 0 0) (par a 8 0) (ix2 h l) = pr2 a (grp h.val l.val) (0 + l.val % 64) :=
      (pack_fw h l).trans (pars_if a 0 _ hl h l)
    have p4 : k0_pay4 (par a 0 128) (par a 8 128) (ix2 h l) = pr2 a (grp h.val l.val) (128 + l.val % 64) :=
      (pack_fw h l).trans (pars_if a 128 _ hl h l)
    have p9 : ∀ x : Vec Ideal S8448x128 .f32, k0_pay9 k0_pay1 (row x (pf n)) (row x (4224 + pf n)) (ix2 h l)
        = at2 x (grp h.val l.val * 528 + pf n) (l.val % 64) := p8
    rw [← p8 x1, ← p9 x2, ← p2, ← p4]
    rfl

/-- The backward direction's state at a lane. -/
theorem st_bw (h : Fin 8) (l : Fin 128) : ∀ n : ℕ,
    ((st x1 x2 (par a 0 0) (par a 8 0) (par a 0 128) (par a 8 128) n).2.2.1 (ix2 h l),
      (st x1 x2 (par a 0 0) (par a 8 0) (par a 0 128) (par a 8 128) n).2.2.2 (ix2 h l))
      = cell (fun t => at2 x1 (grp h.val l.val * 528 + pb t) (64 + l.val % 64)) (fun t => at2 x2 (grp h.val l.val * 528 + pb t) (64 + l.val % 64))
          (pr2 a (grp h.val l.val) (0 + (64 + l.val % 64))) (pr2 a (grp h.val l.val) (128 + (64 + l.val % 64))) n
  | 0 => by
    have z : Ideal.ofBits .f32 0x00000000#32 = 0 := by rw [Ideal.ofBits]; simp [Ideal.ieee]
    exact Prod.ext z z
  | n + 1 => by
    have ih := st_bw h l n
    have hl : 64 + l.val % 64 < 128 := by omega
    have e1 := congrArg Prod.fst ih
    have e2 := congrArg Prod.snd ih
    simp only [cell, ← e1, ← e2]
    have p8 : ∀ x : Vec Ideal S8448x128 .f32, select k0_pay1 (dynamicRotate 1 64#32 none (row x (pb n)) rotates_S8x128_d1) (row x (4224 + pb n)) (ix2 h l)
        = at2 x (grp h.val l.val * 528 + pb n) (64 + l.val % 64) := fun x => (pack_bw h l).trans (rows_if x _ _ h l)
    have p2 : k0_pay3 (par a 0 0) (par a 8 0) (ix2 h l) = pr2 a (grp h.val l.val) (0 + (64 + l.val % 64)) :=
      (pack_bw h l).trans (pars_if a 0 _ hl h l)
    have p4 : k0_pay5 (par a 0 128) (par a 8 128) (ix2 h l) = pr2 a (grp h.val l.val) (128 + (64 + l.val % 64)) :=
      (pack_bw h l).trans (pars_if a 128 _ hl h l)
    rw [← p8 x1, ← p8 x2, ← p2, ← p4]
    rfl

end Cert.Proof.Scan
end
-- ==== Proof.Scan.Final.lean ====
/- What the kernel's four result arrays hold after the run: at every row and lane, the recurrence's state before the step
   that reads that row's chunk. -/
module

public import proofs.«01_k».proof.Proof.Scan.Lane
public import proofs.«01_k».proof.Proof.Scan.Frame
public import Idealize.ShloMosaic.Lib.Pipeline.ValueKit

@[expose] public section

set_option maxRecDepth 16384

noncomputable section

namespace Cert.Proof.Scan

open Cert.KernelIdeal Cert.KernelIdeal.Gen
open Idealize.ShloMosaic hiding ix1 ix2 ix3 ix4 ix5
open Idealize.ShloMosaic.TcCoe
open Idealize.ShloMosaic.ValueIdx Idealize.SL.Sem
open Idealize.ShloMosaic.Pipeline (Dat)

/-- The derivative rows, read at natural coordinates. -/
abbrev ax (x : S33792x128.Idx → EReal) (p q : ℕ) : EReal := x (ix2 (Fin.ofNat 33792 p) (Fin.ofNat 128 q))
/-- The transitions, read at natural coordinates. -/
abbrev ap (x : S64x256.Idx → EReal) (p q : ℕ) : EReal := x (ix2 (Fin.ofNat 64 p) (Fin.ofNat 256 q))

/-- The forward direction's state of group `g`, number `n`, before the step that reads chunk `p`. -/
def fwd (x y : S33792x128.Idx → EReal) (a : S64x256.Idx → EReal) (g n p : ℕ) : EReal × EReal :=
  cell (fun t => ax x (g * 528 + pf t) n) (fun t => ax y (g * 528 + pf t) n) (ap a g n) (ap a g (128 + n)) (pf p)
/-- The backward direction's state of group `g`, number `n`, before the step that reads chunk `p`. -/
def bwd (x y : S33792x128.Idx → EReal) (a : S64x256.Idx → EReal) (g n p : ℕ) : EReal × EReal :=
  cell (fun t => ax x (g * 528 + pb t) (64 + n)) (fun t => ax y (g * 528 + pb t) (64 + n)) (ap a g (64 + n)) (ap a g (192 + n)) (tb p)

/-- A result array: row `(q * 8 + h) * 528 + p`, lane `d * 64 + n` holds group `16 q + 8 d + h`, state `n`, chunk `p`. -/
def lay (f : ℕ → ℕ → ℕ → EReal) : S16896x128.Idx → EReal := fun y =>
  f (16 * ((y (0 : Fin 2)).val / 528 / 8) + 8 * ((y (1 : Fin 2)).val / 64) + (y (0 : Fin 2)).val / 528 % 8)
    ((y (1 : Fin 2)).val % 64) ((y (0 : Fin 2)).val % 528)

variable (m : (ℓ : Loc nD τ sig) → Buf (Elt Ideal) ℓ) (ρ : Dev nD → PrngReg)

def y0 (c : Dev nD) : S33792x128.Idx → EReal := m ((c : Thread nD τ).loc main_arg0)
def y1 (c : Dev nD) : S33792x128.Idx → EReal := m ((c : Thread nD τ).loc main_arg1)
def y2 (c : Dev nD) : S64x256.Idx → EReal := m ((c : Thread nD τ).loc main_arg2)

theorem idx_0 : ∀ t : Fin cfg0.N, win0_0.index t = ![t.val, 0] := (by decide +kernel : ∀ t : Fin grid0.N, _)
theorem idx_1 : ∀ t : Fin cfg0.N, win0_1.index t = ![t.val, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![t.val, 0] := (by decide +kernel : ∀ t : Fin grid0.N, _)
theorem idx_4 : ∀ t : Fin cfg0.N, win0_4.index t = ![t.val, 0] := (by decide +kernel : ∀ t : Fin grid0.N, _)
theorem idx_5 : ∀ t : Fin cfg0.N, win0_5.index t = ![t.val, 0] := (by decide +kernel : ∀ t : Fin grid0.N, _)
theorem idx_6 : ∀ t : Fin cfg0.N, win0_6.index t = ![t.val, 0] := (by decide +kernel : ∀ t : Fin grid0.N, _)
theorem t_lt : ∀ t : Fin cfg0.N, t.val < 4 := (by decide +kernel : ∀ t : Fin grid0.N, _)

theorem iblk_0 (c : Dev nD) (t : Fin cfg0.N) (g p q : ℕ) (hg : g < 16) (hp : p < 528) :
    at2 (iblk m c 0 t) (g * 528 + p) q = ax (y0 m c) ((16 * t.val + g) * 528 + p) q := by
  have ht := t_lt t
  show iblk m c 0 t _ = y0 m c _
  blk_simp [iblk]
  refine congrArg (y0 m c) (funext fun d => Fin.ext ?_)
  match d with
  | ⟨0, _⟩ =>
    blk_simp [idx_0]
    show t.val * 8448 + (g * 528 + p) % 8448 = ((16 * t.val + g) * 528 + p) % 33792
    omega
  | ⟨1, _⟩ =>
    blk_simp [idx_0]

theorem iblk_1 (c : Dev nD) (t : Fin cfg0.N) (g p q : ℕ) (hg : g < 16) (hp : p < 528) :
    at2 (iblk m c 1 t) (g * 528 + p) q = ax (y1 m c) ((16 * t.val + g) * 528 + p) q := by
  have ht := t_lt t
  show iblk m c 1 t _ = y1 m c _
  blk_simp [iblk]
  refine congrArg (y1 m c) (funext fun d => Fin.ext ?_)
  match d with
  | ⟨0, _⟩ =>
    blk_simp [idx_1]
    show t.val * 8448 + (g * 528 + p) % 8448 = ((16 * t.val + g) * 528 + p) % 33792
    omega
  | ⟨1, _⟩ =>
    blk_simp [idx_1]

theorem iblk_2 (c : Dev nD) (t : Fin cfg0.N) (g q : ℕ) (hg : g < 16) :
    pr2 (iblk m c 2 t) g q = ap (y2 m c) (16 * t.val + g) q := by
  have ht := t_lt t
  show iblk m c 2 t _ = y2 m c _
  blk_simp [iblk]
  refine congrArg (y2 m c) (funext fun d => Fin.ext ?_)
  match d with
  | ⟨0, _⟩ =>
    blk_simp [idx_2]
    show t.val * 16 + g % 16 = (16 * t.val + g) % 64
    omega
  | ⟨1, _⟩ =>
    blk_simp [idx_2]

theorem grp_lt (h : Fin 8) (l : Fin 128) : grp h.val l.val < 16 := by unfold grp; split <;> omega

/-- The state at a point's lane, over the argument arrays: forward. -/
theorem sts_fw (c : Dev nD) (t : Fin cfg0.N) (h : Fin 8) (l : Fin 128) (p : ℕ) (hp : p < 528) :
    ((sts m c t (pf p)).1 (ix2 h l), (sts m c t (pf p)).2.1 (ix2 h l))
      = fwd (y0 m c) (y1 m c) (y2 m c) (16 * t.val + grp h.val l.val) (l.val % 64) p := by
  have hg := grp_lt h l
  refine (st_fw (iblk m c 0 t) (iblk m c 1 t) (iblk m c 2 t) h l (pf p)).trans ?_
  unfold fwd
  rw [iblk_2 m c t _ _ hg, iblk_2 m c t _ _ hg, Nat.zero_add]
  exact cell_congr 528 (fun n hn => iblk_0 m c t _ _ _ hg (pf_lt n hn)) (fun n hn => iblk_1 m c t _ _ _ hg (pf_lt n hn)) _
    (le_of_lt (pf_lt p hp))

/-- The state at a point's lane, over the argument arrays: backward. -/
theorem sts_bw (c : Dev nD) (t : Fin cfg0.N) (h : Fin 8) (l : Fin 128) (p : ℕ) (hp : p < 528) :
    ((sts m c t (tb p)).2.2.1 (ix2 h l), (sts m c t (tb p)).2.2.2 (ix2 h l))
      = bwd (y0 m c) (y1 m c) (y2 m c) (16 * t.val + grp h.val l.val) (l.val % 64) p := by
  have hg := grp_lt h l
  refine (st_bw (iblk m c 0 t) (iblk m c 1 t) (iblk m c 2 t) h l (tb p)).trans ?_
  unfold bwd
  rw [iblk_2 m c t _ _ hg, iblk_2 m c t _ _ hg, Nat.zero_add, ← Nat.add_assoc 128 64]
  exact cell_congr 528 (fun n hn => iblk_0 m c t _ _ _ hg (pb_lt n hn)) (fun n hn => iblk_1 m c t _ _ _ hg (pb_lt n hn)) _
    (le_of_lt (tb_lt p hp))

/-- A result index of point `t`'s block, placed in the array. -/
theorem lay_at (f : ℕ → ℕ → ℕ → EReal) (t : ℕ) (ht : t < 4) (y : S4224x128.Idx) (z : S16896x128.Idx)
    (h0 : (z (0 : Fin 2)).val = t * 4224 + (y (0 : Fin 2)).val) (h1 : (z (1 : Fin 2)).val = 0 * 128 + (y (1 : Fin 2)).val) :
    lay f z = f (16 * t + grp (Fin.ofNat 8 ((y (0 : Fin 2)).val / 528)).val (y (1 : Fin 2)).val) ((y (1 : Fin 2)).val % 64) ((y (0 : Fin 2)).val % 528) := by
  have b0 : (y (0 : Fin 2)).val < 4224 := (y (0 : Fin 2)).isLt
  have b1 : (y (1 : Fin 2)).val < 128 := (y (1 : Fin 2)).isLt
  unfold lay grp
  rw [h0, h1]
  have e : (Fin.ofNat 8 ((y (0 : Fin 2)).val / 528)).val = (y (0 : Fin 2)).val / 528 := Nat.mod_eq_of_lt (by omega)
  rw [e]
  have a1 : 16 * ((t * 4224 + (y (0 : Fin 2)).val) / 528 / 8) + 8 * ((0 * 128 + (y (1 : Fin 2)).val) / 64) + (t * 4224 + (y (0 : Fin 2)).val) / 528 % 8
      = 16 * t + (if (y (1 : Fin 2)).val < 64 then (y (0 : Fin 2)).val / 528 else 8 + (y (0 : Fin 2)).val / 528) := by
    split <;> omega
  rw [a1, show (0 * 128 + (y (1 : Fin 2)).val) % 64 = (y (1 : Fin 2)).val % 64 by omega,
    show (t * 4224 + (y (0 : Fin 2)).val) % 528 = (y (0 : Fin 2)).val % 528 by omega]

theorem final_3 (c : Dev nD) : (dats m 0 c).arrAt 3 cfg0.N = lay (fun g n p => (fwd (y0 m c) (y1 m c) (y2 m c) g n p).1) := by
  refine (dats m 0 c).arrAt_eq_of_covers 3 _ (by decide +kernel) fun t hf y => ?_
  blk_simp
  rw [after_3]
  refine Eq.trans ?_ (lay_at _ t.val (t_lt t) y _ (by blk_simp [idx_3]) (by blk_simp [idx_3])).symm
  exact congrArg Prod.fst (sts_fw m c t _ _ _ (Nat.mod_lt _ (by decide)))

theorem final_4 (c : Dev nD) : (dats m 0 c).arrAt 4 cfg0.N = lay (fun g n p => (fwd (y0 m c) (y1 m c) (y2 m c) g n p).2) := by
  refine (dats m 0 c).arrAt_eq_of_covers 4 _ (by decide +kernel) fun t hf y => ?_
  blk_simp
  rw [after_4]
  refine Eq.trans ?_ (lay_at _ t.val (t_lt t) y _ (by blk_simp [idx_4]) (by blk_simp [idx_4])).symm
  exact congrArg Prod.snd (sts_fw m c t _ _ _ (Nat.mod_lt _ (by decide)))

theorem final_5 (c : Dev nD) : (dats m 0 c).arrAt 5 cfg0.N = lay (fun g n p => (bwd (y0 m c) (y1 m c) (y2 m c) g n p).1) := by
  refine (dats m 0 c).arrAt_eq_of_covers 5 _ (by decide +kernel) fun t hf y => ?_
  blk_simp
  rw [after_5]
  refine Eq.trans ?_ (lay_at _ t.val (t_lt t) y _ (by blk_simp [idx_5]) (by blk_simp [idx_5])).symm
  exact congrArg Prod.fst (sts_bw m c t _ _ _ (Nat.mod_lt _ (by decide)))

theorem final_6 (c : Dev nD) : (dats m 0 c).arrAt 6 cfg0.N = lay (fun g n p => (bwd (y0 m c) (y1 m c) (y2 m c) g n p).2) := by
  refine (dats m 0 c).arrAt_eq_of_covers 6 _ (by decide +kernel) fun t hf y => ?_
  blk_simp
  rw [after_6]
  refine Eq.trans ?_ (lay_at _ t.val (t_lt t) y _ (by blk_simp [idx_6]) (by blk_simp [idx_6])).symm
  exact congrArg Prod.snd (sts_bw m c t _ _ _ (Nat.mod_lt _ (by decide)))

theorem run : θ_run defs (onTc (τ := τ) (main (F := Ideal))) ⟨m, fun _ => 0, ρ⟩ fun r => ∀ c : Dev nD,
      r.2.mem ((c : Thread nD τ).loc main_v0_0) = lay (fun g n p => (fwd (y0 m c) (y1 m c) (y2 m c) g n p).1)
      ∧ r.2.mem ((c : Thread nD τ).loc main_v0_1) = lay (fun g n p => (fwd (y0 m c) (y1 m c) (y2 m c) g n p).2)
      ∧ r.2.mem ((c : Thread nD τ).loc main_v0_2) = lay (fun g n p => (bwd (y0 m c) (y1 m c) (y2 m c) g n p).1)
      ∧ r.2.mem ((c : Thread nD τ).loc main_v0_3) = lay (fun g n p => (bwd (y0 m c) (y1 m c) (y2 m c) g n p).2)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (final_3 m c), ((h c).1 4).trans (final_4 m c),
      ((h c).1 5).trans (final_5 m c), ((h c).1 6).trans (final_6 m c),
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2))⟩) (run_post m ρ)

end Cert.Proof.Scan
end
-- ==== Proof.Scan.Ref.lean ====
/- The reference's loop, read as the recurrence of `Cell`: what `STEP` iterated makes of each carried buffer. -/
module

public import proofs.«01_k».proof.Proof.Scan.Cell
public import proofs.«01_k».proof.Proof.Gen.ReferenceIdeal.Run

@[expose] public section

set_option maxRecDepth 16384

noncomputable section

namespace Cert.Proof.Scan.Ref

open Cert.ReferenceIdeal Cert.ReferenceIdeal.Gen Cert.ReferenceIdeal.Value
open Idealize.ShloMosaic hiding ix1 ix2 ix3 ix4 ix5
open Idealize.ShloMosaic.ValueIdx Idealize.ShloMosaic.TcCoe

local notation "Vl" => Valuation τ sig (Elt Ideal)

/-- Carried buffer 0 of the loop. -/
def c0 (V : Vl) : S528x64x64.Idx → EReal := V (Proc.devRef .tc main_v41_0)
/-- Carried buffer 1 of the loop. -/
def c1 (V : Vl) : S528x64x64.Idx → EReal := V (Proc.devRef .tc main_v41_1)
/-- Carried buffer 2 of the loop. -/
def c2 (V : Vl) : S528x64x64.Idx → EReal := V (Proc.devRef .tc main_v41_2)
/-- Carried buffer 3 of the loop. -/
def c3 (V : Vl) : S528x64x64.Idx → EReal := V (Proc.devRef .tc main_v41_3)
/-- Carried buffer 4 of the loop. -/
def c4 (V : Vl) : S64x64.Idx → EReal := V (Proc.devRef .tc main_v41_4)
/-- Carried buffer 5 of the loop. -/
def c5 (V : Vl) : S64x64.Idx → EReal := V (Proc.devRef .tc main_v41_5)
/-- Carried buffer 6 of the loop. -/
def c6 (V : Vl) : S64x64.Idx → EReal := V (Proc.devRef .tc main_v41_6)
/-- Carried buffer 7 of the loop. -/
def c7 (V : Vl) : S64x64.Idx → EReal := V (Proc.devRef .tc main_v41_7)
/-- Carried buffer 9 of the loop. -/
def c9 (V : Vl) : S64x64.Idx → EReal := V (Proc.devRef .tc main_v41_9)
/-- Carried buffer 10 of the loop. -/
def c10 (V : Vl) : S64x64.Idx → EReal := V (Proc.devRef .tc main_v41_10)
/-- Carried buffer 11 of the loop. -/
def c11 (V : Vl) : S64x64.Idx → EReal := V (Proc.devRef .tc main_v41_11)
/-- Carried buffer 12 of the loop. -/
def c12 (V : Vl) : S64x64.Idx → EReal := V (Proc.devRef .tc main_v41_12)
/-- Carried buffer 13 of the loop. -/
def c13 (V : Vl) : S528x64x64.Idx → EReal := V (Proc.devRef .tc main_v41_13)
/-- Carried buffer 14 of the loop. -/
def c14 (V : Vl) : S528x64x64.Idx → EReal := V (Proc.devRef .tc main_v41_14)
/-- Carried buffer 15 of the loop. -/
def c15 (V : Vl) : S528x64x64.Idx → EReal := V (Proc.devRef .tc main_v41_15)
/-- Carried buffer 16 of the loop. -/
def c16 (V : Vl) : S528x64x64.Idx → EReal := V (Proc.devRef .tc main_v41_16)

/-- The row read at trip `k`. -/
abbrev rk (k : ℕ) : Fin 528 := ⟨527 - k, by omega⟩

/-- The counter holds trip `k`. -/
def At (V : Vl) (k : ℕ) : Prop := V (Proc.devRef .tc main_v41_8) = fun _ => BitVec.ofNat 32 k

/-- The row the trip reads, as the program computes it. -/
theorem row_word (V : Vl) (k : ℕ) (hk : k < 528) (hc : At V k) (i : S_.Idx) :
    (res_main_while0b_v69 V i).toInt = (((rk k).val : ℕ) : Int) := by
  have : res_main_while0b_v69 V i = BitVec.ofNat 32 (527 - k) := by
    unfold res_main_while0b_v69
    rw [hc]
    show (528#32 - BitVec.ofNat 32 k) - 1#32 = _
    apply BitVec.eq_of_toNat_eq
    simp only [BitVec.toNat_sub, BitVec.toNat_ofNat]
    omega
  rw [this, toInt_ofNat_of_lt (by omega)]

/-- The starts of the trip's slices. -/
abbrev starts (V : Vl) : Fin 3 → Int := fun k => (((![res_main_while0b_v69 V, constantI S_ 32 0#32, constantI S_ 32 0#32] : Fin 3 → (⟨S_, .i32⟩ : BufTy).Contents (Elt Ideal))) k (Shape.Idx.first h_S_)).toInt

attribute [local irreducible] res_main_while0b_v69

variable (V : Vl) (k : ℕ) (hk : k < 528) (hc : At V k)

theorem starts_0 (hk : k < 528) (hc : At V k) : starts V 0 = (((rk k).val : ℕ) : Int) := row_word V k hk hc (Shape.Idx.first h_S_)
theorem starts_1 : starts V 1 = 0 := rfl
theorem starts_2 : starts V 2 = 0 := rfl

theorem step_8 (hc : At V k) : At (STEP V) (k + 1) := by
  unfold At at *
  rw [STEP_main_v41_8]; unfold step_main_v41_8; rw [hc]
  funext i
  show BitVec.ofNat 32 k + 1#32 = _
  rw [BitVec.ofNat_add]
theorem keep_0 : c0 (STEP V) = c0 V := STEP_main_v41_0 V
theorem keep_1 : c1 (STEP V) = c1 V := STEP_main_v41_1 V
theorem keep_2 : c2 (STEP V) = c2 V := STEP_main_v41_2 V
theorem keep_3 : c3 (STEP V) = c3 V := STEP_main_v41_3 V
theorem keep_4 : c4 (STEP V) = c4 V := STEP_main_v41_4 V
theorem keep_5 : c5 (STEP V) = c5 V := STEP_main_v41_5 V
theorem keep_6 : c6 (STEP V) = c6 V := STEP_main_v41_6 V
theorem keep_7 : c7 (STEP V) = c7 V := STEP_main_v41_7 V

include hk hc
theorem step_9 (a b : Fin 64) : c9 (STEP V) (ix2 a b) = c0 V (ix3 (rk k) a b) + c5 V (ix2 a b) * c10 V (ix2 a b) + c4 V (ix2 a b) * c9 V (ix2 a b) := by
  unfold c9
  rw [STEP_main_v41_9]
  unfold step_main_v41_9
  refine congrArg (· + _) (congrArg (· + _) ?_)
  exact row_at (N := 528) (A := 64) (B := 64) (c0 V) (starts V) _ _ (rk k) (starts_0 V k hk hc) (starts_1 V) (starts_2 V) a b
theorem step_10 (a b : Fin 64) : c10 (STEP V) (ix2 a b) = c1 V (ix3 (rk k) a b) + c4 V (ix2 a b) * c10 V (ix2 a b) + c5 V (ix2 a b) * (-c9 V (ix2 a b)) := by
  unfold c10
  rw [STEP_main_v41_10]
  unfold step_main_v41_10
  refine congrArg (· + _) (congrArg (· + _) ?_)
  exact row_at (N := 528) (A := 64) (B := 64) (c1 V) (starts V) _ _ (rk k) (starts_0 V k hk hc) (starts_1 V) (starts_2 V) a b
theorem step_11 (a b : Fin 64) : c11 (STEP V) (ix2 a b) = c2 V (ix3 (rk k) a b) + c7 V (ix2 a b) * c12 V (ix2 a b) + c6 V (ix2 a b) * c11 V (ix2 a b) := by
  unfold c11
  rw [STEP_main_v41_11]
  unfold step_main_v41_11
  refine congrArg (· + _) (congrArg (· + _) ?_)
  exact row_at (N := 528) (A := 64) (B := 64) (c2 V) (starts V) _ _ (rk k) (starts_0 V k hk hc) (starts_1 V) (starts_2 V) a b
theorem step_12 (a b : Fin 64) : c12 (STEP V) (ix2 a b) = c3 V (ix3 (rk k) a b) + c6 V (ix2 a b) * c12 V (ix2 a b) + c7 V (ix2 a b) * (-c11 V (ix2 a b)) := by
  unfold c12
  rw [STEP_main_v41_12]
  unfold step_main_v41_12
  refine congrArg (· + _) (congrArg (· + _) ?_)
  exact row_at (N := 528) (A := 64) (B := 64) (c3 V) (starts V) _ _ (rk k) (starts_0 V k hk hc) (starts_1 V) (starts_2 V) a b
theorem step_13 (p : Fin 528) (a b : Fin 64) : c13 (STEP V) (ix3 p a b) = if p = rk k then c9 V (ix2 a b) else c13 V (ix3 p a b) := by
  rw [show c13 (STEP V) = step_main_v41_13 V from STEP_main_v41_13 V]
  unfold step_main_v41_13
  exact set_row_at (N := 528) (A := 64) (B := 64) (c13 V) (c9 V) (starts V) _ _ (by decide) (by decide) (rk k) (starts_0 V k hk hc) (starts_1 V) (starts_2 V) p a b
theorem step_14 (p : Fin 528) (a b : Fin 64) : c14 (STEP V) (ix3 p a b) = if p = rk k then c10 V (ix2 a b) else c14 V (ix3 p a b) := by
  rw [show c14 (STEP V) = step_main_v41_14 V from STEP_main_v41_14 V]
  unfold step_main_v41_14
  exact set_row_at (N := 528) (A := 64) (B := 64) (c14 V) (c10 V) (starts V) _ _ (by decide) (by decide) (rk k) (starts_0 V k hk hc) (starts_1 V) (starts_2 V) p a b
theorem step_15 (p : Fin 528) (a b : Fin 64) : c15 (STEP V) (ix3 p a b) = if p = rk k then c11 V (ix2 a b) else c15 V (ix3 p a b) := by
  rw [show c15 (STEP V) = step_main_v41_15 V from STEP_main_v41_15 V]
  unfold step_main_v41_15
  exact set_row_at (N := 528) (A := 64) (B := 64) (c15 V) (c11 V) (starts V) _ _ (by decide) (by decide) (rk k) (starts_0 V k hk hc) (starts_1 V) (starts_2 V) p a b
theorem step_16 (p : Fin 528) (a b : Fin 64) : c16 (STEP V) (ix3 p a b) = if p = rk k then c12 V (ix2 a b) else c16 V (ix3 p a b) := by
  rw [show c16 (STEP V) = step_main_v41_16 V from STEP_main_v41_16 V]
  unfold step_main_v41_16
  exact set_row_at (N := 528) (A := 64) (B := 64) (c16 V) (c12 V) (starts V) _ _ (by decide) (by decide) (rk k) (starts_0 V k hk hc) (starts_1 V) (starts_2 V) p a b

omit hk hc

/-- The state of the forward direction at group `a`, lane `b`, before trip `k`. -/
def fw (W : Vl) (a b : Fin 64) (k : ℕ) : EReal × EReal :=
  cell (fun t => c0 W (ix3 (rk t) a b)) (fun t => c1 W (ix3 (rk t) a b)) (c4 W (ix2 a b)) (c5 W (ix2 a b)) k

/-- The state of the other direction. -/
def bw (W : Vl) (a b : Fin 64) (k : ℕ) : EReal × EReal :=
  cell (fun t => c2 W (ix3 (rk t) a b)) (fun t => c3 W (ix3 (rk t) a b)) (c6 W (ix2 a b)) (c7 W (ix2 a b)) k

/-- The loop's entry: the counter and the carries at zero. -/
structure Entry (W : Vl) : Prop where
  at0 : At W 0
  z9 : ∀ i, c9 W i = 0
  z10 : ∀ i, c10 W i = 0
  z11 : ∀ i, c11 W i = 0
  z12 : ∀ i, c12 W i = 0

/-- What holds before trip `k`. -/
structure Inv (W S : Vl) (k : ℕ) : Prop where
  at_ : At S k
  k0 : c0 S = c0 W
  k1 : c1 S = c1 W
  k2 : c2 S = c2 W
  k3 : c3 S = c3 W
  k4 : c4 S = c4 W
  k5 : c5 S = c5 W
  k6 : c6 S = c6 W
  k7 : c7 S = c7 W
  s9 : ∀ a b : Fin 64, c9 S (ix2 a b) = (fw W a b k).1
  s10 : ∀ a b : Fin 64, c10 S (ix2 a b) = (fw W a b k).2
  s11 : ∀ a b : Fin 64, c11 S (ix2 a b) = (bw W a b k).1
  s12 : ∀ a b : Fin 64, c12 S (ix2 a b) = (bw W a b k).2
  s13 : ∀ (p : Fin 528) (a b : Fin 64), 528 ≤ p.val + k → c13 S (ix3 p a b) = (fw W a b (527 - p.val)).1
  s14 : ∀ (p : Fin 528) (a b : Fin 64), 528 ≤ p.val + k → c14 S (ix3 p a b) = (fw W a b (527 - p.val)).2
  s15 : ∀ (p : Fin 528) (a b : Fin 64), 528 ≤ p.val + k → c15 S (ix3 p a b) = (bw W a b (527 - p.val)).1
  s16 : ∀ (p : Fin 528) (a b : Fin 64), 528 ≤ p.val + k → c16 S (ix3 p a b) = (bw W a b (527 - p.val)).2

theorem inv_step (W S : Vl) (k : ℕ) (hk : k < 528) (h : Inv W S k) : Inv W (STEP S) (k + 1) where
  at_ := step_8 S k h.at_
  k0 := (keep_0 S).trans h.k0
  k1 := (keep_1 S).trans h.k1
  k2 := (keep_2 S).trans h.k2
  k3 := (keep_3 S).trans h.k3
  k4 := (keep_4 S).trans h.k4
  k5 := (keep_5 S).trans h.k5
  k6 := (keep_6 S).trans h.k6
  k7 := (keep_7 S).trans h.k7
  s9 a b := by
    rw [step_9 S k hk h.at_, h.k0, h.k5, h.k4, h.s9, h.s10]
    show _ + _ * (cell _ _ _ _ k).2 + _ * (cell _ _ _ _ k).1 = _ + _ * (cell _ _ _ _ k).1 + _ * (cell _ _ _ _ k).2
    exact add_right_comm _ _ _
  s11 a b := by
    rw [step_11 S k hk h.at_, h.k2, h.k7, h.k6, h.s11, h.s12]
    show _ + _ * (cell _ _ _ _ k).2 + _ * (cell _ _ _ _ k).1 = _ + _ * (cell _ _ _ _ k).1 + _ * (cell _ _ _ _ k).2
    exact add_right_comm _ _ _
  s10 a b := by
    rw [step_10 S k hk h.at_, h.k1, h.k5, h.k4, h.s10, h.s9, mul_neg, ← sub_eq_add_neg]
    rfl
  s12 a b := by
    rw [step_12 S k hk h.at_, h.k3, h.k7, h.k6, h.s12, h.s11, mul_neg, ← sub_eq_add_neg]
    rfl
  s13 p a b hp := by
    rw [step_13 S k hk h.at_]
    by_cases e : p = rk k
    · rw [if_pos e, h.s9, e]
      have : 527 - (rk k).val = k := by show 527 - (527 - k) = k; omega
      rw [this]
    · rw [if_neg e]
      refine h.s13 p a b ?_
      have : p.val ≠ 527 - k := fun h => e (Fin.ext h)
      omega
  s14 p a b hp := by
    rw [step_14 S k hk h.at_]
    by_cases e : p = rk k
    · rw [if_pos e, h.s10, e]
      have : 527 - (rk k).val = k := by show 527 - (527 - k) = k; omega
      rw [this]
    · rw [if_neg e]
      refine h.s14 p a b ?_
      have : p.val ≠ 527 - k := fun h => e (Fin.ext h)
      omega
  s15 p a b hp := by
    rw [step_15 S k hk h.at_]
    by_cases e : p = rk k
    · rw [if_pos e, h.s11, e]
      have : 527 - (rk k).val = k := by show 527 - (527 - k) = k; omega
      rw [this]
    · rw [if_neg e]
      refine h.s15 p a b ?_
      have : p.val ≠ 527 - k := fun h => e (Fin.ext h)
      omega
  s16 p a b hp := by
    rw [step_16 S k hk h.at_]
    by_cases e : p = rk k
    · rw [if_pos e, h.s12, e]
      have : 527 - (rk k).val = k := by show 527 - (527 - k) = k; omega
      rw [this]
    · rw [if_neg e]
      refine h.s16 p a b ?_
      have : p.val ≠ 527 - k := fun h => e (Fin.ext h)
      omega

theorem inv_zero (W : Vl) (h : Entry W) : Inv W W 0 where
  at_ := h.at0
  k0 := rfl
  k1 := rfl
  k2 := rfl
  k3 := rfl
  k4 := rfl
  k5 := rfl
  k6 := rfl
  k7 := rfl
  s9 _ _ := h.z9 _
  s10 _ _ := h.z10 _
  s11 _ _ := h.z11 _
  s12 _ _ := h.z12 _
  s13 p _ _ hp := absurd p.isLt (by omega)
  s14 p _ _ hp := absurd p.isLt (by omega)
  s15 p _ _ hp := absurd p.isLt (by omega)
  s16 p _ _ hp := absurd p.isLt (by omega)

theorem inv_all (W : Vl) (h : Entry W) : ∀ k ≤ 528, Inv W (STEP^[k] W) k
  | 0, _ => inv_zero W h
  | k + 1, hk => by
    rw [Function.iterate_succ_apply']
    exact inv_step W _ k (by omega) (inv_all W h k (by omega))

end Cert.Proof.Scan.Ref
end
-- ==== Proof.Scan.Read.lean ====
/- The reference's layouts: the loop's entry read from the arguments, and the results read from the loop's stacks. -/
module

public import proofs.«01_k».proof.Proof.Scan.Ref
public import Idealize.ShloMosaic.Lib.KernelVsHost

@[expose] public section

set_option maxRecDepth 16384

noncomputable section

namespace Cert.Proof.Scan.Ref

open Cert.ReferenceIdeal Cert.ReferenceIdeal.Gen Cert.ReferenceIdeal.Value
open Idealize.ShloMosaic hiding ix1 ix2 ix3 ix4 ix5
open Idealize.ShloMosaic.ValueIdx Idealize.ShloMosaic.TcCoe
open Idealize.ShloMosaic.StableHlo

local notation "Vl" => Valuation τ sig (Elt Ideal)

/-- Row `p` of the other direction's order. -/
def turn (p : Fin 528) : Fin 528 := ⟨if p.val < 16 then 15 - p.val else 543 - p.val, by split <;> omega⟩

/-- The transpose of the order: the two reversed pieces, each padded with zero, and their sum. -/
abbrev ordT (x : S528x64x64.Idx → EReal) : S528x64x64.Idx → EReal :=
  addf (F := Ideal) (φ := .f32) (pad S528x64x64 ![16, 0, 0] ![0, 0, 0] ![0, 0, 0] (Host.reverse [0] (extractStridedSlice S512x64x64 ![16, 0, 0] x slices_S528x64x64_S512x64x64_16_0_0)) (constant (F := Ideal) S_ .f32 0x00000000#32) pads_S512x64x64_S528x64x64_1600_000_000 h_S_) (pad S528x64x64 ![0, 0, 0] ![512, 0, 0] ![0, 0, 0] (Host.reverse [0] (extractStridedSlice S16x64x64 ![0, 0, 0] x slices_S528x64x64_S16x64x64_0_0_0)) (constant (F := Ideal) S_ .f32 0x00000000#32) pads_S16x64x64_S528x64x64_05120_000_000 h_S_)

theorem zero_word : Ideal.ofBits .f32 0x00000000#32 = 0 := by simp [Ideal.ofBits_def]

theorem lo_at (x : S528x64x64.Idx → EReal) (p : Fin 528) (a b : Fin 64) :
    pad S528x64x64 ![0, 0, 0] ![512, 0, 0] ![0, 0, 0] (Host.reverse [0] (extractStridedSlice S16x64x64 ![0, 0, 0] x slices_S528x64x64_S16x64x64_0_0_0)) (constant (F := Ideal) S_ .f32 0x00000000#32) pads_S16x64x64_S528x64x64_05120_000_000 h_S_ (ix3 p a b)
      = if p.val < 16 then x (ix3 (turn p) a b) else 0 := by
  by_cases h : p.val < 16
  · rw [if_pos h]
    refine (pad_apply_of_inside _ _ _ _ _ _ _ (ix3 p a b) (ix3 (n0 := 16) ⟨p.val, h⟩ a b) ?_).trans ?_
    · intro d
      match d with
      | ⟨0, _⟩ => show p.val = 0 + p.val * (0 + 1); omega
      | ⟨1, _⟩ => show a.val = 0 + a.val * (0 + 1); omega
      | ⟨2, _⟩ => show b.val = 0 + b.val * (0 + 1); omega
    refine congrArg x (funext fun d => ?_)
    match d with
    | ⟨0, _⟩ => exact Fin.ext (by
        show 0 + (16 - (p.val + 1)) = (turn p).val
        simp only [turn, if_pos h]; omega)
    | ⟨1, _⟩ => exact Fin.ext (by show 0 + a.val = a.val; omega)
    | ⟨2, _⟩ => exact Fin.ext (by show 0 + b.val = b.val; omega)
  · rw [if_neg h]
    refine (pad_apply_of_not_inside _ _ _ _ _ _ _ (ix3 p a b) 0 (fun hh => h ?_)).trans zero_word
    have h2 : (p.val - 0) / (0 + 1) < 16 := hh.2.2
    omega

theorem hi_at (x : S528x64x64.Idx → EReal) (p : Fin 528) (a b : Fin 64) :
    pad S528x64x64 ![16, 0, 0] ![0, 0, 0] ![0, 0, 0] (Host.reverse [0] (extractStridedSlice S512x64x64 ![16, 0, 0] x slices_S528x64x64_S512x64x64_16_0_0)) (constant (F := Ideal) S_ .f32 0x00000000#32) pads_S512x64x64_S528x64x64_1600_000_000 h_S_ (ix3 p a b)
      = if p.val < 16 then 0 else x (ix3 (turn p) a b) := by
  by_cases h : p.val < 16
  · rw [if_pos h]
    refine (pad_apply_of_not_inside _ _ _ _ _ _ _ (ix3 p a b) 0 (fun hh => ?_)).trans zero_word
    have h2 : 16 ≤ p.val := hh.1
    omega
  · rw [if_neg h]
    refine (pad_apply_of_inside _ _ _ _ _ _ _ (ix3 p a b) (ix3 (n0 := 512) ⟨p.val - 16, by omega⟩ a b) ?_).trans ?_
    · intro d
      match d with
      | ⟨0, _⟩ => show p.val = 16 + (p.val - 16) * (0 + 1); omega
      | ⟨1, _⟩ => show a.val = 0 + a.val * (0 + 1); omega
      | ⟨2, _⟩ => show b.val = 0 + b.val * (0 + 1); omega
    refine congrArg x (funext fun d => ?_)
    match d with
    | ⟨0, _⟩ => exact Fin.ext (by
        show 16 + (512 - (p.val - 16 + 1)) = (turn p).val
        simp only [turn, if_neg h]; omega)
    | ⟨1, _⟩ => exact Fin.ext (by show 0 + a.val = a.val; omega)
    | ⟨2, _⟩ => exact Fin.ext (by show 0 + b.val = b.val; omega)

theorem ordT_at (x : S528x64x64.Idx → EReal) (p : Fin 528) (a b : Fin 64) : ordT x (ix3 p a b) = x (ix3 (turn p) a b) := by
  show _ + _ = _
  rw [lo_at, hi_at]
  by_cases h : p.val < 16
  · rw [if_pos h, if_pos h, zero_add]
  · rw [if_neg h, if_neg h, add_zero]

/-- The split of the cotangents: row `528 g + p`, lane `64 d + n`. -/
theorem split_at (x : S33792x128.Idx → EReal) (d : Fin 2) (off : Fin 4 → ℕ) (ho : off = ![d.val, 0, 0, 0])
    (hs : S2x528x64x64.Slices off S1x528x64x64) (p : Fin 528) (g n : Fin 64) :
    shapeCast S528x64x64 (extractStridedSlice S1x528x64x64 off (transpose S2x528x64x64 [2, 1, 0, 3] (shapeCast S64x528x2x64 x shapeCasts_S33792x128_S64x528x2x64) transposes_S64x528x2x64_S2x528x64x64_2_1_0_3) hs) shapeCasts_S1x528x64x64_S528x64x64 (ix3 p g n)
      = x (ix2 ⟨g.val * 528 + p.val, by omega⟩ ⟨d.val * 64 + n.val, by omega⟩) := by
  subst ho
  refine (shapeCast_1abc_abc_apply (m := 528) (a := 64) (b := 64) _ _ p g n).trans ?_
  refine (congrArg (shapeCast S64x528x2x64 x shapeCasts_S33792x128_S64x528x2x64) (a₂ := ix4 g p d n) (funext fun q => ?_)).trans ?_
  · match q with
    | ⟨0, _⟩ => exact Fin.ext (by show 0 + g.val = g.val; omega)
    | ⟨1, _⟩ => exact Fin.ext (by show 0 + p.val = p.val; omega)
    | ⟨2, _⟩ => exact Fin.ext (by show d.val + 0 = d.val; omega)
    | ⟨3, _⟩ => exact Fin.ext (by show 0 + n.val = n.val; omega)
  refine shapeCast_apply x _ _ _ ?_
  rw [Shape.rowMajor_val_four, Shape.rowMajor_val_two]
  show (g.val * 528 + p.val) * 128 + (d.val * 64 + n.val) = ((g.val * 528 + p.val) * 2 + d.val) * 64 + n.val
  omega

/-- The join of a result: row `528 (8 q + h) + p`, lane `64 d + n` is group `16 q + 8 d + h`. -/
theorem join_at (x : S528x64x64.Idx → EReal) (q : Fin 4) (h : Fin 8) (p : Fin 528) (d : Fin 2) (n : Fin 64) :
    shapeCast S16896x128 (transpose S4x8x528x2x64 [1, 3, 0, 2, 4] (shapeCast S528x4x2x8x64 x shapeCasts_S528x64x64_S528x4x2x8x64) transposes_S528x4x2x8x64_S4x8x528x2x64_1_3_0_2_4) shapeCasts_S4x8x528x2x64_S16896x128
      (ix2 ⟨(q.val * 8 + h.val) * 528 + p.val, by omega⟩ ⟨d.val * 64 + n.val, by omega⟩)
      = x (ix3 p ⟨q.val * 16 + d.val * 8 + h.val, by omega⟩ n) := by
  rw [shapeCast_apply _ shapeCasts_S4x8x528x2x64_S16896x128 _ (ix5 q h p d n) (by
    rw [Shape.rowMajor_val_five, Shape.rowMajor_val_two]
    show (((q.val * 8 + h.val) * 528 + p.val) * 2 + d.val) * 64 + n.val = ((q.val * 8 + h.val) * 528 + p.val) * 128 + (d.val * 64 + n.val)
    omega)]
  show shapeCast S528x4x2x8x64 x shapeCasts_S528x64x64_S528x4x2x8x64 _ = _
  refine shapeCast_apply x _ _ _ ?_
  rw [Shape.rowMajor_val_five, Shape.rowMajor_val_three]
  show (p.val * 64 + (q.val * 16 + d.val * 8 + h.val)) * 64 + n.val = (((p.val * 4 + q.val) * 2 + d.val) * 8 + h.val) * 64 + n.val
  omega

variable (m : (ℓ : Loc nD τ sig) → Buf (Elt Ideal) ℓ) (c : Dev nD)

/-- The arguments. -/
def x0 : S33792x128.Idx → EReal := m ((c.tc : Thread nD τ).loc main_arg0)
def x1 : S33792x128.Idx → EReal := m ((c.tc : Thread nD τ).loc main_arg1)
def x2 : S64x256.Idx → EReal := m ((c.tc : Thread nD τ).loc main_arg2)

/-- The loop's entry. -/
abbrev W : Vl := entryContents preI m c

set_option maxHeartbeats 4000000 in
theorem entry_0 : c0 (W m c) = shapeCast S528x64x64 (extractStridedSlice S1x528x64x64 ![0, 0, 0, 0] (transpose S2x528x64x64 [2, 1, 0, 3] (shapeCast S64x528x2x64 (x0 m c) shapeCasts_S33792x128_S64x528x2x64) transposes_S64x528x2x64_S2x528x64x64_2_1_0_3) slices_S2x528x64x64_S1x528x64x64_0_0_0_0) shapeCasts_S1x528x64x64_S528x64x64 := by
  simp only [W, entryContents, preI, afterL_cons, afterL_nil, hostOps0, c0]
  after_results_entrywise []
  all_goals rfl
set_option maxHeartbeats 4000000 in
theorem entry_1 : c1 (W m c) = shapeCast S528x64x64 (extractStridedSlice S1x528x64x64 ![0, 0, 0, 0] (transpose S2x528x64x64 [2, 1, 0, 3] (shapeCast S64x528x2x64 (x1 m c) shapeCasts_S33792x128_S64x528x2x64) transposes_S64x528x2x64_S2x528x64x64_2_1_0_3) slices_S2x528x64x64_S1x528x64x64_0_0_0_0) shapeCasts_S1x528x64x64_S528x64x64 := by
  simp only [W, entryContents, preI, afterL_cons, afterL_nil, hostOps0, c1]
  after_results_entrywise []
  all_goals rfl
set_option maxHeartbeats 4000000 in
theorem entry_2 : c2 (W m c) = ordT (shapeCast S528x64x64 (extractStridedSlice S1x528x64x64 ![1, 0, 0, 0] (transpose S2x528x64x64 [2, 1, 0, 3] (shapeCast S64x528x2x64 (x0 m c) shapeCasts_S33792x128_S64x528x2x64) transposes_S64x528x2x64_S2x528x64x64_2_1_0_3) slices_S2x528x64x64_S1x528x64x64_1_0_0_0) shapeCasts_S1x528x64x64_S528x64x64) := by
  simp only [W, entryContents, preI, afterL_cons, afterL_nil, hostOps0, c2]
  after_results_entrywise []
  all_goals rfl
set_option maxHeartbeats 4000000 in
theorem entry_3 : c3 (W m c) = ordT (shapeCast S528x64x64 (extractStridedSlice S1x528x64x64 ![1, 0, 0, 0] (transpose S2x528x64x64 [2, 1, 0, 3] (shapeCast S64x528x2x64 (x1 m c) shapeCasts_S33792x128_S64x528x2x64) transposes_S64x528x2x64_S2x528x64x64_2_1_0_3) slices_S2x528x64x64_S1x528x64x64_1_0_0_0) shapeCasts_S1x528x64x64_S528x64x64) := by
  simp only [W, entryContents, preI, afterL_cons, afterL_nil, hostOps0, c3]
  after_results_entrywise []
  all_goals rfl
set_option maxHeartbeats 4000000 in
theorem entry_4 : c4 (W m c) = extractStridedSlice S64x64 ![0, 0] (extractStridedSlice S64x128 ![0, 0] (x2 m c) slices_S64x256_S64x128_0_0) slices_S64x128_S64x64_0_0 := by
  simp only [W, entryContents, preI, afterL_cons, afterL_nil, hostOps0, c4]
  after_results_entrywise []
  all_goals rfl
set_option maxHeartbeats 4000000 in
theorem entry_5 : c5 (W m c) = extractStridedSlice S64x64 ![0, 0] (extractStridedSlice S64x128 ![0, 128] (x2 m c) slices_S64x256_S64x128_0_128) slices_S64x128_S64x64_0_0 := by
  simp only [W, entryContents, preI, afterL_cons, afterL_nil, hostOps0, c5]
  after_results_entrywise []
  all_goals rfl
set_option maxHeartbeats 4000000 in
theorem entry_6 : c6 (W m c) = extractStridedSlice S64x64 ![0, 64] (extractStridedSlice S64x128 ![0, 0] (x2 m c) slices_S64x256_S64x128_0_0) slices_S64x128_S64x64_0_64 := by
  simp only [W, entryContents, preI, afterL_cons, afterL_nil, hostOps0, c6]
  after_results_entrywise []
  all_goals rfl
set_option maxHeartbeats 4000000 in
theorem entry_7 : c7 (W m c) = extractStridedSlice S64x64 ![0, 64] (extractStridedSlice S64x128 ![0, 128] (x2 m c) slices_S64x256_S64x128_0_128) slices_S64x128_S64x64_0_64 := by
  simp only [W, entryContents, preI, afterL_cons, afterL_nil, hostOps0, c7]
  after_results_entrywise []
  all_goals rfl
set_option maxHeartbeats 4000000 in
theorem entry_9 : c9 (W m c) = broadcastInDim S64x64 ![] bcast_S_S64x64 (constant (F := Ideal) S_ .f32 0x00000000#32) := by
  simp only [W, entryContents, preI, afterL_cons, afterL_nil, hostOps0, c9]
  after_results_entrywise []
  all_goals rfl
set_option maxHeartbeats 4000000 in
theorem entry_10 : c10 (W m c) = broadcastInDim S64x64 ![] bcast_S_S64x64 (constant (F := Ideal) S_ .f32 0x00000000#32) := by
  simp only [W, entryContents, preI, afterL_cons, afterL_nil, hostOps0, c10]
  after_results_entrywise []
  all_goals rfl
set_option maxHeartbeats 4000000 in
theorem entry_11 : c11 (W m c) = broadcastInDim S64x64 ![] bcast_S_S64x64 (constant (F := Ideal) S_ .f32 0x00000000#32) := by
  simp only [W, entryContents, preI, afterL_cons, afterL_nil, hostOps0, c11]
  after_results_entrywise []
  all_goals rfl
set_option maxHeartbeats 4000000 in
theorem entry_12 : c12 (W m c) = broadcastInDim S64x64 ![] bcast_S_S64x64 (constant (F := Ideal) S_ .f32 0x00000000#32) := by
  simp only [W, entryContents, preI, afterL_cons, afterL_nil, hostOps0, c12]
  after_results_entrywise []
  all_goals rfl

end Cert.Proof.Scan.Ref
end
-- ==== Proof.Scan.Alg.lean ====
/- The two programs' results are the same states: the reference's stacks, read back through its layouts, hold at every
   row and lane what the kernel's arrays hold. -/
module

public import proofs.«01_k».proof.Proof.Scan.Final
public import proofs.«01_k».proof.Proof.Scan.Read

@[expose] public section

set_option maxRecDepth 16384

noncomputable section

namespace Cert.Proof.Scan.Ref

open Cert.ReferenceIdeal Cert.ReferenceIdeal.Gen Cert.ReferenceIdeal.Value
open Cert.Proof.Scan
open Idealize.ShloMosaic hiding ix1 ix2 ix3 ix4 ix5
open Idealize.ShloMosaic.ValueIdx Idealize.ShloMosaic.TcCoe
open Idealize.ShloMosaic.StableHlo

variable (m : (ℓ : Loc nD τ sig) → Buf (Elt Ideal) ℓ) (c : Dev nD)

theorem ax_of (x : S33792x128.Idx → EReal) (p q p' q' : ℕ) (hp : p < 33792) (hq : q < 128) (ep : p = p') (eq : q = q') :
    x (ix2 ⟨p, hp⟩ ⟨q, hq⟩) = ax x p' q' := by
  subst ep eq
  unfold ax
  congr 2
  · exact Fin.ext (Nat.mod_eq_of_lt hp).symm
  · exact Fin.ext (Nat.mod_eq_of_lt hq).symm

theorem cols_at (x : S64x256.Idx → EReal) (u v : ℕ) (hu : u + 128 ≤ 256) (hv : v + 64 ≤ 128)
    (h1 : S64x256.Slices ![0, u] S64x128) (h2 : S64x128.Slices ![0, v] S64x64) (a b : Fin 64) :
    extractStridedSlice S64x64 ![0, v] (extractStridedSlice S64x128 ![0, u] x h1) h2 (ix2 a b) = ap x a.val (u + v + b.val) := by
  refine congrArg x (funext fun d => ?_)
  match d with
  | ⟨0, _⟩ => exact Fin.ext (by show 0 + (0 + a.val) = a.val % 64; omega)
  | ⟨1, _⟩ => exact Fin.ext (by show u + (v + b.val) = (u + v + b.val) % 256; omega)

theorem entry : Entry (W m c) where
  at0 := ctr_entry m c
  z9 := fun i => by rw [entry_9]; exact zero_word
  z10 := fun i => by rw [entry_10]; exact zero_word
  z11 := fun i => by rw [entry_11]; exact zero_word
  z12 := fun i => by rw [entry_12]; exact zero_word

theorem turn_rk (t : ℕ) (h : t < 528) : (turn (rk t)).val = pb t := by
  unfold turn pb
  show (if 527 - t < 16 then 15 - (527 - t) else 543 - (527 - t)) = _
  split <;> split <;> omega

theorem turn_tb (p : Fin 528) : 527 - (turn p).val = tb p.val := by
  unfold turn tb
  show 527 - (if p.val < 16 then 15 - p.val else 543 - p.val) = _
  split <;> omega

theorem fw_eq (a b : Fin 64) (p : Fin 528) :
    fw (W m c) a b (527 - p.val) = fwd (x0 m c) (x1 m c) (x2 m c) a.val b.val p.val := by
  unfold fw fwd
  rw [entry_4, entry_5, cols_at _ 0 0 (by decide) (by decide), cols_at _ 128 0 (by decide) (by decide), Nat.add_zero, Nat.add_zero, Nat.zero_add]
  refine cell_congr 528 (fun t ht => ?_) (fun t ht => ?_) _ (by omega)
  · rw [entry_0]
    exact (split_at _ 0 _ rfl _ _ _ _).trans (ax_of _ _ _ _ _ _ _ rfl (by show 0 * 64 + b.val = b.val; omega))
  · rw [entry_1]
    exact (split_at _ 0 _ rfl _ _ _ _).trans (ax_of _ _ _ _ _ _ _ rfl (by show 0 * 64 + b.val = b.val; omega))

theorem bw_eq (a b : Fin 64) (p : Fin 528) :
    bw (W m c) a b (527 - (turn p).val) = bwd (x0 m c) (x1 m c) (x2 m c) a.val b.val p.val := by
  unfold bw bwd
  rw [entry_6, entry_7, cols_at _ 0 64 (by decide) (by decide), cols_at _ 128 64 (by decide) (by decide), Nat.zero_add, turn_tb]
  refine cell_congr 528 (fun t ht => ?_) (fun t ht => ?_) _ (le_of_lt (tb_lt _ p.isLt))
  · rw [entry_2, ordT_at]
    exact (split_at _ 1 _ rfl _ _ _ _).trans (ax_of _ _ _ _ _ _ _ (by rw [turn_rk t ht]) (by show 1 * 64 + b.val = 64 + b.val; omega))
  · rw [entry_3, ordT_at]
    exact (split_at _ 1 _ rfl _ _ _ _).trans (ax_of _ _ _ _ _ _ _ (by rw [turn_rk t ht]) (by show 1 * 64 + b.val = 64 + b.val; omega))

/-- A joined result whose stack holds `f` at every group, number and chunk. -/
theorem join_lay (x : S528x64x64.Idx → EReal) (f : ℕ → ℕ → ℕ → EReal)
    (hx : ∀ (p : Fin 528) (a b : Fin 64), x (ix3 p a b) = f a.val b.val p.val) :
    shapeCast S16896x128 (transpose S4x8x528x2x64 [1, 3, 0, 2, 4] (shapeCast S528x4x2x8x64 x shapeCasts_S528x64x64_S528x4x2x8x64) transposes_S528x4x2x8x64_S4x8x528x2x64_1_3_0_2_4) shapeCasts_S4x8x528x2x64_S16896x128
      = lay f := by
  funext y
  have b0 : (y (0 : Fin 2)).val < 16896 := (y (0 : Fin 2)).isLt
  have b1 : (y (1 : Fin 2)).val < 128 := (y (1 : Fin 2)).isLt
  have hy : y = ix2 ⟨((y (0 : Fin 2)).val / 528 / 8 * 8 + (y (0 : Fin 2)).val / 528 % 8) * 528 + (y (0 : Fin 2)).val % 528, by omega⟩
      ⟨(y (1 : Fin 2)).val / 64 * 64 + (y (1 : Fin 2)).val % 64, by omega⟩ := by
    funext d
    match d with
    | ⟨0, _⟩ => exact Fin.ext (by show (y (0 : Fin 2)).val = ((y (0 : Fin 2)).val / 528 / 8 * 8 + (y (0 : Fin 2)).val / 528 % 8) * 528 + (y (0 : Fin 2)).val % 528; omega)
    | ⟨1, _⟩ => exact Fin.ext (by show (y (1 : Fin 2)).val = (y (1 : Fin 2)).val / 64 * 64 + (y (1 : Fin 2)).val % 64; omega)
  refine (congrArg _ hy).trans ((join_at x ⟨(y (0 : Fin 2)).val / 528 / 8, by omega⟩ ⟨(y (0 : Fin 2)).val / 528 % 8, by omega⟩
    ⟨(y (0 : Fin 2)).val % 528, by omega⟩ ⟨(y (1 : Fin 2)).val / 64, by omega⟩ ⟨(y (1 : Fin 2)).val % 64, by omega⟩).trans ?_)
  rw [hx]
  unfold lay
  show f ((y (0 : Fin 2)).val / 528 / 8 * 16 + (y (1 : Fin 2)).val / 64 * 8 + (y (0 : Fin 2)).val / 528 % 8) _ _ = _
  congr 1
  omega

theorem res_0 : out_main_v58 (STEP^[528] (W m c)) = lay (fun g n p => (fwd (x0 m c) (x1 m c) (x2 m c) g n p).1) :=
  join_lay (c13 (STEP^[528] (W m c))) _ fun p a b =>
    ((inv_all (W m c) (entry m c) 528 le_rfl).s13 p a b (by omega)).trans (congrArg Prod.fst (fw_eq m c a b p))
theorem res_1 : out_main_v61 (STEP^[528] (W m c)) = lay (fun g n p => (fwd (x0 m c) (x1 m c) (x2 m c) g n p).2) :=
  join_lay (c14 (STEP^[528] (W m c))) _ fun p a b =>
    ((inv_all (W m c) (entry m c) 528 le_rfl).s14 p a b (by omega)).trans (congrArg Prod.snd (fw_eq m c a b p))
theorem res_2 : out_main_v64 (STEP^[528] (W m c)) = lay (fun g n p => (bwd (x0 m c) (x1 m c) (x2 m c) g n p).1) :=
  join_lay (ordT (c15 (STEP^[528] (W m c)))) _ fun p a b =>
    (ordT_at _ p a b).trans (((inv_all (W m c) (entry m c) 528 le_rfl).s15 (turn p) a b (by omega)).trans (congrArg Prod.fst (bw_eq m c a b p)))
theorem res_3 : out_main_v67 (STEP^[528] (W m c)) = lay (fun g n p => (bwd (x0 m c) (x1 m c) (x2 m c) g n p).2) :=
  join_lay (ordT (c16 (STEP^[528] (W m c)))) _ fun p a b =>
    (ordT_at _ p a b).trans (((inv_all (W m c) (entry m c) 528 le_rfl).s16 (turn p) a b (by omega)).trans (congrArg Prod.snd (bw_eq m c a b p)))

end Cert.Proof.Scan.Ref
end
-- ==== Proof.Fwd.State.lean ====
/- The forward scan's state: what the loop carries before step `t`, as a recursion over the step, and what the rows of
   the four results hold. Everything here is over any float model. -/
module

public import proofs.«01_k».proof.Proof.Gen.FwdKernelIdeal
public import proofs.«01_k».proof.Proof.Gen.FwdKernelIdeal.Skeleton
public import Idealize.ShloMosaic.Lib.Pipeline.FrameBody
public import Idealize.ShloMosaic.Lib.ValueIdxCore

@[expose] public section

set_option maxRecDepth 16384

noncomputable section

namespace Cert.Proof.Fwd

open Cert.FwdKernelIdeal Cert.FwdKernelIdeal.Gen
open Idealize.ShloMosaic Idealize.ShloMosaic.TcCoe Idealize.ShloMosaic.ValueIdx

variable {F : FTy → Type} [FloatOps F]

/-- The chunk the forward direction's step `t` reads. -/
def pf (t : ℕ) : ℕ := t
/-- The chunk the other direction's step `t` reads: the context chunks from the last, then the latent chunks from the last. -/
def pb (t : ℕ) : ℕ := if t < 16 then 15 - t else 543 - t
/-- The step that reads chunk `p` in the other direction. -/
def tb (p : ℕ) : ℕ := if p < 16 then 15 - p else 543 - p

/-- Row `p` of each of eight groups, groups 528 rows apart. -/
def row (x : Vec F S8448x128 .f32) (p : ℕ) : Vec F S8x128 .f32 := fun j =>
  x (ix2 (Fin.ofNat 8448 (p + 528 * (j (0 : Fin 2)).val)) (j (1 : Fin 2)))

/-- The carried state: real and imaginary part, forward then backward direction. -/
abbrev St (F : FTy → Type) : Type := Vec F S8x128 .f32 × Vec F S8x128 .f32 × Vec F S8x128 .f32 × Vec F S8x128 .f32

/-- One step of the recurrence. -/
def next (x1 x2 : Vec F S8448x128 .f32) (v3 v4 v9 v10 : Vec F S8x128 .f32) (t : ℕ) (s : St F) : St F :=
  (k0_pay10 (k0_pay2 v3 v4) (k0_pay4 v9 v10) s.1 s.2.1 (k0_pay8 k0_pay1 (row x1 (pf t)) (row x1 (4224 + pf t))),
   k0_pay11 (k0_pay2 v3 v4) (k0_pay4 v9 v10) s.1 s.2.1 (k0_pay9 k0_pay1 (row x2 (pf t)) (row x2 (4224 + pf t))),
   k0_pay12 k0_pay1 (k0_pay3 v3 v4) (k0_pay5 v9 v10) s.2.2.1 s.2.2.2 (row x1 (pb t)) (row x1 (4224 + pb t)),
   k0_pay13 k0_pay1 (k0_pay3 v3 v4) (k0_pay5 v9 v10) s.2.2.1 s.2.2.2 (row x2 (pb t)) (row x2 (4224 + pb t)))

/-- The state before step `t`. -/
def st (x1 x2 : Vec F S8448x128 .f32) (v3 v4 v9 v10 : Vec F S8x128 .f32) : ℕ → St F
  | 0 => (k0_pay6, k0_pay6, k0_pay6, k0_pay6)
  | t + 1 => next x1 x2 v3 v4 v9 v10 t (st x1 x2 v3 v4 v9 v10 t)

/-- A result block: row `p` of each group is the state before the step that reads chunk `p`. -/
def out (h : ℕ → Vec F S8x128 .f32) (T : ℕ → ℕ) : Vec F S4224x128 .f32 := fun y =>
  h (T ((y (0 : Fin 2)).val % 528)) (ix2 (Fin.ofNat 8 ((y (0 : Fin 2)).val / 528)) (y (1 : Fin 2)))

theorem off2_eq : ∀ (k : Fin k0_t1_loop.trips) (r : Fin 4), k0_off2 k (BitVec.ofNat 32 r.val) = ![pb (4 * k.val + r.val), 0] := by
  decide +kernel
theorem off5_eq : ∀ (k : Fin k0_t1_loop.trips) (r : Fin 4), k0_off5 k (BitVec.ofNat 32 r.val) = ![pb (4 * k.val + r.val), 0] := by
  decide +kernel
theorem off6_eq : ∀ (k : Fin k0_t1_loop.trips) (r : Fin 4), k0_off6 k (BitVec.ofNat 32 r.val) = ![4224 + pb (4 * k.val + r.val), 0] := by
  decide +kernel
theorem off4_eq : ∀ (k : Fin k0_t1_loop.trips) (r : Fin 4), k0_off4 k (BitVec.ofNat 32 r.val) = ![4224 + pf (4 * k.val + r.val), 0] :=
  fun k r => (k0_off4_eq k r).trans (by rw [Nat.add_comm]; rfl)
theorem off3_eq : ∀ (k : Fin k0_t1_loop.trips) (r : Fin 4), k0_off3 k (BitVec.ofNat 32 r.val) = ![pf (4 * k.val + r.val), 0] :=
  fun k r => k0_off3_eq k r
theorem off1_eq : ∀ (k : Fin k0_t1_loop.trips) (r : Fin 4), k0_off1 k (BitVec.ofNat 32 r.val) = ![pf (4 * k.val + r.val), 0] :=
  fun k r => k0_off1_eq k r

theorem trips_eq : k0_t1_loop.trips = 132 := by decide +kernel

theorem tb_pb (t : ℕ) (h : t < 528) : tb (pb t) = t := by unfold tb pb; split <;> split <;> omega
theorem pb_tb (p : ℕ) (h : p < 528) : pb (tb p) = p := by unfold tb pb; split <;> split <;> omega
theorem pfpf (t : ℕ) (_ : t < 528) : pf (pf t) = t := rfl
theorem pf_lt (t : ℕ) (h : t < 528) : pf t < 528 := h
theorem pb_lt (t : ℕ) (h : t < 528) : pb t < 528 := by unfold pb; split <;> omega
theorem tb_lt (p : ℕ) (h : p < 528) : tb p < 528 := by unfold tb; split <;> omega

/-- A load of row `p` of every group. -/
theorem readAt_row (M : Memref sig .tc .vmem S8448x128 .f32) (hM : M.IsWhole) (x : Vec F S8448x128 .f32)
    (off : Fin 2 → ℕ) (p : ℕ) (h : off = ![p, 0])
    (inb : ∀ a, S8x128.size a = 0 ∨ off a + (![528, 1] : Fin 2 → Nat) a * (S8x128.size a - 1) < S8448x128.size a) :
    View.readAt (Elt F) M.view (⟨off, S8x128.size, ![528, 1], inb⟩ : LoadRect S8448x128) (hM.unread x) = row x p := by
  subst h
  funext j
  rw [View.readAt_apply, hM.read_unread]
  unfold row
  congr 1
  have hj : (j (0 : Fin 2)).val < 8 := (j (0 : Fin 2)).isLt
  have hp : p + 528 * (8 - 1) < 8448 := by
    have := inb (0 : Fin 2)
    rcases this with h | h
    · exact absurd h (by decide)
    · exact h
  funext a
  refine Fin.ext ?_
  fin_cases a
  · show p + 528 * (j (0 : Fin 2)).val = (p + 528 * (j (0 : Fin 2)).val) % 8448
    rw [Nat.mod_eq_of_lt (by omega)]
  · show 0 + 1 * (j (1 : Fin 2)).val = (j (1 : Fin 2)).val
    omega

/-- The rectangle of row `p` of every group of a result block. -/
theorem emb_row (off : Fin 2 → ℕ) (p : ℕ) (h : off = ![p, 0]) (hp : p < 528)
    (inb : ∀ a, S8x128.size a = 0 ∨ off a + (![528, 1] : Fin 2 → Nat) a * (S8x128.size a - 1) < S4224x128.size a) (sp)
    (w : ℕ → Vec F S8x128 .f32) (T : ℕ → ℕ) (x : S8x128.Idx) :
    out w T ((⟨⟨off, S8x128.size, ![528, 1], inb⟩, sp⟩ : Rect S4224x128).emb x) = w (T p) x := by
  subst h
  have hj : (x (0 : Fin 2)).val < 8 := (x (0 : Fin 2)).isLt
  have e0 : (((⟨⟨![p, 0], S8x128.size, ![528, 1], inb⟩, sp⟩ : Rect S4224x128).emb x) (0 : Fin 2)).val = p + 528 * (x (0 : Fin 2)).val := rfl
  have e1 : (((⟨⟨![p, 0], S8x128.size, ![528, 1], inb⟩, sp⟩ : Rect S4224x128).emb x) (1 : Fin 2)).val = 0 + 1 * (x (1 : Fin 2)).val := rfl
  unfold out
  rw [e0, show (p + 528 * (x (0 : Fin 2)).val) % 528 = p by omega, show (p + 528 * (x (0 : Fin 2)).val) / 528 = (x (0 : Fin 2)).val by omega]
  congr 1
  funext a
  refine Fin.ext ?_
  fin_cases a
  · show (x (0 : Fin 2)).val % 8 = (x (0 : Fin 2)).val
    omega
  · show (((⟨⟨![p, 0], S8x128.size, ![528, 1], inb⟩, sp⟩ : Rect S4224x128).emb x) (1 : Fin 2)).val = (x (1 : Fin 2)).val
    rw [e1]; omega

theorem mem_row (off : Fin 2 → ℕ) (p : ℕ) (h : off = ![p, 0])
    (inb : ∀ a, S8x128.size a = 0 ∨ off a + (![528, 1] : Fin 2 → Nat) a * (S8x128.size a - 1) < S4224x128.size a) (sp)
    (y : S4224x128.Idx) (hy : (y (0 : Fin 2)).val % 528 = p) :
    y ∈ (⟨⟨off, S8x128.size, ![528, 1], inb⟩, sp⟩ : Rect S4224x128).set := by
  subst h
  have h0 : (y (0 : Fin 2)).val < 4224 := (y (0 : Fin 2)).isLt
  have e : (⟨⟨![p, 0], S8x128.size, ![528, 1], inb⟩, sp⟩ : Rect S4224x128).emb
      (ix2 (⟨(y (0 : Fin 2)).val / 528, by omega⟩ : Fin 8) (y (1 : Fin 2))) = y := by
    funext a
    refine Fin.ext ?_
    fin_cases a
    · show p + 528 * ((y (0 : Fin 2)).val / 528) = (y (0 : Fin 2)).val
      omega
    · show 0 + 1 * (y (1 : Fin 2)).val = (y (1 : Fin 2)).val
      omega
  rw [← e]
  exact LoadRect.idx_mem _ _

end Cert.Proof.Fwd
end
-- ==== Proof.Fwd.Loop.lean ====
/- The forward scan's loop: its invariant and one trip, over any float model. -/
module

public import proofs.«01_k».proof.Proof.Gen.FwdKernelIdeal
public import proofs.«01_k».proof.Proof.Gen.FwdKernelIdeal.Skeleton
public import proofs.«01_k».proof.Proof.Gen.FwdKernelIdeal.Loops
public import proofs.«01_k».proof.Proof.Gen.FwdKernelIdeal.Frame
public import proofs.«01_k».proof.Proof.Scan.State
public import proofs.«01_k».proof.Proof.Fwd.State
public import Idealize.ShloMosaic.Lib.Tactic

@[expose] public section

set_option maxRecDepth 16384

noncomputable section

namespace Cert.Proof.Fwd

open Cert.FwdKernelIdeal Cert.FwdKernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none
local notation "𝕄" => MT nD τ sig Unit (Elt F) ℕ (UU nD τ) ℕ

abbrev Bf (c : Dev nD) {S : Shape} {e : EltTy} (M : Memref sig .tc .vmem S e) : Type := Buf (Elt F) (M.view.loc (c : Thread nD τ))
abbrev pt (c : Dev nD) {S : Shape} {e : EltTy} (M : Memref sig .tc .vmem S e) (f : Bf (F := F) c M) : sProp 𝕄 :=
  M.view.loc (c : Thread nD τ) ↦[M.view.set]{fullShare} f

/-- A result block whose rows of the steps before `n` are written. -/
def Done (c : Dev nD) (M : Memref sig .tc .vmem S4224x128 .f32) (h : ℕ → Vec F S8x128 .f32) (T : ℕ → ℕ) (n : ℕ) (f : Bf (F := F) c M) : Prop :=
  ∀ y : S4224x128.Idx, T ((y (0 : Fin 2)).val % 528) < n → M.view.read (Elt F) f y = out h T y

set_option maxHeartbeats 2000000 in
/-- Four more steps' rows written. -/
theorem done_step (c : Dev nD) (M : Memref sig .tc .vmem S4224x128 .f32) (h : ℕ → Vec F S8x128 .f32) (T P : ℕ → ℕ)
    (hPT : ∀ p < 528, P (T p) = p) (hTP : ∀ t < 528, T (P t) = t) (hP : ∀ t < 528, P t < 528)
    (n : ℕ) (hn : n + 3 < 528) (f : Bf (F := F) c M) (hf : Done c M h T n f)
    (o0 o1 o2 o3 : Fin 2 → ℕ) (e0 : o0 = ![P n, 0]) (e1 : o1 = ![P (n + 1), 0]) (e2 : o2 = ![P (n + 2), 0]) (e3 : o3 = ![P (n + 3), 0])
    (i0 i1 i2 i3 s0 s1 s2 s3) (w0 w1 w2 w3 : Vec F S8x128 .f32)
    (h0 : w0 = h n) (h1 : w1 = h (n + 1)) (h2 : w2 = h (n + 2)) (h3 : w3 = h (n + 3)) :
    Done c M h T (n + 4) (M.view.writes (Elt F) f
      [(⟨⟨⟨o3, S8x128.size, ![528, 1], i3⟩, s3⟩, w3⟩ : View.Piece (Elt F) S4224x128 .f32),
       ⟨⟨⟨o2, S8x128.size, ![528, 1], i2⟩, s2⟩, w2⟩, ⟨⟨⟨o1, S8x128.size, ![528, 1], i1⟩, s1⟩, w1⟩,
       ⟨⟨⟨o0, S8x128.size, ![528, 1], i0⟩, s0⟩, w0⟩]) := by
  intro y hy
  refine Cert.Proof.Scan.read_writes_of_agree M.view f (out h T) _ hf _ ?_ y ?_
  · intro p hp x
    simp only [List.mem_cons, List.not_mem_nil, or_false] at hp
    rcases hp with rfl | rfl | rfl | rfl
    · exact ((congrFun h3 x).trans (by rw [emb_row o3 _ e3 (hP _ (by omega)), hTP _ (by omega)]))
    · exact ((congrFun h2 x).trans (by rw [emb_row o2 _ e2 (hP _ (by omega)), hTP _ (by omega)]))
    · exact ((congrFun h1 x).trans (by rw [emb_row o1 _ e1 (hP _ (by omega)), hTP _ (by omega)]))
    · exact ((congrFun h0 x).trans (by rw [emb_row o0 _ e0 (hP _ (by omega)), hTP _ (by omega)]))
  · have hr : (y (0 : Fin 2)).val % 528 < 528 := Nat.mod_lt _ (by decide)
    have hk := hPT _ hr
    rcases Nat.lt_or_ge (T ((y (0 : Fin 2)).val % 528)) n with hlt | hge
    · exact .inl hlt
    · refine .inr ?_
      have hc : T ((y (0 : Fin 2)).val % 528) = n ∨ T ((y (0 : Fin 2)).val % 528) = n + 1 ∨ T ((y (0 : Fin 2)).val % 528) = n + 2
          ∨ T ((y (0 : Fin 2)).val % 528) = n + 3 := by omega
      rcases hc with hc | hc | hc | hc <;> rw [hc] at hk
      · exact ⟨_, List.mem_cons_of_mem _ (List.mem_cons_of_mem _ (List.mem_cons_of_mem _ (List.mem_cons_self ..))), mem_row o0 _ e0 i0 s0 y hk.symm⟩
      · exact ⟨_, List.mem_cons_of_mem _ (List.mem_cons_of_mem _ (List.mem_cons_self ..)), mem_row o1 _ e1 i1 s1 y hk.symm⟩
      · exact ⟨_, List.mem_cons_of_mem _ (List.mem_cons_self ..), mem_row o2 _ e2 i2 s2 y hk.symm⟩
      · exact ⟨_, List.mem_cons_self .., mem_row o3 _ e3 i3 s3 y hk.symm⟩

/-- The loop's resources before step `n` at the state before it. -/
def inv (c : Dev nD) (arg1 : Memref sig .tc .vmem S8448x128 .f32) (harg1 : arg1.IsWhole) (arg2 : Memref sig .tc .vmem S8448x128 .f32) (harg2 : arg2.IsWhole) (arg3 : Memref sig .tc .vmem S16x256 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S4224x128 .f32) (harg6 : arg6.IsWhole) (arg7 : Memref sig .tc .vmem S4224x128 .f32) (harg7 : arg7.IsWhole)
    (x1 x2 : Vec F S8448x128 .f32) (v3 v4 v9 v10 : Vec F S8x128 .f32) (n : ℕ) (acc : St F) : sProp 𝕄 :=
  iprop(⌜acc = st x1 x2 v3 v4 v9 v10 n⌝ ∗ pt c arg1 (harg1.unread x1) ∗ pt c arg2 (harg2.unread x2)
    ∗ (∃ f, pt c arg4 f ∗ ⌜Done c arg4 (fun t => (st x1 x2 v3 v4 v9 v10 t).1) pf n f⌝)
    ∗ (∃ f, pt c arg5 f ∗ ⌜Done c arg5 (fun t => (st x1 x2 v3 v4 v9 v10 t).2.1) pf n f⌝)
    ∗ (∃ f, pt c arg6 f ∗ ⌜Done c arg6 (fun t => (st x1 x2 v3 v4 v9 v10 t).2.2.1) tb n f⌝)
    ∗ (∃ f, pt c arg7 f ∗ ⌜Done c arg7 (fun t => (st x1 x2 v3 v4 v9 v10 t).2.2.2) tb n f⌝))

set_option pp.maxSteps 60 in
set_option maxHeartbeats 4000000 in
/-- One trip: four steps. -/
theorem step (c : Dev nD) (i : grid0.Coords) (arg1 : Memref sig .tc .vmem S8448x128 .f32) (harg1 : arg1.IsWhole) (arg2 : Memref sig .tc .vmem S8448x128 .f32) (harg2 : arg2.IsWhole) (arg3 : Memref sig .tc .vmem S16x256 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S4224x128 .f32) (harg6 : arg6.IsWhole) (arg7 : Memref sig .tc .vmem S4224x128 .f32) (harg7 : arg7.IsWhole)
    (x1 x2 : Vec F S8448x128 .f32) (v3 v4 v9 v10 : Vec F S8x128 .f32) (k : Fin k0_t1_loop.trips) (acc : St F) :
   inv c arg1 harg1 arg2 harg2 arg3 harg3 arg4 harg4 arg5 harg5 arg6 harg6 arg7 harg7 x1 x2 v3 v4 v9 v10 (4 * k.val) acc
   ⊢ wp frame (wpE (defs₀ (F := F)) 𝒱₀ (c : Thread nD τ) none) Set.univ
       (k0_t1_body (F := F) i arg1 harg1 arg2 harg2 arg3 harg3 arg4 harg4 arg5 harg5 arg6 harg6 arg7 harg7 v3 v4 v9 v10 k acc)
       (inv c arg1 harg1 arg2 harg2 arg3 harg3 arg4 harg4 arg5 harg5 arg6 harg6 arg7 harg7 x1 x2 v3 v4 v9 v10 (4 * (k.val + 1))) := by
  unfold inv
  iintro ⟨%hacc, H1, H2, ⟨%f4, H4, %h4⟩, ⟨%f5, H5, %h5⟩, ⟨%f6, H6, %h6⟩, ⟨%f7, H7, %h7⟩⟩
  subst hacc
  have hk : k.val < 132 := trips_eq ▸ k.isLt
  have r310 := fun inb => readAt_row arg1 harg1 x1 (k0_off3 k 0#32) _ (off3_eq k 0) inb
  have r311 := fun inb => readAt_row arg1 harg1 x1 (k0_off3 k 1#32) _ (off3_eq k 1) inb
  have r312 := fun inb => readAt_row arg1 harg1 x1 (k0_off3 k 2#32) _ (off3_eq k 2) inb
  have r313 := fun inb => readAt_row arg1 harg1 x1 (k0_off3 k 3#32) _ (off3_eq k 3) inb
  have r410 := fun inb => readAt_row arg1 harg1 x1 (k0_off4 k 0#32) _ (off4_eq k 0) inb
  have r411 := fun inb => readAt_row arg1 harg1 x1 (k0_off4 k 1#32) _ (off4_eq k 1) inb
  have r412 := fun inb => readAt_row arg1 harg1 x1 (k0_off4 k 2#32) _ (off4_eq k 2) inb
  have r413 := fun inb => readAt_row arg1 harg1 x1 (k0_off4 k 3#32) _ (off4_eq k 3) inb
  have r320 := fun inb => readAt_row arg2 harg2 x2 (k0_off3 k 0#32) _ (off3_eq k 0) inb
  have r321 := fun inb => readAt_row arg2 harg2 x2 (k0_off3 k 1#32) _ (off3_eq k 1) inb
  have r322 := fun inb => readAt_row arg2 harg2 x2 (k0_off3 k 2#32) _ (off3_eq k 2) inb
  have r323 := fun inb => readAt_row arg2 harg2 x2 (k0_off3 k 3#32) _ (off3_eq k 3) inb
  have r420 := fun inb => readAt_row arg2 harg2 x2 (k0_off4 k 0#32) _ (off4_eq k 0) inb
  have r421 := fun inb => readAt_row arg2 harg2 x2 (k0_off4 k 1#32) _ (off4_eq k 1) inb
  have r422 := fun inb => readAt_row arg2 harg2 x2 (k0_off4 k 2#32) _ (off4_eq k 2) inb
  have r423 := fun inb => readAt_row arg2 harg2 x2 (k0_off4 k 3#32) _ (off4_eq k 3) inb
  have r510 := fun inb => readAt_row arg1 harg1 x1 (k0_off5 k 0#32) _ (off5_eq k 0) inb
  have r511 := fun inb => readAt_row arg1 harg1 x1 (k0_off5 k 1#32) _ (off5_eq k 1) inb
  have r512 := fun inb => readAt_row arg1 harg1 x1 (k0_off5 k 2#32) _ (off5_eq k 2) inb
  have r513 := fun inb => readAt_row arg1 harg1 x1 (k0_off5 k 3#32) _ (off5_eq k 3) inb
  have r610 := fun inb => readAt_row arg1 harg1 x1 (k0_off6 k 0#32) _ (off6_eq k 0) inb
  have r611 := fun inb => readAt_row arg1 harg1 x1 (k0_off6 k 1#32) _ (off6_eq k 1) inb
  have r612 := fun inb => readAt_row arg1 harg1 x1 (k0_off6 k 2#32) _ (off6_eq k 2) inb
  have r613 := fun inb => readAt_row arg1 harg1 x1 (k0_off6 k 3#32) _ (off6_eq k 3) inb
  have r520 := fun inb => readAt_row arg2 harg2 x2 (k0_off5 k 0#32) _ (off5_eq k 0) inb
  have r521 := fun inb => readAt_row arg2 harg2 x2 (k0_off5 k 1#32) _ (off5_eq k 1) inb
  have r522 := fun inb => readAt_row arg2 harg2 x2 (k0_off5 k 2#32) _ (off5_eq k 2) inb
  have r523 := fun inb => readAt_row arg2 harg2 x2 (k0_off5 k 3#32) _ (off5_eq k 3) inb
  have r620 := fun inb => readAt_row arg2 harg2 x2 (k0_off6 k 0#32) _ (off6_eq k 0) inb
  have r621 := fun inb => readAt_row arg2 harg2 x2 (k0_off6 k 1#32) _ (off6_eq k 1) inb
  have r622 := fun inb => readAt_row arg2 harg2 x2 (k0_off6 k 2#32) _ (off6_eq k 2) inb
  have r623 := fun inb => readAt_row arg2 harg2 x2 (k0_off6 k 3#32) _ (off6_eq k 3) inb
  have hs1 : st x1 x2 v3 v4 v9 v10 (4 * k.val + 1) = next x1 x2 v3 v4 v9 v10 (4 * k.val) (st x1 x2 v3 v4 v9 v10 (4 * k.val)) := rfl
  have hs2 : st x1 x2 v3 v4 v9 v10 (4 * k.val + 2) = next x1 x2 v3 v4 v9 v10 (4 * k.val + 1) (st x1 x2 v3 v4 v9 v10 (4 * k.val + 1)) := rfl
  have hs3 : st x1 x2 v3 v4 v9 v10 (4 * k.val + 3) = next x1 x2 v3 v4 v9 v10 (4 * k.val + 2) (st x1 x2 v3 v4 v9 v10 (4 * k.val + 2)) := rfl
  have hs4 : st x1 x2 v3 v4 v9 v10 (4 * k.val + 4) = next x1 x2 v3 v4 v9 v10 (4 * k.val + 3) (st x1 x2 v3 v4 v9 v10 (4 * k.val + 3)) := rfl
  generalize hS : st x1 x2 v3 v4 v9 v10 (4 * k.val) = S at *
  obtain ⟨a, b, d, e⟩ := S
  unfold k0_t1_body
  sl_exec
  sl_step
  clear r310 r311 r312 r313 r410 r411 r412 r413 r320 r321 r322 r323 r420 r421 r422 r423 r510 r511 r512 r513 r610 r611 r612 r613 r520 r521 r522 r523 r620 r621 r622 r623
  have q1 : step.sl.r_6 x1 x2 v3 v4 v9 v10 k a b = (st x1 x2 v3 v4 v9 v10 (4 * k.val + 2)).1 := by
    rw [hs2, hs1]; sl_unfold_words; rfl
  have q2 : step.sl.r_7 x1 x2 v3 v4 v9 v10 k a b = (st x1 x2 v3 v4 v9 v10 (4 * k.val + 2)).2.1 := by
    rw [hs2, hs1]; sl_unfold_words; rfl
  have q3 : step.sl.r_8 x1 x2 v3 v4 v9 v10 k d e = (st x1 x2 v3 v4 v9 v10 (4 * k.val + 2)).2.2.1 := by
    rw [hs2, hs1]; sl_unfold_words; rfl
  have q4 : step.sl.r_9 x1 x2 v3 v4 v9 v10 k d e = (st x1 x2 v3 v4 v9 v10 (4 * k.val + 2)).2.2.2 := by
    rw [hs2, hs1]; sl_unfold_words; rfl
  rw [show 4 * (k.val + 1) = 4 * k.val + 4 by omega]
  isplitl []
  · ipureintro
    rw [hs4, hs3]
    simp only [next]
    rw [← q1, ← q2, ← q3, ← q4]
    sl_unfold_words
    rfl
  isplitl [H1]; · iexact H1
  isplitl [H2]; · iexact H2
  isplitl [H4]
  · iexists _
    isplitl [H4]; · iexact H4
    ipureintro
    refine done_step c arg4 (fun t => (st x1 x2 v3 v4 v9 v10 t).1) pf pf pfpf pfpf pf_lt _ (by omega) f4 h4 _ _ _ _
      (off1_eq k 0) (off1_eq k 1) (off1_eq k 2) (off1_eq k 3) _ _ _ _ _ _ _ _ _ _ _ _ ?_ ?_ ?_ ?_
    · exact (congrArg (fun s : St F => s.1) hS).symm
    · show _ = (st x1 x2 v3 v4 v9 v10 (4 * k.val + 1)).1
      rw [hs1]; sl_unfold_words; rfl
    · exact q1
    · show _ = (st x1 x2 v3 v4 v9 v10 (4 * k.val + 3)).1
      rw [hs3]; simp only [next]; rw [← q1, ← q2]; sl_unfold_words; rfl
  isplitl [H5]
  · iexists _
    isplitl [H5]; · iexact H5
    ipureintro
    refine done_step c arg5 (fun t => (st x1 x2 v3 v4 v9 v10 t).2.1) pf pf pfpf pfpf pf_lt _ (by omega) f5 h5 _ _ _ _
      (off1_eq k 0) (off1_eq k 1) (off1_eq k 2) (off1_eq k 3) _ _ _ _ _ _ _ _ _ _ _ _ ?_ ?_ ?_ ?_
    · exact (congrArg (fun s : St F => s.2.1) hS).symm
    · show _ = (st x1 x2 v3 v4 v9 v10 (4 * k.val + 1)).2.1
      rw [hs1]; sl_unfold_words; rfl
    · exact q2
    · show _ = (st x1 x2 v3 v4 v9 v10 (4 * k.val + 3)).2.1
      rw [hs3]; simp only [next]; rw [← q1, ← q2]; sl_unfold_words; rfl
  isplitl [H6]
  · iexists _
    isplitl [H6]; · iexact H6
    ipureintro
    refine done_step c arg6 (fun t => (st x1 x2 v3 v4 v9 v10 t).2.2.1) tb pb pb_tb tb_pb pb_lt _ (by omega) f6 h6 _ _ _ _
      (off2_eq k 0) (off2_eq k 1) (off2_eq k 2) (off2_eq k 3) _ _ _ _ _ _ _ _ _ _ _ _ ?_ ?_ ?_ ?_
    · exact (congrArg (fun s : St F => s.2.2.1) hS).symm
    · show _ = (st x1 x2 v3 v4 v9 v10 (4 * k.val + 1)).2.2.1
      rw [hs1]; sl_unfold_words; rfl
    · exact q3
    · show _ = (st x1 x2 v3 v4 v9 v10 (4 * k.val + 3)).2.2.1
      rw [hs3]; simp only [next]; rw [← q3, ← q4]; sl_unfold_words; rfl
  · iexists _
    isplitl [H7]; · iexact H7
    ipureintro
    refine done_step c arg7 (fun t => (st x1 x2 v3 v4 v9 v10 t).2.2.2) tb pb pb_tb tb_pb pb_lt _ (by omega) f7 h7 _ _ _ _
      (off2_eq k 0) (off2_eq k 1) (off2_eq k 2) (off2_eq k 3) _ _ _ _ _ _ _ _ _ _ _ _ ?_ ?_ ?_ ?_
    · exact (congrArg (fun s : St F => s.2.2.2) hS).symm
    · show _ = (st x1 x2 v3 v4 v9 v10 (4 * k.val + 1)).2.2.2
      rw [hs1]; sl_unfold_words; rfl
    · exact q4
    · show _ = (st x1 x2 v3 v4 v9 v10 (4 * k.val + 3)).2.2.2
      rw [hs3]; simp only [next]; rw [← q3, ← q4]; sl_unfold_words; rfl

end Cert.Proof.Fwd
end
-- ==== Proof.Fwd.Body.lean ====
/- One point of the forward scan's grid: what the kernel's body leaves, from the loop's invariant. -/
module

public import proofs.«01_k».proof.Proof.Fwd.Loop
public import proofs.«01_k».proof.Proof.Gen.FwdKernelIdeal.Launch
public import proofs.«01_k».proof.Proof.Gen.FwdKernelIdeal.Loops
public import proofs.«01_k».proof.Proof.Gen.FwdKernelIdeal.Points
public import proofs.«01_k».proof.Proof.Gen.FwdKernelIdeal.Frame
public import Idealize.ShloMosaic.Adequacy
public import Idealize.ShloMosaic.Lib.Claim
public import Idealize.ShloMosaic.Init

@[expose] public section

set_option maxRecDepth 16384

noncomputable section

namespace Cert.Proof.Fwd

open Cert.FwdKernelIdeal Cert.FwdKernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- Rows `r` to `r + 7`, lanes `q` to `q + 127` of the transition block. -/
def par (x : Vec F S16x256 .f32) (r q : ℕ) : Vec F S8x128 .f32 := fun j =>
  x (ix2 (Fin.ofNat 16 (r + (j (0 : Fin 2)).val)) (Fin.ofNat 256 (q + (j (1 : Fin 2)).val)))

theorem readAt_par (M : Memref sig .tc .vmem S16x256 .f32) (hM : M.IsWhole) (x : Vec F S16x256 .f32) (r q : ℕ)
    (inb : ∀ a, (![r, q] : Fin 2 → Nat) a + S8x128.size a ≤ S16x256.size a) :
    View.readAt (Elt F) M.view (Rect.unit (s := S16x256) ![r, q] S8x128.size inb).toLoadRect (hM.unread x) = par x r q := by
  funext j
  rw [View.readAt_apply, hM.read_unread]
  unfold par
  congr 1
  have h0 : (j (0 : Fin 2)).val < 8 := (j (0 : Fin 2)).isLt
  have h1 : (j (1 : Fin 2)).val < 128 := (j (1 : Fin 2)).isLt
  have b0 : r + 8 ≤ 16 := inb (0 : Fin 2)
  have b1 : q + 128 ≤ 256 := inb (1 : Fin 2)
  funext a
  refine Fin.ext ?_
  fin_cases a
  · show r + 1 * (j (0 : Fin 2)).val = (r + (j (0 : Fin 2)).val) % 16
    rw [Nat.mod_eq_of_lt (by omega)]; omega
  · show q + 1 * (j (1 : Fin 2)).val = (q + (j (1 : Fin 2)).val) % 256
    rw [Nat.mod_eq_of_lt (by omega)]; omega

set_option warn.classDefReducibility false in
/-- The loop by its invariant, four steps to a trip. -/
def loopInv (c : Dev nD) (i : grid0.Coords) (arg1 : Memref sig .tc .vmem S8448x128 .f32) (harg1 : arg1.IsWhole) (arg2 : Memref sig .tc .vmem S8448x128 .f32) (harg2 : arg2.IsWhole) (arg3 : Memref sig .tc .vmem S16x256 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S4224x128 .f32) (harg6 : arg6.IsWhole) (arg7 : Memref sig .tc .vmem S4224x128 .f32) (harg7 : arg7.IsWhole)
    (x1 x2 : Vec F S8448x128 .f32) (v3 v4 v9 v10 : Vec F S8x128 .f32) (init : St F) :
    LoopInvTy_k0_t1 (F := F) Unit ℕ (UU nD τ) ℕ 𝒱₀ c none Set.univ i arg1 harg1 arg2 harg2 arg3 harg3 arg4 harg4 arg5 harg5 arg6 harg6 arg7 harg7 v3 v4 v9 v10 init where
  inv := fun n acc => inv c arg1 harg1 arg2 harg2 arg3 harg3 arg4 harg4 arg5 harg5 arg6 harg6 arg7 harg7 x1 x2 v3 v4 v9 v10 (4 * n) acc
  step := fun k acc => step c i arg1 harg1 arg2 harg2 arg3 harg3 arg4 harg4 arg5 harg5 arg6 harg6 arg7 harg7 x1 x2 v3 v4 v9 v10 k acc

theorem done_zero (c : Dev nD) (M : Memref sig .tc .vmem S4224x128 .f32) (h : ℕ → Vec F S8x128 .f32) (T : ℕ → ℕ)
    (f : Bf (F := F) c M) : Done c M h T (4 * 0) f := fun y hy => absurd hy (by omega)

theorem done_all (c : Dev nD) (M : Memref sig .tc .vmem S4224x128 .f32) (h : ℕ → Vec F S8x128 .f32) (T : ℕ → ℕ)
    (hT : ∀ p < 528, T p < 528) (f : Bf (F := F) c M) (hf : Done c M h T (4 * k0_t1_loop.trips) f) :
    M.view.read (Elt F) f = out h T := funext fun y => hf y (by rw [trips_eq]; exact hT _ (Nat.mod_lt _ (by decide)))

set_option pp.maxSteps 200 in
set_option maxHeartbeats 4000000 in
/-- The body from whole staging buffers: the inputs as they were, each result the rows of the states. -/
theorem body_run (c : Dev nD) (i : grid0.Coords) (arg1 : Memref sig .tc .vmem S8448x128 .f32) (harg1 : arg1.IsWhole) (arg2 : Memref sig .tc .vmem S8448x128 .f32) (harg2 : arg2.IsWhole) (arg3 : Memref sig .tc .vmem S16x256 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S4224x128 .f32) (harg6 : arg6.IsWhole) (arg7 : Memref sig .tc .vmem S4224x128 .f32) (harg7 : arg7.IsWhole)
    (x1 x2 : Vec F S8448x128 .f32) (x3 : Vec F S16x256 .f32) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2 ∗ owns (c : Thread nD τ) arg3 fullShare x3
            ∗ owns (c : Thread nD τ) arg4 fullShare (out (fun t => (st x1 x2 (par x3 0 0) (par x3 8 0) (par x3 0 128) (par x3 8 128) t).1) pf)
            ∗ owns (c : Thread nD τ) arg5 fullShare (out (fun t => (st x1 x2 (par x3 0 0) (par x3 8 0) (par x3 0 128) (par x3 8 128) t).2.1) pf)
            ∗ owns (c : Thread nD τ) arg6 fullShare (out (fun t => (st x1 x2 (par x3 0 0) (par x3 8 0) (par x3 0 128) (par x3 8 128) t).2.2.1) tb)
            ∗ owns (c : Thread nD τ) arg7 fullShare (out (fun t => (st x1 x2 (par x3 0 0) (par x3 8 0) (par x3 0 128) (par x3 8 128) t).2.2.2) tb)) -∗ K ⟨⟩))
      ⊢ wp frame (wpE (defs₀ (F := F)) 𝒱₀ (c : Thread nD τ) none) Set.univ (cc0_s5_scan_fwd i arg1 harg1 arg2 harg2 arg3 harg3 arg4 harg4 arg5 harg5 arg6 harg6 arg7 harg7) K := by
  simp only [cc0_s5_scan_fwd_eq_skeleton]; unfold cc0_s5_scan_fwd_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg1.eq_unread hf1; obtain rfl := harg2.eq_unread hf2; obtain rfl := harg3.eq_unread hf3
  have p0 := readAt_par arg3 harg3 x3 0 0 inb_S16x256_S8x128_0_0
  have p1 := readAt_par arg3 harg3 x3 8 0 inb_S16x256_S8x128_8_0
  have p2 := readAt_par arg3 harg3 x3 0 128 inb_S16x256_S8x128_0_128
  have p3 := readAt_par arg3 harg3 x3 8 128 inb_S16x256_S8x128_8_128
  have z4 := done_zero c arg4 (fun t => (st x1 x2 (par x3 0 0) (par x3 8 0) (par x3 0 128) (par x3 8 128) t).1) pf f4
  have z5 := done_zero c arg5 (fun t => (st x1 x2 (par x3 0 0) (par x3 8 0) (par x3 0 128) (par x3 8 128) t).2.1) pf f5
  have z6 := done_zero c arg6 (fun t => (st x1 x2 (par x3 0 0) (par x3 8 0) (par x3 0 128) (par x3 8 128) t).2.2.1) tb f6
  have z7 := done_zero c arg7 (fun t => (st x1 x2 (par x3 0 0) (par x3 8 0) (par x3 0 128) (par x3 8 128) t).2.2.2) tb f7
  let L := loopInv c i arg1 harg1 arg2 harg2 arg3 harg3 arg4 harg4 arg5 harg5 arg6 harg6 arg7 harg7 x1 x2 (par x3 0 0) (par x3 8 0) (par x3 0 128) (par x3 8 128) (k0_pay6, k0_pay6, k0_pay6, k0_pay6)
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact done_all c arg4 _ pf pf_lt _ (by assumption)
    iexact H4
  isplitl [H5]
  · iexists _; isplitr; · ipureintro; exact done_all c arg5 _ pf pf_lt _ (by assumption)
    iexact H5
  isplitl [H6]
  · iexists _; isplitr; · ipureintro; exact done_all c arg6 _ tb tb_lt _ (by assumption)
    iexact H6
  iexists _; isplitr; · ipureintro; exact done_all c arg7 _ tb tb_lt _ (by assumption)
  iexact H7

end Cert.Proof.Fwd
end
-- ==== Proof.Fwd.Frame.lean ====
/- The forward scan on the whole grid: the pipeline's proof data, the body's obligation at every point, the run, and the
   frame over any float model. -/
module

public import proofs.«01_k».proof.Proof.Fwd.Body
public import proofs.«01_k».proof.Proof.Gen.FwdKernelIdeal.Launch
public import proofs.«01_k».proof.Proof.Gen.FwdKernelIdeal.Loops
public import proofs.«01_k».proof.Proof.Gen.FwdKernelIdeal.Points
public import proofs.«01_k».proof.Proof.Gen.FwdKernelIdeal.Frame
public import Idealize.ShloMosaic.Adequacy
public import Idealize.ShloMosaic.Lib.Claim
public import Idealize.ShloMosaic.Init

@[expose] public section

set_option maxRecDepth 16384

noncomputable section

namespace Cert.Proof.Fwd

open Cert.FwdKernelIdeal Cert.FwdKernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

abbrev ms0 (t : Fin cfg0.N) : Memref sig .tc .vmem S8448x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8448x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4224x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4224x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4224x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S4224x128 .f32 := win0_6.stage (cfg0.slots t 6)
abbrev hs6 (t : Fin cfg0.N) : (ms6 t).IsWhole := hstage0_6 ((cfg0.slots t 6).cast nbuf0_6)

/-- The states of point `t`'s sixteen groups, before each step. -/
def sts (c : Dev nD) (t : Fin cfg0.N) (n : ℕ) : St F := (st (iblk m c 0 t) (iblk m c 1 t) (par (iblk m c 2 t) 0 0) (par (iblk m c 2 t) 8 0) (par (iblk m c 2 t) 0 128) (par (iblk m c 2 t) 8 128) n)

/-- The region's proof data: inputs left in place, each result's block the rows of the states. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out (fun n => (sts m c t n).1) pf
    | ⟨4, _⟩ => out (fun n => (sts m c t n).2.1) pf
    | ⟨5, _⟩ => out (fun n => (sts m c t n).2.2.1) tb
    | ⟨6, _⟩ => out (fun n => (sts m c t n).2.2.2) tb
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = out (fun n => (sts m c t n).1) pf := by dsimp only [dats]
theorem after_4 (c : Dev nD) (t : Fin cfg0.N) : (dats m 0 c).after 4 t = out (fun n => (sts m c t n).2.1) pf := by dsimp only [dats]
theorem after_5 (c : Dev nD) (t : Fin cfg0.N) : (dats m 0 c).after 5 t = out (fun n => (sts m c t n).2.2.1) tb := by dsimp only [dats]
theorem after_6 (c : Dev nD) (t : Fin cfg0.N) : (dats m 0 c).after 6 t = out (fun n => (sts m c t n).2.2.2) tb := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body meets at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it leaves. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, H3, H4, H5, H6⟩
  iapply (body_run c (grid0.coords t) _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · icases H3 with ⟨%d, H3⟩; iexists _; iexact H3
  isplitl [H4]; · icases H4 with ⟨%d, H4⟩; iexists _; iexact H4
  isplitl [H5]; · icases H5 with ⟨%d, H5⟩; iexists _; iexact H5
  isplitl [H6]; · icases H6 with ⟨%d, H6⟩; iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row_eq (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- The run: every array of the region at its blocks, the counters at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_main m ρ)

/-- The arguments end unchanged and every counter at zero, over any float model. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_post m ρ)) ((θ_run defs _ _).mono (fun _ h => h.2) (run_main m ρ))

end Cert.Proof.Fwd
end
-- ==== Proof.Fwd.Same.lean ====
/- The kernel as printed and its idealization have one text, so the frame of the one is the frame of the other. -/
module

public import proofs.«01_k».proof.Defs
public import proofs.«01_k».proof.Proof.Gen.FwdKernel
public import proofs.«01_k».proof.Proof.Gen.FwdKernelIdeal
public import proofs.«01_k».proof.Proof.Fwd.Frame
public import Idealize.ShloMosaic.Init

@[expose] public section

noncomputable section

namespace Cert.Proof.Fwd

open Idealize.ShloMosaic Idealize.SL.Sem

variable {F : FTy → Type} [FloatOps F]

theorem body_same : @FwdKernel.cc0_s5_scan_fwd F _ _ = @FwdKernelIdeal.cc0_s5_scan_fwd F _ _ := rfl

theorem defs_same : FwdKernel.defs₀ (F := F) = FwdKernelIdeal.defs₀ (F := F) := by
  refine congrArg Defs.onTc (funext fun l => funext fun a => ?_)
  match l, a with
  | ⟨0, h⟩, (t, s) =>
    show FwdKernel.cc0_s5_scan_fwd _ _ _ _ _ _ _ _ _ _ _ _ _ _ _ = FwdKernelIdeal.cc0_s5_scan_fwd _ _ _ _ _ _ _ _ _ _ _ _ _ _ _
    rw [body_same]
    rfl
  | ⟨n + 1, h⟩, _ => exact absurd h (by omega)

theorem frame_kernel : Cert.quiescent_FwdKernel := fun m ρ _ => by
  show θ_run (Pipeline.defs (FwdKernel.pcfgs (F := Bits)) (FwdKernel.defs₀ (F := Bits))) _ _ _
  rw [defs_same]
  exact Cert.Proof.Fwd.frame_any (F := Bits) m ρ

end Cert.Proof.Fwd

end
-- ==== Proof.Fwd.Cell.lean ====
/- The recurrence of one complex state, forward. -/
module

public import proofs.«01_k».proof.Proof.Scan.Cell

@[expose] public section

set_option maxRecDepth 16384

noncomputable section

namespace Cert.Proof.Fwd

/-- One complex state of the recurrence `h ← a h + s`, before each step, from zero. -/
def cell (dr di : ℕ → EReal) (ar ai : EReal) : ℕ → EReal × EReal
  | 0 => (0, 0)
  | n + 1 => let l := cell dr di ar ai n
    (ar * l.1 - ai * l.2 + dr n, ar * l.2 + ai * l.1 + di n)

theorem cell_congr {dr di dr' di' : ℕ → EReal} {ar ai : EReal} (N : ℕ) (hr : ∀ n < N, dr n = dr' n) (hi : ∀ n < N, di n = di' n) :
    ∀ n ≤ N, cell dr di ar ai n = cell dr' di' ar ai n
  | 0, _ => rfl
  | n + 1, h => by
    have ih := cell_congr (ar := ar) (ai := ai) N hr hi n (by omega)
    simp only [cell, ih, hr n (by omega), hi n (by omega)]

end Cert.Proof.Fwd
end
-- ==== Proof.Fwd.Lane.lean ====
/- The kernel's carried state read at one lane: each of the 128 lanes of a row carries one complex state of the
   recurrence, the lower 64 lanes of a group of the lower half of the block, the upper 64 of one of the upper half. -/
module

public import proofs.«01_k».proof.Proof.Fwd.State
public import proofs.«01_k».proof.Proof.Fwd.Body
public import proofs.«01_k».proof.Proof.Fwd.Cell
public import Idealize.ShloMosaic.Lib.KernelVsHost

@[expose] public section

set_option maxRecDepth 16384

noncomputable section

namespace Cert.Proof.Fwd

open Cert.FwdKernelIdeal Cert.FwdKernelIdeal.Gen
open Idealize.ShloMosaic hiding ix1 ix2 ix3 ix4 ix5
open Idealize.ShloMosaic.ValueIdx

/-- The group of a block that row `h`, lane `l` of the packed state belongs to. -/
def grp (h l : ℕ) : ℕ := if l < 64 then h else 8 + h

theorem mask_eq : ∀ l : Fin 128, IntOp.cmpi .slt (BitVec.ofNat 32 l.val) 64#32 = if l.val < 64 then 1#1 else 0#1 := by
  decide +kernel

theorem mask_at (h : Fin 8) (l : Fin 128) : k0_pay1 (ix2 h l) = if l.val < 64 then 1#1 else 0#1 := by
  rw [← mask_eq l]
  unfold k0_pay1
  show IntOp.cmpi .slt _ _ = _
  congr 1
  exact iota_single_apply _ _ _ _ _ _

theorem turn_at {α : Type} (x : S8x128.Idx → α) (h : Fin 8) (l : Fin 128) :
    dynamicRotate 1 64#32 none x rotates_S8x128_d1 (ix2 h l) = x (ix2 h (Fin.ofNat 128 (l.val + 64))) := by
  refine dynamicRotate_apply (s := S8x128) 1 64#32 x rotates_S8x128_d1 (ix2 h l) (ix2 h (Fin.ofNat 128 (l.val + 64))) (fun b => ?_)
  match b with
  | ⟨0, _⟩ => rfl
  | ⟨1, hb⟩ =>
    rw [if_pos (show (⟨1, hb⟩ : Fin S8x128.rank) = 1 from rfl)]
    show (l.val + 64) % 128 = (l.val + 128 - 64 % 128) % 128
    omega

theorem pack_fw {x y : S8x128.Idx → EReal} (h : Fin 8) (l : Fin 128) :
    select k0_pay1 x (dynamicRotate 1 64#32 none y rotates_S8x128_d1) (ix2 h l)
      = if l.val < 64 then x (ix2 h (Fin.ofNat 128 (l.val % 64))) else y (ix2 h (Fin.ofNat 128 (l.val % 64))) := by
  rw [select_apply, mask_at, turn_at]
  have hl := l.isLt
  by_cases c : l.val < 64
  · rw [if_pos c, if_pos c, select_one]
    congr 2
    exact Fin.ext (show l.val = l.val % 64 % 128 by omega)
  · rw [if_neg c, if_neg c, select_zero]
    congr 2
    exact Fin.ext (show (l.val + 64) % 128 = l.val % 64 % 128 by omega)

theorem pack_bw {x y : S8x128.Idx → EReal} (h : Fin 8) (l : Fin 128) :
    select k0_pay1 (dynamicRotate 1 64#32 none x rotates_S8x128_d1) y (ix2 h l)
      = if l.val < 64 then x (ix2 h (Fin.ofNat 128 (64 + l.val % 64))) else y (ix2 h (Fin.ofNat 128 (64 + l.val % 64))) := by
  rw [select_apply, mask_at, turn_at]
  have hl := l.isLt
  by_cases c : l.val < 64
  · rw [if_pos c, if_pos c, select_one]
    congr 2
    exact Fin.ext (show (l.val + 64) % 128 = (64 + l.val % 64) % 128 by omega)
  · rw [if_neg c, if_neg c, select_zero]
    congr 2
    exact Fin.ext (show l.val = (64 + l.val % 64) % 128 by omega)

variable (x1 x2 : Vec Ideal S8448x128 .f32) (a : Vec Ideal S16x256 .f32)

/-- A block of rows read at natural coordinates. -/
abbrev at2 (x : Vec Ideal S8448x128 .f32) (p q : ℕ) : EReal := x (ix2 (Fin.ofNat 8448 p) (Fin.ofNat 128 q))
/-- A block of parameters read at natural coordinates. -/
abbrev pr2 (x : Vec Ideal S16x256 .f32) (p q : ℕ) : EReal := x (ix2 (Fin.ofNat 16 p) (Fin.ofNat 256 q))

theorem rows_if (x : Vec Ideal S8448x128 .f32) (p q : ℕ) (h : Fin 8) (l : Fin 128) :
    (if l.val < 64 then row x p (ix2 h (Fin.ofNat 128 q)) else row x (4224 + p) (ix2 h (Fin.ofNat 128 q)))
      = at2 x (grp h.val l.val * 528 + p) q := by
  unfold row grp
  by_cases c : l.val < 64
  · simp only [if_pos c]
    show x (ix2 (Fin.ofNat 8448 (p + 528 * h.val)) _) = _
    rw [show p + 528 * h.val = h.val * 528 + p by omega]
  · simp only [if_neg c]
    show x (ix2 (Fin.ofNat 8448 (4224 + p + 528 * h.val)) _) = _
    rw [show 4224 + p + 528 * h.val = (8 + h.val) * 528 + p by omega]

theorem pars_if (q k : ℕ) (hk : k < 128) (h : Fin 8) (l : Fin 128) :
    (if l.val < 64 then par a 0 q (ix2 h (Fin.ofNat 128 k)) else par a 8 q (ix2 h (Fin.ofNat 128 k)))
      = pr2 a (grp h.val l.val) (q + k) := by
  have e : (Fin.ofNat 128 k).val = k := Nat.mod_eq_of_lt hk
  unfold par grp
  by_cases c : l.val < 64
  · simp only [if_pos c]
    show a (ix2 (Fin.ofNat 16 (0 + h.val)) (Fin.ofNat 256 (q + (Fin.ofNat 128 k).val))) = _
    rw [e, Nat.zero_add]
  · simp only [if_neg c]
    show a (ix2 (Fin.ofNat 16 (8 + h.val)) (Fin.ofNat 256 (q + (Fin.ofNat 128 k).val))) = _
    rw [e]

/-- The forward direction's state at a lane. -/
theorem st_fw (h : Fin 8) (l : Fin 128) : ∀ n : ℕ,
    ((st x1 x2 (par a 0 0) (par a 8 0) (par a 0 128) (par a 8 128) n).1 (ix2 h l),
      (st x1 x2 (par a 0 0) (par a 8 0) (par a 0 128) (par a 8 128) n).2.1 (ix2 h l))
      = cell (fun t => at2 x1 (grp h.val l.val * 528 + pf t) (l.val % 64)) (fun t => at2 x2 (grp h.val l.val * 528 + pf t) (l.val % 64))
          (pr2 a (grp h.val l.val) (0 + l.val % 64)) (pr2 a (grp h.val l.val) (128 + l.val % 64)) n
  | 0 => by
    have z : Ideal.ofBits .f32 0x00000000#32 = 0 := by rw [Ideal.ofBits]; simp [Ideal.ieee]
    exact Prod.ext z z
  | n + 1 => by
    have ih := st_fw h l n
    have hl : l.val % 64 < 128 := by omega
    have e1 := congrArg Prod.fst ih
    have e2 := congrArg Prod.snd ih
    simp only [cell, ← e1, ← e2]
    have p8 : ∀ x : Vec Ideal S8448x128 .f32, k0_pay8 k0_pay1 (row x (pf n)) (row x (4224 + pf n)) (ix2 h l)
        = at2 x (grp h.val l.val * 528 + pf n) (l.val % 64) := fun x => (pack_fw h l).trans (rows_if x _ _ h l)
    have p2 : k0_pay2 (par a 0 0) (par a 8 0) (ix2 h l) = pr2 a (grp h.val l.val) (0 + l.val % 64) :=
      (pack_fw h l).trans (pars_if a 0 _ hl h l)
    have p4 : k0_pay4 (par a 0 128) (par a 8 128) (ix2 h l) = pr2 a (grp h.val l.val) (128 + l.val % 64) :=
      (pack_fw h l).trans (pars_if a 128 _ hl h l)
    have p9 : ∀ x : Vec Ideal S8448x128 .f32, k0_pay9 k0_pay1 (row x (pf n)) (row x (4224 + pf n)) (ix2 h l)
        = at2 x (grp h.val l.val * 528 + pf n) (l.val % 64) := p8
    rw [← p8 x1, ← p9 x2, ← p2, ← p4]
    rfl

/-- The backward direction's state at a lane. -/
theorem st_bw (h : Fin 8) (l : Fin 128) : ∀ n : ℕ,
    ((st x1 x2 (par a 0 0) (par a 8 0) (par a 0 128) (par a 8 128) n).2.2.1 (ix2 h l),
      (st x1 x2 (par a 0 0) (par a 8 0) (par a 0 128) (par a 8 128) n).2.2.2 (ix2 h l))
      = cell (fun t => at2 x1 (grp h.val l.val * 528 + pb t) (64 + l.val % 64)) (fun t => at2 x2 (grp h.val l.val * 528 + pb t) (64 + l.val % 64))
          (pr2 a (grp h.val l.val) (0 + (64 + l.val % 64))) (pr2 a (grp h.val l.val) (128 + (64 + l.val % 64))) n
  | 0 => by
    have z : Ideal.ofBits .f32 0x00000000#32 = 0 := by rw [Ideal.ofBits]; simp [Ideal.ieee]
    exact Prod.ext z z
  | n + 1 => by
    have ih := st_bw h l n
    have hl : 64 + l.val % 64 < 128 := by omega
    have e1 := congrArg Prod.fst ih
    have e2 := congrArg Prod.snd ih
    simp only [cell, ← e1, ← e2]
    have p8 : ∀ x : Vec Ideal S8448x128 .f32, select k0_pay1 (dynamicRotate 1 64#32 none (row x (pb n)) rotates_S8x128_d1) (row x (4224 + pb n)) (ix2 h l)
        = at2 x (grp h.val l.val * 528 + pb n) (64 + l.val % 64) := fun x => (pack_bw h l).trans (rows_if x _ _ h l)
    have p2 : k0_pay3 (par a 0 0) (par a 8 0) (ix2 h l) = pr2 a (grp h.val l.val) (0 + (64 + l.val % 64)) :=
      (pack_bw h l).trans (pars_if a 0 _ hl h l)
    have p4 : k0_pay5 (par a 0 128) (par a 8 128) (ix2 h l) = pr2 a (grp h.val l.val) (128 + (64 + l.val % 64)) :=
      (pack_bw h l).trans (pars_if a 128 _ hl h l)
    rw [← p8 x1, ← p8 x2, ← p2, ← p4]
    rfl

end Cert.Proof.Fwd
end
-- ==== Proof.Fwd.Final.lean ====
/- What the kernel's four result arrays hold after the run: at every row and lane, the recurrence's state before the step
   that reads that row's chunk. -/
module

public import proofs.«01_k».proof.Proof.Fwd.Lane
public import proofs.«01_k».proof.Proof.Fwd.Frame
public import Idealize.ShloMosaic.Lib.Pipeline.ValueKit

@[expose] public section

set_option maxRecDepth 16384

noncomputable section

namespace Cert.Proof.Fwd

open Cert.FwdKernelIdeal Cert.FwdKernelIdeal.Gen
open Idealize.ShloMosaic hiding ix1 ix2 ix3 ix4 ix5
open Idealize.ShloMosaic.TcCoe
open Idealize.ShloMosaic.ValueIdx Idealize.SL.Sem
open Idealize.ShloMosaic.Pipeline (Dat)

/-- The input rows, read at natural coordinates. -/
abbrev ax (x : S33792x128.Idx → EReal) (p q : ℕ) : EReal := x (ix2 (Fin.ofNat 33792 p) (Fin.ofNat 128 q))
/-- The transitions, read at natural coordinates. -/
abbrev ap (x : S64x256.Idx → EReal) (p q : ℕ) : EReal := x (ix2 (Fin.ofNat 64 p) (Fin.ofNat 256 q))

/-- The forward direction's state of group `g`, number `n`, before the step that reads chunk `p`. -/
def fwd (x y : S33792x128.Idx → EReal) (a : S64x256.Idx → EReal) (g n p : ℕ) : EReal × EReal :=
  cell (fun t => ax x (g * 528 + pf t) n) (fun t => ax y (g * 528 + pf t) n) (ap a g n) (ap a g (128 + n)) (pf p)
/-- The backward direction's state of group `g`, number `n`, before the step that reads chunk `p`. -/
def bwd (x y : S33792x128.Idx → EReal) (a : S64x256.Idx → EReal) (g n p : ℕ) : EReal × EReal :=
  cell (fun t => ax x (g * 528 + pb t) (64 + n)) (fun t => ax y (g * 528 + pb t) (64 + n)) (ap a g (64 + n)) (ap a g (192 + n)) (tb p)

/-- A result array: row `(q * 8 + h) * 528 + p`, lane `d * 64 + n` holds group `16 q + 8 d + h`, state `n`, chunk `p`. -/
def lay (f : ℕ → ℕ → ℕ → EReal) : S16896x128.Idx → EReal := fun y =>
  f (16 * ((y (0 : Fin 2)).val / 528 / 8) + 8 * ((y (1 : Fin 2)).val / 64) + (y (0 : Fin 2)).val / 528 % 8)
    ((y (1 : Fin 2)).val % 64) ((y (0 : Fin 2)).val % 528)

variable (m : (ℓ : Loc nD τ sig) → Buf (Elt Ideal) ℓ) (ρ : Dev nD → PrngReg)

def y0 (c : Dev nD) : S33792x128.Idx → EReal := m ((c : Thread nD τ).loc main_arg0)
def y1 (c : Dev nD) : S33792x128.Idx → EReal := m ((c : Thread nD τ).loc main_arg1)
def y2 (c : Dev nD) : S64x256.Idx → EReal := m ((c : Thread nD τ).loc main_arg2)

theorem idx_0 : ∀ t : Fin cfg0.N, win0_0.index t = ![t.val, 0] := (by decide +kernel : ∀ t : Fin grid0.N, _)
theorem idx_1 : ∀ t : Fin cfg0.N, win0_1.index t = ![t.val, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![t.val, 0] := (by decide +kernel : ∀ t : Fin grid0.N, _)
theorem idx_4 : ∀ t : Fin cfg0.N, win0_4.index t = ![t.val, 0] := (by decide +kernel : ∀ t : Fin grid0.N, _)
theorem idx_5 : ∀ t : Fin cfg0.N, win0_5.index t = ![t.val, 0] := (by decide +kernel : ∀ t : Fin grid0.N, _)
theorem idx_6 : ∀ t : Fin cfg0.N, win0_6.index t = ![t.val, 0] := (by decide +kernel : ∀ t : Fin grid0.N, _)
theorem t_lt : ∀ t : Fin cfg0.N, t.val < 4 := (by decide +kernel : ∀ t : Fin grid0.N, _)

theorem iblk_0 (c : Dev nD) (t : Fin cfg0.N) (g p q : ℕ) (hg : g < 16) (hp : p < 528) :
    at2 (iblk m c 0 t) (g * 528 + p) q = ax (y0 m c) ((16 * t.val + g) * 528 + p) q := by
  have ht := t_lt t
  show iblk m c 0 t _ = y0 m c _
  blk_simp [iblk]
  refine congrArg (y0 m c) (funext fun d => Fin.ext ?_)
  match d with
  | ⟨0, _⟩ =>
    blk_simp [idx_0]
    show t.val * 8448 + (g * 528 + p) % 8448 = ((16 * t.val + g) * 528 + p) % 33792
    omega
  | ⟨1, _⟩ =>
    blk_simp [idx_0]

theorem iblk_1 (c : Dev nD) (t : Fin cfg0.N) (g p q : ℕ) (hg : g < 16) (hp : p < 528) :
    at2 (iblk m c 1 t) (g * 528 + p) q = ax (y1 m c) ((16 * t.val + g) * 528 + p) q := by
  have ht := t_lt t
  show iblk m c 1 t _ = y1 m c _
  blk_simp [iblk]
  refine congrArg (y1 m c) (funext fun d => Fin.ext ?_)
  match d with
  | ⟨0, _⟩ =>
    blk_simp [idx_1]
    show t.val * 8448 + (g * 528 + p) % 8448 = ((16 * t.val + g) * 528 + p) % 33792
    omega
  | ⟨1, _⟩ =>
    blk_simp [idx_1]

theorem iblk_2 (c : Dev nD) (t : Fin cfg0.N) (g q : ℕ) (hg : g < 16) :
    pr2 (iblk m c 2 t) g q = ap (y2 m c) (16 * t.val + g) q := by
  have ht := t_lt t
  show iblk m c 2 t _ = y2 m c _
  blk_simp [iblk]
  refine congrArg (y2 m c) (funext fun d => Fin.ext ?_)
  match d with
  | ⟨0, _⟩ =>
    blk_simp [idx_2]
    show t.val * 16 + g % 16 = (16 * t.val + g) % 64
    omega
  | ⟨1, _⟩ =>
    blk_simp [idx_2]

theorem grp_lt (h : Fin 8) (l : Fin 128) : grp h.val l.val < 16 := by unfold grp; split <;> omega

/-- The state at a point's lane, over the argument arrays: forward. -/
theorem sts_fw (c : Dev nD) (t : Fin cfg0.N) (h : Fin 8) (l : Fin 128) (p : ℕ) (hp : p < 528) :
    ((sts m c t (pf p)).1 (ix2 h l), (sts m c t (pf p)).2.1 (ix2 h l))
      = fwd (y0 m c) (y1 m c) (y2 m c) (16 * t.val + grp h.val l.val) (l.val % 64) p := by
  have hg := grp_lt h l
  refine (st_fw (iblk m c 0 t) (iblk m c 1 t) (iblk m c 2 t) h l (pf p)).trans ?_
  unfold fwd
  rw [iblk_2 m c t _ _ hg, iblk_2 m c t _ _ hg, Nat.zero_add]
  exact cell_congr 528 (fun n hn => iblk_0 m c t _ _ _ hg (pf_lt n hn)) (fun n hn => iblk_1 m c t _ _ _ hg (pf_lt n hn)) _
    (le_of_lt (pf_lt p hp))

/-- The state at a point's lane, over the argument arrays: backward. -/
theorem sts_bw (c : Dev nD) (t : Fin cfg0.N) (h : Fin 8) (l : Fin 128) (p : ℕ) (hp : p < 528) :
    ((sts m c t (tb p)).2.2.1 (ix2 h l), (sts m c t (tb p)).2.2.2 (ix2 h l))
      = bwd (y0 m c) (y1 m c) (y2 m c) (16 * t.val + grp h.val l.val) (l.val % 64) p := by
  have hg := grp_lt h l
  refine (st_bw (iblk m c 0 t) (iblk m c 1 t) (iblk m c 2 t) h l (tb p)).trans ?_
  unfold bwd
  rw [iblk_2 m c t _ _ hg, iblk_2 m c t _ _ hg, Nat.zero_add, ← Nat.add_assoc 128 64]
  exact cell_congr 528 (fun n hn => iblk_0 m c t _ _ _ hg (pb_lt n hn)) (fun n hn => iblk_1 m c t _ _ _ hg (pb_lt n hn)) _
    (le_of_lt (tb_lt p hp))

/-- A result index of point `t`'s block, placed in the array. -/
theorem lay_at (f : ℕ → ℕ → ℕ → EReal) (t : ℕ) (ht : t < 4) (y : S4224x128.Idx) (z : S16896x128.Idx)
    (h0 : (z (0 : Fin 2)).val = t * 4224 + (y (0 : Fin 2)).val) (h1 : (z (1 : Fin 2)).val = 0 * 128 + (y (1 : Fin 2)).val) :
    lay f z = f (16 * t + grp (Fin.ofNat 8 ((y (0 : Fin 2)).val / 528)).val (y (1 : Fin 2)).val) ((y (1 : Fin 2)).val % 64) ((y (0 : Fin 2)).val % 528) := by
  have b0 : (y (0 : Fin 2)).val < 4224 := (y (0 : Fin 2)).isLt
  have b1 : (y (1 : Fin 2)).val < 128 := (y (1 : Fin 2)).isLt
  unfold lay grp
  rw [h0, h1]
  have e : (Fin.ofNat 8 ((y (0 : Fin 2)).val / 528)).val = (y (0 : Fin 2)).val / 528 := Nat.mod_eq_of_lt (by omega)
  rw [e]
  have a1 : 16 * ((t * 4224 + (y (0 : Fin 2)).val) / 528 / 8) + 8 * ((0 * 128 + (y (1 : Fin 2)).val) / 64) + (t * 4224 + (y (0 : Fin 2)).val) / 528 % 8
      = 16 * t + (if (y (1 : Fin 2)).val < 64 then (y (0 : Fin 2)).val / 528 else 8 + (y (0 : Fin 2)).val / 528) := by
    split <;> omega
  rw [a1, show (0 * 128 + (y (1 : Fin 2)).val) % 64 = (y (1 : Fin 2)).val % 64 by omega,
    show (t * 4224 + (y (0 : Fin 2)).val) % 528 = (y (0 : Fin 2)).val % 528 by omega]

theorem final_3 (c : Dev nD) : (dats m 0 c).arrAt 3 cfg0.N = lay (fun g n p => (fwd (y0 m c) (y1 m c) (y2 m c) g n p).1) := by
  refine (dats m 0 c).arrAt_eq_of_covers 3 _ (by decide +kernel) fun t hf y => ?_
  blk_simp
  rw [after_3]
  refine Eq.trans ?_ (lay_at _ t.val (t_lt t) y _ (by blk_simp [idx_3]) (by blk_simp [idx_3])).symm
  exact congrArg Prod.fst (sts_fw m c t _ _ _ (Nat.mod_lt _ (by decide)))

theorem final_4 (c : Dev nD) : (dats m 0 c).arrAt 4 cfg0.N = lay (fun g n p => (fwd (y0 m c) (y1 m c) (y2 m c) g n p).2) := by
  refine (dats m 0 c).arrAt_eq_of_covers 4 _ (by decide +kernel) fun t hf y => ?_
  blk_simp
  rw [after_4]
  refine Eq.trans ?_ (lay_at _ t.val (t_lt t) y _ (by blk_simp [idx_4]) (by blk_simp [idx_4])).symm
  exact congrArg Prod.snd (sts_fw m c t _ _ _ (Nat.mod_lt _ (by decide)))

theorem final_5 (c : Dev nD) : (dats m 0 c).arrAt 5 cfg0.N = lay (fun g n p => (bwd (y0 m c) (y1 m c) (y2 m c) g n p).1) := by
  refine (dats m 0 c).arrAt_eq_of_covers 5 _ (by decide +kernel) fun t hf y => ?_
  blk_simp
  rw [after_5]
  refine Eq.trans ?_ (lay_at _ t.val (t_lt t) y _ (by blk_simp [idx_5]) (by blk_simp [idx_5])).symm
  exact congrArg Prod.fst (sts_bw m c t _ _ _ (Nat.mod_lt _ (by decide)))

theorem final_6 (c : Dev nD) : (dats m 0 c).arrAt 6 cfg0.N = lay (fun g n p => (bwd (y0 m c) (y1 m c) (y2 m c) g n p).2) := by
  refine (dats m 0 c).arrAt_eq_of_covers 6 _ (by decide +kernel) fun t hf y => ?_
  blk_simp
  rw [after_6]
  refine Eq.trans ?_ (lay_at _ t.val (t_lt t) y _ (by blk_simp [idx_6]) (by blk_simp [idx_6])).symm
  exact congrArg Prod.snd (sts_bw m c t _ _ _ (Nat.mod_lt _ (by decide)))

theorem run : θ_run defs (onTc (τ := τ) (main (F := Ideal))) ⟨m, fun _ => 0, ρ⟩ fun r => ∀ c : Dev nD,
      r.2.mem ((c : Thread nD τ).loc main_v0_0) = lay (fun g n p => (fwd (y0 m c) (y1 m c) (y2 m c) g n p).1)
      ∧ r.2.mem ((c : Thread nD τ).loc main_v0_1) = lay (fun g n p => (fwd (y0 m c) (y1 m c) (y2 m c) g n p).2)
      ∧ r.2.mem ((c : Thread nD τ).loc main_v0_2) = lay (fun g n p => (bwd (y0 m c) (y1 m c) (y2 m c) g n p).1)
      ∧ r.2.mem ((c : Thread nD τ).loc main_v0_3) = lay (fun g n p => (bwd (y0 m c) (y1 m c) (y2 m c) g n p).2)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (final_3 m c), ((h c).1 4).trans (final_4 m c),
      ((h c).1 5).trans (final_5 m c), ((h c).1 6).trans (final_6 m c),
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2))⟩) (run_post m ρ)

end Cert.Proof.Fwd
end
-- ==== Proof.Fwd.Ref.lean ====
/- The reference's loop, read as the recurrence of `Cell`: what `STEP` iterated makes of each carried buffer. -/
module

public import proofs.«01_k».proof.Proof.Fwd.Cell
public import proofs.«01_k».proof.Proof.Gen.FwdReferenceIdeal.Run

@[expose] public section

set_option maxRecDepth 16384

noncomputable section

namespace Cert.Proof.Fwd.Ref

open Cert.FwdReferenceIdeal Cert.FwdReferenceIdeal.Gen Cert.FwdReferenceIdeal.Value
open Cert.Proof.Scan (row_at set_row_at)
open Idealize.ShloMosaic hiding ix1 ix2 ix3 ix4 ix5
open Idealize.ShloMosaic.ValueIdx Idealize.ShloMosaic.TcCoe

local notation "Vl" => Valuation τ sig (Elt Ideal)

/-- Carried buffer 0 of the loop. -/
def c0 (V : Vl) : S528x64x64.Idx → EReal := V (Proc.devRef .tc main_v33_0)
/-- Carried buffer 1 of the loop. -/
def c1 (V : Vl) : S528x64x64.Idx → EReal := V (Proc.devRef .tc main_v33_1)
/-- Carried buffer 2 of the loop. -/
def c2 (V : Vl) : S528x64x64.Idx → EReal := V (Proc.devRef .tc main_v33_2)
/-- Carried buffer 3 of the loop. -/
def c3 (V : Vl) : S528x64x64.Idx → EReal := V (Proc.devRef .tc main_v33_3)
/-- Carried buffer 4 of the loop. -/
def c4 (V : Vl) : S64x64.Idx → EReal := V (Proc.devRef .tc main_v33_4)
/-- Carried buffer 5 of the loop. -/
def c5 (V : Vl) : S64x64.Idx → EReal := V (Proc.devRef .tc main_v33_5)
/-- Carried buffer 6 of the loop. -/
def c6 (V : Vl) : S64x64.Idx → EReal := V (Proc.devRef .tc main_v33_6)
/-- Carried buffer 7 of the loop. -/
def c7 (V : Vl) : S64x64.Idx → EReal := V (Proc.devRef .tc main_v33_7)
/-- Carried buffer 9 of the loop. -/
def c9 (V : Vl) : S64x64.Idx → EReal := V (Proc.devRef .tc main_v33_9)
/-- Carried buffer 10 of the loop. -/
def c10 (V : Vl) : S64x64.Idx → EReal := V (Proc.devRef .tc main_v33_10)
/-- Carried buffer 11 of the loop. -/
def c11 (V : Vl) : S64x64.Idx → EReal := V (Proc.devRef .tc main_v33_11)
/-- Carried buffer 12 of the loop. -/
def c12 (V : Vl) : S64x64.Idx → EReal := V (Proc.devRef .tc main_v33_12)
/-- Carried buffer 13 of the loop. -/
def c13 (V : Vl) : S528x64x64.Idx → EReal := V (Proc.devRef .tc main_v33_13)
/-- Carried buffer 14 of the loop. -/
def c14 (V : Vl) : S528x64x64.Idx → EReal := V (Proc.devRef .tc main_v33_14)
/-- Carried buffer 15 of the loop. -/
def c15 (V : Vl) : S528x64x64.Idx → EReal := V (Proc.devRef .tc main_v33_15)
/-- Carried buffer 16 of the loop. -/
def c16 (V : Vl) : S528x64x64.Idx → EReal := V (Proc.devRef .tc main_v33_16)

/-- The row read at trip `k`. -/
abbrev rk (k : ℕ) : Fin 528 := ⟨k % 528, Nat.mod_lt _ (by decide)⟩

/-- The counter holds trip `k`. -/
def At (V : Vl) (k : ℕ) : Prop := V (Proc.devRef .tc main_v33_8) = fun _ => BitVec.ofNat 32 k

/-- The starts of the trip's slices. -/
abbrev starts (V : Vl) : Fin 3 → Int := fun k => (((![V (Proc.devRef .tc main_v33_8), constantI S_ 32 0#32, constantI S_ 32 0#32] : Fin 3 → (⟨S_, .i32⟩ : BufTy).Contents (Elt Ideal))) k (Shape.Idx.first h_S_)).toInt

variable (V : Vl) (k : ℕ) (hk : k < 528) (hc : At V k)

theorem starts_0 (hk : k < 528) (hc : At V k) : starts V 0 = (((rk k).val : ℕ) : Int) := by
  show (V (Proc.devRef .tc main_v33_8) (Shape.Idx.first h_S_)).toInt = _
  rw [hc, toInt_ofNat_of_lt (by omega)]
  show (k : Int) = ((k % 528 : ℕ) : Int)
  rw [Nat.mod_eq_of_lt hk]
theorem starts_1 : starts V 1 = 0 := rfl
theorem starts_2 : starts V 2 = 0 := rfl

theorem step_8 (hc : At V k) : At (STEP V) (k + 1) := by
  unfold At at *
  rw [STEP_main_v33_8]; unfold step_main_v33_8; rw [hc]
  funext i
  show BitVec.ofNat 32 k + 1#32 = _
  rw [BitVec.ofNat_add]
theorem keep_0 : c0 (STEP V) = c0 V := STEP_main_v33_0 V
theorem keep_1 : c1 (STEP V) = c1 V := STEP_main_v33_1 V
theorem keep_2 : c2 (STEP V) = c2 V := STEP_main_v33_2 V
theorem keep_3 : c3 (STEP V) = c3 V := STEP_main_v33_3 V
theorem keep_4 : c4 (STEP V) = c4 V := STEP_main_v33_4 V
theorem keep_5 : c5 (STEP V) = c5 V := STEP_main_v33_5 V
theorem keep_6 : c6 (STEP V) = c6 V := STEP_main_v33_6 V
theorem keep_7 : c7 (STEP V) = c7 V := STEP_main_v33_7 V

include hk hc
theorem step_9 (a b : Fin 64) : c9 (STEP V) (ix2 a b) = c4 V (ix2 a b) * c9 V (ix2 a b) - c5 V (ix2 a b) * c10 V (ix2 a b) + c0 V (ix3 (rk k) a b) := by
  unfold c9
  rw [STEP_main_v33_9]
  unfold step_main_v33_9
  refine congrArg (fun z : EReal => (c4 V (ix2 a b) * c9 V (ix2 a b) - c5 V (ix2 a b) * c10 V (ix2 a b)) + z) ?_
  exact row_at (N := 528) (A := 64) (B := 64) (c0 V) (starts V) _ _ (rk k) (starts_0 V k hk hc) (starts_1 V) (starts_2 V) a b
theorem step_10 (a b : Fin 64) : c10 (STEP V) (ix2 a b) = c4 V (ix2 a b) * c10 V (ix2 a b) + c5 V (ix2 a b) * c9 V (ix2 a b) + c1 V (ix3 (rk k) a b) := by
  unfold c10
  rw [STEP_main_v33_10]
  unfold step_main_v33_10
  refine congrArg (fun z : EReal => (c4 V (ix2 a b) * c10 V (ix2 a b) + c5 V (ix2 a b) * c9 V (ix2 a b)) + z) ?_
  exact row_at (N := 528) (A := 64) (B := 64) (c1 V) (starts V) _ _ (rk k) (starts_0 V k hk hc) (starts_1 V) (starts_2 V) a b
theorem step_11 (a b : Fin 64) : c11 (STEP V) (ix2 a b) = c6 V (ix2 a b) * c11 V (ix2 a b) - c7 V (ix2 a b) * c12 V (ix2 a b) + c2 V (ix3 (rk k) a b) := by
  unfold c11
  rw [STEP_main_v33_11]
  unfold step_main_v33_11
  refine congrArg (fun z : EReal => (c6 V (ix2 a b) * c11 V (ix2 a b) - c7 V (ix2 a b) * c12 V (ix2 a b)) + z) ?_
  exact row_at (N := 528) (A := 64) (B := 64) (c2 V) (starts V) _ _ (rk k) (starts_0 V k hk hc) (starts_1 V) (starts_2 V) a b
theorem step_12 (a b : Fin 64) : c12 (STEP V) (ix2 a b) = c6 V (ix2 a b) * c12 V (ix2 a b) + c7 V (ix2 a b) * c11 V (ix2 a b) + c3 V (ix3 (rk k) a b) := by
  unfold c12
  rw [STEP_main_v33_12]
  unfold step_main_v33_12
  refine congrArg (fun z : EReal => (c6 V (ix2 a b) * c12 V (ix2 a b) + c7 V (ix2 a b) * c11 V (ix2 a b)) + z) ?_
  exact row_at (N := 528) (A := 64) (B := 64) (c3 V) (starts V) _ _ (rk k) (starts_0 V k hk hc) (starts_1 V) (starts_2 V) a b
theorem step_13 (p : Fin 528) (a b : Fin 64) : c13 (STEP V) (ix3 p a b) = if p = rk k then c9 V (ix2 a b) else c13 V (ix3 p a b) := by
  rw [show c13 (STEP V) = step_main_v33_13 V from STEP_main_v33_13 V]
  unfold step_main_v33_13
  exact set_row_at (N := 528) (A := 64) (B := 64) (c13 V) (c9 V) (starts V) _ _ (by decide) (by decide) (rk k) (starts_0 V k hk hc) (starts_1 V) (starts_2 V) p a b
theorem step_14 (p : Fin 528) (a b : Fin 64) : c14 (STEP V) (ix3 p a b) = if p = rk k then c10 V (ix2 a b) else c14 V (ix3 p a b) := by
  rw [show c14 (STEP V) = step_main_v33_14 V from STEP_main_v33_14 V]
  unfold step_main_v33_14
  exact set_row_at (N := 528) (A := 64) (B := 64) (c14 V) (c10 V) (starts V) _ _ (by decide) (by decide) (rk k) (starts_0 V k hk hc) (starts_1 V) (starts_2 V) p a b
theorem step_15 (p : Fin 528) (a b : Fin 64) : c15 (STEP V) (ix3 p a b) = if p = rk k then c11 V (ix2 a b) else c15 V (ix3 p a b) := by
  rw [show c15 (STEP V) = step_main_v33_15 V from STEP_main_v33_15 V]
  unfold step_main_v33_15
  exact set_row_at (N := 528) (A := 64) (B := 64) (c15 V) (c11 V) (starts V) _ _ (by decide) (by decide) (rk k) (starts_0 V k hk hc) (starts_1 V) (starts_2 V) p a b
theorem step_16 (p : Fin 528) (a b : Fin 64) : c16 (STEP V) (ix3 p a b) = if p = rk k then c12 V (ix2 a b) else c16 V (ix3 p a b) := by
  rw [show c16 (STEP V) = step_main_v33_16 V from STEP_main_v33_16 V]
  unfold step_main_v33_16
  exact set_row_at (N := 528) (A := 64) (B := 64) (c16 V) (c12 V) (starts V) _ _ (by decide) (by decide) (rk k) (starts_0 V k hk hc) (starts_1 V) (starts_2 V) p a b

omit hk hc

/-- The state of the forward direction at group `a`, lane `b`, before trip `k`. -/
def fw (W : Vl) (a b : Fin 64) (k : ℕ) : EReal × EReal :=
  cell (fun t => c0 W (ix3 (rk t) a b)) (fun t => c1 W (ix3 (rk t) a b)) (c4 W (ix2 a b)) (c5 W (ix2 a b)) k

/-- The state of the other direction. -/
def bw (W : Vl) (a b : Fin 64) (k : ℕ) : EReal × EReal :=
  cell (fun t => c2 W (ix3 (rk t) a b)) (fun t => c3 W (ix3 (rk t) a b)) (c6 W (ix2 a b)) (c7 W (ix2 a b)) k

/-- The loop's entry: the counter and the carries at zero. -/
structure Entry (W : Vl) : Prop where
  at0 : At W 0
  z9 : ∀ i, c9 W i = 0
  z10 : ∀ i, c10 W i = 0
  z11 : ∀ i, c11 W i = 0
  z12 : ∀ i, c12 W i = 0

/-- What holds before trip `k`. -/
structure Inv (W S : Vl) (k : ℕ) : Prop where
  at_ : At S k
  k0 : c0 S = c0 W
  k1 : c1 S = c1 W
  k2 : c2 S = c2 W
  k3 : c3 S = c3 W
  k4 : c4 S = c4 W
  k5 : c5 S = c5 W
  k6 : c6 S = c6 W
  k7 : c7 S = c7 W
  s9 : ∀ a b : Fin 64, c9 S (ix2 a b) = (fw W a b k).1
  s10 : ∀ a b : Fin 64, c10 S (ix2 a b) = (fw W a b k).2
  s11 : ∀ a b : Fin 64, c11 S (ix2 a b) = (bw W a b k).1
  s12 : ∀ a b : Fin 64, c12 S (ix2 a b) = (bw W a b k).2
  s13 : ∀ (p : Fin 528) (a b : Fin 64), p.val < k → c13 S (ix3 p a b) = (fw W a b (p.val)).1
  s14 : ∀ (p : Fin 528) (a b : Fin 64), p.val < k → c14 S (ix3 p a b) = (fw W a b (p.val)).2
  s15 : ∀ (p : Fin 528) (a b : Fin 64), p.val < k → c15 S (ix3 p a b) = (bw W a b (p.val)).1
  s16 : ∀ (p : Fin 528) (a b : Fin 64), p.val < k → c16 S (ix3 p a b) = (bw W a b (p.val)).2

theorem inv_step (W S : Vl) (k : ℕ) (hk : k < 528) (h : Inv W S k) : Inv W (STEP S) (k + 1) where
  at_ := step_8 S k h.at_
  k0 := (keep_0 S).trans h.k0
  k1 := (keep_1 S).trans h.k1
  k2 := (keep_2 S).trans h.k2
  k3 := (keep_3 S).trans h.k3
  k4 := (keep_4 S).trans h.k4
  k5 := (keep_5 S).trans h.k5
  k6 := (keep_6 S).trans h.k6
  k7 := (keep_7 S).trans h.k7
  s9 a b := by
    rw [step_9 S k hk h.at_, h.k0, h.k5, h.k4, h.s9, h.s10]
    rfl
  s10 a b := by
    rw [step_10 S k hk h.at_, h.k1, h.k5, h.k4, h.s9, h.s10]
    rfl
  s11 a b := by
    rw [step_11 S k hk h.at_, h.k2, h.k7, h.k6, h.s11, h.s12]
    rfl
  s12 a b := by
    rw [step_12 S k hk h.at_, h.k3, h.k7, h.k6, h.s11, h.s12]
    rfl
  s13 p a b hp := by
    rw [step_13 S k hk h.at_]
    by_cases e : p = rk k
    · rw [if_pos e, h.s9, e]
      have : (rk k).val = k := Nat.mod_eq_of_lt hk
      rw [this]
    · rw [if_neg e]
      refine h.s13 p a b ?_
      have : p.val ≠ k := fun h => e (Fin.ext (h.trans (Nat.mod_eq_of_lt hk).symm))
      omega
  s14 p a b hp := by
    rw [step_14 S k hk h.at_]
    by_cases e : p = rk k
    · rw [if_pos e, h.s10, e]
      have : (rk k).val = k := Nat.mod_eq_of_lt hk
      rw [this]
    · rw [if_neg e]
      refine h.s14 p a b ?_
      have : p.val ≠ k := fun h => e (Fin.ext (h.trans (Nat.mod_eq_of_lt hk).symm))
      omega
  s15 p a b hp := by
    rw [step_15 S k hk h.at_]
    by_cases e : p = rk k
    · rw [if_pos e, h.s11, e]
      have : (rk k).val = k := Nat.mod_eq_of_lt hk
      rw [this]
    · rw [if_neg e]
      refine h.s15 p a b ?_
      have : p.val ≠ k := fun h => e (Fin.ext (h.trans (Nat.mod_eq_of_lt hk).symm))
      omega
  s16 p a b hp := by
    rw [step_16 S k hk h.at_]
    by_cases e : p = rk k
    · rw [if_pos e, h.s12, e]
      have : (rk k).val = k := Nat.mod_eq_of_lt hk
      rw [this]
    · rw [if_neg e]
      refine h.s16 p a b ?_
      have : p.val ≠ k := fun h => e (Fin.ext (h.trans (Nat.mod_eq_of_lt hk).symm))
      omega

theorem inv_zero (W : Vl) (h : Entry W) : Inv W W 0 where
  at_ := h.at0
  k0 := rfl
  k1 := rfl
  k2 := rfl
  k3 := rfl
  k4 := rfl
  k5 := rfl
  k6 := rfl
  k7 := rfl
  s9 _ _ := h.z9 _
  s10 _ _ := h.z10 _
  s11 _ _ := h.z11 _
  s12 _ _ := h.z12 _
  s13 p _ _ hp := absurd hp (by omega)
  s14 p _ _ hp := absurd hp (by omega)
  s15 p _ _ hp := absurd hp (by omega)
  s16 p _ _ hp := absurd hp (by omega)

theorem inv_all (W : Vl) (h : Entry W) : ∀ k ≤ 528, Inv W (STEP^[k] W) k
  | 0, _ => inv_zero W h
  | k + 1, hk => by
    rw [Function.iterate_succ_apply']
    exact inv_step W _ k (by omega) (inv_all W h k (by omega))

end Cert.Proof.Fwd.Ref
end
-- ==== Proof.Fwd.Read.lean ====
/- The reference's layouts: the loop's entry read from the arguments, and the results read from the loop's stacks. -/
module

public import proofs.«01_k».proof.Proof.Fwd.Ref
public import Idealize.ShloMosaic.Lib.KernelVsHost

@[expose] public section

set_option maxRecDepth 16384

noncomputable section

namespace Cert.Proof.Fwd.Ref

open Cert.FwdReferenceIdeal Cert.FwdReferenceIdeal.Gen Cert.FwdReferenceIdeal.Value
open Idealize.ShloMosaic hiding ix1 ix2 ix3 ix4 ix5
open Idealize.ShloMosaic.ValueIdx Idealize.ShloMosaic.TcCoe
open Idealize.ShloMosaic.StableHlo

local notation "Vl" => Valuation τ sig (Elt Ideal)

/-- Row `p` of the other direction's order. -/
def turn (p : Fin 528) : Fin 528 := ⟨if p.val < 16 then 15 - p.val else 543 - p.val, by split <;> omega⟩

/-- The order: the two pieces, each reversed. -/
abbrev ordr (x : S528x64x64.Idx → EReal) : S528x64x64.Idx → EReal :=
  concatenate S528x64x64 0 [⟨S16x64x64, (Host.reverse [0] (extractStridedSlice S16x64x64 ![0, 0, 0] x slices_S528x64x64_S16x64x64_0_0_0))⟩, ⟨S512x64x64, (Host.reverse [0] (extractStridedSlice S512x64x64 ![16, 0, 0] x slices_S528x64x64_S512x64x64_16_0_0))⟩] concatenates_S16x64x64_S512x64x64_S528x64x64_d0

theorem zero_word : Ideal.ofBits .f32 0x00000000#32 = 0 := by simp [Ideal.ofBits_def]

theorem ordr_at (x : S528x64x64.Idx → EReal) (p : Fin 528) (a b : Fin 64) : ordr x (ix3 p a b) = x (ix3 (turn p) a b) := by
  by_cases h : p.val < 16
  · refine (concatenate_pair_apply_left (t := S528x64x64) (s₁ := S16x64x64) (s₂ := S512x64x64) 0 _ _ _ (ix3 p a b) rfl (ix3 (n0 := 16) ⟨p.val, h⟩ a b) ?_).trans ?_
    · intro d
      match d with
      | ⟨0, _⟩ => rfl
      | ⟨1, _⟩ => rfl
      | ⟨2, _⟩ => rfl
    refine congrArg x (funext fun d => ?_)
    match d with
    | ⟨0, _⟩ => exact Fin.ext (by
        show 0 + (16 - (p.val + 1)) = (turn p).val
        simp only [turn, if_pos h]; omega)
    | ⟨1, _⟩ => exact Fin.ext (by show 0 + a.val = a.val; omega)
    | ⟨2, _⟩ => exact Fin.ext (by show 0 + b.val = b.val; omega)
  · refine (concatenate_pair_apply_right (t := S528x64x64) (s₁ := S16x64x64) (s₂ := S512x64x64) 0 _ _ _ (ix3 p a b) rfl rfl (ix3 (n0 := 512) ⟨p.val - 16, by omega⟩ a b) ?_ ?_).trans ?_
    · intro d hd
      match d with
      | ⟨0, _⟩ => exact absurd rfl hd
      | ⟨1, _⟩ => rfl
      | ⟨2, _⟩ => rfl
    · show p.val - 16 + 16 = p.val
      omega
    refine congrArg x (funext fun d => ?_)
    match d with
    | ⟨0, _⟩ => exact Fin.ext (by
        show 16 + (512 - (p.val - 16 + 1)) = (turn p).val
        simp only [turn, if_neg h]; omega)
    | ⟨1, _⟩ => exact Fin.ext (by show 0 + a.val = a.val; omega)
    | ⟨2, _⟩ => exact Fin.ext (by show 0 + b.val = b.val; omega)

/-- The split of the inputs: row `528 g + p`, lane `64 d + n`. -/
theorem split_at (x : S33792x128.Idx → EReal) (d : Fin 2) (off : Fin 4 → ℕ) (ho : off = ![d.val, 0, 0, 0])
    (hs : S2x528x64x64.Slices off S1x528x64x64) (p : Fin 528) (g n : Fin 64) :
    shapeCast S528x64x64 (extractStridedSlice S1x528x64x64 off (transpose S2x528x64x64 [2, 1, 0, 3] (shapeCast S64x528x2x64 x shapeCasts_S33792x128_S64x528x2x64) transposes_S64x528x2x64_S2x528x64x64_2_1_0_3) hs) shapeCasts_S1x528x64x64_S528x64x64 (ix3 p g n)
      = x (ix2 ⟨g.val * 528 + p.val, by omega⟩ ⟨d.val * 64 + n.val, by omega⟩) := by
  subst ho
  refine (shapeCast_1abc_abc_apply (m := 528) (a := 64) (b := 64) _ _ p g n).trans ?_
  refine (congrArg (shapeCast S64x528x2x64 x shapeCasts_S33792x128_S64x528x2x64) (a₂ := ix4 g p d n) (funext fun q => ?_)).trans ?_
  · match q with
    | ⟨0, _⟩ => exact Fin.ext (by show 0 + g.val = g.val; omega)
    | ⟨1, _⟩ => exact Fin.ext (by show 0 + p.val = p.val; omega)
    | ⟨2, _⟩ => exact Fin.ext (by show d.val + 0 = d.val; omega)
    | ⟨3, _⟩ => exact Fin.ext (by show 0 + n.val = n.val; omega)
  refine shapeCast_apply x _ _ _ ?_
  rw [Shape.rowMajor_val_four, Shape.rowMajor_val_two]
  show (g.val * 528 + p.val) * 128 + (d.val * 64 + n.val) = ((g.val * 528 + p.val) * 2 + d.val) * 64 + n.val
  omega

/-- The join of a result: row `528 (8 q + h) + p`, lane `64 d + n` is group `16 q + 8 d + h`. -/
theorem join_at (x : S528x64x64.Idx → EReal) (q : Fin 4) (h : Fin 8) (p : Fin 528) (d : Fin 2) (n : Fin 64) :
    shapeCast S16896x128 (transpose S4x8x528x2x64 [1, 3, 0, 2, 4] (shapeCast S528x4x2x8x64 x shapeCasts_S528x64x64_S528x4x2x8x64) transposes_S528x4x2x8x64_S4x8x528x2x64_1_3_0_2_4) shapeCasts_S4x8x528x2x64_S16896x128
      (ix2 ⟨(q.val * 8 + h.val) * 528 + p.val, by omega⟩ ⟨d.val * 64 + n.val, by omega⟩)
      = x (ix3 p ⟨q.val * 16 + d.val * 8 + h.val, by omega⟩ n) := by
  rw [shapeCast_apply _ shapeCasts_S4x8x528x2x64_S16896x128 _ (ix5 q h p d n) (by
    rw [Shape.rowMajor_val_five, Shape.rowMajor_val_two]
    show (((q.val * 8 + h.val) * 528 + p.val) * 2 + d.val) * 64 + n.val = ((q.val * 8 + h.val) * 528 + p.val) * 128 + (d.val * 64 + n.val)
    omega)]
  show shapeCast S528x4x2x8x64 x shapeCasts_S528x64x64_S528x4x2x8x64 _ = _
  refine shapeCast_apply x _ _ _ ?_
  rw [Shape.rowMajor_val_five, Shape.rowMajor_val_three]
  show (p.val * 64 + (q.val * 16 + d.val * 8 + h.val)) * 64 + n.val = (((p.val * 4 + q.val) * 2 + d.val) * 8 + h.val) * 64 + n.val
  omega

variable (m : (ℓ : Loc nD τ sig) → Buf (Elt Ideal) ℓ) (c : Dev nD)

/-- The arguments. -/
def x0 : S33792x128.Idx → EReal := m ((c.tc : Thread nD τ).loc main_arg0)
def x1 : S33792x128.Idx → EReal := m ((c.tc : Thread nD τ).loc main_arg1)
def x2 : S64x256.Idx → EReal := m ((c.tc : Thread nD τ).loc main_arg2)

/-- The loop's entry. -/
abbrev W : Vl := entryContents preI m c

set_option maxHeartbeats 4000000 in
theorem entry_0 : c0 (W m c) = shapeCast S528x64x64 (extractStridedSlice S1x528x64x64 ![0, 0, 0, 0] (transpose S2x528x64x64 [2, 1, 0, 3] (shapeCast S64x528x2x64 (x0 m c) shapeCasts_S33792x128_S64x528x2x64) transposes_S64x528x2x64_S2x528x64x64_2_1_0_3) slices_S2x528x64x64_S1x528x64x64_0_0_0_0) shapeCasts_S1x528x64x64_S528x64x64 := by
  simp only [W, entryContents, preI, afterL_cons, afterL_nil, hostOps0, c0]
  after_results_entrywise []
  all_goals rfl
set_option maxHeartbeats 4000000 in
theorem entry_1 : c1 (W m c) = shapeCast S528x64x64 (extractStridedSlice S1x528x64x64 ![0, 0, 0, 0] (transpose S2x528x64x64 [2, 1, 0, 3] (shapeCast S64x528x2x64 (x1 m c) shapeCasts_S33792x128_S64x528x2x64) transposes_S64x528x2x64_S2x528x64x64_2_1_0_3) slices_S2x528x64x64_S1x528x64x64_0_0_0_0) shapeCasts_S1x528x64x64_S528x64x64 := by
  simp only [W, entryContents, preI, afterL_cons, afterL_nil, hostOps0, c1]
  after_results_entrywise []
  all_goals rfl
set_option maxHeartbeats 4000000 in
theorem entry_2 : c2 (W m c) = ordr (shapeCast S528x64x64 (extractStridedSlice S1x528x64x64 ![1, 0, 0, 0] (transpose S2x528x64x64 [2, 1, 0, 3] (shapeCast S64x528x2x64 (x0 m c) shapeCasts_S33792x128_S64x528x2x64) transposes_S64x528x2x64_S2x528x64x64_2_1_0_3) slices_S2x528x64x64_S1x528x64x64_1_0_0_0) shapeCasts_S1x528x64x64_S528x64x64) := by
  simp only [W, entryContents, preI, afterL_cons, afterL_nil, hostOps0, c2]
  after_results_entrywise []
  all_goals rfl
set_option maxHeartbeats 4000000 in
theorem entry_3 : c3 (W m c) = ordr (shapeCast S528x64x64 (extractStridedSlice S1x528x64x64 ![1, 0, 0, 0] (transpose S2x528x64x64 [2, 1, 0, 3] (shapeCast S64x528x2x64 (x1 m c) shapeCasts_S33792x128_S64x528x2x64) transposes_S64x528x2x64_S2x528x64x64_2_1_0_3) slices_S2x528x64x64_S1x528x64x64_1_0_0_0) shapeCasts_S1x528x64x64_S528x64x64) := by
  simp only [W, entryContents, preI, afterL_cons, afterL_nil, hostOps0, c3]
  after_results_entrywise []
  all_goals rfl
set_option maxHeartbeats 4000000 in
theorem entry_4 : c4 (W m c) = extractStridedSlice S64x64 ![0, 0] (extractStridedSlice S64x128 ![0, 0] (x2 m c) slices_S64x256_S64x128_0_0) slices_S64x128_S64x64_0_0 := by
  simp only [W, entryContents, preI, afterL_cons, afterL_nil, hostOps0, c4]
  after_results_entrywise []
  all_goals rfl
set_option maxHeartbeats 4000000 in
theorem entry_5 : c5 (W m c) = extractStridedSlice S64x64 ![0, 0] (extractStridedSlice S64x128 ![0, 128] (x2 m c) slices_S64x256_S64x128_0_128) slices_S64x128_S64x64_0_0 := by
  simp only [W, entryContents, preI, afterL_cons, afterL_nil, hostOps0, c5]
  after_results_entrywise []
  all_goals rfl
set_option maxHeartbeats 4000000 in
theorem entry_6 : c6 (W m c) = extractStridedSlice S64x64 ![0, 64] (extractStridedSlice S64x128 ![0, 0] (x2 m c) slices_S64x256_S64x128_0_0) slices_S64x128_S64x64_0_64 := by
  simp only [W, entryContents, preI, afterL_cons, afterL_nil, hostOps0, c6]
  after_results_entrywise []
  all_goals rfl
set_option maxHeartbeats 4000000 in
theorem entry_7 : c7 (W m c) = extractStridedSlice S64x64 ![0, 64] (extractStridedSlice S64x128 ![0, 128] (x2 m c) slices_S64x256_S64x128_0_128) slices_S64x128_S64x64_0_64 := by
  simp only [W, entryContents, preI, afterL_cons, afterL_nil, hostOps0, c7]
  after_results_entrywise []
  all_goals rfl
set_option maxHeartbeats 4000000 in
theorem entry_9 : c9 (W m c) = broadcastInDim S64x64 ![] bcast_S_S64x64 (constant (F := Ideal) S_ .f32 0x00000000#32) := by
  simp only [W, entryContents, preI, afterL_cons, afterL_nil, hostOps0, c9]
  after_results_entrywise []
  all_goals rfl
set_option maxHeartbeats 4000000 in
theorem entry_10 : c10 (W m c) = broadcastInDim S64x64 ![] bcast_S_S64x64 (constant (F := Ideal) S_ .f32 0x00000000#32) := by
  simp only [W, entryContents, preI, afterL_cons, afterL_nil, hostOps0, c10]
  after_results_entrywise []
  all_goals rfl
set_option maxHeartbeats 4000000 in
theorem entry_11 : c11 (W m c) = broadcastInDim S64x64 ![] bcast_S_S64x64 (constant (F := Ideal) S_ .f32 0x00000000#32) := by
  simp only [W, entryContents, preI, afterL_cons, afterL_nil, hostOps0, c11]
  after_results_entrywise []
  all_goals rfl
set_option maxHeartbeats 4000000 in
theorem entry_12 : c12 (W m c) = broadcastInDim S64x64 ![] bcast_S_S64x64 (constant (F := Ideal) S_ .f32 0x00000000#32) := by
  simp only [W, entryContents, preI, afterL_cons, afterL_nil, hostOps0, c12]
  after_results_entrywise []
  all_goals rfl

end Cert.Proof.Fwd.Ref
end
-- ==== Proof.Fwd.Alg.lean ====
/- The two programs' results are the same states: the reference's stacks, read back through its layouts, hold at every
   row and lane what the kernel's arrays hold. -/
module

public import proofs.«01_k».proof.Proof.Fwd.Final
public import proofs.«01_k».proof.Proof.Fwd.Read

@[expose] public section

set_option maxRecDepth 16384

noncomputable section

namespace Cert.Proof.Fwd.Ref

open Cert.FwdReferenceIdeal Cert.FwdReferenceIdeal.Gen Cert.FwdReferenceIdeal.Value
open Cert.Proof.Fwd
open Idealize.ShloMosaic hiding ix1 ix2 ix3 ix4 ix5
open Idealize.ShloMosaic.ValueIdx Idealize.ShloMosaic.TcCoe
open Idealize.ShloMosaic.StableHlo

variable (m : (ℓ : Loc nD τ sig) → Buf (Elt Ideal) ℓ) (c : Dev nD)

theorem ax_of (x : S33792x128.Idx → EReal) (p q p' q' : ℕ) (hp : p < 33792) (hq : q < 128) (ep : p = p') (eq : q = q') :
    x (ix2 ⟨p, hp⟩ ⟨q, hq⟩) = ax x p' q' := by
  subst ep eq
  unfold ax
  congr 2
  · exact Fin.ext (Nat.mod_eq_of_lt hp).symm
  · exact Fin.ext (Nat.mod_eq_of_lt hq).symm

theorem cols_at (x : S64x256.Idx → EReal) (u v : ℕ) (hu : u + 128 ≤ 256) (hv : v + 64 ≤ 128)
    (h1 : S64x256.Slices ![0, u] S64x128) (h2 : S64x128.Slices ![0, v] S64x64) (a b : Fin 64) :
    extractStridedSlice S64x64 ![0, v] (extractStridedSlice S64x128 ![0, u] x h1) h2 (ix2 a b) = ap x a.val (u + v + b.val) := by
  refine congrArg x (funext fun d => ?_)
  match d with
  | ⟨0, _⟩ => exact Fin.ext (by show 0 + (0 + a.val) = a.val % 64; omega)
  | ⟨1, _⟩ => exact Fin.ext (by show u + (v + b.val) = (u + v + b.val) % 256; omega)

theorem entry : Entry (W m c) where
  at0 := ctr_entry m c
  z9 := fun i => by rw [entry_9]; exact zero_word
  z10 := fun i => by rw [entry_10]; exact zero_word
  z11 := fun i => by rw [entry_11]; exact zero_word
  z12 := fun i => by rw [entry_12]; exact zero_word

theorem turn_rk (t : ℕ) (h : t < 528) : (turn (rk t)).val = pb t := by
  unfold turn pb
  show (if t % 528 < 16 then 15 - t % 528 else 543 - t % 528) = _
  rw [Nat.mod_eq_of_lt h]

theorem turn_tb (p : Fin 528) : (turn p).val = tb p.val := rfl

theorem rk_pf (t : ℕ) (h : t < 528) : (rk t).val = pf t := Nat.mod_eq_of_lt h

theorem fw_eq (a b : Fin 64) (p : Fin 528) :
    fw (W m c) a b p.val = fwd (x0 m c) (x1 m c) (x2 m c) a.val b.val p.val := by
  unfold fw fwd
  rw [entry_4, entry_5, cols_at _ 0 0 (by decide) (by decide), cols_at _ 128 0 (by decide) (by decide), Nat.add_zero, Nat.add_zero, Nat.zero_add]
  refine cell_congr 528 (fun t ht => ?_) (fun t ht => ?_) _ (by omega)
  · rw [entry_0]
    exact (split_at _ 0 _ rfl _ _ _ _).trans (ax_of _ _ _ _ _ _ _ (by rw [rk_pf t ht]) (by show 0 * 64 + b.val = b.val; omega))
  · rw [entry_1]
    exact (split_at _ 0 _ rfl _ _ _ _).trans (ax_of _ _ _ _ _ _ _ (by rw [rk_pf t ht]) (by show 0 * 64 + b.val = b.val; omega))

theorem bw_eq (a b : Fin 64) (p : Fin 528) :
    bw (W m c) a b (turn p).val = bwd (x0 m c) (x1 m c) (x2 m c) a.val b.val p.val := by
  unfold bw bwd
  rw [entry_6, entry_7, cols_at _ 0 64 (by decide) (by decide), cols_at _ 128 64 (by decide) (by decide), Nat.zero_add, turn_tb]
  refine cell_congr 528 (fun t ht => ?_) (fun t ht => ?_) _ (le_of_lt (tb_lt _ p.isLt))
  · rw [entry_2, ordr_at]
    exact (split_at _ 1 _ rfl _ _ _ _).trans (ax_of _ _ _ _ _ _ _ (by rw [turn_rk t ht]) (by show 1 * 64 + b.val = 64 + b.val; omega))
  · rw [entry_3, ordr_at]
    exact (split_at _ 1 _ rfl _ _ _ _).trans (ax_of _ _ _ _ _ _ _ (by rw [turn_rk t ht]) (by show 1 * 64 + b.val = 64 + b.val; omega))

/-- A joined result whose stack holds `f` at every group, number and chunk. -/
theorem join_lay (x : S528x64x64.Idx → EReal) (f : ℕ → ℕ → ℕ → EReal)
    (hx : ∀ (p : Fin 528) (a b : Fin 64), x (ix3 p a b) = f a.val b.val p.val) :
    shapeCast S16896x128 (transpose S4x8x528x2x64 [1, 3, 0, 2, 4] (shapeCast S528x4x2x8x64 x shapeCasts_S528x64x64_S528x4x2x8x64) transposes_S528x4x2x8x64_S4x8x528x2x64_1_3_0_2_4) shapeCasts_S4x8x528x2x64_S16896x128
      = lay f := by
  funext y
  have b0 : (y (0 : Fin 2)).val < 16896 := (y (0 : Fin 2)).isLt
  have b1 : (y (1 : Fin 2)).val < 128 := (y (1 : Fin 2)).isLt
  have hy : y = ix2 ⟨((y (0 : Fin 2)).val / 528 / 8 * 8 + (y (0 : Fin 2)).val / 528 % 8) * 528 + (y (0 : Fin 2)).val % 528, by omega⟩
      ⟨(y (1 : Fin 2)).val / 64 * 64 + (y (1 : Fin 2)).val % 64, by omega⟩ := by
    funext d
    match d with
    | ⟨0, _⟩ => exact Fin.ext (by show (y (0 : Fin 2)).val = ((y (0 : Fin 2)).val / 528 / 8 * 8 + (y (0 : Fin 2)).val / 528 % 8) * 528 + (y (0 : Fin 2)).val % 528; omega)
    | ⟨1, _⟩ => exact Fin.ext (by show (y (1 : Fin 2)).val = (y (1 : Fin 2)).val / 64 * 64 + (y (1 : Fin 2)).val % 64; omega)
  refine (congrArg _ hy).trans ((join_at x ⟨(y (0 : Fin 2)).val / 528 / 8, by omega⟩ ⟨(y (0 : Fin 2)).val / 528 % 8, by omega⟩
    ⟨(y (0 : Fin 2)).val % 528, by omega⟩ ⟨(y (1 : Fin 2)).val / 64, by omega⟩ ⟨(y (1 : Fin 2)).val % 64, by omega⟩).trans ?_)
  rw [hx]
  unfold lay
  show f ((y (0 : Fin 2)).val / 528 / 8 * 16 + (y (1 : Fin 2)).val / 64 * 8 + (y (0 : Fin 2)).val / 528 % 8) _ _ = _
  congr 1
  omega

theorem res_0 : out_main_v36 (STEP^[528] (W m c)) = lay (fun g n p => (fwd (x0 m c) (x1 m c) (x2 m c) g n p).1) :=
  join_lay (c13 (STEP^[528] (W m c))) _ fun p a b =>
    ((inv_all (W m c) (entry m c) 528 le_rfl).s13 p a b (by omega)).trans (congrArg Prod.fst (fw_eq m c a b p))
theorem res_1 : out_main_v39 (STEP^[528] (W m c)) = lay (fun g n p => (fwd (x0 m c) (x1 m c) (x2 m c) g n p).2) :=
  join_lay (c14 (STEP^[528] (W m c))) _ fun p a b =>
    ((inv_all (W m c) (entry m c) 528 le_rfl).s14 p a b (by omega)).trans (congrArg Prod.snd (fw_eq m c a b p))
theorem res_2 : out_main_v47 (STEP^[528] (W m c)) = lay (fun g n p => (bwd (x0 m c) (x1 m c) (x2 m c) g n p).1) :=
  join_lay (ordr (c15 (STEP^[528] (W m c)))) _ fun p a b =>
    (ordr_at _ p a b).trans (((inv_all (W m c) (entry m c) 528 le_rfl).s15 (turn p) a b (by omega)).trans (congrArg Prod.fst (bw_eq m c a b p)))
theorem res_3 : out_main_v55 (STEP^[528] (W m c)) = lay (fun g n p => (bwd (x0 m c) (x1 m c) (x2 m c) g n p).2) :=
  join_lay (ordr (c16 (STEP^[528] (W m c)))) _ fun p a b =>
    (ordr_at _ p a b).trans (((inv_all (W m c) (entry m c) 528 le_rfl).s16 (turn p) a b (by omega)).trans (congrArg Prod.snd (bw_eq m c a b p)))

end Cert.Proof.Fwd.Ref
end
-- ==== Proof.Out.Point.lean ====
/- What each grid point of the output projection's backward call leaves in its buffers. -/
module

public import proofs.«01_k».proof.Proof.Gen.OutKernelIdeal.Value
public import Idealize.ShloMosaic.Lib.Pipeline.ValueKit
public import Idealize.ShloMosaic.Lib.VecWindow

@[expose] public section

set_option maxRecDepth 16384

noncomputable section

namespace Cert.Proof.Out

open Cert.OutKernelIdeal Cert.OutKernelIdeal.Gen
open Idealize.ShloMosaic Idealize.ShloMosaic.TcCoe

variable {F : FTy → Type} [FloatOps F]
variable (m : (ℓ : Loc nD τ sig) → Buf (Elt F) ℓ) (c : Dev nD)

theorem at_cases (t : Fin cfg0.N) :
    (t.val % 32 = 0 ∧ ¬t.val % 32 = 31) ∨ (¬t.val % 32 = 0 ∧ ¬t.val % 32 = 31) ∨ (¬t.val % 32 = 0 ∧ t.val % 32 = 31) := by
  omega

/-- The left and the right half of a point's block of the gated-unit inputs. -/
def lhalf (x : Vec F S256x2048 .f32) : Vec F S256x1024 .f32 :=
  View.ld x (Rect.unit (s := S256x2048) ![0, 0] S256x1024.size inb_S256x2048_S256x1024_0_0)
def rhalf (x : Vec F S256x2048 .f32) : Vec F S256x1024 .f32 :=
  View.ld x (Rect.unit (s := S256x2048) ![0, 1024] S256x1024.size inb_S256x2048_S256x1024_0_1024)

/-- The gradient of the branches' product with the gate, at a point. -/
def pdbp (t : Fin cfg0.N) : FVec F S256x2048 .f32 :=
  k0_pay8 (iblk m c 0 t) (iblk m c 1 t) (iblk m c 3 t) (iblk m c 6 t)

theorem left8 (t : Fin cfg0.N) : (outsAt0 m c t.val t.isLt).1 =
    k0_pay11 (k0_pay5 (iblk m c 0 t) (iblk m c 1 t) (iblk m c 3 t)) (iblk m c 6 t) (k0_pay7 (iblk m c 6 t))
      (lhalf (iblk m c 5 t)) (rhalf (iblk m c 5 t)) k0_pay9 (iblk m c 7 t) (iblk m c 4 t) := by
  rcases at_cases t with ⟨h0, h1⟩ | ⟨h0, h1⟩ | ⟨h0, h1⟩
  · rw [outsAt0_A m c t h0 h1]; dsimp only; frame_out; rfl
  · rw [outsAt0_B m c t h0 h1]; dsimp only; frame_out; rfl
  · rw [outsAt0_C m c t h0 h1]; dsimp only; frame_out; rfl

theorem left9 (t : Fin cfg0.N) : (outsAt0 m c t.val t.isLt).2.1 =
    k0_pay13 (pdbp m c t) (iblk m c 7 t) := by
  rcases at_cases t with ⟨h0, h1⟩ | ⟨h0, h1⟩ | ⟨h0, h1⟩
  · rw [outsAt0_A m c t h0 h1]; dsimp only; frame_out; rfl
  · rw [outsAt0_B m c t h0 h1]; dsimp only; frame_out; rfl
  · rw [outsAt0_C m c t h0 h1]; dsimp only; frame_out; rfl

theorem left10 (t : Fin cfg0.N) : (outsAt0 m c t.val t.isLt).2.2.1 =
    k0_pay1 (k0_pay16 (pdbp m c t) (rhalf (iblk m c 5 t)) k0_pay9) (k0_pay17 (pdbp m c t) (lhalf (iblk m c 5 t)) (rhalf (iblk m c 5 t)) k0_pay9) := by
  rcases at_cases t with ⟨h0, h1⟩ | ⟨h0, h1⟩ | ⟨h0, h1⟩
  · rw [outsAt0_A m c t h0 h1]; dsimp only; frame_out; rfl
  · rw [outsAt0_B m c t h0 h1]; dsimp only; frame_out; rfl
  · rw [outsAt0_C m c t h0 h1]; dsimp only; frame_out; rfl

theorem left11_0 (t : Fin cfg0.N) (h0 : t.val % 32 = 0) : (outsAt0 m c t.val t.isLt).2.2.2.1 =
    k0_pay14 (pdbp m c t) (iblk m c 4 t) k0_pay3 := by
  rw [outsAt0_A m c t h0 (by omega)]; dsimp only; frame_out; rfl

theorem left11_S (t : Fin cfg0.N) (h0 : ¬t.val % 32 = 0) : (outsAt0 m c t.val t.isLt).2.2.2.1 =
    k0_pay14 (pdbp m c t) (iblk m c 4 t) (outsAt0 m c (t.val - 1) (Nat.lt_of_le_of_lt (Nat.sub_le _ _) t.isLt)).2.2.2.1 := by
  by_cases h1 : t.val % 32 = 31
  · rw [outsAt0_C m c t h0 h1]; dsimp only; frame_out; rfl
  · rw [outsAt0_B m c t h0 h1]; dsimp only; frame_out; rfl

theorem leftS_0 (t : Fin cfg0.N) (h0 : t.val % 32 = 0) : (outsAt0 m c t.val t.isLt).2.2.2.2.1 =
    k0_pay6 (iblk m c 0 t) (iblk m c 1 t) k0_pay2 (iblk m c 2 t) := by
  rw [outsAt0_A m c t h0 (by omega)]; dsimp only; frame_out

theorem leftS_S (t : Fin cfg0.N) (h0 : ¬t.val % 32 = 0) : (outsAt0 m c t.val t.isLt).2.2.2.2.1 =
    k0_pay6 (iblk m c 0 t) (iblk m c 1 t) (outsAt0 m c (t.val - 1) (Nat.lt_of_le_of_lt (Nat.sub_le _ _) t.isLt)).2.2.2.2.1 (iblk m c 2 t) := by
  by_cases h1 : t.val % 32 = 31
  · rw [outsAt0_C m c t h0 h1]; dsimp only; frame_out
    exact congrArg (k0_pay6 _ _ · _) (Memref.IsWhole.read_unread (Memref.isWhole_whole _) _)
  · rw [outsAt0_B m c t h0 h1]; dsimp only; frame_out
    exact congrArg (k0_pay6 _ _ · _) (Memref.IsWhole.read_unread (Memref.isWhole_whole _) _)

/-- The last point copies the summed block out. -/
theorem leftH (t : Fin cfg0.N) (h1 : t.val % 32 = 31) :
    (outsAt0 m c t.val t.isLt).2.2.2.2.2 = (outsAt0 m c t.val t.isLt).2.2.2.2.1 := by
  rw [leftS_S m c t (by omega), outsAt0_C m c t (by omega) h1]; dsimp only; unfold hbw0_C_0; frame_out
  refine (View.write_whole_univ _ _ _).trans ?_
  refine (View.read_writes_full (View.whole cc0_scratch0) _ inb_S2048x2048_S2048x2048_0_0 _ []).trans ?_
  exact congrArg (k0_pay6 _ _ · _) (Memref.IsWhole.read_unread (Memref.isWhole_whole _) _)

end Cert.Proof.Out

end
-- ==== Proof.Out.Spec.lean ====
/- The output projection's backward call as mathematics over the extended reals. -/
module

public import Idealize.ShloMosaic.PureOps.Ideal
public import Idealize.ShloMosaic.Lib.Pointwise

@[expose] public section

set_option maxRecDepth 16384

noncomputable section

namespace Cert.Proof.Out

open Idealize.ShloMosaic

/-- The sigmoid by the hyperbolic tangent is the logistic function. -/
theorem half_tanh (x : EReal) : Ideal.ofBits .f32 0x3F000000#32 * (Ideal.tanh (Ideal.ofBits .f32 0x3F000000#32 * x) + 1) = Ideal.logistic x := by
  have h2 : Ideal.ofBits .f32 0x3F000000#32 = (((1 : ℝ) / 2 : ℝ) : EReal) := by
    simp [Ideal.ofBits, Ideal.ieee, -EReal.coe_mul]; norm_num
  rw [h2]
  induction x using EReal.rec with
  | bot =>
    rw [EReal.coe_mul_bot_of_pos (by norm_num), Ideal.tanh_bot, Ideal.logistic_bot]
    have : (-1 : EReal) + 1 = 0 := by
      have := (EReal.coe_add (-1) 1).symm
      simpa using this
    rw [this, mul_zero]
  | top =>
    rw [EReal.coe_mul_top_of_pos (by norm_num), Ideal.tanh_top, Ideal.logistic_top]
    have : (1 : EReal) + 1 = ((2 : ℝ) : EReal) := by
      have := (EReal.coe_add 1 1).symm
      rw [← EReal.coe_one, this]; norm_num
    rw [this, ← EReal.coe_mul]; norm_num
  | coe r =>
    rw [← EReal.coe_mul, Ideal.tanh_coe, Ideal.logistic_coe, ← EReal.coe_one, ← EReal.coe_add, ← EReal.coe_mul]
    congr 1
    rw [Real.tanh_eq_sinh_div_cosh, Real.sinh_eq, Real.cosh_eq]
    have e1 : Real.exp (1 / 2 * r) = Real.exp (-(1 / 2 * r)) * Real.exp r := by rw [← Real.exp_add]; congr 1; ring
    have e2 : Real.exp (-r) * Real.exp r = 1 := by rw [← Real.exp_add]; simp
    have p1 := Real.exp_pos (-(1 / 2 * r))
    have p2 := Real.exp_pos r
    have p3 := Real.exp_pos (-r)
    rw [e1]
    have hd : Real.exp (-(1 / 2 * r)) * Real.exp r + Real.exp (-(1 / 2 * r)) ≠ 0 := by positivity
    have hd2 : 1 + Real.exp (-r) ≠ 0 := by positivity
    field_simp
    nlinarith [e2]

/-- The sigmoid-weighted unit's derivative, in the two forms, on a finite cotangent. -/
theorem silu_grad (d m : ℝ) (z : EReal) :
    (d : EReal) * m * (Ideal.logistic z * (1 + z * (1 - Ideal.logistic z)))
      = (m : EReal) * d * Ideal.logistic z + z * ((m : EReal) * d) * (Ideal.logistic z * (1 - Ideal.logistic z)) := by
  induction z using EReal.rec with
  | bot => simp
  | top =>
    have h : (1 : EReal) - 1 = 0 := by
      have := (EReal.coe_sub 1 1).symm
      simpa using this
    simp [h, mul_comm]
  | coe r =>
    rw [Ideal.logistic_coe]
    norm_cast
    ring

theorem isReal_mul {a b : EReal} (ha : ∃ r : ℝ, a = r) (hb : ∃ r : ℝ, b = r) : ∃ r : ℝ, a * b = r := by
  obtain ⟨r, rfl⟩ := ha
  obtain ⟨s, rfl⟩ := hb
  exact ⟨r * s, by norm_cast⟩

theorem isReal_sum {n : ℕ} (f : Fin n → EReal) (h : ∀ k, ∃ r : ℝ, f k = r) : ∃ r : ℝ, ∑ k, f k = r :=
  Finset.sum_induction f (fun x => ∃ r : ℝ, x = r)
    (fun a b ⟨r, hr⟩ ⟨s, hs⟩ => ⟨r + s, by rw [hr, hs, EReal.coe_add]⟩) ⟨0, EReal.coe_zero.symm⟩ fun k _ => h k

theorem isReal_logistic (x : EReal) : ∃ r : ℝ, Ideal.logistic x = r := by
  induction x using EReal.rec with
  | bot => exact ⟨0, by simp⟩
  | top => exact ⟨1, by simp⟩
  | coe r => exact ⟨_, Ideal.logistic_coe ..⟩

theorem fin_back (j : Fin 2048) (h : ¬j.val < 1024) (hp : 1024 + (j.val - 1024) < 2048) : (⟨1024 + (j.val - 1024), hp⟩ : Fin 2048) = j :=
  Fin.ext (by show 1024 + (j.val - 1024) = j.val; omega)

/-- A two-dimensional array of extended reals. -/
abbrev Arr (p q : ℕ) : Type := (⟨2, ![p, q]⟩ : Shape).Idx → EReal

variable (x0 : Arr 8192 2048) (x1 : Arr 1 2048) (x2 : Arr 2048 2048) (x3 : Arr 8192 1024) (x4 : Arr 8192 2048) (x5 : Arr 8192 4096) (x6 : Arr 1 1024)

/-- The mixed branches' gradient, before the gated projection. -/
def dbr (i : Fin 8192) (j : Fin 2048) : EReal := ∑ k : Fin 2048, x0 (ix2 i k) * x1 (ix2 0 k) * x2 (ix2 j k)
/-- The gating operand: the projection's right half. -/
def zz (i : Fin 8192) (j : Fin 2048) : EReal := x5 (ix2 i ⟨2048 + j.val, by omega⟩)
def silu (i : Fin 8192) (j : Fin 2048) : EReal := zz x5 i j * Ideal.logistic (zz x5 i j)
/-- The two branches side by side. -/
def mix (i : Fin 8192) (j : Fin 2048) : EReal :=
  if h : j.val < 1024 then x3 (ix2 i ⟨j.val, h⟩) * x6 (ix2 0 ⟨j.val, h⟩)
  else x4 (ix2 i ⟨j.val - 1024, by omega⟩) * Ideal.logistic (x4 (ix2 i j))
/-- The branches' gradient. -/
def dbp (i : Fin 8192) (j : Fin 2048) : EReal := dbr x0 x1 x2 i j * silu x5 i j

def dz (i : Fin 8192) (j : Fin 2048) : EReal :=
  dbr x0 x1 x2 i j * mix x3 x4 x6 i j * (Ideal.logistic (zz x5 i j) * (1 + zz x5 i j * (1 - Ideal.logistic (zz x5 i j))))
def dlin (i : Fin 8192) (j : Fin 1024) : EReal := dbp x0 x1 x2 x5 i ⟨j.val, by omega⟩ * x6 (ix2 0 j)
def dy (i : Fin 8192) (j : Fin 2048) : EReal :=
  if h : j.val < 1024 then dbp x0 x1 x2 x5 i ⟨1024 + j.val, by omega⟩ * Ideal.logistic (x4 (ix2 i ⟨1024 + j.val, by omega⟩))
  else dbp x0 x1 x2 x5 i j * x4 (ix2 i ⟨j.val - 1024, by omega⟩) * Ideal.logistic (x4 (ix2 i j)) * (1 - Ideal.logistic (x4 (ix2 i j)))
def dps (j : Fin 1024) : EReal := ∑ i : Fin 8192, dbp x0 x1 x2 x5 i ⟨j.val, by omega⟩ * x3 (ix2 i j)
def dow (a b : Fin 2048) : EReal := ∑ i : Fin 8192, mix x3 x4 x6 i a * silu x5 i a * (x0 (ix2 i b) * x1 (ix2 0 b))

/-- On finite inputs the gating operand's gradient is the product rule's. -/
theorem dz_eq (h0 : ∀ i, ∃ r : ℝ, x0 i = r) (h1 : ∀ i, ∃ r : ℝ, x1 i = r) (h2 : ∀ i, ∃ r : ℝ, x2 i = r)
    (h3 : ∀ i, ∃ r : ℝ, x3 i = r) (h4 : ∀ i, ∃ r : ℝ, x4 i = r) (h6 : ∀ i, ∃ r : ℝ, x6 i = r) (i : Fin 8192) (j : Fin 2048) :
    dz x0 x1 x2 x3 x4 x5 x6 i j
      = mix x3 x4 x6 i j * dbr x0 x1 x2 i j * Ideal.logistic (zz x5 i j)
        + zz x5 i j * (mix x3 x4 x6 i j * dbr x0 x1 x2 i j) * (Ideal.logistic (zz x5 i j) * (1 - Ideal.logistic (zz x5 i j))) := by
  obtain ⟨d, hd⟩ : ∃ r : ℝ, dbr x0 x1 x2 i j = r := isReal_sum _ fun k => isReal_mul (isReal_mul (h0 _) (h1 _)) (h2 _)
  obtain ⟨m, hm⟩ : ∃ r : ℝ, mix x3 x4 x6 i j = r := by
    unfold mix
    split
    · exact isReal_mul (h3 _) (h6 _)
    · exact isReal_mul (h4 _) (isReal_logistic _)
  unfold dz
  rw [hd, hm]
  exact silu_grad d m _

end Cert.Proof.Out

end
-- ==== Proof.Out.Final.lean ====
/- What the output projection's backward call leaves in its result arrays. -/
module

public import proofs.«01_k».proof.Proof.Out.Point
public import proofs.«01_k».proof.Proof.Out.Spec

@[expose] public section

set_option maxRecDepth 16384

noncomputable section

namespace Cert.Proof.Out

open Cert.OutKernelIdeal Cert.OutKernelIdeal.Gen
open Idealize.ShloMosaic Idealize.ShloMosaic.TcCoe
open Idealize.ShloMosaic.Pipeline (Dat)

variable (m : (ℓ : Loc nD τ sig) → Buf (Elt Ideal) ℓ) (c : Dev nD)

def a0 : Arr 8192 2048 := m ((c : Thread nD τ).loc main_arg0)
def a1 : Arr 1 2048 := m ((c : Thread nD τ).loc main_arg1)
def a2 : Arr 2048 2048 := m ((c : Thread nD τ).loc main_arg2)
def a3 : Arr 8192 1024 := m ((c : Thread nD τ).loc main_arg3)
def a4 : Arr 8192 2048 := m ((c : Thread nD τ).loc main_arg4)
def a5 : Arr 8192 4096 := m ((c : Thread nD τ).loc main_arg5)
def a6 : Arr 1 1024 := m ((c : Thread nD τ).loc main_arg6)

theorem idx_0 : ∀ t : Fin cfg0.N, win0_0.index t = ![t.val, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![t.val, 0] := (by decide +kernel : ∀ t : Fin grid0.N, _)
theorem idx_5 : ∀ t : Fin cfg0.N, win0_5.index t = ![t.val, 0] := (by decide +kernel : ∀ t : Fin grid0.N, _)
theorem idx_6 : ∀ t : Fin cfg0.N, win0_6.index t = ![t.val, 1] := (by decide +kernel : ∀ t : Fin grid0.N, _)
theorem idx_7 : ∀ t : Fin cfg0.N, win0_7.index t = ![0, 0] := (by decide +kernel : ∀ t : Fin grid0.N, _)
theorem idx_8 : ∀ t : Fin cfg0.N, win0_8.index t = ![t.val, 0] := (by decide +kernel : ∀ t : Fin grid0.N, _)
theorem idx_9 : ∀ t : Fin cfg0.N, win0_9.index t = ![t.val, 0] := (by decide +kernel : ∀ t : Fin grid0.N, _)
theorem idx_10 : ∀ t : Fin cfg0.N, win0_10.index t = ![t.val, 0] := (by decide +kernel : ∀ t : Fin grid0.N, _)
theorem idx_11 : ∀ t : Fin cfg0.N, win0_11.index t = ![0, 0] := (by decide +kernel : ∀ t : Fin grid0.N, _)
theorem t_lt : ∀ t : Fin cfg0.N, t.val < 32 := (by decide +kernel : ∀ t : Fin grid0.N, _)

/-- A point's row in the arrays. -/
def row (t : Fin cfg0.N) (a : Fin 256) : Fin 8192 := ⟨t.val * 256 + a.val, by have := t_lt t; omega⟩

theorem blk_0 (t : Fin cfg0.N) (a : Fin 256) (k : Fin 2048) : iblk m c 0 t (ix2 a k) = a0 m c (ix2 (row t a) k) := by
  unfold a0 row
  blk_point [iblk, V, idx_0 t]
theorem blk_1 (t : Fin cfg0.N) (a : Fin 1) (k : Fin 2048) : iblk m c 1 t (ix2 a k) = a1 m c (ix2 a k) := by
  unfold a1
  blk_point [iblk, V, idx_1 t]
theorem blk_3 (t : Fin cfg0.N) (a k : Fin 2048) : iblk m c 3 t (ix2 a k) = a2 m c (ix2 a k) := by
  unfold a2
  blk_point [iblk, V, idx_3 t]
theorem blk_4 (t : Fin cfg0.N) (a : Fin 256) (k : Fin 1024) : iblk m c 4 t (ix2 a k) = a3 m c (ix2 (row t a) k) := by
  unfold a3 row
  blk_point [iblk, V, idx_4 t]
theorem blk_5 (t : Fin cfg0.N) (a : Fin 256) (k : Fin 2048) : iblk m c 5 t (ix2 a k) = a4 m c (ix2 (row t a) k) := by
  unfold a4 row
  blk_point [iblk, V, idx_5 t]
theorem blk_6 (t : Fin cfg0.N) (a : Fin 256) (k : Fin 2048) : iblk m c 6 t (ix2 a k) = zz (a5 m c) (row t a) k := by
  unfold zz a5 row
  blk_point [iblk, V, idx_6 t]
theorem blk_7 (t : Fin cfg0.N) (a : Fin 1) (k : Fin 1024) : iblk m c 7 t (ix2 a k) = a6 m c (ix2 a k) := by
  unfold a6
  blk_point [iblk, V, idx_7 t]
/-- The saved branches, as the host computes them. -/
def hostBranch (x3 : FVec Ideal S8192x1024 .f32) (x4 : FVec Ideal S8192x2048 .f32) (x5 : FVec Ideal S8192x4096 .f32) (x6 : FVec Ideal S1x1024 .f32) : FVec Ideal S8192x2048 .bf16 :=
  truncf .bf16 (mulf
    (concatenate S8192x2048 1
      [⟨S8192x1024, mulf x3 (broadcastInDim S8192x1024 ![0, 1] bcast_S1x1024_S8192x1024_0_1 x6)⟩,
       ⟨S8192x1024, mulf (extractStridedSlice S8192x1024 ![0, 0] x4 slices_S8192x2048_S8192x1024_0_0)
          (Host.divf (broadcastInDim S8192x1024 ![] bcast_S_S8192x1024 (constant S_ .f32 0x3F800000#32))
            (addf (broadcastInDim S8192x1024 ![] bcast_S_S8192x1024 (constant S_ .f32 0x3F800000#32))
              (Host.exp (Host.negf (extractStridedSlice S8192x1024 ![0, 1024] x4 slices_S8192x2048_S8192x1024_0_1024)))))⟩]
      concatenates_S8192x1024_S8192x1024_S8192x2048_d1)
    (mulf (extractStridedSlice S8192x2048 ![0, 2048] x5 slices_S8192x4096_S8192x2048_0_2048)
      (Host.divf (broadcastInDim S8192x2048 ![] bcast_S_S8192x2048 (constant S_ .f32 0x3F800000#32))
        (addf (broadcastInDim S8192x2048 ![] bcast_S_S8192x2048 (constant S_ .f32 0x3F800000#32))
          (Host.exp (Host.negf (extractStridedSlice S8192x2048 ![0, 2048] x5 slices_S8192x4096_S8192x2048_0_2048)))))))
    bitsLt_bf16_f32

theorem host_eq : V m c main_v15 = hostBranch (a3 m c) (a4 m c) (a5 m c) (a6 m c) := by
  unfold V
  simp only [hostOps0, hostOps0_1, hostOps0_2, List.flatten_cons, List.flatten_nil, List.append_nil, List.cons_append, List.nil_append]
  after_results
  rfl

theorem hostBranch_at (x3 : Arr 8192 1024) (x4 : Arr 8192 2048) (x5 : Arr 8192 4096) (x6 : Arr 1 1024) (i : Fin 8192) (j : Fin 2048) :
    hostBranch x3 x4 x5 x6 (ix2 i j) = mix x3 x4 x6 i j * silu x5 i j := by
  pointwise [hostBranch, mix, silu, zz, Ideal.logistic]
  by_cases h : j.val < 1024
  · simp only [dif_pos h]
  · simp only [dif_neg h, fin_back j h]

theorem blk_2 (t : Fin cfg0.N) (a : Fin 256) (k : Fin 2048) :
    iblk m c 2 t (ix2 a k) = mix (a3 m c) (a4 m c) (a6 m c) (row t a) k * silu (a5 m c) (row t a) k := by
  refine Eq.trans (b := V m c main_v15 (ix2 (row t a) k)) ?_ ((congrFun (host_eq m c) _).trans (hostBranch_at _ _ _ _ _ _))
  unfold row
  blk_point [iblk, idx_2 t]

theorem p5 (t : Fin cfg0.N) (a : Fin 256) (b : Fin 2048) :
    k0_pay5 (iblk m c 0 t) (iblk m c 1 t) (iblk m c 3 t) (ix2 a b) = dbr (a0 m c) (a1 m c) (a2 m c) (row t a) b := by
  pointwise [k0_pay5, k0_pay4, dbr]
  simp only [blk_0, blk_1, blk_3]

theorem p8 (t : Fin cfg0.N) (a : Fin 256) (b : Fin 2048) :
    pdbp m c t (ix2 a b) = dbp (a0 m c) (a1 m c) (a2 m c) (a5 m c) (row t a) b := by
  unfold pdbp dbp silu
  rw [← p5, ← blk_6]
  pointwise [k0_pay8, k0_pay7]
  simp only [half_tanh]

theorem p11 (t : Fin cfg0.N) (a : Fin 256) (b : Fin 2048) :
    (outsAt0 m c t.val t.isLt).1 (ix2 a b) = dz (a0 m c) (a1 m c) (a2 m c) (a3 m c) (a4 m c) (a5 m c) (a6 m c) (row t a) b := by
  rw [left8]
  unfold dz mix
  rw [← p5, ← blk_6]
  pointwise [k0_pay11, k0_pay10, k0_pay9, k0_pay7, lhalf, rhalf]
  simp only [half_tanh]
  by_cases h : b.val < 1024
  · simp only [dif_pos h, blk_4, blk_7]
  · simp only [dif_neg h, fin_back b h, blk_5]

theorem p13 (t : Fin cfg0.N) (a : Fin 256) (b : Fin 1024) :
    (outsAt0 m c t.val t.isLt).2.1 (ix2 a b) = dlin (a0 m c) (a1 m c) (a2 m c) (a5 m c) (a6 m c) (row t a) b := by
  rw [left9]
  unfold dlin
  rw [← p8, ← blk_7 m c t]
  pointwise [k0_pay13, k0_pay12]

theorem p1 (t : Fin cfg0.N) (a : Fin 256) (b : Fin 2048) :
    (outsAt0 m c t.val t.isLt).2.2.1 (ix2 a b) = dy (a0 m c) (a1 m c) (a2 m c) (a4 m c) (a5 m c) (row t a) b := by
  rw [left10]
  unfold dy
  simp only [← p8, ← blk_5 m c t]
  pointwise [k0_pay1, k0_pay16, k0_pay17, k0_pay15, k0_pay10, k0_pay9, lhalf, rhalf]
  simp only [half_tanh]
  by_cases h : b.val < 1024
  · simp only [dif_pos h]
  · simp only [dif_neg h, fin_back b h]

theorem p14 (t : Fin cfg0.N) (v : Vec Ideal S1x1024 .f32) (b : Fin 1024) :
    k0_pay14 (pdbp m c t) (iblk m c 4 t) v (ix2 0 b)
      = v (ix2 0 b) + ∑ a : Fin 256, dbp (a0 m c) (a1 m c) (a2 m c) (a5 m c) (row t a) ⟨b.val, by omega⟩ * a3 m c (ix2 (row t a) b) := by
  simp only [← p8, ← blk_4 m c t]
  pointwise [k0_pay14, k0_pay12]

theorem p6 (t : Fin cfg0.N) (v : Vec Ideal S2048x2048 .f32) (a b : Fin 2048) :
    k0_pay6 (iblk m c 0 t) (iblk m c 1 t) v (iblk m c 2 t) (ix2 a b)
      = v (ix2 a b) + ∑ k : Fin 256, mix (a3 m c) (a4 m c) (a6 m c) (row t k) a * silu (a5 m c) (row t k) a * (a0 m c (ix2 (row t k) b) * a1 m c (ix2 0 b)) := by
  simp only [← blk_0 m c t, ← blk_1 m c t, ← blk_2 m c t]
  pointwise [k0_pay6, k0_pay4]

/-- The pooling branch's scale gradient, summed to the last point. -/
theorem sum_11 (t : Fin cfg0.N) (ht : t.val % 32 = 31) (b : Fin 1024) :
    (outsAt0 m c t.val t.isLt).2.2.2.1 (ix2 0 b) = dps (a0 m c) (a1 m c) (a2 m c) (a3 m c) (a5 m c) b := by
  have hN : cfg0.N = 32 := N_0
  have e := Pipeline.eq_sum_fin_of_reset_step_apply_last
    (fun n hn (b : Fin 1024) => (outsAt0 m c n hn).2.2.2.1 (ix2 0 b)) 32 (fun _ => (0 : EReal))
    (fun p b => ∑ a : Fin 256, dbp (a0 m c) (a1 m c) (a2 m c) (a5 m c) (row p a) ⟨b.val, by omega⟩ * a3 m c (ix2 (row p a) b))
    (fun p hp b => by
      rw [left11_0 m c p hp, p14]
      congr 1
      pointwise [k0_pay3])
    (fun p hp b => by
      rw [left11_S m c p hp, p14])
    (by omega) t (by omega) b
  rw [e, zero_add]
  unfold dps
  exact (Fin.sum_mul_add_fin cfg0.N 256 (fun i : Fin 8192 => dbp (a0 m c) (a1 m c) (a2 m c) (a5 m c) i ⟨b.val, by omega⟩ * a3 m c (ix2 i b)) (by rw [hN]))

/-- The output weights' gradient, summed to the last point. -/
theorem sum_S (t : Fin cfg0.N) (ht : t.val % 32 = 31) (a b : Fin 2048) :
    (outsAt0 m c t.val t.isLt).2.2.2.2.1 (ix2 a b) = dow (a0 m c) (a1 m c) (a3 m c) (a4 m c) (a5 m c) (a6 m c) a b := by
  have hN : cfg0.N = 32 := N_0
  have e := Pipeline.eq_sum_fin_of_reset_step_apply_last
    (fun n hn (y : Fin 2048 × Fin 2048) => (outsAt0 m c n hn).2.2.2.2.1 (ix2 y.1 y.2)) 32 (fun _ => (0 : EReal))
    (fun p y => ∑ k : Fin 256, mix (a3 m c) (a4 m c) (a6 m c) (row p k) y.1 * silu (a5 m c) (row p k) y.1 * (a0 m c (ix2 (row p k) y.2) * a1 m c (ix2 0 y.2)))
    (fun p hp y => by
      rw [leftS_0 m c p hp, p6]
      congr 1
      pointwise [k0_pay2])
    (fun p hp y => by
      rw [leftS_S m c p hp, p6])
    (by omega) t (by omega) (a, b)
  rw [e, zero_add]
  unfold dow
  exact (Fin.sum_mul_add_fin cfg0.N 256 (fun i : Fin 8192 => mix (a3 m c) (a4 m c) (a6 m c) i a * silu (a5 m c) i a * (a0 m c (ix2 i b) * a1 m c (ix2 0 b))) (by rw [hN]))

theorem at_y {p q : ℕ} (y : (⟨2, ![p, q]⟩ : Shape).Idx) : ∃ (a : Fin p) (b : Fin q), y = ix2 a b := by
  refine ⟨y 0, y 1, ?_⟩
  funext d
  match d with
  | ⟨0, _⟩ => rfl
  | ⟨1, _⟩ => rfl

/-- A block's entry is the array's, where the block's placement puts it. -/
theorem place {p q r : ℕ} (f : Fin 8192 → Fin q → EReal) (g : Arr p q) (e : Fin p → Fin 8192) (h : ∀ a b, g (ix2 a b) = f (e a) b)
    (y : (⟨2, ![p, q]⟩ : Shape).Idx) (z : (⟨2, ![8192, q]⟩ : Shape).Idx) (hr : ∀ a, (e a).val = r * p + a.val)
    (h0 : (z (0 : Fin 2)).val = r * p + (y (0 : Fin 2)).val) (h1 : (z (1 : Fin 2)).val = 0 * q + (y (1 : Fin 2)).val) :
    g y = f (z 0) (z 1) := by
  obtain ⟨a, b, rfl⟩ := at_y y
  rw [h]
  exact congrArg₂ f (Fin.ext ((hr a).trans h0.symm)) (Fin.ext (by show b.val = (z (1 : Fin 2)).val; rw [h1]; show b.val = 0 * q + b.val; omega))

theorem final_8 : (dats m 0 c).arrAt 8 cfg0.N = fun x => dz (a0 m c) (a1 m c) (a2 m c) (a3 m c) (a4 m c) (a5 m c) (a6 m c) (x 0) (x 1) := by
  refine (dats m 0 c).arrAt_eq_of_covers 8 _ (by decide +kernel) fun t hf y => ?_
  blk_simp
  rw [after0_8]
  exact place (dz (a0 m c) (a1 m c) (a2 m c) (a3 m c) (a4 m c) (a5 m c) (a6 m c)) _ _ (p11 m c t) y _ (fun a => rfl) (by blk_simp [idx_8]) (by blk_simp [idx_8])

theorem final_9 : (dats m 0 c).arrAt 9 cfg0.N = fun x => dlin (a0 m c) (a1 m c) (a2 m c) (a5 m c) (a6 m c) (x 0) (x 1) := by
  refine (dats m 0 c).arrAt_eq_of_covers 9 _ (by decide +kernel) fun t hf y => ?_
  blk_simp
  rw [after0_9]
  exact place (dlin (a0 m c) (a1 m c) (a2 m c) (a5 m c) (a6 m c)) _ _ (p13 m c t) y _ (fun a => rfl) (by blk_simp [idx_9]) (by blk_simp [idx_9])

theorem final_10 : (dats m 0 c).arrAt 10 cfg0.N = fun x => dy (a0 m c) (a1 m c) (a2 m c) (a4 m c) (a5 m c) (x 0) (x 1) := by
  refine (dats m 0 c).arrAt_eq_of_covers 10 _ (by decide +kernel) fun t hf y => ?_
  blk_simp
  rw [after0_10]
  exact place (dy (a0 m c) (a1 m c) (a2 m c) (a4 m c) (a5 m c)) _ _ (p1 m c t) y _ (fun a => rfl) (by blk_simp [idx_10]) (by blk_simp [idx_10])

theorem place_row {q : ℕ} (f : Fin q → EReal) (g : Arr 1 q) (h : ∀ b, g (ix2 0 b) = f b)
    (y z : (⟨2, ![1, q]⟩ : Shape).Idx) (h1 : (z (1 : Fin 2)).val = 0 * q + (y (1 : Fin 2)).val) : g y = f (z 1) := by
  obtain ⟨a, b, rfl⟩ := at_y y
  rw [Subsingleton.elim a 0, h]
  exact congrArg f (Fin.ext (by show b.val = (z (1 : Fin 2)).val; rw [h1]; show b.val = 0 * q + b.val; omega))

theorem final_11 : (dats m 0 c).arrAt 11 cfg0.N = fun x => dps (a0 m c) (a1 m c) (a2 m c) (a3 m c) (a5 m c) (x 1) := by
  refine (dats m 0 c).arrAt_eq_of_covers 11 _ (by decide +kernel) fun t hf y => ?_
  blk_simp
  rw [after0_11]
  exact place_row (dps (a0 m c) (a1 m c) (a2 m c) (a3 m c) (a5 m c)) _ (sum_11 m c t ((flush0_11 t).mp hf)) y _ (by blk_simp [idx_11])

theorem final_S (t : Fin cfg0.N) (ht : t.val % 32 = 31) :
    (outsAt0 m c t.val t.isLt).2.2.2.2.2 = fun x => dow (a0 m c) (a1 m c) (a3 m c) (a4 m c) (a5 m c) (a6 m c) (x 0) (x 1) := by
  rw [leftH m c t ht]
  funext y
  obtain ⟨a, b, rfl⟩ := at_y (p := 2048) (q := 2048) y
  exact sum_S m c t ht a b

variable (ρ : Dev nD → PrngReg)

theorem run : θ_run defs (onTc (τ := τ) (main (F := Ideal))) ⟨m, fun _ => 0, ρ⟩ fun r => ∀ c : Dev nD,
      r.2.mem ((c : Thread nD τ).loc main_v16_0) = (fun x => dz (a0 m c) (a1 m c) (a2 m c) (a3 m c) (a4 m c) (a5 m c) (a6 m c) (x 0) (x 1))
      ∧ r.2.mem ((c : Thread nD τ).loc main_v16_1) = (fun x => dlin (a0 m c) (a1 m c) (a2 m c) (a5 m c) (a6 m c) (x 0) (x 1))
      ∧ r.2.mem ((c : Thread nD τ).loc main_v16_2) = (fun x => dy (a0 m c) (a1 m c) (a2 m c) (a4 m c) (a5 m c) (x 0) (x 1))
      ∧ r.2.mem ((c : Thread nD τ).loc main_v16_3) = (fun x => dps (a0 m c) (a1 m c) (a2 m c) (a3 m c) (a5 m c) (x 1))
      ∧ r.2.mem ((c : Thread nD τ).loc main_v16_4) = (fun x => dow (a0 m c) (a1 m c) (a3 m c) (a4 m c) (a5 m c) (a6 m c) (x 0) (x 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ?_) (Cert.OutKernelIdeal.Value.run_blocks m ρ)
  obtain ⟨h0, h1, h2, h3, k0, k1, k2, k3, k4, k5, k6, h4⟩ := h c
  exact ⟨h0.trans (final_8 m c), h1.trans (final_9 m c), h2.trans (final_10 m c), h3.trans (final_11 m c),
    h4.trans (final_S m c ⟨cfg0.N - 1, by have : cfg0.N = 32 := N_0; omega⟩ (by have : cfg0.N = 32 := N_0; show (cfg0.N - 1) % 32 = 31; omega)),
    k0, k1, k2, k3, k4, k5, k6⟩

end Cert.Proof.Out

end
-- ==== Proof.Out.Ref.lean ====
/- The derivative of the output projection, as the reference computes it, at an index. -/
module

public import proofs.«01_k».proof.Proof.Gen.OutReferenceIdeal.Read
public import proofs.«01_k».proof.Proof.Gen.OutReferenceIdeal.Run
public import proofs.«01_k».proof.Proof.Out.Spec

@[expose] public section

set_option maxRecDepth 16384

noncomputable section

namespace Cert.Proof.Out.Ref

open Cert.OutReferenceIdeal Cert.OutReferenceIdeal.Gen Cert.OutReferenceIdeal.Value Cert.OutReferenceIdeal.Read
open Idealize.ShloMosaic Idealize.ShloMosaic.TcCoe

variable (x0 : Arr 8192 2048) (x1 : Arr 1 2048) (x2 : Arr 2048 2048) (x3 : Arr 8192 1024) (x4 : Arr 8192 2048) (x5 : Arr 8192 4096) (x6 : Arr 1 1024)

theorem r26 (i : Fin 8192) (j : Fin 2048) : val_main_v26 (F := Ideal) x0 x1 x2 (ix2 i j) = dbr x0 x1 x2 i j := by
  pointwise [val_main_v26, val_main_v23, val_main_v22, val_main_v1, dbr]
  exact Finset.sum_congr rfl fun k _ => by rw [mul_comm (x1 _)]

theorem r17_2 (i : Fin 8192) (j : Fin 2048) : val_main_v17_2 (F := Ideal) x5 (ix2 i j) = Ideal.logistic (zz x5 i j) := by
  pointwise [val_main_v17_2, val_main_call0_v4, val_main_call0_v3, val_main_call0_v2, val_main_call0_v1, val_main_call0_v0, val_main_v0, val_main_call0_cst, val_main_call0_cst_0, zz, Ideal.logistic]

theorem r17_0 (i : Fin 8192) (j : Fin 2048) : val_main_v17_0 (F := Ideal) x5 (ix2 i j) = silu x5 i j := by
  unfold silu
  rw [← r17_2]
  pointwise [val_main_v17_0, val_main_v0, zz]

theorem r28 (i : Fin 8192) (j : Fin 2048) : val_main_v28 (F := Ideal) x0 x1 x2 x5 (ix2 i j) = dbp x0 x1 x2 x5 i j := by
  unfold dbp
  rw [← r17_0, ← r26]
  pointwise [val_main_v28]

theorem r9 (i : Fin 8192) (j : Fin 1024) : val_main_v9 (F := Ideal) x4 (ix2 i j) = Ideal.logistic (x4 (ix2 i ⟨1024 + j.val, by omega⟩)) := by
  pointwise [val_main_v9, val_main_v8, val_main_v7, val_main_v6, val_main_v5, val_main_v4, val_main_v3, val_main_cst, val_main_cst_0, Ideal.logistic]

theorem r16 (i : Fin 8192) (j : Fin 2048) : val_main_v16 (F := Ideal) x3 x4 x6 (ix2 i j) = mix x3 x4 x6 i j := by
  unfold mix
  pointwise [val_main_v16, val_main_v15, val_main_v14, val_main_v13, val_main_v2]
  by_cases h : j.val < 1024
  · simp only [dif_pos h]
  · simp only [dif_neg h, r9, fin_back j h]

theorem r34 (j : Fin 1024) : val_main_v34 (F := Ideal) x0 x1 x2 x3 x5 (ix2 0 j) = dps x0 x1 x2 x3 x5 j := by
  unfold dps
  pointwise [val_main_v34, val_main_v33, val_main_v32, val_main_v30, val_main_cst_2]
  simp only [r28, zero_add]
  exact Finset.sum_congr rfl fun k _ => mul_comm _ _

theorem r25 (a b : Fin 2048) : val_main_v25 (F := Ideal) x0 x1 x3 x4 x5 x6 (ix2 a b) = dow x0 x1 x3 x4 x5 x6 a b := by
  unfold dow
  pointwise [val_main_v25, val_main_v24, val_main_v18, val_main_v23, val_main_v22]
  simp only [r16, r17_0]
  exact Finset.sum_congr rfl fun k _ => by rw [mul_comm (x1 _), mul_comm]

theorem r41 (i : Fin 8192) (j : Fin 2048) : val_main_v41 (F := Ideal) x0 x1 x2 x4 x5 (ix2 i j) = dy x0 x1 x2 x4 x5 i j := by
  unfold dy
  pointwise [val_main_v41, val_main_v40, val_main_v39, val_main_v38, val_main_v37, val_main_v31, val_main_v12, val_main_v11, val_main_v10, val_main_cst_1, val_main_v2]
  simp only [r28, r9]
  by_cases h : j.val < 1024
  · simp only [dif_pos h]
  · simp only [dif_neg h, fin_back j h]
    rw [mul_comm (x4 _) (dbp _ _ _ _ _ _), ← mul_assoc]

theorem r29 (h0 : ∀ i, ∃ r : ℝ, x0 i = r) (h1 : ∀ i, ∃ r : ℝ, x1 i = r) (h2 : ∀ i, ∃ r : ℝ, x2 i = r)
    (h3 : ∀ i, ∃ r : ℝ, x3 i = r) (h4 : ∀ i, ∃ r : ℝ, x4 i = r) (h6 : ∀ i, ∃ r : ℝ, x6 i = r) (i : Fin 8192) (j : Fin 2048) :
    val_main_v29 (F := Ideal) x0 x1 x2 x3 x4 x5 x6 (ix2 i j) = dz x0 x1 x2 x3 x4 x5 x6 i j := by
  rw [dz_eq x0 x1 x2 x3 x4 x5 x6 h0 h1 h2 h3 h4 h6]
  simp only [← r16, ← r26, ← r17_2]
  pointwise [val_main_v29, val_main_call1_v2, val_main_call1_v1, val_main_call1_v0, val_main_v27, val_main_v17_1, val_main_call0_v7, val_main_call0_v6, val_main_call0_cst_1, val_main_v0, zz]

theorem r36 (i : Fin 8192) (j : Fin 1024) : val_main_v36 (F := Ideal) x0 x1 x2 x5 x6 (ix2 i j) = dlin x0 x1 x2 x5 x6 i j := by
  unfold dlin
  simp only [← r28]
  pointwise [val_main_v36, val_main_v35, val_main_v30]

end Cert.Proof.Out.Ref

end
-- ==== Proof.Out.Alg.lean ====
/- The output projection's backward call leaves the arrays of the derivative of its forward lines. -/
module

public import proofs.«01_k».proof.Defs
public import proofs.«01_k».proof.Proof.Gen.Pre_finite
public import proofs.«01_k».proof.Proof.Out.Final
public import proofs.«01_k».proof.Proof.Out.Ref

@[expose] public section

set_option maxRecDepth 16384

noncomputable section

namespace Cert.Proof.Out

open Idealize.ShloMosaic Idealize.SL.Sem

/-- An entry whose magnitude compares below infinity is a real number. -/
theorem real_of_lt (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  have hl : max x (-x) < ⊤ := by
    rw [ht] at h
    by_contra hn
    simp [Ideal.cmp, hn] at h
  obtain ⟨h1, h2⟩ := max_lt_iff.mp hl
  induction x using EReal.rec with
  | bot => simp at h2
  | top => simp at h1
  | coe r => exact ⟨r, rfl⟩

theorem algebraic : Cert.algebraic_OutKernelIdeal_OutReferenceIdeal_pre_finite := by
  intro m g m' g' hpre hagree
  refine ⟨_, _, _, _, _, run m g, ?_⟩
  refine (θ_run Cert.OutReferenceIdeal.defs _ _).mono (fun r h c => ?_) (Cert.OutReferenceIdeal.Value.run m' g')
  obtain ⟨h0, h1, h2, h3, h4, ha⟩ := h c
  obtain ⟨p0, p1, p2, p3, p4, p6⟩ := hpre c
  obtain ⟨e0, e1, e2, e3, e4, e5, e6⟩ := hagree c
  have f0 : ∀ i, ∃ r : ℝ, a0 m c i = r := fun i => real_of_lt _ (congrFun p0 i)
  have f1 : ∀ i, ∃ r : ℝ, a1 m c i = r := fun i => real_of_lt _ (congrFun p1 i)
  have f2 : ∀ i, ∃ r : ℝ, a2 m c i = r := fun i => real_of_lt _ (congrFun p2 i)
  have f3 : ∀ i, ∃ r : ℝ, a3 m c i = r := fun i => real_of_lt _ (congrFun p3 i)
  have f4 : ∀ i, ∃ r : ℝ, a4 m c i = r := fun i => real_of_lt _ (congrFun p4 i)
  have f6 : ∀ i, ∃ r : ℝ, a6 m c i = r := fun i => real_of_lt _ (congrFun p6 i)
  rw [e0, e1, e2, e3, e4, e5, e6, Cert.OutReferenceIdeal.Read.val_main_v29_eq] at h0
  rw [e0, e1, e2, e5, e6, Cert.OutReferenceIdeal.Read.val_main_v36_eq] at h1
  rw [e0, e1, e2, e4, e5, Cert.OutReferenceIdeal.Read.val_main_v41_eq] at h2
  rw [e0, e1, e2, e3, e5, Cert.OutReferenceIdeal.Read.val_main_v34_eq] at h3
  rw [e0, e1, e3, e4, e5, e6, Cert.OutReferenceIdeal.Read.val_main_v25_eq] at h4
  refine ⟨h0.trans (funext fun y => ?_), h1.trans (funext fun y => ?_), h2.trans (funext fun y => ?_), h3.trans (funext fun y => ?_), h4.trans (funext fun y => ?_), ha⟩
  · obtain ⟨a, b, rfl⟩ := at_y y
    exact Ref.r29 _ _ _ _ _ _ _ f0 f1 f2 f3 f4 f6 a b
  · obtain ⟨a, b, rfl⟩ := at_y y
    exact Ref.r36 _ _ _ _ _ a b
  · obtain ⟨a, b, rfl⟩ := at_y y
    exact Ref.r41 _ _ _ _ _ a b
  · obtain ⟨a, b, rfl⟩ := at_y y
    have ha0 : a = 0 := Subsingleton.elim _ _
    subst ha0
    exact Ref.r34 _ _ _ _ _ b
  · obtain ⟨a, b, rfl⟩ := at_y y
    exact Ref.r25 _ _ _ _ _ _ a b

end Cert.Proof.Out

end
-- ==== Proof.In.Spec.lean ====
/- The input projection's backward call as mathematics over the extended reals. -/
module

public import Idealize.ShloMosaic.PureOps.Ideal
public import Idealize.ShloMosaic.Lib.Pointwise
public import Idealize.ShloMosaic.Lib.Pipeline.ValueKit.Acc

@[expose] public section

set_option maxRecDepth 16384

noncomputable section

namespace Cert.Proof.In

open Idealize.ShloMosaic

/-! ## The normalisation's derivative -/

theorem twice (T : EReal) (a : ℝ) : T * (a : EReal) + T * (a : EReal) = T * ((2 * a : ℝ) : EReal) := by
  induction T using EReal.rec with
  | coe r => norm_cast; ring
  | top =>
    rcases lt_trichotomy a 0 with h | h | h
    · rw [EReal.top_mul_coe_of_neg h, EReal.top_mul_coe_of_neg (by linarith)]; simp
    · subst h; simp
    · rw [EReal.top_mul_coe_of_pos h, EReal.top_mul_coe_of_pos (by linarith)]; simp
  | bot =>
    rcases lt_trichotomy a 0 with h | h | h
    · rw [EReal.bot_mul_coe_of_neg h, EReal.bot_mul_coe_of_neg (by linarith)]; simp
    · subst h; simp
    · rw [EReal.bot_mul_coe_of_pos h, EReal.bot_mul_coe_of_pos (by linarith)]; simp

theorem scale_add {r : ℝ} (hr : 0 ≤ r) (a b : EReal) : (r : EReal) * (a + b) = r * a + r * b :=
  EReal.left_distrib_of_nonneg_of_ne_top (by exact_mod_cast hr) (EReal.coe_ne_top r) a b

theorem scale_sum {n : ℕ} {r : ℝ} (hr : 0 ≤ r) (f : Fin n → EReal) : ∑ k, (r : EReal) * f k = r * ∑ k, f k := by
  have h : ∀ s : Finset (Fin n), ∑ k ∈ s, (r : EReal) * f k = r * ∑ k ∈ s, f k := by
    intro s
    induction s using Finset.induction_on with
    | empty => simp
    | insert a s ha ih => rw [Finset.sum_insert ha, Finset.sum_insert ha, ih, scale_add hr]
  exact h Finset.univ

theorem coe_sum {n : ℕ} (f : Fin n → ℝ) : ((∑ k, f k : ℝ) : EReal) = ∑ k, (f k : EReal) := by
  have h : ∀ s : Finset (Fin n), ((∑ k ∈ s, f k : ℝ) : EReal) = ∑ k ∈ s, (f k : EReal) := by
    intro s
    induction s using Finset.induction_on with
    | empty => simp
    | insert a s ha ih => rw [Finset.sum_insert ha, Finset.sum_insert ha, EReal.coe_add, ih]
  exact h Finset.univ

theorem sq_nonneg (x : EReal) : 0 ≤ x * x := by
  rcases le_total 0 x with h | h
  · exact mul_nonneg h h
  · have := EReal.neg_nonneg.mpr h
    simpa using mul_nonneg this this

/-- The gradient through the division by the root mean square: the form that projects the cotangent is the chain rule's. -/
theorem rms_grad {n : ℕ} (x y : Fin n → EReal) (o : EReal) {N e : ℝ} (hN : 0 < N) (he : 0 < e) (j : Fin n) (v r : EReal)
    (hv : v = Ideal.div (∑ k, x k * x k) (N : EReal) + (e : EReal)) (hr : r = Ideal.rsqrt v) :
    r * (y j - x j * r * Ideal.div (∑ k, y k * (x k * r)) (N : EReal)) + o
      = o + y j * r + x j * Ideal.div ((∑ k, x k * y k) * (((-1 / 2 : ℝ) : EReal) * Ideal.div r v)) (N : EReal)
        + Ideal.div ((∑ k, x k * y k) * (((-1 / 2 : ℝ) : EReal) * Ideal.div r v)) (N : EReal) * x j := by
  have hN' : N ≠ 0 := hN.ne'
  by_cases hx : ∀ k, ∃ t : ℝ, x k = t
  · choose t ht using hx
    set s : ℝ := ∑ k, t k * t k with hs
    have hs0 : 0 ≤ s := Finset.sum_nonneg fun k _ => mul_self_nonneg _
    have hS : ∑ k, x k * x k = (s : EReal) := by
      rw [hs, coe_sum]
      exact Finset.sum_congr rfl fun k _ => by rw [ht k, EReal.coe_mul]
    have hv' : v = ((s * (1 / N) + e : ℝ) : EReal) := by
      rw [hv, hS, Ideal.div_coe hN', EReal.coe_add, EReal.coe_mul]
    set w : ℝ := s * (1 / N) + e with hw
    have hw0 : 0 < w := by positivity
    have hr' : r = (((Real.sqrt w)⁻¹ : ℝ) : EReal) := by
      rw [hr, hv', Ideal.rsqrt_coe, if_neg (not_lt.mpr hw0.le), if_neg hw0.ne']
    set q : ℝ := (Real.sqrt w)⁻¹ with hq
    have hq0 : 0 < q := by positivity
    have hqq : q * q = 1 / w := by
      rw [hq, ← mul_inv, Real.mul_self_sqrt hw0.le, one_div]
    set T : EReal := ∑ k, x k * y k with hT
    have hsum : ∑ k, y k * (x k * r) = (q : EReal) * T := by
      rw [hT, ← scale_sum hq0.le]
      exact Finset.sum_congr rfl fun k _ => by rw [hr']; rw [mul_comm (x k), mul_left_comm, mul_comm (y k)]
    rw [hsum, hr', hv', Ideal.div_coe hw0.ne', ht j, Ideal.div_coe hN', Ideal.div_coe hN', sub_eq_add_neg, scale_add hq0.le]
    have e1 : (q : EReal) * -((t j : EReal) * q * ((q : EReal) * T * ((1 / N : ℝ) : EReal))) = T * ((2 * (t j * (-1 / 2 * (q * (1 / w)) * (1 / N))) : ℝ) : EReal) := by
      have : (2 * (t j * (-1 / 2 * (q * (1 / w)) * (1 / N))) : ℝ) = -(q * (t j * q * (q * (1 / N)))) := by rw [← hqq]; ring
      rw [this, mul_neg, EReal.coe_neg, mul_neg]
      congr 1
      push_cast
      ac_rfl
    have e2 : (t j : EReal) * (T * (((-1 / 2 : ℝ) : EReal) * ((q : EReal) * ((1 / w : ℝ) : EReal))) * ((1 / N : ℝ) : EReal)) = T * ((t j * (-1 / 2 * (q * (1 / w)) * (1 / N)) : ℝ) : EReal) := by
      push_cast
      ac_rfl
    have e3 : (T * (((-1 / 2 : ℝ) : EReal) * ((q : EReal) * ((1 / w : ℝ) : EReal))) * ((1 / N : ℝ) : EReal)) * (t j : EReal) = T * ((t j * (-1 / 2 * (q * (1 / w)) * (1 / N)) : ℝ) : EReal) := by
      rw [mul_comm, e2]
    rw [e1, e2, e3, add_assoc (o + _), twice, mul_comm (y j) (q : EReal)]
    ac_rfl
  · push Not at hx
    obtain ⟨k, hk⟩ := hx
    have hsq : x k * x k = ⊤ := by
      induction h : x k using EReal.rec with
      | coe a => exact absurd h (hk a)
      | top => simp
      | bot => simp
    have hS : ∑ k, x k * x k = ⊤ :=
      top_le_iff.mp (hsq ▸ Finset.single_le_sum (f := fun k => x k * x k) (fun i _ => sq_nonneg (x i)) (Finset.mem_univ k))
    have hv' : v = ⊤ := by
      rw [hv, hS, Ideal.div_coe hN', EReal.top_mul_coe_of_pos (by positivity)]; simp
    have hr' : r = 0 := by rw [hr, hv', Ideal.rsqrt_top]
    rw [hr', hv']
    simp [Ideal.div_coe hN', Ideal.div, hN']

/-! ## The call's results -/

/-- A two- and a three-dimensional array of extended reals. -/
abbrev Arr (p q : ℕ) : Type := (⟨2, ![p, q]⟩ : Shape).Idx → EReal
abbrev Arr3 (p q r : ℕ) : Type := (⟨3, ![p, q, r]⟩ : Shape).Idx → EReal

variable (x0 x1 : Arr 8192 2048) (x2 x3 x4 : Arr 8192 1024) (x5 : Arr 8192 2048) (x6 : Arr3 8 2048 512) (x7 x8 : Arr 1 2048) (x10 : Arr 1 1024) (x11 : Arr 1 2048)

/-- The projection's gradient: the pooling branch's columns, the scanned branch's, the gate's. -/
def dp (i : Fin 8192) (n : Fin 4096) : EReal :=
  if h : n.val < 1024 then x2 (ix2 i ⟨n.val, h⟩)
  else if h : n.val < 2048 then x3 (ix2 i ⟨n.val - 1024, by omega⟩) + x10 (ix2 0 ⟨n.val - 1024, by omega⟩) * x4 (ix2 i ⟨n.val - 1024, by omega⟩)
  else x5 (ix2 i ⟨n.val - 2048, by omega⟩)
/-- The weights, whose columns come in eight shards. -/
def wt (d : Fin 2048) (n : Fin 4096) : EReal := x6 (ix3 ⟨n.val / 512, by omega⟩ d ⟨n.val % 512, by omega⟩)
def dh (i : Fin 8192) (d : Fin 2048) : EReal := ∑ n : Fin 4096, dp x2 x3 x4 x5 x10 i n * wt x6 d n

/-- The mean square with its offset, and the reciprocal root. -/
def ms (i : Fin 8192) : EReal := Ideal.div (∑ k : Fin 2048, x0 (ix2 i k) * x0 (ix2 i k)) (Ideal.ofBits .f32 0x45000000#32) + Ideal.ofBits .f32 0x358637BD#32
def rr (i : Fin 8192) : EReal := Ideal.rsqrt (ms x0 i)
def dxh (i : Fin 8192) (d : Fin 2048) : EReal := dh x2 x3 x4 x5 x6 x10 i d * (1 + x8 (ix2 0 d)) * x7 (ix2 0 d)

def gx (i : Fin 8192) (d : Fin 2048) : EReal :=
  rr x0 i * (dxh x2 x3 x4 x5 x6 x7 x8 x10 i d - x0 (ix2 i d) * rr x0 i * Ideal.div (∑ k : Fin 2048, dxh x2 x3 x4 x5 x6 x7 x8 x10 i k * (x0 (ix2 i k) * rr x0 i)) (Ideal.ofBits .f32 0x45000000#32)) + x1 (ix2 i d)
def dsh (d : Fin 2048) : EReal := ∑ i : Fin 8192, dh x2 x3 x4 x5 x6 x10 i d
def dsc (d : Fin 2048) : EReal := ∑ i : Fin 8192, dh x2 x3 x4 x5 x6 x10 i d * (x0 (ix2 i d) * rr x0 i * x7 (ix2 0 d))
def dg (d : Fin 2048) : EReal := x11 (ix2 0 d) + ∑ i : Fin 8192, dh x2 x3 x4 x5 x6 x10 i d * (1 + x8 (ix2 0 d)) * (x0 (ix2 i d) * rr x0 i)

/-- One shard's part of the product with the weights. -/
def part (i : Fin 8192) (d : Fin 2048) (j : Fin 8) : EReal :=
  ∑ l : Fin 512, dp x2 x3 x4 x5 x10 i ⟨j.val * 512 + l.val, by omega⟩ * x6 (ix3 j d l)

theorem dh_parts (i : Fin 8192) (d : Fin 2048) : dh x2 x3 x4 x5 x6 x10 i d = ∑ j : Fin 8, part x2 x3 x4 x5 x6 x10 i d j := by
  unfold dh part
  rw [← Fin.sum_mul_add_fin 8 512 (fun n : Fin 4096 => dp x2 x3 x4 x5 x10 i n * wt x6 d n) rfl]
  refine Finset.sum_congr rfl fun j _ => Finset.sum_congr rfl fun l _ => congrArg (_ * ·) ?_
  unfold wt
  exact congrArg₂ (fun a b => x6 (ix3 a d b)) (Fin.ext (by show (j.val * 512 + l.val) / 512 = j.val; omega)) (Fin.ext (by show (j.val * 512 + l.val) % 512 = l.val; omega))

theorem b2048 : Ideal.ofBits .f32 0x45000000#32 = ((2048 : ℝ) : EReal) := by
  simp [Ideal.ofBits, Ideal.ieee, -EReal.coe_mul]; norm_num
theorem bhalf : Ideal.ofBits .f32 0xBF000000#32 = ((-1 / 2 : ℝ) : EReal) := by
  simp [Ideal.ofBits, Ideal.ieee, -EReal.coe_mul]; norm_num
theorem beps : ∃ e : ℝ, 0 < e ∧ Ideal.ofBits .f32 0x358637BD#32 = (e : EReal) := by
  refine ⟨8796093 / 2 ^ 43, by positivity, ?_⟩
  simp [Ideal.ofBits, Ideal.ieee, -EReal.coe_mul]; norm_num

/-- The input's gradient, in the chain rule's order. -/
theorem gx_eq (i : Fin 8192) (d : Fin 2048) : gx x0 x1 x2 x3 x4 x5 x6 x7 x8 x10 i d
    = x1 (ix2 i d) + dxh x2 x3 x4 x5 x6 x7 x8 x10 i d * rr x0 i
      + x0 (ix2 i d) * Ideal.div ((∑ k : Fin 2048, x0 (ix2 i k) * dxh x2 x3 x4 x5 x6 x7 x8 x10 i k) * (Ideal.ofBits .f32 0xBF000000#32 * Ideal.div (rr x0 i) (ms x0 i))) (Ideal.ofBits .f32 0x45000000#32)
      + Ideal.div ((∑ k : Fin 2048, x0 (ix2 i k) * dxh x2 x3 x4 x5 x6 x7 x8 x10 i k) * (Ideal.ofBits .f32 0xBF000000#32 * Ideal.div (rr x0 i) (ms x0 i))) (Ideal.ofBits .f32 0x45000000#32) * x0 (ix2 i d) := by
  obtain ⟨e, he, hb⟩ := beps
  unfold gx
  rw [b2048, bhalf]
  exact rms_grad (fun k => x0 (ix2 i k)) (fun k => dxh x2 x3 x4 x5 x6 x7 x8 x10 i k) (x1 (ix2 i d)) (N := 2048) (by norm_num) he d (ms x0 i) (rr x0 i)
    (by unfold ms; rw [b2048, hb]) rfl

end Cert.Proof.In

end
-- ==== Proof.In.Pay.lean ====
/- The input projection's backward call's arithmetic, at an entry of a block. -/
module

public import proofs.«01_k».proof.Proof.Gen.InKernelIdeal.Skeleton
public import Idealize.ShloMosaic.Lib.Pipeline.ValueKit
public import Idealize.ShloMosaic.Lib.VecWindow
public import proofs.«01_k».proof.Proof.In.Spec

@[expose] public section

set_option maxRecDepth 16384

noncomputable section

namespace Cert.Proof.In

open Cert.InKernelIdeal Cert.InKernelIdeal.Gen
open Idealize.ShloMosaic Idealize.ShloMosaic.TcCoe

/-- One shard of the weights' block. -/
def shard {F : FTy → Type} (w : Vec F S8x2048x512 .bf16) (j : ℕ) (h : ∀ a, (![j, 0, 0] : Fin 3 → Nat) a + S1x2048x512.size a ≤ S8x2048x512.size a) : Vec F S1x2048x512 .bf16 :=
  View.ld w (Rect.unit (s := S8x2048x512) ![j, 0, 0] S1x2048x512.size h)

theorem shard_at (w : Arr3 8 2048 512) (j : Fin 8) (h : ∀ a, (![j.val, 0, 0] : Fin 3 → Nat) a + S1x2048x512.size a ≤ S8x2048x512.size a) (d : Fin 2048) (l : Fin 512) :
    shard (F := Ideal) w j.val h (ix3 0 d l) = w (ix3 j d l) := by
  pointwise [shard]

variable (b0 b1 : Arr 256 2048) (b2 b3 b4 : Arr 256 1024) (b5 : Arr 256 2048) (b7 b8 : Arr 1 2048) (b10 : Arr 1 1024)

theorem k4 (a : Fin 256) (n : Fin 4096) : k0_pay4 (F := Ideal) b2 b3 b10 b4 b5 (ix2 a n)
    = if h : n.val < 1024 then b2 (ix2 a ⟨n.val, h⟩)
      else if h : n.val < 2048 then b3 (ix2 a ⟨n.val - 1024, by omega⟩) + b10 (ix2 0 ⟨n.val - 1024, by omega⟩) * b4 (ix2 a ⟨n.val - 1024, by omega⟩)
      else b5 (ix2 a ⟨n.val - 2048, by omega⟩) := by
  pointwise [k0_pay4]
  by_cases h : n.val < 1024
  · rw [dif_pos h, dif_pos h]
  · rw [dif_neg h, dif_neg h]
    by_cases h' : n.val < 2048
    · rw [dif_pos h', dif_pos (by omega)]
    · rw [dif_neg h', dif_neg (by omega)]
      exact congrArg (fun k => b5 (ix2 a k)) (Fin.ext (by show n.val - 1024 - 1024 = n.val - 2048; omega))

theorem k7 (s0 s1 s2 s3 s4 s5 s6 s7 : Arr3 1 2048 512) (f : Fin 4096 → EReal) (w : Fin 8 → Fin 512 → EReal) (a : Fin 256) (d : Fin 2048)
    (hf : ∀ n, k0_pay4 (F := Ideal) b2 b3 b10 b4 b5 (ix2 a n) = f n)
    (h0 : ∀ l, s0 (ix3 0 d l) = w 0 l) (h1 : ∀ l, s1 (ix3 0 d l) = w 1 l) (h2 : ∀ l, s2 (ix3 0 d l) = w 2 l) (h3 : ∀ l, s3 (ix3 0 d l) = w 3 l)
    (h4 : ∀ l, s4 (ix3 0 d l) = w 4 l) (h5 : ∀ l, s5 (ix3 0 d l) = w 5 l) (h6 : ∀ l, s6 (ix3 0 d l) = w 6 l) (h7 : ∀ l, s7 (ix3 0 d l) = w 7 l) :
    k0_pay7 (F := Ideal) (k0_pay4 b2 b3 b10 b4 b5) (k0_pay5 b2 b3 b10 b4 b5 s0 s1 s2) (k0_pay6 b2 b3 b10 b4 b5) s3 s4 s5 s6 s7 (ix2 a d)
      = ∑ j : Fin 8, ∑ l : Fin 512, f ⟨j.val * 512 + l.val, by omega⟩ * w j l := by
  rw [Fin.sum_univ_eight]
  pointwise [k0_pay7, k0_pay5, k0_pay6]
  simp only [hf, h0, h1, h2, h3, h4, h5, h6, h7]

theorem k8 (a : Fin 256) : k0_pay8 (F := Ideal) b0 (ix2 a 0)
    = Ideal.rsqrt (Ideal.div (∑ k : Fin 2048, b0 (ix2 a k) * b0 (ix2 a k)) (Ideal.ofBits .f32 0x45000000#32) + Ideal.ofBits .f32 0x358637BD#32) := by
  pointwise [k0_pay8]

theorem k9 (a : Fin 256) (d : Fin 2048) : k0_pay9 (F := Ideal) b0 (ix2 a d) = b0 (ix2 a d) * k0_pay8 (F := Ideal) b0 (ix2 a 0) := by
  pointwise [k0_pay9]

theorem k14 (a : Fin 256) (d : Fin 2048) : k0_pay14 (F := Ideal) b0 b7 b8 (ix2 a d) = b0 (ix2 a d) * (1 + b8 (ix2 0 d)) * b7 (ix2 0 d) := by
  pointwise [k0_pay14, k0_pay10]

theorem k15 (a : Fin 256) : k0_pay15 (F := Ideal) b0 b1 b7 b8 (ix2 a 0)
    = Ideal.div (∑ k : Fin 2048, k0_pay14 (F := Ideal) b0 b7 b8 (ix2 a k) * b1 (ix2 a k)) (Ideal.ofBits .f32 0x45000000#32) := by
  pointwise [k0_pay15]

theorem k1 (r q : Arr 256 1) (xh y o : Arr 256 2048) (a : Fin 256) (d : Fin 2048) : k0_pay1 (F := Ideal) r xh y q o (ix2 a d)
    = r (ix2 a 0) * (y (ix2 a d) - xh (ix2 a d) * q (ix2 a 0)) + o (ix2 a d) := by
  pointwise [k0_pay1]

theorem k11 (v : Arr 1 2048) (d : Fin 2048) : k0_pay11 (F := Ideal) b0 v (ix2 0 d) = v (ix2 0 d) + ∑ a : Fin 256, b0 (ix2 a d) := by
  pointwise [k0_pay11]

theorem k12 (v : Arr 1 2048) (d : Fin 2048) : k0_pay12 (F := Ideal) b0 b1 b7 v (ix2 0 d)
    = v (ix2 0 d) + ∑ a : Fin 256, b0 (ix2 a d) * (b1 (ix2 a d) * b7 (ix2 0 d)) := by
  pointwise [k0_pay12]

theorem k13 (v : Arr 1 2048) (d : Fin 2048) : k0_pay13 (F := Ideal) b0 b1 b8 v (ix2 0 d)
    = v (ix2 0 d) + ∑ a : Fin 256, b0 (ix2 a d) * (1 + b8 (ix2 0 d)) * b1 (ix2 a d) := by
  pointwise [k0_pay13, k0_pay10]

end Cert.Proof.In

end
-- ==== Proof.In.Point.lean ====
/- What each grid point of the input projection's backward call leaves in its buffers. -/
module

public import proofs.«01_k».proof.Proof.Gen.InKernelIdeal.Value
public import proofs.«01_k».proof.Proof.In.Pay

@[expose] public section

set_option maxRecDepth 16384

noncomputable section

namespace Cert.Proof.In

open Cert.InKernelIdeal Cert.InKernelIdeal.Gen
open Idealize.ShloMosaic Idealize.ShloMosaic.TcCoe

variable {F : FTy → Type} [FloatOps F]
variable (m : (ℓ : Loc nD τ sig) → Buf (Elt F) ℓ) (c : Dev nD)

/-- The projection's gradient, at a point. -/
def pdp (t : Fin cfg0.N) : FVec F S256x4096 .bf16 :=
  k0_pay4 (iblk m c 2 t) (iblk m c 3 t) (iblk m c 10 t) (iblk m c 4 t) (iblk m c 5 t)

/-- The modulated input's gradient, at a point. -/
def pdh (t : Fin cfg0.N) : FVec F S256x2048 .f32 :=
  k0_pay7 (pdp m c t)
    (k0_pay5 (iblk m c 2 t) (iblk m c 3 t) (iblk m c 10 t) (iblk m c 4 t) (iblk m c 5 t)
      (shard (iblk m c 6 t) 0 inb_S8x2048x512_S1x2048x512_0_0_0) (shard (iblk m c 6 t) 1 inb_S8x2048x512_S1x2048x512_1_0_0) (shard (iblk m c 6 t) 2 inb_S8x2048x512_S1x2048x512_2_0_0))
    (k0_pay6 (iblk m c 2 t) (iblk m c 3 t) (iblk m c 10 t) (iblk m c 4 t) (iblk m c 5 t))
    (shard (iblk m c 6 t) 3 inb_S8x2048x512_S1x2048x512_3_0_0) (shard (iblk m c 6 t) 4 inb_S8x2048x512_S1x2048x512_4_0_0) (shard (iblk m c 6 t) 5 inb_S8x2048x512_S1x2048x512_5_0_0)
    (shard (iblk m c 6 t) 6 inb_S8x2048x512_S1x2048x512_6_0_0) (shard (iblk m c 6 t) 7 inb_S8x2048x512_S1x2048x512_7_0_0)

theorem left12 (t : Fin cfg0.N) : (outsAt0 m c t.val t.isLt).1 =
    k0_pay1 (k0_pay8 (iblk m c 0 t)) (k0_pay9 (iblk m c 0 t)) (k0_pay14 (pdh m c t) (iblk m c 7 t) (iblk m c 8 t))
      (k0_pay15 (pdh m c t) (k0_pay9 (iblk m c 0 t)) (iblk m c 7 t) (iblk m c 8 t)) (iblk m c 1 t) := by
  by_cases h0 : t.val % 32 = 0
  · rw [outsAt0_A m c t h0]; dsimp only; frame_out; rfl
  · rw [outsAt0_B m c t h0]; dsimp only; frame_out; rfl

theorem left13 (t : Fin cfg0.N) : (outsAt0 m c t.val t.isLt).2.1 = pdp m c t := by
  by_cases h0 : t.val % 32 = 0
  · rw [outsAt0_A m c t h0]; dsimp only; frame_out; rfl
  · rw [outsAt0_B m c t h0]; dsimp only; frame_out; rfl

theorem left14_0 (t : Fin cfg0.N) (h0 : t.val % 32 = 0) : (outsAt0 m c t.val t.isLt).2.2.1 =
    k0_pay12 (pdh m c t) (k0_pay9 (iblk m c 0 t)) (iblk m c 7 t) k0_pay2 := by
  rw [outsAt0_A m c t h0]; dsimp only; frame_out; rfl

theorem left14_S (t : Fin cfg0.N) (h0 : ¬t.val % 32 = 0) : (outsAt0 m c t.val t.isLt).2.2.1 =
    k0_pay12 (pdh m c t) (k0_pay9 (iblk m c 0 t)) (iblk m c 7 t) (outsAt0 m c (t.val - 1) (Nat.lt_of_le_of_lt (Nat.sub_le _ _) t.isLt)).2.2.1 := by
  rw [outsAt0_B m c t h0]; dsimp only; frame_out; rfl

theorem left15_0 (t : Fin cfg0.N) (h0 : t.val % 32 = 0) : (outsAt0 m c t.val t.isLt).2.2.2.1 =
    k0_pay11 (pdh m c t) k0_pay3 := by
  rw [outsAt0_A m c t h0]; dsimp only; frame_out; rfl

theorem left15_S (t : Fin cfg0.N) (h0 : ¬t.val % 32 = 0) : (outsAt0 m c t.val t.isLt).2.2.2.1 =
    k0_pay11 (pdh m c t) (outsAt0 m c (t.val - 1) (Nat.lt_of_le_of_lt (Nat.sub_le _ _) t.isLt)).2.2.2.1 := by
  rw [outsAt0_B m c t h0]; dsimp only; frame_out; rfl

theorem left16_0 (t : Fin cfg0.N) (h0 : t.val % 32 = 0) : (outsAt0 m c t.val t.isLt).2.2.2.2 =
    k0_pay13 (pdh m c t) (k0_pay9 (iblk m c 0 t)) (iblk m c 8 t) (iblk m c 11 t) := by
  rw [outsAt0_A m c t h0]; dsimp only; frame_out; rfl

theorem left16_S (t : Fin cfg0.N) (h0 : ¬t.val % 32 = 0) : (outsAt0 m c t.val t.isLt).2.2.2.2 =
    k0_pay13 (pdh m c t) (k0_pay9 (iblk m c 0 t)) (iblk m c 8 t) (outsAt0 m c (t.val - 1) (Nat.lt_of_le_of_lt (Nat.sub_le _ _) t.isLt)).2.2.2.2 := by
  rw [outsAt0_B m c t h0]; dsimp only; frame_out; rfl

end Cert.Proof.In

end
-- ==== Proof.In.Final.lean ====
/- What the input projection's backward call leaves in its result arrays. -/
module

public import proofs.«01_k».proof.Proof.In.Point

@[expose] public section

set_option maxRecDepth 16384

noncomputable section

namespace Cert.Proof.In

open Cert.InKernelIdeal Cert.InKernelIdeal.Gen
open Idealize.ShloMosaic Idealize.ShloMosaic.TcCoe
open Idealize.ShloMosaic.Pipeline (Dat)

variable (m : (ℓ : Loc nD τ sig) → Buf (Elt Ideal) ℓ) (c : Dev nD)

def a0 : Arr 8192 2048 := m ((c : Thread nD τ).loc main_arg0)
def a1 : Arr 8192 2048 := m ((c : Thread nD τ).loc main_arg1)
def a2 : Arr 8192 1024 := m ((c : Thread nD τ).loc main_arg2)
def a3 : Arr 8192 1024 := m ((c : Thread nD τ).loc main_arg3)
def a4 : Arr 8192 1024 := m ((c : Thread nD τ).loc main_arg4)
def a5 : Arr 8192 2048 := m ((c : Thread nD τ).loc main_arg5)
def a6 : Arr3 8 2048 512 := m ((c : Thread nD τ).loc main_arg6)
def a7 : Arr 1 2048 := m ((c : Thread nD τ).loc main_arg7)
def a8 : Arr 1 2048 := m ((c : Thread nD τ).loc main_arg8)
def a9 : Arr 1 2048 := m ((c : Thread nD τ).loc main_arg9)
def a10 : Arr 1 1024 := m ((c : Thread nD τ).loc main_arg10)
def a11 : Arr 1 2048 := m ((c : Thread nD τ).loc main_arg11)

theorem idx_0 : ∀ t : Fin cfg0.N, win0_0.index t = ![t.val, 0] := (by decide +kernel : ∀ t : Fin grid0.N, _)
theorem idx_1 : ∀ t : Fin cfg0.N, win0_1.index t = ![t.val, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![t.val, 0] := (by decide +kernel : ∀ t : Fin grid0.N, _)
theorem idx_4 : ∀ t : Fin cfg0.N, win0_4.index t = ![t.val, 0] := (by decide +kernel : ∀ t : Fin grid0.N, _)
theorem idx_5 : ∀ t : Fin cfg0.N, win0_5.index t = ![t.val, 0] := (by decide +kernel : ∀ t : Fin grid0.N, _)
theorem idx_6 : ∀ t : Fin cfg0.N, win0_6.index t = ![0, 0, 0] := (by decide +kernel : ∀ t : Fin grid0.N, _)
theorem idx_7 : ∀ t : Fin cfg0.N, win0_7.index t = ![0, 0] := (by decide +kernel : ∀ t : Fin grid0.N, _)
theorem idx_8 : ∀ t : Fin cfg0.N, win0_8.index t = ![0, 0] := (by decide +kernel : ∀ t : Fin grid0.N, _)
theorem idx_9 : ∀ t : Fin cfg0.N, win0_9.index t = ![0, 0] := (by decide +kernel : ∀ t : Fin grid0.N, _)
theorem idx_10 : ∀ t : Fin cfg0.N, win0_10.index t = ![0, 0] := (by decide +kernel : ∀ t : Fin grid0.N, _)
theorem idx_11 : ∀ t : Fin cfg0.N, win0_11.index t = ![0, 0] := (by decide +kernel : ∀ t : Fin grid0.N, _)
theorem idx_12 : ∀ t : Fin cfg0.N, win0_12.index t = ![t.val, 0] := (by decide +kernel : ∀ t : Fin grid0.N, _)
theorem idx_13 : ∀ t : Fin cfg0.N, win0_13.index t = ![t.val, 0] := (by decide +kernel : ∀ t : Fin grid0.N, _)
theorem idx_14 : ∀ t : Fin cfg0.N, win0_14.index t = ![0, 0] := (by decide +kernel : ∀ t : Fin grid0.N, _)
theorem idx_15 : ∀ t : Fin cfg0.N, win0_15.index t = ![0, 0] := (by decide +kernel : ∀ t : Fin grid0.N, _)
theorem idx_16 : ∀ t : Fin cfg0.N, win0_16.index t = ![0, 0] := (by decide +kernel : ∀ t : Fin grid0.N, _)
theorem t_lt : ∀ t : Fin cfg0.N, t.val < 32 := (by decide +kernel : ∀ t : Fin grid0.N, _)

/-- A point's row in the arrays. -/
def row (t : Fin cfg0.N) (a : Fin 256) : Fin 8192 := ⟨t.val * 256 + a.val, by have := t_lt t; omega⟩

theorem blk_0 (t : Fin cfg0.N) (a : Fin 256) (k : Fin 2048) : iblk m c 0 t (ix2 a k) = a0 m c (ix2 (row t a) k) := by
  unfold a0 row
  blk_point [iblk, V, idx_0 t]
theorem blk_1 (t : Fin cfg0.N) (a : Fin 256) (k : Fin 2048) : iblk m c 1 t (ix2 a k) = a1 m c (ix2 (row t a) k) := by
  unfold a1 row
  blk_point [iblk, V, idx_1 t]
theorem blk_2 (t : Fin cfg0.N) (a : Fin 256) (k : Fin 1024) : iblk m c 2 t (ix2 a k) = a2 m c (ix2 (row t a) k) := by
  unfold a2 row
  blk_point [iblk, V, idx_2 t]
theorem blk_3 (t : Fin cfg0.N) (a : Fin 256) (k : Fin 1024) : iblk m c 3 t (ix2 a k) = a3 m c (ix2 (row t a) k) := by
  unfold a3 row
  blk_point [iblk, V, idx_3 t]
theorem blk_4 (t : Fin cfg0.N) (a : Fin 256) (k : Fin 1024) : iblk m c 4 t (ix2 a k) = a4 m c (ix2 (row t a) k) := by
  unfold a4 row
  blk_point [iblk, V, idx_4 t]
theorem blk_5 (t : Fin cfg0.N) (a : Fin 256) (k : Fin 2048) : iblk m c 5 t (ix2 a k) = a5 m c (ix2 (row t a) k) := by
  unfold a5 row
  blk_point [iblk, V, idx_5 t]
theorem blk_6 (t : Fin cfg0.N) (j : Fin 8) (d : Fin 2048) (l : Fin 512) : iblk m c 6 t (ix3 j d l) = a6 m c (ix3 j d l) := by
  unfold a6
  blk_point [iblk, V, idx_6 t]
theorem blk_7 (t : Fin cfg0.N) (a : Fin 1) (k : Fin 2048) : iblk m c 7 t (ix2 a k) = a7 m c (ix2 a k) := by
  unfold a7
  blk_point [iblk, V, idx_7 t]
theorem blk_8 (t : Fin cfg0.N) (a : Fin 1) (k : Fin 2048) : iblk m c 8 t (ix2 a k) = a8 m c (ix2 a k) := by
  unfold a8
  blk_point [iblk, V, idx_8 t]
theorem blk_10 (t : Fin cfg0.N) (a : Fin 1) (k : Fin 1024) : iblk m c 10 t (ix2 a k) = a10 m c (ix2 a k) := by
  unfold a10
  blk_point [iblk, V, idx_10 t]
theorem blk_11 (t : Fin cfg0.N) (a : Fin 1) (k : Fin 2048) : iblk m c 11 t (ix2 a k) = a11 m c (ix2 a k) := by
  unfold a11
  blk_point [iblk, V, idx_11 t]

theorem p13 (t : Fin cfg0.N) (a : Fin 256) (n : Fin 4096) : pdp m c t (ix2 a n) = dp (a2 m c) (a3 m c) (a4 m c) (a5 m c) (a10 m c) (row t a) n := by
  unfold pdp dp
  rw [k4]
  simp only [blk_2, blk_3, blk_4, blk_5, blk_10]

theorem pshard (t : Fin cfg0.N) (j : Fin 8) (h : ∀ a, (![j.val, 0, 0] : Fin 3 → Nat) a + S1x2048x512.size a ≤ S8x2048x512.size a) (d : Fin 2048) (l : Fin 512) :
    shard (iblk m c 6 t) j.val h (ix3 0 d l) = a6 m c (ix3 j d l) :=
  (shard_at _ j h d l).trans (blk_6 m c t j d l)

theorem pdh_at (t : Fin cfg0.N) (a : Fin 256) (d : Fin 2048) : pdh m c t (ix2 a d) = dh (a2 m c) (a3 m c) (a4 m c) (a5 m c) (a6 m c) (a10 m c) (row t a) d := by
  rw [dh_parts]
  exact k7 _ _ _ _ _ _ _ _ _ _ _ _ _ (dp (a2 m c) (a3 m c) (a4 m c) (a5 m c) (a10 m c) (row t a)) (fun j l => a6 m c (ix3 j d l)) a d (p13 m c t a)
    (pshard m c t 0 _ d) (pshard m c t 1 _ d) (pshard m c t 2 _ d) (pshard m c t 3 _ d) (pshard m c t 4 _ d) (pshard m c t 5 _ d) (pshard m c t 6 _ d) (pshard m c t 7 _ d)

theorem prr (t : Fin cfg0.N) (a : Fin 256) : k0_pay8 (iblk m c 0 t) (ix2 a 0) = rr (a0 m c) (row t a) := by
  rw [k8]
  simp only [blk_0]
  rfl

theorem pxh (t : Fin cfg0.N) (a : Fin 256) (d : Fin 2048) : k0_pay9 (iblk m c 0 t) (ix2 a d) = a0 m c (ix2 (row t a) d) * rr (a0 m c) (row t a) := by
  rw [k9, prr, blk_0]

theorem pdxh (t : Fin cfg0.N) (a : Fin 256) (d : Fin 2048) : k0_pay14 (pdh m c t) (iblk m c 7 t) (iblk m c 8 t) (ix2 a d) = dxh (a2 m c) (a3 m c) (a4 m c) (a5 m c) (a6 m c) (a7 m c) (a8 m c) (a10 m c) (row t a) d := by
  rw [k14, pdh_at, blk_7, blk_8]
  rfl

theorem p12 (t : Fin cfg0.N) (a : Fin 256) (d : Fin 2048) :
    (outsAt0 m c t.val t.isLt).1 (ix2 a d) = gx (a0 m c) (a1 m c) (a2 m c) (a3 m c) (a4 m c) (a5 m c) (a6 m c) (a7 m c) (a8 m c) (a10 m c) (row t a) d := by
  rw [left12, k1, k15, prr, pxh, pdxh, blk_1]
  simp only [pdxh, pxh]
  rfl

theorem p13' (t : Fin cfg0.N) (a : Fin 256) (n : Fin 4096) :
    (outsAt0 m c t.val t.isLt).2.1 (ix2 a n) = dp (a2 m c) (a3 m c) (a4 m c) (a5 m c) (a10 m c) (row t a) n := by
  rw [left13, p13]

theorem sum_14 (t : Fin cfg0.N) (ht : t.val % 32 = 31) (d : Fin 2048) :
    (outsAt0 m c t.val t.isLt).2.2.1 (ix2 0 d) = dsc (a0 m c) (a2 m c) (a3 m c) (a4 m c) (a5 m c) (a6 m c) (a7 m c) (a10 m c) d := by
  have hN : cfg0.N = 32 := N_0
  have e := Pipeline.eq_sum_fin_of_reset_step_apply_last
    (fun n hn (d : Fin 2048) => (outsAt0 m c n hn).2.2.1 (ix2 0 d)) 32 (fun _ => (0 : EReal))
    (fun p d => ∑ a : Fin 256, dh (a2 m c) (a3 m c) (a4 m c) (a5 m c) (a6 m c) (a10 m c) (row p a) d * (a0 m c (ix2 (row p a) d) * rr (a0 m c) (row p a) * a7 m c (ix2 0 d)))
    (fun p hp d => by
      rw [left14_0 m c p hp, k12]
      simp only [pdh_at, pxh, blk_7, blk_8, blk_11]
      congr 1
      pointwise [k0_pay2])
    (fun p hp d => by
      rw [left14_S m c p hp, k12]
      simp only [pdh_at, pxh, blk_7, blk_8])
    (by omega) t (by omega) d
  rw [e, zero_add]
  exact (Fin.sum_mul_add_fin cfg0.N 256 (fun i : Fin 8192 => dh (a2 m c) (a3 m c) (a4 m c) (a5 m c) (a6 m c) (a10 m c) i d * (a0 m c (ix2 i d) * rr (a0 m c) i * a7 m c (ix2 0 d))) (by rw [hN]))

theorem sum_15 (t : Fin cfg0.N) (ht : t.val % 32 = 31) (d : Fin 2048) :
    (outsAt0 m c t.val t.isLt).2.2.2.1 (ix2 0 d) = dsh (a2 m c) (a3 m c) (a4 m c) (a5 m c) (a6 m c) (a10 m c) d := by
  have hN : cfg0.N = 32 := N_0
  have e := Pipeline.eq_sum_fin_of_reset_step_apply_last
    (fun n hn (d : Fin 2048) => (outsAt0 m c n hn).2.2.2.1 (ix2 0 d)) 32 (fun _ => (0 : EReal))
    (fun p d => ∑ a : Fin 256, dh (a2 m c) (a3 m c) (a4 m c) (a5 m c) (a6 m c) (a10 m c) (row p a) d)
    (fun p hp d => by
      rw [left15_0 m c p hp, k11]
      simp only [pdh_at, pxh, blk_7, blk_8, blk_11]
      congr 1
      pointwise [k0_pay3])
    (fun p hp d => by
      rw [left15_S m c p hp, k11]
      simp only [pdh_at, pxh, blk_7, blk_8])
    (by omega) t (by omega) d
  rw [e, zero_add]
  exact (Fin.sum_mul_add_fin cfg0.N 256 (fun i : Fin 8192 => dh (a2 m c) (a3 m c) (a4 m c) (a5 m c) (a6 m c) (a10 m c) i d) (by rw [hN]))

theorem sum_16 (t : Fin cfg0.N) (ht : t.val % 32 = 31) (d : Fin 2048) :
    (outsAt0 m c t.val t.isLt).2.2.2.2 (ix2 0 d) = dg (a0 m c) (a2 m c) (a3 m c) (a4 m c) (a5 m c) (a6 m c) (a8 m c) (a10 m c) (a11 m c) d := by
  have hN : cfg0.N = 32 := N_0
  have e := Pipeline.eq_sum_fin_of_reset_step_apply_last
    (fun n hn (d : Fin 2048) => (outsAt0 m c n hn).2.2.2.2 (ix2 0 d)) 32 (fun d => a11 m c (ix2 0 d))
    (fun p d => ∑ a : Fin 256, dh (a2 m c) (a3 m c) (a4 m c) (a5 m c) (a6 m c) (a10 m c) (row p a) d * (1 + a8 m c (ix2 0 d)) * (a0 m c (ix2 (row p a) d) * rr (a0 m c) (row p a)))
    (fun p hp d => by
      rw [left16_0 m c p hp, k13]
      simp only [pdh_at, pxh, blk_7, blk_8, blk_11])
    (fun p hp d => by
      rw [left16_S m c p hp, k13]
      simp only [pdh_at, pxh, blk_7, blk_8])
    (by omega) t (by omega) d
  rw [e]
  exact congrArg (_ + ·) (Fin.sum_mul_add_fin cfg0.N 256 (fun i : Fin 8192 => dh (a2 m c) (a3 m c) (a4 m c) (a5 m c) (a6 m c) (a10 m c) i d * (1 + a8 m c (ix2 0 d)) * (a0 m c (ix2 i d) * rr (a0 m c) i)) (by rw [hN]))

theorem at_y {p q : ℕ} (y : (⟨2, ![p, q]⟩ : Shape).Idx) : ∃ (a : Fin p) (b : Fin q), y = ix2 a b := by
  refine ⟨y 0, y 1, ?_⟩
  funext d
  match d with
  | ⟨0, _⟩ => rfl
  | ⟨1, _⟩ => rfl

/-- A block's entry is the array's, where the block's placement puts it. -/
theorem place {p q r : ℕ} (f : Fin 8192 → Fin q → EReal) (g : Arr p q) (e : Fin p → Fin 8192) (h : ∀ a b, g (ix2 a b) = f (e a) b)
    (y : (⟨2, ![p, q]⟩ : Shape).Idx) (z : (⟨2, ![8192, q]⟩ : Shape).Idx) (hr : ∀ a, (e a).val = r * p + a.val)
    (h0 : (z (0 : Fin 2)).val = r * p + (y (0 : Fin 2)).val) (h1 : (z (1 : Fin 2)).val = 0 * q + (y (1 : Fin 2)).val) :
    g y = f (z 0) (z 1) := by
  obtain ⟨a, b, rfl⟩ := at_y y
  rw [h]
  exact congrArg₂ f (Fin.ext ((hr a).trans h0.symm)) (Fin.ext (by show b.val = (z (1 : Fin 2)).val; rw [h1]; show b.val = 0 * q + b.val; omega))

theorem place_row {q : ℕ} (f : Fin q → EReal) (g : Arr 1 q) (h : ∀ b, g (ix2 0 b) = f b)
    (y z : (⟨2, ![1, q]⟩ : Shape).Idx) (h1 : (z (1 : Fin 2)).val = 0 * q + (y (1 : Fin 2)).val) : g y = f (z 1) := by
  obtain ⟨a, b, rfl⟩ := at_y y
  rw [Subsingleton.elim a 0, h]
  exact congrArg f (Fin.ext (by show b.val = (z (1 : Fin 2)).val; rw [h1]; show b.val = 0 * q + b.val; omega))

theorem final_12 : (dats m 0 c).arrAt 12 cfg0.N = fun x => gx (a0 m c) (a1 m c) (a2 m c) (a3 m c) (a4 m c) (a5 m c) (a6 m c) (a7 m c) (a8 m c) (a10 m c) (x 0) (x 1) := by
  refine (dats m 0 c).arrAt_eq_of_covers 12 _ (by decide +kernel) fun t hf y => ?_
  blk_simp
  rw [after0_12]
  exact place (gx (a0 m c) (a1 m c) (a2 m c) (a3 m c) (a4 m c) (a5 m c) (a6 m c) (a7 m c) (a8 m c) (a10 m c)) _ _ (p12 m c t) y _ (fun a => rfl) (by blk_simp [idx_12]) (by blk_simp [idx_12])

theorem final_13 : (dats m 0 c).arrAt 13 cfg0.N = fun x => dp (a2 m c) (a3 m c) (a4 m c) (a5 m c) (a10 m c) (x 0) (x 1) := by
  refine (dats m 0 c).arrAt_eq_of_covers 13 _ (by decide +kernel) fun t hf y => ?_
  blk_simp
  rw [after0_13]
  exact place (dp (a2 m c) (a3 m c) (a4 m c) (a5 m c) (a10 m c)) _ _ (p13' m c t) y _ (fun a => rfl) (by blk_simp [idx_13]) (by blk_simp [idx_13])

theorem final_14 : (dats m 0 c).arrAt 14 cfg0.N = fun x => dsc (a0 m c) (a2 m c) (a3 m c) (a4 m c) (a5 m c) (a6 m c) (a7 m c) (a10 m c) (x 1) := by
  refine (dats m 0 c).arrAt_eq_of_covers 14 _ (by decide +kernel) fun t hf y => ?_
  blk_simp
  rw [after0_14]
  exact place_row (dsc (a0 m c) (a2 m c) (a3 m c) (a4 m c) (a5 m c) (a6 m c) (a7 m c) (a10 m c)) _ (sum_14 m c t ((flush0_14 t).mp hf)) y _ (by blk_simp [idx_14])

theorem final_15 : (dats m 0 c).arrAt 15 cfg0.N = fun x => dsh (a2 m c) (a3 m c) (a4 m c) (a5 m c) (a6 m c) (a10 m c) (x 1) := by
  refine (dats m 0 c).arrAt_eq_of_covers 15 _ (by decide +kernel) fun t hf y => ?_
  blk_simp
  rw [after0_15]
  exact place_row (dsh (a2 m c) (a3 m c) (a4 m c) (a5 m c) (a6 m c) (a10 m c)) _ (sum_15 m c t ((flush0_15 t).mp hf)) y _ (by blk_simp [idx_15])

theorem final_16 : (dats m 0 c).arrAt 16 cfg0.N = fun x => dg (a0 m c) (a2 m c) (a3 m c) (a4 m c) (a5 m c) (a6 m c) (a8 m c) (a10 m c) (a11 m c) (x 1) := by
  refine (dats m 0 c).arrAt_eq_of_covers 16 _ (by decide +kernel) fun t hf y => ?_
  blk_simp
  rw [after0_16]
  exact place_row (dg (a0 m c) (a2 m c) (a3 m c) (a4 m c) (a5 m c) (a6 m c) (a8 m c) (a10 m c) (a11 m c)) _ (sum_16 m c t ((flush0_16 t).mp hf)) y _ (by blk_simp [idx_16])

variable (ρ : Dev nD → PrngReg)

theorem run : θ_run defs (onTc (τ := τ) (main (F := Ideal))) ⟨m, fun _ => 0, ρ⟩ fun r => ∀ c : Dev nD,
      r.2.mem ((c : Thread nD τ).loc main_v0_0) = (fun x => gx (a0 m c) (a1 m c) (a2 m c) (a3 m c) (a4 m c) (a5 m c) (a6 m c) (a7 m c) (a8 m c) (a10 m c) (x 0) (x 1))
      ∧ r.2.mem ((c : Thread nD τ).loc main_v0_1) = (fun x => dp (a2 m c) (a3 m c) (a4 m c) (a5 m c) (a10 m c) (x 0) (x 1))
      ∧ r.2.mem ((c : Thread nD τ).loc main_v0_2) = (fun x => dsc (a0 m c) (a2 m c) (a3 m c) (a4 m c) (a5 m c) (a6 m c) (a7 m c) (a10 m c) (x 1))
      ∧ r.2.mem ((c : Thread nD τ).loc main_v0_3) = (fun x => dsh (a2 m c) (a3 m c) (a4 m c) (a5 m c) (a6 m c) (a10 m c) (x 1))
      ∧ r.2.mem ((c : Thread nD τ).loc main_v0_4) = (fun x => dg (a0 m c) (a2 m c) (a3 m c) (a4 m c) (a5 m c) (a6 m c) (a8 m c) (a10 m c) (a11 m c) (x 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) := by
  refine (θ_run defs _ _).mono (fun r h c => ?_) (Cert.InKernelIdeal.Value.run_blocks m ρ)
  obtain ⟨h0, h1, h2, h3, h4, hk⟩ := h c
  exact ⟨h0.trans (final_12 m c), h1.trans (final_13 m c), h2.trans (final_14 m c), h3.trans (final_15 m c), h4.trans (final_16 m c), hk⟩

end Cert.Proof.In

end
-- ==== Proof.In.Ref.lean ====
/- The derivative of the input projection, as the reference computes it, at an index. -/
module

public import proofs.«01_k».proof.Proof.Gen.InReferenceIdeal.Read
public import proofs.«01_k».proof.Proof.Gen.InReferenceIdeal.Run
public import proofs.«01_k».proof.Proof.In.Spec

@[expose] public section

set_option maxRecDepth 16384

noncomputable section

namespace Cert.Proof.In.Ref

open Cert.InReferenceIdeal Cert.InReferenceIdeal.Gen Cert.InReferenceIdeal.Value Cert.InReferenceIdeal.Read
open Idealize.ShloMosaic Idealize.ShloMosaic.TcCoe

variable (x0 x1 : Arr 8192 2048) (x2 x3 x4 : Arr 8192 1024) (x5 : Arr 8192 2048) (x6 : Arr3 8 2048 512) (x7 x8 : Arr 1 2048) (x10 : Arr 1 1024) (x11 : Arr 1 2048)

theorem r2 (d : Fin 2048) (n : Fin 4096) : val_main_v2 (F := Ideal) x6 (ix2 d n) = wt x6 d n := by
  unfold wt
  pointwise [val_main_v2, val_main_v1, val_main_v0]

theorem r37 (i : Fin 8192) (n : Fin 4096) : val_main_v37 (F := Ideal) x2 x3 x4 x5 x10 (ix2 i n) = dp x2 x3 x4 x5 x10 i n := by
  unfold dp
  pointwise [val_main_v37, val_main_v36, val_main_v35, val_main_v34, val_main_v33, val_main_v32, val_main_v31, val_main_v30, val_main_cst_4, val_main_cst_5, val_main_cst_6]
  by_cases h : n.val < 1024
  · rw [dif_pos h, dif_pos h, dif_neg (by omega), dif_neg (by omega), zero_add, add_zero]
  · rw [dif_neg h, dif_neg h]
    by_cases h' : n.val < 2048
    · rw [dif_pos h', dif_neg (by omega), dif_pos (by omega), zero_add, zero_add]
    · rw [dif_neg h', dif_pos (by omega), dif_neg (by omega), add_zero, add_zero]

theorem r66 (i : Fin 8192) (n : Fin 4096) : val_main_v66 (F := Ideal) x2 x3 x4 x5 x10 (ix2 i n) = dp x2 x3 x4 x5 x10 i n := by
  rw [← r37]
  pointwise [val_main_v66]

theorem r38 (i : Fin 8192) (d : Fin 2048) : val_main_v38 (F := Ideal) x2 x3 x4 x5 x6 x10 (ix2 i d) = dh x2 x3 x4 x5 x6 x10 i d := by
  unfold dh
  pointwise [val_main_v38]
  exact Finset.sum_congr rfl fun n _ => by rw [r37, r2]

theorem r9 (i : Fin 8192) : val_main_v9 (F := Ideal) x0 (ix2 i 0) = ms x0 i := by
  unfold ms
  pointwise [val_main_v9, val_main_v8, val_main_v7, val_main_v6, val_main_v5, val_main_v4, val_main_v3, val_main_cst, val_main_cst_0, val_main_cst_1]

theorem r10 (i : Fin 8192) : val_main_v10 (F := Ideal) x0 (ix2 i 0) = rr x0 i := by
  unfold rr
  rw [← r9]
  pointwise [val_main_v10]

theorem r11 (i : Fin 8192) : val_main_v11 (F := Ideal) x0 (ix2 i 0) = Ideal.div (rr x0 i) (ms x0 i) := by
  rw [← r9, ← r10]
  pointwise [val_main_v11]

theorem r15 (i : Fin 8192) (d : Fin 2048) : val_main_v15 (F := Ideal) x0 (ix2 i d) = x0 (ix2 i d) * rr x0 i := by
  rw [← r10]
  pointwise [val_main_v15, val_main_v14]

theorem r45 (i : Fin 8192) (d : Fin 2048) : val_main_v45 (F := Ideal) x2 x3 x4 x5 x6 x8 x10 (ix2 i d) = dh x2 x3 x4 x5 x6 x10 i d * (1 + x8 (ix2 0 d)) := by
  rw [← r38]
  pointwise [val_main_v45, val_main_v44, val_main_v19, val_main_v18, val_main_cst_3]

theorem r50 (i : Fin 8192) (d : Fin 2048) : val_main_v50 (F := Ideal) x2 x3 x4 x5 x6 x7 x8 x10 (ix2 i d) = dxh x2 x3 x4 x5 x6 x7 x8 x10 i d := by
  unfold dxh
  rw [← r45]
  pointwise [val_main_v50, val_main_v49]

theorem r61 (i : Fin 8192) (d : Fin 2048) : val_main_v61 (F := Ideal) x0 x2 x3 x4 x5 x6 x7 x8 x10 (ix2 i d)
    = Ideal.div ((∑ k : Fin 2048, x0 (ix2 i k) * dxh x2 x3 x4 x5 x6 x7 x8 x10 i k) * (Ideal.ofBits .f32 0xBF000000#32 * Ideal.div (rr x0 i) (ms x0 i))) (Ideal.ofBits .f32 0x45000000#32) := by
  simp only [← r50, ← r11]
  pointwise [val_main_v61, val_main_v60, val_main_v59, val_main_v58, val_main_v57, val_main_v53, val_main_v52, val_main_v51, val_main_cst_10, val_main_cst_11, val_main_cst_12, val_main_v13, val_main_v12, val_main_cst_2]
  exact Fin.sum_univ_one _

theorem r65 (i : Fin 8192) (d : Fin 2048) : val_main_v65 (F := Ideal) x0 x1 x2 x3 x4 x5 x6 x7 x8 x10 (ix2 i d) = gx x0 x1 x2 x3 x4 x5 x6 x7 x8 x10 i d := by
  rw [gx_eq, ← r61 x0 x2 x3 x4 x5 x6 x7 x8 x10 i d]
  simp only [← r50, ← r10]
  pointwise [val_main_v65, val_main_v64, val_main_v63, val_main_v62, val_main_v56, val_main_v55, val_main_v54]

theorem r67 (d : Fin 2048) : val_main_v67 (F := Ideal) x0 x2 x3 x4 x5 x6 x8 x10 x11 (ix2 0 d) = dg x0 x2 x3 x4 x5 x6 x8 x10 x11 d := by
  unfold dg
  simp only [← r15]
  pointwise [val_main_v67, val_main_v48, val_main_v47, val_main_v46, val_main_cst_9]
  exact congrArg (_ + ·) (Finset.sum_congr rfl fun k _ => by rw [r45]; exact mul_comm _ _)

theorem r43 (d : Fin 2048) : val_main_v43 (F := Ideal) x0 x2 x3 x4 x5 x6 x7 x10 (ix2 0 d) = dsc x0 x2 x3 x4 x5 x6 x7 x10 d := by
  unfold dsc
  simp only [← r38, ← r15]
  pointwise [val_main_v43, val_main_v42, val_main_v41, val_main_v17, val_main_v16, val_main_cst_8]
  exact Finset.sum_congr rfl fun k _ => mul_comm _ _

theorem r40 (d : Fin 2048) : val_main_v40 (F := Ideal) x2 x3 x4 x5 x6 x10 (ix2 0 d) = dsh x2 x3 x4 x5 x6 x10 d := by
  unfold dsh
  simp only [← r38]
  pointwise [val_main_v40, val_main_v39, val_main_cst_7]

end Cert.Proof.In.Ref

end
-- ==== Proof.In.Alg.lean ====
/- The input projection's backward call leaves the arrays of the derivative of its forward lines. -/
module

public import proofs.«01_k».proof.Defs
public import proofs.«01_k».proof.Proof.In.Final
public import proofs.«01_k».proof.Proof.In.Ref

@[expose] public section

set_option maxRecDepth 16384

noncomputable section

namespace Cert.Proof.In

open Idealize.ShloMosaic Idealize.SL.Sem

theorem algebraic : Cert.algebraic_InKernelIdeal_InReferenceIdeal := by
  intro m g m' g' _ hagree
  refine ⟨_, _, _, _, _, run m g, ?_⟩
  refine (θ_run Cert.InReferenceIdeal.defs _ _).mono (fun r h c => ?_) (Cert.InReferenceIdeal.Value.run m' g')
  obtain ⟨h0, h1, h2, h3, h4, ha⟩ := h c
  obtain ⟨e0, e1, e2, e3, e4, e5, e6, e7, e8, e9, e10, e11⟩ := hagree c
  replace h0 := h0.trans (Cert.InReferenceIdeal.Read.val_main_v65_eq m' c)
  replace h1 := h1.trans (Cert.InReferenceIdeal.Read.val_main_v66_eq _ _ _ _ _)
  replace h2 := h2.trans (Cert.InReferenceIdeal.Read.val_main_v43_eq _ _ _ _ _ _ _ _)
  replace h3 := h3.trans (Cert.InReferenceIdeal.Read.val_main_v40_eq _ _ _ _ _ _)
  replace h4 := h4.trans (Cert.InReferenceIdeal.Read.val_main_v67_eq _ _ _ _ _ _ _ _ _)
  rw [e0, e1, e2, e3, e4, e5, e6, e7, e8, e10] at h0
  rw [e2, e3, e4, e5, e10] at h1
  rw [e0, e2, e3, e4, e5, e6, e7, e10] at h2
  rw [e2, e3, e4, e5, e6, e10] at h3
  rw [e0, e2, e3, e4, e5, e6, e8, e10, e11] at h4
  refine ⟨h0.trans (funext fun y => ?_), h1.trans (funext fun y => ?_), h2.trans (funext fun y => ?_), h3.trans (funext fun y => ?_), h4.trans (funext fun y => ?_), ha⟩
  · obtain ⟨a, b, rfl⟩ := at_y y
    exact Ref.r65 _ _ _ _ _ _ _ _ _ _ a b
  · obtain ⟨a, b, rfl⟩ := at_y y
    exact Ref.r66 _ _ _ _ _ a b
  · obtain ⟨a, b, rfl⟩ := at_y y
    have ha0 : a = 0 := Subsingleton.elim _ _
    subst ha0
    exact Ref.r43 _ _ _ _ _ _ _ _ b
  · obtain ⟨a, b, rfl⟩ := at_y y
    have ha0 : a = 0 := Subsingleton.elim _ _
    subst ha0
    exact Ref.r40 _ _ _ _ _ _ b
  · obtain ⟨a, b, rfl⟩ := at_y y
    have ha0 : a = 0 := Subsingleton.elim _ _
    subst ha0
    exact Ref.r67 _ _ _ _ _ _ _ _ _ b

theorem frame_reference : Cert.quiescent_InReferenceIdeal := fun m ρ _ =>
  (θ_run Cert.InReferenceIdeal.defs _ _).mono
    (fun r h => ⟨fun c => (h c).2.2.2.2.2, sem_eq_zero_of_no_sems (by decide) r.2⟩) (Cert.InReferenceIdeal.Value.run m ρ)

end Cert.Proof.In

end
-- ==== Proof.Glu.Spec.lean ====
/- The gated unit's backward call as mathematics over the extended reals. -/
module

public import Idealize.ShloMosaic.PureOps.Ideal
public import Idealize.ShloMosaic.Lib.Pointwise
public import Idealize.ShloMosaic.Lib.Pipeline.ValueKit.Acc

@[expose] public section

set_option maxRecDepth 16384

noncomputable section

namespace Cert.Proof.Glu

open Idealize.ShloMosaic

/-! ## The activation and its derivative -/

/-- The square root of two over pi, as rounded. -/
def kk : EReal := Ideal.ofBits .f32 0x3F4C422A#32
/-- The cubic's coefficient, and three times it. -/
def c1 : EReal := ((8943 / 200000 : ℝ) : EReal)
def c3 : EReal := ((26829 / 200000 : ℝ) : EReal)
/-- One half. -/
def hf : EReal := Ideal.ofBits .f32 0x3F000000#32

theorem bkk : ∃ k : ℝ, 0 < k ∧ kk = (k : EReal) := by
  refine ⟨13386282 / 2 ^ 24, by positivity, ?_⟩
  simp [kk, Ideal.ofBits, Ideal.ieee, -EReal.coe_mul]; norm_num
theorem bhf : hf = ((1 / 2 : ℝ) : EReal) := by
  simp [hf, Ideal.ofBits, Ideal.ieee, -EReal.coe_mul]; norm_num
theorem b8943 : Ideal.ofBits .f32 0x460BBC00#32 = ((8943 : ℝ) : EReal) := by
  simp [Ideal.ofBits, Ideal.ieee, -EReal.coe_mul]; norm_num
theorem b200000 : Ideal.ofBits .f32 0x48435000#32 = ((200000 : ℝ) : EReal) := by
  simp [Ideal.ofBits, Ideal.ieee, -EReal.coe_mul]; norm_num
theorem b3 : Ideal.ofBits .f32 0x40400000#32 = ((3 : ℝ) : EReal) := by
  simp [Ideal.ofBits, Ideal.ieee, -EReal.coe_mul]; norm_num

def th (v : EReal) : EReal := Ideal.tanh (kk * (v + c1 * v * v * v))
def gelu (v : EReal) : EReal := hf * v * (1 + th v)
def grad (v : EReal) : EReal := hf * (1 + th v) + hf * v * (1 - th v * th v) * (kk * (1 + c3 * v * v))

/-- The cubic term, written with a quotient of integers. -/
theorem cube (v : EReal) : Ideal.div (Ideal.ofBits .f32 0x460BBC00#32 * (v * v * v)) (Ideal.ofBits .f32 0x48435000#32) = c1 * v * v * v := by
  have h : c1 = ((8943 : ℝ) : EReal) * ((1 / 200000 : ℝ) : EReal) := by unfold c1; norm_cast; norm_num
  rw [b8943, b200000, Ideal.div_coe (by norm_num), h]
  ac_rfl

theorem gelu_eq (v : EReal) : v * (hf * (1 + th v)) = gelu v := by unfold gelu; ac_rfl

theorem one_sub_one : (1 : EReal) - 1 = 0 := by
  have := (EReal.coe_sub 1 1).symm
  simpa using this
theorem one_add_neg_one : (1 : EReal) + -1 = 0 := one_sub_one

/-- The activation's gradient on a finite cotangent, in the order of the chain rule. -/
theorem grad_eq (d : ℝ) (v : EReal) :
    ((d : EReal) * (hf * (1 + th v)) + kk * (hf * (v * d) * ((1 + th v) * (1 - th v))))
      + Ideal.ofBits .f32 0x460BBC00#32 * Ideal.div (kk * (hf * (v * d) * ((1 + th v) * (1 - th v)))) (Ideal.ofBits .f32 0x48435000#32)
        * (Ideal.ofBits .f32 0x40400000#32 * (v * v))
      = d * grad v := by
  obtain ⟨k, hk, ek⟩ := bkk
  rw [b8943, b200000, b3, Ideal.div_coe (by norm_num)]
  unfold grad th c1 c3
  rw [bhf, ek]
  induction v using EReal.rec with
  | bot =>
    have e : (k : EReal) * (⊥ + ((8943 / 200000 : ℝ) : EReal) * ⊥ * ⊥ * ⊥) = ⊥ := by
      rw [EReal.bot_add, EReal.coe_mul_bot_of_pos hk]
    rw [e, Ideal.tanh_bot, one_add_neg_one]
    have e1 : (1 : EReal) - -1 * -1 = 0 := by simpa using one_sub_one
    rw [e1]
    simp
  | top =>
    have e : (k : EReal) * (⊤ + ((8943 / 200000 : ℝ) : EReal) * ⊤ * ⊤ * ⊤) = ⊤ := by
      have : ((8943 / 200000 : ℝ) : EReal) * ⊤ * ⊤ * ⊤ = ⊤ := by
        rw [EReal.coe_mul_top_of_pos (by norm_num)]; simp
      rw [this, EReal.top_add_top, EReal.coe_mul_top_of_pos hk]
    rw [e, Ideal.tanh_top, one_sub_one]
    have e1 : (1 : EReal) - 1 * 1 = 0 := by simpa using one_sub_one
    rw [e1]
    simp
  | coe r =>
    have e : (k : EReal) * ((r : EReal) + ((8943 / 200000 : ℝ) : EReal) * r * r * r) = ((k * (r + 8943 / 200000 * r * r * r) : ℝ) : EReal) := by
      push_cast; rfl
    rw [e, Ideal.tanh_coe]
    generalize Real.tanh (k * (r + 8943 / 200000 * r * r * r)) = s
    norm_cast
    ring

/-! ## The call's results -/

/-- A two- and a three-dimensional array of extended reals. -/
abbrev Arr (p q : ℕ) : Type := (⟨2, ![p, q]⟩ : Shape).Idx → EReal
abbrev Arr3 (p q r : ℕ) : Type := (⟨3, ![p, q, r]⟩ : Shape).Idx → EReal

variable (x0 : Arr 8192 2048) (x1 : Arr 8192 1024) (x2 : Arr 8192 4096) (x3 : Arr3 8 1024 256) (x4 : Arr 1 1024)

/-- The scanned branch's input: the projection's second quarter. -/
def uu (i : Fin 8192) (j : Fin 1024) : EReal := x2 (ix2 i ⟨1024 + j.val, by omega⟩)
/-- The activation's operand. -/
def yp (i : Fin 8192) (j : Fin 1024) : EReal := x1 (ix2 i j) + x4 (ix2 0 j) * uu x2 i j
/-- The weights, whose columns come in eight shards. -/
def wt (d : Fin 1024) (n : Fin 2048) : EReal := x3 (ix3 ⟨n.val / 256, by omega⟩ d ⟨n.val % 256, by omega⟩)
def dyg (i : Fin 8192) (d : Fin 1024) : EReal := ∑ n : Fin 2048, x0 (ix2 i n) * wt x3 d n
def dyp (i : Fin 8192) (d : Fin 1024) : EReal := dyg x0 x3 i d * grad (yp x1 x2 x4 i d)
def dgb (n : Fin 2048) : EReal := ∑ i : Fin 8192, x0 (ix2 i n)
def dds (d : Fin 1024) : EReal := ∑ i : Fin 8192, dyp x0 x1 x2 x3 x4 i d * uu x2 i d
def dgw (j : Fin 8) (d : Fin 1024) (l : Fin 256) : EReal := ∑ i : Fin 8192, gelu (yp x1 x2 x4 i d) * x0 (ix2 i ⟨j.val * 256 + l.val, by omega⟩)

/-- One shard's part of the product with the weights. -/
def part (i : Fin 8192) (d : Fin 1024) (j : Fin 8) : EReal :=
  ∑ l : Fin 256, x0 (ix2 i ⟨j.val * 256 + l.val, by omega⟩) * x3 (ix3 j d l)

theorem dyg_parts (i : Fin 8192) (d : Fin 1024) : dyg x0 x3 i d = ∑ j : Fin 8, part x0 x3 i d j := by
  unfold dyg part
  rw [← Fin.sum_mul_add_fin 8 256 (fun n : Fin 2048 => x0 (ix2 i n) * wt x3 d n) rfl]
  refine Finset.sum_congr rfl fun j _ => Finset.sum_congr rfl fun l _ => congrArg (_ * ·) ?_
  unfold wt
  exact congrArg₂ (fun a b => x3 (ix3 a d b)) (Fin.ext (by show (j.val * 256 + l.val) / 256 = j.val; omega)) (Fin.ext (by show (j.val * 256 + l.val) % 256 = l.val; omega))

theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, by norm_cast⟩

theorem real_sum {n : ℕ} (f : Fin n → EReal) (h : ∀ k, ∃ r : ℝ, f k = r) : ∃ r : ℝ, ∑ k, f k = r :=
  Finset.sum_induction f (fun x => ∃ r : ℝ, x = r)
    (fun a b ⟨r, hr⟩ ⟨s, hs⟩ => ⟨r + s, by rw [hr, hs, EReal.coe_add]⟩) ⟨0, EReal.coe_zero.symm⟩ fun k _ => h k

theorem dyg_real (h0 : ∀ i, ∃ r : ℝ, x0 i = r) (h3 : ∀ i, ∃ r : ℝ, x3 i = r) (i : Fin 8192) (d : Fin 1024) : ∃ r : ℝ, dyg x0 x3 i d = r :=
  real_sum _ fun _ => real_mul (h0 _) (h3 _)

end Cert.Proof.Glu

end
-- ==== Proof.Glu.Pay.lean ====
/- The gated unit's backward call's arithmetic, at an entry of a block. -/
module

public import proofs.«01_k».proof.Proof.Gen.GluKernelIdeal.Skeleton
public import Idealize.ShloMosaic.Lib.Pipeline.ValueKit
public import Idealize.ShloMosaic.Lib.VecWindow
public import Idealize.ShloMosaic.Lib.Pipeline.ReadBack
public import Idealize.ShloMosaic.Lib.Pipeline.ReadBack
public import Idealize.ShloMosaic.Lib.Pipeline.ReadBack
public import proofs.«01_k».proof.Proof.Glu.Spec

@[expose] public section

set_option maxRecDepth 16384

noncomputable section

namespace Cert.Proof.Glu

open Cert.GluKernelIdeal Cert.GluKernelIdeal.Gen
open Idealize.ShloMosaic Idealize.ShloMosaic.TcCoe

/-- One shard of the weights' block, or of the sum of their gradient. -/
def shard {F : FTy → Type} {e : EltTy} (w : Vec F S8x1024x256 e) (j : ℕ) (h : ∀ a, (![j, 0, 0] : Fin 3 → Nat) a + S1x1024x256.size a ≤ S8x1024x256.size a) : Vec F S1x1024x256 e :=
  View.ld w (Rect.unit (s := S8x1024x256) ![j, 0, 0] S1x1024x256.size h)

theorem shard_at (w : Arr3 8 1024 256) (j : Fin 8) (h : ∀ a, (![j.val, 0, 0] : Fin 3 → Nat) a + S1x1024x256.size a ≤ S8x1024x256.size a) (d : Fin 1024) (l : Fin 256) :
    shard (F := Ideal) (e := .bf16) w j.val h (ix3 0 d l) = w (ix3 j d l) := by
  pointwise [shard]

/-- One point's stores into the weights' gradient's sum, one to each of its shards. -/
def stores {F : FTy → Type} [FloatOps F] [Named F] (b0 : Vec F S512x2048 .bf16) (b1 : Vec F S512x1024 .f32) (acc : Vec F S8x1024x256 .f32) : List (View.Piece (Elt F) S8x1024x256 .f32) :=
    [⟨Rect.unit ![7, 0, 0] ![1, 1024, 256] inb_S8x1024x256_S1x1024x256_7_0_0, k0_pay26 (k0_pay5 b1) b0 (shard acc 7 inb_S8x1024x256_S1x1024x256_7_0_0)⟩,
     ⟨Rect.unit ![6, 0, 0] ![1, 1024, 256] inb_S8x1024x256_S1x1024x256_6_0_0, k0_pay23 (k0_pay5 b1) (k0_pay22 b0) (shard acc 6 inb_S8x1024x256_S1x1024x256_6_0_0)⟩,
     ⟨Rect.unit ![5, 0, 0] ![1, 1024, 256] inb_S8x1024x256_S1x1024x256_5_0_0, k0_pay21 (k0_pay5 b1) b0 (shard acc 5 inb_S8x1024x256_S1x1024x256_5_0_0)⟩,
     ⟨Rect.unit ![4, 0, 0] ![1, 1024, 256] inb_S8x1024x256_S1x1024x256_4_0_0, k0_pay18 (k0_pay5 b1) b0 (shard acc 4 inb_S8x1024x256_S1x1024x256_4_0_0)⟩,
     ⟨Rect.unit ![3, 0, 0] ![1, 1024, 256] inb_S8x1024x256_S1x1024x256_3_0_0, k0_pay16 (k0_pay5 b1) (k0_pay13 b0) (k0_pay15 (shard acc 3 inb_S8x1024x256_S1x1024x256_3_0_0))⟩,
     ⟨Rect.unit ![2, 0, 0] ![1, 1024, 256] inb_S8x1024x256_S1x1024x256_2_0_0, k0_pay12 (k0_pay5 b1) b0 (shard acc 2 inb_S8x1024x256_S1x1024x256_2_0_0)⟩,
     ⟨Rect.unit ![1, 0, 0] ![1, 1024, 256] inb_S8x1024x256_S1x1024x256_1_0_0, k0_pay10 (k0_pay5 b1) (k0_pay9 b0) (shard acc 1 inb_S8x1024x256_S1x1024x256_1_0_0)⟩,
     ⟨Rect.unit ![0, 0, 0] ![1, 1024, 256] inb_S8x1024x256_S1x1024x256_0_0_0, k0_pay8 b1 b0 (shard acc 0 inb_S8x1024x256_S1x1024x256_0_0_0)⟩]

theorem covers {F : FTy → Type} [FloatOps F] [Named F] (b0 : Vec F S512x2048 .bf16) (b1 : Vec F S512x1024 .f32) (acc : Vec F S8x1024x256 .f32) (y : S8x1024x256.Idx) : ∃ p ∈ stores b0 b1 acc, y ∈ p.1.set :=
  View.cover_of_tiled (stores b0 b1 acc) S1x1024x256.size rfl y

theorem canon_append {e : EltTy} {s : Shape} {Val : EltTy → Type} [∀ e, Nonempty (Val e)] (L' : List (View.Piece Val s e)) (y : s.Idx) :
    ∀ L : List (View.Piece Val s e), (∃ p ∈ L, y ∈ p.1.set) → View.canon (L ++ L') y = View.canon L y
  | [], h => by obtain ⟨_, hp, _⟩ := h; exact absurd hp List.not_mem_nil
  | p :: L, h => by
    by_cases hy : y ∈ p.1.set
    · obtain ⟨x, rfl⟩ := p.1.exists_idx_of_mem hy
      exact (View.canon_cons_emb p.1 p.2 (L ++ L') x).trans (View.canon_cons_emb p.1 p.2 L x).symm
    · obtain ⟨q, hq, hyq⟩ := h
      rcases List.mem_cons.mp hq with rfl | hq
      · exact absurd hyq hy
      · rw [List.cons_append, View.canon_cons_of_not_mem p _ hy, View.canon_cons_of_not_mem p _ hy]
        exact canon_append L' y L ⟨q, hq, hyq⟩

/-- The sum after them. -/
def step {F : FTy → Type} [FloatOps F] [Named F] (b0 : Vec F S512x2048 .bf16) (b1 : Vec F S512x1024 .f32) (acc : Vec F S8x1024x256 .f32) : Vec F S8x1024x256 .f32 := View.canon (stores b0 b1 acc)

variable (b0 : Arr 512 2048) (b1 b2 : Arr 512 1024)

theorem named_c : (Named.named κ "c" 0x3D372713#32 : Ideal .f32) = c1 := rfl
theorem named_c3 : (Named.named κ "c3" 0x3E095D4F#32 : Ideal .f32) = c3 := rfl

theorem k5 (a : Fin 512) (n : Fin 1024) : k0_pay5 (F := Ideal) b1 (ix2 a n) = gelu (b1 (ix2 a n)) := by
  unfold gelu th kk hf
  rw [← named_c]
  pointwise [k0_pay5, k0_pay4]

theorem k25 (s0 s1 s2 s3 s4 s5 s6 s7 : Arr3 1 1024 256) (w : Fin 8 → Fin 256 → EReal) (f : Fin 2048 → EReal) (a : Fin 512) (d : Fin 1024)
    (hf : ∀ n, b0 (ix2 a n) = f n)
    (h0 : ∀ l, s0 (ix3 0 d l) = w 0 l) (h1 : ∀ l, s1 (ix3 0 d l) = w 1 l) (h2 : ∀ l, s2 (ix3 0 d l) = w 2 l) (h3 : ∀ l, s3 (ix3 0 d l) = w 3 l)
    (h4 : ∀ l, s4 (ix3 0 d l) = w 4 l) (h5 : ∀ l, s5 (ix3 0 d l) = w 5 l) (h6 : ∀ l, s6 (ix3 0 d l) = w 6 l) (h7 : ∀ l, s7 (ix3 0 d l) = w 7 l) :
    k0_pay25 (F := Ideal) b0 (k0_pay20 b0 (k0_pay14 b0 (k0_pay7 b0 s0) (k0_pay9 b0) s1 s2 s3) s4 s5) (k0_pay22 b0) s6 s7 (ix2 a d)
      = ∑ j : Fin 8, ∑ l : Fin 256, f ⟨j.val * 256 + l.val, by omega⟩ * w j l := by
  rw [Fin.sum_univ_eight]
  pointwise [k0_pay25, k0_pay24, k0_pay22, k0_pay20, k0_pay19, k0_pay17, k0_pay14, k0_pay13, k0_pay11, k0_pay9, k0_pay7, k0_pay6]
  simp only [hf, h0, h1, h2, h3, h4, h5, h6, h7]

theorem k27 (v : Arr 1 2048) (l : Fin 2048) : k0_pay27 (F := Ideal) b0 v (ix2 0 l) = v (ix2 0 l) + ∑ x : Fin 512, b0 (ix2 x l) := by
  pointwise [k0_pay27]

theorem k28 (a : Fin 512) (d : Fin 1024) : k0_pay28 (F := Ideal) (k0_pay4 b1) b2 (Named.named κ "c" 0x3D372713#32) (ix2 a d) = b2 (ix2 a d) * grad (b1 (ix2 a d)) := by
  unfold grad th kk hf
  rw [← named_c, ← named_c3]
  pointwise [k0_pay28, k0_pay4]

theorem k29 (v : Arr 1 1024) (u g : Arr 512 1024) (d : Fin 1024) (hg : ∀ a, k0_pay28 (F := Ideal) (k0_pay4 b1) b2 (Named.named κ "c" 0x3D372713#32) (ix2 a d) = g (ix2 a d)) :
    k0_pay29 (F := Ideal) (k0_pay4 b1) b2 (Named.named κ "c" 0x3D372713#32) v u (ix2 0 d) = v (ix2 0 d) + ∑ x : Fin 512, g (ix2 x d) * u (ix2 x d) := by
  simp only [← hg]
  pointwise [k0_pay29]

theorem k8 (a : Arr3 1 1024 256) (d : Fin 1024) (l : Fin 256) : k0_pay8 (F := Ideal) b1 b0 a (ix3 0 d l)
    = a (ix3 0 d l) + ∑ x : Fin 512, gelu (b1 (ix2 x d)) * b0 (ix2 x ⟨0 * 256 + l.val, by omega⟩) := by
  simp only [← k5]
  pointwise [k0_pay8, k0_pay6]

theorem k10 (a : Arr3 1 1024 256) (d : Fin 1024) (l : Fin 256) : k0_pay10 (F := Ideal) (k0_pay5 b1) (k0_pay9 b0) a (ix3 0 d l)
    = a (ix3 0 d l) + ∑ x : Fin 512, gelu (b1 (ix2 x d)) * b0 (ix2 x ⟨1 * 256 + l.val, by omega⟩) := by
  simp only [← k5]
  pointwise [k0_pay10, k0_pay9]

theorem k12 (a : Arr3 1 1024 256) (d : Fin 1024) (l : Fin 256) : k0_pay12 (F := Ideal) (k0_pay5 b1) b0 a (ix3 0 d l)
    = a (ix3 0 d l) + ∑ x : Fin 512, gelu (b1 (ix2 x d)) * b0 (ix2 x ⟨2 * 256 + l.val, by omega⟩) := by
  simp only [← k5]
  pointwise [k0_pay12, k0_pay11]

theorem k16 (a : Arr3 1 1024 256) (d : Fin 1024) (l : Fin 256) : k0_pay16 (F := Ideal) (k0_pay5 b1) (k0_pay13 b0) (k0_pay15 a) (ix3 0 d l)
    = a (ix3 0 d l) + ∑ x : Fin 512, gelu (b1 (ix2 x d)) * b0 (ix2 x ⟨3 * 256 + l.val, by omega⟩) := by
  simp only [← k5]
  pointwise [k0_pay16, k0_pay15, k0_pay13]

theorem k18 (a : Arr3 1 1024 256) (d : Fin 1024) (l : Fin 256) : k0_pay18 (F := Ideal) (k0_pay5 b1) b0 a (ix3 0 d l)
    = a (ix3 0 d l) + ∑ x : Fin 512, gelu (b1 (ix2 x d)) * b0 (ix2 x ⟨4 * 256 + l.val, by omega⟩) := by
  simp only [← k5]
  pointwise [k0_pay18, k0_pay17]

theorem k21 (a : Arr3 1 1024 256) (d : Fin 1024) (l : Fin 256) : k0_pay21 (F := Ideal) (k0_pay5 b1) b0 a (ix3 0 d l)
    = a (ix3 0 d l) + ∑ x : Fin 512, gelu (b1 (ix2 x d)) * b0 (ix2 x ⟨5 * 256 + l.val, by omega⟩) := by
  simp only [← k5]
  pointwise [k0_pay21, k0_pay19]

theorem k23 (a : Arr3 1 1024 256) (d : Fin 1024) (l : Fin 256) : k0_pay23 (F := Ideal) (k0_pay5 b1) (k0_pay22 b0) a (ix3 0 d l)
    = a (ix3 0 d l) + ∑ x : Fin 512, gelu (b1 (ix2 x d)) * b0 (ix2 x ⟨6 * 256 + l.val, by omega⟩) := by
  simp only [← k5]
  pointwise [k0_pay23, k0_pay22]

theorem k26 (a : Arr3 1 1024 256) (d : Fin 1024) (l : Fin 256) : k0_pay26 (F := Ideal) (k0_pay5 b1) b0 a (ix3 0 d l)
    = a (ix3 0 d l) + ∑ x : Fin 512, gelu (b1 (ix2 x d)) * b0 (ix2 x ⟨7 * 256 + l.val, by omega⟩) := by
  simp only [← k5]
  pointwise [k0_pay26, k0_pay24]

/-- One point's step, at every entry. -/
def stepped (acc : Arr3 8 1024 256) : Arr3 8 1024 256 := fun y =>
  acc y + ∑ x : Fin 512, gelu (b1 (ix2 x (y (1 : Fin 3)))) * b0 (ix2 x ⟨(y (0 : Fin 3)).val * 256 + (y (2 : Fin 3)).val, by
    have h0 : (y (0 : Fin 3)).val < 8 := (y (0 : Fin 3)).isLt
    have h2 : (y (2 : Fin 3)).val < 256 := (y (2 : Fin 3)).isLt
    omega⟩)

theorem piece (acc : Arr3 8 1024 256) (j : ℕ) (hj : j < 8) (inb : ∀ a, (![j, 0, 0] : Fin 3 → Nat) a + (![1, 1024, 256] : Fin 3 → Nat) a ≤ S8x1024x256.size a) (p : Arr3 1 1024 256)
    (hp : ∀ (d : Fin 1024) (l : Fin 256), p (ix3 0 d l) = shard (F := Ideal) (e := .f32) acc j inb (ix3 0 d l)
      + ∑ x : Fin 512, gelu (b1 (ix2 x d)) * b0 (ix2 x ⟨j * 256 + l.val, by omega⟩))
    (x : (Rect.unit (s := S8x1024x256) ![j, 0, 0] ![1, 1024, 256] inb).shape.Idx) :
    p x = stepped b0 b1 acc ((Rect.unit (s := S8x1024x256) ![j, 0, 0] ![1, 1024, 256] inb).emb x) := by
  obtain ⟨d, l, rfl⟩ : ∃ (d : Fin 1024) (l : Fin 256), x = ix3 0 d l :=
    ⟨x (1 : Fin 3), x (2 : Fin 3), (eq_ix3 x).trans (congrArg (fun z => ix3 z (x (1 : Fin 3)) (x (2 : Fin 3))) (Subsingleton.elim (α := Fin 1) _ _))⟩
  have e : (Rect.unit (s := S8x1024x256) ![j, 0, 0] ![1, 1024, 256] inb).emb (ix3 0 d l) = ix3 ⟨j, hj⟩ d l := by
    funext a
    match a with
    | ⟨0, _⟩ => exact Fin.ext (by show j + 1 * 0 = j; omega)
    | ⟨1, _⟩ => exact Fin.ext (by show 0 + 1 * d.val = d.val; omega)
    | ⟨2, _⟩ => exact Fin.ext (by show 0 + 1 * l.val = l.val; omega)
  rw [e]
  refine (hp d l).trans ?_
  exact congrArg (· + _) (congrArg acc e)

theorem pcons (G : S8x1024x256.Idx → Elt Ideal .f32) (r : Rect S8x1024x256) (w : r.shape.Idx → Elt Ideal .f32) (L : List (View.Piece (Elt Ideal) S8x1024x256 .f32))
    (h : ∀ x, w x = G (r.emb x)) (hL : View.PiecesOf G L) : View.PiecesOf G (⟨r, w⟩ :: L) := ⟨h, hL⟩

/-- One point's step, at an entry. -/
theorem step_at (acc : Arr3 8 1024 256) (y : S8x1024x256.Idx) : step (F := Ideal) b0 b1 acc y = stepped b0 b1 acc y := by
  unfold step
  refine View.canon_apply_of_pieces (stepped b0 b1 acc) (stores (F := Ideal) b0 b1 acc) (View.PiecesOf.mem ?_) y (covers (F := Ideal) b0 b1 acc y)
  unfold stores
  refine pcons _ _ _ _ ?_ ?_
  · exact piece b0 b1 acc 7 (by norm_num) inb_S8x1024x256_S1x1024x256_7_0_0 _ (k26 b0 b1 _)
  refine pcons _ _ _ _ ?_ ?_
  · exact piece b0 b1 acc 6 (by norm_num) inb_S8x1024x256_S1x1024x256_6_0_0 _ (k23 b0 b1 _)
  refine pcons _ _ _ _ ?_ ?_
  · exact piece b0 b1 acc 5 (by norm_num) inb_S8x1024x256_S1x1024x256_5_0_0 _ (k21 b0 b1 _)
  refine pcons _ _ _ _ ?_ ?_
  · exact piece b0 b1 acc 4 (by norm_num) inb_S8x1024x256_S1x1024x256_4_0_0 _ (k18 b0 b1 _)
  refine pcons _ _ _ _ ?_ ?_
  · exact piece b0 b1 acc 3 (by norm_num) inb_S8x1024x256_S1x1024x256_3_0_0 _ (k16 b0 b1 _)
  refine pcons _ _ _ _ ?_ ?_
  · exact piece b0 b1 acc 2 (by norm_num) inb_S8x1024x256_S1x1024x256_2_0_0 _ (k12 b0 b1 _)
  refine pcons _ _ _ _ ?_ ?_
  · exact piece b0 b1 acc 1 (by norm_num) inb_S8x1024x256_S1x1024x256_1_0_0 _ (k10 b0 b1 _)
  refine pcons _ _ _ _ ?_ ?_
  · exact piece b0 b1 acc 0 (by norm_num) inb_S8x1024x256_S1x1024x256_0_0_0 _ (k8 b0 b1 _)
  trivial

end Cert.Proof.Glu

end
-- ==== Proof.Glu.Point.lean ====
/- What each grid point of the gated unit's backward call leaves in its buffers. -/
module

public import proofs.«01_k».proof.Proof.Gen.GluKernelIdeal.Value
public import Idealize.ShloMosaic.Lib.Pipeline.ReadBack
public import proofs.«01_k».proof.Proof.Glu.Pay

@[expose] public section

set_option maxRecDepth 16384

noncomputable section

namespace Cert.Proof.Glu

open Cert.GluKernelIdeal Cert.GluKernelIdeal.Gen
open Idealize.ShloMosaic Idealize.ShloMosaic.TcCoe

variable {F : FTy → Type} [FloatOps F] [Named F]
variable (m : (ℓ : Loc nD τ sig) → Buf (Elt F) ℓ) (c : Dev nD)

theorem at_cases (t : Fin cfg0.N) :
    (t.val % 16 = 0 ∧ ¬t.val % 16 = 15) ∨ (¬t.val % 16 = 0 ∧ ¬t.val % 16 = 15) ∨ (¬t.val % 16 = 0 ∧ t.val % 16 = 15) := by
  omega

/-- The unit's input's gradient, at a point. -/
def pdyg (t : Fin cfg0.N) : FVec F S512x1024 .f32 :=
  k0_pay25 (iblk m c 0 t)
    (k0_pay20 (iblk m c 0 t)
      (k0_pay14 (iblk m c 0 t) (k0_pay7 (iblk m c 0 t) (shard (e := .bf16) (iblk m c 3 t) 0 inb_S8x1024x256_S1x1024x256_0_0_0)) (k0_pay9 (iblk m c 0 t))
        (shard (e := .bf16) (iblk m c 3 t) 1 inb_S8x1024x256_S1x1024x256_1_0_0) (shard (e := .bf16) (iblk m c 3 t) 2 inb_S8x1024x256_S1x1024x256_2_0_0) (shard (e := .bf16) (iblk m c 3 t) 3 inb_S8x1024x256_S1x1024x256_3_0_0))
      (shard (e := .bf16) (iblk m c 3 t) 4 inb_S8x1024x256_S1x1024x256_4_0_0) (shard (e := .bf16) (iblk m c 3 t) 5 inb_S8x1024x256_S1x1024x256_5_0_0))
    (k0_pay22 (iblk m c 0 t)) (shard (e := .bf16) (iblk m c 3 t) 6 inb_S8x1024x256_S1x1024x256_6_0_0) (shard (e := .bf16) (iblk m c 3 t) 7 inb_S8x1024x256_S1x1024x256_7_0_0)

theorem left5 (t : Fin cfg0.N) : (outsAt0 m c t.val t.isLt).1 =
    k0_pay28 (k0_pay4 (iblk m c 1 t)) (pdyg m c t) (Named.named κ "c" 0x3D372713#32) := by
  rcases at_cases t with ⟨h0, h1⟩ | ⟨h0, h1⟩ | ⟨h0, h1⟩
  · rw [outsAt0_A m c t h0 h1]; dsimp only; frame_out; rfl
  · rw [outsAt0_B m c t h0 h1]; dsimp only; frame_out; rfl
  · rw [outsAt0_C m c t h0 h1]; dsimp only; frame_out; rfl

theorem left6_0 (t : Fin cfg0.N) (h0 : t.val % 16 = 0) : (outsAt0 m c t.val t.isLt).2.1 = k0_pay27 (iblk m c 0 t) k0_pay2 := by
  rw [outsAt0_A m c t h0 (by omega)]; dsimp only; frame_out

theorem left6_S (t : Fin cfg0.N) (h0 : ¬t.val % 16 = 0) : (outsAt0 m c t.val t.isLt).2.1 =
    k0_pay27 (iblk m c 0 t) (outsAt0 m c (t.val - 1) (Nat.lt_of_le_of_lt (Nat.sub_le _ _) t.isLt)).2.1 := by
  by_cases h1 : t.val % 16 = 15
  · rw [outsAt0_C m c t h0 h1]; dsimp only; frame_out
  · rw [outsAt0_B m c t h0 h1]; dsimp only; frame_out

theorem left7_0 (t : Fin cfg0.N) (h0 : t.val % 16 = 0) : (outsAt0 m c t.val t.isLt).2.2.1 =
    k0_pay29 (k0_pay4 (iblk m c 1 t)) (pdyg m c t) (Named.named κ "c" 0x3D372713#32) k0_pay3 (iblk m c 2 t) := by
  rw [outsAt0_A m c t h0 (by omega)]; dsimp only; frame_out; rfl

theorem left7_S (t : Fin cfg0.N) (h0 : ¬t.val % 16 = 0) : (outsAt0 m c t.val t.isLt).2.2.1 =
    k0_pay29 (k0_pay4 (iblk m c 1 t)) (pdyg m c t) (Named.named κ "c" 0x3D372713#32)
      (outsAt0 m c (t.val - 1) (Nat.lt_of_le_of_lt (Nat.sub_le _ _) t.isLt)).2.2.1 (iblk m c 2 t) := by
  by_cases h1 : t.val % 16 = 15
  · rw [outsAt0_C m c t h0 h1]; dsimp only; frame_out; rfl
  · rw [outsAt0_B m c t h0 h1]; dsimp only; frame_out; rfl

theorem leftS_0 (t : Fin cfg0.N) (h0 : t.val % 16 = 0) : (outsAt0 m c t.val t.isLt).2.2.2.1 =
    step (iblk m c 0 t) (iblk m c 1 t) k0_pay1 := by
  rw [outsAt0_A m c t h0 (by omega)]; dsimp only; frame_out
  simp (discharger := decide) only [↓View.readCov_skip, View.readCov_fill]
  show View.canon (stores (iblk m c 0 t) (iblk m c 1 t) k0_pay1 ++ [⟨Rect.unit ![0, 0, 0] ![8, 1024, 256] inb_S8x1024x256_S8x1024x256_0_0_0, k0_pay1⟩]) = _
  exact funext fun y => canon_append _ y _ (covers _ _ _ y)

theorem leftS_S (t : Fin cfg0.N) (h0 : ¬t.val % 16 = 0) : (outsAt0 m c t.val t.isLt).2.2.2.1 =
    step (iblk m c 0 t) (iblk m c 1 t) (outsAt0 m c (t.val - 1) (Nat.lt_of_le_of_lt (Nat.sub_le _ _) t.isLt)).2.2.2.1 := by
  by_cases h1 : t.val % 16 = 15
  · rw [outsAt0_C m c t h0 h1]; dsimp only; frame_out
    simp only [read_unread_whole]
    rfl
  · rw [outsAt0_B m c t h0 h1]; dsimp only; frame_out
    simp only [read_unread_whole]
    rfl

/-- The last point copies the summed block out. -/
theorem leftH (t : Fin cfg0.N) (h1 : t.val % 16 = 15) :
    (outsAt0 m c t.val t.isLt).2.2.2.2 = (outsAt0 m c t.val t.isLt).2.2.2.1 := by
  rw [leftS_S m c t (by omega), outsAt0_C m c t (by omega) h1]; dsimp only; unfold hbw0_C_0; frame_out
  refine (View.write_whole_univ _ _ _).trans ?_
  simp only [read_unread_whole]
  exact View.read_writes_eq_canon (View.whole cc0_scratch0) _ (stores (iblk m c 0 t) (iblk m c 1 t) _) (covers _ _ _)

end Cert.Proof.Glu

end
-- ==== Proof.Glu.Final.lean ====
/- What the gated unit's backward call leaves in its result arrays. -/
module

public import proofs.«01_k».proof.Proof.Glu.Point

@[expose] public section

set_option maxRecDepth 16384

noncomputable section

namespace Cert.Proof.Glu

open Cert.GluKernelIdeal Cert.GluKernelIdeal.Gen
open Idealize.ShloMosaic Idealize.ShloMosaic.TcCoe
open Idealize.ShloMosaic.Pipeline (Dat)

variable (m : (ℓ : Loc nD τ sig) → Buf (Elt Ideal) ℓ) (c : Dev nD)

def a0 : Arr 8192 2048 := m ((c : Thread nD τ).loc main_arg0)
def a1 : Arr 8192 1024 := m ((c : Thread nD τ).loc main_arg1)
def a2 : Arr 8192 4096 := m ((c : Thread nD τ).loc main_arg2)
def a3 : Arr3 8 1024 256 := m ((c : Thread nD τ).loc main_arg3)
def a4 : Arr 1 1024 := m ((c : Thread nD τ).loc main_arg4)

theorem idx_0 : ∀ t : Fin cfg0.N, win0_0.index t = ![t.val, 0] := (by decide +kernel : ∀ t : Fin grid0.N, _)
theorem idx_1 : ∀ t : Fin cfg0.N, win0_1.index t = ![t.val, 0] := (by decide +kernel : ∀ t : Fin grid0.N, _)
theorem idx_2 : ∀ t : Fin cfg0.N, win0_2.index t = ![t.val, 1] := (by decide +kernel : ∀ t : Fin grid0.N, _)
theorem idx_3 : ∀ t : Fin cfg0.N, win0_3.index t = ![0, 0, 0] := (by decide +kernel : ∀ t : Fin grid0.N, _)
theorem idx_5 : ∀ t : Fin cfg0.N, win0_5.index t = ![t.val, 0] := (by decide +kernel : ∀ t : Fin grid0.N, _)
theorem idx_6 : ∀ t : Fin cfg0.N, win0_6.index t = ![0, 0] := (by decide +kernel : ∀ t : Fin grid0.N, _)
theorem idx_7 : ∀ t : Fin cfg0.N, win0_7.index t = ![0, 0] := (by decide +kernel : ∀ t : Fin grid0.N, _)
theorem t_lt : ∀ t : Fin cfg0.N, t.val < 16 := (by decide +kernel : ∀ t : Fin grid0.N, _)

/-- A point's row in the arrays. -/
def row (t : Fin cfg0.N) (a : Fin 512) : Fin 8192 := ⟨t.val * 512 + a.val, by have := t_lt t; omega⟩

/-- The activation's operand, as the host computes it. -/
def hostOperand (x1 : FVec Ideal S8192x1024 .f32) (x2 : FVec Ideal S8192x4096 .f32) (x4 : FVec Ideal S1x1024 .f32) : FVec Ideal S8192x1024 .f32 :=
  addf x1 (mulf (broadcastInDim S8192x1024 ![0, 1] bcast_S1x1024_S8192x1024_0_1 x4) (extractStridedSlice S8192x1024 ![0, 1024] x2 slices_S8192x4096_S8192x1024_0_1024))

theorem host_eq : V m c main_v3 = hostOperand (a1 m c) (a2 m c) (a4 m c) := by
  unfold V
  simp only [hostOps0, List.flatten_cons, List.flatten_nil, List.append_nil, List.cons_append, List.nil_append]
  after_results
  rfl

theorem hostOperand_at (x1 : Arr 8192 1024) (x2 : Arr 8192 4096) (x4 : Arr 1 1024) (i : Fin 8192) (j : Fin 1024) :
    hostOperand x1 x2 x4 (ix2 i j) = yp x1 x2 x4 i j := by
  pointwise [hostOperand, yp, uu]

theorem blk_0 (t : Fin cfg0.N) (a : Fin 512) (k : Fin 2048) : iblk m c 0 t (ix2 a k) = a0 m c (ix2 (row t a) k) := by
  unfold a0 row
  blk_point [iblk, V, idx_0 t]
theorem blk_1 (t : Fin cfg0.N) (a : Fin 512) (k : Fin 1024) : iblk m c 1 t (ix2 a k) = yp (a1 m c) (a2 m c) (a4 m c) (row t a) k := by
  refine Eq.trans (b := V m c main_v3 (ix2 (row t a) k)) ?_ ((congrFun (host_eq m c) _).trans (hostOperand_at _ _ _ _ _))
  unfold row
  blk_point [iblk, idx_1 t]
theorem blk_2 (t : Fin cfg0.N) (a : Fin 512) (k : Fin 1024) : iblk m c 2 t (ix2 a k) = uu (a2 m c) (row t a) k := by
  unfold uu a2 row
  blk_point [iblk, V, idx_2 t]
theorem blk_3 (t : Fin cfg0.N) (j : Fin 8) (d : Fin 1024) (l : Fin 256) : iblk m c 3 t (ix3 j d l) = a3 m c (ix3 j d l) := by
  unfold a3
  blk_point [iblk, V, idx_3 t]

theorem pshard (t : Fin cfg0.N) (j : Fin 8) (h : ∀ a, (![j.val, 0, 0] : Fin 3 → Nat) a + S1x1024x256.size a ≤ S8x1024x256.size a) (d : Fin 1024) (l : Fin 256) :
    shard (e := .bf16) (iblk m c 3 t) j.val h (ix3 0 d l) = a3 m c (ix3 j d l) :=
  (shard_at _ j h d l).trans (blk_3 m c t j d l)

theorem pdyg_at (t : Fin cfg0.N) (a : Fin 512) (d : Fin 1024) : pdyg m c t (ix2 a d) = dyg (a0 m c) (a3 m c) (row t a) d := by
  rw [dyg_parts]
  exact k25 _ _ _ _ _ _ _ _ _ (fun j l => a3 m c (ix3 j d l)) (fun n => a0 m c (ix2 (row t a) n)) a d (blk_0 m c t a)
    (pshard m c t 0 _ d) (pshard m c t 1 _ d) (pshard m c t 2 _ d) (pshard m c t 3 _ d) (pshard m c t 4 _ d) (pshard m c t 5 _ d) (pshard m c t 6 _ d) (pshard m c t 7 _ d)

theorem pdyp (t : Fin cfg0.N) (a : Fin 512) (d : Fin 1024) :
    k0_pay28 (k0_pay4 (iblk m c 1 t)) (pdyg m c t) (Named.named κ "c" 0x3D372713#32) (ix2 a d) = dyp (a0 m c) (a1 m c) (a2 m c) (a3 m c) (a4 m c) (row t a) d := by
  rw [k28, pdyg_at, blk_1]
  rfl

theorem p5 (t : Fin cfg0.N) (a : Fin 512) (d : Fin 1024) : (outsAt0 m c t.val t.isLt).1 (ix2 a d) = dyp (a0 m c) (a1 m c) (a2 m c) (a3 m c) (a4 m c) (row t a) d := by
  rw [left5, pdyp]

theorem pdds (t : Fin cfg0.N) (v : Arr 1 1024) (d : Fin 1024) :
    k0_pay29 (k0_pay4 (iblk m c 1 t)) (pdyg m c t) (Named.named κ "c" 0x3D372713#32) v (iblk m c 2 t) (ix2 0 d)
      = v (ix2 0 d) + ∑ x : Fin 512, dyp (a0 m c) (a1 m c) (a2 m c) (a3 m c) (a4 m c) (row t x) d * uu (a2 m c) (row t x) d := by
  rw [k29 _ _ v _ (fun y => dyp (a0 m c) (a1 m c) (a2 m c) (a3 m c) (a4 m c) (row t (y (0 : Fin 2))) (y (1 : Fin 2))) d (fun a => pdyp m c t a d)]
  simp only [blk_2]
  rfl

theorem sum_6 (t : Fin cfg0.N) (ht : t.val % 16 = 15) (d : Fin 2048) : (outsAt0 m c t.val t.isLt).2.1 (ix2 0 d) = dgb (a0 m c) d := by
  have hN : cfg0.N = 16 := N_0
  have e := Pipeline.eq_sum_fin_of_reset_step_apply_last
    (fun n hn (d : Fin 2048) => (outsAt0 m c n hn).2.1 (ix2 0 d)) 16 (fun _ => (0 : EReal))
    (fun p d => ∑ a : Fin 512, a0 m c (ix2 (row p a) d))
    (fun p hp d => by
      rw [left6_0 m c p hp, k27]
      simp only [blk_0]
      congr 1
      pointwise [k0_pay2])
    (fun p hp d => by
      rw [left6_S m c p hp, k27]
      simp only [blk_0])
    (by omega) t (by omega) d
  rw [e, zero_add]
  exact (Fin.sum_mul_add_fin cfg0.N 512 (fun i : Fin 8192 => a0 m c (ix2 i d)) (by rw [hN]))

theorem sum_7 (t : Fin cfg0.N) (ht : t.val % 16 = 15) (d : Fin 1024) : (outsAt0 m c t.val t.isLt).2.2.1 (ix2 0 d) = dds (a0 m c) (a1 m c) (a2 m c) (a3 m c) (a4 m c) d := by
  have hN : cfg0.N = 16 := N_0
  have e := Pipeline.eq_sum_fin_of_reset_step_apply_last
    (fun n hn (d : Fin 1024) => (outsAt0 m c n hn).2.2.1 (ix2 0 d)) 16 (fun _ => (0 : EReal))
    (fun p d => ∑ a : Fin 512, dyp (a0 m c) (a1 m c) (a2 m c) (a3 m c) (a4 m c) (row p a) d * uu (a2 m c) (row p a) d)
    (fun p hp d => by
      rw [left7_0 m c p hp, pdds]
      congr 1
      pointwise [k0_pay3])
    (fun p hp d => by
      rw [left7_S m c p hp, pdds])
    (by omega) t (by omega) d
  rw [e, zero_add]
  exact (Fin.sum_mul_add_fin cfg0.N 512 (fun i : Fin 8192 => dyp (a0 m c) (a1 m c) (a2 m c) (a3 m c) (a4 m c) i d * uu (a2 m c) i d) (by rw [hN]))

theorem pstep (t : Fin cfg0.N) (acc : Arr3 8 1024 256) (j : Fin 8) (d : Fin 1024) (l : Fin 256) :
    step (F := Ideal) (iblk m c 0 t) (iblk m c 1 t) acc (ix3 j d l)
      = acc (ix3 j d l) + ∑ x : Fin 512, gelu (yp (a1 m c) (a2 m c) (a4 m c) (row t x) d) * a0 m c (ix2 (row t x) ⟨j.val * 256 + l.val, by omega⟩) := by
  rw [step_at]
  refine congrArg (_ + ·) (Finset.sum_congr rfl fun x _ => ?_)
  exact congrArg₂ (fun p q => gelu p * q) (blk_1 m c t x d) (blk_0 m c t x _)

theorem sum_S (t : Fin cfg0.N) (ht : t.val % 16 = 15) (j : Fin 8) (d : Fin 1024) (l : Fin 256) :
    (outsAt0 m c t.val t.isLt).2.2.2.1 (ix3 j d l) = dgw (a0 m c) (a1 m c) (a2 m c) (a4 m c) j d l := by
  have hN : cfg0.N = 16 := N_0
  have e := Pipeline.eq_sum_fin_of_reset_step_apply_last
    (fun n hn (y : Fin 8 × Fin 1024 × Fin 256) => (outsAt0 m c n hn).2.2.2.1 (ix3 y.1 y.2.1 y.2.2)) 16 (fun _ => (0 : EReal))
    (fun p y => ∑ x : Fin 512, gelu (yp (a1 m c) (a2 m c) (a4 m c) (row p x) y.2.1) * a0 m c (ix2 (row p x) ⟨y.1.val * 256 + y.2.2.val, by omega⟩))
    (fun p hp y => by
      rw [leftS_0 m c p hp, pstep]
      congr 1
      pointwise [k0_pay1])
    (fun p hp y => by
      rw [leftS_S m c p hp, pstep])
    (by omega) t (by omega) (j, d, l)
  rw [e, zero_add]
  unfold dgw
  exact (Fin.sum_mul_add_fin cfg0.N 512 (fun i : Fin 8192 => gelu (yp (a1 m c) (a2 m c) (a4 m c) i d) * a0 m c (ix2 i ⟨j.val * 256 + l.val, by omega⟩)) (by rw [hN]))

theorem at_y {p q : ℕ} (y : (⟨2, ![p, q]⟩ : Shape).Idx) : ∃ (a : Fin p) (b : Fin q), y = ix2 a b := by
  refine ⟨y 0, y 1, ?_⟩
  funext d
  match d with
  | ⟨0, _⟩ => rfl
  | ⟨1, _⟩ => rfl

/-- A block's entry is the array's, where the block's placement puts it. -/
theorem place {p q r : ℕ} (f : Fin 8192 → Fin q → EReal) (g : Arr p q) (e : Fin p → Fin 8192) (h : ∀ a b, g (ix2 a b) = f (e a) b)
    (y : (⟨2, ![p, q]⟩ : Shape).Idx) (z : (⟨2, ![8192, q]⟩ : Shape).Idx) (hr : ∀ a, (e a).val = r * p + a.val)
    (h0 : (z (0 : Fin 2)).val = r * p + (y (0 : Fin 2)).val) (h1 : (z (1 : Fin 2)).val = 0 * q + (y (1 : Fin 2)).val) :
    g y = f (z 0) (z 1) := by
  obtain ⟨a, b, rfl⟩ := at_y y
  rw [h]
  exact congrArg₂ f (Fin.ext ((hr a).trans h0.symm)) (Fin.ext (by show b.val = (z (1 : Fin 2)).val; rw [h1]; show b.val = 0 * q + b.val; omega))

theorem place_row {q : ℕ} (f : Fin q → EReal) (g : Arr 1 q) (h : ∀ b, g (ix2 0 b) = f b)
    (y z : (⟨2, ![1, q]⟩ : Shape).Idx) (h1 : (z (1 : Fin 2)).val = 0 * q + (y (1 : Fin 2)).val) : g y = f (z 1) := by
  obtain ⟨a, b, rfl⟩ := at_y y
  rw [Subsingleton.elim a 0, h]
  exact congrArg f (Fin.ext (by show b.val = (z (1 : Fin 2)).val; rw [h1]; show b.val = 0 * q + b.val; omega))

theorem at_z {p q r : ℕ} (y : (⟨3, ![p, q, r]⟩ : Shape).Idx) : ∃ (a : Fin p) (b : Fin q) (d : Fin r), y = ix3 a b d := ⟨y 0, y 1, y 2, eq_ix3 y⟩

theorem final_5 : (dats m 0 c).arrAt 5 cfg0.N = fun x => dyp (a0 m c) (a1 m c) (a2 m c) (a3 m c) (a4 m c) (x 0) (x 1) := by
  refine (dats m 0 c).arrAt_eq_of_covers 5 _ (by decide +kernel) fun t hf y => ?_
  blk_simp
  rw [after0_5]
  exact place (dyp (a0 m c) (a1 m c) (a2 m c) (a3 m c) (a4 m c)) _ _ (p5 m c t) y _ (fun a => rfl) (by blk_simp [idx_5]) (by blk_simp [idx_5])

theorem final_6 : (dats m 0 c).arrAt 6 cfg0.N = fun x => dgb (a0 m c) (x 1) := by
  refine (dats m 0 c).arrAt_eq_of_covers 6 _ (by decide +kernel) fun t hf y => ?_
  blk_simp
  rw [after0_6]
  exact place_row (dgb (a0 m c)) _ (sum_6 m c t ((flush0_6 t).mp hf)) y _ (by blk_simp [idx_6])

theorem final_7 : (dats m 0 c).arrAt 7 cfg0.N = fun x => dds (a0 m c) (a1 m c) (a2 m c) (a3 m c) (a4 m c) (x 1) := by
  refine (dats m 0 c).arrAt_eq_of_covers 7 _ (by decide +kernel) fun t hf y => ?_
  blk_simp
  rw [after0_7]
  exact place_row (dds (a0 m c) (a1 m c) (a2 m c) (a3 m c) (a4 m c)) _ (sum_7 m c t ((flush0_7 t).mp hf)) y _ (by blk_simp [idx_7])

theorem final_S (t : Fin cfg0.N) (ht : t.val % 16 = 15) :
    (outsAt0 m c t.val t.isLt).2.2.2.2 = fun x => dgw (a0 m c) (a1 m c) (a2 m c) (a4 m c) (x 0) (x 1) (x 2) := by
  rw [leftH m c t ht]
  funext y
  obtain ⟨j, d, l, rfl⟩ := at_z (p := 8) (q := 1024) (r := 256) y
  exact sum_S m c t ht j d l

variable (ρ : Dev nD → PrngReg)

theorem run : θ_run defs (onTc (τ := τ) (main (F := Ideal))) ⟨m, fun _ => 0, ρ⟩ fun r => ∀ c : Dev nD,
      r.2.mem ((c : Thread nD τ).loc main_v4_0) = (fun x => dyp (a0 m c) (a1 m c) (a2 m c) (a3 m c) (a4 m c) (x 0) (x 1))
      ∧ r.2.mem ((c : Thread nD τ).loc main_v4_1) = (fun x => dgb (a0 m c) (x 1))
      ∧ r.2.mem ((c : Thread nD τ).loc main_v4_2) = (fun x => dds (a0 m c) (a1 m c) (a2 m c) (a3 m c) (a4 m c) (x 1))
      ∧ r.2.mem ((c : Thread nD τ).loc main_v4_3) = (fun x => dgw (a0 m c) (a1 m c) (a2 m c) (a4 m c) (x 0) (x 1) (x 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Cert.GluKernelIdeal.Value.run_blocks m ρ)
  obtain ⟨h0, h1, h2, k0, k1, k2, k3, k4, h3⟩ := h c
  exact ⟨h0.trans (final_5 m c), h1.trans (final_6 m c), h2.trans (final_7 m c),
    h3.trans (final_S m c ⟨cfg0.N - 1, by have : cfg0.N = 16 := N_0; omega⟩ (by have : cfg0.N = 16 := N_0; show (cfg0.N - 1) % 16 = 15; omega)),
    k0, k1, k2, k3, k4⟩

end Cert.Proof.Glu

end
-- ==== Proof.Glu.Ref.lean ====
/- The derivative of the gated unit's lines, as the reference computes it, at an index. -/
module

public import proofs.«01_k».proof.Proof.Gen.GluReferenceIdeal.Read
public import proofs.«01_k».proof.Proof.Gen.GluReferenceIdeal.Run
public import proofs.«01_k».proof.Proof.Glu.Spec

@[expose] public section

set_option maxRecDepth 16384

noncomputable section

namespace Cert.Proof.Glu.Ref

open Cert.GluReferenceIdeal Cert.GluReferenceIdeal.Gen Cert.GluReferenceIdeal.Value Cert.GluReferenceIdeal.Read
open Idealize.ShloMosaic Idealize.ShloMosaic.TcCoe

variable (x0 : Arr 8192 2048) (x1 : Arr 8192 1024) (x2 : Arr 8192 4096) (x3 : Arr3 8 1024 256) (x4 : Arr 1 1024)

theorem r4 (d : Fin 1024) (n : Fin 2048) : val_main_v4 (F := Ideal) x3 (ix2 d n) = wt x3 d n := by
  unfold wt
  pointwise [val_main_v4, val_main_v3, val_main_v2, val_main_v1]

theorem r7 (i : Fin 8192) (n : Fin 1024) : val_main_v7 (F := Ideal) x1 x2 x4 (ix2 i n) = yp x1 x2 x4 i n := by
  unfold yp uu
  pointwise [val_main_v7, val_main_v6, val_main_v5, val_main_v0]

theorem r20 (i : Fin 8192) (n : Fin 1024) : val_main_v20 (F := Ideal) x1 x2 x4 (ix2 i n) = th (yp x1 x2 x4 i n) := by
  unfold th kk
  rw [← cube, ← r7]
  pointwise [val_main_v20, val_main_v19, val_main_v18, val_main_v17, val_main_v16, val_main_v15, val_main_v14, val_main_v13, val_main_v9, val_main_v8, val_main_cst_1, val_main_cst_2, val_main_cst_3]

theorem r29 (i : Fin 8192) (n : Fin 1024) : val_main_v29 (F := Ideal) x1 x2 x4 (ix2 i n) = hf * (1 + th (yp x1 x2 x4 i n)) := by
  unfold hf
  rw [← r20]
  pointwise [val_main_v29, val_main_v28, val_main_v27, val_main_v26, val_main_cst_6, val_main_cst_7]

theorem r30 (i : Fin 8192) (n : Fin 1024) : val_main_v30 (F := Ideal) x1 x2 x4 (ix2 i n) = gelu (yp x1 x2 x4 i n) := by
  rw [← gelu_eq, ← r29, ← r7]
  pointwise [val_main_v30]

theorem r39 (i : Fin 8192) (d : Fin 1024) : val_main_v39 (F := Ideal) x0 x3 (ix2 i d) = dyg x0 x3 i d := by
  unfold dyg
  pointwise [val_main_v39, val_main_v34]
  exact Finset.sum_congr rfl fun n _ => by rw [r4]

theorem r46 (i : Fin 8192) (d : Fin 1024) : val_main_v46 (F := Ideal) x0 x1 x2 x3 x4 (ix2 i d)
    = kk * (hf * (yp x1 x2 x4 i d * dyg x0 x3 i d) * ((1 + th (yp x1 x2 x4 i d)) * (1 - th (yp x1 x2 x4 i d)))) := by
  unfold kk hf
  rw [← r20, ← r39, ← r7]
  pointwise [val_main_v46, val_main_v45, val_main_v44, val_main_v43, val_main_v42, val_main_v40, val_main_v25, val_main_v24, val_main_v23, val_main_v22, val_main_v21, val_main_cst_4, val_main_cst_5, val_main_cst_9, val_main_cst_10]

theorem r53 (h0 : ∀ i, ∃ r : ℝ, x0 i = r) (h3 : ∀ i, ∃ r : ℝ, x3 i = r) (i : Fin 8192) (d : Fin 1024) :
    val_main_v53 (F := Ideal) x0 x1 x2 x3 x4 (ix2 i d) = dyp x0 x1 x2 x3 x4 i d := by
  obtain ⟨r, hr⟩ := dyg_real x0 x3 h0 h3 i d
  unfold dyp
  rw [hr, ← grad_eq, ← hr, ← r46, ← r29, ← r39, ← r7]
  pointwise [val_main_v53, val_main_v52, val_main_v51, val_main_v50, val_main_v49, val_main_v48, val_main_v47, val_main_v41, val_main_v12, val_main_v11, val_main_v10, val_main_cst_0, val_main_cst_11, val_main_cst_12]

theorem r36 (n : Fin 2048) : val_main_v36 (F := Ideal) x0 (ix2 0 n) = dgb x0 n := by
  unfold dgb
  pointwise [val_main_v36, val_main_v35, val_main_v34, val_main_cst_8]

theorem r56 (h0 : ∀ i, ∃ r : ℝ, x0 i = r) (h3 : ∀ i, ∃ r : ℝ, x3 i = r) (d : Fin 1024) :
    val_main_v56 (F := Ideal) x0 x1 x2 x3 x4 (ix2 0 d) = dds x0 x1 x2 x3 x4 d := by
  unfold dds uu
  simp only [← r53 x0 x1 x2 x3 x4 h0 h3]
  pointwise [val_main_v56, val_main_v55, val_main_v54, val_main_v0, val_main_cst_13]

theorem r58 (j : Fin 8) (d : Fin 1024) (l : Fin 256) : val_main_v58 (F := Ideal) x0 x1 x2 x4 (ix3 j d l) = dgw x0 x1 x2 x4 j d l := by
  unfold dgw
  simp only [← r30]
  pointwise [val_main_v58, val_main_v57, val_main_v38, val_main_v37, val_main_v34]
  exact Finset.sum_congr rfl fun k _ => mul_comm _ _

end Cert.Proof.Glu.Ref

end
-- ==== Proof.Glu.Alg.lean ====
/- The gated unit's backward call leaves the arrays of the derivative of its forward lines. -/
module

public import proofs.«01_k».proof.Defs
public import proofs.«01_k».proof.Proof.Gen.Pre_finite_glu
public import proofs.«01_k».proof.Proof.Glu.Final
public import proofs.«01_k».proof.Proof.Glu.Ref

@[expose] public section

set_option maxRecDepth 16384

noncomputable section

namespace Cert.Proof.Glu

open Idealize.ShloMosaic Idealize.SL.Sem

/-- An entry whose magnitude compares below infinity is a real number. -/
theorem real_of_lt (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  have hl : max x (-x) < ⊤ := by
    rw [ht] at h
    by_contra hn
    simp [Ideal.cmp, hn] at h
  obtain ⟨h1, h2⟩ := max_lt_iff.mp hl
  induction x using EReal.rec with
  | bot => simp at h2
  | top => simp at h1
  | coe r => exact ⟨r, rfl⟩

theorem algebraic : Cert.algebraic_GluKernelIdeal_GluReferenceIdeal_pre_finite_glu := by
  intro m g m' g' hpre hagree
  refine ⟨_, _, _, _, run m g, ?_⟩
  refine (θ_run Cert.GluReferenceIdeal.defs _ _).mono (fun r h c => ?_) (Cert.GluReferenceIdeal.Value.run m' g')
  obtain ⟨h0, h1, h2, h3, ha⟩ := h c
  obtain ⟨p0, p3⟩ := hpre c
  obtain ⟨e0, e1, e2, e3, e4⟩ := hagree c
  have f0 : ∀ i, ∃ r : ℝ, a0 m c i = r := fun i => real_of_lt _ (congrFun p0 i)
  have f3 : ∀ i, ∃ r : ℝ, a3 m c i = r := fun i => real_of_lt _ (congrFun p3 i)
  replace h0 := h0.trans (Cert.GluReferenceIdeal.Read.val_main_v53_eq m' c)
  replace h1 := h1.trans (Cert.GluReferenceIdeal.Read.val_main_v36_eq _)
  replace h2 := h2.trans (Cert.GluReferenceIdeal.Read.val_main_v56_eq m' c)
  replace h3 := h3.trans (Cert.GluReferenceIdeal.Read.val_main_v58_eq _ _ _ _)
  rw [e0, e1, e2, e3, e4] at h0
  rw [e0] at h1
  rw [e0, e1, e2, e3, e4] at h2
  rw [e0, e1, e2, e4] at h3
  refine ⟨h0.trans (funext fun y => ?_), h1.trans (funext fun y => ?_), h2.trans (funext fun y => ?_), h3.trans (funext fun y => ?_), ha⟩
  · obtain ⟨a, b, rfl⟩ := at_y y
    exact Ref.r53 _ _ _ _ _ f0 f3 a b
  · obtain ⟨a, b, rfl⟩ := at_y y
    have ha0 : a = 0 := Subsingleton.elim _ _
    subst ha0
    exact Ref.r36 _ b
  · obtain ⟨a, b, rfl⟩ := at_y y
    have ha0 : a = 0 := Subsingleton.elim _ _
    subst ha0
    exact Ref.r56 _ _ _ _ _ f0 f3 b
  · obtain ⟨j, d, l, rfl⟩ := at_z y
    exact Ref.r58 _ _ _ _ j d l

theorem frame_reference : Cert.quiescent_GluReferenceIdeal := fun m ρ _ =>
  (θ_run Cert.GluReferenceIdeal.defs _ _).mono
    (fun r h => ⟨fun c => (h c).2.2.2.2, sem_eq_zero_of_no_sems (by decide) r.2⟩) (Cert.GluReferenceIdeal.Value.run m ρ)

end Cert.Proof.Glu

end
-- ==== Proof.Merge.Spec.lean ====
/- The merged output projection's call as mathematics over the extended reals. -/
module

public import Idealize.ShloMosaic.PureOps.Ideal
public import Idealize.ShloMosaic.Lib.Pointwise
public import Idealize.ShloMosaic.Lib.Pipeline.ValueKit.Acc
public import proofs.«01_k».proof.Proof.In.Spec
public import proofs.«01_k».proof.Proof.Glu.Spec
public import proofs.«01_k».proof.Proof.Out.Spec

@[expose] public section

set_option maxRecDepth 16384

noncomputable section

namespace Cert.Proof.Merge

open Idealize.ShloMosaic
open Cert.Proof.Glu (Arr Arr3 gelu wt)

/-- One half of one, over the width, as the chain rule composes it. -/
theorem mean_scale : Ideal.div (Ideal.ofBits .f32 0x3F000000#32 * Ideal.ofBits .f32 0x3F800000#32) (Ideal.ofBits .f32 0x45000000#32) * Ideal.ofBits .f32 0x40000000#32
    = Ideal.ofBits .f32 0x3A000000#32 := by
  have h1 : Ideal.ofBits .f32 0x3F000000#32 = ((1 / 2 : ℝ) : EReal) := Glu.bhf
  have h2 : Ideal.ofBits .f32 0x3F800000#32 = ((1 : ℝ) : EReal) := by
    simp [Ideal.ofBits, Ideal.ieee, -EReal.coe_mul]; norm_num
  have h3 : Ideal.ofBits .f32 0x40000000#32 = ((2 : ℝ) : EReal) := by
    simp [Ideal.ofBits, Ideal.ieee, -EReal.coe_mul]; norm_num
  have h4 : Ideal.ofBits .f32 0x3A000000#32 = ((1 / 2048 : ℝ) : EReal) := by
    simp [Ideal.ofBits, Ideal.ieee, -EReal.coe_mul]; norm_num
  rw [h1, h2, h3, h4, In.b2048, Ideal.div_coe (by norm_num)]
  norm_cast
  norm_num

variable (x0 : Arr 8192 1024) (x1 : Arr 8192 4096) (x2 : Arr 8192 1024) (x3 x4 : Arr 8192 2048) (x5 : Arr3 8 1024 256) (x6 : Arr 2048 2048)
  (x7 : Arr 1 1024) (x8 : Arr 1 2048) (x9 : Arr 1 1024) (x10 x11 : Arr 1 2048)

/-- The scanned branch before its activation. -/
def yp (i : Fin 8192) (j : Fin 1024) : EReal := Glu.yp x0 x1 x7 i j
/-- The gated unit's two halves. -/
def y12 (i : Fin 8192) (n : Fin 2048) : EReal := (∑ k : Fin 1024, gelu (yp x0 x1 x7 i k) * wt x5 k n) + x8 (ix2 0 n)
/-- The two branches side by side. -/
def pair (i : Fin 8192) (j : Fin 2048) : EReal :=
  if h : j.val < 1024 then x2 (ix2 i ⟨j.val, h⟩) * x9 (ix2 0 ⟨j.val, h⟩)
  else y12 x0 x1 x5 x7 x8 i ⟨j.val - 1024, by omega⟩ * Ideal.logistic (y12 x0 x1 x5 x7 x8 i j)
/-- The branches under their gate. -/
def br (i : Fin 8192) (j : Fin 2048) : EReal := pair x0 x1 x2 x5 x7 x8 x9 i j * Out.silu x1 i j
def mx (i : Fin 8192) (j : Fin 2048) : EReal := ∑ k : Fin 2048, br x0 x1 x2 x5 x7 x8 x9 i k * x6 (ix2 k j)
/-- The block's output. -/
def xo (i : Fin 8192) (j : Fin 2048) : EReal := x3 (ix2 i j) + x10 (ix2 0 j) * mx x0 x1 x2 x5 x6 x7 x8 x9 i j
def ms (i : Fin 8192) : EReal :=
  Ideal.div (∑ k : Fin 2048, xo x0 x1 x2 x3 x5 x6 x7 x8 x9 x10 i k * xo x0 x1 x2 x3 x5 x6 x7 x8 x9 x10 i k) (Ideal.ofBits .f32 0x45000000#32) + Ideal.ofBits .f32 0x358637BD#32
def rr (i : Fin 8192) : EReal := Ideal.rsqrt (ms x0 x1 x2 x3 x5 x6 x7 x8 x9 x10 i)
def xh (i : Fin 8192) (j : Fin 2048) : EReal := xo x0 x1 x2 x3 x5 x6 x7 x8 x9 x10 i j * rr x0 x1 x2 x3 x5 x6 x7 x8 x9 x10 i
/-- The normalised output's error. -/
def er (i : Fin 8192) (j : Fin 2048) : EReal := xh x0 x1 x2 x3 x5 x6 x7 x8 x9 x10 i j * x11 (ix2 0 j) - x4 (ix2 i j)
/-- Half its mean square, summed over the tokens. -/
def loss : EReal :=
  Ideal.ofBits .f32 0x3F000000#32 * ∑ i : Fin 8192, Ideal.div (∑ k : Fin 2048, er x0 x1 x2 x3 x4 x5 x6 x7 x8 x9 x10 x11 i k * er x0 x1 x2 x3 x4 x5 x6 x7 x8 x9 x10 x11 i k) (Ideal.ofBits .f32 0x45000000#32)
/-- The loss's gradient in the normalised, scaled output. -/
def de (i : Fin 8192) (j : Fin 2048) : EReal := er x0 x1 x2 x3 x4 x5 x6 x7 x8 x9 x10 x11 i j * Ideal.ofBits .f32 0x3A000000#32
def gy (i : Fin 8192) (j : Fin 2048) : EReal := de x0 x1 x2 x3 x4 x5 x6 x7 x8 x9 x10 x11 i j * x11 (ix2 0 j)
/-- The loss's gradient in the block's output. -/
def dxo (i : Fin 8192) (j : Fin 2048) : EReal :=
  rr x0 x1 x2 x3 x5 x6 x7 x8 x9 x10 i * (gy x0 x1 x2 x3 x4 x5 x6 x7 x8 x9 x10 x11 i j
    - xh x0 x1 x2 x3 x5 x6 x7 x8 x9 x10 i j
      * Ideal.div (∑ k : Fin 2048, gy x0 x1 x2 x3 x4 x5 x6 x7 x8 x9 x10 x11 i k * xh x0 x1 x2 x3 x5 x6 x7 x8 x9 x10 i k) (Ideal.ofBits .f32 0x45000000#32))
def dfg (j : Fin 2048) : EReal := ∑ i : Fin 8192, de x0 x1 x2 x3 x4 x5 x6 x7 x8 x9 x10 x11 i j * xh x0 x1 x2 x3 x5 x6 x7 x8 x9 x10 i j
def dgt (j : Fin 2048) : EReal := ∑ i : Fin 8192, dxo x0 x1 x2 x3 x4 x5 x6 x7 x8 x9 x10 x11 i j * mx x0 x1 x2 x5 x6 x7 x8 x9 i j

/-- The chain rule's form of the gradient in the block's output. -/
theorem dxo_eq (i : Fin 8192) (j : Fin 2048) : dxo x0 x1 x2 x3 x4 x5 x6 x7 x8 x9 x10 x11 i j
    = gy x0 x1 x2 x3 x4 x5 x6 x7 x8 x9 x10 x11 i j * rr x0 x1 x2 x3 x5 x6 x7 x8 x9 x10 i
      + xo x0 x1 x2 x3 x5 x6 x7 x8 x9 x10 i j * Ideal.div ((∑ k : Fin 2048, xo x0 x1 x2 x3 x5 x6 x7 x8 x9 x10 i k * gy x0 x1 x2 x3 x4 x5 x6 x7 x8 x9 x10 x11 i k)
          * (Ideal.ofBits .f32 0xBF000000#32 * Ideal.div (rr x0 x1 x2 x3 x5 x6 x7 x8 x9 x10 i) (ms x0 x1 x2 x3 x5 x6 x7 x8 x9 x10 i))) (Ideal.ofBits .f32 0x45000000#32)
      + Ideal.div ((∑ k : Fin 2048, xo x0 x1 x2 x3 x5 x6 x7 x8 x9 x10 i k * gy x0 x1 x2 x3 x4 x5 x6 x7 x8 x9 x10 x11 i k)
          * (Ideal.ofBits .f32 0xBF000000#32 * Ideal.div (rr x0 x1 x2 x3 x5 x6 x7 x8 x9 x10 i) (ms x0 x1 x2 x3 x5 x6 x7 x8 x9 x10 i))) (Ideal.ofBits .f32 0x45000000#32)
        * xo x0 x1 x2 x3 x5 x6 x7 x8 x9 x10 i j := by
  obtain ⟨e, he, hE⟩ := In.beps
  have h := In.rms_grad (xo x0 x1 x2 x3 x5 x6 x7 x8 x9 x10 i) (gy x0 x1 x2 x3 x4 x5 x6 x7 x8 x9 x10 x11 i) 0 (N := 2048) (by norm_num) he j
    (ms x0 x1 x2 x3 x5 x6 x7 x8 x9 x10 i) (rr x0 x1 x2 x3 x5 x6 x7 x8 x9 x10 i) (by unfold ms; rw [In.b2048, hE]) rfl
  rw [add_zero, zero_add] at h
  rw [In.bhalf]
  unfold dxo xh
  rw [In.b2048]
  exact h

end Cert.Proof.Merge

end
-- ==== Proof.Merge.Pay.lean ====
/- The merged output projection's call's arithmetic, at an entry of a block. -/
module

public import proofs.«01_k».proof.Proof.Gen.MergeKernelIdeal.Skeleton
public import Idealize.ShloMosaic.Lib.Pipeline.ValueKit
public import Idealize.ShloMosaic.Lib.VecWindow
public import Idealize.ShloMosaic.Lib.Pipeline.ReadBack
public import proofs.«01_k».proof.Proof.Merge.Spec

@[expose] public section

set_option maxRecDepth 16384

noncomputable section

namespace Cert.Proof.Merge

open Cert.MergeKernelIdeal Cert.MergeKernelIdeal.Gen
open Idealize.ShloMosaic Idealize.ShloMosaic.TcCoe
open Cert.Proof.Glu (Arr Arr3 gelu wt th kk hf c1)

/-- One shard of the gated unit's weights, and the matching piece of its bias. -/
def shard {F : FTy → Type} (w : Vec F S8x1024x256 .bf16) (j : ℕ) (h : ∀ a, (![j, 0, 0] : Fin 3 → Nat) a + S1x1024x256.size a ≤ S8x1024x256.size a) : Vec F S1x1024x256 .bf16 :=
  View.ld w (Rect.unit (s := S8x1024x256) ![j, 0, 0] S1x1024x256.size h)
def seg {F : FTy → Type} (b : Vec F S1x2048 .f32) (o : ℕ) (h : ∀ a, (![0, o] : Fin 2 → Nat) a + S1x256.size a ≤ S1x2048.size a) : Vec F S1x256 .f32 :=
  View.ld b (Rect.unit (s := S1x2048) ![0, o] S1x256.size h)

theorem shard_at (w : Arr3 8 1024 256) (j : ℕ) (hj : j < 8) (h : ∀ a, (![j, 0, 0] : Fin 3 → Nat) a + S1x1024x256.size a ≤ S8x1024x256.size a) (d : Fin 1024) (l : Fin 256) :
    shard (F := Ideal) w j h (ix3 0 d l) = w (ix3 ⟨j, hj⟩ d l) := by
  pointwise [shard]

theorem seg_at (b : Arr 1 2048) (o : ℕ) (ho : o + 256 ≤ 2048) (h : ∀ a, (![0, o] : Fin 2 → Nat) a + S1x256.size a ≤ S1x2048.size a) (l : Fin 256) :
    seg (F := Ideal) b o h (ix2 0 l) = b (ix2 0 ⟨o + l.val, by omega⟩) := by
  pointwise [seg]

theorem named_c : (Named.named κ "c" 0x3D372713#32 : Ideal .f32) = c1 := rfl

/-! ## The branches -/

section branches

variable (b0 : Arr 256 1024) (b8 : Arr 1 1024) (b1 : Arr 256 1024)

theorem k17 (a : Fin 256) (n : Fin 1024) : k0_pay17 (F := Ideal) b0 b8 b1 (ix2 a n) = b0 (ix2 a n) + b8 (ix2 0 n) * b1 (ix2 a n) := by
  pointwise [k0_pay17]

theorem k18 (a : Fin 256) (n : Fin 1024) : k0_pay18 (F := Ideal) b0 b8 b1 (ix2 a n) = gelu (b0 (ix2 a n) + b8 (ix2 0 n) * b1 (ix2 a n)) := by
  unfold gelu th kk hf
  rw [← k17, ← named_c]
  pointwise [k0_pay18]

variable (g : Arr 256 1024) (s s' : Arr3 1 1024 256) (b b' : Arr 1 256)

/-- One shard's part of the gated unit's product. -/
def gd (a l : Fin 256) : EReal := (∑ k : Fin 1024, g (ix2 a k) * s (ix3 0 k l)) + b (ix2 0 l)

theorem k19 (a l : Fin 256) : k0_pay19 (F := Ideal) b0 b8 b1 s b (ix2 a l) = gd (k0_pay18 (F := Ideal) b0 b8 b1) s b a l := by
  unfold gd
  pointwise [k0_pay19]

theorem k20 (a l : Fin 256) : k0_pay20 (F := Ideal) b0 b8 b1 s b (ix2 a l) = gd (k0_pay18 (F := Ideal) b0 b8 b1) s b a l := by
  unfold gd
  pointwise [k0_pay20]

theorem k22 (a l : Fin 256) : k0_pay22 (F := Ideal) g s b (ix2 a l) = gd g s b a l := by
  unfold gd
  pointwise [k0_pay22]

theorem k23 (a l : Fin 256) : k0_pay23 (F := Ideal) g s b (ix2 a l) = gd g s b a l := by
  unfold gd
  pointwise [k0_pay23]

theorem k26 (a l : Fin 256) : k0_pay26 (F := Ideal) g s b (ix2 a l) = gd g s b a l := by
  unfold gd
  pointwise [k0_pay26]

theorem k27 (a l : Fin 256) : k0_pay27 (F := Ideal) g s b (ix2 a l) = gd g s b a l := by
  unfold gd
  pointwise [k0_pay27]

theorem k29 (a l : Fin 256) : k0_pay29 (F := Ideal) g s b (ix2 a l) = gd g s b a l := by
  unfold gd
  pointwise [k0_pay29]

theorem k30 (a l : Fin 256) : k0_pay30 (F := Ideal) g s b (ix2 a l) = gd g s b a l := by
  unfold gd
  pointwise [k0_pay30]

theorem k21 (p q : Arr 256 256) (a l : Fin 256) : k0_pay21 (F := Ideal) p q (ix2 a l) = p (ix2 a l) * Ideal.logistic (q (ix2 a l)) := by
  rw [← Out.half_tanh]
  pointwise [k0_pay21]

theorem k24 (a l : Fin 256) : k0_pay24 (F := Ideal) g s b (ix2 a l) = Ideal.logistic (gd g s b a l) := by
  rw [← Out.half_tanh, ← k23]
  pointwise [k0_pay24]

theorem k25 (p q : Arr 256 256) (a l : Fin 256) : k0_pay25 (F := Ideal) p q (ix2 a l) = p (ix2 a l) * q (ix2 a l) := by
  pointwise [k0_pay25]

theorem k28 (a l : Fin 256) : k0_pay28 (F := Ideal) g s b s' b' (ix2 a l) = gd g s b a l * Ideal.logistic (gd g s' b' a l) := by
  rw [← Out.half_tanh, ← k27 g s' b', ← k26 g s b]
  pointwise [k0_pay28]

theorem k31 (p0 p1 p2 p3 : Arr 256 256) (l : Arr 256 1024) (ps : Arr 1 1024) (z : Arr 256 2048) (a : Fin 256) (j : Fin 2048) :
    k0_pay31 (F := Ideal) g p0 p1 p2 p3 s b l ps z (ix2 a j)
      = (if h : j.val < 1024 then l (ix2 a ⟨j.val, h⟩) * ps (ix2 0 ⟨j.val, h⟩)
        else if h0 : j.val - 1024 < 256 then p0 (ix2 a ⟨j.val - 1024, h0⟩)
        else if h1 : j.val - 1024 - 256 < 256 then p1 (ix2 a ⟨j.val - 1024 - 256, h1⟩)
        else if h2 : j.val - 1024 - 256 - 256 < 256 then p2 (ix2 a ⟨j.val - 1024 - 256 - 256, h2⟩)
        else p3 (ix2 a ⟨j.val - 1024 - 256 - 256 - 256, by omega⟩) * Ideal.logistic (gd g s b a ⟨j.val - 1024 - 256 - 256 - 256, by omega⟩))
        * (z (ix2 a j) * Ideal.logistic (z (ix2 a j))) := by
  simp only [← Out.half_tanh, ← k30]
  pointwise [k0_pay31]

theorem k1 (br : Arr 256 2048) (w : Arr 2048 2048) (a : Fin 256) (j : Fin 2048) :
    k0_pay1 (F := Ideal) br w (constant S256x2048 .f32 0x00000000#32) (ix2 a j) = ∑ k : Fin 2048, br (ix2 a k) * w (ix2 k j) := by
  pointwise [k0_pay1]

end branches

/-! ## The loss and its gradients -/

section grads

variable (m x : Arr 256 2048) (gt fg : Arr 1 2048) (tg : Arr 256 2048)

theorem k6 (a : Fin 256) (j : Fin 2048) : k0_pay6 (F := Ideal) m x gt (ix2 a j) = x (ix2 a j) + gt (ix2 0 j) * m (ix2 a j) := by
  pointwise [k0_pay6]

theorem k7 (a : Fin 256) : k0_pay7 (F := Ideal) m x gt (ix2 a 0)
    = Ideal.rsqrt (Ideal.div (∑ k : Fin 2048, k0_pay6 (F := Ideal) m x gt (ix2 a k) * k0_pay6 (F := Ideal) m x gt (ix2 a k)) (Ideal.ofBits .f32 0x45000000#32) + Ideal.ofBits .f32 0x358637BD#32) := by
  pointwise [k0_pay7]

theorem k8 (a : Fin 256) (j : Fin 2048) : k0_pay8 (F := Ideal) m x gt (ix2 a j) = k0_pay6 (F := Ideal) m x gt (ix2 a j) * k0_pay7 (F := Ideal) m x gt (ix2 a 0) := by
  pointwise [k0_pay8]

theorem k9 (a : Fin 256) (j : Fin 2048) : k0_pay9 (F := Ideal) m x gt fg tg (ix2 a j) = k0_pay8 (F := Ideal) m x gt (ix2 a j) * fg (ix2 0 j) - tg (ix2 a j) := by
  pointwise [k0_pay9]

theorem k11 : k0_pay11 (F := Ideal) m x gt fg tg (ix2 0 0)
    = Ideal.ofBits .f32 0x3F000000#32 * ∑ a : Fin 256, Ideal.div (∑ k : Fin 2048, k0_pay9 (F := Ideal) m x gt fg tg (ix2 a k) * k0_pay9 (F := Ideal) m x gt fg tg (ix2 a k)) (Ideal.ofBits .f32 0x45000000#32) := by
  pointwise [k0_pay11]

theorem k12_1 (l v : Arr 1 1) : k0_pay12 (F := Ideal) 1#1 (k0_pay10 l) v (ix2 0 0) = l (ix2 0 0) + v (ix2 0 0) := by
  pointwise [k0_pay12, k0_pay10]

theorem k12_0 (l v : Arr 1 1) : k0_pay12 (F := Ideal) 0#1 (k0_pay10 l) v (ix2 0 0) = l (ix2 0 0) := by
  pointwise [k0_pay12, k0_pay10]

variable (h e : Arr 256 2048) (r : Arr 256 1) (o : Arr 1 2048)

theorem k13 (a : Fin 256) (j : Fin 2048) : k0_pay13 (F := Ideal) e (ix2 a j) = e (ix2 a j) * Ideal.ofBits .f32 0x3A000000#32 := by
  pointwise [k0_pay13]

theorem k14_1 (j : Fin 2048) : k0_pay14 (F := Ideal) 1#1 h e o (ix2 0 j) = o (ix2 0 j) + ∑ a : Fin 256, k0_pay13 (F := Ideal) e (ix2 a j) * h (ix2 a j) := by
  pointwise [k0_pay14]

theorem k14_0 (j : Fin 2048) : k0_pay14 (F := Ideal) 0#1 h e o (ix2 0 j) = o (ix2 0 j) := by
  pointwise [k0_pay14]

theorem k15 (a : Fin 256) (j : Fin 2048) : k0_pay15 (F := Ideal) r h fg e (ix2 a j)
    = r (ix2 a 0) * (k0_pay13 (F := Ideal) e (ix2 a j) * fg (ix2 0 j)
      - h (ix2 a j) * Ideal.div (∑ k : Fin 2048, k0_pay13 (F := Ideal) e (ix2 a k) * fg (ix2 0 k) * h (ix2 a k)) (Ideal.ofBits .f32 0x45000000#32)) := by
  pointwise [k0_pay15]

theorem k16_1 (j : Fin 2048) : k0_pay16 (F := Ideal) 1#1 m r h fg e o (ix2 0 j) = o (ix2 0 j) + ∑ a : Fin 256, k0_pay15 (F := Ideal) r h fg e (ix2 a j) * m (ix2 a j) := by
  pointwise [k0_pay16]

theorem k16_0 (j : Fin 2048) : k0_pay16 (F := Ideal) 0#1 m r h fg e o (ix2 0 j) = o (ix2 0 j) := by
  pointwise [k0_pay16]

theorem k2 : k0_pay2 (F := Ideal) (ix2 0 0) = 0 := by
  pointwise [k0_pay2]
theorem k3 (j : Fin 2048) : k0_pay3 (F := Ideal) (ix2 0 j) = 0 := by
  pointwise [k0_pay3]
theorem k4 (j : Fin 2048) : k0_pay4 (F := Ideal) (ix2 0 j) = 0 := by
  pointwise [k0_pay4]

end grads

/-! ## The gated unit's halves, stored in eight pieces -/

section halves

/-- One point's stores of the halves. -/
def stores {F : FTy → Type} [FloatOps F] [Named F] (b0 : Vec F S256x1024 .f32) (b8 : Vec F S1x1024 .f32) (b1 : Vec F S256x1024 .f32) (w : Vec F S8x1024x256 .bf16) (b : Vec F S1x2048 .f32) :
    List (View.Piece (Elt F) S256x2048 .f32) :=
    [⟨Rect.unit ![0, 1792] ![256, 256] inb_S256x2048_S256x256_0_1792, k0_pay30 (k0_pay18 b0 b8 b1) (shard w 7 inb_S8x1024x256_S1x1024x256_7_0_0) (seg b 1792 inb_S1x2048_S1x256_0_1792)⟩,
     ⟨Rect.unit ![0, 768] ![256, 256] inb_S256x2048_S256x256_0_768, k0_pay29 (k0_pay18 b0 b8 b1) (shard w 3 inb_S8x1024x256_S1x1024x256_3_0_0) (seg b 768 inb_S1x2048_S1x256_0_768)⟩,
     ⟨Rect.unit ![0, 1536] ![256, 256] inb_S256x2048_S256x256_0_1536, k0_pay27 (k0_pay18 b0 b8 b1) (shard w 6 inb_S8x1024x256_S1x1024x256_6_0_0) (seg b 1536 inb_S1x2048_S1x256_0_1536)⟩,
     ⟨Rect.unit ![0, 512] ![256, 256] inb_S256x2048_S256x256_0_512, k0_pay26 (k0_pay18 b0 b8 b1) (shard w 2 inb_S8x1024x256_S1x1024x256_2_0_0) (seg b 512 inb_S1x2048_S1x256_0_512)⟩,
     ⟨Rect.unit ![0, 1280] ![256, 256] inb_S256x2048_S256x256_0_1280, k0_pay23 (k0_pay18 b0 b8 b1) (shard w 5 inb_S8x1024x256_S1x1024x256_5_0_0) (seg b 1280 inb_S1x2048_S1x256_0_1280)⟩,
     ⟨Rect.unit ![0, 256] ![256, 256] inb_S256x2048_S256x256_0_256, k0_pay22 (k0_pay18 b0 b8 b1) (shard w 1 inb_S8x1024x256_S1x1024x256_1_0_0) (seg b 256 inb_S1x2048_S1x256_0_256)⟩,
     ⟨Rect.unit ![0, 1024] ![256, 256] inb_S256x2048_S256x256_0_1024, k0_pay20 b0 b8 b1 (shard w 4 inb_S8x1024x256_S1x1024x256_4_0_0) (seg b 1024 inb_S1x2048_S1x256_0_1024)⟩,
     ⟨Rect.unit ![0, 0] ![256, 256] inb_S256x2048_S256x256_0_0, k0_pay19 b0 b8 b1 (shard w 0 inb_S8x1024x256_S1x1024x256_0_0_0) (seg b 0 inb_S1x2048_S1x256_0_0)⟩]

theorem covers {F : FTy → Type} [FloatOps F] [Named F] (b0 : Vec F S256x1024 .f32) (b8 : Vec F S1x1024 .f32) (b1 : Vec F S256x1024 .f32) (w : Vec F S8x1024x256 .bf16) (b : Vec F S1x2048 .f32) (y : S256x2048.Idx) :
    ∃ p ∈ stores b0 b8 b1 w b, y ∈ p.1.set :=
  View.cover_of_tiled (stores b0 b8 b1 w b) S256x256.size rfl y

def halves {F : FTy → Type} [FloatOps F] [Named F] (b0 : Vec F S256x1024 .f32) (b8 : Vec F S1x1024 .f32) (b1 : Vec F S256x1024 .f32) (w : Vec F S8x1024x256 .bf16) (b : Vec F S1x2048 .f32) : Vec F S256x2048 .f32 :=
  View.canon (stores b0 b8 b1 w b)

variable (b0 : Arr 256 1024) (b8 : Arr 1 1024) (b1 : Arr 256 1024) (w : Arr3 8 1024 256) (b : Arr 1 2048)

/-- The halves at an entry of a block. -/
def blk (g : Arr 256 1024) (a : Fin 256) (n : Fin 2048) : EReal := (∑ k : Fin 1024, g (ix2 a k) * wt w k n) + b (ix2 0 n)
def unit (g : Arr 256 1024) : Arr 256 2048 := fun y => blk w b g (y (0 : Fin 2)) (y (1 : Fin 2))

theorem gd_blk (g : Arr 256 1024) (j o : ℕ) (hj : j < 8) (ho : o = j * 256) (h : ∀ a, (![j, 0, 0] : Fin 3 → Nat) a + S1x1024x256.size a ≤ S8x1024x256.size a)
    (h' : ∀ a, (![0, o] : Fin 2 → Nat) a + S1x256.size a ≤ S1x2048.size a) (a l : Fin 256) (n : Fin 2048) (hn : n.val = o + l.val) :
    gd g (shard (F := Ideal) w j h) (seg (F := Ideal) b o h') a l = blk w b g a n := by
  subst ho
  unfold gd blk
  rw [seg_at b (j * 256) (by omega)]
  refine congrArg₂ (· + ·) (Finset.sum_congr rfl fun k _ => ?_) (congrArg (fun q => b (ix2 0 q)) (Fin.ext hn.symm))
  rw [shard_at w j hj]
  unfold wt
  exact congrArg (g (ix2 a k) * ·) (congrArg₂ (fun p q => w (ix3 p k q)) (Fin.ext (by show j = n.val / 256; omega)) (Fin.ext (by show l.val = n.val % 256; omega)))

theorem piece (g : Arr 256 1024) (j o : ℕ) (hj : j < 8) (ho : o = j * 256) (h : ∀ a, (![j, 0, 0] : Fin 3 → Nat) a + S1x1024x256.size a ≤ S8x1024x256.size a)
    (h' : ∀ a, (![0, o] : Fin 2 → Nat) a + S1x256.size a ≤ S1x2048.size a) (inb : ∀ a, (![0, o] : Fin 2 → Nat) a + (![256, 256] : Fin 2 → Nat) a ≤ S256x2048.size a) (p : Arr 256 256)
    (hp : ∀ a l : Fin 256, p (ix2 a l) = gd g (shard (F := Ideal) w j h) (seg (F := Ideal) b o h') a l)
    (x : (Rect.unit (s := S256x2048) ![0, o] ![256, 256] inb).shape.Idx) :
    p x = unit w b g ((Rect.unit (s := S256x2048) ![0, o] ![256, 256] inb).emb x) := by
  obtain ⟨a, l, rfl⟩ : ∃ a l : Fin 256, x = ix2 a l := ⟨x (0 : Fin 2), x (1 : Fin 2), eq_ix2 x⟩
  have e : (Rect.unit (s := S256x2048) ![0, o] ![256, 256] inb).emb (ix2 a l) = ix2 a ⟨o + l.val, by omega⟩ := by
    funext q
    match q with
    | ⟨0, _⟩ => exact Fin.ext (by show 0 + 1 * a.val = a.val; omega)
    | ⟨1, _⟩ => exact Fin.ext (by show o + 1 * l.val = o + l.val; omega)
  rw [e]
  exact (hp a l).trans (gd_blk w b g j o hj ho h h' a l ⟨o + l.val, by omega⟩ rfl)

theorem pcons (G : S256x2048.Idx → Elt Ideal .f32) (r : Rect S256x2048) (v : r.shape.Idx → Elt Ideal .f32) (L : List (View.Piece (Elt Ideal) S256x2048 .f32))
    (h : ∀ x, v x = G (r.emb x)) (hL : View.PiecesOf G L) : View.PiecesOf G (⟨r, v⟩ :: L) := ⟨h, hL⟩

theorem halves_at (y : S256x2048.Idx) : halves (F := Ideal) b0 b8 b1 w b y = unit w b (k0_pay18 (F := Ideal) b0 b8 b1) y := by
  unfold halves
  refine View.canon_apply_of_pieces (unit w b (k0_pay18 (F := Ideal) b0 b8 b1)) (stores (F := Ideal) b0 b8 b1 w b) (View.PiecesOf.mem ?_) y (covers (F := Ideal) b0 b8 b1 w b y)
  unfold stores
  refine pcons _ _ _ _ ?_ ?_
  · exact piece w b _ 7 1792 (by norm_num) rfl inb_S8x1024x256_S1x1024x256_7_0_0 inb_S1x2048_S1x256_0_1792 inb_S256x2048_S256x256_0_1792 _ (k30 _ _ _)
  refine pcons _ _ _ _ ?_ ?_
  · exact piece w b _ 3 768 (by norm_num) rfl inb_S8x1024x256_S1x1024x256_3_0_0 inb_S1x2048_S1x256_0_768 inb_S256x2048_S256x256_0_768 _ (k29 _ _ _)
  refine pcons _ _ _ _ ?_ ?_
  · exact piece w b _ 6 1536 (by norm_num) rfl inb_S8x1024x256_S1x1024x256_6_0_0 inb_S1x2048_S1x256_0_1536 inb_S256x2048_S256x256_0_1536 _ (k27 _ _ _)
  refine pcons _ _ _ _ ?_ ?_
  · exact piece w b _ 2 512 (by norm_num) rfl inb_S8x1024x256_S1x1024x256_2_0_0 inb_S1x2048_S1x256_0_512 inb_S256x2048_S256x256_0_512 _ (k26 _ _ _)
  refine pcons _ _ _ _ ?_ ?_
  · exact piece w b _ 5 1280 (by norm_num) rfl inb_S8x1024x256_S1x1024x256_5_0_0 inb_S1x2048_S1x256_0_1280 inb_S256x2048_S256x256_0_1280 _ (k23 _ _ _)
  refine pcons _ _ _ _ ?_ ?_
  · exact piece w b _ 1 256 (by norm_num) rfl inb_S8x1024x256_S1x1024x256_1_0_0 inb_S1x2048_S1x256_0_256 inb_S256x2048_S256x256_0_256 _ (k22 _ _ _)
  refine pcons _ _ _ _ ?_ ?_
  · exact piece w b _ 4 1024 (by norm_num) rfl inb_S8x1024x256_S1x1024x256_4_0_0 inb_S1x2048_S1x256_0_1024 inb_S256x2048_S256x256_0_1024 _ (k20 b0 b8 b1 _ _)
  refine pcons _ _ _ _ ?_ ?_
  · exact piece w b _ 0 0 (by norm_num) rfl inb_S8x1024x256_S1x1024x256_0_0_0 inb_S1x2048_S1x256_0_0 inb_S256x2048_S256x256_0_0 _ (k19 b0 b8 b1 _ _)
  trivial

end halves

end Cert.Proof.Merge

end
-- ==== Proof.Merge.Point.lean ====
/- What each grid point of the merged output projection's call leaves in its buffers. -/
module

public import proofs.«01_k».proof.Proof.Gen.MergeKernelIdeal.Value
public import Idealize.ShloMosaic.Lib.Pipeline.ReadBack
public import proofs.«01_k».proof.Proof.Merge.Pay

@[expose] public section

set_option maxRecDepth 16384

noncomputable section

namespace Cert.Proof.Merge

open Cert.MergeKernelIdeal Cert.MergeKernelIdeal.Gen
open Idealize.ShloMosaic Idealize.ShloMosaic.TcCoe

variable {F : FTy → Type} [FloatOps F] [Named F]
variable (m : (ℓ : Loc nD τ sig) → Buf (Elt F) ℓ) (c : Dev nD)

/-- The gated unit's input, at a point. -/
def pyg (t : Fin cfg0.N) : FVec F S256x1024 .bf16 := k0_pay18 (iblk m c 0 t) (iblk m c 8 t) (iblk m c 1 t)
def sh (t : Fin cfg0.N) (j : ℕ) (h : ∀ a, (![j, 0, 0] : Fin 3 → Nat) a + S1x1024x256.size a ≤ S8x1024x256.size a) : Vec F S1x1024x256 .bf16 := shard (iblk m c 6 t) j h
def sg (t : Fin cfg0.N) (o : ℕ) (h : ∀ a, (![0, o] : Fin 2 → Nat) a + S1x256.size a ≤ S1x2048.size a) : Vec F S1x256 .f32 := seg (iblk m c 9 t) o h

/-- The gated branches, at a point. -/
def pbr (t : Fin cfg0.N) : FVec F S256x2048 .bf16 :=
  k0_pay31 (pyg m c t)
    (k0_pay21 (k0_pay19 (iblk m c 0 t) (iblk m c 8 t) (iblk m c 1 t) (sh m c t 0 inb_S8x1024x256_S1x1024x256_0_0_0) (sg m c t 0 inb_S1x2048_S1x256_0_0))
      (k0_pay20 (iblk m c 0 t) (iblk m c 8 t) (iblk m c 1 t) (sh m c t 4 inb_S8x1024x256_S1x1024x256_4_0_0) (sg m c t 1024 inb_S1x2048_S1x256_0_1024)))
    (k0_pay25 (k0_pay22 (pyg m c t) (sh m c t 1 inb_S8x1024x256_S1x1024x256_1_0_0) (sg m c t 256 inb_S1x2048_S1x256_0_256))
      (k0_pay24 (pyg m c t) (sh m c t 5 inb_S8x1024x256_S1x1024x256_5_0_0) (sg m c t 1280 inb_S1x2048_S1x256_0_1280)))
    (k0_pay28 (pyg m c t) (sh m c t 2 inb_S8x1024x256_S1x1024x256_2_0_0) (sg m c t 512 inb_S1x2048_S1x256_0_512)
      (sh m c t 6 inb_S8x1024x256_S1x1024x256_6_0_0) (sg m c t 1536 inb_S1x2048_S1x256_0_1536))
    (k0_pay29 (pyg m c t) (sh m c t 3 inb_S8x1024x256_S1x1024x256_3_0_0) (sg m c t 768 inb_S1x2048_S1x256_0_768))
    (sh m c t 7 inb_S8x1024x256_S1x1024x256_7_0_0) (sg m c t 1792 inb_S1x2048_S1x256_0_1792)
    (iblk m c 3 t) (iblk m c 10 t) (iblk m c 2 t)

def pmx (t : Fin cfg0.N) : FVec F S256x2048 .f32 := k0_pay1 (pbr m c t) (iblk m c 7 t) (constant S256x2048 .f32 0x00000000#32)

theorem left13 (t : Fin cfg0.N) : (outsAt0 m c t.val t.isLt).1 = k0_pay17 (iblk m c 0 t) (iblk m c 8 t) (iblk m c 1 t) := by
  by_cases h0 : t.val % 33 = 0
  · rw [outsAt0_A m c t h0]; dsimp only; frame_out
  · rw [outsAt0_B m c t h0]; dsimp only; frame_out

theorem left14 (t : Fin cfg0.N) : (outsAt0 m c t.val t.isLt).2.1 = halves (iblk m c 0 t) (iblk m c 8 t) (iblk m c 1 t) (iblk m c 6 t) (iblk m c 9 t) := by
  by_cases h0 : t.val % 33 = 0
  · rw [outsAt0_A m c t h0]; dsimp only; frame_out; rfl
  · rw [outsAt0_B m c t h0]; dsimp only; frame_out; rfl

theorem left15 (t : Fin cfg0.N) : (outsAt0 m c t.val t.isLt).2.2.1 = pbr m c t := by
  by_cases h0 : t.val % 33 = 0
  · rw [outsAt0_A m c t h0]; dsimp only; frame_out; rfl
  · rw [outsAt0_B m c t h0]; dsimp only; frame_out; rfl

theorem leftS (t : Fin cfg0.N) : (outsAt0 m c t.val t.isLt).2.2.2.2.2.2.2 = pmx m c t := by
  by_cases h0 : t.val % 33 = 0
  · rw [outsAt0_A m c t h0]; dsimp only; frame_out; rfl
  · rw [outsAt0_B m c t h0]; dsimp only; frame_out; rfl

/-- The first point has no finished rows yet; every later one does. -/
theorem late_0 : ∀ t : Fin cfg0.N, t.val % 33 = 0 → Scalar.cmpi .sgt (BitVec.ofNat 32 (grid0.coords t 0).val) 0#32 = 0#1 :=
  (by decide +kernel : ∀ t : Fin grid0.N, _)
theorem late_S : ∀ t : Fin cfg0.N, ¬t.val % 33 = 0 → Scalar.cmpi .sgt (BitVec.ofNat 32 (grid0.coords t 0).val) 0#32 = 1#1 :=
  (by decide +kernel : ∀ t : Fin grid0.N, _)

/-- What the point before left as the mixed rows. -/
def old (t : Fin cfg0.N) : Vec F S256x2048 .f32 := (outsAt0 m c (t.val - 1) (Nat.lt_of_le_of_lt (Nat.sub_le _ _) t.isLt)).2.2.2.2.2.2.2

/-- The rows' reciprocal root mean square, normalised rows and error, at a later point. -/
def prr (t : Fin cfg0.N) : FVec F S256x1 .f32 := k0_pay7 (old m c t) (iblk m c 4 t) (iblk m c 11 t)
def pxh (t : Fin cfg0.N) : FVec F S256x2048 .f32 := k0_pay8 (old m c t) (iblk m c 4 t) (iblk m c 11 t)
def per (t : Fin cfg0.N) : FVec F S256x2048 .f32 := k0_pay9 (old m c t) (iblk m c 4 t) (iblk m c 11 t) (iblk m c 12 t) (iblk m c 5 t)
def pls (t : Fin cfg0.N) : FVec F S1x1 .f32 := k0_pay11 (old m c t) (iblk m c 4 t) (iblk m c 11 t) (iblk m c 12 t) (iblk m c 5 t)

theorem left16_S (t : Fin cfg0.N) (h0 : ¬t.val % 33 = 0) : (outsAt0 m c t.val t.isLt).2.2.2.1 =
    k0_pay15 (prr m c t) (pxh m c t) (iblk m c 12 t) (per m c t) := by
  rw [outsAt0_B m c t h0]; dsimp only; frame_out
  simp only [read_unread_whole]
  rfl

theorem left17_0 (t : Fin cfg0.N) (h0 : t.val % 33 = 0) : (outsAt0 m c t.val t.isLt).2.2.2.2.1 =
    k0_pay12 0#1 (k0_pay10 k0_pay2) (k0_pay11 k0_pay5 (iblk m c 4 t) (iblk m c 11 t) (iblk m c 12 t) (iblk m c 5 t)) := by
  rw [← late_0 t h0, outsAt0_A m c t h0]; dsimp only; frame_out

theorem left17_S (t : Fin cfg0.N) (h0 : ¬t.val % 33 = 0) : (outsAt0 m c t.val t.isLt).2.2.2.2.1 =
    k0_pay12 1#1 (k0_pay10 (outsAt0 m c (t.val - 1) (Nat.lt_of_le_of_lt (Nat.sub_le _ _) t.isLt)).2.2.2.2.1) (pls m c t) := by
  rw [← late_S t h0, outsAt0_B m c t h0]; dsimp only; frame_out
  simp only [read_unread_whole]
  rfl

theorem left18_0 (t : Fin cfg0.N) (h0 : t.val % 33 = 0) : (outsAt0 m c t.val t.isLt).2.2.2.2.2.1 =
    k0_pay14 0#1 (k0_pay8 k0_pay5 (iblk m c 4 t) (iblk m c 11 t)) (k0_pay9 k0_pay5 (iblk m c 4 t) (iblk m c 11 t) (iblk m c 12 t) (iblk m c 5 t)) k0_pay3 := by
  rw [← late_0 t h0, outsAt0_A m c t h0]; dsimp only; frame_out

theorem left18_S (t : Fin cfg0.N) (h0 : ¬t.val % 33 = 0) : (outsAt0 m c t.val t.isLt).2.2.2.2.2.1 =
    k0_pay14 1#1 (pxh m c t) (per m c t) (outsAt0 m c (t.val - 1) (Nat.lt_of_le_of_lt (Nat.sub_le _ _) t.isLt)).2.2.2.2.2.1 := by
  rw [← late_S t h0, outsAt0_B m c t h0]; dsimp only; frame_out
  simp only [read_unread_whole]
  rfl

theorem left19_0 (t : Fin cfg0.N) (h0 : t.val % 33 = 0) : (outsAt0 m c t.val t.isLt).2.2.2.2.2.2.1 =
    k0_pay16 0#1 k0_pay5 (k0_pay7 k0_pay5 (iblk m c 4 t) (iblk m c 11 t)) (k0_pay8 k0_pay5 (iblk m c 4 t) (iblk m c 11 t)) (iblk m c 12 t) (k0_pay9 k0_pay5 (iblk m c 4 t) (iblk m c 11 t) (iblk m c 12 t) (iblk m c 5 t)) k0_pay4 := by
  rw [← late_0 t h0, outsAt0_A m c t h0]; dsimp only; frame_out

theorem left19_S (t : Fin cfg0.N) (h0 : ¬t.val % 33 = 0) : (outsAt0 m c t.val t.isLt).2.2.2.2.2.2.1 =
    k0_pay16 1#1 (old m c t) (prr m c t) (pxh m c t) (iblk m c 12 t) (per m c t) (outsAt0 m c (t.val - 1) (Nat.lt_of_le_of_lt (Nat.sub_le _ _) t.isLt)).2.2.2.2.2.2.1 := by
  rw [← late_S t h0, outsAt0_B m c t h0]; dsimp only; frame_out
  simp only [read_unread_whole]
  rfl

end Cert.Proof.Merge

end
-- ==== Proof.Merge.Final.lean ====
/- What the merged output projection's call leaves in its result arrays. -/
module

public import proofs.«01_k».proof.Proof.Merge.Point
public import proofs.«01_k».proof.Proof.In.Final

@[expose] public section

set_option maxRecDepth 16384

noncomputable section

namespace Cert.Proof.Merge

open Cert.MergeKernelIdeal Cert.MergeKernelIdeal.Gen
open Idealize.ShloMosaic Idealize.ShloMosaic.TcCoe
open Idealize.ShloMosaic.Pipeline (Dat)
open Cert.Proof.Glu (Arr Arr3 gelu wt)
open Cert.Proof.In (place place_row)

variable (m : (ℓ : Loc nD τ sig) → Buf (Elt Ideal) ℓ) (c : Dev nD)

def a0 : Arr 8192 1024 := m ((c : Thread nD τ).loc main_arg0)
def a1 : Arr 8192 4096 := m ((c : Thread nD τ).loc main_arg1)
def a2 : Arr 8192 1024 := m ((c : Thread nD τ).loc main_arg2)
def a3 : Arr 8192 2048 := m ((c : Thread nD τ).loc main_arg3)
def a4 : Arr 8192 2048 := m ((c : Thread nD τ).loc main_arg4)
def a5 : Arr3 8 1024 256 := m ((c : Thread nD τ).loc main_arg5)
def a6 : Arr 2048 2048 := m ((c : Thread nD τ).loc main_arg6)
def a7 : Arr 1 1024 := m ((c : Thread nD τ).loc main_arg7)
def a8 : Arr 1 2048 := m ((c : Thread nD τ).loc main_arg8)
def a9 : Arr 1 1024 := m ((c : Thread nD τ).loc main_arg9)
def a10 : Arr 1 2048 := m ((c : Thread nD τ).loc main_arg10)
def a11 : Arr 1 2048 := m ((c : Thread nD τ).loc main_arg11)

theorem idx_0 : ∀ t : Fin cfg0.N, win0_0.index t = ![min t.val 31, 0] := (by decide +kernel : ∀ t : Fin grid0.N, _)
theorem idx_1 : ∀ t : Fin cfg0.N, win0_1.index t = ![min t.val 31, 1] := (by decide +kernel : ∀ t : Fin grid0.N, _)
theorem idx_2 : ∀ t : Fin cfg0.N, win0_2.index t = ![min t.val 31, 1] := (by decide +kernel : ∀ t : Fin grid0.N, _)
theorem idx_3 : ∀ t : Fin cfg0.N, win0_3.index t = ![min t.val 31, 0] := (by decide +kernel : ∀ t : Fin grid0.N, _)
theorem idx_4 : ∀ t : Fin cfg0.N, win0_4.index t = ![t.val - 1, 0] := (by decide +kernel : ∀ t : Fin grid0.N, _)
theorem idx_5 : ∀ t : Fin cfg0.N, win0_5.index t = ![t.val - 1, 0] := (by decide +kernel : ∀ t : Fin grid0.N, _)
theorem idx_6 : ∀ t : Fin cfg0.N, win0_6.index t = ![0, 0, 0] := (by decide +kernel : ∀ t : Fin grid0.N, _)
theorem idx_7 : ∀ t : Fin cfg0.N, win0_7.index t = ![0, 0] := (by decide +kernel : ∀ t : Fin grid0.N, _)
theorem idx_8 : ∀ t : Fin cfg0.N, win0_8.index t = ![0, 0] := (by decide +kernel : ∀ t : Fin grid0.N, _)
theorem idx_9 : ∀ t : Fin cfg0.N, win0_9.index t = ![0, 0] := (by decide +kernel : ∀ t : Fin grid0.N, _)
theorem idx_10 : ∀ t : Fin cfg0.N, win0_10.index t = ![0, 0] := (by decide +kernel : ∀ t : Fin grid0.N, _)
theorem idx_11 : ∀ t : Fin cfg0.N, win0_11.index t = ![0, 0] := (by decide +kernel : ∀ t : Fin grid0.N, _)
theorem idx_12 : ∀ t : Fin cfg0.N, win0_12.index t = ![0, 0] := (by decide +kernel : ∀ t : Fin grid0.N, _)
theorem idx_13 : ∀ t : Fin cfg0.N, win0_13.index t = ![min t.val 31, 0] := (by decide +kernel : ∀ t : Fin grid0.N, _)
theorem idx_14 : ∀ t : Fin cfg0.N, win0_14.index t = ![min t.val 31, 0] := (by decide +kernel : ∀ t : Fin grid0.N, _)
theorem idx_15 : ∀ t : Fin cfg0.N, win0_15.index t = ![min t.val 31, 0] := (by decide +kernel : ∀ t : Fin grid0.N, _)
theorem idx_16 : ∀ t : Fin cfg0.N, win0_16.index t = ![t.val - 1, 0] := (by decide +kernel : ∀ t : Fin grid0.N, _)
theorem idx_17 : ∀ t : Fin cfg0.N, win0_17.index t = ![0, 0] := (by decide +kernel : ∀ t : Fin grid0.N, _)
theorem idx_18 : ∀ t : Fin cfg0.N, win0_18.index t = ![0, 0] := (by decide +kernel : ∀ t : Fin grid0.N, _)
theorem idx_19 : ∀ t : Fin cfg0.N, win0_19.index t = ![0, 0] := (by decide +kernel : ∀ t : Fin grid0.N, _)
theorem t_lt : ∀ t : Fin cfg0.N, t.val < 33 := (by decide +kernel : ∀ t : Fin grid0.N, _)

/-- The rows a point mixes, and the rows, mixed by the point before, whose loss it takes. -/
def cur (t : Fin cfg0.N) (a : Fin 256) : Fin 8192 := ⟨min t.val 31 * 256 + a.val, by have := t_lt t; omega⟩
def prev (t : Fin cfg0.N) (a : Fin 256) : Fin 8192 := ⟨(t.val - 1) * 256 + a.val, by have := t_lt t; omega⟩

theorem blk_0 (t : Fin cfg0.N) (a : Fin 256) (k : Fin 1024) : iblk m c 0 t (ix2 a k) = a0 m c (ix2 (cur t a) k) := by
  unfold a0 cur
  blk_point [iblk, V, idx_0 t]
theorem blk_1 (t : Fin cfg0.N) (a : Fin 256) (k : Fin 1024) : iblk m c 1 t (ix2 a k) = a1 m c (ix2 (cur t a) ⟨1024 + k.val, by omega⟩) := by
  unfold a1 cur
  blk_point [iblk, V, idx_1 t]
theorem blk_2 (t : Fin cfg0.N) (a : Fin 256) (k : Fin 2048) : iblk m c 2 t (ix2 a k) = a1 m c (ix2 (cur t a) ⟨2048 + k.val, by omega⟩) := by
  unfold a1 cur
  blk_point [iblk, V, idx_2 t]
theorem blk_3 (t : Fin cfg0.N) (a : Fin 256) (k : Fin 1024) : iblk m c 3 t (ix2 a k) = a2 m c (ix2 (cur t a) k) := by
  unfold a2 cur
  blk_point [iblk, V, idx_3 t]
theorem blk_4 (t : Fin cfg0.N) (a : Fin 256) (k : Fin 2048) : iblk m c 4 t (ix2 a k) = a3 m c (ix2 (prev t a) k) := by
  unfold a3 prev
  blk_point [iblk, V, idx_4 t]
theorem blk_5 (t : Fin cfg0.N) (a : Fin 256) (k : Fin 2048) : iblk m c 5 t (ix2 a k) = a4 m c (ix2 (prev t a) k) := by
  unfold a4 prev
  blk_point [iblk, V, idx_5 t]
theorem blk_7 (t : Fin cfg0.N) (a : Fin 2048) (k : Fin 2048) : iblk m c 7 t (ix2 a k) = a6 m c (ix2 a k) := by
  unfold a6
  blk_point [iblk, V, idx_7 t]
theorem blk_8 (t : Fin cfg0.N) (a : Fin 1) (k : Fin 1024) : iblk m c 8 t (ix2 a k) = a7 m c (ix2 a k) := by
  unfold a7
  blk_point [iblk, V, idx_8 t]
theorem blk_9 (t : Fin cfg0.N) (a : Fin 1) (k : Fin 2048) : iblk m c 9 t (ix2 a k) = a8 m c (ix2 a k) := by
  unfold a8
  blk_point [iblk, V, idx_9 t]
theorem blk_10 (t : Fin cfg0.N) (a : Fin 1) (k : Fin 1024) : iblk m c 10 t (ix2 a k) = a9 m c (ix2 a k) := by
  unfold a9
  blk_point [iblk, V, idx_10 t]
theorem blk_11 (t : Fin cfg0.N) (a : Fin 1) (k : Fin 2048) : iblk m c 11 t (ix2 a k) = a10 m c (ix2 a k) := by
  unfold a10
  blk_point [iblk, V, idx_11 t]
theorem blk_12 (t : Fin cfg0.N) (a : Fin 1) (k : Fin 2048) : iblk m c 12 t (ix2 a k) = a11 m c (ix2 a k) := by
  unfold a11
  blk_point [iblk, V, idx_12 t]
theorem blk_6 (t : Fin cfg0.N) (j : Fin 8) (d : Fin 1024) (l : Fin 256) : iblk m c 6 t (ix3 j d l) = a5 m c (ix3 j d l) := by
  unfold a5
  blk_point [iblk, V, idx_6 t]

/-! ## The branches -/

theorem pyp (t : Fin cfg0.N) (a : Fin 256) (n : Fin 1024) : k0_pay17 (iblk m c 0 t) (iblk m c 8 t) (iblk m c 1 t) (ix2 a n) = yp (a0 m c) (a1 m c) (a7 m c) (cur t a) n := by
  rw [k17, blk_0, blk_8, blk_1]
  rfl

theorem pyg_at (t : Fin cfg0.N) (a : Fin 256) (n : Fin 1024) : pyg m c t (ix2 a n) = gelu (yp (a0 m c) (a1 m c) (a7 m c) (cur t a) n) := by
  unfold pyg
  rw [k18, blk_0, blk_8, blk_1]
  rfl

theorem wt_at (t : Fin cfg0.N) (d : Fin 1024) (n : Fin 2048) : wt (iblk m c 6 t) d n = wt (a5 m c) d n := by
  unfold wt
  exact blk_6 m c t _ _ _

theorem blk_at (t : Fin cfg0.N) (a : Fin 256) (n : Fin 2048) : blk (iblk m c 6 t) (iblk m c 9 t) (pyg m c t) a n = y12 (a0 m c) (a1 m c) (a5 m c) (a7 m c) (a8 m c) (cur t a) n := by
  unfold blk y12
  simp only [pyg_at, wt_at, blk_9]

theorem pgd (t : Fin cfg0.N) (j o : ℕ) (hj : j < 8) (ho : o = j * 256) (h : ∀ a, (![j, 0, 0] : Fin 3 → Nat) a + S1x1024x256.size a ≤ S8x1024x256.size a)
    (h' : ∀ a, (![0, o] : Fin 2 → Nat) a + S1x256.size a ≤ S1x2048.size a) (a l : Fin 256) (n : Fin 2048) (hn : n.val = o + l.val) :
    gd (pyg m c t) (sh m c t j h) (sg m c t o h') a l = y12 (a0 m c) (a1 m c) (a5 m c) (a7 m c) (a8 m c) (cur t a) n :=
  (gd_blk (iblk m c 6 t) (iblk m c 9 t) (pyg m c t) j o hj ho h h' a l n hn).trans (blk_at m c t a n)

theorem pbr_at (t : Fin cfg0.N) (a : Fin 256) (n : Fin 2048) : pbr m c t (ix2 a n) = br (a0 m c) (a1 m c) (a2 m c) (a5 m c) (a7 m c) (a8 m c) (a9 m c) (cur t a) n := by
  unfold pbr br pair
  rw [k31]
  refine congrArg₂ (· * ·) ?_ (by rw [blk_2]; rfl)
  by_cases h : n.val < 1024
  · rw [dif_pos h, dif_pos h, blk_3, blk_10]
  rw [dif_neg h, dif_neg h]
  by_cases h0 : n.val - 1024 < 256
  · rw [dif_pos h0, k21, k19, k20]
    exact congrArg₂ (fun x y => x * Ideal.logistic y) (pgd m c t 0 0 (by norm_num) rfl _ _ a _ _ (by show n.val - 1024 = 0 + (n.val - 1024); omega))
      (pgd m c t 4 1024 (by norm_num) rfl _ _ a _ n (by show n.val = 1024 + (n.val - 1024); omega))
  rw [dif_neg h0]
  by_cases h1 : n.val - 1024 - 256 < 256
  · rw [dif_pos h1, k25, k22, k24]
    exact congrArg₂ (fun x y => x * Ideal.logistic y) (pgd m c t 1 256 (by norm_num) rfl _ _ a _ _ (by show n.val - 1024 = 256 + (n.val - 1024 - 256); omega))
      (pgd m c t 5 1280 (by norm_num) rfl _ _ a _ n (by show n.val = 1280 + (n.val - 1024 - 256); omega))
  rw [dif_neg h1]
  by_cases h2 : n.val - 1024 - 256 - 256 < 256
  · rw [dif_pos h2, k28]
    exact congrArg₂ (fun x y => x * Ideal.logistic y) (pgd m c t 2 512 (by norm_num) rfl _ _ a _ _ (by show n.val - 1024 = 512 + (n.val - 1024 - 256 - 256); omega))
      (pgd m c t 6 1536 (by norm_num) rfl _ _ a _ n (by show n.val = 1536 + (n.val - 1024 - 256 - 256); omega))
  rw [dif_neg h2, k29]
  exact congrArg₂ (fun x y => x * Ideal.logistic y) (pgd m c t 3 768 (by norm_num) rfl _ _ a _ _ (by show n.val - 1024 = 768 + (n.val - 1024 - 256 - 256 - 256); omega))
    (pgd m c t 7 1792 (by norm_num) rfl _ _ a _ n (by show n.val = 1792 + (n.val - 1024 - 256 - 256 - 256); omega))

theorem pmx_at (t : Fin cfg0.N) (a : Fin 256) (n : Fin 2048) : pmx m c t (ix2 a n) = mx (a0 m c) (a1 m c) (a2 m c) (a5 m c) (a6 m c) (a7 m c) (a8 m c) (a9 m c) (cur t a) n := by
  unfold pmx mx
  rw [k1]
  simp only [pbr_at, blk_7]

/-! ## The loss and its gradients -/

theorem old_at (t : Fin cfg0.N) (h0 : ¬t.val % 33 = 0) (a : Fin 256) (n : Fin 2048) : old m c t (ix2 a n) = mx (a0 m c) (a1 m c) (a2 m c) (a5 m c) (a6 m c) (a7 m c) (a8 m c) (a9 m c) (prev t a) n := by
  have h := t_lt t
  unfold old
  rw [leftS m c ⟨t.val - 1, Nat.lt_of_le_of_lt (Nat.sub_le _ _) t.isLt⟩, pmx_at]
  exact congrArg (fun i => mx (a0 m c) (a1 m c) (a2 m c) (a5 m c) (a6 m c) (a7 m c) (a8 m c) (a9 m c) i n) (Fin.ext (by show min (t.val - 1) 31 * 256 + a.val = (t.val - 1) * 256 + a.val; omega))

theorem pxo (t : Fin cfg0.N) (h0 : ¬t.val % 33 = 0) (a : Fin 256) (n : Fin 2048) :
    k0_pay6 (old m c t) (iblk m c 4 t) (iblk m c 11 t) (ix2 a n) = xo (a0 m c) (a1 m c) (a2 m c) (a3 m c) (a5 m c) (a6 m c) (a7 m c) (a8 m c) (a9 m c) (a10 m c) (prev t a) n := by
  rw [k6, old_at m c t h0, blk_4, blk_11]
  rfl

theorem prr_at (t : Fin cfg0.N) (h0 : ¬t.val % 33 = 0) (a : Fin 256) : prr m c t (ix2 a 0) = rr (a0 m c) (a1 m c) (a2 m c) (a3 m c) (a5 m c) (a6 m c) (a7 m c) (a8 m c) (a9 m c) (a10 m c) (prev t a) := by
  unfold prr
  rw [k7]
  simp only [pxo m c t h0]
  rfl

theorem pxh_at (t : Fin cfg0.N) (h0 : ¬t.val % 33 = 0) (a : Fin 256) (n : Fin 2048) : pxh m c t (ix2 a n) = xh (a0 m c) (a1 m c) (a2 m c) (a3 m c) (a5 m c) (a6 m c) (a7 m c) (a8 m c) (a9 m c) (a10 m c) (prev t a) n := by
  unfold pxh
  rw [k8, pxo m c t h0]
  exact congrArg (_ * ·) (prr_at m c t h0 a)

theorem per_at (t : Fin cfg0.N) (h0 : ¬t.val % 33 = 0) (a : Fin 256) (n : Fin 2048) : per m c t (ix2 a n) = er (a0 m c) (a1 m c) (a2 m c) (a3 m c) (a4 m c) (a5 m c) (a6 m c) (a7 m c) (a8 m c) (a9 m c) (a10 m c) (a11 m c) (prev t a) n := by
  unfold per
  rw [k9, blk_12, blk_5]
  exact congrArg (fun x => x * _ - _) (pxh_at m c t h0 a n)

theorem pls_at (t : Fin cfg0.N) (h0 : ¬t.val % 33 = 0) : pls m c t (ix2 0 0)
    = Ideal.ofBits .f32 0x3F000000#32 * ∑ a : Fin 256, Ideal.div (∑ k : Fin 2048, er (a0 m c) (a1 m c) (a2 m c) (a3 m c) (a4 m c) (a5 m c) (a6 m c) (a7 m c) (a8 m c) (a9 m c) (a10 m c) (a11 m c) (prev t a) k * er (a0 m c) (a1 m c) (a2 m c) (a3 m c) (a4 m c) (a5 m c) (a6 m c) (a7 m c) (a8 m c) (a9 m c) (a10 m c) (a11 m c) (prev t a) k) (Ideal.ofBits .f32 0x45000000#32) := by
  unfold pls
  rw [k11]
  refine congrArg (_ * ·) (Finset.sum_congr rfl fun a _ => ?_)
  refine congrArg (fun x => Ideal.div x _) (Finset.sum_congr rfl fun k _ => ?_)
  exact congrArg₂ (· * ·) (per_at m c t h0 a k) (per_at m c t h0 a k)

theorem pde (t : Fin cfg0.N) (h0 : ¬t.val % 33 = 0) (a : Fin 256) (n : Fin 2048) : k0_pay13 (per m c t) (ix2 a n) = de (a0 m c) (a1 m c) (a2 m c) (a3 m c) (a4 m c) (a5 m c) (a6 m c) (a7 m c) (a8 m c) (a9 m c) (a10 m c) (a11 m c) (prev t a) n := by
  rw [k13, per_at m c t h0]
  rfl

theorem pdx (t : Fin cfg0.N) (h0 : ¬t.val % 33 = 0) (a : Fin 256) (n : Fin 2048) :
    k0_pay15 (prr m c t) (pxh m c t) (iblk m c 12 t) (per m c t) (ix2 a n) = dxo (a0 m c) (a1 m c) (a2 m c) (a3 m c) (a4 m c) (a5 m c) (a6 m c) (a7 m c) (a8 m c) (a9 m c) (a10 m c) (a11 m c) (prev t a) n := by
  rw [k15]
  simp only [prr_at m c t h0, pde m c t h0, pxh_at m c t h0, blk_12]
  rfl

/-- The points after the first, one for each block of rows. -/
theorem late_sum {N : ℕ} (hN : N = 33) (f : Fin N → EReal) (g : Fin 32 → EReal) (h0 : ∀ p : Fin N, p.val % 33 = 0 → f p = 0)
    (h1 : ∀ (p : Fin N) (q : Fin 32), p.val = q.val + 1 → f p = g q) : ∑ p, f p = ∑ q, g q := by
  subst hN
  rw [Fin.sum_univ_succ, h0 0 rfl, zero_add]
  exact Finset.sum_congr rfl fun q _ => h1 _ q rfl

theorem late_rows {N : ℕ} (hN : N = 33) (G : Fin 8192 → EReal) (e : Fin N → Fin 256 → Fin 8192) (he : ∀ p a, (e p a).val = (p.val - 1) * 256 + a.val) :
    (∑ p : Fin N, if p.val % 33 = 0 then 0 else ∑ a : Fin 256, G (e p a)) = ∑ i, G i := by
  rw [late_sum hN _ (fun q => ∑ a : Fin 256, G ⟨q.val * 256 + a.val, by omega⟩) (fun p hp => if_pos hp) fun p q hpq => ?_]
  · exact Fin.sum_mul_add_fin 32 256 G rfl
  · rw [if_neg (by omega)]
    exact Finset.sum_congr rfl fun a _ => congrArg G (Fin.ext (by rw [he, hpq]; show (q.val + 1 - 1) * 256 + a.val = q.val * 256 + a.val; omega))

theorem sum_17 (t : Fin cfg0.N) (ht : t.val % 33 = 32) (d : Fin 1) :
    (outsAt0 m c t.val t.isLt).2.2.2.2.1 (ix2 0 d) = loss (a0 m c) (a1 m c) (a2 m c) (a3 m c) (a4 m c) (a5 m c) (a6 m c) (a7 m c) (a8 m c) (a9 m c) (a10 m c) (a11 m c) := by
  have hN : cfg0.N = 33 := N_0
  obtain rfl : d = 0 := Subsingleton.elim _ _
  have e := Pipeline.eq_sum_fin_of_reset_step_apply_last
    (fun n hn (_ : Fin 1) => (outsAt0 m c n hn).2.2.2.2.1 (ix2 0 0)) 33 (fun _ => (0 : EReal))
    (fun p _ => if p.val % 33 = 0 then 0 else Ideal.ofBits .f32 0x3F000000#32 * ∑ a : Fin 256, Ideal.div (∑ k : Fin 2048, er (a0 m c) (a1 m c) (a2 m c) (a3 m c) (a4 m c) (a5 m c) (a6 m c) (a7 m c) (a8 m c) (a9 m c) (a10 m c) (a11 m c) (prev p a) k * er (a0 m c) (a1 m c) (a2 m c) (a3 m c) (a4 m c) (a5 m c) (a6 m c) (a7 m c) (a8 m c) (a9 m c) (a10 m c) (a11 m c) (prev p a) k) (Ideal.ofBits .f32 0x45000000#32))
    (fun p hp _ => by
      rw [left17_0 m c p hp, k12_0, k2, if_pos hp, add_zero])
    (fun p hp _ => by
      rw [left17_S m c p hp, k12_1, if_neg hp, pls_at m c p hp])
    (by omega) t (by omega) 0
  rw [e, zero_add]
  have hb : Ideal.ofBits .f32 0x3F000000#32 = ((1 / 2 : ℝ) : EReal) := Glu.bhf
  unfold loss
  simp only [hb]
  rw [← In.scale_sum (by norm_num), ← late_rows hN (fun i => ((1 / 2 : ℝ) : EReal) * Ideal.div (∑ k : Fin 2048, er (a0 m c) (a1 m c) (a2 m c) (a3 m c) (a4 m c) (a5 m c) (a6 m c) (a7 m c) (a8 m c) (a9 m c) (a10 m c) (a11 m c) i k * er (a0 m c) (a1 m c) (a2 m c) (a3 m c) (a4 m c) (a5 m c) (a6 m c) (a7 m c) (a8 m c) (a9 m c) (a10 m c) (a11 m c) i k) (Ideal.ofBits .f32 0x45000000#32)) prev fun _ _ => rfl]
  refine Finset.sum_congr rfl fun p _ => ?_
  simp only [In.scale_sum (show (0 : ℝ) ≤ 1 / 2 by norm_num)]

theorem sum_18 (t : Fin cfg0.N) (ht : t.val % 33 = 32) (d : Fin 2048) :
    (outsAt0 m c t.val t.isLt).2.2.2.2.2.1 (ix2 0 d) = dfg (a0 m c) (a1 m c) (a2 m c) (a3 m c) (a4 m c) (a5 m c) (a6 m c) (a7 m c) (a8 m c) (a9 m c) (a10 m c) (a11 m c) d := by
  have hN : cfg0.N = 33 := N_0
  have e := Pipeline.eq_sum_fin_of_reset_step_apply_last
    (fun n hn (d : Fin 2048) => (outsAt0 m c n hn).2.2.2.2.2.1 (ix2 0 d)) 33 (fun _ => (0 : EReal))
    (fun p d => if p.val % 33 = 0 then 0 else ∑ a : Fin 256, de (a0 m c) (a1 m c) (a2 m c) (a3 m c) (a4 m c) (a5 m c) (a6 m c) (a7 m c) (a8 m c) (a9 m c) (a10 m c) (a11 m c) (prev p a) d * xh (a0 m c) (a1 m c) (a2 m c) (a3 m c) (a5 m c) (a6 m c) (a7 m c) (a8 m c) (a9 m c) (a10 m c) (prev p a) d)
    (fun p hp d => by
      rw [left18_0 m c p hp, k14_0, k3, if_pos hp, add_zero])
    (fun p hp d => by
      rw [left18_S m c p hp, k14_1, if_neg hp]
      simp only [pde m c p hp, pxh_at m c p hp])
    (by omega) t (by omega) d
  rw [e, zero_add]
  exact late_rows hN (fun i => de (a0 m c) (a1 m c) (a2 m c) (a3 m c) (a4 m c) (a5 m c) (a6 m c) (a7 m c) (a8 m c) (a9 m c) (a10 m c) (a11 m c) i d * xh (a0 m c) (a1 m c) (a2 m c) (a3 m c) (a5 m c) (a6 m c) (a7 m c) (a8 m c) (a9 m c) (a10 m c) i d) prev fun _ _ => rfl

theorem sum_19 (t : Fin cfg0.N) (ht : t.val % 33 = 32) (d : Fin 2048) :
    (outsAt0 m c t.val t.isLt).2.2.2.2.2.2.1 (ix2 0 d) = dgt (a0 m c) (a1 m c) (a2 m c) (a3 m c) (a4 m c) (a5 m c) (a6 m c) (a7 m c) (a8 m c) (a9 m c) (a10 m c) (a11 m c) d := by
  have hN : cfg0.N = 33 := N_0
  have e := Pipeline.eq_sum_fin_of_reset_step_apply_last
    (fun n hn (d : Fin 2048) => (outsAt0 m c n hn).2.2.2.2.2.2.1 (ix2 0 d)) 33 (fun _ => (0 : EReal))
    (fun p d => if p.val % 33 = 0 then 0 else ∑ a : Fin 256, dxo (a0 m c) (a1 m c) (a2 m c) (a3 m c) (a4 m c) (a5 m c) (a6 m c) (a7 m c) (a8 m c) (a9 m c) (a10 m c) (a11 m c) (prev p a) d * mx (a0 m c) (a1 m c) (a2 m c) (a5 m c) (a6 m c) (a7 m c) (a8 m c) (a9 m c) (prev p a) d)
    (fun p hp d => by
      rw [left19_0 m c p hp, k16_0, k4, if_pos hp, add_zero])
    (fun p hp d => by
      rw [left19_S m c p hp, k16_1, if_neg hp]
      simp only [pdx m c p hp, old_at m c p hp])
    (by omega) t (by omega) d
  rw [e, zero_add]
  exact late_rows hN (fun i => dxo (a0 m c) (a1 m c) (a2 m c) (a3 m c) (a4 m c) (a5 m c) (a6 m c) (a7 m c) (a8 m c) (a9 m c) (a10 m c) (a11 m c) i d * mx (a0 m c) (a1 m c) (a2 m c) (a5 m c) (a6 m c) (a7 m c) (a8 m c) (a9 m c) i d) prev fun _ _ => rfl

theorem p13 (t : Fin cfg0.N) (a : Fin 256) (n : Fin 1024) : (outsAt0 m c t.val t.isLt).1 (ix2 a n) = yp (a0 m c) (a1 m c) (a7 m c) (cur t a) n := by
  rw [left13, pyp]

theorem p14 (t : Fin cfg0.N) (a : Fin 256) (n : Fin 2048) : (outsAt0 m c t.val t.isLt).2.1 (ix2 a n) = y12 (a0 m c) (a1 m c) (a5 m c) (a7 m c) (a8 m c) (cur t a) n := by
  rw [left14, halves_at]
  exact blk_at m c t a n

theorem p15 (t : Fin cfg0.N) (a : Fin 256) (n : Fin 2048) : (outsAt0 m c t.val t.isLt).2.2.1 (ix2 a n) = br (a0 m c) (a1 m c) (a2 m c) (a5 m c) (a7 m c) (a8 m c) (a9 m c) (cur t a) n := by
  rw [left15, pbr_at]

theorem p16 (t : Fin cfg0.N) (h0 : ¬t.val % 33 = 0) (a : Fin 256) (n : Fin 2048) : (outsAt0 m c t.val t.isLt).2.2.2.1 (ix2 a n) = dxo (a0 m c) (a1 m c) (a2 m c) (a3 m c) (a4 m c) (a5 m c) (a6 m c) (a7 m c) (a8 m c) (a9 m c) (a10 m c) (a11 m c) (prev t a) n := by
  rw [left16_S m c t h0, pdx m c t h0]

theorem flush_late : ∀ t : Fin cfg0.N, (cfg0.win 16).flush t = true → ¬t.val % 33 = 0 :=
  (by decide +kernel : ∀ t : Fin grid0.N, win0_16.flush t = true → ¬t.val % 33 = 0)

theorem final_13 : (dats m 0 c).arrAt 13 cfg0.N = fun x => yp (a0 m c) (a1 m c) (a7 m c) (x 0) (x 1) := by
  refine (dats m 0 c).arrAt_eq_of_covers 13 _ (by decide +kernel) fun t hf y => ?_
  blk_simp
  rw [after0_13]
  exact place (yp (a0 m c) (a1 m c) (a7 m c)) _ _ (p13 m c t) y _ (fun a => rfl) (by blk_simp [idx_13]) (by blk_simp [idx_13])

theorem final_14 : (dats m 0 c).arrAt 14 cfg0.N = fun x => y12 (a0 m c) (a1 m c) (a5 m c) (a7 m c) (a8 m c) (x 0) (x 1) := by
  refine (dats m 0 c).arrAt_eq_of_covers 14 _ (by decide +kernel) fun t hf y => ?_
  blk_simp
  rw [after0_14]
  exact place (y12 (a0 m c) (a1 m c) (a5 m c) (a7 m c) (a8 m c)) _ _ (p14 m c t) y _ (fun a => rfl) (by blk_simp [idx_14]) (by blk_simp [idx_14])

theorem final_15 : (dats m 0 c).arrAt 15 cfg0.N = fun x => br (a0 m c) (a1 m c) (a2 m c) (a5 m c) (a7 m c) (a8 m c) (a9 m c) (x 0) (x 1) := by
  refine (dats m 0 c).arrAt_eq_of_covers 15 _ (by decide +kernel) fun t hf y => ?_
  blk_simp
  rw [after0_15]
  exact place (br (a0 m c) (a1 m c) (a2 m c) (a5 m c) (a7 m c) (a8 m c) (a9 m c)) _ _ (p15 m c t) y _ (fun a => rfl) (by blk_simp [idx_15]) (by blk_simp [idx_15])

theorem final_16 : (dats m 0 c).arrAt 16 cfg0.N = fun x => dxo (a0 m c) (a1 m c) (a2 m c) (a3 m c) (a4 m c) (a5 m c) (a6 m c) (a7 m c) (a8 m c) (a9 m c) (a10 m c) (a11 m c) (x 0) (x 1) := by
  refine (dats m 0 c).arrAt_eq_of_covers 16 _ (by decide +kernel) fun t hf y => ?_
  blk_simp
  rw [after0_16]
  exact place (dxo (a0 m c) (a1 m c) (a2 m c) (a3 m c) (a4 m c) (a5 m c) (a6 m c) (a7 m c) (a8 m c) (a9 m c) (a10 m c) (a11 m c)) _ _ (p16 m c t (flush_late t hf)) y _ (fun a => rfl) (by blk_simp [idx_16]) (by blk_simp [idx_16])

theorem final_17 : (dats m 0 c).arrAt 17 cfg0.N = fun _ => loss (a0 m c) (a1 m c) (a2 m c) (a3 m c) (a4 m c) (a5 m c) (a6 m c) (a7 m c) (a8 m c) (a9 m c) (a10 m c) (a11 m c) := by
  refine (dats m 0 c).arrAt_eq_of_covers 17 _ (by decide +kernel) fun t hf y => ?_
  blk_simp
  rw [after0_17]
  exact place_row (fun _ => loss (a0 m c) (a1 m c) (a2 m c) (a3 m c) (a4 m c) (a5 m c) (a6 m c) (a7 m c) (a8 m c) (a9 m c) (a10 m c) (a11 m c)) _ (sum_17 m c t ((flush0_17 t).mp hf)) y y (by omega)

theorem final_18 : (dats m 0 c).arrAt 18 cfg0.N = fun x => dfg (a0 m c) (a1 m c) (a2 m c) (a3 m c) (a4 m c) (a5 m c) (a6 m c) (a7 m c) (a8 m c) (a9 m c) (a10 m c) (a11 m c) (x 1) := by
  refine (dats m 0 c).arrAt_eq_of_covers 18 _ (by decide +kernel) fun t hf y => ?_
  blk_simp
  rw [after0_18]
  exact place_row (dfg (a0 m c) (a1 m c) (a2 m c) (a3 m c) (a4 m c) (a5 m c) (a6 m c) (a7 m c) (a8 m c) (a9 m c) (a10 m c) (a11 m c)) _ (sum_18 m c t ((flush0_18 t).mp hf)) y _ (by blk_simp [idx_18])

theorem final_19 : (dats m 0 c).arrAt 19 cfg0.N = fun x => dgt (a0 m c) (a1 m c) (a2 m c) (a3 m c) (a4 m c) (a5 m c) (a6 m c) (a7 m c) (a8 m c) (a9 m c) (a10 m c) (a11 m c) (x 1) := by
  refine (dats m 0 c).arrAt_eq_of_covers 19 _ (by decide +kernel) fun t hf y => ?_
  blk_simp
  rw [after0_19]
  exact place_row (dgt (a0 m c) (a1 m c) (a2 m c) (a3 m c) (a4 m c) (a5 m c) (a6 m c) (a7 m c) (a8 m c) (a9 m c) (a10 m c) (a11 m c)) _ (sum_19 m c t ((flush0_19 t).mp hf)) y _ (by blk_simp [idx_19])

variable (ρ : Dev nD → PrngReg)

theorem run : θ_run defs (onTc (τ := τ) (main (F := Ideal))) ⟨m, fun _ => 0, ρ⟩ fun r => ∀ c : Dev nD,
      r.2.mem ((c : Thread nD τ).loc main_v0_0) = (fun x => yp (a0 m c) (a1 m c) (a7 m c) (x 0) (x 1))
      ∧ r.2.mem ((c : Thread nD τ).loc main_v0_1) = (fun x => y12 (a0 m c) (a1 m c) (a5 m c) (a7 m c) (a8 m c) (x 0) (x 1))
      ∧ r.2.mem ((c : Thread nD τ).loc main_v0_2) = (fun x => br (a0 m c) (a1 m c) (a2 m c) (a5 m c) (a7 m c) (a8 m c) (a9 m c) (x 0) (x 1))
      ∧ r.2.mem ((c : Thread nD τ).loc main_v0_3) = (fun x => dxo (a0 m c) (a1 m c) (a2 m c) (a3 m c) (a4 m c) (a5 m c) (a6 m c) (a7 m c) (a8 m c) (a9 m c) (a10 m c) (a11 m c) (x 0) (x 1))
      ∧ r.2.mem ((c : Thread nD τ).loc main_v0_4) = (fun _ => loss (a0 m c) (a1 m c) (a2 m c) (a3 m c) (a4 m c) (a5 m c) (a6 m c) (a7 m c) (a8 m c) (a9 m c) (a10 m c) (a11 m c))
      ∧ r.2.mem ((c : Thread nD τ).loc main_v0_5) = (fun x => dfg (a0 m c) (a1 m c) (a2 m c) (a3 m c) (a4 m c) (a5 m c) (a6 m c) (a7 m c) (a8 m c) (a9 m c) (a10 m c) (a11 m c) (x 1))
      ∧ r.2.mem ((c : Thread nD τ).loc main_v0_6) = (fun x => dgt (a0 m c) (a1 m c) (a2 m c) (a3 m c) (a4 m c) (a5 m c) (a6 m c) (a7 m c) (a8 m c) (a9 m c) (a10 m c) (a11 m c) (x 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) := by
  refine (θ_run defs _ _).mono (fun r h c => ?_) (Cert.MergeKernelIdeal.Value.run_blocks m ρ)
  obtain ⟨h0, h1, h2, h3, h4, h5, h6, hk⟩ := h c
  exact ⟨h0.trans (final_13 m c), h1.trans (final_14 m c), h2.trans (final_15 m c), h3.trans (final_16 m c), h4.trans (final_17 m c), h5.trans (final_18 m c), h6.trans (final_19 m c), hk⟩

end Cert.Proof.Merge

end
-- ==== Proof.Merge.Ref.lean ====
/- The merged output projection, the loss and its gradients, as the reference computes them, at an index. -/
module

public import proofs.«01_k».proof.Proof.Gen.MergeReferenceIdeal.Read
public import proofs.«01_k».proof.Proof.Gen.MergeReferenceIdeal.Run
public import proofs.«01_k».proof.Proof.Merge.Spec

@[expose] public section

set_option maxRecDepth 16384

noncomputable section

namespace Cert.Proof.Merge.Ref

open Cert.MergeReferenceIdeal Cert.MergeReferenceIdeal.Gen Cert.MergeReferenceIdeal.Value Cert.MergeReferenceIdeal.Read
open Idealize.ShloMosaic Idealize.ShloMosaic.TcCoe
open Cert.Proof.Glu (Arr Arr3 gelu gelu_eq wt th kk hf cube)

variable (x0 : Arr 8192 1024) (x1 : Arr 8192 4096) (x2 : Arr 8192 1024) (x3 x4 : Arr 8192 2048) (x5 : Arr3 8 1024 256) (x6 : Arr 2048 2048)
  (x7 : Arr 1 1024) (x8 : Arr 1 2048) (x9 : Arr 1 1024) (x10 x11 : Arr 1 2048)

theorem r4 (d : Fin 1024) (n : Fin 2048) : val_main_v4 (F := Ideal) x5 (ix2 d n) = wt x5 d n := by
  unfold wt
  pointwise [val_main_v4, val_main_v3, val_main_v2]

theorem r7 (i : Fin 8192) (n : Fin 1024) : val_main_v7 (F := Ideal) x0 x1 x7 (ix2 i n) = yp x0 x1 x7 i n := by
  unfold yp Glu.yp Glu.uu
  pointwise [val_main_v7, val_main_v6, val_main_v5, val_main_v0]

theorem r17 (i : Fin 8192) (n : Fin 1024) : val_main_v17 (F := Ideal) x0 x1 x7 (ix2 i n) = th (yp x0 x1 x7 i n) := by
  unfold th kk
  rw [← cube, ← r7]
  pointwise [val_main_v17, val_main_v16, val_main_v15, val_main_v14, val_main_v13, val_main_v12, val_main_v11, val_main_v10, val_main_v9, val_main_v8, val_main_cst, val_main_cst_0, val_main_cst_1]

theorem r22 (i : Fin 8192) (n : Fin 1024) : val_main_v22 (F := Ideal) x0 x1 x7 (ix2 i n) = gelu (yp x0 x1 x7 i n) := by
  rw [← gelu_eq, ← r17, ← r7]
  unfold hf
  pointwise [val_main_v22, val_main_v21, val_main_v20, val_main_v19, val_main_v18, val_main_cst_2, val_main_cst_3]

theorem r25 (i : Fin 8192) (n : Fin 2048) : val_main_v25 (F := Ideal) x0 x1 x5 x7 x8 (ix2 i n) = y12 x0 x1 x5 x7 x8 i n := by
  unfold y12
  simp only [← r22, ← r4]
  pointwise [val_main_v25, val_main_v24, val_main_v23]

theorem r33 (i : Fin 8192) (j : Fin 1024) : val_main_v33 (F := Ideal) x0 x1 x5 x7 x8 (ix2 i j) = Ideal.logistic (y12 x0 x1 x5 x7 x8 i ⟨1024 + j.val, by omega⟩) := by
  rw [← r25]
  pointwise [val_main_v33, val_main_v32, val_main_v31, val_main_v30, val_main_v29, val_main_v28, val_main_v27, val_main_cst_4, val_main_cst_5, Ideal.logistic]

theorem r26 (i : Fin 8192) (j : Fin 1024) : val_main_v26 (F := Ideal) x0 x1 x5 x7 x8 (ix2 i j) = y12 x0 x1 x5 x7 x8 i ⟨j.val, by omega⟩ := by
  rw [← r25]
  pointwise [val_main_v26]

theorem r37 (i : Fin 8192) (j : Fin 2048) : val_main_v37 (F := Ideal) x0 x1 x2 x5 x7 x8 x9 (ix2 i j) = pair x0 x1 x2 x5 x7 x8 x9 i j := by
  unfold pair
  pointwise [val_main_v37, val_main_v36, val_main_v35, val_main_v34]
  by_cases h : j.val < 1024
  · simp only [dif_pos h]
  · simp only [dif_neg h, r33, r26, Out.fin_back j h]

theorem r38 (i : Fin 8192) (j : Fin 2048) : val_main_v38 (F := Ideal) x1 (ix2 i j) = Out.silu x1 i j := by
  unfold Out.silu
  pointwise [val_main_v38, val_main_call0_v5, val_main_call0_v4, val_main_call0_v3, val_main_call0_v2, val_main_call0_v1, val_main_call0_v0, val_main_v1, val_main_call0_cst, val_main_call0_cst_0, Out.zz, Ideal.logistic]

theorem r39 (i : Fin 8192) (j : Fin 2048) : val_main_v39 (F := Ideal) x0 x1 x2 x5 x7 x8 x9 (ix2 i j) = br x0 x1 x2 x5 x7 x8 x9 i j := by
  unfold br
  rw [← r37, ← r38]
  pointwise [val_main_v39]

theorem r97 (i : Fin 8192) (j : Fin 2048) : val_main_v97 (F := Ideal) x0 x1 x2 x5 x7 x8 x9 (ix2 i j) = br x0 x1 x2 x5 x7 x8 x9 i j := by
  rw [← r39]
  pointwise [val_main_v97]

theorem r41 (i : Fin 8192) (j : Fin 2048) : val_main_v41 (F := Ideal) x0 x1 x2 x5 x6 x7 x8 x9 (ix2 i j) = mx x0 x1 x2 x5 x6 x7 x8 x9 i j := by
  unfold mx
  simp only [← r39]
  pointwise [val_main_v41, val_main_v40]

theorem r44 (i : Fin 8192) (j : Fin 2048) : val_main_v44 (F := Ideal) x0 x1 x2 x3 x5 x6 x7 x8 x9 x10 (ix2 i j) = xo x0 x1 x2 x3 x5 x6 x7 x8 x9 x10 i j := by
  unfold xo
  rw [← r41]
  pointwise [val_main_v44, val_main_v43, val_main_v42]

theorem r51 (i : Fin 8192) : val_main_v51 (F := Ideal) x0 x1 x2 x3 x5 x6 x7 x8 x9 x10 (ix2 i 0) = ms x0 x1 x2 x3 x5 x6 x7 x8 x9 x10 i := by
  unfold ms
  simp only [← r44]
  pointwise [val_main_v51, val_main_v50, val_main_v49, val_main_v48, val_main_v47, val_main_v46, val_main_v45, val_main_cst_6, val_main_cst_7, val_main_cst_8]

theorem r52 (i : Fin 8192) : val_main_v52 (F := Ideal) x0 x1 x2 x3 x5 x6 x7 x8 x9 x10 (ix2 i 0) = rr x0 x1 x2 x3 x5 x6 x7 x8 x9 x10 i := by
  unfold rr
  rw [← r51]
  pointwise [val_main_v52]

theorem r53 (i : Fin 8192) : val_main_v53 (F := Ideal) x0 x1 x2 x3 x5 x6 x7 x8 x9 x10 (ix2 i 0)
    = Ideal.div (rr x0 x1 x2 x3 x5 x6 x7 x8 x9 x10 i) (ms x0 x1 x2 x3 x5 x6 x7 x8 x9 x10 i) := by
  rw [← r51, ← r52]
  pointwise [val_main_v53]

theorem r57 (i : Fin 8192) (j : Fin 2048) : val_main_v57 (F := Ideal) x0 x1 x2 x3 x5 x6 x7 x8 x9 x10 (ix2 i j) = xh x0 x1 x2 x3 x5 x6 x7 x8 x9 x10 i j := by
  unfold xh
  rw [← r44, ← r52]
  pointwise [val_main_v57, val_main_v56]

theorem r60 (i : Fin 8192) (j : Fin 2048) : val_main_v60 (F := Ideal) x0 x1 x2 x3 x4 x5 x6 x7 x8 x9 x10 x11 (ix2 i j) = er x0 x1 x2 x3 x4 x5 x6 x7 x8 x9 x10 x11 i j := by
  unfold er
  rw [← r57]
  pointwise [val_main_v60, val_main_v59, val_main_v58]

theorem r98 : val_main_v98 (F := Ideal) x0 x1 x2 x3 x4 x5 x6 x7 x8 x9 x10 x11 (ix2 0 0) = loss x0 x1 x2 x3 x4 x5 x6 x7 x8 x9 x10 x11 := by
  unfold loss
  simp only [← r60]
  pointwise [val_main_v98, val_main_v68, val_main_v67, val_main_v66, val_main_v65, val_main_v64, val_main_v61, val_main_cst_11, val_main_cst_12, val_main_cst_13, val_main_cst_14]

theorem r74 (i : Fin 8192) (j : Fin 2048) : val_main_v74 (F := Ideal) x0 x1 x2 x3 x4 x5 x6 x7 x8 x9 x10 x11 (ix2 i j) = de x0 x1 x2 x3 x4 x5 x6 x7 x8 x9 x10 x11 i j := by
  unfold de
  rw [← mean_scale, mul_comm, mul_assoc, ← r60]
  pointwise [val_main_v74, val_main_v73, val_main_v72, val_main_v71, val_main_v70, val_main_v69, val_main_v63, val_main_v62, val_main_cst_10, val_main_cst_15, val_main_cst_16, val_main_cst_17]

theorem r77 (j : Fin 2048) : val_main_v77 (F := Ideal) x0 x1 x2 x3 x4 x5 x6 x7 x8 x9 x10 x11 (ix2 0 j) = dfg x0 x1 x2 x3 x4 x5 x6 x7 x8 x9 x10 x11 j := by
  unfold dfg
  simp only [← r74, ← r57]
  pointwise [val_main_v77, val_main_v76, val_main_v75, val_main_cst_18]
  exact Finset.sum_congr rfl fun k _ => mul_comm _ _

theorem r79 (i : Fin 8192) (j : Fin 2048) : val_main_v79 (F := Ideal) x0 x1 x2 x3 x4 x5 x6 x7 x8 x9 x10 x11 (ix2 i j) = gy x0 x1 x2 x3 x4 x5 x6 x7 x8 x9 x10 x11 i j := by
  unfold gy
  rw [← r74]
  pointwise [val_main_v79, val_main_v78]

theorem r89 (i : Fin 8192) (j : Fin 2048) : val_main_v89 (F := Ideal) x0 x1 x2 x3 x4 x5 x6 x7 x8 x9 x10 x11 (ix2 i j)
    = Ideal.div ((∑ k : Fin 2048, xo x0 x1 x2 x3 x5 x6 x7 x8 x9 x10 i k * gy x0 x1 x2 x3 x4 x5 x6 x7 x8 x9 x10 x11 i k)
          * (Ideal.ofBits .f32 0xBF000000#32 * Ideal.div (rr x0 x1 x2 x3 x5 x6 x7 x8 x9 x10 i) (ms x0 x1 x2 x3 x5 x6 x7 x8 x9 x10 i))) (Ideal.ofBits .f32 0x45000000#32) := by
  simp only [← r79, ← r44, ← r53]
  pointwise [val_main_v89, val_main_v88, val_main_v87, val_main_v86, val_main_v85, val_main_v82, val_main_v81, val_main_v80, val_main_v55, val_main_v54, val_main_cst_9, val_main_cst_19, val_main_cst_20, val_main_cst_21]
  exact Fin.sum_univ_one _

theorem r93 (i : Fin 8192) (j : Fin 2048) : val_main_v93 (F := Ideal) x0 x1 x2 x3 x4 x5 x6 x7 x8 x9 x10 x11 (ix2 i j) = dxo x0 x1 x2 x3 x4 x5 x6 x7 x8 x9 x10 x11 i j := by
  rw [dxo_eq, ← r89 x0 x1 x2 x3 x4 x5 x6 x7 x8 x9 x10 x11 i j]
  simp only [← r79, ← r44, ← r52]
  pointwise [val_main_v93, val_main_v92, val_main_v91, val_main_v90, val_main_v84, val_main_v83]

theorem r96 (j : Fin 2048) : val_main_v96 (F := Ideal) x0 x1 x2 x3 x4 x5 x6 x7 x8 x9 x10 x11 (ix2 0 j) = dgt x0 x1 x2 x3 x4 x5 x6 x7 x8 x9 x10 x11 j := by
  unfold dgt
  simp only [← r93, ← r41]
  pointwise [val_main_v96, val_main_v95, val_main_v94, val_main_cst_22]

end Cert.Proof.Merge.Ref

end
-- ==== Proof.Merge.Alg.lean ====
/- The merged output projection's call leaves the arrays of its plain forward lines and of the loss's derivative. -/
module

public import proofs.«01_k».proof.Defs
public import proofs.«01_k».proof.Proof.Merge.Final
public import proofs.«01_k».proof.Proof.Merge.Ref

@[expose] public section

set_option maxRecDepth 16384

noncomputable section

namespace Cert.Proof.Merge

open Idealize.ShloMosaic Idealize.SL.Sem
open Cert.Proof.In (at_y)

theorem algebraic : Cert.algebraic_MergeKernelIdeal_MergeReferenceIdeal := by
  intro m g m' g' _ hagree
  refine ⟨_, _, _, _, _, _, _, run m g, ?_⟩
  refine (θ_run Cert.MergeReferenceIdeal.defs _ _).mono (fun r h c => ?_) (Cert.MergeReferenceIdeal.Value.run m' g')
  obtain ⟨h0, h1, h2, h3, h4, h5, h6, ha⟩ := h c
  obtain ⟨e0, e1, e2, e3, e4, e5, e6, e7, e8, e9, e10, e11⟩ := hagree c
  replace e0 : StableHlo.launchContents m' c (Proc.devRef .tc Cert.MergeReferenceIdeal.main_arg0) = a0 m c := e0
  replace e1 : StableHlo.launchContents m' c (Proc.devRef .tc Cert.MergeReferenceIdeal.main_arg1) = a1 m c := e1
  replace e2 : StableHlo.launchContents m' c (Proc.devRef .tc Cert.MergeReferenceIdeal.main_arg2) = a2 m c := e2
  replace e3 : StableHlo.launchContents m' c (Proc.devRef .tc Cert.MergeReferenceIdeal.main_arg3) = a3 m c := e3
  replace e4 : StableHlo.launchContents m' c (Proc.devRef .tc Cert.MergeReferenceIdeal.main_arg4) = a4 m c := e4
  replace e5 : StableHlo.launchContents m' c (Proc.devRef .tc Cert.MergeReferenceIdeal.main_arg5) = a5 m c := e5
  replace e6 : StableHlo.launchContents m' c (Proc.devRef .tc Cert.MergeReferenceIdeal.main_arg6) = a6 m c := e6
  replace e7 : StableHlo.launchContents m' c (Proc.devRef .tc Cert.MergeReferenceIdeal.main_arg7) = a7 m c := e7
  replace e8 : StableHlo.launchContents m' c (Proc.devRef .tc Cert.MergeReferenceIdeal.main_arg8) = a8 m c := e8
  replace e9 : StableHlo.launchContents m' c (Proc.devRef .tc Cert.MergeReferenceIdeal.main_arg9) = a9 m c := e9
  replace e10 : StableHlo.launchContents m' c (Proc.devRef .tc Cert.MergeReferenceIdeal.main_arg10) = a10 m c := e10
  replace e11 : StableHlo.launchContents m' c (Proc.devRef .tc Cert.MergeReferenceIdeal.main_arg11) = a11 m c := e11
  replace h0 := h0.trans (Cert.MergeReferenceIdeal.Read.val_main_v7_eq _)
  replace h1 := h1.trans (Cert.MergeReferenceIdeal.Read.val_main_v25_eq _)
  replace h2 := h2.trans (Cert.MergeReferenceIdeal.Read.val_main_v97_eq _)
  replace h3 := h3.trans (Cert.MergeReferenceIdeal.Read.val_main_v93_eq _)
  replace h4 := h4.trans (Cert.MergeReferenceIdeal.Read.val_main_v98_eq _)
  replace h5 := h5.trans (Cert.MergeReferenceIdeal.Read.val_main_v77_eq _)
  replace h6 := h6.trans (Cert.MergeReferenceIdeal.Read.val_main_v96_eq _)
  rw [e0, e1, e7] at h0
  rw [e0, e1, e5, e7, e8] at h1
  rw [e0, e1, e2, e5, e7, e8, e9] at h2
  rw [e0, e1, e2, e3, e4, e5, e6, e7, e8, e9, e10, e11] at h3
  rw [e0, e1, e2, e3, e4, e5, e6, e7, e8, e9, e10, e11] at h4
  rw [e0, e1, e2, e3, e4, e5, e6, e7, e8, e9, e10, e11] at h5
  rw [e0, e1, e2, e3, e4, e5, e6, e7, e8, e9, e10, e11] at h6
  refine ⟨h0.trans (funext fun y => ?_), h1.trans (funext fun y => ?_), h2.trans (funext fun y => ?_), h3.trans (funext fun y => ?_), h4.trans (funext fun y => ?_), h5.trans (funext fun y => ?_), h6.trans (funext fun y => ?_), ha⟩
  · obtain ⟨a, b, rfl⟩ := at_y y
    exact Ref.r7 _ _ _ a b
  · obtain ⟨a, b, rfl⟩ := at_y y
    exact Ref.r25 _ _ _ _ _ a b
  · obtain ⟨a, b, rfl⟩ := at_y y
    exact Ref.r97 _ _ _ _ _ _ _ a b
  · obtain ⟨a, b, rfl⟩ := at_y y
    exact Ref.r93 _ _ _ _ _ _ _ _ _ _ _ _ a b
  · obtain ⟨a, b, rfl⟩ := at_y y
    have ha0 : a = 0 := Subsingleton.elim _ _
    subst ha0
    have hb0 : b = 0 := Subsingleton.elim _ _
    subst hb0
    exact Ref.r98 _ _ _ _ _ _ _ _ _ _ _ _
  · obtain ⟨a, b, rfl⟩ := at_y y
    have ha0 : a = 0 := Subsingleton.elim _ _
    subst ha0
    exact Ref.r77 _ _ _ _ _ _ _ _ _ _ _ _ b
  · obtain ⟨a, b, rfl⟩ := at_y y
    have ha0 : a = 0 := Subsingleton.elim _ _
    subst ha0
    exact Ref.r96 _ _ _ _ _ _ _ _ _ _ _ _ b

theorem frame_reference : Cert.quiescent_MergeReferenceIdeal := fun m ρ _ =>
  (θ_run Cert.MergeReferenceIdeal.defs _ _).mono
    (fun r h => ⟨fun c => (h c).2.2.2.2.2.2.2, sem_eq_zero_of_no_sems (by decide) r.2⟩) (Cert.MergeReferenceIdeal.Value.run m ρ)

end Cert.Proof.Merge

end
-- ==== Proof.Ctx.Spec.lean ====
/- The context's input projection backward as mathematics over the extended reals. -/
module

public import proofs.«01_k».proof.Proof.In.Spec

@[expose] public section

set_option maxRecDepth 16384

noncomputable section

namespace Cert.Proof.Ctx

open Idealize.ShloMosaic
open Cert.Proof.In (Arr Arr3 wt)

/-- A sum over a thousand and twenty four columns, by halves. -/
theorem sum_halves (f : Fin 1024 → EReal) : ∑ n, f n = ∑ l : Fin 512, f ⟨l.val, by omega⟩ + ∑ l : Fin 512, f ⟨512 + l.val, by omega⟩ :=
  Fin.sum_univ_add (a := 512) (b := 512) f

variable (x0 : Arr 256 2048) (x1 : Arr 256 1024) (x2 : Arr3 8 2048 512) (x3 x4 : Arr 1 2048)

/-- The modulated context's gradient: through the scanned branch's columns of the weights alone. -/
def dh (i : Fin 256) (d : Fin 2048) : EReal := ∑ n : Fin 1024, x1 (ix2 i n) * wt x2 d ⟨1024 + n.val, by omega⟩

/-- The normalised context. -/
def xh (i : Fin 256) (d : Fin 2048) : EReal :=
  x0 (ix2 i d) * Ideal.rsqrt (Ideal.div (∑ k : Fin 2048, x0 (ix2 i k) * x0 (ix2 i k)) (Ideal.ofBits .f32 0x45000000#32) + Ideal.ofBits .f32 0x358637BD#32)

theorem dh_eq (i : Fin 256) (d : Fin 2048) : dh x1 x2 i d
    = ∑ l : Fin 512, x1 (ix2 i ⟨l.val, by omega⟩) * x2 (ix3 2 d l) + ∑ l : Fin 512, x1 (ix2 i ⟨512 + l.val, by omega⟩) * x2 (ix3 3 d l) := by
  unfold dh
  rw [sum_halves]
  have e0 : ∀ l : Fin 512, wt x2 d ⟨1024 + l.val, by omega⟩ = x2 (ix3 2 d l) := fun l => by
    unfold wt
    congr 2
    · exact Fin.ext (by show (1024 + l.val) / 512 = 2; omega)
    · exact Fin.ext (by show (1024 + l.val) % 512 = l.val; omega)
  have e1 : ∀ l : Fin 512, wt x2 d ⟨1024 + (512 + l.val), by omega⟩ = x2 (ix3 3 d l) := fun l => by
    unfold wt
    congr 2
    · exact Fin.ext (by show (1024 + (512 + l.val)) / 512 = 3; omega)
    · exact Fin.ext (by show (1024 + (512 + l.val)) % 512 = l.val; omega)
  simp only [e0, e1]

/-- The gains' gradients. -/
def dsc (d : Fin 2048) : EReal := ∑ i : Fin 256, dh x1 x2 i d * (xh x0 i d * x3 (ix2 0 d))
def dsh (d : Fin 2048) : EReal := ∑ i : Fin 256, dh x1 x2 i d
def dg (d : Fin 2048) : EReal := ∑ i : Fin 256, dh x1 x2 i d * (1 + x4 (ix2 0 d)) * xh x0 i d

end Cert.Proof.Ctx

end
-- ==== Proof.Ctx.Pay.lean ====
/- The context's input projection backward's arithmetic, at an entry. -/
module

public import proofs.«01_k».proof.Proof.Gen.CtxKernelIdeal.Value
public import Idealize.ShloMosaic.Lib.Pipeline.ValueKit
public import Idealize.ShloMosaic.Lib.VecWindow
public import proofs.«01_k».proof.Proof.Ctx.Spec

@[expose] public section

set_option maxRecDepth 16384

noncomputable section

namespace Cert.Proof.Ctx

open Cert.CtxKernelIdeal Cert.CtxKernelIdeal.Gen
open Idealize.ShloMosaic Idealize.ShloMosaic.TcCoe
open Cert.Proof.In (Arr Arr3)

variable (x0 : Arr 256 2048) (x1 : Arr 256 1024) (x2 : Arr3 8 2048 512) (x3 x4 : Arr 1 2048)

theorem s2_at (d : Fin 2048) (l : Fin 512) : View.ld (Val := Elt Ideal) (e' := .bf16) x2 r0_1 (ix3 0 d l) = x2 (ix3 2 d l) := by
  pointwise [r0_1]

theorem s3_at (d : Fin 2048) (l : Fin 512) : View.ld (Val := Elt Ideal) (e' := .bf16) x2 r0_2 (ix3 0 d l) = x2 (ix3 3 d l) := by
  pointwise [r0_2]

theorem k3 (s2 s3 : Arr3 1 2048 512) (h2 : ∀ d l, s2 (ix3 0 d l) = x2 (ix3 2 d l)) (h3 : ∀ d l, s3 (ix3 0 d l) = x2 (ix3 3 d l)) (i : Fin 256) (d : Fin 2048) :
    k0_pay3 (F := Ideal) x1 s2 s3 (ix2 i d) = dh x1 x2 i d := by
  rw [dh_eq]
  pointwise [k0_pay3, k0_pay2]
  simp only [h2, h3]

theorem k4 (i : Fin 256) (d : Fin 2048) : k0_pay4 (F := Ideal) x0 (ix2 i d) = xh x0 i d := by
  unfold xh
  pointwise [k0_pay4]

theorem k2 (i : Fin 256) (n : Fin 1024) : k0_pay2 (F := Ideal) x1 (ix2 i n) = x1 (ix2 i n) := by
  pointwise [k0_pay2]

theorem k5 (s2 s3 : Arr3 1 2048 512) (h2 : ∀ d l, s2 (ix3 0 d l) = x2 (ix3 2 d l)) (h3 : ∀ d l, s3 (ix3 0 d l) = x2 (ix3 3 d l)) (d : Fin 2048) :
    k0_pay5 (F := Ideal) x1 s2 s3 (ix2 0 d) = dsh x1 x2 d := by
  unfold dsh
  simp only [← k3 x1 x2 s2 s3 h2 h3]
  pointwise [k0_pay5]

theorem k6 (s2 s3 : Arr3 1 2048 512) (h2 : ∀ d l, s2 (ix3 0 d l) = x2 (ix3 2 d l)) (h3 : ∀ d l, s3 (ix3 0 d l) = x2 (ix3 3 d l)) (d : Fin 2048) :
    k0_pay6 (F := Ideal) x1 s2 s3 x0 x3 (ix2 0 d) = dsc x0 x1 x2 x3 d := by
  unfold dsc
  simp only [← k3 x1 x2 s2 s3 h2 h3, ← k4]
  pointwise [k0_pay6]

theorem k1 (y z : Arr 256 2048) (hy : ∀ i d, y (ix2 i d) = dh x1 x2 i d) (hz : ∀ i d, z (ix2 i d) = xh x0 i d) (d : Fin 2048) :
    k0_pay1 (F := Ideal) y z x4 (ix2 0 d) = dg x0 x1 x2 x4 d := by
  unfold dg
  simp only [← hy, ← hz]
  pointwise [k0_pay1]

end Cert.Proof.Ctx

end
-- ==== Proof.Ctx.Ref.lean ====
/- The context's input projection backward, as the reference computes it, at an index. -/
module

public import proofs.«01_k».proof.Proof.Gen.CtxReferenceIdeal.Read
public import proofs.«01_k».proof.Proof.Gen.CtxReferenceIdeal.Run
public import proofs.«01_k».proof.Proof.Ctx.Spec

@[expose] public section

set_option maxRecDepth 16384

noncomputable section

namespace Cert.Proof.Ctx.Ref

open Cert.CtxReferenceIdeal Cert.CtxReferenceIdeal.Gen Cert.CtxReferenceIdeal.Value Cert.CtxReferenceIdeal.Read
open Idealize.ShloMosaic Idealize.ShloMosaic.TcCoe
open Cert.Proof.In (Arr Arr3 wt)

variable (x0 : Arr 256 2048) (x1 : Arr 256 1024) (x2 : Arr3 8 2048 512) (x3 x4 : Arr 1 2048)

theorem r2 (d : Fin 2048) (n : Fin 4096) : val_main_v2 (F := Ideal) x2 (ix2 d n) = wt x2 d n := by
  unfold wt
  pointwise [val_main_v2, val_main_v1, val_main_v0]

theorem r21 (d : Fin 2048) (n : Fin 1024) : val_main_v21 (F := Ideal) x2 (ix2 d n) = wt x2 d ⟨1024 + n.val, by omega⟩ := by
  rw [← r2]
  pointwise [val_main_v21]

theorem r23 (i : Fin 256) (d : Fin 2048) : val_main_v23 (F := Ideal) x1 x2 (ix2 i d) = dh x1 x2 i d := by
  unfold dh
  simp only [← r21]
  pointwise [val_main_v23]

theorem r12 (i : Fin 256) (d : Fin 2048) : val_main_v12 (F := Ideal) x0 (ix2 i d) = xh x0 i d := by
  unfold xh
  pointwise [val_main_v12, val_main_v11, val_main_v10, val_main_v9, val_main_v8, val_main_v7, val_main_v6, val_main_v5, val_main_v4, val_main_v3, val_main_cst, val_main_cst_0, val_main_cst_1]

theorem r34 (i : Fin 256) (n : Fin 1024) : val_main_v34 (F := Ideal) x1 (ix2 i n) = x1 (ix2 i n) := by
  pointwise [val_main_v34]

theorem r25 (d : Fin 2048) : val_main_v25 (F := Ideal) x1 x2 (ix2 0 d) = dsh x1 x2 d := by
  unfold dsh
  simp only [← r23]
  pointwise [val_main_v25, val_main_v24, val_main_cst_3]

theorem r28 (d : Fin 2048) : val_main_v28 (F := Ideal) x0 x1 x2 x3 (ix2 0 d) = dsc x0 x1 x2 x3 d := by
  unfold dsc
  simp only [← r23, ← r12]
  pointwise [val_main_v28, val_main_v27, val_main_v26, val_main_v14, val_main_v13, val_main_cst_4]
  exact Finset.sum_congr rfl fun k _ => mul_comm _ _

theorem r33 (d : Fin 2048) : val_main_v33 (F := Ideal) x0 x1 x2 x4 (ix2 0 d) = dg x0 x1 x2 x4 d := by
  unfold dg
  simp only [← r23, ← r12]
  pointwise [val_main_v33, val_main_v32, val_main_v31, val_main_v30, val_main_v29, val_main_v16, val_main_v15, val_main_cst_5, val_main_cst_2]
  exact Finset.sum_congr rfl fun k _ => mul_comm _ _

end Cert.Proof.Ctx.Ref

end
-- ==== Proof.Ctx.Alg.lean ====
/- The context's input projection backward leaves the arrays of the derivative of its forward lines. -/
module

public import proofs.«01_k».proof.Defs
public import proofs.«01_k».proof.Proof.Ctx.Pay
public import proofs.«01_k».proof.Proof.Ctx.Ref
public import proofs.«01_k».proof.Proof.In.Final

@[expose] public section

set_option maxRecDepth 16384

noncomputable section

namespace Cert.Proof.Ctx

open Idealize.ShloMosaic Idealize.SL.Sem
open Cert.Proof.In (at_y)

theorem algebraic : Cert.algebraic_CtxKernelIdeal_CtxReferenceIdeal := by
  intro m g m' g' _ hagree
  refine ⟨_, _, _, _, Cert.CtxKernelIdeal.Value.run m g, ?_⟩
  refine (θ_run Cert.CtxReferenceIdeal.defs _ _).mono (fun r h c => ?_) (Cert.CtxReferenceIdeal.Value.run m' g')
  obtain ⟨h0, h1, h2, h3, ha⟩ := h c
  obtain ⟨e0, e1, e2, e3, e4, e5⟩ := hagree c
  replace h0 := h0.trans (Cert.CtxReferenceIdeal.Read.val_main_v34_eq _)
  replace h1 := h1.trans (Cert.CtxReferenceIdeal.Read.val_main_v28_eq _ _ _ _)
  replace h2 := h2.trans (Cert.CtxReferenceIdeal.Read.val_main_v25_eq _ _)
  replace h3 := h3.trans (Cert.CtxReferenceIdeal.Read.val_main_v33_eq _ _ _ _)
  rw [e1] at h0
  rw [e0, e1, e2, e3] at h1
  rw [e1, e2] at h2
  rw [e0, e1, e2, e4] at h3
  refine ⟨h0.trans (funext fun y => ?_), h1.trans (funext fun y => ?_), h2.trans (funext fun y => ?_), h3.trans (funext fun y => ?_), ha⟩
  · obtain ⟨a, b, rfl⟩ := at_y y
    exact (Ref.r34 _ a b).trans (k2 _ a b).symm
  · obtain ⟨a, b, rfl⟩ := at_y y
    have ha0 : a = 0 := Subsingleton.elim _ _
    subst ha0
    exact (Ref.r28 _ _ _ _ b).trans (k6 _ _ _ _ _ _ (s2_at _) (s3_at _) b).symm
  · obtain ⟨a, b, rfl⟩ := at_y y
    have ha0 : a = 0 := Subsingleton.elim _ _
    subst ha0
    exact (Ref.r25 _ _ b).trans (k5 _ _ _ _ (s2_at _) (s3_at _) b).symm
  · obtain ⟨a, b, rfl⟩ := at_y y
    have ha0 : a = 0 := Subsingleton.elim _ _
    subst ha0
    exact (Ref.r33 _ _ _ _ b).trans (k1 _ _ _ _ _ _ (k3 _ _ _ _ (s2_at _) (s3_at _)) (k4 _) b).symm

theorem frame_reference : Cert.quiescent_CtxReferenceIdeal := fun m ρ _ =>
  (θ_run Cert.CtxReferenceIdeal.defs _ _).mono
    (fun r h => ⟨fun c => (h c).2.2.2.2, sem_eq_zero_of_no_sems (by decide) r.2⟩) (Cert.CtxReferenceIdeal.Value.run m ρ)

end Cert.Proof.Ctx

end
-- ==== Proof.Mod.Spec.lean ====
/- The modulation's backward as mathematics over the extended reals. -/
module

public import proofs.«01_k».proof.Proof.Out.Spec
public import proofs.«01_k».proof.Proof.In.Spec

@[expose] public section

set_option maxRecDepth 16384

noncomputable section

namespace Cert.Proof.Mod

open Idealize.ShloMosaic
open Cert.Proof.In (Arr)
open Cert.Proof.Out (silu_grad)

variable (x0 : Arr 8 2048) (x1 : Arr 1 2048) (x2 x3 : Arr 8 768) (x4 : Arr 2048 768)

def silu (z : EReal) : EReal := z * Ideal.logistic z

/-- The context's cotangent: its partial sums, added. -/
def dmc (n : Fin 768) : EReal := ∑ k : Fin 8, x3 (ix2 k n)

/-- The weights' gradient: the eight conditionings' and the context's. -/
def dw (d : Fin 2048) (n : Fin 768) : EReal := ∑ i : Fin 8, silu (x0 (ix2 i d)) * x2 (ix2 i n) + silu (x1 (ix2 0 d)) * dmc x3 n

def db (n : Fin 768) : EReal := ∑ i : Fin 8, x2 (ix2 i n) + dmc x3 n

/-- What returns to the context's conditioning. -/
def back (d : Fin 2048) : EReal := ∑ n : Fin 768, dmc x3 n * x4 (ix2 d n)
def dcc (d : Fin 2048) : EReal :=
  back x3 x4 d * (Ideal.logistic (x1 (ix2 0 d)) * (1 + x1 (ix2 0 d) * (1 - Ideal.logistic (x1 (ix2 0 d)))))

/-- The sixteen rows a device holds: the conditionings, the context's, seven rows of zeros. -/
def call (i : Fin 16) (d : Fin 2048) : EReal := if h : i.val < 8 then x0 (ix2 ⟨i.val, h⟩ d) else if i.val = 8 then x1 (ix2 0 d) else 0
def rows (i : Fin 16) (n : Fin 768) : EReal := if h : i.val < 8 then x2 (ix2 ⟨i.val, h⟩ n) else if i.val = 8 then dmc x3 n else 0

/-- Eight rows, one, and zeros, laid one after the other. -/
theorem by_rows {q : ℕ} (u : Fin 8 → EReal) (v : Arr 1 q) (i : Fin 16) (d : Fin q) :
    (if h : i.val < 8 then u ⟨i.val, h⟩ else if h : i.val - 8 < 1 then v (ix2 ⟨i.val - 8, h⟩ d) else 0)
      = if h : i.val < 8 then u ⟨i.val, h⟩ else if i.val = 8 then v (ix2 0 d) else 0 := by
  by_cases h : i.val < 8
  · rw [dif_pos h, dif_pos h]
  rw [dif_neg h, dif_neg h]
  by_cases h' : i.val = 8
  · rw [if_pos h', dif_pos (by omega)]
    exact congrArg (fun k => v (ix2 k d)) (Subsingleton.elim _ _)
  · rw [if_neg h', dif_neg (by omega)]

/-- The rows of zeros add nothing. -/
theorem dw_eq (d : Fin 2048) (n : Fin 768) : ∑ i : Fin 16, silu (call x0 x1 i d) * rows x2 x3 i n = dw x0 x1 x2 x3 d n := by
  refine (Fin.sum_univ_add (a := 8) (b := 8) fun i => silu (call x0 x1 i d) * rows x2 x3 i n).trans ?_
  unfold dw
  refine congrArg₂ (· + ·) ?_ ?_
  · exact Finset.sum_congr rfl fun i _ => by
      have h : (Fin.castAdd 8 i).val < 8 := i.isLt
      unfold call rows
      rw [dif_pos h, dif_pos h]
      rfl
  · rw [Fin.sum_univ_succ]
    have h0 : ∀ i : Fin 7, silu (call x0 x1 (Fin.natAdd 8 i.succ) d) * rows x2 x3 (Fin.natAdd 8 i.succ) n = 0 := fun i => by
      have h : ¬(Fin.natAdd 8 i.succ).val < 8 := by simp
      have h' : ¬(Fin.natAdd 8 i.succ).val = 8 := by simp
      unfold rows
      rw [dif_neg h, if_neg h', mul_zero]
    rw [Finset.sum_eq_zero fun i _ => h0 i, add_zero]
    rfl

theorem isReal_back (h3 : ∀ i, ∃ r : ℝ, x3 i = r) (h4 : ∀ i, ∃ r : ℝ, x4 i = r) (d : Fin 2048) : ∃ r : ℝ, back x3 x4 d = r :=
  Out.isReal_sum _ fun _ => Out.isReal_mul (Out.isReal_sum _ fun _ => h3 _) (h4 _)

/-- The derivative of the activation in the reference's form. -/
theorem dcc_eq (h3 : ∀ i, ∃ r : ℝ, x3 i = r) (h4 : ∀ i, ∃ r : ℝ, x4 i = r) (d : Fin 2048) :
    dcc x1 x3 x4 d = back x3 x4 d * Ideal.logistic (x1 (ix2 0 d))
      + x1 (ix2 0 d) * back x3 x4 d * (Ideal.logistic (x1 (ix2 0 d)) * (1 - Ideal.logistic (x1 (ix2 0 d)))) := by
  unfold dcc
  obtain ⟨r, hr⟩ := isReal_back x3 x4 h3 h4 d
  rw [hr]
  simpa using silu_grad r 1 (x1 (ix2 0 d))

end Cert.Proof.Mod

end
-- ==== Proof.Mod.Pay.lean ====
/- The modulation's backward call's arithmetic, at an entry. -/
module

public import proofs.«01_k».proof.Proof.Gen.ModKernelIdeal.Skeleton
public import Idealize.ShloMosaic.Lib.Pipeline.ValueKit
public import proofs.«01_k».proof.Proof.Mod.Spec

@[expose] public section

set_option maxRecDepth 16384

noncomputable section

namespace Cert.Proof.Mod

open Cert.ModKernelIdeal Cert.ModKernelIdeal.Gen
open Idealize.ShloMosaic Idealize.ShloMosaic.TcCoe
open Cert.Proof.In (Arr)
open Cert.Proof.Out (half_tanh)

variable (x0 : Arr 8 2048) (x1 : Arr 1 2048) (x2 x3 : Arr 8 768) (x4 : Arr 2048 768) (v : Arr 16 2048)

theorem k3 (i : Fin 16) (d : Fin 2048) : k0_pay3 (F := Ideal) v (ix2 i d) = Ideal.logistic (v (ix2 i d)) := by
  rw [← half_tanh]
  pointwise [k0_pay3, k0_pay2]

theorem k4 (n : Fin 768) : k0_pay4 (F := Ideal) x3 (ix2 0 n) = dmc x3 n := by
  unfold dmc
  pointwise [k0_pay4]

theorem k5 (i : Fin 16) (n : Fin 768) : k0_pay5 (F := Ideal) x3 x2 (ix2 i n) = rows x2 x3 i n := by
  unfold rows
  rw [← k4]
  pointwise [k0_pay5]
  exact by_rows (fun k => x2 (ix2 k n)) (k0_pay4 (F := Ideal) x3) i n

theorem k6 (hv : ∀ i d, v (ix2 i d) = call x0 x1 i d) (d : Fin 2048) (n : Fin 768) : k0_pay6 (F := Ideal) v x3 x2 (ix2 d n) = dw x0 x1 x2 x3 d n := by
  rw [← dw_eq]
  unfold silu
  simp only [← k5, ← hv, ← k3]
  pointwise [k0_pay6, k0_pay2]

theorem k7 (n : Fin 768) : k0_pay7 (F := Ideal) x3 x2 (ix2 0 n) = db x2 x3 n := by
  unfold db
  rw [← k4]
  pointwise [k0_pay7]

theorem k8 (d : Fin 2048) : k0_pay8 (F := Ideal) v (ix2 0 d) = Ideal.logistic (v (ix2 8 d)) := by
  rw [← k3]
  pointwise [k0_pay8]

theorem k9 (d : Fin 2048) : k0_pay9 (F := Ideal) x3 x2 x4 (ix2 0 d) = back x3 x4 d := by
  have h : ∀ n, dmc x3 n = k0_pay5 (F := Ideal) x3 x2 (ix2 8 n) := fun n => (k5 x2 x3 8 n).symm
  unfold back
  simp only [h]
  pointwise [k0_pay9]

theorem k10 (d : Fin 2048) : k0_pay10 (F := Ideal) v (ix2 0 d) = v (ix2 8 d) * (1 - Ideal.logistic (v (ix2 8 d))) := by
  rw [← k8]
  pointwise [k0_pay10, k0_pay2]

theorem k1 (hv : ∀ i d, v (ix2 i d) = call x0 x1 i d) (d : Fin 2048) :
    k0_pay1 (F := Ideal) (k0_pay8 v) (k0_pay9 x3 x2 x4) (k0_pay10 v) k0_pay11 (ix2 0 d) = dcc x1 x3 x4 d := by
  have h : x1 (ix2 0 d) = v (ix2 8 d) := (hv 8 d).symm
  unfold dcc
  rw [h, ← k10, ← k8, ← k9 x2]
  pointwise [k0_pay1, k0_pay11]

end Cert.Proof.Mod

end
-- ==== Proof.Mod.Final.lean ====
/- What the modulation's backward call leaves in its result arrays. -/
module

public import proofs.«01_k».proof.Proof.Gen.ModKernelIdeal.Value
public import proofs.«01_k».proof.Proof.Mod.Pay
public import proofs.«01_k».proof.Proof.In.Final
public import Idealize.ShloMosaic.Lib.StableHlo.RunRead

@[expose] public section

set_option maxRecDepth 16384

noncomputable section

namespace Cert.Proof.Mod

open Cert.ModKernelIdeal Cert.ModKernelIdeal.Gen
open Idealize.ShloMosaic Idealize.ShloMosaic.TcCoe
open Idealize.ShloMosaic.Pipeline (Dat)
open Cert.Proof.In (Arr at_y place_row)

variable (m : (ℓ : Loc nD τ sig) → Buf (Elt Ideal) ℓ) (c : Dev nD)

def a0 : Arr 8 2048 := m ((c : Thread nD τ).loc main_arg0)
def a1 : Arr 1 2048 := m ((c : Thread nD τ).loc main_arg1)
def a2 : Arr 8 768 := m ((c : Thread nD τ).loc main_arg2)
def a3 : Arr 8 768 := m ((c : Thread nD τ).loc main_arg3)
def a4 : Arr 2048 768 := m ((c : Thread nD τ).loc main_arg4)

theorem idx_0 : ∀ t : Fin cfg0.N, win0_0.index t = ![0, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![0, 0] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![0, 0] := (by decide +kernel : ∀ t : Fin grid0.N, _)

/-- The three groups of rows that the host puts under one another. -/
def piled (u : Arr 8 2048) (w : Arr 1 2048) (z : Arr 7 2048) : Arr 16 2048 :=
  concatenate S16x2048 0 [⟨S8x2048, u⟩, ⟨S1x2048, w⟩, ⟨S7x2048, z⟩] concatenates_S8x2048_S1x2048_S7x2048_S16x2048_d0

/-- The rows of zeros. -/
def zeros : Arr 7 2048 := broadcastInDim S7x2048 ![] bcast_S_S7x2048 (constant (F := Ideal) S_ .f32 0x00000000#32)

def stacked (u : Arr 8 2048) (w : Arr 1 2048) : Arr 16 2048 := piled u w zeros

theorem stacked_at (u : Arr 8 2048) (w : Arr 1 2048) (i : Fin 16) (d : Fin 2048) : stacked u w (ix2 i d) = call u w i d := by
  refine Eq.trans ?_ (by_rows (fun k => u (ix2 k d)) w i d)
  pointwise [stacked, piled, zeros]

theorem V_v1 : V m c main_v1 = stacked (a0 m c) (a1 m c) := by
  have e0 : StableHlo.upto hostOps0 (fun b => m (c, b)) 2 (Proc.devRef .tc main_arg0) = m (c, Proc.devRef .tc main_arg0) := by after_reads_simp
  have e1 : StableHlo.upto hostOps0 (fun b => m (c, b)) 2 (Proc.devRef .tc main_arg1) = m (c, Proc.devRef .tc main_arg1) := by after_reads_simp
  have e2 : StableHlo.upto hostOps0 (fun b => m (c, b)) 2 (Proc.devRef .tc main_v0) = zeros := by
    after_reads_simp
    rfl
  show StableHlo.after hostOps0 (fun b => m (c, b)) (Proc.devRef .tc main_v1) = _
  after_reads_simp
  have h := congr (congr (congrArg piled e0) e1) e2
  exact h

theorem blk_0 (t : Fin cfg0.N) (i : Fin 16) (d : Fin 2048) : iblk m c 0 t (ix2 i d) = call (a0 m c) (a1 m c) i d := by
  rw [← stacked_at]
  have e := V_v1 m c
  unfold iblk
  show ((cfg0.win 0).blk t).view.read (Elt Ideal) (V m c main_v1) (ix2 i d) = _
  rw [e]
  generalize stacked (a0 m c) (a1 m c) = z
  blk_point [idx_0 t]
theorem blk_1 (t : Fin cfg0.N) : iblk m c 1 t = a2 m c := by
  funext y
  obtain ⟨a, b, rfl⟩ := at_y (p := 8) (q := 768) y
  unfold a2
  blk_point [iblk, V, idx_1 t]
theorem blk_2 (t : Fin cfg0.N) : iblk m c 2 t = a3 m c := by
  funext y
  obtain ⟨a, b, rfl⟩ := at_y (p := 8) (q := 768) y
  unfold a3
  blk_point [iblk, V, idx_2 t]
theorem blk_3 (t : Fin cfg0.N) : iblk m c 3 t = a4 m c := by
  funext y
  obtain ⟨a, b, rfl⟩ := at_y (p := 2048) (q := 768) y
  unfold a4
  blk_point [iblk, V, idx_3 t]

/-- A block that is the whole of its array lies where it is. -/
theorem place_whole {p q : ℕ} (f : Fin p → Fin q → EReal) (g : Arr p q) (h : ∀ a b, g (ix2 a b) = f a b)
    (y z : (⟨2, ![p, q]⟩ : Shape).Idx) (h0 : (z (0 : Fin 2)).val = 0 * p + (y (0 : Fin 2)).val) (h1 : (z (1 : Fin 2)).val = 0 * q + (y (1 : Fin 2)).val) :
    g y = f (z 0) (z 1) := by
  obtain ⟨a, b, rfl⟩ := at_y y
  rw [h]
  exact congrArg₂ f (Fin.ext (by show a.val = (z (0 : Fin 2)).val; rw [h0]; show a.val = 0 * p + a.val; omega))
    (Fin.ext (by show b.val = (z (1 : Fin 2)).val; rw [h1]; show b.val = 0 * q + b.val; omega))

theorem out4 (v : Arr 16 2048) (x2 x3 : Arr 8 768) (x4 : Arr 2048 768) : out0_4 (F := Ideal) v x2 x3 x4 = k0_pay6 (F := Ideal) v x3 x2 := by
  unfold out0_4
  frame_out
theorem out5 (v : Arr 16 2048) (x2 x3 : Arr 8 768) (x4 : Arr 2048 768) : out0_5 (F := Ideal) v x2 x3 x4 = k0_pay7 (F := Ideal) x3 x2 := by
  unfold out0_5
  frame_out
theorem out6 (v : Arr 16 2048) (x2 x3 : Arr 8 768) (x4 : Arr 2048 768) :
    out0_6 (F := Ideal) v x2 x3 x4 = k0_pay1 (F := Ideal) (k0_pay8 v) (k0_pay9 x3 x2 x4) (k0_pay10 v) k0_pay11 := by
  unfold out0_6
  frame_out

theorem left4 (t : Fin cfg0.N) (d : Fin 2048) (n : Fin 768) :
    out0_4 (F := Ideal) (iblk m c 0 t) (iblk m c 1 t) (iblk m c 2 t) (iblk m c 3 t) (ix2 d n) = dw (a0 m c) (a1 m c) (a2 m c) (a3 m c) d n := by
  rw [← k6 (a0 m c) (a1 m c) (a2 m c) (a3 m c) (iblk m c 0 t) (blk_0 m c t), blk_1, blk_2, blk_3, out4]

theorem left5 (t : Fin cfg0.N) (n : Fin 768) :
    out0_5 (F := Ideal) (iblk m c 0 t) (iblk m c 1 t) (iblk m c 2 t) (iblk m c 3 t) (ix2 0 n) = db (a2 m c) (a3 m c) n := by
  rw [← k7, blk_1, blk_2, blk_3, out5]

theorem left6 (t : Fin cfg0.N) (d : Fin 2048) :
    out0_6 (F := Ideal) (iblk m c 0 t) (iblk m c 1 t) (iblk m c 2 t) (iblk m c 3 t) (ix2 0 d) = dcc (a1 m c) (a3 m c) (a4 m c) d := by
  rw [← k1 (a0 m c) (a1 m c) (a2 m c) (a3 m c) (a4 m c) (iblk m c 0 t) (blk_0 m c t), blk_1, blk_2, blk_3, out6]

theorem final_4 : (dats m 0 c).arrAt 4 cfg0.N = fun x => dw (a0 m c) (a1 m c) (a2 m c) (a3 m c) (x 0) (x 1) := by
  refine (dats m 0 c).arrAt_eq_of_covers 4 _ (by decide +kernel) fun t hf y => ?_
  blk_simp
  rw [after0_4]
  exact place_whole (dw (a0 m c) (a1 m c) (a2 m c) (a3 m c)) _ (left4 m c t) y _ (by blk_simp [idx_4]) (by blk_simp [idx_4])

theorem final_5 : (dats m 0 c).arrAt 5 cfg0.N = fun x => db (a2 m c) (a3 m c) (x 1) := by
  refine (dats m 0 c).arrAt_eq_of_covers 5 _ (by decide +kernel) fun t hf y => ?_
  blk_simp
  rw [after0_5]
  exact place_row (db (a2 m c) (a3 m c)) _ (left5 m c t) y _ (by blk_simp [idx_5])

theorem final_6 : (dats m 0 c).arrAt 6 cfg0.N = fun x => dcc (a1 m c) (a3 m c) (a4 m c) (x 1) := by
  refine (dats m 0 c).arrAt_eq_of_covers 6 _ (by decide +kernel) fun t hf y => ?_
  blk_simp
  rw [after0_6]
  exact place_row (dcc (a1 m c) (a3 m c) (a4 m c)) _ (left6 m c t) y _ (by blk_simp [idx_6])

variable (ρ : Dev nD → PrngReg)

theorem run : θ_run defs (onTc (τ := τ) (main (F := Ideal))) ⟨m, fun _ => 0, ρ⟩ fun r => ∀ c : Dev nD,
      r.2.mem ((c : Thread nD τ).loc main_v2_0) = (fun x => dw (a0 m c) (a1 m c) (a2 m c) (a3 m c) (x 0) (x 1))
      ∧ r.2.mem ((c : Thread nD τ).loc main_v2_1) = (fun x => db (a2 m c) (a3 m c) (x 1))
      ∧ r.2.mem ((c : Thread nD τ).loc main_v2_2) = (fun x => dcc (a1 m c) (a3 m c) (a4 m c) (x 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Cert.ModKernelIdeal.Value.run_blocks m ρ)
  obtain ⟨h0, h1, h2, ha⟩ := h c
  exact ⟨h0.trans (final_4 m c), h1.trans (final_5 m c), h2.trans (final_6 m c), ha⟩

end Cert.Proof.Mod

end
-- ==== Proof.Mod.Ref.lean ====
/- The modulation's backward, as the reference computes it, at an index. -/
module

public import proofs.«01_k».proof.Proof.Gen.ModReferenceIdeal.Read
public import proofs.«01_k».proof.Proof.Gen.ModReferenceIdeal.Run
public import proofs.«01_k».proof.Proof.Mod.Spec

@[expose] public section

set_option maxRecDepth 16384

noncomputable section

namespace Cert.Proof.Mod.Ref

open Cert.ModReferenceIdeal Cert.ModReferenceIdeal.Gen Cert.ModReferenceIdeal.Value Cert.ModReferenceIdeal.Read
open Idealize.ShloMosaic Idealize.ShloMosaic.TcCoe
open Cert.Proof.In (Arr)

variable (x0 : Arr 8 2048) (x1 : Arr 1 2048) (x2 x3 : Arr 8 768) (x4 : Arr 2048 768)

theorem r1 (i : Fin 8) (d : Fin 2048) : val_main_v1 (F := Ideal) x0 (ix2 i d) = silu (x0 (ix2 i d)) := by
  unfold silu
  pointwise [val_main_v1, val_main_call0_v5, val_main_call0_v4, val_main_call0_v3, val_main_call0_v2, val_main_call0_v1, val_main_call0_v0, val_main_call0_cst, val_main_call0_cst_0, Ideal.logistic]

theorem r5_2 (d : Fin 2048) : val_main_v5_2 (F := Ideal) x1 (ix2 0 d) = Ideal.logistic (x1 (ix2 0 d)) := by
  pointwise [val_main_v5_2, val_main_call1_v4, val_main_call1_v3, val_main_call1_v2, val_main_call1_v1, val_main_call1_v0, val_main_call1_cst, val_main_call1_cst_0, Ideal.logistic]

theorem r5_1 (d : Fin 2048) : val_main_v5_1 (F := Ideal) x1 (ix2 0 d) = Ideal.logistic (x1 (ix2 0 d)) * (1 - Ideal.logistic (x1 (ix2 0 d))) := by
  rw [← r5_2]
  pointwise [val_main_v5_1, val_main_call1_v7, val_main_call1_v6, val_main_call1_cst_1]

theorem r5_0 (d : Fin 2048) : val_main_v5_0 (F := Ideal) x1 (ix2 0 d) = silu (x1 (ix2 0 d)) := by
  unfold silu
  rw [← r5_2]
  pointwise [val_main_v5_0]

theorem r9 (n : Fin 768) : val_main_v9 (F := Ideal) x3 (ix2 0 n) = dmc x3 n := by
  unfold dmc
  pointwise [val_main_v9, val_main_v8, val_main_cst_0]

theorem r11 (d : Fin 2048) (n : Fin 768) : val_main_v11 (F := Ideal) x1 x3 (ix2 d n) = silu (x1 (ix2 0 d)) * dmc x3 n := by
  rw [← r9, ← r5_0]
  pointwise [val_main_v11, val_main_v10]
  exact (Fin.sum_univ_one _).trans (mul_comm _ _)

theorem r19 (d : Fin 2048) (n : Fin 768) : val_main_v19 (F := Ideal) x0 x2 (ix2 d n) = ∑ i : Fin 8, silu (x0 (ix2 i d)) * x2 (ix2 i n) := by
  simp only [← r1]
  pointwise [val_main_v19, val_main_v18, val_main_v14]
  exact Finset.sum_congr rfl fun k _ => mul_comm _ _

theorem r20 (d : Fin 2048) (n : Fin 768) : val_main_v20 (F := Ideal) x0 x1 x2 x3 (ix2 d n) = dw x0 x1 x2 x3 d n := by
  unfold dw
  rw [← r19, ← r11, add_comm]
  pointwise [val_main_v20]

theorem r17 (n : Fin 768) : val_main_v17 (F := Ideal) x2 x3 (ix2 0 n) = db x2 x3 n := by
  unfold db
  rw [← r9, add_comm]
  pointwise [val_main_v17, val_main_v16, val_main_v15, val_main_cst_1]

theorem r12 (d : Fin 2048) : val_main_v12 (F := Ideal) x3 x4 (ix2 0 d) = back x3 x4 d := by
  unfold back
  simp only [← r9]
  pointwise [val_main_v12]

theorem r13 (h3 : ∀ i, ∃ r : ℝ, x3 i = r) (h4 : ∀ i, ∃ r : ℝ, x4 i = r) (d : Fin 2048) : val_main_v13 (F := Ideal) x1 x3 x4 (ix2 0 d) = dcc x1 x3 x4 d := by
  rw [dcc_eq x1 x3 x4 h3 h4, ← r12, ← r5_1, ← r5_2]
  pointwise [val_main_v13, val_main_call2_v0, val_main_call2_v1, val_main_call2_v2]

end Cert.Proof.Mod.Ref

end
-- ==== Proof.Mod.Alg.lean ====
/- The modulation's backward call leaves the arrays of the derivative of its forward lines. -/
module

public import proofs.«01_k».proof.Defs
public import proofs.«01_k».proof.Proof.Gen.Pre_finite_mod
public import proofs.«01_k».proof.Proof.Mod.Final
public import proofs.«01_k».proof.Proof.Mod.Ref
public import proofs.«01_k».proof.Proof.Out.Alg

@[expose] public section

set_option maxRecDepth 16384

noncomputable section

namespace Cert.Proof.Mod

open Idealize.ShloMosaic Idealize.SL.Sem
open Cert.Proof.In (at_y)
open Cert.Proof.Out (real_of_lt)

theorem algebraic : Cert.algebraic_ModKernelIdeal_ModReferenceIdeal_pre_finite_mod := by
  intro m g m' g' hpre hagree
  refine ⟨_, _, _, run m g, ?_⟩
  refine (θ_run Cert.ModReferenceIdeal.defs _ _).mono (fun r h c => ?_) (Cert.ModReferenceIdeal.Value.run m' g')
  obtain ⟨h0, h1, h2, ha⟩ := h c
  obtain ⟨p3, p4⟩ := hpre c
  obtain ⟨e0, e1, e2, e3, e4⟩ := hagree c
  have f3 : ∀ i, ∃ r : ℝ, a3 m c i = r := fun i => real_of_lt _ (congrFun p3 i)
  have f4 : ∀ i, ∃ r : ℝ, a4 m c i = r := fun i => real_of_lt _ (congrFun p4 i)
  replace h0 := h0.trans (Cert.ModReferenceIdeal.Read.val_main_v20_eq _ _ _ _)
  replace h1 := h1.trans (Cert.ModReferenceIdeal.Read.val_main_v17_eq _ _)
  replace h2 := h2.trans (Cert.ModReferenceIdeal.Read.val_main_v13_eq _ _ _)
  rw [e0, e1, e2, e3] at h0
  rw [e2, e3] at h1
  rw [e1, e3, e4] at h2
  refine ⟨h0.trans (funext fun y => ?_), h1.trans (funext fun y => ?_), h2.trans (funext fun y => ?_), ha⟩
  · obtain ⟨a, b, rfl⟩ := at_y y
    exact Ref.r20 _ _ _ _ a b
  · obtain ⟨a, b, rfl⟩ := at_y y
    have ha0 : a = 0 := Subsingleton.elim _ _
    subst ha0
    exact Ref.r17 _ _ b
  · obtain ⟨a, b, rfl⟩ := at_y y
    have ha0 : a = 0 := Subsingleton.elim _ _
    subst ha0
    exact Ref.r13 _ _ _ f3 f4 b

theorem frame_reference : Cert.quiescent_ModReferenceIdeal := fun m ρ _ =>
  (θ_run Cert.ModReferenceIdeal.defs _ _).mono
    (fun r h => ⟨fun c => (h c).2.2.2, sem_eq_zero_of_no_sems (by decide) r.2⟩) (Cert.ModReferenceIdeal.Value.run m ρ)

end Cert.Proof.Mod

end
-- ==== Proof.Adam.Spec.lean ====
/- The optimiser's update, at an index. -/
module

public import proofs.«01_k».proof.Proof.In.Spec

@[expose] public section

set_option maxRecDepth 16384

noncomputable section

namespace Cert.Proof.Adam

open Idealize.ShloMosaic
open Cert.Proof.In (Arr Arr3)

/-- The first moment from its last value and the gradient. -/
def mom (g m : EReal) : EReal := Ideal.ofBits .f32 0x3F666666#32 * m + Ideal.ofBits .f32 0x3DCCCCCD#32 * g

/-- The second moment from its last value and the gradient. -/
def sec (g v : EReal) : EReal := Ideal.ofBits .f32 0x3F7FBE77#32 * v + Ideal.ofBits .f32 0x3A83126F#32 * (g * g)

/-- The step: the corrected moments' quotient with the decayed weight. -/
def step (g w m v : EReal) : EReal :=
  Ideal.ofBits .f32 0xBA83126F#32
    * (Ideal.div (Ideal.div (mom g m) (Ideal.ofBits .f32 0x3F26BD02#32))
        (Ideal.sqrt (Ideal.div (sec g v) (Ideal.ofBits .f32 0x3C231ACC#32)) + Ideal.ofBits .f32 0x322BCC77#32)
      + Ideal.ofBits .f32 0x3C23D70A#32 * w)

variable {p q : ℕ} (x0 : Arr3 4 p q) (x1 x2 x3 : Arr p q)

/-- The gradient: the sum of the landed partial sums. -/
def grad (d : Fin p) (l : Fin q) : EReal := ∑ k : Fin 4, x0 (ix3 k d l)
def mm (d : Fin p) (l : Fin q) : EReal := mom (grad x0 d l) (x2 (ix2 d l))
def vv (d : Fin p) (l : Fin q) : EReal := sec (grad x0 d l) (x3 (ix2 d l))
def dd (d : Fin p) (l : Fin q) : EReal := step (grad x0 d l) (x1 (ix2 d l)) (x2 (ix2 d l)) (x3 (ix2 d l))

end Cert.Proof.Adam

end
-- ==== Proof.Adam.Pay.lean ====
/- The optimiser's update's arithmetic in the kernel, at an entry. -/
module

public import proofs.«01_k».proof.Proof.Gen.AdamKernelIdeal.Frame
public import Idealize.ShloMosaic.Lib.Pipeline.ValueKit
public import proofs.«01_k».proof.Proof.Adam.Spec

@[expose] public section

set_option maxRecDepth 16384

noncomputable section

namespace Cert.Proof.Adam

open Cert.AdamKernelIdeal Cert.AdamKernelIdeal.Gen
open Idealize.ShloMosaic Idealize.ShloMosaic.TcCoe
open Cert.Proof.In (Arr Arr3)

/-- One partial sum's block. -/
def shard {F : FTy → Type} (w : Vec F S4x512x512 .bf16) (j : ℕ) (h : ∀ a, (![j, 0, 0] : Fin 3 → Nat) a + S1x512x512.size a ≤ S4x512x512.size a) : Vec F S1x512x512 .bf16 :=
  View.ld w (Rect.unit (s := S4x512x512) ![j, 0, 0] S1x512x512.size h)

theorem shard_at (w : Arr3 4 512 512) (j : Fin 4) (h : ∀ a, (![j.val, 0, 0] : Fin 3 → Nat) a + S1x512x512.size a ≤ S4x512x512.size a) (d l : Fin 512) :
    shard (F := Ideal) w j.val h (ix3 0 d l) = w (ix3 j d l) := by
  pointwise [shard]

variable (s0 s1 s2 s3 : Arr3 1 512 512) (w m v : Arr 512 512) (a l : Fin 512) (g : EReal)

theorem k2 (x : Fin 4 → EReal) (h0 : s0 (ix3 0 a l) = x 0) (h1 : s1 (ix3 0 a l) = x 1) (h2 : s2 (ix3 0 a l) = x 2) (h3 : s3 (ix3 0 a l) = x 3) :
    k0_pay2 (F := Ideal) s0 s1 s2 s3 (ix2 a l) = ∑ k, x k := by
  rw [Fin.sum_univ_four, ← h0, ← h1, ← h2, ← h3]
  pointwise [k0_pay2]

theorem k3 (hg : k0_pay2 (F := Ideal) s0 s1 s2 s3 (ix2 a l) = g) : k0_pay3 (F := Ideal) s0 s1 s2 s3 m (ix2 a l) = mom g (m (ix2 a l)) := by
  rw [← hg]
  unfold mom
  pointwise [k0_pay3]

theorem k4 (hg : k0_pay2 (F := Ideal) s0 s1 s2 s3 (ix2 a l) = g) : k0_pay4 (F := Ideal) s0 s1 s2 s3 v (ix2 a l) = sec g (v (ix2 a l)) := by
  rw [← hg]
  unfold sec
  pointwise [k0_pay4]

theorem k1 (hg : k0_pay2 (F := Ideal) s0 s1 s2 s3 (ix2 a l) = g) :
    k0_pay1 (F := Ideal) w (k0_pay4 (F := Ideal) s0 s1 s2 s3 v) (k0_pay5 (F := Ideal) s0 s1 s2 s3 m) (Scalar.ofBits .f32 0x3C231ACC#32) (ix2 a l)
      = step g (w (ix2 a l)) (m (ix2 a l)) (v (ix2 a l)) := by
  unfold step
  rw [← k3 s0 s1 s2 s3 m a l g hg, ← k4 s0 s1 s2 s3 v a l g hg]
  pointwise [k0_pay1, k0_pay5]

end Cert.Proof.Adam

end
-- ==== Proof.Adam.Final.lean ====
/- What the optimiser's update leaves in its result arrays. -/
module

public import proofs.«01_k».proof.Proof.Gen.AdamKernelIdeal.Value
public import proofs.«01_k».proof.Proof.Adam.Pay
public import proofs.«01_k».proof.Proof.In.Final

@[expose] public section

set_option maxRecDepth 16384

noncomputable section

namespace Cert.Proof.Adam

open Cert.AdamKernelIdeal Cert.AdamKernelIdeal.Gen
open Idealize.ShloMosaic Idealize.ShloMosaic.TcCoe
open Idealize.ShloMosaic.Pipeline (Dat)
open Cert.Proof.In (Arr Arr3 at_y)

variable (m : (ℓ : Loc nD τ sig) → Buf (Elt Ideal) ℓ) (c : Dev nD)

def a0 : Arr3 4 2048 512 := m ((c : Thread nD τ).loc main_arg0)
def a1 : Arr 2048 512 := m ((c : Thread nD τ).loc main_arg1)
def a2 : Arr 2048 512 := m ((c : Thread nD τ).loc main_arg2)
def a3 : Arr 2048 512 := m ((c : Thread nD τ).loc main_arg3)

theorem idx_0 : ∀ t : Fin cfg0.N, win0_0.index t = ![0, t.val, 0] := (by decide +kernel : ∀ t : Fin grid0.N, _)
theorem idx_1 : ∀ t : Fin cfg0.N, win0_1.index t = ![t.val, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![t.val, 0] := (by decide +kernel : ∀ t : Fin grid0.N, _)
theorem idx_4 : ∀ t : Fin cfg0.N, win0_4.index t = ![t.val, 0] := (by decide +kernel : ∀ t : Fin grid0.N, _)
theorem idx_5 : ∀ t : Fin cfg0.N, win0_5.index t = ![t.val, 0] := (by decide +kernel : ∀ t : Fin grid0.N, _)
theorem idx_6 : ∀ t : Fin cfg0.N, win0_6.index t = ![t.val, 0] := (by decide +kernel : ∀ t : Fin grid0.N, _)
theorem idx_7 : ∀ t : Fin cfg0.N, win0_7.index t = ![t.val, 0] := (by decide +kernel : ∀ t : Fin grid0.N, _)

theorem t_lt (t : Fin cfg0.N) : t.val < 4 := by
  have h : cfg0.N = 4 := N_0
  omega

/-- The array's row that a block's row is. -/
def row (t : Fin cfg0.N) (a : Fin 512) : Fin 2048 := ⟨t.val * 512 + a.val, by have := t_lt t; omega⟩

theorem blk_0 (t : Fin cfg0.N) (k : Fin 4) (a l : Fin 512) : iblk m c 0 t (ix3 k a l) = a0 m c (ix3 k (row t a) l) := by
  unfold a0 row
  blk_point [iblk, V, idx_0 t]
theorem blk_1 (t : Fin cfg0.N) (a l : Fin 512) : iblk m c 1 t (ix2 a l) = a1 m c (ix2 (row t a) l) := by
  unfold a1 row
  blk_point [iblk, V, idx_1 t]
theorem blk_2 (t : Fin cfg0.N) (a l : Fin 512) : iblk m c 2 t (ix2 a l) = a2 m c (ix2 (row t a) l) := by
  unfold a2 row
  blk_point [iblk, V, idx_2 t]
theorem blk_3 (t : Fin cfg0.N) (a l : Fin 512) : iblk m c 3 t (ix2 a l) = a3 m c (ix2 (row t a) l) := by
  unfold a3 row
  blk_point [iblk, V, idx_3 t]

section Out
variable (w : Vec Ideal S4x512x512 .bf16) (x1 x2 x3 : Arr 512 512)

theorem out4 : out0_4 (F := Ideal) w x1 x2 x3
    = k0_pay2 (F := Ideal) (shard w 0 inb_S4x512x512_S1x512x512_0_0_0) (shard w 1 inb_S4x512x512_S1x512x512_1_0_0) (shard w 2 inb_S4x512x512_S1x512x512_2_0_0) (shard w 3 inb_S4x512x512_S1x512x512_3_0_0) := by
  unfold out0_4 shard
  frame_out
theorem out5 : out0_5 (F := Ideal) w x1 x2 x3
    = k0_pay1 (F := Ideal) x1
        (k0_pay4 (F := Ideal) (shard w 0 inb_S4x512x512_S1x512x512_0_0_0) (shard w 1 inb_S4x512x512_S1x512x512_1_0_0) (shard w 2 inb_S4x512x512_S1x512x512_2_0_0) (shard w 3 inb_S4x512x512_S1x512x512_3_0_0) x3)
        (k0_pay5 (F := Ideal) (shard w 0 inb_S4x512x512_S1x512x512_0_0_0) (shard w 1 inb_S4x512x512_S1x512x512_1_0_0) (shard w 2 inb_S4x512x512_S1x512x512_2_0_0) (shard w 3 inb_S4x512x512_S1x512x512_3_0_0) x2)
        (Scalar.ofBits .f32 0x3C231ACC#32) := by
  unfold out0_5 k0_pay6 shard
  frame_out
theorem out6 : out0_6 (F := Ideal) w x1 x2 x3
    = k0_pay3 (F := Ideal) (shard w 0 inb_S4x512x512_S1x512x512_0_0_0) (shard w 1 inb_S4x512x512_S1x512x512_1_0_0) (shard w 2 inb_S4x512x512_S1x512x512_2_0_0) (shard w 3 inb_S4x512x512_S1x512x512_3_0_0) x2 := by
  unfold out0_6 shard
  frame_out
theorem out7 : out0_7 (F := Ideal) w x1 x2 x3
    = k0_pay4 (F := Ideal) (shard w 0 inb_S4x512x512_S1x512x512_0_0_0) (shard w 1 inb_S4x512x512_S1x512x512_1_0_0) (shard w 2 inb_S4x512x512_S1x512x512_2_0_0) (shard w 3 inb_S4x512x512_S1x512x512_3_0_0) x3 := by
  unfold out0_7 k0_pay6 shard
  frame_out

end Out

theorem pg (t : Fin cfg0.N) (a l : Fin 512) :
    k0_pay2 (F := Ideal) (shard (iblk m c 0 t) 0 inb_S4x512x512_S1x512x512_0_0_0) (shard (iblk m c 0 t) 1 inb_S4x512x512_S1x512x512_1_0_0)
      (shard (iblk m c 0 t) 2 inb_S4x512x512_S1x512x512_2_0_0) (shard (iblk m c 0 t) 3 inb_S4x512x512_S1x512x512_3_0_0) (ix2 a l) = grad (a0 m c) (row t a) l :=
  k2 _ _ _ _ a l (fun k => a0 m c (ix3 k (row t a) l)) ((shard_at _ 0 _ a l).trans (blk_0 m c t 0 a l)) ((shard_at _ 1 _ a l).trans (blk_0 m c t 1 a l))
    ((shard_at _ 2 _ a l).trans (blk_0 m c t 2 a l)) ((shard_at _ 3 _ a l).trans (blk_0 m c t 3 a l))

theorem left4 (t : Fin cfg0.N) (a l : Fin 512) :
    out0_4 (F := Ideal) (iblk m c 0 t) (iblk m c 1 t) (iblk m c 2 t) (iblk m c 3 t) (ix2 a l) = grad (a0 m c) (row t a) l := by
  rw [out4, pg]
theorem left5 (t : Fin cfg0.N) (a l : Fin 512) :
    out0_5 (F := Ideal) (iblk m c 0 t) (iblk m c 1 t) (iblk m c 2 t) (iblk m c 3 t) (ix2 a l) = dd (a0 m c) (a1 m c) (a2 m c) (a3 m c) (row t a) l := by
  rw [out5, k1 _ _ _ _ _ _ _ _ _ _ (pg m c t a l), blk_1, blk_2, blk_3]
  rfl
theorem left6 (t : Fin cfg0.N) (a l : Fin 512) :
    out0_6 (F := Ideal) (iblk m c 0 t) (iblk m c 1 t) (iblk m c 2 t) (iblk m c 3 t) (ix2 a l) = mm (a0 m c) (a2 m c) (row t a) l := by
  rw [out6, k3 _ _ _ _ _ _ _ _ (pg m c t a l), blk_2]
  rfl
theorem left7 (t : Fin cfg0.N) (a l : Fin 512) :
    out0_7 (F := Ideal) (iblk m c 0 t) (iblk m c 1 t) (iblk m c 2 t) (iblk m c 3 t) (ix2 a l) = vv (a0 m c) (a3 m c) (row t a) l := by
  rw [out7, k4 _ _ _ _ _ _ _ _ (pg m c t a l), blk_3]
  rfl

/-- A block's entry is the array's, where the block's placement puts it. -/
theorem place_rows {p q r s : ℕ} (f : Fin s → Fin q → EReal) (g : Arr p q) (e : Fin p → Fin s) (h : ∀ a b, g (ix2 a b) = f (e a) b)
    (y : (⟨2, ![p, q]⟩ : Shape).Idx) (z : (⟨2, ![s, q]⟩ : Shape).Idx) (hr : ∀ a, (e a).val = r * p + a.val)
    (h0 : (z (0 : Fin 2)).val = r * p + (y (0 : Fin 2)).val) (h1 : (z (1 : Fin 2)).val = 0 * q + (y (1 : Fin 2)).val) :
    g y = f (z 0) (z 1) := by
  obtain ⟨a, b, rfl⟩ := at_y y
  rw [h]
  exact congrArg₂ f (Fin.ext ((hr a).trans h0.symm)) (Fin.ext (by show b.val = (z (1 : Fin 2)).val; rw [h1]; show b.val = 0 * q + b.val; omega))

theorem final_4 : (dats m 0 c).arrAt 4 cfg0.N = fun x => grad (a0 m c) (x 0) (x 1) := by
  refine (dats m 0 c).arrAt_eq_of_covers 4 _ (by decide +kernel) fun t hf y => ?_
  blk_simp
  rw [after0_4]
  exact place_rows (grad (a0 m c)) _ (row t) (left4 m c t) y _ (fun a => rfl) (by blk_simp [idx_4]) (by blk_simp [idx_4])
theorem final_5 : (dats m 0 c).arrAt 5 cfg0.N = fun x => dd (a0 m c) (a1 m c) (a2 m c) (a3 m c) (x 0) (x 1) := by
  refine (dats m 0 c).arrAt_eq_of_covers 5 _ (by decide +kernel) fun t hf y => ?_
  blk_simp
  rw [after0_5]
  exact place_rows (dd (a0 m c) (a1 m c) (a2 m c) (a3 m c)) _ (row t) (left5 m c t) y _ (fun a => rfl) (by blk_simp [idx_5]) (by blk_simp [idx_5])
theorem final_6 : (dats m 0 c).arrAt 6 cfg0.N = fun x => mm (a0 m c) (a2 m c) (x 0) (x 1) := by
  refine (dats m 0 c).arrAt_eq_of_covers 6 _ (by decide +kernel) fun t hf y => ?_
  blk_simp
  rw [after0_6]
  exact place_rows (mm (a0 m c) (a2 m c)) _ (row t) (left6 m c t) y _ (fun a => rfl) (by blk_simp [idx_6]) (by blk_simp [idx_6])
theorem final_7 : (dats m 0 c).arrAt 7 cfg0.N = fun x => vv (a0 m c) (a3 m c) (x 0) (x 1) := by
  refine (dats m 0 c).arrAt_eq_of_covers 7 _ (by decide +kernel) fun t hf y => ?_
  blk_simp
  rw [after0_7]
  exact place_rows (vv (a0 m c) (a3 m c)) _ (row t) (left7 m c t) y _ (fun a => rfl) (by blk_simp [idx_7]) (by blk_simp [idx_7])

variable (ρ : Dev nD → PrngReg)

theorem run : θ_run defs (onTc (τ := τ) (main (F := Ideal))) ⟨m, fun _ => 0, ρ⟩ fun r => ∀ c : Dev nD,
      r.2.mem ((c : Thread nD τ).loc main_v0_0) = (fun x => grad (a0 m c) (x 0) (x 1))
      ∧ r.2.mem ((c : Thread nD τ).loc main_v0_1) = (fun x => dd (a0 m c) (a1 m c) (a2 m c) (a3 m c) (x 0) (x 1))
      ∧ r.2.mem ((c : Thread nD τ).loc main_v0_2) = (fun x => mm (a0 m c) (a2 m c) (x 0) (x 1))
      ∧ r.2.mem ((c : Thread nD τ).loc main_v0_3) = (fun x => vv (a0 m c) (a3 m c) (x 0) (x 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Cert.AdamKernelIdeal.Value.run_blocks m ρ)
  obtain ⟨h0, h1, h2, h3, ha⟩ := h c
  exact ⟨h0.trans (final_4 m c), h1.trans (final_5 m c), h2.trans (final_6 m c), h3.trans (final_7 m c), ha⟩

end Cert.Proof.Adam

end
-- ==== Proof.Adam.Ref.lean ====
/- The optimiser's update, as the reference computes it, at an index. -/
module

public import proofs.«01_k».proof.Proof.Gen.AdamReferenceIdeal.Read
public import proofs.«01_k».proof.Proof.Gen.AdamReferenceIdeal.Run
public import proofs.«01_k».proof.Proof.Adam.Spec

@[expose] public section

set_option maxRecDepth 16384

noncomputable section

namespace Cert.Proof.Adam.Ref

open Cert.AdamReferenceIdeal Cert.AdamReferenceIdeal.Gen Cert.AdamReferenceIdeal.Value Cert.AdamReferenceIdeal.Read
open Idealize.ShloMosaic Idealize.ShloMosaic.TcCoe
open Cert.Proof.In (Arr Arr3)

variable (x0 : Arr3 4 2048 512) (x1 x2 x3 : Arr 2048 512)

theorem r1 (d : Fin 2048) (l : Fin 512) : val_main_v1 (F := Ideal) x0 (ix2 d l) = grad x0 d l := by
  unfold grad
  pointwise [val_main_v1, val_main_v0, val_main_cst]

theorem r6 (d : Fin 2048) (l : Fin 512) : val_main_v6 (F := Ideal) x0 x2 (ix2 d l) = mm x0 x2 d l := by
  unfold mm mom
  rw [← r1]
  pointwise [val_main_v6, val_main_v5, val_main_v4, val_main_v3, val_main_v2, val_main_cst_0, val_main_cst_1]

theorem r12 (d : Fin 2048) (l : Fin 512) : val_main_v12 (F := Ideal) x0 x3 (ix2 d l) = vv x0 x3 d l := by
  unfold vv sec
  rw [← r1]
  pointwise [val_main_v12, val_main_v11, val_main_v10, val_main_v9, val_main_v8, val_main_v7, val_main_cst_2, val_main_cst_3]

theorem r25 (d : Fin 2048) (l : Fin 512) : val_main_v25 (F := Ideal) x0 x1 x2 x3 (ix2 d l) = dd x0 x1 x2 x3 d l := by
  have h6 := r6 x0 x2 d l
  have h12 := r12 x0 x3 d l
  unfold mm at h6
  unfold vv at h12
  unfold dd step
  rw [← h6, ← h12]
  pointwise [val_main_v25, val_main_v24, val_main_v23, val_main_v22, val_main_v21, val_main_v20, val_main_v19, val_main_v18, val_main_v17, val_main_v16, val_main_v15,
    val_main_v14, val_main_v13, val_main_cst_4, val_main_cst_5, val_main_cst_6, val_main_cst_7, val_main_cst_8]

end Cert.Proof.Adam.Ref

end
-- ==== Proof.Adam.Alg.lean ====
/- The optimiser's update leaves the arrays of the reference's lines. -/
module

public import proofs.«01_k».proof.Defs
public import proofs.«01_k».proof.Proof.Adam.Final
public import proofs.«01_k».proof.Proof.Adam.Ref

@[expose] public section

set_option maxRecDepth 16384

noncomputable section

namespace Cert.Proof.Adam

open Idealize.ShloMosaic Idealize.SL.Sem
open Cert.Proof.In (at_y)

theorem algebraic : Cert.algebraic_AdamKernelIdeal_AdamReferenceIdeal := by
  intro m g m' g' _ hagree
  refine ⟨_, _, _, _, run m g, ?_⟩
  refine (θ_run Cert.AdamReferenceIdeal.defs _ _).mono (fun r h c => ?_) (Cert.AdamReferenceIdeal.Value.run m' g')
  obtain ⟨h0, h1, h2, h3, ha⟩ := h c
  obtain ⟨e0, e1, e2, e3⟩ := hagree c
  replace h0 := h0.trans (Cert.AdamReferenceIdeal.Read.val_main_v1_eq _)
  replace h1 := h1.trans (Cert.AdamReferenceIdeal.Read.val_main_v25_eq _ _ _ _)
  replace h2 := h2.trans (Cert.AdamReferenceIdeal.Read.val_main_v6_eq _ _)
  replace h3 := h3.trans (Cert.AdamReferenceIdeal.Read.val_main_v12_eq _ _)
  rw [e0] at h0
  rw [e0, e1, e2, e3] at h1
  rw [e0, e2] at h2
  rw [e0, e3] at h3
  refine ⟨h0.trans (funext fun y => ?_), h1.trans (funext fun y => ?_), h2.trans (funext fun y => ?_), h3.trans (funext fun y => ?_), ha⟩
  · obtain ⟨a, b, rfl⟩ := at_y y
    exact Ref.r1 _ a b
  · obtain ⟨a, b, rfl⟩ := at_y y
    exact Ref.r25 _ _ _ _ a b
  · obtain ⟨a, b, rfl⟩ := at_y y
    exact Ref.r6 _ _ a b
  · obtain ⟨a, b, rfl⟩ := at_y y
    exact Ref.r12 _ _ a b

theorem frame_reference : Cert.quiescent_AdamReferenceIdeal := fun m ρ _ =>
  (θ_run Cert.AdamReferenceIdeal.defs _ _).mono
    (fun r h => ⟨fun c => (h c).2.2.2.2, sem_eq_zero_of_no_sems (by decide) r.2⟩) (Cert.AdamReferenceIdeal.Value.run m ρ)

end Cert.Proof.Adam

end
-- ==== Proof.Adam.Given.lean ====
/- The optimiser's update of the weights whose gradient is given whole leaves the arrays of the reference's lines. -/
module

public import proofs.«01_k».proof.Defs
public import proofs.«01_k».proof.Proof.Gen.AadaKernelIdeal.Value
public import proofs.«01_k».proof.Proof.Gen.AadaReferenceIdeal.Run
public import proofs.«01_k».proof.Proof.Gen.AadaReferenceIdeal.Read
public import proofs.«01_k».proof.Proof.Gen.AbKernelIdeal.Value
public import proofs.«01_k».proof.Proof.Gen.AbReferenceIdeal.Run
public import proofs.«01_k».proof.Proof.Gen.AbReferenceIdeal.Read
public import proofs.«01_k».proof.Proof.Gen.AcKernelIdeal.Value
public import proofs.«01_k».proof.Proof.Gen.AcReferenceIdeal.Run
public import proofs.«01_k».proof.Proof.Gen.AcReferenceIdeal.Read
public import proofs.«01_k».proof.Proof.Adam.Spec

@[expose] public section

set_option maxRecDepth 16384

noncomputable section

namespace Cert.Proof.Adam

open Idealize.ShloMosaic Idealize.SL.Sem

/-! The update of `ada_w`. -/

theorem algebraicAada : Cert.algebraic_AadaKernelIdeal_AadaReferenceIdeal := by
  intro m g m' g' _ hagree
  refine ⟨_, _, _, Cert.AadaKernelIdeal.Value.run m g, ?_⟩
  refine (θ_run Cert.AadaReferenceIdeal.defs _ _).mono (fun r h c => ?_) (Cert.AadaReferenceIdeal.Value.run m' g')
  obtain ⟨h0, h1, h2, ha⟩ := h c
  obtain ⟨e0, e1, e2, e3⟩ := hagree c
  replace h0 := h0.trans (Cert.AadaReferenceIdeal.Read.val_main_v23_eq _ _ _ _)
  replace h1 := h1.trans (Cert.AadaReferenceIdeal.Read.val_main_v4_eq _ _)
  replace h2 := h2.trans (Cert.AadaReferenceIdeal.Read.val_main_v10_eq _ _)
  rw [e0, e1, e2, e3] at h0
  rw [e0, e2] at h1
  rw [e0, e3] at h2
  exact ⟨h0.trans rfl, h1.trans rfl, h2.trans rfl, ha⟩

theorem frameAada : Cert.quiescent_AadaReferenceIdeal := fun m ρ _ =>
  (θ_run Cert.AadaReferenceIdeal.defs _ _).mono
    (fun r h => ⟨fun c => (h c).2.2.2, sem_eq_zero_of_no_sems (by decide) r.2⟩) (Cert.AadaReferenceIdeal.Value.run m ρ)

/-! The update of the recurrence's input matrices. -/

theorem algebraicAb : Cert.algebraic_AbKernelIdeal_AbReferenceIdeal := by
  intro m g m' g' _ hagree
  refine ⟨_, _, _, Cert.AbKernelIdeal.Value.run m g, ?_⟩
  refine (θ_run Cert.AbReferenceIdeal.defs _ _).mono (fun r h c => ?_) (Cert.AbReferenceIdeal.Value.run m' g')
  obtain ⟨h0, h1, h2, ha⟩ := h c
  obtain ⟨e0, e1, e2, e3⟩ := hagree c
  replace h0 := h0.trans (Cert.AbReferenceIdeal.Read.val_main_v23_eq _ _ _ _)
  replace h1 := h1.trans (Cert.AbReferenceIdeal.Read.val_main_v4_eq _ _)
  replace h2 := h2.trans (Cert.AbReferenceIdeal.Read.val_main_v10_eq _ _)
  rw [e0, e1, e2, e3] at h0
  rw [e0, e2] at h1
  rw [e0, e3] at h2
  exact ⟨h0.trans rfl, h1.trans rfl, h2.trans rfl, ha⟩

theorem frameAb : Cert.quiescent_AbReferenceIdeal := fun m ρ _ =>
  (θ_run Cert.AbReferenceIdeal.defs _ _).mono
    (fun r h => ⟨fun c => (h c).2.2.2, sem_eq_zero_of_no_sems (by decide) r.2⟩) (Cert.AbReferenceIdeal.Value.run m ρ)

/-! The update of the recurrence's readout matrices. -/

theorem algebraicAc : Cert.algebraic_AcKernelIdeal_AcReferenceIdeal := by
  intro m g m' g' _ hagree
  refine ⟨_, _, _, Cert.AcKernelIdeal.Value.run m g, ?_⟩
  refine (θ_run Cert.AcReferenceIdeal.defs _ _).mono (fun r h c => ?_) (Cert.AcReferenceIdeal.Value.run m' g')
  obtain ⟨h0, h1, h2, ha⟩ := h c
  obtain ⟨e0, e1, e2, e3⟩ := hagree c
  replace h0 := h0.trans (Cert.AcReferenceIdeal.Read.val_main_v23_eq _ _ _ _)
  replace h1 := h1.trans (Cert.AcReferenceIdeal.Read.val_main_v4_eq _ _)
  replace h2 := h2.trans (Cert.AcReferenceIdeal.Read.val_main_v10_eq _ _)
  rw [e0, e1, e2, e3] at h0
  rw [e0, e2] at h1
  rw [e0, e3] at h2
  exact ⟨h0.trans rfl, h1.trans rfl, h2.trans rfl, ha⟩

theorem frameAc : Cert.quiescent_AcReferenceIdeal := fun m ρ _ =>
  (θ_run Cert.AcReferenceIdeal.defs _ _).mono
    (fun r h => ⟨fun c => (h c).2.2.2, sem_eq_zero_of_no_sems (by decide) r.2⟩) (Cert.AcReferenceIdeal.Value.run m ρ)

end Cert.Proof.Adam

end
-- ==== Proof.Proj.Ref.lean ====
/- The context's input projection, as the reference computes it, at an index. -/
module

public import proofs.«01_k».proof.Proof.Gen.ProjReferenceIdeal.Read
public import proofs.«01_k».proof.Proof.Gen.ProjReferenceIdeal.Run
public import proofs.«01_k».proof.Proof.Ctx.Spec

@[expose] public section

set_option maxRecDepth 16384

noncomputable section

namespace Cert.Proof.Proj

open Idealize.ShloMosaic
open Cert.Proof.In (Arr Arr3 wt)

variable (x0 : Arr 256 2048) (x1 x2 x3 : Arr 1 2048) (x4 : Arr3 8 2048 512)

/-- The modulated context. -/
def hc (i : Fin 256) (d : Fin 2048) : EReal := Ctx.xh x0 i d * x1 (ix2 0 d) * (1 + x2 (ix2 0 d)) + x3 (ix2 0 d)

/-- Its product with the scanned branch's columns of the weights. -/
def uc (i : Fin 256) (n : Fin 1024) : EReal := ∑ k : Fin 2048, hc x0 x1 x2 x3 i k * wt x4 k ⟨1024 + n.val, by omega⟩

namespace Ref

open Cert.ProjReferenceIdeal Cert.ProjReferenceIdeal.Gen Cert.ProjReferenceIdeal.Value Cert.ProjReferenceIdeal.Read
open Idealize.ShloMosaic.TcCoe

theorem r2 (d : Fin 2048) (n : Fin 4096) : val_main_v2 (F := Ideal) x4 (ix2 d n) = wt x4 d n := by
  unfold wt
  pointwise [val_main_v2, val_main_v1, val_main_v0]

theorem r21 (d : Fin 2048) (n : Fin 1024) : val_main_v21 (F := Ideal) x4 (ix2 d n) = wt x4 d ⟨1024 + n.val, by omega⟩ := by
  rw [← r2]
  pointwise [val_main_v21]

theorem r12 (i : Fin 256) (d : Fin 2048) : val_main_v12 (F := Ideal) x0 (ix2 i d) = Ctx.xh x0 i d := by
  unfold Ctx.xh
  pointwise [val_main_v12, val_main_v11, val_main_v10, val_main_v9, val_main_v8, val_main_v7, val_main_v6, val_main_v5, val_main_v4, val_main_v3, val_main_cst, val_main_cst_0, val_main_cst_1]

theorem r20 (i : Fin 256) (d : Fin 2048) : val_main_v20 (F := Ideal) x0 x1 x2 x3 (ix2 i d) = hc x0 x1 x2 x3 i d := by
  unfold hc
  rw [← r12]
  pointwise [val_main_v20, val_main_v19, val_main_v18, val_main_v17, val_main_v16, val_main_v15, val_main_v14, val_main_v13, val_main_cst_2]

theorem r23 (i : Fin 256) (d : Fin 2048) : val_main_v23 (F := Ideal) x0 x1 x2 x3 (ix2 i d) = hc x0 x1 x2 x3 i d := by
  rw [← r20]
  pointwise [val_main_v23]

theorem r22 (i : Fin 256) (n : Fin 1024) : val_main_v22 (F := Ideal) x0 x1 x2 x3 x4 (ix2 i n) = uc x0 x1 x2 x3 x4 i n := by
  unfold uc
  simp only [← r20, ← r21]
  pointwise [val_main_v22]

end Ref

end Cert.Proof.Proj

end
-- ==== Proof.Proj.Alg.lean ====
/- The context's input projection leaves the arrays of the reference's lines. -/
module

public import proofs.«01_k».proof.Defs
public import proofs.«01_k».proof.Proof.Gen.ProjKernelIdeal.Value
public import Idealize.ShloMosaic.Lib.Pipeline.ValueKit
public import Idealize.ShloMosaic.Lib.VecWindow
public import Idealize.ShloMosaic.Lib.Pipeline.ReadBack
public import proofs.«01_k».proof.Proof.Proj.Ref
public import proofs.«01_k».proof.Proof.In.Final

@[expose] public section

set_option maxRecDepth 16384

noncomputable section

namespace Cert.Proof.Proj

open Cert.ProjKernelIdeal Cert.ProjKernelIdeal.Gen
open Idealize.ShloMosaic Idealize.SL.Sem
open Cert.Proof.In (Arr Arr3 wt at_y)

variable (x0 : Arr 256 2048) (x1 x2 x3 : Arr 1 2048) (x4 : Arr3 8 2048 512)

theorem k1 (i : Fin 256) (d : Fin 2048) : k0_pay1 (F := Ideal) x0 x1 x2 x3 (ix2 i d) = hc x0 x1 x2 x3 i d := by
  unfold hc Ctx.xh
  pointwise [k0_pay1]

theorem k2 (s : Arr3 1 2048 512) (i : Fin 256) (l : Fin 512) :
    k0_pay2 (F := Ideal) x0 x1 x2 x3 s (ix2 i l) = ∑ k : Fin 2048, hc x0 x1 x2 x3 i k * s (ix3 0 k l) := by
  simp only [← k1]
  pointwise [k0_pay2]

theorem k3 (s : Arr3 1 2048 512) (i : Fin 256) (l : Fin 512) :
    k0_pay3 (F := Ideal) x0 x1 x2 x3 s (ix2 i l) = ∑ k : Fin 2048, hc x0 x1 x2 x3 i k * s (ix3 0 k l) := by
  simp only [← k1]
  pointwise [k0_pay3]

theorem s2_at (d : Fin 2048) (l : Fin 512) : View.ld (Val := Elt Ideal) (e' := .bf16) x4 r0_2 (ix3 0 d l) = x4 (ix3 2 d l) := by
  pointwise [r0_2]

theorem s3_at (d : Fin 2048) (l : Fin 512) : View.ld (Val := Elt Ideal) (e' := .bf16) x4 r0_4 (ix3 0 d l) = x4 (ix3 3 d l) := by
  pointwise [r0_4]

/-- The product as an array. -/
def prod : Arr 256 1024 := fun y => uc x0 x1 x2 x3 x4 (y (0 : Fin 2)) (y (1 : Fin 2))

/-- A half of the columns is the product's at those columns. -/
theorem half (j o : ℕ) (hj : j < 8) (ho : 1024 + o = j * 512) (hb : o + 512 ≤ 1024) (inb : ∀ a, (![0, o] : Fin 2 → Nat) a + (![256, 512] : Fin 2 → Nat) a ≤ S256x1024.size a)
    (p : Arr 256 512) (s : Arr3 1 2048 512) (hs : ∀ d l, s (ix3 0 d l) = x4 (ix3 ⟨j, hj⟩ d l))
    (hp : ∀ (i : Fin 256) (l : Fin 512), p (ix2 i l) = ∑ k : Fin 2048, hc x0 x1 x2 x3 i k * s (ix3 0 k l))
    (x : (Rect.unit (s := S256x1024) ![0, o] ![256, 512] inb).shape.Idx) :
    p x = prod x0 x1 x2 x3 x4 ((Rect.unit (s := S256x1024) ![0, o] ![256, 512] inb).emb x) := by
  obtain ⟨a, l, rfl⟩ : ∃ (a : Fin 256) (l : Fin 512), x = ix2 a l := ⟨x (0 : Fin 2), x (1 : Fin 2), eq_ix2 x⟩
  have e : (Rect.unit (s := S256x1024) ![0, o] ![256, 512] inb).emb (ix2 a l) = ix2 a ⟨o + l.val, by omega⟩ := by
    funext q
    match q with
    | ⟨0, _⟩ => exact Fin.ext (by show 0 + 1 * a.val = a.val; omega)
    | ⟨1, _⟩ => exact Fin.ext (by show o + 1 * l.val = o + l.val; omega)
  rw [e, hp]
  show _ = uc x0 x1 x2 x3 x4 a ⟨o + l.val, by omega⟩
  unfold uc
  refine Finset.sum_congr rfl fun k _ => congrArg (hc x0 x1 x2 x3 a k * ·) ((hs k l).trans ?_)
  unfold wt
  exact congrArg₂ (fun p q => x4 (ix3 p k q)) (Fin.ext (by show j = (1024 + (o + l.val)) / 512; omega)) (Fin.ext (by show l.val = (1024 + (o + l.val)) % 512; omega))

theorem pcons (G : S256x1024.Idx → Elt Ideal .f32) (r : Rect S256x1024) (v : r.shape.Idx → Elt Ideal .f32) (L : List (View.Piece (Elt Ideal) S256x1024 .f32))
    (h : ∀ x, v x = G (r.emb x)) (hL : View.PiecesOf G L) : View.PiecesOf G (⟨r, v⟩ :: L) := ⟨h, hL⟩

theorem g5 (y : S256x1024.Idx) : Cert.ProjKernelIdeal.Value.G5 (F := Ideal) x0 x1 x2 x3 x4 y = prod x0 x1 x2 x3 x4 y := by
  unfold Cert.ProjKernelIdeal.Value.G5
  refine View.canon_apply_of_pieces (Val := Elt Ideal) (prod x0 x1 x2 x3 x4) _ (View.PiecesOf.mem ?_) y (cover0_5 _ _ y)
  refine pcons _ _ _ _ ?_ ?_
  · exact half x0 x1 x2 x3 x4 3 512 (by norm_num) rfl (by norm_num) _ _ _ (s3_at x4) (k3 x0 x1 x2 x3 _)
  refine pcons _ _ _ _ ?_ ?_
  · exact half x0 x1 x2 x3 x4 2 0 (by norm_num) rfl (by norm_num) _ _ _ (s2_at x4) (k2 x0 x1 x2 x3 _)
  trivial

theorem algebraic : Cert.algebraic_ProjKernelIdeal_ProjReferenceIdeal := by
  intro m g m' g' _ hagree
  refine ⟨_, _, Cert.ProjKernelIdeal.Value.run m g, ?_⟩
  refine (θ_run Cert.ProjReferenceIdeal.defs _ _).mono (fun r h c => ?_) (Cert.ProjReferenceIdeal.Value.run m' g')
  obtain ⟨h0, h1, ha⟩ := h c
  obtain ⟨e0, e1, e2, e3, e4⟩ := hagree c
  replace h0 := h0.trans (Cert.ProjReferenceIdeal.Read.val_main_v22_eq _ _ _ _ _)
  replace h1 := h1.trans (Cert.ProjReferenceIdeal.Read.val_main_v23_eq _ _ _ _)
  rw [e0, e1, e2, e3, e4] at h0
  rw [e0, e1, e2, e3] at h1
  refine ⟨h0.trans (funext fun y => ?_), h1.trans (funext fun y => ?_), ha⟩
  · rw [g5]
    obtain ⟨a, b, rfl⟩ := at_y y
    exact Ref.r22 _ _ _ _ _ a b
  · obtain ⟨a, b, rfl⟩ := at_y y
    exact (Ref.r23 _ _ _ _ a b).trans (k1 _ _ _ _ a b).symm

theorem frame_reference : Cert.quiescent_ProjReferenceIdeal := fun m ρ _ =>
  (θ_run Cert.ProjReferenceIdeal.defs _ _).mono
    (fun r h => ⟨fun c => (h c).2.2, sem_eq_zero_of_no_sems (by decide) r.2⟩) (Cert.ProjReferenceIdeal.Value.run m ρ)

end Cert.Proof.Proj

end
-- ==== Proof.Table.Ref.lean ====
/- The modulation's rows, as the reference computes them, at an index. -/
module

public import proofs.«01_k».proof.Proof.Gen.TableReferenceIdeal.Read
public import proofs.«01_k».proof.Proof.Gen.TableReferenceIdeal.Run
public import proofs.«01_k».proof.Proof.Mod.Spec

@[expose] public section

set_option maxRecDepth 16384

noncomputable section

namespace Cert.Proof.Table

open Idealize.ShloMosaic
open Cert.Proof.In (Arr)
open Cert.Proof.Mod (silu call)

variable (x0 : Arr 8 2048) (x1 : Arr 1 2048) (x2 : Arr 2048 768) (x3 : Arr 1 768)

/-- The modulation's row of a conditioning. -/
def line (z : Fin 2048 → EReal) (n : Fin 768) : EReal := (∑ k : Fin 2048, silu (z k) * x2 (ix2 k n)) + x3 (ix2 0 n)

/-- The rows of the conditionings, of the context's, and of nothing. -/
def tab (i : Fin 16) (n : Fin 768) : EReal := line x2 x3 (fun k => call x0 x1 i k) n

/-- A conditioning of zeros gives the bias. -/
theorem line_zero (n : Fin 768) : line x2 x3 (fun _ => 0) n = x3 (ix2 0 n) := by
  unfold line silu
  simp

theorem tab_eq (i : Fin 16) (n : Fin 768) :
    (if h : i.val < 8 then line x2 x3 (fun k => x0 (ix2 ⟨i.val, h⟩ k)) n else if h : i.val - 8 < 1 then line x2 x3 (fun k => x1 (ix2 ⟨i.val - 8, h⟩ k)) n else x3 (ix2 0 n))
      = tab x0 x1 x2 x3 i n := by
  unfold tab call
  by_cases h : i.val < 8
  · simp only [dif_pos h]
  simp only [dif_neg h]
  by_cases h' : i.val = 8
  · simp only [if_pos h']
    rw [dif_pos (by omega)]
    exact congrArg (fun q => line x2 x3 (fun k => x1 (ix2 q k)) n) (Subsingleton.elim _ _)
  · simp only [if_neg h']
    rw [dif_neg (by omega), line_zero]

namespace Ref

open Cert.TableReferenceIdeal Cert.TableReferenceIdeal.Gen Cert.TableReferenceIdeal.Value Cert.TableReferenceIdeal.Read
open Idealize.ShloMosaic.TcCoe

theorem r0 (i : Fin 8) (d : Fin 2048) : val_main_v0 (F := Ideal) x0 (ix2 i d) = silu (x0 (ix2 i d)) := by
  unfold silu
  pointwise [val_main_v0, val_main_call0_v5, val_main_call0_v4, val_main_call0_v3, val_main_call0_v2, val_main_call0_v1, val_main_call0_v0, val_main_call0_cst, val_main_call0_cst_0, Ideal.logistic]

theorem r3 (i : Fin 8) (n : Fin 768) : val_main_v3 (F := Ideal) x0 x2 x3 (ix2 i n) = line x2 x3 (fun k => x0 (ix2 i k)) n := by
  unfold line
  simp only [← r0]
  pointwise [val_main_v3, val_main_v2, val_main_v1]

theorem r4 (i : Fin 1) (d : Fin 2048) : val_main_v4 (F := Ideal) x1 (ix2 i d) = silu (x1 (ix2 i d)) := by
  unfold silu
  pointwise [val_main_v4, val_main_call1_v5, val_main_call1_v4, val_main_call1_v3, val_main_call1_v2, val_main_call1_v1, val_main_call1_v0, val_main_call1_cst, val_main_call1_cst_0, Ideal.logistic]

theorem r6 (i : Fin 1) (n : Fin 768) : val_main_v6 (F := Ideal) x1 x2 x3 (ix2 i n) = line x2 x3 (fun k => x1 (ix2 i k)) n := by
  obtain rfl : i = 0 := Subsingleton.elim _ _
  unfold line
  simp only [← r4]
  pointwise [val_main_v6, val_main_v5]

theorem r8 (i : Fin 16) (n : Fin 768) : val_main_v8 (F := Ideal) x0 x1 x2 x3 (ix2 i n) = tab x0 x1 x2 x3 i n := by
  rw [← tab_eq]
  simp only [← r3, ← r6]
  pointwise [val_main_v8, val_main_v7]

end Ref

end Cert.Proof.Table

end
-- ==== Proof.Table.Alg.lean ====
/- The modulation's call leaves the rows of the reference's lines. -/
module

public import proofs.«01_k».proof.Defs
public import proofs.«01_k».proof.Proof.Gen.TableKernelIdeal.Value
public import proofs.«01_k».proof.Proof.Table.Ref
public import proofs.«01_k».proof.Proof.Mod.Final

@[expose] public section

set_option maxRecDepth 16384

noncomputable section

namespace Cert.Proof.Table

open Cert.TableKernelIdeal Cert.TableKernelIdeal.Gen
open Idealize.ShloMosaic Idealize.ShloMosaic.TcCoe Idealize.SL.Sem
open Idealize.ShloMosaic.Pipeline (Dat)
open Cert.Proof.In (Arr at_y)
open Cert.Proof.Mod (silu call piled zeros stacked stacked_at place_whole)
open Cert.Proof.Out (half_tanh)

variable (m : (ℓ : Loc nD τ sig) → Buf (Elt Ideal) ℓ) (c : Dev nD)

def a0 : Arr 8 2048 := m ((c : Thread nD τ).loc main_arg0)
def a1 : Arr 1 2048 := m ((c : Thread nD τ).loc main_arg1)
def a2 : Arr 2048 768 := m ((c : Thread nD τ).loc main_arg2)
def a3 : Arr 1 768 := m ((c : Thread nD τ).loc main_arg3)

theorem idx_0 : ∀ t : Fin cfg0.N, win0_0.index t = ![0, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0, 0] := (by decide +kernel : ∀ t : Fin grid0.N, _)
theorem idx_3 : ∀ t : Fin cfg0.N, win0_3.index t = ![0, 0] := (by decide +kernel : ∀ t : Fin grid0.N, _)

theorem V_v1 : V m c main_v1 = stacked (a0 m c) (a1 m c) := by
  have e0 : StableHlo.upto hostOps0 (fun b => m (c, b)) 2 (Proc.devRef .tc main_arg0) = m (c, Proc.devRef .tc main_arg0) := by after_reads_simp
  have e1 : StableHlo.upto hostOps0 (fun b => m (c, b)) 2 (Proc.devRef .tc main_arg1) = m (c, Proc.devRef .tc main_arg1) := by after_reads_simp
  have e2 : StableHlo.upto hostOps0 (fun b => m (c, b)) 2 (Proc.devRef .tc main_v0) = zeros := by
    after_reads_simp
    rfl
  show StableHlo.after hostOps0 (fun b => m (c, b)) (Proc.devRef .tc main_v1) = _
  after_reads_simp
  have h := congr (congr (congrArg piled e0) e1) e2
  exact h

theorem blk_0 (t : Fin cfg0.N) (i : Fin 16) (d : Fin 2048) : iblk m c 0 t (ix2 i d) = call (a0 m c) (a1 m c) i d := by
  rw [← stacked_at]
  have e := V_v1 m c
  unfold iblk
  show ((cfg0.win 0).blk t).view.read (Elt Ideal) (V m c main_v1) (ix2 i d) = _
  rw [e]
  generalize stacked (a0 m c) (a1 m c) = z
  blk_point [idx_0 t]
theorem blk_1 (t : Fin cfg0.N) : iblk m c 1 t = a2 m c := by
  funext y
  obtain ⟨a, b, rfl⟩ := at_y (p := 2048) (q := 768) y
  unfold a2
  blk_point [iblk, V, idx_1 t]
theorem blk_2 (t : Fin cfg0.N) : iblk m c 2 t = a3 m c := by
  funext y
  obtain ⟨a, b, rfl⟩ := at_y (p := 1) (q := 768) y
  unfold a3
  blk_point [iblk, V, idx_2 t]

theorem k1 (v : Arr 16 2048) (w : Arr 2048 768) (b : Arr 1 768) (i : Fin 16) (n : Fin 768) :
    k0_pay1 (F := Ideal) v w b (ix2 i n) = line w b (fun k => v (ix2 i k)) n := by
  unfold line silu
  simp only [← half_tanh]
  pointwise [k0_pay1]

theorem out3 (v : Arr 16 2048) (w : Arr 2048 768) (b : Arr 1 768) : out0_3 (F := Ideal) v w b = k0_pay1 (F := Ideal) v w b := by
  unfold out0_3
  frame_out

theorem left3 (t : Fin cfg0.N) (i : Fin 16) (n : Fin 768) :
    out0_3 (F := Ideal) (iblk m c 0 t) (iblk m c 1 t) (iblk m c 2 t) (ix2 i n) = tab (a0 m c) (a1 m c) (a2 m c) (a3 m c) i n := by
  rw [out3, k1, blk_1, blk_2]
  unfold tab
  simp only [blk_0]

theorem final_3 : (dats m 0 c).arrAt 3 cfg0.N = fun x => tab (a0 m c) (a1 m c) (a2 m c) (a3 m c) (x 0) (x 1) := by
  refine (dats m 0 c).arrAt_eq_of_covers 3 _ (by decide +kernel) fun t hf y => ?_
  blk_simp
  rw [after0_3]
  exact place_whole (tab (a0 m c) (a1 m c) (a2 m c) (a3 m c)) _ (left3 m c t) y _ (by blk_simp [idx_3]) (by blk_simp [idx_3])

theorem run (ρ : Dev nD → PrngReg) : θ_run defs (onTc (τ := τ) (main (F := Ideal))) ⟨m, fun _ => 0, ρ⟩ fun r => ∀ c : Dev nD,
      r.2.mem ((c : Thread nD τ).loc main_v2) = (fun x => tab (a0 m c) (a1 m c) (a2 m c) (a3 m c) (x 0) (x 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Cert.TableKernelIdeal.Value.run_blocks m ρ)
  obtain ⟨h0, ha⟩ := h c
  exact ⟨h0.trans (final_3 m c), ha⟩

theorem algebraic : Cert.algebraic_TableKernelIdeal_TableReferenceIdeal := by
  intro m g m' g' _ hagree
  refine ⟨_, run m g, ?_⟩
  refine (θ_run Cert.TableReferenceIdeal.defs _ _).mono (fun r h c => ?_) (Cert.TableReferenceIdeal.Value.run m' g')
  obtain ⟨h0, ha⟩ := h c
  obtain ⟨e0, e1, e2, e3⟩ := hagree c
  replace h0 := h0.trans (Cert.TableReferenceIdeal.Read.val_main_v8_eq _ _ _ _)
  rw [e0, e1, e2, e3] at h0
  refine ⟨h0.trans (funext fun y => ?_), ha⟩
  obtain ⟨a, b, rfl⟩ := at_y y
  exact Ref.r8 _ _ _ _ a b

theorem frame_reference : Cert.quiescent_TableReferenceIdeal := fun m ρ _ =>
  (θ_run Cert.TableReferenceIdeal.defs _ _).mono
    (fun r h => ⟨fun c => (h c).2, sem_eq_zero_of_no_sems (by decide) r.2⟩) (Cert.TableReferenceIdeal.Value.run m ρ)

end Cert.Proof.Table

end
-- ==== Proof.Aglu.Pay.lean ====
/- The optimiser's update of `glu_w`'s arithmetic in the kernel, at an entry. -/
module

public import proofs.«01_k».proof.Proof.Gen.AgluKernelIdeal.Value
public import Idealize.ShloMosaic.Lib.Pipeline.ValueKit
public import proofs.«01_k».proof.Proof.In.Final
public import proofs.«01_k».proof.Proof.Adam.Spec

@[expose] public section

set_option maxRecDepth 16384

noncomputable section

namespace Cert.Proof.Aglu

open Cert.AgluKernelIdeal Cert.AgluKernelIdeal.Gen
open Idealize.ShloMosaic Idealize.ShloMosaic.TcCoe
open Cert.Proof.Adam (mom sec step grad mm vv dd)
open Cert.Proof.In (Arr Arr3)

/-- One partial sum's block. -/
def shard {F : FTy → Type} (w : Vec F S4x1024x256 .bf16) (j : ℕ) (h : ∀ a, (![j, 0, 0] : Fin 3 → Nat) a + S1x1024x256.size a ≤ S4x1024x256.size a) : Vec F S1x1024x256 .bf16 :=
  View.ld w (Rect.unit (s := S4x1024x256) ![j, 0, 0] S1x1024x256.size h)

theorem shard_at (w : Arr3 4 1024 256) (j : Fin 4) (h : ∀ a, (![j.val, 0, 0] : Fin 3 → Nat) a + S1x1024x256.size a ≤ S4x1024x256.size a) (d : Fin 1024) (l : Fin 256) :
    shard (F := Ideal) w j.val h (ix3 0 d l) = w (ix3 j d l) := by
  pointwise [shard]

variable (s0 s1 s2 s3 : Arr3 1 1024 256) (w m v : Arr 1024 256) (a : Fin 1024) (l : Fin 256) (g : EReal)

theorem k2 (x : Fin 4 → EReal) (h0 : s0 (ix3 0 a l) = x 0) (h1 : s1 (ix3 0 a l) = x 1) (h2 : s2 (ix3 0 a l) = x 2) (h3 : s3 (ix3 0 a l) = x 3) :
    k0_pay2 (F := Ideal) s0 s1 s2 s3 (ix2 a l) = ∑ k, x k := by
  rw [Fin.sum_univ_four, ← h0, ← h1, ← h2, ← h3]
  pointwise [k0_pay2]

theorem k3 (hg : k0_pay2 (F := Ideal) s0 s1 s2 s3 (ix2 a l) = g) : k0_pay3 (F := Ideal) s0 s1 s2 s3 m (ix2 a l) = mom g (m (ix2 a l)) := by
  rw [← hg]
  unfold mom
  pointwise [k0_pay3]

theorem k4 (hg : k0_pay2 (F := Ideal) s0 s1 s2 s3 (ix2 a l) = g) : k0_pay4 (F := Ideal) s0 s1 s2 s3 v (ix2 a l) = sec g (v (ix2 a l)) := by
  rw [← hg]
  unfold sec
  pointwise [k0_pay4]

theorem k1 (hg : k0_pay2 (F := Ideal) s0 s1 s2 s3 (ix2 a l) = g) :
    k0_pay1 (F := Ideal) w (k0_pay4 (F := Ideal) s0 s1 s2 s3 v) (k0_pay5 (F := Ideal) s0 s1 s2 s3 m) (Scalar.ofBits .f32 0x3C231ACC#32) (ix2 a l)
      = step g (w (ix2 a l)) (m (ix2 a l)) (v (ix2 a l)) := by
  unfold step
  rw [← k3 s0 s1 s2 s3 m a l g hg, ← k4 s0 s1 s2 s3 v a l g hg]
  pointwise [k0_pay1, k0_pay5]

variable (x0 : Arr3 4 1024 256) (x1 x2 x3 : Arr 1024 256)

theorem g4 : Value.G4 (F := Ideal) x0 x1 x2 x3 (ix2 a l) = grad x0 a l :=
  k2 _ _ _ _ a l (fun k => x0 (ix3 k a l)) (shard_at x0 0 inb_S4x1024x256_S1x1024x256_0_0_0 a l) (shard_at x0 1 inb_S4x1024x256_S1x1024x256_1_0_0 a l)
    (shard_at x0 2 inb_S4x1024x256_S1x1024x256_2_0_0 a l) (shard_at x0 3 inb_S4x1024x256_S1x1024x256_3_0_0 a l)

theorem g6 : Value.G6 (F := Ideal) x0 x1 x2 x3 (ix2 a l) = mm x0 x2 a l := k3 _ _ _ _ x2 a l _ (g4 a l x0 x1 x2 x3)

theorem pay6 : k0_pay6 (F := Ideal) x0 x1 x2 x3 = k0_pay4 (F := Ideal) (shard x0 0 inb_S4x1024x256_S1x1024x256_0_0_0) (shard x0 1 inb_S4x1024x256_S1x1024x256_1_0_0) (shard x0 2 inb_S4x1024x256_S1x1024x256_2_0_0) (shard x0 3 inb_S4x1024x256_S1x1024x256_3_0_0) x3 := by
  unfold k0_pay6 shard
  have h : View.ld (Val := Elt Ideal) (e' := .f32) x3 r0_4 = x3 := by
    funext y
    obtain ⟨a, l, rfl⟩ := Cert.Proof.In.at_y (p := 1024) (q := 256) y
    pointwise [r0_4]
  exact congrArg (k0_pay4 (F := Ideal) _ _ _ _) h

theorem g7 : Value.G7 (F := Ideal) x0 x1 x2 x3 (ix2 a l) = vv x0 x3 a l := by
  unfold Value.G7
  rw [pay6]
  exact k4 _ _ _ _ x3 a l _ (g4 a l x0 x1 x2 x3)

theorem g5 : Value.G5 (F := Ideal) x0 x1 x2 x3 (ix2 a l) = dd x0 x1 x2 x3 a l := by
  unfold Value.G5
  rw [pay6]
  exact k1 _ _ _ _ x1 x2 x3 a l _ (g4 a l x0 x1 x2 x3)

end Cert.Proof.Aglu

end
-- ==== Proof.Aglu.Ref.lean ====
/- The optimiser's update of `glu_w`, as the reference computes it, at an index. -/
module

public import proofs.«01_k».proof.Proof.Gen.AgluReferenceIdeal.Read
public import proofs.«01_k».proof.Proof.Gen.AgluReferenceIdeal.Run
public import proofs.«01_k».proof.Proof.Adam.Spec

@[expose] public section

set_option maxRecDepth 16384

noncomputable section

namespace Cert.Proof.Aglu.Ref

open Cert.AgluReferenceIdeal Cert.AgluReferenceIdeal.Gen Cert.AgluReferenceIdeal.Value Cert.AgluReferenceIdeal.Read
open Idealize.ShloMosaic Idealize.ShloMosaic.TcCoe
open Cert.Proof.Adam (mom sec step grad mm vv dd)
open Cert.Proof.In (Arr Arr3)

variable (x0 : Arr3 4 1024 256) (x1 x2 x3 : Arr 1024 256)

theorem r1 (d : Fin 1024) (l : Fin 256) : val_main_v1 (F := Ideal) x0 (ix2 d l) = grad x0 d l := by
  unfold grad
  pointwise [val_main_v1, val_main_v0, val_main_cst]

theorem r6 (d : Fin 1024) (l : Fin 256) : val_main_v6 (F := Ideal) x0 x2 (ix2 d l) = mm x0 x2 d l := by
  unfold mm mom
  rw [← r1]
  pointwise [val_main_v6, val_main_v5, val_main_v4, val_main_v3, val_main_v2, val_main_cst_0, val_main_cst_1]

theorem r12 (d : Fin 1024) (l : Fin 256) : val_main_v12 (F := Ideal) x0 x3 (ix2 d l) = vv x0 x3 d l := by
  unfold vv sec
  rw [← r1]
  pointwise [val_main_v12, val_main_v11, val_main_v10, val_main_v9, val_main_v8, val_main_v7, val_main_cst_2, val_main_cst_3]

theorem r25 (d : Fin 1024) (l : Fin 256) : val_main_v25 (F := Ideal) x0 x1 x2 x3 (ix2 d l) = dd x0 x1 x2 x3 d l := by
  have h6 := r6 x0 x2 d l
  have h12 := r12 x0 x3 d l
  unfold mm at h6
  unfold vv at h12
  unfold dd step
  rw [← h6, ← h12]
  pointwise [val_main_v25, val_main_v24, val_main_v23, val_main_v22, val_main_v21, val_main_v20, val_main_v19, val_main_v18, val_main_v17, val_main_v16, val_main_v15,
    val_main_v14, val_main_v13, val_main_cst_4, val_main_cst_5, val_main_cst_6, val_main_cst_7, val_main_cst_8]

end Cert.Proof.Aglu.Ref

end
-- ==== Proof.Aglu.Alg.lean ====
/- The optimiser's update of `glu_w` leaves the arrays of the reference's lines. -/
module

public import proofs.«01_k».proof.Defs
public import proofs.«01_k».proof.Proof.Aglu.Pay
public import proofs.«01_k».proof.Proof.In.Final
public import proofs.«01_k».proof.Proof.Aglu.Ref

@[expose] public section

set_option maxRecDepth 16384

noncomputable section

namespace Cert.Proof.Aglu

open Idealize.ShloMosaic Idealize.SL.Sem
open Cert.Proof.In (at_y)

theorem algebraic : Cert.algebraic_AgluKernelIdeal_AgluReferenceIdeal := by
  intro m g m' g' _ hagree
  refine ⟨_, _, _, _, Cert.AgluKernelIdeal.Value.run m g, ?_⟩
  refine (θ_run Cert.AgluReferenceIdeal.defs _ _).mono (fun r h c => ?_) (Cert.AgluReferenceIdeal.Value.run m' g')
  obtain ⟨h0, h1, h2, h3, ha⟩ := h c
  obtain ⟨e0, e1, e2, e3⟩ := hagree c
  replace h0 := h0.trans (Cert.AgluReferenceIdeal.Read.val_main_v1_eq _)
  replace h1 := h1.trans (Cert.AgluReferenceIdeal.Read.val_main_v25_eq _ _ _ _)
  replace h2 := h2.trans (Cert.AgluReferenceIdeal.Read.val_main_v6_eq _ _)
  replace h3 := h3.trans (Cert.AgluReferenceIdeal.Read.val_main_v12_eq _ _)
  rw [e0] at h0
  rw [e0, e1, e2, e3] at h1
  rw [e0, e2] at h2
  rw [e0, e3] at h3
  refine ⟨h0.trans (funext fun y => ?_), h1.trans (funext fun y => ?_), h2.trans (funext fun y => ?_), h3.trans (funext fun y => ?_), ha⟩
  · obtain ⟨a, b, rfl⟩ := at_y y
    exact (Ref.r1 _ a b).trans (g4 a b _ _ _ _).symm
  · obtain ⟨a, b, rfl⟩ := at_y y
    exact (Ref.r25 _ _ _ _ a b).trans (g5 a b _ _ _ _).symm
  · obtain ⟨a, b, rfl⟩ := at_y y
    exact (Ref.r6 _ _ a b).trans (g6 a b _ _ _ _).symm
  · obtain ⟨a, b, rfl⟩ := at_y y
    exact (Ref.r12 _ _ a b).trans (g7 a b _ _ _ _).symm

theorem frame_reference : Cert.quiescent_AgluReferenceIdeal := fun m ρ _ =>
  (θ_run Cert.AgluReferenceIdeal.defs _ _).mono
    (fun r h => ⟨fun c => (h c).2.2.2.2, sem_eq_zero_of_no_sems (by decide) r.2⟩) (Cert.AgluReferenceIdeal.Value.run m ρ)

end Cert.Proof.Aglu

end
-- ==== Proof.Aout.Pay.lean ====
/- The optimiser's update of `out_w`'s arithmetic in the kernel, at an entry. -/
module

public import proofs.«01_k».proof.Proof.Gen.AoutKernelIdeal.Frame
public import Idealize.ShloMosaic.Lib.Pipeline.ValueKit
public import proofs.«01_k».proof.Proof.Adam.Spec

@[expose] public section

set_option maxRecDepth 16384

noncomputable section

namespace Cert.Proof.Aout

open Cert.AoutKernelIdeal Cert.AoutKernelIdeal.Gen
open Idealize.ShloMosaic Idealize.ShloMosaic.TcCoe
open Cert.Proof.Adam (mom sec step grad mm vv dd)
open Cert.Proof.In (Arr Arr3)

/-- One partial sum's block. -/
def shard {F : FTy → Type} (w : Vec F S4x128x2048 .bf16) (j : ℕ) (h : ∀ a, (![j, 0, 0] : Fin 3 → Nat) a + S1x128x2048.size a ≤ S4x128x2048.size a) : Vec F S1x128x2048 .bf16 :=
  View.ld w (Rect.unit (s := S4x128x2048) ![j, 0, 0] S1x128x2048.size h)

theorem shard_at (w : Arr3 4 128 2048) (j : Fin 4) (h : ∀ a, (![j.val, 0, 0] : Fin 3 → Nat) a + S1x128x2048.size a ≤ S4x128x2048.size a) (d : Fin 128) (l : Fin 2048) :
    shard (F := Ideal) w j.val h (ix3 0 d l) = w (ix3 j d l) := by
  pointwise [shard]

variable (s0 s1 s2 s3 : Arr3 1 128 2048) (w m v : Arr 128 2048) (a : Fin 128) (l : Fin 2048) (g : EReal)

theorem k2 (x : Fin 4 → EReal) (h0 : s0 (ix3 0 a l) = x 0) (h1 : s1 (ix3 0 a l) = x 1) (h2 : s2 (ix3 0 a l) = x 2) (h3 : s3 (ix3 0 a l) = x 3) :
    k0_pay2 (F := Ideal) s0 s1 s2 s3 (ix2 a l) = ∑ k, x k := by
  rw [Fin.sum_univ_four, ← h0, ← h1, ← h2, ← h3]
  pointwise [k0_pay2]

theorem k3 (hg : k0_pay2 (F := Ideal) s0 s1 s2 s3 (ix2 a l) = g) : k0_pay3 (F := Ideal) s0 s1 s2 s3 m (ix2 a l) = mom g (m (ix2 a l)) := by
  rw [← hg]
  unfold mom
  pointwise [k0_pay3]

theorem k4 (hg : k0_pay2 (F := Ideal) s0 s1 s2 s3 (ix2 a l) = g) : k0_pay4 (F := Ideal) s0 s1 s2 s3 v (ix2 a l) = sec g (v (ix2 a l)) := by
  rw [← hg]
  unfold sec
  pointwise [k0_pay4]

theorem k1 (hg : k0_pay2 (F := Ideal) s0 s1 s2 s3 (ix2 a l) = g) :
    k0_pay1 (F := Ideal) w (k0_pay4 (F := Ideal) s0 s1 s2 s3 v) (k0_pay5 (F := Ideal) s0 s1 s2 s3 m) (Scalar.ofBits .f32 0x3C231ACC#32) (ix2 a l)
      = step g (w (ix2 a l)) (m (ix2 a l)) (v (ix2 a l)) := by
  unfold step
  rw [← k3 s0 s1 s2 s3 m a l g hg, ← k4 s0 s1 s2 s3 v a l g hg]
  pointwise [k0_pay1, k0_pay5]

end Cert.Proof.Aout

end
-- ==== Proof.Aout.Final.lean ====
/- What the optimiser's update of `out_w` leaves in its result arrays. -/
module

public import proofs.«01_k».proof.Proof.Gen.AoutKernelIdeal.Value
public import proofs.«01_k».proof.Proof.Aout.Pay
public import proofs.«01_k».proof.Proof.Adam.Final

@[expose] public section

set_option maxRecDepth 16384

noncomputable section

namespace Cert.Proof.Aout

open Cert.AoutKernelIdeal Cert.AoutKernelIdeal.Gen
open Idealize.ShloMosaic Idealize.ShloMosaic.TcCoe
open Idealize.ShloMosaic.Pipeline (Dat)
open Cert.Proof.Adam (mom sec step grad mm vv dd place_rows)
open Cert.Proof.In (Arr Arr3 at_y)

variable (m : (ℓ : Loc nD τ sig) → Buf (Elt Ideal) ℓ) (c : Dev nD)

def a0 : Arr3 4 256 2048 := m ((c : Thread nD τ).loc main_arg0)
def a1 : Arr 256 2048 := m ((c : Thread nD τ).loc main_arg1)
def a2 : Arr 256 2048 := m ((c : Thread nD τ).loc main_arg2)
def a3 : Arr 256 2048 := m ((c : Thread nD τ).loc main_arg3)

theorem idx_0 : ∀ t : Fin cfg0.N, win0_0.index t = ![0, t.val, 0] := (by decide +kernel : ∀ t : Fin grid0.N, _)
theorem idx_1 : ∀ t : Fin cfg0.N, win0_1.index t = ![t.val, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![t.val, 0] := (by decide +kernel : ∀ t : Fin grid0.N, _)
theorem idx_4 : ∀ t : Fin cfg0.N, win0_4.index t = ![t.val, 0] := (by decide +kernel : ∀ t : Fin grid0.N, _)
theorem idx_5 : ∀ t : Fin cfg0.N, win0_5.index t = ![t.val, 0] := (by decide +kernel : ∀ t : Fin grid0.N, _)
theorem idx_6 : ∀ t : Fin cfg0.N, win0_6.index t = ![t.val, 0] := (by decide +kernel : ∀ t : Fin grid0.N, _)
theorem idx_7 : ∀ t : Fin cfg0.N, win0_7.index t = ![t.val, 0] := (by decide +kernel : ∀ t : Fin grid0.N, _)

theorem t_lt (t : Fin cfg0.N) : t.val < 2 := by
  have h : cfg0.N = 2 := N_0
  omega

/-- The array's row that a block's row is. -/
def row (t : Fin cfg0.N) (a : Fin 128) : Fin 256 := ⟨t.val * 128 + a.val, by have := t_lt t; omega⟩

theorem blk_0 (t : Fin cfg0.N) (k : Fin 4) (a : Fin 128) (l : Fin 2048) : iblk m c 0 t (ix3 k a l) = a0 m c (ix3 k (row t a) l) := by
  unfold a0 row
  blk_point [iblk, V, idx_0 t]
theorem blk_1 (t : Fin cfg0.N) (a : Fin 128) (l : Fin 2048) : iblk m c 1 t (ix2 a l) = a1 m c (ix2 (row t a) l) := by
  unfold a1 row
  blk_point [iblk, V, idx_1 t]
theorem blk_2 (t : Fin cfg0.N) (a : Fin 128) (l : Fin 2048) : iblk m c 2 t (ix2 a l) = a2 m c (ix2 (row t a) l) := by
  unfold a2 row
  blk_point [iblk, V, idx_2 t]
theorem blk_3 (t : Fin cfg0.N) (a : Fin 128) (l : Fin 2048) : iblk m c 3 t (ix2 a l) = a3 m c (ix2 (row t a) l) := by
  unfold a3 row
  blk_point [iblk, V, idx_3 t]

section Out
variable (w : Vec Ideal S4x128x2048 .bf16) (x1 x2 x3 : Arr 128 2048)

theorem out4 : out0_4 (F := Ideal) w x1 x2 x3
    = k0_pay2 (F := Ideal) (shard w 0 inb_S4x128x2048_S1x128x2048_0_0_0) (shard w 1 inb_S4x128x2048_S1x128x2048_1_0_0) (shard w 2 inb_S4x128x2048_S1x128x2048_2_0_0) (shard w 3 inb_S4x128x2048_S1x128x2048_3_0_0) := by
  unfold out0_4 shard
  frame_out
theorem out5 : out0_5 (F := Ideal) w x1 x2 x3
    = k0_pay1 (F := Ideal) x1
        (k0_pay4 (F := Ideal) (shard w 0 inb_S4x128x2048_S1x128x2048_0_0_0) (shard w 1 inb_S4x128x2048_S1x128x2048_1_0_0) (shard w 2 inb_S4x128x2048_S1x128x2048_2_0_0) (shard w 3 inb_S4x128x2048_S1x128x2048_3_0_0) x3)
        (k0_pay5 (F := Ideal) (shard w 0 inb_S4x128x2048_S1x128x2048_0_0_0) (shard w 1 inb_S4x128x2048_S1x128x2048_1_0_0) (shard w 2 inb_S4x128x2048_S1x128x2048_2_0_0) (shard w 3 inb_S4x128x2048_S1x128x2048_3_0_0) x2)
        (Scalar.ofBits .f32 0x3C231ACC#32) := by
  unfold out0_5 k0_pay6 shard
  frame_out
theorem out6 : out0_6 (F := Ideal) w x1 x2 x3
    = k0_pay3 (F := Ideal) (shard w 0 inb_S4x128x2048_S1x128x2048_0_0_0) (shard w 1 inb_S4x128x2048_S1x128x2048_1_0_0) (shard w 2 inb_S4x128x2048_S1x128x2048_2_0_0) (shard w 3 inb_S4x128x2048_S1x128x2048_3_0_0) x2 := by
  unfold out0_6 shard
  frame_out
theorem out7 : out0_7 (F := Ideal) w x1 x2 x3
    = k0_pay4 (F := Ideal) (shard w 0 inb_S4x128x2048_S1x128x2048_0_0_0) (shard w 1 inb_S4x128x2048_S1x128x2048_1_0_0) (shard w 2 inb_S4x128x2048_S1x128x2048_2_0_0) (shard w 3 inb_S4x128x2048_S1x128x2048_3_0_0) x3 := by
  unfold out0_7 k0_pay6 shard
  frame_out

end Out

theorem pg (t : Fin cfg0.N) (a : Fin 128) (l : Fin 2048) :
    k0_pay2 (F := Ideal) (shard (iblk m c 0 t) 0 inb_S4x128x2048_S1x128x2048_0_0_0) (shard (iblk m c 0 t) 1 inb_S4x128x2048_S1x128x2048_1_0_0)
      (shard (iblk m c 0 t) 2 inb_S4x128x2048_S1x128x2048_2_0_0) (shard (iblk m c 0 t) 3 inb_S4x128x2048_S1x128x2048_3_0_0) (ix2 a l) = grad (a0 m c) (row t a) l :=
  k2 _ _ _ _ a l (fun k => a0 m c (ix3 k (row t a) l)) ((shard_at _ 0 _ a l).trans (blk_0 m c t 0 a l)) ((shard_at _ 1 _ a l).trans (blk_0 m c t 1 a l))
    ((shard_at _ 2 _ a l).trans (blk_0 m c t 2 a l)) ((shard_at _ 3 _ a l).trans (blk_0 m c t 3 a l))

theorem left4 (t : Fin cfg0.N) (a : Fin 128) (l : Fin 2048) :
    out0_4 (F := Ideal) (iblk m c 0 t) (iblk m c 1 t) (iblk m c 2 t) (iblk m c 3 t) (ix2 a l) = grad (a0 m c) (row t a) l := by
  rw [out4, pg]
theorem left5 (t : Fin cfg0.N) (a : Fin 128) (l : Fin 2048) :
    out0_5 (F := Ideal) (iblk m c 0 t) (iblk m c 1 t) (iblk m c 2 t) (iblk m c 3 t) (ix2 a l) = dd (a0 m c) (a1 m c) (a2 m c) (a3 m c) (row t a) l := by
  rw [out5, k1 _ _ _ _ _ _ _ _ _ _ (pg m c t a l), blk_1, blk_2, blk_3]
  rfl
theorem left6 (t : Fin cfg0.N) (a : Fin 128) (l : Fin 2048) :
    out0_6 (F := Ideal) (iblk m c 0 t) (iblk m c 1 t) (iblk m c 2 t) (iblk m c 3 t) (ix2 a l) = mm (a0 m c) (a2 m c) (row t a) l := by
  rw [out6, k3 _ _ _ _ _ _ _ _ (pg m c t a l), blk_2]
  rfl
theorem left7 (t : Fin cfg0.N) (a : Fin 128) (l : Fin 2048) :
    out0_7 (F := Ideal) (iblk m c 0 t) (iblk m c 1 t) (iblk m c 2 t) (iblk m c 3 t) (ix2 a l) = vv (a0 m c) (a3 m c) (row t a) l := by
  rw [out7, k4 _ _ _ _ _ _ _ _ (pg m c t a l), blk_3]
  rfl

theorem final_4 : (dats m 0 c).arrAt 4 cfg0.N = fun x => grad (a0 m c) (x 0) (x 1) := by
  refine (dats m 0 c).arrAt_eq_of_covers 4 _ (by decide +kernel) fun t hf y => ?_
  blk_simp
  rw [after0_4]
  exact place_rows (grad (a0 m c)) _ (row t) (left4 m c t) y _ (fun a => rfl) (by blk_simp [idx_4]) (by blk_simp [idx_4])
theorem final_5 : (dats m 0 c).arrAt 5 cfg0.N = fun x => dd (a0 m c) (a1 m c) (a2 m c) (a3 m c) (x 0) (x 1) := by
  refine (dats m 0 c).arrAt_eq_of_covers 5 _ (by decide +kernel) fun t hf y => ?_
  blk_simp
  rw [after0_5]
  exact place_rows (dd (a0 m c) (a1 m c) (a2 m c) (a3 m c)) _ (row t) (left5 m c t) y _ (fun a => rfl) (by blk_simp [idx_5]) (by blk_simp [idx_5])
theorem final_6 : (dats m 0 c).arrAt 6 cfg0.N = fun x => mm (a0 m c) (a2 m c) (x 0) (x 1) := by
  refine (dats m 0 c).arrAt_eq_of_covers 6 _ (by decide +kernel) fun t hf y => ?_
  blk_simp
  rw [after0_6]
  exact place_rows (mm (a0 m c) (a2 m c)) _ (row t) (left6 m c t) y _ (fun a => rfl) (by blk_simp [idx_6]) (by blk_simp [idx_6])
theorem final_7 : (dats m 0 c).arrAt 7 cfg0.N = fun x => vv (a0 m c) (a3 m c) (x 0) (x 1) := by
  refine (dats m 0 c).arrAt_eq_of_covers 7 _ (by decide +kernel) fun t hf y => ?_
  blk_simp
  rw [after0_7]
  exact place_rows (vv (a0 m c) (a3 m c)) _ (row t) (left7 m c t) y _ (fun a => rfl) (by blk_simp [idx_7]) (by blk_simp [idx_7])

variable (ρ : Dev nD → PrngReg)

theorem run : θ_run defs (onTc (τ := τ) (main (F := Ideal))) ⟨m, fun _ => 0, ρ⟩ fun r => ∀ c : Dev nD,
      r.2.mem ((c : Thread nD τ).loc main_v0_0) = (fun x => grad (a0 m c) (x 0) (x 1))
      ∧ r.2.mem ((c : Thread nD τ).loc main_v0_1) = (fun x => dd (a0 m c) (a1 m c) (a2 m c) (a3 m c) (x 0) (x 1))
      ∧ r.2.mem ((c : Thread nD τ).loc main_v0_2) = (fun x => mm (a0 m c) (a2 m c) (x 0) (x 1))
      ∧ r.2.mem ((c : Thread nD τ).loc main_v0_3) = (fun x => vv (a0 m c) (a3 m c) (x 0) (x 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Cert.AoutKernelIdeal.Value.run_blocks m ρ)
  obtain ⟨h0, h1, h2, h3, ha⟩ := h c
  exact ⟨h0.trans (final_4 m c), h1.trans (final_5 m c), h2.trans (final_6 m c), h3.trans (final_7 m c), ha⟩

end Cert.Proof.Aout

end
-- ==== Proof.Aout.Ref.lean ====
/- The optimiser's update of `out_w`, as the reference computes it, at an index. -/
module

public import proofs.«01_k».proof.Proof.Gen.AoutReferenceIdeal.Read
public import proofs.«01_k».proof.Proof.Gen.AoutReferenceIdeal.Run
public import proofs.«01_k».proof.Proof.Adam.Spec

@[expose] public section

set_option maxRecDepth 16384

noncomputable section

namespace Cert.Proof.Aout.Ref

open Cert.AoutReferenceIdeal Cert.AoutReferenceIdeal.Gen Cert.AoutReferenceIdeal.Value Cert.AoutReferenceIdeal.Read
open Idealize.ShloMosaic Idealize.ShloMosaic.TcCoe
open Cert.Proof.Adam (mom sec step grad mm vv dd)
open Cert.Proof.In (Arr Arr3)

variable (x0 : Arr3 4 256 2048) (x1 x2 x3 : Arr 256 2048)

theorem r1 (d : Fin 256) (l : Fin 2048) : val_main_v1 (F := Ideal) x0 (ix2 d l) = grad x0 d l := by
  unfold grad
  pointwise [val_main_v1, val_main_v0, val_main_cst]

theorem r6 (d : Fin 256) (l : Fin 2048) : val_main_v6 (F := Ideal) x0 x2 (ix2 d l) = mm x0 x2 d l := by
  unfold mm mom
  rw [← r1]
  pointwise [val_main_v6, val_main_v5, val_main_v4, val_main_v3, val_main_v2, val_main_cst_0, val_main_cst_1]

theorem r12 (d : Fin 256) (l : Fin 2048) : val_main_v12 (F := Ideal) x0 x3 (ix2 d l) = vv x0 x3 d l := by
  unfold vv sec
  rw [← r1]
  pointwise [val_main_v12, val_main_v11, val_main_v10, val_main_v9, val_main_v8, val_main_v7, val_main_cst_2, val_main_cst_3]

theorem r25 (d : Fin 256) (l : Fin 2048) : val_main_v25 (F := Ideal) x0 x1 x2 x3 (ix2 d l) = dd x0 x1 x2 x3 d l := by
  have h6 := r6 x0 x2 d l
  have h12 := r12 x0 x3 d l
  unfold mm at h6
  unfold vv at h12
  unfold dd step
  rw [← h6, ← h12]
  pointwise [val_main_v25, val_main_v24, val_main_v23, val_main_v22, val_main_v21, val_main_v20, val_main_v19, val_main_v18, val_main_v17, val_main_v16, val_main_v15,
    val_main_v14, val_main_v13, val_main_cst_4, val_main_cst_5, val_main_cst_6, val_main_cst_7, val_main_cst_8]

end Cert.Proof.Aout.Ref

end
-- ==== Proof.Aout.Alg.lean ====
/- The optimiser's update of `out_w` leaves the arrays of the reference's lines. -/
module

public import proofs.«01_k».proof.Defs
public import proofs.«01_k».proof.Proof.Aout.Final
public import proofs.«01_k».proof.Proof.Aout.Ref

@[expose] public section

set_option maxRecDepth 16384

noncomputable section

namespace Cert.Proof.Aout

open Idealize.ShloMosaic Idealize.SL.Sem
open Cert.Proof.In (at_y)

theorem algebraic : Cert.algebraic_AoutKernelIdeal_AoutReferenceIdeal := by
  intro m g m' g' _ hagree
  refine ⟨_, _, _, _, run m g, ?_⟩
  refine (θ_run Cert.AoutReferenceIdeal.defs _ _).mono (fun r h c => ?_) (Cert.AoutReferenceIdeal.Value.run m' g')
  obtain ⟨h0, h1, h2, h3, ha⟩ := h c
  obtain ⟨e0, e1, e2, e3⟩ := hagree c
  replace h0 := h0.trans (Cert.AoutReferenceIdeal.Read.val_main_v1_eq _)
  replace h1 := h1.trans (Cert.AoutReferenceIdeal.Read.val_main_v25_eq _ _ _ _)
  replace h2 := h2.trans (Cert.AoutReferenceIdeal.Read.val_main_v6_eq _ _)
  replace h3 := h3.trans (Cert.AoutReferenceIdeal.Read.val_main_v12_eq _ _)
  rw [e0] at h0
  rw [e0, e1, e2, e3] at h1
  rw [e0, e2] at h2
  rw [e0, e3] at h3
  refine ⟨h0.trans (funext fun y => ?_), h1.trans (funext fun y => ?_), h2.trans (funext fun y => ?_), h3.trans (funext fun y => ?_), ha⟩
  · obtain ⟨a, b, rfl⟩ := at_y y
    exact Ref.r1 _ a b
  · obtain ⟨a, b, rfl⟩ := at_y y
    exact Ref.r25 _ _ _ _ a b
  · obtain ⟨a, b, rfl⟩ := at_y y
    exact Ref.r6 _ _ a b
  · obtain ⟨a, b, rfl⟩ := at_y y
    exact Ref.r12 _ _ a b

theorem frame_reference : Cert.quiescent_AoutReferenceIdeal := fun m ρ _ =>
  (θ_run Cert.AoutReferenceIdeal.defs _ _).mono
    (fun r h => ⟨fun c => (h c).2.2.2.2, sem_eq_zero_of_no_sems (by decide) r.2⟩) (Cert.AoutReferenceIdeal.Value.run m ρ)

end Cert.Proof.Aout

end
-- ==== Proof.Apool.Pay.lean ====
/- The optimiser's update of `pool_w`'s arithmetic in the kernel, at an entry. -/
module

public import proofs.«01_k».proof.Proof.Gen.ApoolKernelIdeal.Value
public import Idealize.ShloMosaic.Lib.Pipeline.ValueKit
public import proofs.«01_k».proof.Proof.In.Final
public import proofs.«01_k».proof.Proof.Adam.Spec

@[expose] public section

set_option maxRecDepth 16384

noncomputable section

namespace Cert.Proof.Apool

open Cert.ApoolKernelIdeal Cert.ApoolKernelIdeal.Gen
open Idealize.ShloMosaic Idealize.ShloMosaic.TcCoe
open Cert.Proof.Adam (mom sec step grad mm vv dd)
open Cert.Proof.In (Arr Arr3)

/-- One partial sum's block. -/
def shard {F : FTy → Type} (w : Vec F S4x128x256 .bf16) (j : ℕ) (h : ∀ a, (![j, 0, 0] : Fin 3 → Nat) a + S1x128x256.size a ≤ S4x128x256.size a) : Vec F S1x128x256 .bf16 :=
  View.ld w (Rect.unit (s := S4x128x256) ![j, 0, 0] S1x128x256.size h)

theorem shard_at (w : Arr3 4 128 256) (j : Fin 4) (h : ∀ a, (![j.val, 0, 0] : Fin 3 → Nat) a + S1x128x256.size a ≤ S4x128x256.size a) (d : Fin 128) (l : Fin 256) :
    shard (F := Ideal) w j.val h (ix3 0 d l) = w (ix3 j d l) := by
  pointwise [shard]

variable (s0 s1 s2 s3 : Arr3 1 128 256) (w m v : Arr 128 256) (a : Fin 128) (l : Fin 256) (g : EReal)

theorem k2 (x : Fin 4 → EReal) (h0 : s0 (ix3 0 a l) = x 0) (h1 : s1 (ix3 0 a l) = x 1) (h2 : s2 (ix3 0 a l) = x 2) (h3 : s3 (ix3 0 a l) = x 3) :
    k0_pay2 (F := Ideal) s0 s1 s2 s3 (ix2 a l) = ∑ k, x k := by
  rw [Fin.sum_univ_four, ← h0, ← h1, ← h2, ← h3]
  pointwise [k0_pay2]

theorem k3 (hg : k0_pay2 (F := Ideal) s0 s1 s2 s3 (ix2 a l) = g) : k0_pay3 (F := Ideal) s0 s1 s2 s3 m (ix2 a l) = mom g (m (ix2 a l)) := by
  rw [← hg]
  unfold mom
  pointwise [k0_pay3]

theorem k4 (hg : k0_pay2 (F := Ideal) s0 s1 s2 s3 (ix2 a l) = g) : k0_pay4 (F := Ideal) s0 s1 s2 s3 v (ix2 a l) = sec g (v (ix2 a l)) := by
  rw [← hg]
  unfold sec
  pointwise [k0_pay4]

theorem k1 (hg : k0_pay2 (F := Ideal) s0 s1 s2 s3 (ix2 a l) = g) :
    k0_pay1 (F := Ideal) w (k0_pay4 (F := Ideal) s0 s1 s2 s3 v) (k0_pay5 (F := Ideal) s0 s1 s2 s3 m) (Scalar.ofBits .f32 0x3C231ACC#32) (ix2 a l)
      = step g (w (ix2 a l)) (m (ix2 a l)) (v (ix2 a l)) := by
  unfold step
  rw [← k3 s0 s1 s2 s3 m a l g hg, ← k4 s0 s1 s2 s3 v a l g hg]
  pointwise [k0_pay1, k0_pay5]

variable (x0 : Arr3 4 128 256) (x1 x2 x3 : Arr 128 256)

theorem g4 : Value.G4 (F := Ideal) x0 x1 x2 x3 (ix2 a l) = grad x0 a l :=
  k2 _ _ _ _ a l (fun k => x0 (ix3 k a l)) (shard_at x0 0 inb_S4x128x256_S1x128x256_0_0_0 a l) (shard_at x0 1 inb_S4x128x256_S1x128x256_1_0_0 a l)
    (shard_at x0 2 inb_S4x128x256_S1x128x256_2_0_0 a l) (shard_at x0 3 inb_S4x128x256_S1x128x256_3_0_0 a l)

theorem g6 : Value.G6 (F := Ideal) x0 x1 x2 x3 (ix2 a l) = mm x0 x2 a l := k3 _ _ _ _ x2 a l _ (g4 a l x0 x1 x2 x3)

theorem pay6 : k0_pay6 (F := Ideal) x0 x1 x2 x3 = k0_pay4 (F := Ideal) (shard x0 0 inb_S4x128x256_S1x128x256_0_0_0) (shard x0 1 inb_S4x128x256_S1x128x256_1_0_0) (shard x0 2 inb_S4x128x256_S1x128x256_2_0_0) (shard x0 3 inb_S4x128x256_S1x128x256_3_0_0) x3 := by
  unfold k0_pay6 shard
  have h : View.ld (Val := Elt Ideal) (e' := .f32) x3 r0_4 = x3 := by
    funext y
    obtain ⟨a, l, rfl⟩ := Cert.Proof.In.at_y (p := 128) (q := 256) y
    pointwise [r0_4]
  exact congrArg (k0_pay4 (F := Ideal) _ _ _ _) h

theorem g7 : Value.G7 (F := Ideal) x0 x1 x2 x3 (ix2 a l) = vv x0 x3 a l := by
  unfold Value.G7
  rw [pay6]
  exact k4 _ _ _ _ x3 a l _ (g4 a l x0 x1 x2 x3)

theorem g5 : Value.G5 (F := Ideal) x0 x1 x2 x3 (ix2 a l) = dd x0 x1 x2 x3 a l := by
  unfold Value.G5
  rw [pay6]
  exact k1 _ _ _ _ x1 x2 x3 a l _ (g4 a l x0 x1 x2 x3)

end Cert.Proof.Apool

end
-- ==== Proof.Apool.Ref.lean ====
/- The optimiser's update of `pool_w`, as the reference computes it, at an index. -/
module

public import proofs.«01_k».proof.Proof.Gen.ApoolReferenceIdeal.Read
public import proofs.«01_k».proof.Proof.Gen.ApoolReferenceIdeal.Run
public import proofs.«01_k».proof.Proof.Adam.Spec

@[expose] public section

set_option maxRecDepth 16384

noncomputable section

namespace Cert.Proof.Apool.Ref

open Cert.ApoolReferenceIdeal Cert.ApoolReferenceIdeal.Gen Cert.ApoolReferenceIdeal.Value Cert.ApoolReferenceIdeal.Read
open Idealize.ShloMosaic Idealize.ShloMosaic.TcCoe
open Cert.Proof.Adam (mom sec step grad mm vv dd)
open Cert.Proof.In (Arr Arr3)

variable (x0 : Arr3 4 128 256) (x1 x2 x3 : Arr 128 256)

theorem r1 (d : Fin 128) (l : Fin 256) : val_main_v1 (F := Ideal) x0 (ix2 d l) = grad x0 d l := by
  unfold grad
  pointwise [val_main_v1, val_main_v0, val_main_cst]

theorem r6 (d : Fin 128) (l : Fin 256) : val_main_v6 (F := Ideal) x0 x2 (ix2 d l) = mm x0 x2 d l := by
  unfold mm mom
  rw [← r1]
  pointwise [val_main_v6, val_main_v5, val_main_v4, val_main_v3, val_main_v2, val_main_cst_0, val_main_cst_1]

theorem r12 (d : Fin 128) (l : Fin 256) : val_main_v12 (F := Ideal) x0 x3 (ix2 d l) = vv x0 x3 d l := by
  unfold vv sec
  rw [← r1]
  pointwise [val_main_v12, val_main_v11, val_main_v10, val_main_v9, val_main_v8, val_main_v7, val_main_cst_2, val_main_cst_3]

theorem r25 (d : Fin 128) (l : Fin 256) : val_main_v25 (F := Ideal) x0 x1 x2 x3 (ix2 d l) = dd x0 x1 x2 x3 d l := by
  have h6 := r6 x0 x2 d l
  have h12 := r12 x0 x3 d l
  unfold mm at h6
  unfold vv at h12
  unfold dd step
  rw [← h6, ← h12]
  pointwise [val_main_v25, val_main_v24, val_main_v23, val_main_v22, val_main_v21, val_main_v20, val_main_v19, val_main_v18, val_main_v17, val_main_v16, val_main_v15,
    val_main_v14, val_main_v13, val_main_cst_4, val_main_cst_5, val_main_cst_6, val_main_cst_7, val_main_cst_8]

end Cert.Proof.Apool.Ref

end
-- ==== Proof.Apool.Alg.lean ====
/- The optimiser's update of `pool_w` leaves the arrays of the reference's lines. -/
module

public import proofs.«01_k».proof.Defs
public import proofs.«01_k».proof.Proof.Apool.Pay
public import proofs.«01_k».proof.Proof.In.Final
public import proofs.«01_k».proof.Proof.Apool.Ref

@[expose] public section

set_option maxRecDepth 16384

noncomputable section

namespace Cert.Proof.Apool

open Idealize.ShloMosaic Idealize.SL.Sem
open Cert.Proof.In (at_y)

theorem algebraic : Cert.algebraic_ApoolKernelIdeal_ApoolReferenceIdeal := by
  intro m g m' g' _ hagree
  refine ⟨_, _, _, _, Cert.ApoolKernelIdeal.Value.run m g, ?_⟩
  refine (θ_run Cert.ApoolReferenceIdeal.defs _ _).mono (fun r h c => ?_) (Cert.ApoolReferenceIdeal.Value.run m' g')
  obtain ⟨h0, h1, h2, h3, ha⟩ := h c
  obtain ⟨e0, e1, e2, e3⟩ := hagree c
  replace h0 := h0.trans (Cert.ApoolReferenceIdeal.Read.val_main_v1_eq _)
  replace h1 := h1.trans (Cert.ApoolReferenceIdeal.Read.val_main_v25_eq _ _ _ _)
  replace h2 := h2.trans (Cert.ApoolReferenceIdeal.Read.val_main_v6_eq _ _)
  replace h3 := h3.trans (Cert.ApoolReferenceIdeal.Read.val_main_v12_eq _ _)
  rw [e0] at h0
  rw [e0, e1, e2, e3] at h1
  rw [e0, e2] at h2
  rw [e0, e3] at h3
  refine ⟨h0.trans (funext fun y => ?_), h1.trans (funext fun y => ?_), h2.trans (funext fun y => ?_), h3.trans (funext fun y => ?_), ha⟩
  · obtain ⟨a, b, rfl⟩ := at_y y
    exact (Ref.r1 _ a b).trans (g4 a b _ _ _ _).symm
  · obtain ⟨a, b, rfl⟩ := at_y y
    exact (Ref.r25 _ _ _ _ a b).trans (g5 a b _ _ _ _).symm
  · obtain ⟨a, b, rfl⟩ := at_y y
    exact (Ref.r6 _ _ a b).trans (g6 a b _ _ _ _).symm
  · obtain ⟨a, b, rfl⟩ := at_y y
    exact (Ref.r12 _ _ a b).trans (g7 a b _ _ _ _).symm

theorem frame_reference : Cert.quiescent_ApoolReferenceIdeal := fun m ρ _ =>
  (θ_run Cert.ApoolReferenceIdeal.defs _ _).mono
    (fun r h => ⟨fun c => (h c).2.2.2.2, sem_eq_zero_of_no_sems (by decide) r.2⟩) (Cert.ApoolReferenceIdeal.Value.run m ρ)

end Cert.Proof.Apool

end
-- ==== Proof.lean ====
/- The claims: calls of a training step against their forward lines and the derivatives of these. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.InKernel.Frame
public import proofs.«01_k».proof.Proof.Gen.InKernelIdeal.Value
public import proofs.«01_k».proof.Proof.Gen.InReferenceIdeal.Run
public import proofs.«01_k».proof.Proof.Gen.InReferenceIdeal.Read
public import proofs.«01_k».proof.Proof.Gen.GluKernel.Frame
public import proofs.«01_k».proof.Proof.Gen.GluKernelIdeal.Value
public import proofs.«01_k».proof.Proof.Gen.GluReferenceIdeal.Run
public import proofs.«01_k».proof.Proof.Gen.GluReferenceIdeal.Read
public import proofs.«01_k».proof.Proof.Gen.Pre_finite_glu
public import proofs.«01_k».proof.Proof.Gen.OutKernel.Frame
public import proofs.«01_k».proof.Proof.Gen.OutKernelIdeal.Value
public import proofs.«01_k».proof.Proof.Gen.Pre_finite
public import proofs.«01_k».proof.Proof.Gen.OutReferenceIdeal.Run
public import proofs.«01_k».proof.Proof.Gen.OutReferenceIdeal.Read
public import proofs.«01_k».proof.Proof.Scan.Frame
public import proofs.«01_k».proof.Proof.Scan.Same
public import proofs.«01_k».proof.Proof.Scan.Alg
public import proofs.«01_k».proof.Proof.Fwd.Frame
public import proofs.«01_k».proof.Proof.Fwd.Same
public import proofs.«01_k».proof.Proof.Fwd.Alg
public import proofs.«01_k».proof.Proof.Out.Alg
public import proofs.«01_k».proof.Proof.In.Alg
public import proofs.«01_k».proof.Proof.Glu.Alg
public import proofs.«01_k».proof.Proof.Merge.Alg
public import proofs.«01_k».proof.Proof.Ctx.Alg
public import proofs.«01_k».proof.Proof.Mod.Alg
public import proofs.«01_k».proof.Proof.Adam.Alg
public import proofs.«01_k».proof.Proof.Adam.Given
public import proofs.«01_k».proof.Proof.Proj.Alg
public import proofs.«01_k».proof.Proof.Table.Alg
public import proofs.«01_k».proof.Proof.Aglu.Alg
public import proofs.«01_k».proof.Proof.Aout.Alg
public import proofs.«01_k».proof.Proof.Apool.Alg
public import Idealize.ShloMosaic.Adequacy
public import Idealize.ShloMosaic.Init
public import Idealize.ShloMosaic.Lib.Quiescent
public import proofs.«01_k».proof.Proof.Gen.MergeKernelIdeal.Value
public import proofs.«01_k».proof.Proof.Gen.MergeKernel.Frame
public import proofs.«01_k».proof.Proof.Gen.MergeReferenceIdeal.Run
public import proofs.«01_k».proof.Proof.Gen.MergeReferenceIdeal.Read
public import proofs.«01_k».proof.Proof.Gen.CtxKernelIdeal.Value
public import proofs.«01_k».proof.Proof.Gen.CtxKernel.Frame
public import proofs.«01_k».proof.Proof.Gen.CtxReferenceIdeal.Run
public import proofs.«01_k».proof.Proof.Gen.CtxReferenceIdeal.Read
public import proofs.«01_k».proof.Proof.Gen.ModKernelIdeal.Value
public import proofs.«01_k».proof.Proof.Gen.ModKernel.Frame
public import proofs.«01_k».proof.Proof.Gen.ModReferenceIdeal.Run
public import proofs.«01_k».proof.Proof.Gen.ModReferenceIdeal.Read
public import proofs.«01_k».proof.Proof.Gen.AdamKernelIdeal.Value
public import proofs.«01_k».proof.Proof.Gen.AdamKernel.Frame
public import proofs.«01_k».proof.Proof.Gen.AdamReferenceIdeal.Run
public import proofs.«01_k».proof.Proof.Gen.AdamReferenceIdeal.Read
public import proofs.«01_k».proof.Proof.Gen.ProjKernelIdeal.Value
public import proofs.«01_k».proof.Proof.Gen.ProjKernel.Frame
public import proofs.«01_k».proof.Proof.Gen.ProjReferenceIdeal.Run
public import proofs.«01_k».proof.Proof.Gen.ProjReferenceIdeal.Read
public import proofs.«01_k».proof.Proof.Gen.TableKernelIdeal.Value
public import proofs.«01_k».proof.Proof.Gen.TableKernel.Frame
public import proofs.«01_k».proof.Proof.Gen.TableReferenceIdeal.Run
public import proofs.«01_k».proof.Proof.Gen.TableReferenceIdeal.Read
public import proofs.«01_k».proof.Proof.Gen.AgluKernelIdeal.Value
public import proofs.«01_k».proof.Proof.Gen.AgluKernel.Frame
public import proofs.«01_k».proof.Proof.Gen.AgluReferenceIdeal.Run
public import proofs.«01_k».proof.Proof.Gen.AgluReferenceIdeal.Read
public import proofs.«01_k».proof.Proof.Gen.AoutKernelIdeal.Value
public import proofs.«01_k».proof.Proof.Gen.AoutKernel.Frame
public import proofs.«01_k».proof.Proof.Gen.AoutReferenceIdeal.Run
public import proofs.«01_k».proof.Proof.Gen.AoutReferenceIdeal.Read
public import proofs.«01_k».proof.Proof.Gen.ApoolKernelIdeal.Value
public import proofs.«01_k».proof.Proof.Gen.ApoolKernel.Frame
public import proofs.«01_k».proof.Proof.Gen.ApoolReferenceIdeal.Run
public import proofs.«01_k».proof.Proof.Gen.ApoolReferenceIdeal.Read
public import proofs.«01_k».proof.Proof.Gen.AadaKernelIdeal.Value
public import proofs.«01_k».proof.Proof.Gen.AadaKernel.Frame
public import proofs.«01_k».proof.Proof.Gen.AadaReferenceIdeal.Run
public import proofs.«01_k».proof.Proof.Gen.AadaReferenceIdeal.Read
public import proofs.«01_k».proof.Proof.Gen.AbKernelIdeal.Value
public import proofs.«01_k».proof.Proof.Gen.AbKernel.Frame
public import proofs.«01_k».proof.Proof.Gen.AbReferenceIdeal.Run
public import proofs.«01_k».proof.Proof.Gen.AbReferenceIdeal.Read
public import proofs.«01_k».proof.Proof.Gen.AcKernelIdeal.Value
public import proofs.«01_k».proof.Proof.Gen.AcKernel.Frame
public import proofs.«01_k».proof.Proof.Gen.AcReferenceIdeal.Run
public import proofs.«01_k».proof.Proof.Gen.AcReferenceIdeal.Read
public import proofs.«01_k».proof.Proof.Gen.Pre_finite_mod
public import proofs.«01_k».proof.Proof.Gen.FwdKernel
public import proofs.«01_k».proof.Proof.Gen.FwdKernel.Skeleton
public import proofs.«01_k».proof.Proof.Gen.FwdKernelIdeal
public import proofs.«01_k».proof.Proof.Gen.FwdKernelIdeal.Skeleton
public import proofs.«01_k».proof.Proof.Gen.FwdReferenceIdeal
public import proofs.«01_k».proof.Proof.Gen.FwdReferenceIdeal.Run

@[expose] public section

noncomputable section

namespace Cert.Proof

open Idealize.ShloMosaic Idealize.SL.Sem

theorem frame_kernelIdeal : Cert.quiescent_KernelIdeal := fun m ρ _ => Cert.Proof.Scan.frame_any m ρ

theorem frame_reference : Cert.quiescent_ReferenceIdeal := fun m ρ _ =>
  (θ_run Cert.ReferenceIdeal.defs _ _).mono
    (fun r h => ⟨fun c => (h c).2.2.2.2, sem_eq_zero_of_no_sems (by decide) r.2⟩) (Cert.ReferenceIdeal.Value.run m ρ)

/-- The backward recurrence's call and the derivative of the forward recurrence leave equal arrays. -/
theorem scan : Cert.algebraic_KernelIdeal_ReferenceIdeal := by
  intro m g m' g' _ hagree
  refine ⟨_, _, _, _, Cert.Proof.Scan.run m g, ?_⟩
  refine (θ_run Cert.ReferenceIdeal.defs _ _).mono (fun r h c => ?_) (Cert.ReferenceIdeal.Value.run m' g')
  have e0 : Cert.Proof.Scan.Ref.x0 m' c = Cert.Proof.Scan.y0 m c := (hagree c).1
  have e1 : Cert.Proof.Scan.Ref.x1 m' c = Cert.Proof.Scan.y1 m c := (hagree c).2.1
  have e2 : Cert.Proof.Scan.Ref.x2 m' c = Cert.Proof.Scan.y2 m c := (hagree c).2.2
  obtain ⟨h0, h1, h2, h3, ha⟩ := h c
  have k0 := Cert.Proof.Scan.Ref.res_0 m' c
  have k1 := Cert.Proof.Scan.Ref.res_1 m' c
  have k2 := Cert.Proof.Scan.Ref.res_2 m' c
  have k3 := Cert.Proof.Scan.Ref.res_3 m' c
  rw [e0, e1, e2] at k0 k1 k2 k3
  exact ⟨h0.trans k0, h1.trans k1, h2.trans k2, h3.trans k3, ha⟩

theorem frame_fwdKernelIdeal : Cert.quiescent_FwdKernelIdeal := fun m ρ _ => Cert.Proof.Fwd.frame_any m ρ

theorem frame_fwdReference : Cert.quiescent_FwdReferenceIdeal := fun m ρ _ =>
  (θ_run Cert.FwdReferenceIdeal.defs _ _).mono
    (fun r h => ⟨fun c => (h c).2.2.2.2, sem_eq_zero_of_no_sems (by decide) r.2⟩) (Cert.FwdReferenceIdeal.Value.run m ρ)

/-- The forward recurrence's call and the plain recurrence leave equal arrays. -/
theorem scan_fwd : Cert.algebraic_FwdKernelIdeal_FwdReferenceIdeal := by
  intro m g m' g' _ hagree
  refine ⟨_, _, _, _, Cert.Proof.Fwd.run m g, ?_⟩
  refine (θ_run Cert.FwdReferenceIdeal.defs _ _).mono (fun r h c => ?_) (Cert.FwdReferenceIdeal.Value.run m' g')
  have e0 : Cert.Proof.Fwd.Ref.x0 m' c = Cert.Proof.Fwd.y0 m c := (hagree c).1
  have e1 : Cert.Proof.Fwd.Ref.x1 m' c = Cert.Proof.Fwd.y1 m c := (hagree c).2.1
  have e2 : Cert.Proof.Fwd.Ref.x2 m' c = Cert.Proof.Fwd.y2 m c := (hagree c).2.2
  obtain ⟨h0, h1, h2, h3, ha⟩ := h c
  have k0 := Cert.Proof.Fwd.Ref.res_0 m' c
  have k1 := Cert.Proof.Fwd.Ref.res_1 m' c
  have k2 := Cert.Proof.Fwd.Ref.res_2 m' c
  have k3 := Cert.Proof.Fwd.Ref.res_3 m' c
  rw [e0, e1, e2] at k0 k1 k2 k3
  exact ⟨h0.trans k0, h1.trans k1, h2.trans k2, h3.trans k3, ha⟩

theorem frame_outReference : Cert.quiescent_OutReferenceIdeal := fun m ρ _ =>
  (θ_run Cert.OutReferenceIdeal.defs _ _).mono
    (fun r h => ⟨fun c => (h c).2.2.2.2.2, sem_eq_zero_of_no_sems (by decide) r.2⟩) (Cert.OutReferenceIdeal.Value.run m ρ)

/-- The two constants the gated unit's idealized program names. -/
theorem glu_named : Cert.preserves_GluKernel_GluKernelIdeal := by
  exact ⟨IdealRules.named_const.statement _ _ _ _ _ rfl, IdealRules.named_const.statement _ _ _ _ _ rfl⟩

/-- The constant the merged projection's idealized program names. -/
theorem merge_named : Cert.preserves_MergeKernel_MergeKernelIdeal :=
  IdealRules.named_const.statement _ _ _ _ _ rfl

theorem claim : Cert.Claim := ⟨Cert.Kernel.Gen.facts, Cert.KernelIdeal.Gen.facts, Cert.ReferenceIdeal.Gen.facts,
  Cert.OutKernel.Gen.facts, Cert.OutKernelIdeal.Gen.facts, Cert.OutReferenceIdeal.Gen.facts,
  Cert.InKernel.Gen.facts, Cert.InKernelIdeal.Gen.facts, Cert.InReferenceIdeal.Gen.facts,
  Cert.GluKernel.Gen.facts, Cert.GluKernelIdeal.Gen.facts, Cert.GluReferenceIdeal.Gen.facts,
  Cert.MergeKernel.Gen.facts, Cert.MergeKernelIdeal.Gen.facts, Cert.MergeReferenceIdeal.Gen.facts,
  Cert.CtxKernel.Gen.facts, Cert.CtxKernelIdeal.Gen.facts, Cert.CtxReferenceIdeal.Gen.facts,
  Cert.ModKernel.Gen.facts, Cert.ModKernelIdeal.Gen.facts, Cert.ModReferenceIdeal.Gen.facts,
  Cert.AdamKernel.Gen.facts, Cert.AdamKernelIdeal.Gen.facts, Cert.AdamReferenceIdeal.Gen.facts,
  Cert.ProjKernel.Gen.facts, Cert.ProjKernelIdeal.Gen.facts, Cert.ProjReferenceIdeal.Gen.facts,
  Cert.TableKernel.Gen.facts, Cert.TableKernelIdeal.Gen.facts, Cert.TableReferenceIdeal.Gen.facts,
  Cert.AgluKernel.Gen.facts, Cert.AgluKernelIdeal.Gen.facts, Cert.AgluReferenceIdeal.Gen.facts,
  Cert.AoutKernel.Gen.facts, Cert.AoutKernelIdeal.Gen.facts, Cert.AoutReferenceIdeal.Gen.facts,
  Cert.ApoolKernel.Gen.facts, Cert.ApoolKernelIdeal.Gen.facts, Cert.ApoolReferenceIdeal.Gen.facts,
  Cert.AadaKernel.Gen.facts, Cert.AadaKernelIdeal.Gen.facts, Cert.AadaReferenceIdeal.Gen.facts,
  Cert.AbKernel.Gen.facts, Cert.AbKernelIdeal.Gen.facts, Cert.AbReferenceIdeal.Gen.facts,
  Cert.AcKernel.Gen.facts, Cert.AcKernelIdeal.Gen.facts, Cert.AcReferenceIdeal.Gen.facts,
  Cert.FwdKernel.Gen.facts, Cert.FwdKernelIdeal.Gen.facts, Cert.FwdReferenceIdeal.Gen.facts,
  Cert.Pre_finite.Gen.facts, Cert.Pre_finite_glu.Gen.facts, Cert.Pre_finite_mod.Gen.facts,
  Cert.Proof.Scan.frame_kernel, frame_kernelIdeal, frame_reference,
  fun m ρ _ => Cert.OutKernel.Gen.frame m ρ, fun m ρ _ => Cert.OutKernelIdeal.Gen.frame m ρ,
  fun m ρ _ => Cert.OutKernelIdeal.Gen.frame m ρ, frame_outReference, fun m ρ _ => frame_outReference m ρ trivial,
  fun m ρ _ => Cert.InKernel.Gen.frame m ρ, fun m ρ _ => Cert.InKernelIdeal.Gen.frame m ρ, Cert.Proof.In.frame_reference,
  fun m ρ _ => Cert.GluKernel.Gen.frame m ρ, fun m ρ _ => Cert.GluKernelIdeal.Gen.frame m ρ,
  fun m ρ _ => Cert.GluKernelIdeal.Gen.frame m ρ, Cert.Proof.Glu.frame_reference, fun m ρ _ => Cert.Proof.Glu.frame_reference m ρ trivial,
  fun m ρ _ => Cert.MergeKernel.Gen.frame m ρ, fun m ρ _ => Cert.MergeKernelIdeal.Gen.frame m ρ, Cert.Proof.Merge.frame_reference,
  fun m ρ _ => Cert.CtxKernel.Gen.frame m ρ, fun m ρ _ => Cert.CtxKernelIdeal.Gen.frame m ρ, Cert.Proof.Ctx.frame_reference,
  fun m ρ _ => Cert.ModKernel.Gen.frame m ρ, fun m ρ _ => Cert.ModKernelIdeal.Gen.frame m ρ,
  fun m ρ _ => Cert.ModKernelIdeal.Gen.frame m ρ, Cert.Proof.Mod.frame_reference, fun m ρ _ => Cert.Proof.Mod.frame_reference m ρ trivial,
  fun m ρ _ => Cert.AdamKernel.Gen.frame m ρ, fun m ρ _ => Cert.AdamKernelIdeal.Gen.frame m ρ, Cert.Proof.Adam.frame_reference,
  fun m ρ _ => Cert.ProjKernel.Gen.frame m ρ, fun m ρ _ => Cert.ProjKernelIdeal.Gen.frame m ρ, Cert.Proof.Proj.frame_reference,
  fun m ρ _ => Cert.TableKernel.Gen.frame m ρ, fun m ρ _ => Cert.TableKernelIdeal.Gen.frame m ρ, Cert.Proof.Table.frame_reference,
  fun m ρ _ => Cert.AgluKernel.Gen.frame m ρ, fun m ρ _ => Cert.AgluKernelIdeal.Gen.frame m ρ, Cert.Proof.Aglu.frame_reference,
  fun m ρ _ => Cert.AoutKernel.Gen.frame m ρ, fun m ρ _ => Cert.AoutKernelIdeal.Gen.frame m ρ, Cert.Proof.Aout.frame_reference,
  fun m ρ _ => Cert.ApoolKernel.Gen.frame m ρ, fun m ρ _ => Cert.ApoolKernelIdeal.Gen.frame m ρ, Cert.Proof.Apool.frame_reference,
  fun m ρ _ => Cert.AadaKernel.Gen.frame m ρ, fun m ρ _ => Cert.AadaKernelIdeal.Gen.frame m ρ, Cert.Proof.Adam.frameAada,
  fun m ρ _ => Cert.AbKernel.Gen.frame m ρ, fun m ρ _ => Cert.AbKernelIdeal.Gen.frame m ρ, Cert.Proof.Adam.frameAb,
  fun m ρ _ => Cert.AcKernel.Gen.frame m ρ, fun m ρ _ => Cert.AcKernelIdeal.Gen.frame m ρ, Cert.Proof.Adam.frameAc,
  Cert.Proof.Fwd.frame_kernel, frame_fwdKernelIdeal, frame_fwdReference,
  trivial, scan, trivial, Cert.Proof.Out.algebraic, trivial, Cert.Proof.In.algebraic,
  glu_named, Cert.Proof.Glu.algebraic, merge_named, Cert.Proof.Merge.algebraic,
  trivial, Cert.Proof.Ctx.algebraic, trivial, Cert.Proof.Mod.algebraic, trivial, Cert.Proof.Adam.algebraic,
  trivial, Cert.Proof.Proj.algebraic, trivial, Cert.Proof.Table.algebraic, trivial, Cert.Proof.Aglu.algebraic, trivial, Cert.Proof.Aout.algebraic, trivial, Cert.Proof.Apool.algebraic, trivial, Cert.Proof.Adam.algebraicAada, trivial, Cert.Proof.Adam.algebraicAb, trivial, Cert.Proof.Adam.algebraicAc,
  trivial, scan_fwd⟩

end Cert.Proof

end
